-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnInner (m : (ℓ : Loc Cert.FfnInner.nD Cert.FfnInner.τ Cert.FfnInner.sig) → Buf (Elt Bits) ℓ) : Prop :=
  True

def Pre_FfnInnerIdeal (m : (ℓ : Loc Cert.FfnInnerIdeal.nD Cert.FfnInnerIdeal.τ Cert.FfnInnerIdeal.sig) → Buf (Elt Ideal) ℓ) : Prop :=
  True

def Pre_FfnInnerRefIdeal (m : (ℓ : Loc Cert.FfnInnerRefIdeal.nD Cert.FfnInnerRefIdeal.τ Cert.FfnInnerRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjSample (m : (ℓ : Loc Cert.ProjSample.nD Cert.ProjSample.τ Cert.ProjSample.sig) → Buf (Elt Bits) ℓ) : Prop :=
  True

def Pre_ProjSampleIdeal (m : (ℓ : Loc Cert.ProjSampleIdeal.nD Cert.ProjSampleIdeal.τ Cert.ProjSampleIdeal.sig) → Buf (Elt Ideal) ℓ) : Prop :=
  True

def Pre_ProjSampleRefIdeal (m : (ℓ : Loc Cert.ProjSampleRefIdeal.nD Cert.ProjSampleRefIdeal.τ Cert.ProjSampleRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_pooled_finite [hPre_pooled_finite : Cert.Pre_pooled_finite.Facts] (m : (ℓ : Loc Cert.MergeIdeal.nD Cert.MergeIdeal.τ Cert.MergeIdeal.sig) → Buf (Elt Ideal) ℓ) : Prop :=
  ∀ c : Dev Cert.MergeIdeal.nD,
    (Cert.Pre_pooled_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_pooled_finite [hPre_pooled_finite : Cert.Pre_pooled_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_pooled_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))) = (fun _ => 1#1)

def Pre_MergeSample (m : (ℓ : Loc Cert.MergeSample.nD Cert.MergeSample.τ Cert.MergeSample.sig) → Buf (Elt Bits) ℓ) : Prop :=
  True

def Pre_MergeSampleIdeal (m : (ℓ : Loc Cert.MergeSampleIdeal.nD Cert.MergeSampleIdeal.τ Cert.MergeSampleIdeal.sig) → Buf (Elt Ideal) ℓ) : Prop :=
  True

def Pre_MergeSampleIdeal_pooled_finite_sample [hPre_pooled_finite_sample : Cert.Pre_pooled_finite_sample.Facts] (m : (ℓ : Loc Cert.MergeSampleIdeal.nD Cert.MergeSampleIdeal.τ Cert.MergeSampleIdeal.sig) → Buf (Elt Ideal) ℓ) : Prop :=
  ∀ c : Dev Cert.MergeSampleIdeal.nD,
    (Cert.Pre_pooled_finite_sample.fn (F := Ideal) (m ((c.tc : Thread Cert.MergeSampleIdeal.nD Cert.MergeSampleIdeal.τ).loc Cert.MergeSampleIdeal.main_arg0)) (m ((c.tc : Thread Cert.MergeSampleIdeal.nD Cert.MergeSampleIdeal.τ).loc Cert.MergeSampleIdeal.main_arg1)) (m ((c.tc : Thread Cert.MergeSampleIdeal.nD Cert.MergeSampleIdeal.τ).loc Cert.MergeSampleIdeal.main_arg2)) (m ((c.tc : Thread Cert.MergeSampleIdeal.nD Cert.MergeSampleIdeal.τ).loc Cert.MergeSampleIdeal.main_arg3)) (m ((c.tc : Thread Cert.MergeSampleIdeal.nD Cert.MergeSampleIdeal.τ).loc Cert.MergeSampleIdeal.main_arg4)) (m ((c.tc : Thread Cert.MergeSampleIdeal.nD Cert.MergeSampleIdeal.τ).loc Cert.MergeSampleIdeal.main_arg5)) (m ((c.tc : Thread Cert.MergeSampleIdeal.nD Cert.MergeSampleIdeal.τ).loc Cert.MergeSampleIdeal.main_arg6)) (m ((c.tc : Thread Cert.MergeSampleIdeal.nD Cert.MergeSampleIdeal.τ).loc Cert.MergeSampleIdeal.main_arg7)) (m ((c.tc : Thread Cert.MergeSampleIdeal.nD Cert.MergeSampleIdeal.τ).loc Cert.MergeSampleIdeal.main_arg8)) (m ((c.tc : Thread Cert.MergeSampleIdeal.nD Cert.MergeSampleIdeal.τ).loc Cert.MergeSampleIdeal.main_arg9)) (m ((c.tc : Thread Cert.MergeSampleIdeal.nD Cert.MergeSampleIdeal.τ).loc Cert.MergeSampleIdeal.main_arg10))) = (fun _ => 1#1)

def Pre_MergeSampleRefIdeal (m : (ℓ : Loc Cert.MergeSampleRefIdeal.nD Cert.MergeSampleRefIdeal.τ Cert.MergeSampleRefIdeal.sig) → Buf (Elt Ideal) ℓ) : Prop :=
  True

def Pre_MergeSampleRefIdeal_pooled_finite_sample [hPre_pooled_finite_sample : Cert.Pre_pooled_finite_sample.Facts] (m : (ℓ : Loc Cert.MergeSampleRefIdeal.nD Cert.MergeSampleRefIdeal.τ Cert.MergeSampleRefIdeal.sig) → Buf (Elt Ideal) ℓ) : Prop :=
  ∀ c : Dev Cert.MergeSampleRefIdeal.nD,
    (Cert.Pre_pooled_finite_sample.fn (F := Ideal) (m ((c.tc : Thread Cert.MergeSampleRefIdeal.nD Cert.MergeSampleRefIdeal.τ).loc Cert.MergeSampleRefIdeal.main_arg0)) (m ((c.tc : Thread Cert.MergeSampleRefIdeal.nD Cert.MergeSampleRefIdeal.τ).loc Cert.MergeSampleRefIdeal.main_arg1)) (m ((c.tc : Thread Cert.MergeSampleRefIdeal.nD Cert.MergeSampleRefIdeal.τ).loc Cert.MergeSampleRefIdeal.main_arg2)) (m ((c.tc : Thread Cert.MergeSampleRefIdeal.nD Cert.MergeSampleRefIdeal.τ).loc Cert.MergeSampleRefIdeal.main_arg3)) (m ((c.tc : Thread Cert.MergeSampleRefIdeal.nD Cert.MergeSampleRefIdeal.τ).loc Cert.MergeSampleRefIdeal.main_arg4)) (m ((c.tc : Thread Cert.MergeSampleRefIdeal.nD Cert.MergeSampleRefIdeal.τ).loc Cert.MergeSampleRefIdeal.main_arg5)) (m ((c.tc : Thread Cert.MergeSampleRefIdeal.nD Cert.MergeSampleRefIdeal.τ).loc Cert.MergeSampleRefIdeal.main_arg6)) (m ((c.tc : Thread Cert.MergeSampleRefIdeal.nD Cert.MergeSampleRefIdeal.τ).loc Cert.MergeSampleRefIdeal.main_arg7)) (m ((c.tc : Thread Cert.MergeSampleRefIdeal.nD Cert.MergeSampleRefIdeal.τ).loc Cert.MergeSampleRefIdeal.main_arg8)) (m ((c.tc : Thread Cert.MergeSampleRefIdeal.nD Cert.MergeSampleRefIdeal.τ).loc Cert.MergeSampleRefIdeal.main_arg9)) (m ((c.tc : Thread Cert.MergeSampleRefIdeal.nD Cert.MergeSampleRefIdeal.τ).loc Cert.MergeSampleRefIdeal.main_arg10))) = (fun _ => 1#1)

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def Pre_FfnInnerSample (m : (ℓ : Loc Cert.FfnInnerSample.nD Cert.FfnInnerSample.τ Cert.FfnInnerSample.sig) → Buf (Elt Bits) ℓ) : Prop :=
  True

def Pre_FfnInnerSampleIdeal (m : (ℓ : Loc Cert.FfnInnerSampleIdeal.nD Cert.FfnInnerSampleIdeal.τ Cert.FfnInnerSampleIdeal.sig) → Buf (Elt Ideal) ℓ) : Prop :=
  True

def Pre_FfnInnerSampleRefIdeal (m : (ℓ : Loc Cert.FfnInnerSampleRefIdeal.nD Cert.FfnInnerSampleRefIdeal.τ Cert.FfnInnerSampleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnInner [hFfnInner : Cert.FfnInner.Facts] : Prop :=
  ∀ (m : (ℓ : Loc Cert.FfnInner.nD Cert.FfnInner.τ Cert.FfnInner.sig) → Buf (Elt Bits) ℓ) (g : Dev Cert.FfnInner.nD → PrngReg), Pre_FfnInner m →
    θ_run (Cert.FfnInner.defs (F := Bits)) (onTc (τ := Cert.FfnInner.τ) (Cert.FfnInner.main (F := Bits))) ⟨m, fun _ => 0, g⟩ (fun r => (∀ c : Dev Cert.FfnInner.nD,
      r.2.mem ((c.tc : Thread Cert.FfnInner.nD Cert.FfnInner.τ).loc Cert.FfnInner.main_arg0) = m ((c.tc : Thread Cert.FfnInner.nD Cert.FfnInner.τ).loc Cert.FfnInner.main_arg0)
      ∧ r.2.mem ((c.tc : Thread Cert.FfnInner.nD Cert.FfnInner.τ).loc Cert.FfnInner.main_arg1) = m ((c.tc : Thread Cert.FfnInner.nD Cert.FfnInner.τ).loc Cert.FfnInner.main_arg1)
      ∧ r.2.mem ((c.tc : Thread Cert.FfnInner.nD Cert.FfnInner.τ).loc Cert.FfnInner.main_arg2) = m ((c.tc : Thread Cert.FfnInner.nD Cert.FfnInner.τ).loc Cert.FfnInner.main_arg2)
      ∧ r.2.mem ((c.tc : Thread Cert.FfnInner.nD Cert.FfnInner.τ).loc Cert.FfnInner.main_arg3) = m ((c.tc : Thread Cert.FfnInner.nD Cert.FfnInner.τ).loc Cert.FfnInner.main_arg3)
      ∧ r.2.mem ((c.tc : Thread Cert.FfnInner.nD Cert.FfnInner.τ).loc Cert.FfnInner.main_arg4) = m ((c.tc : Thread Cert.FfnInner.nD Cert.FfnInner.τ).loc Cert.FfnInner.main_arg4))
      ∧ r.2.sem = fun _ => 0)

def quiescent_FfnInnerIdeal [hFfnInnerIdeal : Cert.FfnInnerIdeal.Facts] : Prop :=
  ∀ (m : (ℓ : Loc Cert.FfnInnerIdeal.nD Cert.FfnInnerIdeal.τ Cert.FfnInnerIdeal.sig) → Buf (Elt Ideal) ℓ) (g : Dev Cert.FfnInnerIdeal.nD → PrngReg), Pre_FfnInnerIdeal m →
    θ_run (Cert.FfnInnerIdeal.defs (F := Ideal)) (onTc (τ := Cert.FfnInnerIdeal.τ) (Cert.FfnInnerIdeal.main (F := Ideal))) ⟨m, fun _ => 0, g⟩ (fun r => (∀ c : Dev Cert.FfnInnerIdeal.nD,
      r.2.mem ((c.tc : Thread Cert.FfnInnerIdeal.nD Cert.FfnInnerIdeal.τ).loc Cert.FfnInnerIdeal.main_arg0) = m ((c.tc : Thread Cert.FfnInnerIdeal.nD Cert.FfnInnerIdeal.τ).loc Cert.FfnInnerIdeal.main_arg0)
      ∧ r.2.mem ((c.tc : Thread Cert.FfnInnerIdeal.nD Cert.FfnInnerIdeal.τ).loc Cert.FfnInnerIdeal.main_arg1) = m ((c.tc : Thread Cert.FfnInnerIdeal.nD Cert.FfnInnerIdeal.τ).loc Cert.FfnInnerIdeal.main_arg1)
      ∧ r.2.mem ((c.tc : Thread Cert.FfnInnerIdeal.nD Cert.FfnInnerIdeal.τ).loc Cert.FfnInnerIdeal.main_arg2) = m ((c.tc : Thread Cert.FfnInnerIdeal.nD Cert.FfnInnerIdeal.τ).loc Cert.FfnInnerIdeal.main_arg2)
      ∧ r.2.mem ((c.tc : Thread Cert.FfnInnerIdeal.nD Cert.FfnInnerIdeal.τ).loc Cert.FfnInnerIdeal.main_arg3) = m ((c.tc : Thread Cert.FfnInnerIdeal.nD Cert.FfnInnerIdeal.τ).loc Cert.FfnInnerIdeal.main_arg3)
      ∧ r.2.mem ((c.tc : Thread Cert.FfnInnerIdeal.nD Cert.FfnInnerIdeal.τ).loc Cert.FfnInnerIdeal.main_arg4) = m ((c.tc : Thread Cert.FfnInnerIdeal.nD Cert.FfnInnerIdeal.τ).loc Cert.FfnInnerIdeal.main_arg4))
      ∧ r.2.sem = fun _ => 0)

def quiescent_FfnInnerRefIdeal [hFfnInnerRefIdeal : Cert.FfnInnerRefIdeal.Facts] : Prop :=
  ∀ (m : (ℓ : Loc Cert.FfnInnerRefIdeal.nD Cert.FfnInnerRefIdeal.τ Cert.FfnInnerRefIdeal.sig) → Buf (Elt Ideal) ℓ) (g : Dev Cert.FfnInnerRefIdeal.nD → PrngReg), Pre_FfnInnerRefIdeal m →
    θ_run (Cert.FfnInnerRefIdeal.defs (F := Ideal)) (onTc (τ := Cert.FfnInnerRefIdeal.τ) (Cert.FfnInnerRefIdeal.main (F := Ideal))) ⟨m, fun _ => 0, g⟩ (fun r => (∀ c : Dev Cert.FfnInnerRefIdeal.nD,
      r.2.mem ((c.tc : Thread Cert.FfnInnerRefIdeal.nD Cert.FfnInnerRefIdeal.τ).loc Cert.FfnInnerRefIdeal.main_arg0) = m ((c.tc : Thread Cert.FfnInnerRefIdeal.nD Cert.FfnInnerRefIdeal.τ).loc Cert.FfnInnerRefIdeal.main_arg0)
      ∧ r.2.mem ((c.tc : Thread Cert.FfnInnerRefIdeal.nD Cert.FfnInnerRefIdeal.τ).loc Cert.FfnInnerRefIdeal.main_arg1) = m ((c.tc : Thread Cert.FfnInnerRefIdeal.nD Cert.FfnInnerRefIdeal.τ).loc Cert.FfnInnerRefIdeal.main_arg1)
      ∧ r.2.mem ((c.tc : Thread Cert.FfnInnerRefIdeal.nD Cert.FfnInnerRefIdeal.τ).loc Cert.FfnInnerRefIdeal.main_arg2) = m ((c.tc : Thread Cert.FfnInnerRefIdeal.nD Cert.FfnInnerRefIdeal.τ).loc Cert.FfnInnerRefIdeal.main_arg2)
      ∧ r.2.mem ((c.tc : Thread Cert.FfnInnerRefIdeal.nD Cert.FfnInnerRefIdeal.τ).loc Cert.FfnInnerRefIdeal.main_arg3) = m ((c.tc : Thread Cert.FfnInnerRefIdeal.nD Cert.FfnInnerRefIdeal.τ).loc Cert.FfnInnerRefIdeal.main_arg3)
      ∧ r.2.mem ((c.tc : Thread Cert.FfnInnerRefIdeal.nD Cert.FfnInnerRefIdeal.τ).loc Cert.FfnInnerRefIdeal.main_arg4) = m ((c.tc : Thread Cert.FfnInnerRefIdeal.nD Cert.FfnInnerRefIdeal.τ).loc Cert.FfnInnerRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_ProjSample [hProjSample : Cert.ProjSample.Facts] : Prop :=
  ∀ (m : (ℓ : Loc Cert.ProjSample.nD Cert.ProjSample.τ Cert.ProjSample.sig) → Buf (Elt Bits) ℓ) (g : Dev Cert.ProjSample.nD → PrngReg), Pre_ProjSample m →
    θ_run (Cert.ProjSample.defs (F := Bits)) (onTc (τ := Cert.ProjSample.τ) (Cert.ProjSample.main (F := Bits))) ⟨m, fun _ => 0, g⟩ (fun r => (∀ c : Dev Cert.ProjSample.nD,
      r.2.mem ((c.tc : Thread Cert.ProjSample.nD Cert.ProjSample.τ).loc Cert.ProjSample.main_arg0) = m ((c.tc : Thread Cert.ProjSample.nD Cert.ProjSample.τ).loc Cert.ProjSample.main_arg0)
      ∧ r.2.mem ((c.tc : Thread Cert.ProjSample.nD Cert.ProjSample.τ).loc Cert.ProjSample.main_arg1) = m ((c.tc : Thread Cert.ProjSample.nD Cert.ProjSample.τ).loc Cert.ProjSample.main_arg1)
      ∧ r.2.mem ((c.tc : Thread Cert.ProjSample.nD Cert.ProjSample.τ).loc Cert.ProjSample.main_arg2) = m ((c.tc : Thread Cert.ProjSample.nD Cert.ProjSample.τ).loc Cert.ProjSample.main_arg2))
      ∧ r.2.sem = fun _ => 0)

def quiescent_ProjSampleIdeal [hProjSampleIdeal : Cert.ProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
      ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2))
      ∧ r.2.sem = fun _ => 0)

def quiescent_ProjSampleRefIdeal [hProjSampleRefIdeal : Cert.ProjSampleRefIdeal.Facts] : Prop :=
  ∀ (m : (ℓ : Loc Cert.ProjSampleRefIdeal.nD Cert.ProjSampleRefIdeal.τ Cert.ProjSampleRefIdeal.sig) → Buf (Elt Ideal) ℓ) (g : Dev Cert.ProjSampleRefIdeal.nD → PrngReg), Pre_ProjSampleRefIdeal m →
    θ_run (Cert.ProjSampleRefIdeal.defs (F := Ideal)) (onTc (τ := Cert.ProjSampleRefIdeal.τ) (Cert.ProjSampleRefIdeal.main (F := Ideal))) ⟨m, fun _ => 0, g⟩ (fun r => (∀ c : Dev Cert.ProjSampleRefIdeal.nD,
      r.2.mem ((c.tc : Thread Cert.ProjSampleRefIdeal.nD Cert.ProjSampleRefIdeal.τ).loc Cert.ProjSampleRefIdeal.main_arg0) = m ((c.tc : Thread Cert.ProjSampleRefIdeal.nD Cert.ProjSampleRefIdeal.τ).loc Cert.ProjSampleRefIdeal.main_arg0)
      ∧ r.2.mem ((c.tc : Thread Cert.ProjSampleRefIdeal.nD Cert.ProjSampleRefIdeal.τ).loc Cert.ProjSampleRefIdeal.main_arg1) = m ((c.tc : Thread Cert.ProjSampleRefIdeal.nD Cert.ProjSampleRefIdeal.τ).loc Cert.ProjSampleRefIdeal.main_arg1)
      ∧ r.2.mem ((c.tc : Thread Cert.ProjSampleRefIdeal.nD Cert.ProjSampleRefIdeal.τ).loc Cert.ProjSampleRefIdeal.main_arg2) = m ((c.tc : Thread Cert.ProjSampleRefIdeal.nD Cert.ProjSampleRefIdeal.τ).loc Cert.ProjSampleRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeIdeal_pre_pooled_finite [hMergeIdeal : Cert.MergeIdeal.Facts] [hPre_pooled_finite : Cert.Pre_pooled_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_pooled_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_MergeRefIdeal_pre_pooled_finite [hMergeRefIdeal : Cert.MergeRefIdeal.Facts] [hPre_pooled_finite : Cert.Pre_pooled_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_pooled_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_MergeSample [hMergeSample : Cert.MergeSample.Facts] : Prop :=
  ∀ (m : (ℓ : Loc Cert.MergeSample.nD Cert.MergeSample.τ Cert.MergeSample.sig) → Buf (Elt Bits) ℓ) (g : Dev Cert.MergeSample.nD → PrngReg), Pre_MergeSample m →
    θ_run (Cert.MergeSample.defs (F := Bits)) (onTc (τ := Cert.MergeSample.τ) (Cert.MergeSample.main (F := Bits))) ⟨m, fun _ => 0, g⟩ (fun r => (∀ c : Dev Cert.MergeSample.nD,
      r.2.mem ((c.tc : Thread Cert.MergeSample.nD Cert.MergeSample.τ).loc Cert.MergeSample.main_arg0) = m ((c.tc : Thread Cert.MergeSample.nD Cert.MergeSample.τ).loc Cert.MergeSample.main_arg0)
      ∧ r.2.mem ((c.tc : Thread Cert.MergeSample.nD Cert.MergeSample.τ).loc Cert.MergeSample.main_arg1) = m ((c.tc : Thread Cert.MergeSample.nD Cert.MergeSample.τ).loc Cert.MergeSample.main_arg1)
      ∧ r.2.mem ((c.tc : Thread Cert.MergeSample.nD Cert.MergeSample.τ).loc Cert.MergeSample.main_arg2) = m ((c.tc : Thread Cert.MergeSample.nD Cert.MergeSample.τ).loc Cert.MergeSample.main_arg2)
      ∧ r.2.mem ((c.tc : Thread Cert.MergeSample.nD Cert.MergeSample.τ).loc Cert.MergeSample.main_arg3) = m ((c.tc : Thread Cert.MergeSample.nD Cert.MergeSample.τ).loc Cert.MergeSample.main_arg3)
      ∧ r.2.mem ((c.tc : Thread Cert.MergeSample.nD Cert.MergeSample.τ).loc Cert.MergeSample.main_arg4) = m ((c.tc : Thread Cert.MergeSample.nD Cert.MergeSample.τ).loc Cert.MergeSample.main_arg4)
      ∧ r.2.mem ((c.tc : Thread Cert.MergeSample.nD Cert.MergeSample.τ).loc Cert.MergeSample.main_arg5) = m ((c.tc : Thread Cert.MergeSample.nD Cert.MergeSample.τ).loc Cert.MergeSample.main_arg5)
      ∧ r.2.mem ((c.tc : Thread Cert.MergeSample.nD Cert.MergeSample.τ).loc Cert.MergeSample.main_arg6) = m ((c.tc : Thread Cert.MergeSample.nD Cert.MergeSample.τ).loc Cert.MergeSample.main_arg6)
      ∧ r.2.mem ((c.tc : Thread Cert.MergeSample.nD Cert.MergeSample.τ).loc Cert.MergeSample.main_arg7) = m ((c.tc : Thread Cert.MergeSample.nD Cert.MergeSample.τ).loc Cert.MergeSample.main_arg7)
      ∧ r.2.mem ((c.tc : Thread Cert.MergeSample.nD Cert.MergeSample.τ).loc Cert.MergeSample.main_arg8) = m ((c.tc : Thread Cert.MergeSample.nD Cert.MergeSample.τ).loc Cert.MergeSample.main_arg8)
      ∧ r.2.mem ((c.tc : Thread Cert.MergeSample.nD Cert.MergeSample.τ).loc Cert.MergeSample.main_arg9) = m ((c.tc : Thread Cert.MergeSample.nD Cert.MergeSample.τ).loc Cert.MergeSample.main_arg9)
      ∧ r.2.mem ((c.tc : Thread Cert.MergeSample.nD Cert.MergeSample.τ).loc Cert.MergeSample.main_arg10) = m ((c.tc : Thread Cert.MergeSample.nD Cert.MergeSample.τ).loc Cert.MergeSample.main_arg10))
      ∧ r.2.sem = fun _ => 0)

def quiescent_MergeSampleIdeal [hMergeSampleIdeal : Cert.MergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
      ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
      ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
      ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8)
      ∧ r.2.mem ((c.tc : Thread Cert.MergeSampleIdeal.nD Cert.MergeSampleIdeal.τ).loc Cert.MergeSampleIdeal.main_arg9) = m ((c.tc : Thread Cert.MergeSampleIdeal.nD Cert.MergeSampleIdeal.τ).loc Cert.MergeSampleIdeal.main_arg9)
      ∧ r.2.mem ((c.tc : Thread Cert.MergeSampleIdeal.nD Cert.MergeSampleIdeal.τ).loc Cert.MergeSampleIdeal.main_arg10) = m ((c.tc : Thread Cert.MergeSampleIdeal.nD Cert.MergeSampleIdeal.τ).loc Cert.MergeSampleIdeal.main_arg10))
      ∧ r.2.sem = fun _ => 0)

def quiescent_MergeSampleIdeal_pre_pooled_finite_sample [hMergeSampleIdeal : Cert.MergeSampleIdeal.Facts] [hPre_pooled_finite_sample : Cert.Pre_pooled_finite_sample.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal_pooled_finite_sample m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
      ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
      ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
      ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8)
      ∧ r.2.mem ((c.tc : Thread Cert.MergeSampleIdeal.nD Cert.MergeSampleIdeal.τ).loc Cert.MergeSampleIdeal.main_arg9) = m ((c.tc : Thread Cert.MergeSampleIdeal.nD Cert.MergeSampleIdeal.τ).loc Cert.MergeSampleIdeal.main_arg9)
      ∧ r.2.mem ((c.tc : Thread Cert.MergeSampleIdeal.nD Cert.MergeSampleIdeal.τ).loc Cert.MergeSampleIdeal.main_arg10) = m ((c.tc : Thread Cert.MergeSampleIdeal.nD Cert.MergeSampleIdeal.τ).loc Cert.MergeSampleIdeal.main_arg10))
      ∧ r.2.sem = fun _ => 0)

def quiescent_MergeSampleRefIdeal [hMergeSampleRefIdeal : Cert.MergeSampleRefIdeal.Facts] : Prop :=
  ∀ (m : (ℓ : Loc Cert.MergeSampleRefIdeal.nD Cert.MergeSampleRefIdeal.τ Cert.MergeSampleRefIdeal.sig) → Buf (Elt Ideal) ℓ) (g : Dev Cert.MergeSampleRefIdeal.nD → PrngReg), Pre_MergeSampleRefIdeal m →
    θ_run (Cert.MergeSampleRefIdeal.defs (F := Ideal)) (onTc (τ := Cert.MergeSampleRefIdeal.τ) (Cert.MergeSampleRefIdeal.main (F := Ideal))) ⟨m, fun _ => 0, g⟩ (fun r => (∀ c : Dev Cert.MergeSampleRefIdeal.nD,
      r.2.mem ((c.tc : Thread Cert.MergeSampleRefIdeal.nD Cert.MergeSampleRefIdeal.τ).loc Cert.MergeSampleRefIdeal.main_arg0) = m ((c.tc : Thread Cert.MergeSampleRefIdeal.nD Cert.MergeSampleRefIdeal.τ).loc Cert.MergeSampleRefIdeal.main_arg0)
      ∧ r.2.mem ((c.tc : Thread Cert.MergeSampleRefIdeal.nD Cert.MergeSampleRefIdeal.τ).loc Cert.MergeSampleRefIdeal.main_arg1) = m ((c.tc : Thread Cert.MergeSampleRefIdeal.nD Cert.MergeSampleRefIdeal.τ).loc Cert.MergeSampleRefIdeal.main_arg1)
      ∧ r.2.mem ((c.tc : Thread Cert.MergeSampleRefIdeal.nD Cert.MergeSampleRefIdeal.τ).loc Cert.MergeSampleRefIdeal.main_arg2) = m ((c.tc : Thread Cert.MergeSampleRefIdeal.nD Cert.MergeSampleRefIdeal.τ).loc Cert.MergeSampleRefIdeal.main_arg2)
      ∧ r.2.mem ((c.tc : Thread Cert.MergeSampleRefIdeal.nD Cert.MergeSampleRefIdeal.τ).loc Cert.MergeSampleRefIdeal.main_arg3) = m ((c.tc : Thread Cert.MergeSampleRefIdeal.nD Cert.MergeSampleRefIdeal.τ).loc Cert.MergeSampleRefIdeal.main_arg3)
      ∧ r.2.mem ((c.tc : Thread Cert.MergeSampleRefIdeal.nD Cert.MergeSampleRefIdeal.τ).loc Cert.MergeSampleRefIdeal.main_arg4) = m ((c.tc : Thread Cert.MergeSampleRefIdeal.nD Cert.MergeSampleRefIdeal.τ).loc Cert.MergeSampleRefIdeal.main_arg4)
      ∧ r.2.mem ((c.tc : Thread Cert.MergeSampleRefIdeal.nD Cert.MergeSampleRefIdeal.τ).loc Cert.MergeSampleRefIdeal.main_arg5) = m ((c.tc : Thread Cert.MergeSampleRefIdeal.nD Cert.MergeSampleRefIdeal.τ).loc Cert.MergeSampleRefIdeal.main_arg5)
      ∧ r.2.mem ((c.tc : Thread Cert.MergeSampleRefIdeal.nD Cert.MergeSampleRefIdeal.τ).loc Cert.MergeSampleRefIdeal.main_arg6) = m ((c.tc : Thread Cert.MergeSampleRefIdeal.nD Cert.MergeSampleRefIdeal.τ).loc Cert.MergeSampleRefIdeal.main_arg6)
      ∧ r.2.mem ((c.tc : Thread Cert.MergeSampleRefIdeal.nD Cert.MergeSampleRefIdeal.τ).loc Cert.MergeSampleRefIdeal.main_arg7) = m ((c.tc : Thread Cert.MergeSampleRefIdeal.nD Cert.MergeSampleRefIdeal.τ).loc Cert.MergeSampleRefIdeal.main_arg7)
      ∧ r.2.mem ((c.tc : Thread Cert.MergeSampleRefIdeal.nD Cert.MergeSampleRefIdeal.τ).loc Cert.MergeSampleRefIdeal.main_arg8) = m ((c.tc : Thread Cert.MergeSampleRefIdeal.nD Cert.MergeSampleRefIdeal.τ).loc Cert.MergeSampleRefIdeal.main_arg8)
      ∧ r.2.mem ((c.tc : Thread Cert.MergeSampleRefIdeal.nD Cert.MergeSampleRefIdeal.τ).loc Cert.MergeSampleRefIdeal.main_arg9) = m ((c.tc : Thread Cert.MergeSampleRefIdeal.nD Cert.MergeSampleRefIdeal.τ).loc Cert.MergeSampleRefIdeal.main_arg9)
      ∧ r.2.mem ((c.tc : Thread Cert.MergeSampleRefIdeal.nD Cert.MergeSampleRefIdeal.τ).loc Cert.MergeSampleRefIdeal.main_arg10) = m ((c.tc : Thread Cert.MergeSampleRefIdeal.nD Cert.MergeSampleRefIdeal.τ).loc Cert.MergeSampleRefIdeal.main_arg10))
      ∧ r.2.sem = fun _ => 0)

def quiescent_MergeSampleRefIdeal_pre_pooled_finite_sample [hMergeSampleRefIdeal : Cert.MergeSampleRefIdeal.Facts] [hPre_pooled_finite_sample : Cert.Pre_pooled_finite_sample.Facts] : Prop :=
  ∀ (m : (ℓ : Loc Cert.MergeSampleRefIdeal.nD Cert.MergeSampleRefIdeal.τ Cert.MergeSampleRefIdeal.sig) → Buf (Elt Ideal) ℓ) (g : Dev Cert.MergeSampleRefIdeal.nD → PrngReg), Pre_MergeSampleRefIdeal_pooled_finite_sample m →
    θ_run (Cert.MergeSampleRefIdeal.defs (F := Ideal)) (onTc (τ := Cert.MergeSampleRefIdeal.τ) (Cert.MergeSampleRefIdeal.main (F := Ideal))) ⟨m, fun _ => 0, g⟩ (fun r => (∀ c : Dev Cert.MergeSampleRefIdeal.nD,
      r.2.mem ((c.tc : Thread Cert.MergeSampleRefIdeal.nD Cert.MergeSampleRefIdeal.τ).loc Cert.MergeSampleRefIdeal.main_arg0) = m ((c.tc : Thread Cert.MergeSampleRefIdeal.nD Cert.MergeSampleRefIdeal.τ).loc Cert.MergeSampleRefIdeal.main_arg0)
      ∧ r.2.mem ((c.tc : Thread Cert.MergeSampleRefIdeal.nD Cert.MergeSampleRefIdeal.τ).loc Cert.MergeSampleRefIdeal.main_arg1) = m ((c.tc : Thread Cert.MergeSampleRefIdeal.nD Cert.MergeSampleRefIdeal.τ).loc Cert.MergeSampleRefIdeal.main_arg1)
      ∧ r.2.mem ((c.tc : Thread Cert.MergeSampleRefIdeal.nD Cert.MergeSampleRefIdeal.τ).loc Cert.MergeSampleRefIdeal.main_arg2) = m ((c.tc : Thread Cert.MergeSampleRefIdeal.nD Cert.MergeSampleRefIdeal.τ).loc Cert.MergeSampleRefIdeal.main_arg2)
      ∧ r.2.mem ((c.tc : Thread Cert.MergeSampleRefIdeal.nD Cert.MergeSampleRefIdeal.τ).loc Cert.MergeSampleRefIdeal.main_arg3) = m ((c.tc : Thread Cert.MergeSampleRefIdeal.nD Cert.MergeSampleRefIdeal.τ).loc Cert.MergeSampleRefIdeal.main_arg3)
      ∧ r.2.mem ((c.tc : Thread Cert.MergeSampleRefIdeal.nD Cert.MergeSampleRefIdeal.τ).loc Cert.MergeSampleRefIdeal.main_arg4) = m ((c.tc : Thread Cert.MergeSampleRefIdeal.nD Cert.MergeSampleRefIdeal.τ).loc Cert.MergeSampleRefIdeal.main_arg4)
      ∧ r.2.mem ((c.tc : Thread Cert.MergeSampleRefIdeal.nD Cert.MergeSampleRefIdeal.τ).loc Cert.MergeSampleRefIdeal.main_arg5) = m ((c.tc : Thread Cert.MergeSampleRefIdeal.nD Cert.MergeSampleRefIdeal.τ).loc Cert.MergeSampleRefIdeal.main_arg5)
      ∧ r.2.mem ((c.tc : Thread Cert.MergeSampleRefIdeal.nD Cert.MergeSampleRefIdeal.τ).loc Cert.MergeSampleRefIdeal.main_arg6) = m ((c.tc : Thread Cert.MergeSampleRefIdeal.nD Cert.MergeSampleRefIdeal.τ).loc Cert.MergeSampleRefIdeal.main_arg6)
      ∧ r.2.mem ((c.tc : Thread Cert.MergeSampleRefIdeal.nD Cert.MergeSampleRefIdeal.τ).loc Cert.MergeSampleRefIdeal.main_arg7) = m ((c.tc : Thread Cert.MergeSampleRefIdeal.nD Cert.MergeSampleRefIdeal.τ).loc Cert.MergeSampleRefIdeal.main_arg7)
      ∧ r.2.mem ((c.tc : Thread Cert.MergeSampleRefIdeal.nD Cert.MergeSampleRefIdeal.τ).loc Cert.MergeSampleRefIdeal.main_arg8) = m ((c.tc : Thread Cert.MergeSampleRefIdeal.nD Cert.MergeSampleRefIdeal.τ).loc Cert.MergeSampleRefIdeal.main_arg8)
      ∧ r.2.mem ((c.tc : Thread Cert.MergeSampleRefIdeal.nD Cert.MergeSampleRefIdeal.τ).loc Cert.MergeSampleRefIdeal.main_arg9) = m ((c.tc : Thread Cert.MergeSampleRefIdeal.nD Cert.MergeSampleRefIdeal.τ).loc Cert.MergeSampleRefIdeal.main_arg9)
      ∧ r.2.mem ((c.tc : Thread Cert.MergeSampleRefIdeal.nD Cert.MergeSampleRefIdeal.τ).loc Cert.MergeSampleRefIdeal.main_arg10) = m ((c.tc : Thread Cert.MergeSampleRefIdeal.nD Cert.MergeSampleRefIdeal.τ).loc Cert.MergeSampleRefIdeal.main_arg10))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4)
      ∧ r.2.mem ((c.tc : Thread Cert.FfnSampleRefIdeal.nD Cert.FfnSampleRefIdeal.τ).loc Cert.FfnSampleRefIdeal.main_arg5) = m ((c.tc : Thread Cert.FfnSampleRefIdeal.nD Cert.FfnSampleRefIdeal.τ).loc Cert.FfnSampleRefIdeal.main_arg5))
      ∧ r.2.sem = fun _ => 0)

def quiescent_FfnInnerSample [hFfnInnerSample : Cert.FfnInnerSample.Facts] : Prop :=
  ∀ (m : (ℓ : Loc Cert.FfnInnerSample.nD Cert.FfnInnerSample.τ Cert.FfnInnerSample.sig) → Buf (Elt Bits) ℓ) (g : Dev Cert.FfnInnerSample.nD → PrngReg), Pre_FfnInnerSample m →
    θ_run (Cert.FfnInnerSample.defs (F := Bits)) (onTc (τ := Cert.FfnInnerSample.τ) (Cert.FfnInnerSample.main (F := Bits))) ⟨m, fun _ => 0, g⟩ (fun r => (∀ c : Dev Cert.FfnInnerSample.nD,
      r.2.mem ((c.tc : Thread Cert.FfnInnerSample.nD Cert.FfnInnerSample.τ).loc Cert.FfnInnerSample.main_arg0) = m ((c.tc : Thread Cert.FfnInnerSample.nD Cert.FfnInnerSample.τ).loc Cert.FfnInnerSample.main_arg0)
      ∧ r.2.mem ((c.tc : Thread Cert.FfnInnerSample.nD Cert.FfnInnerSample.τ).loc Cert.FfnInnerSample.main_arg1) = m ((c.tc : Thread Cert.FfnInnerSample.nD Cert.FfnInnerSample.τ).loc Cert.FfnInnerSample.main_arg1)
      ∧ r.2.mem ((c.tc : Thread Cert.FfnInnerSample.nD Cert.FfnInnerSample.τ).loc Cert.FfnInnerSample.main_arg2) = m ((c.tc : Thread Cert.FfnInnerSample.nD Cert.FfnInnerSample.τ).loc Cert.FfnInnerSample.main_arg2)
      ∧ r.2.mem ((c.tc : Thread Cert.FfnInnerSample.nD Cert.FfnInnerSample.τ).loc Cert.FfnInnerSample.main_arg3) = m ((c.tc : Thread Cert.FfnInnerSample.nD Cert.FfnInnerSample.τ).loc Cert.FfnInnerSample.main_arg3)
      ∧ r.2.mem ((c.tc : Thread Cert.FfnInnerSample.nD Cert.FfnInnerSample.τ).loc Cert.FfnInnerSample.main_arg4) = m ((c.tc : Thread Cert.FfnInnerSample.nD Cert.FfnInnerSample.τ).loc Cert.FfnInnerSample.main_arg4))
      ∧ r.2.sem = fun _ => 0)

def quiescent_FfnInnerSampleIdeal [hFfnInnerSampleIdeal : Cert.FfnInnerSampleIdeal.Facts] : Prop :=
  ∀ (m : (ℓ : Loc Cert.FfnInnerSampleIdeal.nD Cert.FfnInnerSampleIdeal.τ Cert.FfnInnerSampleIdeal.sig) → Buf (Elt Ideal) ℓ) (g : Dev Cert.FfnInnerSampleIdeal.nD → PrngReg), Pre_FfnInnerSampleIdeal m →
    θ_run (Cert.FfnInnerSampleIdeal.defs (F := Ideal)) (onTc (τ := Cert.FfnInnerSampleIdeal.τ) (Cert.FfnInnerSampleIdeal.main (F := Ideal))) ⟨m, fun _ => 0, g⟩ (fun r => (∀ c : Dev Cert.FfnInnerSampleIdeal.nD,
      r.2.mem ((c.tc : Thread Cert.FfnInnerSampleIdeal.nD Cert.FfnInnerSampleIdeal.τ).loc Cert.FfnInnerSampleIdeal.main_arg0) = m ((c.tc : Thread Cert.FfnInnerSampleIdeal.nD Cert.FfnInnerSampleIdeal.τ).loc Cert.FfnInnerSampleIdeal.main_arg0)
      ∧ r.2.mem ((c.tc : Thread Cert.FfnInnerSampleIdeal.nD Cert.FfnInnerSampleIdeal.τ).loc Cert.FfnInnerSampleIdeal.main_arg1) = m ((c.tc : Thread Cert.FfnInnerSampleIdeal.nD Cert.FfnInnerSampleIdeal.τ).loc Cert.FfnInnerSampleIdeal.main_arg1)
      ∧ r.2.mem ((c.tc : Thread Cert.FfnInnerSampleIdeal.nD Cert.FfnInnerSampleIdeal.τ).loc Cert.FfnInnerSampleIdeal.main_arg2) = m ((c.tc : Thread Cert.FfnInnerSampleIdeal.nD Cert.FfnInnerSampleIdeal.τ).loc Cert.FfnInnerSampleIdeal.main_arg2)
      ∧ r.2.mem ((c.tc : Thread Cert.FfnInnerSampleIdeal.nD Cert.FfnInnerSampleIdeal.τ).loc Cert.FfnInnerSampleIdeal.main_arg3) = m ((c.tc : Thread Cert.FfnInnerSampleIdeal.nD Cert.FfnInnerSampleIdeal.τ).loc Cert.FfnInnerSampleIdeal.main_arg3)
      ∧ r.2.mem ((c.tc : Thread Cert.FfnInnerSampleIdeal.nD Cert.FfnInnerSampleIdeal.τ).loc Cert.FfnInnerSampleIdeal.main_arg4) = m ((c.tc : Thread Cert.FfnInnerSampleIdeal.nD Cert.FfnInnerSampleIdeal.τ).loc Cert.FfnInnerSampleIdeal.main_arg4))
      ∧ r.2.sem = fun _ => 0)

def quiescent_FfnInnerSampleRefIdeal [hFfnInnerSampleRefIdeal : Cert.FfnInnerSampleRefIdeal.Facts] : Prop :=
  ∀ (m : (ℓ : Loc Cert.FfnInnerSampleRefIdeal.nD Cert.FfnInnerSampleRefIdeal.τ Cert.FfnInnerSampleRefIdeal.sig) → Buf (Elt Ideal) ℓ) (g : Dev Cert.FfnInnerSampleRefIdeal.nD → PrngReg), Pre_FfnInnerSampleRefIdeal m →
    θ_run (Cert.FfnInnerSampleRefIdeal.defs (F := Ideal)) (onTc (τ := Cert.FfnInnerSampleRefIdeal.τ) (Cert.FfnInnerSampleRefIdeal.main (F := Ideal))) ⟨m, fun _ => 0, g⟩ (fun r => (∀ c : Dev Cert.FfnInnerSampleRefIdeal.nD,
      r.2.mem ((c.tc : Thread Cert.FfnInnerSampleRefIdeal.nD Cert.FfnInnerSampleRefIdeal.τ).loc Cert.FfnInnerSampleRefIdeal.main_arg0) = m ((c.tc : Thread Cert.FfnInnerSampleRefIdeal.nD Cert.FfnInnerSampleRefIdeal.τ).loc Cert.FfnInnerSampleRefIdeal.main_arg0)
      ∧ r.2.mem ((c.tc : Thread Cert.FfnInnerSampleRefIdeal.nD Cert.FfnInnerSampleRefIdeal.τ).loc Cert.FfnInnerSampleRefIdeal.main_arg1) = m ((c.tc : Thread Cert.FfnInnerSampleRefIdeal.nD Cert.FfnInnerSampleRefIdeal.τ).loc Cert.FfnInnerSampleRefIdeal.main_arg1)
      ∧ r.2.mem ((c.tc : Thread Cert.FfnInnerSampleRefIdeal.nD Cert.FfnInnerSampleRefIdeal.τ).loc Cert.FfnInnerSampleRefIdeal.main_arg2) = m ((c.tc : Thread Cert.FfnInnerSampleRefIdeal.nD Cert.FfnInnerSampleRefIdeal.τ).loc Cert.FfnInnerSampleRefIdeal.main_arg2)
      ∧ r.2.mem ((c.tc : Thread Cert.FfnInnerSampleRefIdeal.nD Cert.FfnInnerSampleRefIdeal.τ).loc Cert.FfnInnerSampleRefIdeal.main_arg3) = m ((c.tc : Thread Cert.FfnInnerSampleRefIdeal.nD Cert.FfnInnerSampleRefIdeal.τ).loc Cert.FfnInnerSampleRefIdeal.main_arg3)
      ∧ r.2.mem ((c.tc : Thread Cert.FfnInnerSampleRefIdeal.nD Cert.FfnInnerSampleRefIdeal.τ).loc Cert.FfnInnerSampleRefIdeal.main_arg4) = m ((c.tc : Thread Cert.FfnInnerSampleRefIdeal.nD Cert.FfnInnerSampleRefIdeal.τ).loc Cert.FfnInnerSampleRefIdeal.main_arg4))
      ∧ r.2.sem = fun _ => 0)

def preserves_Kernel_KernelIdeal : Prop :=
  IdealRules.named_const.Statement Cert.KernelIdeal.κ "masked" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "survival" .f32 0x43169600#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v38) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnInner_FfnInnerIdeal : Prop :=
  True

def algebraic_FfnInnerIdeal_FfnInnerRefIdeal [hFfnInnerIdeal : Cert.FfnInnerIdeal.Facts] [hFfnInnerRefIdeal : Cert.FfnInnerRefIdeal.Facts] : Prop :=
  ∀ (m : (ℓ : Loc Cert.FfnInnerIdeal.nD Cert.FfnInnerIdeal.τ Cert.FfnInnerIdeal.sig) → Buf (Elt Ideal) ℓ) (g : Dev Cert.FfnInnerIdeal.nD → PrngReg)
    (m' : (ℓ : Loc Cert.FfnInnerRefIdeal.nD Cert.FfnInnerRefIdeal.τ Cert.FfnInnerRefIdeal.sig) → Buf (Elt Ideal) ℓ) (g' : Dev Cert.FfnInnerRefIdeal.nD → PrngReg), Pre_FfnInnerIdeal m →
    (∀ c : Dev Cert.FfnInnerIdeal.nD,
      m' ((c.tc : Thread Cert.FfnInnerRefIdeal.nD Cert.FfnInnerRefIdeal.τ).loc Cert.FfnInnerRefIdeal.main_arg0) = m ((c.tc : Thread Cert.FfnInnerIdeal.nD Cert.FfnInnerIdeal.τ).loc Cert.FfnInnerIdeal.main_arg0)
      ∧ m' ((c.tc : Thread Cert.FfnInnerRefIdeal.nD Cert.FfnInnerRefIdeal.τ).loc Cert.FfnInnerRefIdeal.main_arg1) = m ((c.tc : Thread Cert.FfnInnerIdeal.nD Cert.FfnInnerIdeal.τ).loc Cert.FfnInnerIdeal.main_arg1)
      ∧ m' ((c.tc : Thread Cert.FfnInnerRefIdeal.nD Cert.FfnInnerRefIdeal.τ).loc Cert.FfnInnerRefIdeal.main_arg2) = m ((c.tc : Thread Cert.FfnInnerIdeal.nD Cert.FfnInnerIdeal.τ).loc Cert.FfnInnerIdeal.main_arg2)
      ∧ m' ((c.tc : Thread Cert.FfnInnerRefIdeal.nD Cert.FfnInnerRefIdeal.τ).loc Cert.FfnInnerRefIdeal.main_arg3) = m ((c.tc : Thread Cert.FfnInnerIdeal.nD Cert.FfnInnerIdeal.τ).loc Cert.FfnInnerIdeal.main_arg3)
      ∧ m' ((c.tc : Thread Cert.FfnInnerRefIdeal.nD Cert.FfnInnerRefIdeal.τ).loc Cert.FfnInnerRefIdeal.main_arg4) = m ((c.tc : Thread Cert.FfnInnerIdeal.nD Cert.FfnInnerIdeal.τ).loc Cert.FfnInnerIdeal.main_arg4)) →
    ∃ (v0 : (c : Dev Cert.FfnInnerIdeal.nD) → Buf (Elt Ideal) ((c.tc : Thread Cert.FfnInnerIdeal.nD Cert.FfnInnerIdeal.τ).loc Cert.FfnInnerIdeal.main_v7)),
      θ_run (Cert.FfnInnerIdeal.defs (F := Ideal)) (onTc (τ := Cert.FfnInnerIdeal.τ) (Cert.FfnInnerIdeal.main (F := Ideal))) ⟨m, fun _ => 0, g⟩ (fun r => ∀ c : Dev Cert.FfnInnerIdeal.nD,
          r.2.mem ((c.tc : Thread Cert.FfnInnerIdeal.nD Cert.FfnInnerIdeal.τ).loc Cert.FfnInnerIdeal.main_v7) = v0 c
          ∧ r.2.mem ((c.tc : Thread Cert.FfnInnerIdeal.nD Cert.FfnInnerIdeal.τ).loc Cert.FfnInnerIdeal.main_arg0) = m ((c.tc : Thread Cert.FfnInnerIdeal.nD Cert.FfnInnerIdeal.τ).loc Cert.FfnInnerIdeal.main_arg0)
          ∧ r.2.mem ((c.tc : Thread Cert.FfnInnerIdeal.nD Cert.FfnInnerIdeal.τ).loc Cert.FfnInnerIdeal.main_arg1) = m ((c.tc : Thread Cert.FfnInnerIdeal.nD Cert.FfnInnerIdeal.τ).loc Cert.FfnInnerIdeal.main_arg1)
          ∧ r.2.mem ((c.tc : Thread Cert.FfnInnerIdeal.nD Cert.FfnInnerIdeal.τ).loc Cert.FfnInnerIdeal.main_arg2) = m ((c.tc : Thread Cert.FfnInnerIdeal.nD Cert.FfnInnerIdeal.τ).loc Cert.FfnInnerIdeal.main_arg2)
          ∧ r.2.mem ((c.tc : Thread Cert.FfnInnerIdeal.nD Cert.FfnInnerIdeal.τ).loc Cert.FfnInnerIdeal.main_arg3) = m ((c.tc : Thread Cert.FfnInnerIdeal.nD Cert.FfnInnerIdeal.τ).loc Cert.FfnInnerIdeal.main_arg3)
          ∧ r.2.mem ((c.tc : Thread Cert.FfnInnerIdeal.nD Cert.FfnInnerIdeal.τ).loc Cert.FfnInnerIdeal.main_arg4) = m ((c.tc : Thread Cert.FfnInnerIdeal.nD Cert.FfnInnerIdeal.τ).loc Cert.FfnInnerIdeal.main_arg4))
      ∧ θ_run (Cert.FfnInnerRefIdeal.defs (F := Ideal)) (onTc (τ := Cert.FfnInnerRefIdeal.τ) (Cert.FfnInnerRefIdeal.main (F := Ideal))) ⟨m', fun _ => 0, g'⟩ (fun r => ∀ c : Dev Cert.FfnInnerRefIdeal.nD,
          r.2.mem ((c.tc : Thread Cert.FfnInnerRefIdeal.nD Cert.FfnInnerRefIdeal.τ).loc Cert.FfnInnerRefIdeal.main_v25) = v0 c
          ∧ r.2.mem ((c.tc : Thread Cert.FfnInnerRefIdeal.nD Cert.FfnInnerRefIdeal.τ).loc Cert.FfnInnerRefIdeal.main_arg0) = m' ((c.tc : Thread Cert.FfnInnerRefIdeal.nD Cert.FfnInnerRefIdeal.τ).loc Cert.FfnInnerRefIdeal.main_arg0)
          ∧ r.2.mem ((c.tc : Thread Cert.FfnInnerRefIdeal.nD Cert.FfnInnerRefIdeal.τ).loc Cert.FfnInnerRefIdeal.main_arg1) = m' ((c.tc : Thread Cert.FfnInnerRefIdeal.nD Cert.FfnInnerRefIdeal.τ).loc Cert.FfnInnerRefIdeal.main_arg1)
          ∧ r.2.mem ((c.tc : Thread Cert.FfnInnerRefIdeal.nD Cert.FfnInnerRefIdeal.τ).loc Cert.FfnInnerRefIdeal.main_arg2) = m' ((c.tc : Thread Cert.FfnInnerRefIdeal.nD Cert.FfnInnerRefIdeal.τ).loc Cert.FfnInnerRefIdeal.main_arg2)
          ∧ r.2.mem ((c.tc : Thread Cert.FfnInnerRefIdeal.nD Cert.FfnInnerRefIdeal.τ).loc Cert.FfnInnerRefIdeal.main_arg3) = m' ((c.tc : Thread Cert.FfnInnerRefIdeal.nD Cert.FfnInnerRefIdeal.τ).loc Cert.FfnInnerRefIdeal.main_arg3)
          ∧ r.2.mem ((c.tc : Thread Cert.FfnInnerRefIdeal.nD Cert.FfnInnerRefIdeal.τ).loc Cert.FfnInnerRefIdeal.main_arg4) = m' ((c.tc : Thread Cert.FfnInnerRefIdeal.nD Cert.FfnInnerRefIdeal.τ).loc Cert.FfnInnerRefIdeal.main_arg4))

def preserves_Proj_ProjIdeal : Prop :=
  IdealRules.named_const.Statement Cert.ProjIdeal.κ "qscale" .f32 0x3E38AA3B#32 (((Real.log 2)⁻¹ * (1 / 8) : ℝ) : EReal)

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v3_0)) (v1 : (c : Dev Cert.ProjIdeal.nD) → Buf (Elt Ideal) ((c.tc : Thread Cert.ProjIdeal.nD Cert.ProjIdeal.τ).loc Cert.ProjIdeal.main_v3_1)) (v2 : (c : Dev Cert.ProjIdeal.nD) → Buf (Elt Ideal) ((c.tc : Thread Cert.ProjIdeal.nD Cert.ProjIdeal.τ).loc Cert.ProjIdeal.main_v3_2)) (v3 : (c : Dev Cert.ProjIdeal.nD) → Buf (Elt Ideal) ((c.tc : Thread Cert.ProjIdeal.nD Cert.ProjIdeal.τ).loc Cert.ProjIdeal.main_v3_3)) (v4 : (c : Dev Cert.ProjIdeal.nD) → Buf (Elt Ideal) ((c.tc : Thread Cert.ProjIdeal.nD Cert.ProjIdeal.τ).loc Cert.ProjIdeal.main_v3_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_0) = v0 c
          ∧ r.2.mem ((c.tc : Thread Cert.ProjIdeal.nD Cert.ProjIdeal.τ).loc Cert.ProjIdeal.main_v3_1) = v1 c
          ∧ r.2.mem ((c.tc : Thread Cert.ProjIdeal.nD Cert.ProjIdeal.τ).loc Cert.ProjIdeal.main_v3_2) = v2 c
          ∧ r.2.mem ((c.tc : Thread Cert.ProjIdeal.nD Cert.ProjIdeal.τ).loc Cert.ProjIdeal.main_v3_3) = v3 c
          ∧ r.2.mem ((c.tc : Thread Cert.ProjIdeal.nD Cert.ProjIdeal.τ).loc Cert.ProjIdeal.main_v3_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v27) = v0 c
          ∧ r.2.mem ((c.tc : Thread Cert.ProjRefIdeal.nD Cert.ProjRefIdeal.τ).loc Cert.ProjRefIdeal.main_v30) = v1 c
          ∧ r.2.mem ((c.tc : Thread Cert.ProjRefIdeal.nD Cert.ProjRefIdeal.τ).loc Cert.ProjRefIdeal.main_v32) = v2 c
          ∧ r.2.mem ((c.tc : Thread Cert.ProjRefIdeal.nD Cert.ProjRefIdeal.τ).loc Cert.ProjRefIdeal.main_v34) = v3 c
          ∧ r.2.mem ((c.tc : Thread Cert.ProjRefIdeal.nD Cert.ProjRefIdeal.τ).loc Cert.ProjRefIdeal.main_v37) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_ProjSample_ProjSampleIdeal : Prop :=
  IdealRules.named_const.Statement Cert.ProjSampleIdeal.κ "qscale" .f32 0x3E38AA3B#32 (((Real.log 2)⁻¹ * (1 / 8) : ℝ) : EReal)

def algebraic_ProjSampleIdeal_ProjSampleRefIdeal [hProjSampleIdeal : Cert.ProjSampleIdeal.Facts] [hProjSampleRefIdeal : Cert.ProjSampleRefIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg)
    (m' : (ℓ : Loc Cert.ProjSampleRefIdeal.nD Cert.ProjSampleRefIdeal.τ Cert.ProjSampleRefIdeal.sig) → Buf (Elt Ideal) ℓ) (g' : Dev Cert.ProjSampleRefIdeal.nD → PrngReg), Pre_ProjSampleIdeal m →
    (∀ c : Dev Cert.ProjSampleIdeal.nD,
      m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)
      ∧ m' ((c.tc : Thread Cert.ProjSampleRefIdeal.nD Cert.ProjSampleRefIdeal.τ).loc Cert.ProjSampleRefIdeal.main_arg2) = m ((c.tc : Thread Cert.ProjSampleIdeal.nD Cert.ProjSampleIdeal.τ).loc Cert.ProjSampleIdeal.main_arg2)) →
    ∃ (v0 : (c : Dev Cert.ProjSampleIdeal.nD) → Buf (Elt Ideal) ((c.tc : Thread Cert.ProjSampleIdeal.nD Cert.ProjSampleIdeal.τ).loc Cert.ProjSampleIdeal.main_v2_0)) (v1 : (c : Dev Cert.ProjSampleIdeal.nD) → Buf (Elt Ideal) ((c.tc : Thread Cert.ProjSampleIdeal.nD Cert.ProjSampleIdeal.τ).loc Cert.ProjSampleIdeal.main_v2_1)) (v2 : (c : Dev Cert.ProjSampleIdeal.nD) → Buf (Elt Ideal) ((c.tc : Thread Cert.ProjSampleIdeal.nD Cert.ProjSampleIdeal.τ).loc Cert.ProjSampleIdeal.main_v2_2)) (v3 : (c : Dev Cert.ProjSampleIdeal.nD) → Buf (Elt Ideal) ((c.tc : Thread Cert.ProjSampleIdeal.nD Cert.ProjSampleIdeal.τ).loc Cert.ProjSampleIdeal.main_v2_3)) (v4 : (c : Dev Cert.ProjSampleIdeal.nD) → Buf (Elt Ideal) ((c.tc : Thread Cert.ProjSampleIdeal.nD Cert.ProjSampleIdeal.τ).loc Cert.ProjSampleIdeal.main_v2_4)) (v5 : (c : Dev Cert.ProjSampleIdeal.nD) → Buf (Elt Ideal) ((c.tc : Thread Cert.ProjSampleIdeal.nD Cert.ProjSampleIdeal.τ).loc Cert.ProjSampleIdeal.main_v2_5)),
      θ_run (Cert.ProjSampleIdeal.defs (F := Ideal)) (onTc (τ := Cert.ProjSampleIdeal.τ) (Cert.ProjSampleIdeal.main (F := Ideal))) ⟨m, fun _ => 0, g⟩ (fun r => ∀ c : Dev Cert.ProjSampleIdeal.nD,
          r.2.mem ((c.tc : Thread Cert.ProjSampleIdeal.nD Cert.ProjSampleIdeal.τ).loc Cert.ProjSampleIdeal.main_v2_0) = v0 c
          ∧ r.2.mem ((c.tc : Thread Cert.ProjSampleIdeal.nD Cert.ProjSampleIdeal.τ).loc Cert.ProjSampleIdeal.main_v2_1) = v1 c
          ∧ r.2.mem ((c.tc : Thread Cert.ProjSampleIdeal.nD Cert.ProjSampleIdeal.τ).loc Cert.ProjSampleIdeal.main_v2_2) = v2 c
          ∧ r.2.mem ((c.tc : Thread Cert.ProjSampleIdeal.nD Cert.ProjSampleIdeal.τ).loc Cert.ProjSampleIdeal.main_v2_3) = v3 c
          ∧ r.2.mem ((c.tc : Thread Cert.ProjSampleIdeal.nD Cert.ProjSampleIdeal.τ).loc Cert.ProjSampleIdeal.main_v2_4) = v4 c
          ∧ r.2.mem ((c.tc : Thread Cert.ProjSampleIdeal.nD Cert.ProjSampleIdeal.τ).loc Cert.ProjSampleIdeal.main_v2_5) = v5 c
          ∧ r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
          ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
          ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2))
      ∧ θ_run (Cert.ProjSampleRefIdeal.defs (F := Ideal)) (onTc (τ := Cert.ProjSampleRefIdeal.τ) (Cert.ProjSampleRefIdeal.main (F := Ideal))) ⟨m', fun _ => 0, g'⟩ (fun r => ∀ c : Dev Cert.ProjSampleRefIdeal.nD,
          r.2.mem ((c.tc : Thread Cert.ProjSampleRefIdeal.nD Cert.ProjSampleRefIdeal.τ).loc Cert.ProjSampleRefIdeal.main_v27) = v0 c
          ∧ r.2.mem ((c.tc : Thread Cert.ProjSampleRefIdeal.nD Cert.ProjSampleRefIdeal.τ).loc Cert.ProjSampleRefIdeal.main_v30) = v1 c
          ∧ r.2.mem ((c.tc : Thread Cert.ProjSampleRefIdeal.nD Cert.ProjSampleRefIdeal.τ).loc Cert.ProjSampleRefIdeal.main_v32) = v2 c
          ∧ r.2.mem ((c.tc : Thread Cert.ProjSampleRefIdeal.nD Cert.ProjSampleRefIdeal.τ).loc Cert.ProjSampleRefIdeal.main_v34) = v3 c
          ∧ r.2.mem ((c.tc : Thread Cert.ProjSampleRefIdeal.nD Cert.ProjSampleRefIdeal.τ).loc Cert.ProjSampleRefIdeal.main_v37) = v4 c
          ∧ r.2.mem ((c.tc : Thread Cert.ProjSampleRefIdeal.nD Cert.ProjSampleRefIdeal.τ).loc Cert.ProjSampleRefIdeal.main_v39) = v5 c
          ∧ r.2.mem ((c.tc : Thread Cert.ProjSampleRefIdeal.nD Cert.ProjSampleRefIdeal.τ).loc Cert.ProjSampleRefIdeal.main_arg0) = m' ((c.tc : Thread Cert.ProjSampleRefIdeal.nD Cert.ProjSampleRefIdeal.τ).loc Cert.ProjSampleRefIdeal.main_arg0)
          ∧ r.2.mem ((c.tc : Thread Cert.ProjSampleRefIdeal.nD Cert.ProjSampleRefIdeal.τ).loc Cert.ProjSampleRefIdeal.main_arg1) = m' ((c.tc : Thread Cert.ProjSampleRefIdeal.nD Cert.ProjSampleRefIdeal.τ).loc Cert.ProjSampleRefIdeal.main_arg1)
          ∧ r.2.mem ((c.tc : Thread Cert.ProjSampleRefIdeal.nD Cert.ProjSampleRefIdeal.τ).loc Cert.ProjSampleRefIdeal.main_arg2) = m' ((c.tc : Thread Cert.ProjSampleRefIdeal.nD Cert.ProjSampleRefIdeal.τ).loc Cert.ProjSampleRefIdeal.main_arg2))

def preserves_Merge_MergeIdeal : Prop :=
  True

def algebraic_MergeIdeal_MergeRefIdeal_pre_pooled_finite [hMergeIdeal : Cert.MergeIdeal.Facts] [hMergeRefIdeal : Cert.MergeRefIdeal.Facts] [hPre_pooled_finite : Cert.Pre_pooled_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_pooled_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v22)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v22) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v84) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_MergeSample_MergeSampleIdeal : Prop :=
  True

def algebraic_MergeSampleIdeal_MergeSampleRefIdeal_pre_pooled_finite_sample [hMergeSampleIdeal : Cert.MergeSampleIdeal.Facts] [hMergeSampleRefIdeal : Cert.MergeSampleRefIdeal.Facts] [hPre_pooled_finite_sample : Cert.Pre_pooled_finite_sample.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg)
    (m' : (ℓ : Loc Cert.MergeSampleRefIdeal.nD Cert.MergeSampleRefIdeal.τ Cert.MergeSampleRefIdeal.sig) → Buf (Elt Ideal) ℓ) (g' : Dev Cert.MergeSampleRefIdeal.nD → PrngReg), Pre_MergeSampleIdeal_pooled_finite_sample m →
    (∀ c : Dev Cert.MergeSampleIdeal.nD,
      m' ((c.tc : Thread Cert.MergeSampleRefIdeal.nD Cert.MergeSampleRefIdeal.τ).loc Cert.MergeSampleRefIdeal.main_arg0) = m ((c.tc : Thread Cert.MergeSampleIdeal.nD Cert.MergeSampleIdeal.τ).loc Cert.MergeSampleIdeal.main_arg0)
      ∧ m' ((c.tc : Thread Cert.MergeSampleRefIdeal.nD Cert.MergeSampleRefIdeal.τ).loc Cert.MergeSampleRefIdeal.main_arg1) = m ((c.tc : Thread Cert.MergeSampleIdeal.nD Cert.MergeSampleIdeal.τ).loc Cert.MergeSampleIdeal.main_arg1)
      ∧ m' ((c.tc : Thread Cert.MergeSampleRefIdeal.nD Cert.MergeSampleRefIdeal.τ).loc Cert.MergeSampleRefIdeal.main_arg2) = m ((c.tc : Thread Cert.MergeSampleIdeal.nD Cert.MergeSampleIdeal.τ).loc Cert.MergeSampleIdeal.main_arg2)
      ∧ m' ((c.tc : Thread Cert.MergeSampleRefIdeal.nD Cert.MergeSampleRefIdeal.τ).loc Cert.MergeSampleRefIdeal.main_arg3) = m ((c.tc : Thread Cert.MergeSampleIdeal.nD Cert.MergeSampleIdeal.τ).loc Cert.MergeSampleIdeal.main_arg3)
      ∧ m' ((c.tc : Thread Cert.MergeSampleRefIdeal.nD Cert.MergeSampleRefIdeal.τ).loc Cert.MergeSampleRefIdeal.main_arg4) = m ((c.tc : Thread Cert.MergeSampleIdeal.nD Cert.MergeSampleIdeal.τ).loc Cert.MergeSampleIdeal.main_arg4)
      ∧ m' ((c.tc : Thread Cert.MergeSampleRefIdeal.nD Cert.MergeSampleRefIdeal.τ).loc Cert.MergeSampleRefIdeal.main_arg5) = m ((c.tc : Thread Cert.MergeSampleIdeal.nD Cert.MergeSampleIdeal.τ).loc Cert.MergeSampleIdeal.main_arg5)
      ∧ m' ((c.tc : Thread Cert.MergeSampleRefIdeal.nD Cert.MergeSampleRefIdeal.τ).loc Cert.MergeSampleRefIdeal.main_arg6) = m ((c.tc : Thread Cert.MergeSampleIdeal.nD Cert.MergeSampleIdeal.τ).loc Cert.MergeSampleIdeal.main_arg6)
      ∧ m' ((c.tc : Thread Cert.MergeSampleRefIdeal.nD Cert.MergeSampleRefIdeal.τ).loc Cert.MergeSampleRefIdeal.main_arg7) = m ((c.tc : Thread Cert.MergeSampleIdeal.nD Cert.MergeSampleIdeal.τ).loc Cert.MergeSampleIdeal.main_arg7)
      ∧ m' ((c.tc : Thread Cert.MergeSampleRefIdeal.nD Cert.MergeSampleRefIdeal.τ).loc Cert.MergeSampleRefIdeal.main_arg8) = m ((c.tc : Thread Cert.MergeSampleIdeal.nD Cert.MergeSampleIdeal.τ).loc Cert.MergeSampleIdeal.main_arg8)
      ∧ m' ((c.tc : Thread Cert.MergeSampleRefIdeal.nD Cert.MergeSampleRefIdeal.τ).loc Cert.MergeSampleRefIdeal.main_arg9) = m ((c.tc : Thread Cert.MergeSampleIdeal.nD Cert.MergeSampleIdeal.τ).loc Cert.MergeSampleIdeal.main_arg9)
      ∧ m' ((c.tc : Thread Cert.MergeSampleRefIdeal.nD Cert.MergeSampleRefIdeal.τ).loc Cert.MergeSampleRefIdeal.main_arg10) = m ((c.tc : Thread Cert.MergeSampleIdeal.nD Cert.MergeSampleIdeal.τ).loc Cert.MergeSampleIdeal.main_arg10)) →
    ∃ (v0 : (c : Dev Cert.MergeSampleIdeal.nD) → Buf (Elt Ideal) ((c.tc : Thread Cert.MergeSampleIdeal.nD Cert.MergeSampleIdeal.τ).loc Cert.MergeSampleIdeal.main_v18_0)) (v1 : (c : Dev Cert.MergeSampleIdeal.nD) → Buf (Elt Ideal) ((c.tc : Thread Cert.MergeSampleIdeal.nD Cert.MergeSampleIdeal.τ).loc Cert.MergeSampleIdeal.main_v18_1)) (v2 : (c : Dev Cert.MergeSampleIdeal.nD) → Buf (Elt Ideal) ((c.tc : Thread Cert.MergeSampleIdeal.nD Cert.MergeSampleIdeal.τ).loc Cert.MergeSampleIdeal.main_v18_2)) (v3 : (c : Dev Cert.MergeSampleIdeal.nD) → Buf (Elt Ideal) ((c.tc : Thread Cert.MergeSampleIdeal.nD Cert.MergeSampleIdeal.τ).loc Cert.MergeSampleIdeal.main_v18_3)) (v4 : (c : Dev Cert.MergeSampleIdeal.nD) → Buf (Elt Ideal) ((c.tc : Thread Cert.MergeSampleIdeal.nD Cert.MergeSampleIdeal.τ).loc Cert.MergeSampleIdeal.main_v18_4)),
      θ_run (Cert.MergeSampleIdeal.defs (F := Ideal)) (onTc (τ := Cert.MergeSampleIdeal.τ) (Cert.MergeSampleIdeal.main (F := Ideal))) ⟨m, fun _ => 0, g⟩ (fun r => ∀ c : Dev Cert.MergeSampleIdeal.nD,
          r.2.mem ((c.tc : Thread Cert.MergeSampleIdeal.nD Cert.MergeSampleIdeal.τ).loc Cert.MergeSampleIdeal.main_v18_0) = v0 c
          ∧ r.2.mem ((c.tc : Thread Cert.MergeSampleIdeal.nD Cert.MergeSampleIdeal.τ).loc Cert.MergeSampleIdeal.main_v18_1) = v1 c
          ∧ r.2.mem ((c.tc : Thread Cert.MergeSampleIdeal.nD Cert.MergeSampleIdeal.τ).loc Cert.MergeSampleIdeal.main_v18_2) = v2 c
          ∧ r.2.mem ((c.tc : Thread Cert.MergeSampleIdeal.nD Cert.MergeSampleIdeal.τ).loc Cert.MergeSampleIdeal.main_v18_3) = v3 c
          ∧ r.2.mem ((c.tc : Thread Cert.MergeSampleIdeal.nD Cert.MergeSampleIdeal.τ).loc Cert.MergeSampleIdeal.main_v18_4) = v4 c
          ∧ r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
          ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
          ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
          ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
          ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
          ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
          ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
          ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
          ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8)
          ∧ r.2.mem ((c.tc : Thread Cert.MergeSampleIdeal.nD Cert.MergeSampleIdeal.τ).loc Cert.MergeSampleIdeal.main_arg9) = m ((c.tc : Thread Cert.MergeSampleIdeal.nD Cert.MergeSampleIdeal.τ).loc Cert.MergeSampleIdeal.main_arg9)
          ∧ r.2.mem ((c.tc : Thread Cert.MergeSampleIdeal.nD Cert.MergeSampleIdeal.τ).loc Cert.MergeSampleIdeal.main_arg10) = m ((c.tc : Thread Cert.MergeSampleIdeal.nD Cert.MergeSampleIdeal.τ).loc Cert.MergeSampleIdeal.main_arg10))
      ∧ θ_run (Cert.MergeSampleRefIdeal.defs (F := Ideal)) (onTc (τ := Cert.MergeSampleRefIdeal.τ) (Cert.MergeSampleRefIdeal.main (F := Ideal))) ⟨m', fun _ => 0, g'⟩ (fun r => ∀ c : Dev Cert.MergeSampleRefIdeal.nD,
          r.2.mem ((c.tc : Thread Cert.MergeSampleRefIdeal.nD Cert.MergeSampleRefIdeal.τ).loc Cert.MergeSampleRefIdeal.main_v86) = v0 c
          ∧ r.2.mem ((c.tc : Thread Cert.MergeSampleRefIdeal.nD Cert.MergeSampleRefIdeal.τ).loc Cert.MergeSampleRefIdeal.main_v88) = v1 c
          ∧ r.2.mem ((c.tc : Thread Cert.MergeSampleRefIdeal.nD Cert.MergeSampleRefIdeal.τ).loc Cert.MergeSampleRefIdeal.main_v90) = v2 c
          ∧ r.2.mem ((c.tc : Thread Cert.MergeSampleRefIdeal.nD Cert.MergeSampleRefIdeal.τ).loc Cert.MergeSampleRefIdeal.main_v92) = v3 c
          ∧ r.2.mem ((c.tc : Thread Cert.MergeSampleRefIdeal.nD Cert.MergeSampleRefIdeal.τ).loc Cert.MergeSampleRefIdeal.main_v94) = v4 c
          ∧ r.2.mem ((c.tc : Thread Cert.MergeSampleRefIdeal.nD Cert.MergeSampleRefIdeal.τ).loc Cert.MergeSampleRefIdeal.main_arg0) = m' ((c.tc : Thread Cert.MergeSampleRefIdeal.nD Cert.MergeSampleRefIdeal.τ).loc Cert.MergeSampleRefIdeal.main_arg0)
          ∧ r.2.mem ((c.tc : Thread Cert.MergeSampleRefIdeal.nD Cert.MergeSampleRefIdeal.τ).loc Cert.MergeSampleRefIdeal.main_arg1) = m' ((c.tc : Thread Cert.MergeSampleRefIdeal.nD Cert.MergeSampleRefIdeal.τ).loc Cert.MergeSampleRefIdeal.main_arg1)
          ∧ r.2.mem ((c.tc : Thread Cert.MergeSampleRefIdeal.nD Cert.MergeSampleRefIdeal.τ).loc Cert.MergeSampleRefIdeal.main_arg2) = m' ((c.tc : Thread Cert.MergeSampleRefIdeal.nD Cert.MergeSampleRefIdeal.τ).loc Cert.MergeSampleRefIdeal.main_arg2)
          ∧ r.2.mem ((c.tc : Thread Cert.MergeSampleRefIdeal.nD Cert.MergeSampleRefIdeal.τ).loc Cert.MergeSampleRefIdeal.main_arg3) = m' ((c.tc : Thread Cert.MergeSampleRefIdeal.nD Cert.MergeSampleRefIdeal.τ).loc Cert.MergeSampleRefIdeal.main_arg3)
          ∧ r.2.mem ((c.tc : Thread Cert.MergeSampleRefIdeal.nD Cert.MergeSampleRefIdeal.τ).loc Cert.MergeSampleRefIdeal.main_arg4) = m' ((c.tc : Thread Cert.MergeSampleRefIdeal.nD Cert.MergeSampleRefIdeal.τ).loc Cert.MergeSampleRefIdeal.main_arg4)
          ∧ r.2.mem ((c.tc : Thread Cert.MergeSampleRefIdeal.nD Cert.MergeSampleRefIdeal.τ).loc Cert.MergeSampleRefIdeal.main_arg5) = m' ((c.tc : Thread Cert.MergeSampleRefIdeal.nD Cert.MergeSampleRefIdeal.τ).loc Cert.MergeSampleRefIdeal.main_arg5)
          ∧ r.2.mem ((c.tc : Thread Cert.MergeSampleRefIdeal.nD Cert.MergeSampleRefIdeal.τ).loc Cert.MergeSampleRefIdeal.main_arg6) = m' ((c.tc : Thread Cert.MergeSampleRefIdeal.nD Cert.MergeSampleRefIdeal.τ).loc Cert.MergeSampleRefIdeal.main_arg6)
          ∧ r.2.mem ((c.tc : Thread Cert.MergeSampleRefIdeal.nD Cert.MergeSampleRefIdeal.τ).loc Cert.MergeSampleRefIdeal.main_arg7) = m' ((c.tc : Thread Cert.MergeSampleRefIdeal.nD Cert.MergeSampleRefIdeal.τ).loc Cert.MergeSampleRefIdeal.main_arg7)
          ∧ r.2.mem ((c.tc : Thread Cert.MergeSampleRefIdeal.nD Cert.MergeSampleRefIdeal.τ).loc Cert.MergeSampleRefIdeal.main_arg8) = m' ((c.tc : Thread Cert.MergeSampleRefIdeal.nD Cert.MergeSampleRefIdeal.τ).loc Cert.MergeSampleRefIdeal.main_arg8)
          ∧ r.2.mem ((c.tc : Thread Cert.MergeSampleRefIdeal.nD Cert.MergeSampleRefIdeal.τ).loc Cert.MergeSampleRefIdeal.main_arg9) = m' ((c.tc : Thread Cert.MergeSampleRefIdeal.nD Cert.MergeSampleRefIdeal.τ).loc Cert.MergeSampleRefIdeal.main_arg9)
          ∧ r.2.mem ((c.tc : Thread Cert.MergeSampleRefIdeal.nD Cert.MergeSampleRefIdeal.τ).loc Cert.MergeSampleRefIdeal.main_arg10) = m' ((c.tc : Thread Cert.MergeSampleRefIdeal.nD Cert.MergeSampleRefIdeal.τ).loc Cert.MergeSampleRefIdeal.main_arg10))

def preserves_FfnSample_FfnSampleIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)
      ∧ m' ((c.tc : Thread Cert.FfnSampleRefIdeal.nD Cert.FfnSampleRefIdeal.τ).loc Cert.FfnSampleRefIdeal.main_arg5) = m ((c.tc : Thread Cert.FfnSampleIdeal.nD Cert.FfnSampleIdeal.τ).loc Cert.FfnSampleIdeal.main_arg5)) →
    ∃ (v0 : (c : Dev Cert.FfnSampleIdeal.nD) → Buf (Elt Ideal) ((c.tc : Thread Cert.FfnSampleIdeal.nD Cert.FfnSampleIdeal.τ).loc Cert.FfnSampleIdeal.main_v5_0)) (v1 : (c : Dev Cert.FfnSampleIdeal.nD) → Buf (Elt Ideal) ((c.tc : Thread Cert.FfnSampleIdeal.nD Cert.FfnSampleIdeal.τ).loc Cert.FfnSampleIdeal.main_v5_1)) (v2 : (c : Dev Cert.FfnSampleIdeal.nD) → Buf (Elt Ideal) ((c.tc : Thread Cert.FfnSampleIdeal.nD Cert.FfnSampleIdeal.τ).loc Cert.FfnSampleIdeal.main_v5_2)) (v3 : (c : Dev Cert.FfnSampleIdeal.nD) → Buf (Elt Ideal) ((c.tc : Thread Cert.FfnSampleIdeal.nD Cert.FfnSampleIdeal.τ).loc Cert.FfnSampleIdeal.main_v5_3)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v5_0) = v0 c
          ∧ r.2.mem ((c.tc : Thread Cert.FfnSampleIdeal.nD Cert.FfnSampleIdeal.τ).loc Cert.FfnSampleIdeal.main_v5_1) = v1 c
          ∧ r.2.mem ((c.tc : Thread Cert.FfnSampleIdeal.nD Cert.FfnSampleIdeal.τ).loc Cert.FfnSampleIdeal.main_v5_2) = v2 c
          ∧ r.2.mem ((c.tc : Thread Cert.FfnSampleIdeal.nD Cert.FfnSampleIdeal.τ).loc Cert.FfnSampleIdeal.main_v5_3) = v3 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v38) = v0 c
          ∧ r.2.mem ((c.tc : Thread Cert.FfnSampleRefIdeal.nD Cert.FfnSampleRefIdeal.τ).loc Cert.FfnSampleRefIdeal.main_v40) = v1 c
          ∧ r.2.mem ((c.tc : Thread Cert.FfnSampleRefIdeal.nD Cert.FfnSampleRefIdeal.τ).loc Cert.FfnSampleRefIdeal.main_v42) = v2 c
          ∧ r.2.mem ((c.tc : Thread Cert.FfnSampleRefIdeal.nD Cert.FfnSampleRefIdeal.τ).loc Cert.FfnSampleRefIdeal.main_v44) = v3 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4)
          ∧ r.2.mem ((c.tc : Thread Cert.FfnSampleRefIdeal.nD Cert.FfnSampleRefIdeal.τ).loc Cert.FfnSampleRefIdeal.main_arg5) = m' ((c.tc : Thread Cert.FfnSampleRefIdeal.nD Cert.FfnSampleRefIdeal.τ).loc Cert.FfnSampleRefIdeal.main_arg5))

def preserves_FfnInnerSample_FfnInnerSampleIdeal : Prop :=
  True

def algebraic_FfnInnerSampleIdeal_FfnInnerSampleRefIdeal [hFfnInnerSampleIdeal : Cert.FfnInnerSampleIdeal.Facts] [hFfnInnerSampleRefIdeal : Cert.FfnInnerSampleRefIdeal.Facts] : Prop :=
  ∀ (m : (ℓ : Loc Cert.FfnInnerSampleIdeal.nD Cert.FfnInnerSampleIdeal.τ Cert.FfnInnerSampleIdeal.sig) → Buf (Elt Ideal) ℓ) (g : Dev Cert.FfnInnerSampleIdeal.nD → PrngReg)
    (m' : (ℓ : Loc Cert.FfnInnerSampleRefIdeal.nD Cert.FfnInnerSampleRefIdeal.τ Cert.FfnInnerSampleRefIdeal.sig) → Buf (Elt Ideal) ℓ) (g' : Dev Cert.FfnInnerSampleRefIdeal.nD → PrngReg), Pre_FfnInnerSampleIdeal m →
    (∀ c : Dev Cert.FfnInnerSampleIdeal.nD,
      m' ((c.tc : Thread Cert.FfnInnerSampleRefIdeal.nD Cert.FfnInnerSampleRefIdeal.τ).loc Cert.FfnInnerSampleRefIdeal.main_arg0) = m ((c.tc : Thread Cert.FfnInnerSampleIdeal.nD Cert.FfnInnerSampleIdeal.τ).loc Cert.FfnInnerSampleIdeal.main_arg0)
      ∧ m' ((c.tc : Thread Cert.FfnInnerSampleRefIdeal.nD Cert.FfnInnerSampleRefIdeal.τ).loc Cert.FfnInnerSampleRefIdeal.main_arg1) = m ((c.tc : Thread Cert.FfnInnerSampleIdeal.nD Cert.FfnInnerSampleIdeal.τ).loc Cert.FfnInnerSampleIdeal.main_arg1)
      ∧ m' ((c.tc : Thread Cert.FfnInnerSampleRefIdeal.nD Cert.FfnInnerSampleRefIdeal.τ).loc Cert.FfnInnerSampleRefIdeal.main_arg2) = m ((c.tc : Thread Cert.FfnInnerSampleIdeal.nD Cert.FfnInnerSampleIdeal.τ).loc Cert.FfnInnerSampleIdeal.main_arg2)
      ∧ m' ((c.tc : Thread Cert.FfnInnerSampleRefIdeal.nD Cert.FfnInnerSampleRefIdeal.τ).loc Cert.FfnInnerSampleRefIdeal.main_arg3) = m ((c.tc : Thread Cert.FfnInnerSampleIdeal.nD Cert.FfnInnerSampleIdeal.τ).loc Cert.FfnInnerSampleIdeal.main_arg3)
      ∧ m' ((c.tc : Thread Cert.FfnInnerSampleRefIdeal.nD Cert.FfnInnerSampleRefIdeal.τ).loc Cert.FfnInnerSampleRefIdeal.main_arg4) = m ((c.tc : Thread Cert.FfnInnerSampleIdeal.nD Cert.FfnInnerSampleIdeal.τ).loc Cert.FfnInnerSampleIdeal.main_arg4)) →
    ∃ (v0 : (c : Dev Cert.FfnInnerSampleIdeal.nD) → Buf (Elt Ideal) ((c.tc : Thread Cert.FfnInnerSampleIdeal.nD Cert.FfnInnerSampleIdeal.τ).loc Cert.FfnInnerSampleIdeal.main_v4_0)) (v1 : (c : Dev Cert.FfnInnerSampleIdeal.nD) → Buf (Elt Ideal) ((c.tc : Thread Cert.FfnInnerSampleIdeal.nD Cert.FfnInnerSampleIdeal.τ).loc Cert.FfnInnerSampleIdeal.main_v4_1)) (v2 : (c : Dev Cert.FfnInnerSampleIdeal.nD) → Buf (Elt Ideal) ((c.tc : Thread Cert.FfnInnerSampleIdeal.nD Cert.FfnInnerSampleIdeal.τ).loc Cert.FfnInnerSampleIdeal.main_v4_2)) (v3 : (c : Dev Cert.FfnInnerSampleIdeal.nD) → Buf (Elt Ideal) ((c.tc : Thread Cert.FfnInnerSampleIdeal.nD Cert.FfnInnerSampleIdeal.τ).loc Cert.FfnInnerSampleIdeal.main_v4_3)),
      θ_run (Cert.FfnInnerSampleIdeal.defs (F := Ideal)) (onTc (τ := Cert.FfnInnerSampleIdeal.τ) (Cert.FfnInnerSampleIdeal.main (F := Ideal))) ⟨m, fun _ => 0, g⟩ (fun r => ∀ c : Dev Cert.FfnInnerSampleIdeal.nD,
          r.2.mem ((c.tc : Thread Cert.FfnInnerSampleIdeal.nD Cert.FfnInnerSampleIdeal.τ).loc Cert.FfnInnerSampleIdeal.main_v4_0) = v0 c
          ∧ r.2.mem ((c.tc : Thread Cert.FfnInnerSampleIdeal.nD Cert.FfnInnerSampleIdeal.τ).loc Cert.FfnInnerSampleIdeal.main_v4_1) = v1 c
          ∧ r.2.mem ((c.tc : Thread Cert.FfnInnerSampleIdeal.nD Cert.FfnInnerSampleIdeal.τ).loc Cert.FfnInnerSampleIdeal.main_v4_2) = v2 c
          ∧ r.2.mem ((c.tc : Thread Cert.FfnInnerSampleIdeal.nD Cert.FfnInnerSampleIdeal.τ).loc Cert.FfnInnerSampleIdeal.main_v4_3) = v3 c
          ∧ r.2.mem ((c.tc : Thread Cert.FfnInnerSampleIdeal.nD Cert.FfnInnerSampleIdeal.τ).loc Cert.FfnInnerSampleIdeal.main_arg0) = m ((c.tc : Thread Cert.FfnInnerSampleIdeal.nD Cert.FfnInnerSampleIdeal.τ).loc Cert.FfnInnerSampleIdeal.main_arg0)
          ∧ r.2.mem ((c.tc : Thread Cert.FfnInnerSampleIdeal.nD Cert.FfnInnerSampleIdeal.τ).loc Cert.FfnInnerSampleIdeal.main_arg1) = m ((c.tc : Thread Cert.FfnInnerSampleIdeal.nD Cert.FfnInnerSampleIdeal.τ).loc Cert.FfnInnerSampleIdeal.main_arg1)
          ∧ r.2.mem ((c.tc : Thread Cert.FfnInnerSampleIdeal.nD Cert.FfnInnerSampleIdeal.τ).loc Cert.FfnInnerSampleIdeal.main_arg2) = m ((c.tc : Thread Cert.FfnInnerSampleIdeal.nD Cert.FfnInnerSampleIdeal.τ).loc Cert.FfnInnerSampleIdeal.main_arg2)
          ∧ r.2.mem ((c.tc : Thread Cert.FfnInnerSampleIdeal.nD Cert.FfnInnerSampleIdeal.τ).loc Cert.FfnInnerSampleIdeal.main_arg3) = m ((c.tc : Thread Cert.FfnInnerSampleIdeal.nD Cert.FfnInnerSampleIdeal.τ).loc Cert.FfnInnerSampleIdeal.main_arg3)
          ∧ r.2.mem ((c.tc : Thread Cert.FfnInnerSampleIdeal.nD Cert.FfnInnerSampleIdeal.τ).loc Cert.FfnInnerSampleIdeal.main_arg4) = m ((c.tc : Thread Cert.FfnInnerSampleIdeal.nD Cert.FfnInnerSampleIdeal.τ).loc Cert.FfnInnerSampleIdeal.main_arg4))
      ∧ θ_run (Cert.FfnInnerSampleRefIdeal.defs (F := Ideal)) (onTc (τ := Cert.FfnInnerSampleRefIdeal.τ) (Cert.FfnInnerSampleRefIdeal.main (F := Ideal))) ⟨m', fun _ => 0, g'⟩ (fun r => ∀ c : Dev Cert.FfnInnerSampleRefIdeal.nD,
          r.2.mem ((c.tc : Thread Cert.FfnInnerSampleRefIdeal.nD Cert.FfnInnerSampleRefIdeal.τ).loc Cert.FfnInnerSampleRefIdeal.main_v25) = v0 c
          ∧ r.2.mem ((c.tc : Thread Cert.FfnInnerSampleRefIdeal.nD Cert.FfnInnerSampleRefIdeal.τ).loc Cert.FfnInnerSampleRefIdeal.main_v27) = v1 c
          ∧ r.2.mem ((c.tc : Thread Cert.FfnInnerSampleRefIdeal.nD Cert.FfnInnerSampleRefIdeal.τ).loc Cert.FfnInnerSampleRefIdeal.main_v29) = v2 c
          ∧ r.2.mem ((c.tc : Thread Cert.FfnInnerSampleRefIdeal.nD Cert.FfnInnerSampleRefIdeal.τ).loc Cert.FfnInnerSampleRefIdeal.main_v31) = v3 c
          ∧ r.2.mem ((c.tc : Thread Cert.FfnInnerSampleRefIdeal.nD Cert.FfnInnerSampleRefIdeal.τ).loc Cert.FfnInnerSampleRefIdeal.main_arg0) = m' ((c.tc : Thread Cert.FfnInnerSampleRefIdeal.nD Cert.FfnInnerSampleRefIdeal.τ).loc Cert.FfnInnerSampleRefIdeal.main_arg0)
          ∧ r.2.mem ((c.tc : Thread Cert.FfnInnerSampleRefIdeal.nD Cert.FfnInnerSampleRefIdeal.τ).loc Cert.FfnInnerSampleRefIdeal.main_arg1) = m' ((c.tc : Thread Cert.FfnInnerSampleRefIdeal.nD Cert.FfnInnerSampleRefIdeal.τ).loc Cert.FfnInnerSampleRefIdeal.main_arg1)
          ∧ r.2.mem ((c.tc : Thread Cert.FfnInnerSampleRefIdeal.nD Cert.FfnInnerSampleRefIdeal.τ).loc Cert.FfnInnerSampleRefIdeal.main_arg2) = m' ((c.tc : Thread Cert.FfnInnerSampleRefIdeal.nD Cert.FfnInnerSampleRefIdeal.τ).loc Cert.FfnInnerSampleRefIdeal.main_arg2)
          ∧ r.2.mem ((c.tc : Thread Cert.FfnInnerSampleRefIdeal.nD Cert.FfnInnerSampleRefIdeal.τ).loc Cert.FfnInnerSampleRefIdeal.main_arg3) = m' ((c.tc : Thread Cert.FfnInnerSampleRefIdeal.nD Cert.FfnInnerSampleRefIdeal.τ).loc Cert.FfnInnerSampleRefIdeal.main_arg3)
          ∧ r.2.mem ((c.tc : Thread Cert.FfnInnerSampleRefIdeal.nD Cert.FfnInnerSampleRefIdeal.τ).loc Cert.FfnInnerSampleRefIdeal.main_arg4) = m' ((c.tc : Thread Cert.FfnInnerSampleRefIdeal.nD Cert.FfnInnerSampleRefIdeal.τ).loc Cert.FfnInnerSampleRefIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hFfnInner : Cert.FfnInner.Facts) (hFfnInnerIdeal : Cert.FfnInnerIdeal.Facts) (hFfnInnerRefIdeal : Cert.FfnInnerRefIdeal.Facts) (hProj : Cert.Proj.Facts) (hProjIdeal : Cert.ProjIdeal.Facts) (hProjRefIdeal : Cert.ProjRefIdeal.Facts) (hProjSample : Cert.ProjSample.Facts) (hProjSampleIdeal : Cert.ProjSampleIdeal.Facts) (hProjSampleRefIdeal : Cert.ProjSampleRefIdeal.Facts) (hMerge : Cert.Merge.Facts) (hMergeIdeal : Cert.MergeIdeal.Facts) (hMergeRefIdeal : Cert.MergeRefIdeal.Facts) (hMergeSample : Cert.MergeSample.Facts) (hMergeSampleIdeal : Cert.MergeSampleIdeal.Facts) (hMergeSampleRefIdeal : Cert.MergeSampleRefIdeal.Facts) (hFfnSample : Cert.FfnSample.Facts) (hFfnSampleIdeal : Cert.FfnSampleIdeal.Facts) (hFfnSampleRefIdeal : Cert.FfnSampleRefIdeal.Facts) (hFfnInnerSample : Cert.FfnInnerSample.Facts) (hFfnInnerSampleIdeal : Cert.FfnInnerSampleIdeal.Facts) (hFfnInnerSampleRefIdeal : Cert.FfnInnerSampleRefIdeal.Facts) (hPre_pooled_finite : Cert.Pre_pooled_finite.Facts) (hPre_pooled_finite_sample : Cert.Pre_pooled_finite_sample.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnInner (hFfnInner := hFfnInner)
    ∧ quiescent_FfnInnerIdeal (hFfnInnerIdeal := hFfnInnerIdeal)
    ∧ quiescent_FfnInnerRefIdeal (hFfnInnerRefIdeal := hFfnInnerRefIdeal)
    ∧ quiescent_Proj (hProj := hProj)
    ∧ quiescent_ProjIdeal (hProjIdeal := hProjIdeal)
    ∧ quiescent_ProjRefIdeal (hProjRefIdeal := hProjRefIdeal)
    ∧ quiescent_ProjSample (hProjSample := hProjSample)
    ∧ quiescent_ProjSampleIdeal (hProjSampleIdeal := hProjSampleIdeal)
    ∧ quiescent_ProjSampleRefIdeal (hProjSampleRefIdeal := hProjSampleRefIdeal)
    ∧ quiescent_Merge (hMerge := hMerge)
    ∧ quiescent_MergeIdeal (hMergeIdeal := hMergeIdeal)
    ∧ quiescent_MergeIdeal_pre_pooled_finite (hMergeIdeal := hMergeIdeal) (hPre_pooled_finite := hPre_pooled_finite)
    ∧ quiescent_MergeRefIdeal (hMergeRefIdeal := hMergeRefIdeal)
    ∧ quiescent_MergeRefIdeal_pre_pooled_finite (hMergeRefIdeal := hMergeRefIdeal) (hPre_pooled_finite := hPre_pooled_finite)
    ∧ quiescent_MergeSample (hMergeSample := hMergeSample)
    ∧ quiescent_MergeSampleIdeal (hMergeSampleIdeal := hMergeSampleIdeal)
    ∧ quiescent_MergeSampleIdeal_pre_pooled_finite_sample (hMergeSampleIdeal := hMergeSampleIdeal) (hPre_pooled_finite_sample := hPre_pooled_finite_sample)
    ∧ quiescent_MergeSampleRefIdeal (hMergeSampleRefIdeal := hMergeSampleRefIdeal)
    ∧ quiescent_MergeSampleRefIdeal_pre_pooled_finite_sample (hMergeSampleRefIdeal := hMergeSampleRefIdeal) (hPre_pooled_finite_sample := hPre_pooled_finite_sample)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ quiescent_FfnInnerSample (hFfnInnerSample := hFfnInnerSample)
    ∧ quiescent_FfnInnerSampleIdeal (hFfnInnerSampleIdeal := hFfnInnerSampleIdeal)
    ∧ quiescent_FfnInnerSampleRefIdeal (hFfnInnerSampleRefIdeal := hFfnInnerSampleRefIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnRefIdeal (hFfnIdeal := hFfnIdeal) (hFfnRefIdeal := hFfnRefIdeal)
    ∧ preserves_FfnInner_FfnInnerIdeal
    ∧ algebraic_FfnInnerIdeal_FfnInnerRefIdeal (hFfnInnerIdeal := hFfnInnerIdeal) (hFfnInnerRefIdeal := hFfnInnerRefIdeal)
    ∧ preserves_Proj_ProjIdeal
    ∧ algebraic_ProjIdeal_ProjRefIdeal (hProjIdeal := hProjIdeal) (hProjRefIdeal := hProjRefIdeal)
    ∧ preserves_ProjSample_ProjSampleIdeal
    ∧ algebraic_ProjSampleIdeal_ProjSampleRefIdeal (hProjSampleIdeal := hProjSampleIdeal) (hProjSampleRefIdeal := hProjSampleRefIdeal)
    ∧ preserves_Merge_MergeIdeal
    ∧ algebraic_MergeIdeal_MergeRefIdeal_pre_pooled_finite (hMergeIdeal := hMergeIdeal) (hMergeRefIdeal := hMergeRefIdeal) (hPre_pooled_finite := hPre_pooled_finite)
    ∧ preserves_MergeSample_MergeSampleIdeal
    ∧ algebraic_MergeSampleIdeal_MergeSampleRefIdeal_pre_pooled_finite_sample (hMergeSampleIdeal := hMergeSampleIdeal) (hMergeSampleRefIdeal := hMergeSampleRefIdeal) (hPre_pooled_finite_sample := hPre_pooled_finite_sample)
    ∧ preserves_FfnSample_FfnSampleIdeal
    ∧ algebraic_FfnSampleIdeal_FfnSampleRefIdeal (hFfnSampleIdeal := hFfnSampleIdeal) (hFfnSampleRefIdeal := hFfnSampleRefIdeal)
    ∧ preserves_FfnInnerSample_FfnInnerSampleIdeal
    ∧ algebraic_FfnInnerSampleIdeal_FfnInnerSampleRefIdeal (hFfnInnerSampleIdeal := hFfnInnerSampleIdeal) (hFfnInnerSampleRefIdeal := hFfnInnerSampleRefIdeal)
-- ==== Pre_pooled_finite.lean ====
abbrev S4x8192x1024 : Shape := ⟨3, ![4, 8192, 1024]⟩
abbrev S4x8192x512 : Shape := ⟨3, ![4, 8192, 512]⟩
abbrev S1x4x128x128 : Shape := ⟨4, ![1, 4, 128, 128]⟩
abbrev S1x512 : Shape := ⟨2, ![1, 512]⟩
abbrev S1x512x1024 : Shape := ⟨3, ![1, 512, 1024]⟩
abbrev S1x1024x1024 : Shape := ⟨3, ![1, 1024, 1024]⟩
abbrev S_ : Shape := ⟨0, ![]⟩

class Facts : Prop where
  bcast_S_S4x8192x512 : S_.BroadcastsInDim S4x8192x512 (![] : Fin 0 → Fin S4x8192x512.rank)

variable [Facts]

def fn {F : FTy → Type} [FloatOps F] (main_arg0 : FVec F S4x8192x1024 .f32) (main_arg1 : FVec F S4x8192x512 .f32) (main_arg2 : FVec F S4x8192x512 .f32) (main_arg3 : FVec F S4x8192x1024 .f32) (main_arg4 : FVec F S4x8192x1024 .f32) (main_arg5 : FVec F S1x4x128x128 .f32) (main_arg6 : FVec F S1x512 .f32) (main_arg7 : FVec F S1x512x1024 .f32) (main_arg8 : FVec F S1x512x1024 .f32) (main_arg9 : FVec F S1x1024x1024 .f32) : IVec S4x8192x512 1 :=
  let main_v0 : FVec F S4x8192x512 .f32 := Host.absf main_arg1
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  main_v2
-- ==== Pre_pooled_finite_sample.lean ====
abbrev S8x32x1024 : Shape := ⟨3, ![8, 32, 1024]⟩
abbrev S8x32x512 : Shape := ⟨3, ![8, 32, 512]⟩
abbrev S1x8x15x512 : Shape := ⟨4, ![1, 8, 15, 512]⟩
abbrev S1x4x128x128 : Shape := ⟨4, ![1, 4, 128, 128]⟩
abbrev S1x512 : Shape := ⟨2, ![1, 512]⟩
abbrev S1x512x1024 : Shape := ⟨3, ![1, 512, 1024]⟩
abbrev S1x1024x1024 : Shape := ⟨3, ![1, 1024, 1024]⟩
abbrev S8x15x512 : Shape := ⟨3, ![8, 15, 512]⟩
abbrev S8x47x512 : Shape := ⟨3, ![8, 47, 512]⟩
abbrev S_ : Shape := ⟨0, ![]⟩

class Facts : Prop where
  shapeCasts_S1x8x15x512_S8x15x512 : S1x8x15x512.ShapeCasts S8x15x512
  concatenates_S8x15x512_S8x32x512_S8x47x512_d1 : Shape.Concatenates [S8x15x512, S8x32x512] S8x47x512 1
  bcast_S_S8x47x512 : S_.BroadcastsInDim S8x47x512 (![] : Fin 0 → Fin S8x47x512.rank)

variable [Facts]

def fn {F : FTy → Type} [FloatOps F] (main_arg0 : FVec F S8x32x1024 .f32) (main_arg1 : FVec F S8x32x512 .f32) (main_arg2 : FVec F S8x32x512 .f32) (main_arg3 : FVec F S8x32x1024 .f32) (main_arg4 : FVec F S8x32x1024 .f32) (main_arg5 : FVec F S1x8x15x512 .f32) (main_arg6 : FVec F S1x4x128x128 .f32) (main_arg7 : FVec F S1x512 .f32) (main_arg8 : FVec F S1x512x1024 .f32) (main_arg9 : FVec F S1x512x1024 .f32) (main_arg10 : FVec F S1x1024x1024 .f32) : IVec S8x47x512 1 :=
  let main_v0 : FVec F S8x15x512 .f32 := shapeCast S8x15x512 main_arg5 shapeCasts_S1x8x15x512_S8x15x512
  let main_v1 : FVec F S8x47x512 .f32 := (fun a b => concatenate S8x47x512 1 [⟨S8x15x512, a⟩, ⟨S8x32x512, b⟩] concatenates_S8x15x512_S8x32x512_S8x47x512_d1) main_v0 main_arg1
  let main_v2 : FVec F S8x47x512 .f32 := Host.absf main_v1
  let main_cst : FVec F S_ .f32 := constant S_ .f32 0x7F800000#32
  let main_v3 : FVec F S8x47x512 .f32 := broadcastInDim S8x47x512 ![] bcast_S_S8x47x512 main_cst
  let main_v4 : IVec S8x47x512 1 := cmpf .olt main_v2 main_v3
  main_v4
-- ==== Kernel.lean ====
abbrev S256x512 : Shape := ⟨2, ![256, 512]⟩
abbrev S1x8x8x1024x64 : Shape := ⟨5, ![1, 8, 8, 1024, 64]⟩
abbrev S_ : Shape := ⟨0, ![]⟩
abbrev S256x1536 : Shape := ⟨2, ![256, 1536]⟩
abbrev S8x8x1024x64 : Shape := ⟨4, ![8, 8, 1024, 64]⟩
abbrev S8x1024x8x64 : Shape := ⟨4, ![8, 1024, 8, 64]⟩
abbrev S8x1024x512 : Shape := ⟨3, ![8, 1024, 512]⟩
abbrev S8x32x512 : Shape := ⟨3, ![8, 32, 512]⟩
abbrev S8x1056x512 : Shape := ⟨3, ![8, 1056, 512]⟩
abbrev S8448x512 : Shape := ⟨2, ![8448, 512]⟩
abbrev S32x512 : Shape := ⟨2, ![32, 512]⟩
abbrev S1056x512 : Shape := ⟨2, ![1056, 512]⟩
abbrev S256x128 : Shape := ⟨2, ![256, 128]⟩
abbrev S1x128 : Shape := ⟨2, ![1, 128]⟩
abbrev S256x256 : Shape := ⟨2, ![256, 256]⟩
abbrev S32x1 : Shape := ⟨2, ![32, 1]⟩
abbrev S32x128 : Shape := ⟨2, ![32, 128]⟩
abbrev S64x128 : Shape := ⟨2, ![64, 128]⟩
abbrev S64x256 : Shape := ⟨2, ![64, 256]⟩
abbrev S32x256 : Shape := ⟨2, ![32, 256]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S1x256 : Shape := ⟨2, ![1, 256]⟩
abbrev S256x1 : Shape := ⟨2, ![256, 1]⟩

abbrev nBuf : Space → Nat
  | .hbm => 33
  | .vmem => 10
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S1x8x8x1024x64, .f32⟩
  | .hbm, ⟨4, _⟩ => ⟨S1x8x8x1024x64, .f32⟩
  | .hbm, ⟨5, _⟩ => ⟨S_, .f32⟩
  | .hbm, ⟨6, _⟩ => ⟨S256x512, .f32⟩
  | .hbm, ⟨7, _⟩ => ⟨S256x512, .f32⟩
  | .hbm, ⟨8, _⟩ => ⟨S_, .f32⟩
  | .hbm, ⟨9, _⟩ => ⟨S_, .f32⟩
  | .hbm, ⟨10, _⟩ => ⟨S256x512, .f32⟩
  | .hbm, ⟨11, _⟩ => ⟨S256x512, .f32⟩
  | .hbm, ⟨12, _⟩ => ⟨S256x512, .bf16⟩
  | .hbm, ⟨13, _⟩ => ⟨S256x512, .bf16⟩
  | .hbm, ⟨14, _⟩ => ⟨S256x512, .bf16⟩
  | .hbm, ⟨15, _⟩ => ⟨S256x1536, .bf16⟩
  | .hbm, ⟨16, _⟩ => ⟨S8x8x1024x64, .f32⟩
  | .hbm, ⟨17, _⟩ => ⟨S8x1024x8x64, .f32⟩
  | .hbm, ⟨18, _⟩ => ⟨S8x1024x512, .f32⟩
  | .hbm, ⟨19, _⟩ => ⟨S8x1024x512, .bf16⟩
  | .hbm, ⟨20, _⟩ => ⟨S256x512, .bf16⟩
  | .hbm, ⟨21, _⟩ => ⟨S8x32x512, .bf16⟩
  | .hbm, ⟨22, _⟩ => ⟨S8x1056x512, .bf16⟩
  | .hbm, ⟨23, _⟩ => ⟨S8448x512, .bf16⟩
  | .hbm, ⟨24, _⟩ => ⟨S8x8x1024x64, .f32⟩
  | .hbm, ⟨25, _⟩ => ⟨S8x1024x8x64, .f32⟩
  | .hbm, ⟨26, _⟩ => ⟨S8x1024x512, .f32⟩
  | .hbm, ⟨27, _⟩ => ⟨S8x1024x512, .bf16⟩
  | .hbm, ⟨28, _⟩ => ⟨S256x512, .bf16⟩
  | .hbm, ⟨29, _⟩ => ⟨S8x32x512, .bf16⟩
  | .hbm, ⟨30, _⟩ => ⟨S8x1056x512, .bf16⟩
  | .hbm, ⟨31, _⟩ => ⟨S8448x512, .bf16⟩
  | .hbm, ⟨32, _⟩ => ⟨S256x512, .bf16⟩
  | .local _ .vmem, ⟨0, _⟩ => ⟨S32x512, .bf16⟩
  | .local _ .vmem, ⟨1, _⟩ => ⟨S32x512, .bf16⟩
  | .local _ .vmem, ⟨2, _⟩ => ⟨S1056x512, .bf16⟩
  | .local _ .vmem, ⟨3, _⟩ => ⟨S1056x512, .bf16⟩
  | .local _ .vmem, ⟨4, _⟩ => ⟨S1056x512, .bf16⟩
  | .local _ .vmem, ⟨5, _⟩ => ⟨S1056x512, .bf16⟩
  | .local _ .vmem, ⟨6, _⟩ => ⟨S32x512, .bf16⟩
  | .local _ .vmem, ⟨7, _⟩ => ⟨S32x512, .bf16⟩
  | .local _ .vmem, ⟨8, _⟩ => ⟨S32x512, .f32⟩
  | .local _ .vmem, ⟨9, _⟩ => ⟨S256x128, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let c1024_i32 : BitVec 32 := 1024#32
  let arg1 : BitVec 32 := BitVec.ofNat 32 (i 1).val
  let c32_i32 : BitVec 32 := 32#32
  let v0 : BitVec 32 := Scalar.muli arg1 c32_i32
  let v1 : BitVec 32 := Scalar.addi c1024_i32 v0
  let c32_i32_1 : BitVec 32 := 32#32
  let v12 : BitVec 32 := Scalar.addi v1 c32_i32_1
  let c256_i32 : BitVec 32 := 256#32
  let v13 : BitVec 1 := Scalar.cmpi .sge v12 c256_i32
  let v14 : BitVec 32 := Scalar.extui v13
  let c0_i32 : BitVec 32 := 0#32
  let v15 : BitVec 1 := Scalar.cmpi .ne v14 c0_i32
  v15

def k0_mult1 (i : grid0.Coords) : BitVec 32 :=
  let c1024_i32 : BitVec 32 := 1024#32
  let arg1 : BitVec 32 := BitVec.ofNat 32 (i 1).val
  let c32_i32 : BitVec 32 := 32#32
  let v0 : BitVec 32 := Scalar.muli arg1 c32_i32
  let v1 : BitVec 32 := Scalar.addi c1024_i32 v0
  let c0_i32_5 : BitVec 32 := 0#32
  let v21 : BitVec 32 := Scalar.addi v1 c0_i32_5
  let c32_i32_6 : BitVec 32 := 32#32
  let v22 : BitVec 32 := Scalar.addi v21 c32_i32_6
  let c0_i32_7 : BitVec 32 := 0#32
  let v23 : BitVec 32 := Scalar.subi v22 c0_i32_7
  let c256_i32_8 : BitVec 32 := 256#32
  let v27 : BitVec 32 := Scalar.subi v23 c256_i32_8
  v27
def k0_off1 (i : grid0.Coords) : Fin 2 → Nat :=
  let c1024_i32 : BitVec 32 := 1024#32
  let arg1 : BitVec 32 := BitVec.ofNat 32 (i 1).val
  let c32_i32 : BitVec 32 := 32#32
  let v0 : BitVec 32 := Scalar.muli arg1 c32_i32
  let v1 : BitVec 32 := Scalar.addi c1024_i32 v0
  let c0_i32_5 : BitVec 32 := 0#32
  let v21 : BitVec 32 := Scalar.addi v1 c0_i32_5
  let c32_i32_6 : BitVec 32 := 32#32
  let v22 : BitVec 32 := Scalar.addi v21 c32_i32_6
  let c0_i32_7 : BitVec 32 := 0#32
  let v23 : BitVec 32 := Scalar.subi v22 c0_i32_7
  let c256_i32_8 : BitVec 32 := 256#32
  let v27 : BitVec 32 := Scalar.subi v23 c256_i32_8
  let v28 : BitVec 32 := v27
  let v36 : Index := Scalar.indexCast v28
  let c0_9 : Index := 0#32
  ![v36.toNat, 0]
def k0_mult2 (i : grid0.Coords) : BitVec 32 :=
  let c1024_i32 : BitVec 32 := 1024#32
  let arg1 : BitVec 32 := BitVec.ofNat 32 (i 1).val
  let c32_i32 : BitVec 32 := 32#32
  let v0 : BitVec 32 := Scalar.muli arg1 c32_i32
  let v1 : BitVec 32 := Scalar.addi c1024_i32 v0
  let c0_i32_5 : BitVec 32 := 0#32
  let v21 : BitVec 32 := Scalar.addi v1 c0_i32_5
  let c32_i32_6 : BitVec 32 := 32#32
  let v22 : BitVec 32 := Scalar.addi v21 c32_i32_6
  let c0_i32_7 : BitVec 32 := 0#32
  let v23 : BitVec 32 := Scalar.subi v22 c0_i32_7
  let c256_i32_8 : BitVec 32 := 256#32
  let v27 : BitVec 32 := Scalar.subi v23 c256_i32_8
  let c0_i32_9 : BitVec 32 := 0#32
  let v28 : BitVec 32 := Scalar.maxsi v27 c0_i32_9
  v28
def k0_off2 (i : grid0.Coords) : Fin 2 → Nat :=
  let c1024_i32 : BitVec 32 := 1024#32
  let arg1 : BitVec 32 := BitVec.ofNat 32 (i 1).val
  let c32_i32 : BitVec 32 := 32#32
  let v0 : BitVec 32 := Scalar.muli arg1 c32_i32
  let v1 : BitVec 32 := Scalar.addi c1024_i32 v0
  let c0_i32_5 : BitVec 32 := 0#32
  let v21 : BitVec 32 := Scalar.addi v1 c0_i32_5
  let c32_i32_6 : BitVec 32 := 32#32
  let v22 : BitVec 32 := Scalar.addi v21 c32_i32_6
  let c0_i32_7 : BitVec 32 := 0#32
  let v23 : BitVec 32 := Scalar.subi v22 c0_i32_7
  let c256_i32_8 : BitVec 32 := 256#32
  let v27 : BitVec 32 := Scalar.subi v23 c256_i32_8
  let c0_i32_9 : BitVec 32 := 0#32
  let v28 : BitVec 32 := Scalar.maxsi v27 c0_i32_9
  let v29 : BitVec 32 := v28
  let v36 : Index := Scalar.indexCast v29
  let c0_10 : Index := 0#32
  ![v36.toNat, 0]
def k0_mult3 (i : grid0.Coords) (arg8 : BitVec 32) : BitVec 32 :=
  let c1024_i32 : BitVec 32 := 1024#32
  let arg1 : BitVec 32 := BitVec.ofNat 32 (i 1).val
  let c32_i32 : BitVec 32 := 32#32
  let v0 : BitVec 32 := Scalar.muli arg1 c32_i32
  let v1 : BitVec 32 := Scalar.addi c1024_i32 v0
  let c0_i32_6 : BitVec 32 := 0#32
  let v22 : BitVec 32 := Scalar.addi v1 c0_i32_6
  let c32_i32_7 : BitVec 32 := 32#32
  let v23 : BitVec 32 := Scalar.addi v22 c32_i32_7
  let c256_i32_8 : BitVec 32 := 256#32
  let v24 : BitVec 32 := Scalar.muli arg8 c256_i32_8
  let v25 : BitVec 32 := Scalar.subi v23 v24
  let c256_i32_9 : BitVec 32 := 256#32
  let v29 : BitVec 32 := Scalar.subi v25 c256_i32_9
  let c0_i32_10 : BitVec 32 := 0#32
  let v30 : BitVec 32 := Scalar.maxsi v29 c0_i32_10
  v30

def k0_off3 (i : grid0.Coords) (arg8 : BitVec 32) : Fin 2 → Nat :=
  let c1024_i32 : BitVec 32 := 1024#32
  let arg1 : BitVec 32 := BitVec.ofNat 32 (i 1).val
  let c32_i32 : BitVec 32 := 32#32
  let v0 : BitVec 32 := Scalar.muli arg1 c32_i32
  let v1 : BitVec 32 := Scalar.addi c1024_i32 v0
  let c0_i32_6 : BitVec 32 := 0#32
  let v22 : BitVec 32 := Scalar.addi v1 c0_i32_6
  let c32_i32_7 : BitVec 32 := 32#32
  let v23 : BitVec 32 := Scalar.addi v22 c32_i32_7
  let c256_i32_8 : BitVec 32 := 256#32
  let v24 : BitVec 32 := Scalar.muli arg8 c256_i32_8
  let v25 : BitVec 32 := Scalar.subi v23 v24
  let c256_i32_9 : BitVec 32 := 256#32
  let v29 : BitVec 32 := Scalar.subi v25 c256_i32_9
  let c0_i32_10 : BitVec 32 := 0#32
  let v30 : BitVec 32 := Scalar.maxsi v29 c0_i32_10
  let v31 : BitVec 32 := v30
  let v37 : Index := Scalar.indexCast v31
  let c0_11 : Index := 0#32
  ![v37.toNat, 0]

def k0_chk1 (i : grid0.Coords) (arg8 : BitVec 32) : Prop :=
  (32 ∣ (k0_mult3 i arg8).toNat) ∧
  (∀ a, (k0_off3 i arg8) a + S256x512.size a ≤ S1056x512.size a)
theorem k0_mult3_dvd : ∀ (i : grid0.Coords) (arg8 : BitVec 32) (k0_hw1 : k0_chk1 i arg8), 32 ∣ (k0_mult3 i arg8).toNat := fun i arg8 k0_hw1 => k0_hw1.1
theorem k0_off3_inb : ∀ (i : grid0.Coords) (arg8 : BitVec 32) (k0_hw1 : k0_chk1 i arg8), ∀ a, (k0_off3 i arg8) a + S256x512.size a ≤ S1056x512.size a := fun i arg8 k0_hw1 => k0_hw1.2

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1056x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1056x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "log2e" => some (((Real.log 2)⁻¹ : ℝ) : EReal)
  | "masked" => some ⊥
  | "survival" => some ⊤
  | _ => none
-- ==== ReferenceIdeal.lean ====
abbrev S256x512 : Shape := ⟨2, ![256, 512]⟩
abbrev S1x8x8x1024x64 : Shape := ⟨5, ![1, 8, 8, 1024, 64]⟩
abbrev S8x32x8x64 : Shape := ⟨4, ![8, 32, 8, 64]⟩
abbrev S8x8x32x64 : Shape := ⟨4, ![8, 8, 32, 64]⟩
abbrev S8x8x1024x64 : Shape := ⟨4, ![8, 8, 1024, 64]⟩
abbrev S8x8x1056x64 : Shape := ⟨4, ![8, 8, 1056, 64]⟩
abbrev S32 : Shape := ⟨1, ![32]⟩
abbrev S_ : Shape := ⟨0, ![]⟩
abbrev S1056 : Shape := ⟨1, ![1056]⟩
abbrev S8x8x32x1056 : Shape := ⟨4, ![8, 8, 32, 1056]⟩
abbrev S1x1056 : Shape := ⟨2, ![1, 1056]⟩
abbrev S32x1 : Shape := ⟨2, ![32, 1]⟩
abbrev S32x1056 : Shape := ⟨2, ![32, 1056]⟩

abbrev nBuf : Space → Nat
  | .hbm => 82
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S1x8x8x1024x64, .f32⟩
  | .hbm, ⟨4, _⟩ => ⟨S1x8x8x1024x64, .f32⟩
  | .hbm, ⟨5, _⟩ => ⟨S8x32x8x64, .f32⟩
  | .hbm, ⟨6, _⟩ => ⟨S8x8x32x64, .f32⟩
  | .hbm, ⟨7, _⟩ => ⟨S8x8x1024x64, .f32⟩
  | .hbm, ⟨8, _⟩ => ⟨S8x32x8x64, .f32⟩
  | .hbm, ⟨9, _⟩ => ⟨S8x8x32x64, .f32⟩
  | .hbm, ⟨10, _⟩ => ⟨S8x8x1056x64, .f32⟩
  | .hbm, ⟨11, _⟩ => ⟨S8x8x1024x64, .f32⟩
  | .hbm, ⟨12, _⟩ => ⟨S8x32x8x64, .f32⟩
  | .hbm, ⟨13, _⟩ => ⟨S8x8x32x64, .f32⟩
  | .hbm, ⟨14, _⟩ => ⟨S8x8x1056x64, .f32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i32⟩
  | .hbm, ⟨19, _⟩ => ⟨S1056, .i32⟩
  | .hbm, ⟨20, _⟩ => ⟨S8x8x32x1056, .f32⟩
  | .hbm, ⟨21, _⟩ => ⟨S_, .f32⟩
  | .hbm, ⟨22, _⟩ => ⟨S8x8x32x1056, .f32⟩
  | .hbm, ⟨23, _⟩ => ⟨S8x8x32x1056, .f32⟩
  | .hbm, ⟨24, _⟩ => ⟨S1x1056, .i32⟩
  | .hbm, ⟨25, _⟩ => ⟨S32x1, .i32⟩
  | .hbm, ⟨26, _⟩ => ⟨S32x1056, .i32⟩
  | .hbm, ⟨27, _⟩ => ⟨S32x1056, .i32⟩
  | .hbm, ⟨28, _⟩ => ⟨S32x1056, .i1⟩
  | .hbm, ⟨29, _⟩ => ⟨S8x8x32x1056, .f32⟩
  | .hbm, ⟨30, _⟩ => ⟨S8x8x32x1056, .f32⟩
  | .hbm, ⟨31, _⟩ => ⟨S_, .f32⟩
  | .hbm, ⟨32, _⟩ => ⟨S8x8x32x1056, .f32⟩
  | .hbm, ⟨33, _⟩ => ⟨S8x8x32x1056, .f32⟩
  | .hbm, ⟨34, _⟩ => ⟨S8x8x32x1056, .f32⟩
  | .hbm, ⟨35, _⟩ => ⟨S8x8x32x1056, .f32⟩
  | .hbm, ⟨36, _⟩ => ⟨S8x8x32x1056, .i1⟩
  | .hbm, ⟨37, _⟩ => ⟨S8x8x32x1056, .f32⟩
  | .hbm, ⟨38, _⟩ => ⟨S8x8x32x1056, .f32⟩
  | .hbm, ⟨39, _⟩ => ⟨S8x8x32x1056, .f32⟩
  | .hbm, ⟨40, _⟩ => ⟨S8x8x32x1056, .f32⟩
  | .hbm, ⟨41, _⟩ => ⟨S8x8x32x1056, .f32⟩
  | .hbm, ⟨42, _⟩ => ⟨S8x8x32x1056, .f32⟩
  | .hbm, ⟨43, _⟩ => ⟨S8x8x32x1056, .f32⟩
  | .hbm, ⟨44, _⟩ => ⟨S8x8x32x1056, .f32⟩
  | .hbm, ⟨45, _⟩ => ⟨S8x8x32x1056, .f32⟩
  | .hbm, ⟨46, _⟩ => ⟨S_, .f32⟩
  | .hbm, ⟨47, _⟩ => ⟨S_, .f32⟩
  | .hbm, ⟨48, _⟩ => ⟨S8x8x32x1056, .i1⟩
  | .hbm, ⟨49, _⟩ => ⟨S8x8x32x1056, .f32⟩
  | .hbm, ⟨50, _⟩ => ⟨S8x8x32x1056, .f32⟩
  | .hbm, ⟨51, _⟩ => ⟨S_, .f32⟩
  | .hbm, ⟨52, _⟩ => ⟨S_, .f32⟩
  | .hbm, ⟨53, _⟩ => ⟨S8x8x32x1056, .f32⟩
  | .hbm, ⟨54, _⟩ => ⟨S8x8x32x1056, .f32⟩
  | .hbm, ⟨55, _⟩ => ⟨S8x8x32x1056, .f32⟩
  | .hbm, ⟨56, _⟩ => ⟨S_, .f32⟩
  | .hbm, ⟨57, _⟩ => ⟨S8x8x32x1056, .f32⟩
  | .hbm, ⟨58, _⟩ => ⟨S8x8x32x1056, .f32⟩
  | .hbm, ⟨59, _⟩ => ⟨S8x8x32x1056, .f32⟩
  | .hbm, ⟨60, _⟩ => ⟨S8x8x32x1056, .f32⟩
  | .hbm, ⟨61, _⟩ => ⟨S8x8x32x1056, .i1⟩
  | .hbm, ⟨62, _⟩ => ⟨S8x8x32x1056, .f32⟩
  | .hbm, ⟨63, _⟩ => ⟨S8x8x32x1056, .f32⟩
  | .hbm, ⟨64, _⟩ => ⟨S8x8x32x1056, .f32⟩
  | .hbm, ⟨65, _⟩ => ⟨S8x8x32x1056, .f32⟩
  | .hbm, ⟨66, _⟩ => ⟨S8x8x32x1056, .f32⟩
  | .hbm, ⟨67, _⟩ => ⟨S8x8x32x1056, .f32⟩
  | .hbm, ⟨68, _⟩ => ⟨S8x8x32x1056, .f32⟩
  | .hbm, ⟨69, _⟩ => ⟨S8x8x32x1056, .f32⟩
  | .hbm, ⟨70, _⟩ => ⟨S8x8x32x1056, .f32⟩
  | .hbm, ⟨71, _⟩ => ⟨S8x8x32x1056, .f32⟩
  | .hbm, ⟨72, _⟩ => ⟨S8x8x32x1056, .f32⟩
  | .hbm, ⟨73, _⟩ => ⟨S_, .f32⟩
  | .hbm, ⟨74, _⟩ => ⟨S_, .f32⟩
  | .hbm, ⟨75, _⟩ => ⟨S8x8x32x1056, .i1⟩
  | .hbm, ⟨76, _⟩ => ⟨S8x8x32x1056, .f32⟩
  | .hbm, ⟨77, _⟩ => ⟨S8x8x32x1056, .f32⟩
  | .hbm, ⟨78, _⟩ => ⟨S8x8x32x64, .f32⟩
  | .hbm, ⟨79, _⟩ => ⟨S8x32x8x64, .f32⟩
  | .hbm, ⟨80, _⟩ => ⟨S256x512, .f32⟩
  | .hbm, ⟨81, _⟩ => ⟨S256x512, .bf16⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1 : Ref sig .tc := ⟨.hbm, 44, rfl⟩
abbrev main_v23 : Ref sig .tc := ⟨.hbm, 45, rfl⟩
abbrev main_cst_0 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v24 : Ref sig .tc := ⟨.hbm, 50, rfl⟩
abbrev main_call2_cst : Ref sig .tc := ⟨.hbm, 51, rfl⟩
abbrev main_call2_v0 : Ref sig .tc := ⟨.hbm, 52, rfl⟩
abbrev main_v25 : Ref sig .tc := ⟨.hbm, 53, rfl⟩
abbrev main_v26 : Ref sig .tc := ⟨.hbm, 54, rfl⟩
abbrev main_call3_v0 : Ref sig .tc := ⟨.hbm, 55, rfl⟩
abbrev main_call3_call0_cst : Ref sig .tc := ⟨.hbm, 56, rfl⟩
abbrev main_call3_call0_v0 : Ref sig .tc := ⟨.hbm, 57, rfl⟩
abbrev main_call3_call0_v1 : Ref sig .tc := ⟨.hbm, 58, rfl⟩
abbrev main_call3_call0_v2 : Ref sig .tc := ⟨.hbm, 59, rfl⟩
abbrev main_call3_call0_v3 : Ref sig .tc := ⟨.hbm, 60, rfl⟩
abbrev main_call3_call0_v4 : Ref sig .tc := ⟨.hbm, 61, rfl⟩
abbrev main_call3_call0_v5 : Ref sig .tc := ⟨.hbm, 62, rfl⟩
abbrev main_call3_call0_v6 : Ref sig .tc := ⟨.hbm, 63, rfl⟩
abbrev main_call3_call0_v7 : Ref sig .tc := ⟨.hbm, 64, rfl⟩
abbrev main_call3_call0_v8 : Ref sig .tc := ⟨.hbm, 65, rfl⟩
abbrev main_call3_call0_v9 : Ref sig .tc := ⟨.hbm, 66, rfl⟩
abbrev main_call3_call0_v10 : Ref sig .tc := ⟨.hbm, 67, rfl⟩
abbrev main_call3_call0_v11 : Ref sig .tc := ⟨.hbm, 68, rfl⟩
abbrev main_call3_v1 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_cst_1 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩

abbrev nD : Nat := 1
abbrev τ : Topo := Topo.v7x

variable {F : FTy → Type} [FloatOps F]
-- ==== Ffn.lean ====
abbrev S4x8192x1024 : Shape := ⟨3, ![4, 8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S32768x1024 : Shape := ⟨2, ![32768, 1024]⟩
abbrev S1024x4096 : Shape := ⟨2, ![1024, 4096]⟩
abbrev S4096x1024 : Shape := ⟨2, ![4096, 1024]⟩
abbrev S1024x1024 : Shape := ⟨2, ![1024, 1024]⟩
abbrev S1024x1 : Shape := ⟨2, ![1024, 1]⟩

abbrev nBuf : Space → Nat
  | .hbm => 15
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x4096, .f32⟩
  | .hbm, ⟨3, _⟩ => ⟨S1x1024x4096, .f32⟩
  | .hbm, ⟨4, _⟩ => ⟨S1x4096x1024, .f32⟩
  | .hbm, ⟨5, _⟩ => ⟨S1024, .f32⟩
  | .hbm, ⟨6, _⟩ => ⟨S32768x1024, .f32⟩
  | .hbm, ⟨7, _⟩ => ⟨S1024x4096, .f32⟩
  | .hbm, ⟨8, _⟩ => ⟨S1024x4096, .bf16⟩
  | .hbm, ⟨9, _⟩ => ⟨S1024x4096, .f32⟩
  | .hbm, ⟨10, _⟩ => ⟨S1024x4096, .bf16⟩
  | .hbm, ⟨11, _⟩ => ⟨S4096x1024, .f32⟩
  | .hbm, ⟨12, _⟩ => ⟨S4096x1024, .bf16⟩
  | .hbm, ⟨13, _⟩ => ⟨S1x1024, .f32⟩
  | .hbm, ⟨14, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S1024x4096, .bf16⟩
  | .local _ .vmem, ⟨5, _⟩ => ⟨S4096x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S4x8192x1024 : Shape := ⟨3, ![4, 8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x4096 : Shape := ⟨2, ![1024, 4096]⟩
abbrev S4096x1024 : Shape := ⟨2, ![4096, 1024]⟩
abbrev S4x8192x4096 : Shape := ⟨3, ![4, 8192, 4096]⟩
abbrev S32768x1024 : Shape := ⟨2, ![32768, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x4096, .f32⟩
  | .hbm, ⟨3, _⟩ => ⟨S1x1024x4096, .f32⟩
  | .hbm, ⟨4, _⟩ => ⟨S1x4096x1024, .f32⟩
  | .hbm, ⟨5, _⟩ => ⟨S1024, .f32⟩
  | .hbm, ⟨6, _⟩ => ⟨S1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S1024x4096, .f32⟩
  | .hbm, ⟨24, _⟩ => ⟨S1024x4096, .f32⟩
  | .hbm, ⟨25, _⟩ => ⟨S4096x1024, .f32⟩
  | .hbm, ⟨26, _⟩ => ⟨S4x8192x4096, .f32⟩
  | .hbm, ⟨27, _⟩ => ⟨S4x8192x4096, .f32⟩
  | .hbm, ⟨28, _⟩ => ⟨S4x8192x4096, .f32⟩
  | .hbm, ⟨29, _⟩ => ⟨S_, .f32⟩
  | .hbm, ⟨30, _⟩ => ⟨S4x8192x4096, .f32⟩
  | .hbm, ⟨31, _⟩ => ⟨S4x8192x4096, .f32⟩
  | .hbm, ⟨32, _⟩ => ⟨S_, .f32⟩
  | .hbm, ⟨33, _⟩ => ⟨S4x8192x4096, .f32⟩
  | .hbm, ⟨34, _⟩ => ⟨S4x8192x4096, .f32⟩
  | .hbm, ⟨35, _⟩ => ⟨S4x8192x4096, .f32⟩
  | .hbm, ⟨36, _⟩ => ⟨S4x8192x4096, .f32⟩
  | .hbm, ⟨37, _⟩ => ⟨S4x8192x4096, .f32⟩
  | .hbm, ⟨38, _⟩ => ⟨S4x8192x1024, .f32⟩
  | .hbm, ⟨39, _⟩ => ⟨S_, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S4x8192x1024, .f32⟩
  | .hbm, ⟨44, _⟩ => ⟨S_, .f32⟩
  | .hbm, ⟨45, _⟩ => ⟨S4x8192, .f32⟩
  | .hbm, ⟨46, _⟩ => ⟨S4x8192x1, .f32⟩
  | .hbm, ⟨47, _⟩ => ⟨S_, .f32⟩
  | .hbm, ⟨48, _⟩ => ⟨S4x8192x1, .f32⟩
  | .hbm, ⟨49, _⟩ => ⟨S4x8192x1, .f32⟩
  | .hbm, ⟨50, _⟩ => ⟨S_, .f32⟩
  | .hbm, ⟨51, _⟩ => ⟨S4x8192x1, .f32⟩
  | .hbm, ⟨52, _⟩ => ⟨S4x8192x1, .f32⟩
  | .hbm, ⟨53, _⟩ => ⟨S4x8192x1, .f32⟩
  | .hbm, ⟨54, _⟩ => ⟨S4x8192x1024, .f32⟩
  | .hbm, ⟨55, _⟩ => ⟨S4x8192x1024, .f32⟩
  | .hbm, ⟨56, _⟩ => ⟨S1x1x1024, .f32⟩
  | .hbm, ⟨57, _⟩ => ⟨S4x8192x1024, .f32⟩
  | .hbm, ⟨58, _⟩ => ⟨S4x8192x1024, .f32⟩
  | .hbm, ⟨59, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== FfnInner.lean ====
abbrev S4x8192x1024 : Shape := ⟨3, ![4, 8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S32768x1024 : Shape := ⟨2, ![32768, 1024]⟩
abbrev S1024x4096 : Shape := ⟨2, ![1024, 4096]⟩
abbrev S4096x1024 : Shape := ⟨2, ![4096, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 13
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x4096, .f32⟩
  | .hbm, ⟨3, _⟩ => ⟨S1x1024x4096, .f32⟩
  | .hbm, ⟨4, _⟩ => ⟨S1x4096x1024, .f32⟩
  | .hbm, ⟨5, _⟩ => ⟨S32768x1024, .f32⟩
  | .hbm, ⟨6, _⟩ => ⟨S1024x4096, .f32⟩
  | .hbm, ⟨7, _⟩ => ⟨S1024x4096, .bf16⟩
  | .hbm, ⟨8, _⟩ => ⟨S1024x4096, .f32⟩
  | .hbm, ⟨9, _⟩ => ⟨S1024x4096, .bf16⟩
  | .hbm, ⟨10, _⟩ => ⟨S4096x1024, .f32⟩
  | .hbm, ⟨11, _⟩ => ⟨S4096x1024, .bf16⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S1024x4096, .bf16⟩
  | .local _ .vmem, ⟨5, _⟩ => ⟨S4096x1024, .bf16⟩
  | .local _ .vmem, ⟨6, _⟩ => ⟨S1024x1024, .f32⟩
  | .local _ .vmem, ⟨7, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnInnerRefIdeal.lean ====
abbrev S4x8192x1024 : Shape := ⟨3, ![4, 8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x4096 : Shape := ⟨2, ![1024, 4096]⟩
abbrev S4096x1024 : Shape := ⟨2, ![4096, 1024]⟩
abbrev S4x8192x4096 : Shape := ⟨3, ![4, 8192, 4096]⟩
abbrev S32768x1024 : Shape := ⟨2, ![32768, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x4096, .f32⟩
  | .hbm, ⟨3, _⟩ => ⟨S1x1024x4096, .f32⟩
  | .hbm, ⟨4, _⟩ => ⟨S1x4096x1024, .f32⟩
  | .hbm, ⟨5, _⟩ => ⟨S1024, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S1024x4096, .f32⟩
  | .hbm, ⟨23, _⟩ => ⟨S1024x4096, .f32⟩
  | .hbm, ⟨24, _⟩ => ⟨S4096x1024, .f32⟩
  | .hbm, ⟨25, _⟩ => ⟨S4x8192x4096, .f32⟩
  | .hbm, ⟨26, _⟩ => ⟨S4x8192x4096, .f32⟩
  | .hbm, ⟨27, _⟩ => ⟨S4x8192x4096, .f32⟩
  | .hbm, ⟨28, _⟩ => ⟨S_, .f32⟩
  | .hbm, ⟨29, _⟩ => ⟨S4x8192x4096, .f32⟩
  | .hbm, ⟨30, _⟩ => ⟨S4x8192x4096, .f32⟩
  | .hbm, ⟨31, _⟩ => ⟨S_, .f32⟩
  | .hbm, ⟨32, _⟩ => ⟨S4x8192x4096, .f32⟩
  | .hbm, ⟨33, _⟩ => ⟨S4x8192x4096, .f32⟩
  | .hbm, ⟨34, _⟩ => ⟨S4x8192x4096, .f32⟩
  | .hbm, ⟨35, _⟩ => ⟨S4x8192x4096, .f32⟩
  | .hbm, ⟨36, _⟩ => ⟨S4x8192x4096, .f32⟩
  | .hbm, ⟨37, _⟩ => ⟨S4x8192x1024, .f32⟩
  | .hbm, ⟨38, _⟩ => ⟨S_, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Proj.lean ====
abbrev S4x8192x1024 : Shape := ⟨3, ![4, 8192, 1024]⟩
abbrev S1x1024 : Shape := ⟨2, ![1, 1024]⟩
abbrev S1x1024x4096 : Shape := ⟨3, ![1, 1024, 4096]⟩
abbrev S32768x1024 : Shape := ⟨2, ![32768, 1024]⟩
abbrev S1024x4096 : Shape := ⟨2, ![1024, 4096]⟩
abbrev S32768x512 : Shape := ⟨2, ![32768, 512]⟩
abbrev S32768x1536 : Shape := ⟨2, ![32768, 1536]⟩
abbrev S4x8x8192x64 : Shape := ⟨4, ![4, 8, 8192, 64]⟩
abbrev S32768x2048 : Shape := ⟨2, ![32768, 2048]⟩
abbrev S1024x1024 : Shape := ⟨2, ![1024, 1024]⟩
abbrev S1024x512 : Shape := ⟨2, ![1024, 512]⟩
abbrev S1024x1536 : Shape := ⟨2, ![1024, 1536]⟩
abbrev S1x8x1024x64 : Shape := ⟨4, ![1, 8, 1024, 64]⟩
abbrev S1024x2048 : Shape := ⟨2, ![1024, 2048]⟩
abbrev S1024 : Shape := ⟨1, ![1024]⟩
abbrev S1024x1 : Shape := ⟨2, ![1024, 1]⟩
abbrev S1024x64 : Shape := ⟨2, ![1024, 64]⟩
abbrev S1x1x1024x64 : Shape := ⟨4, ![1, 1, 1024, 64]⟩

abbrev nBuf : Space → Nat
  | .hbm => 11
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x4096, .f32⟩
  | .hbm, ⟨3, _⟩ => ⟨S32768x1024, .f32⟩
  | .hbm, ⟨4, _⟩ => ⟨S1024x4096, .f32⟩
  | .hbm, ⟨5, _⟩ => ⟨S1024x4096, .bf16⟩
  | .hbm, ⟨6, _⟩ => ⟨S32768x512, .f32⟩
  | .hbm, ⟨7, _⟩ => ⟨S32768x1536, .bf16⟩
  | .hbm, ⟨8, _⟩ => ⟨S4x8x8192x64, .f32⟩
  | .hbm, ⟨9, _⟩ => ⟨S4x8x8192x64, .f32⟩
  | .hbm, ⟨10, _⟩ => ⟨S32768x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S1024x512, .f32⟩
  | .local _ .vmem, ⟨5, _⟩ => ⟨S1024x512, .f32⟩
  | .local _ .vmem, ⟨6, _⟩ => ⟨S1024x1536, .bf16⟩
  | .local _ .vmem, ⟨7, _⟩ => ⟨S1024x1536, .bf16⟩
  | .local _ .vmem, ⟨8, _⟩ => ⟨S1x8x1024x64, .f32⟩
  | .local _ .vmem, ⟨9, _⟩ => ⟨S1x8x1024x64, .f32⟩
  | .local _ .vmem, ⟨10, _⟩ => ⟨S1x8x1024x64, .f32⟩
  | .local _ .vmem, ⟨11, _⟩ => ⟨S1x8x1024x64, .f32⟩
  | .local _ .vmem, ⟨12, _⟩ => ⟨S1024x2048, .bf16⟩
  | .local _ .vmem, ⟨13, _⟩ => ⟨S1024x2048, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjIdeal.lean ====
variable {F : FTy → Type} [FloatOps F] [Named F]
def κ : String → Option EReal := fun
  | "qscale" => some (((Real.log 2)⁻¹ * (1 / 8) : ℝ) : EReal)
  | _ => none
-- ==== ProjRefIdeal.lean ====
abbrev S4x8192x1024 : Shape := ⟨3, ![4, 8192, 1024]⟩
abbrev S1x1024 : Shape := ⟨2, ![1, 1024]⟩
abbrev S1x1024x4096 : Shape := ⟨3, ![1, 1024, 4096]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x4096 : Shape := ⟨2, ![1024, 4096]⟩
abbrev S4x8192x4096 : Shape := ⟨3, ![4, 8192, 4096]⟩
abbrev S4x8192x512 : Shape := ⟨3, ![4, 8192, 512]⟩
abbrev S32768x512 : Shape := ⟨2, ![32768, 512]⟩
abbrev S4x8192x1536 : Shape := ⟨3, ![4, 8192, 1536]⟩
abbrev S32768x1536 : Shape := ⟨2, ![32768, 1536]⟩
abbrev S4x8192x8x64 : Shape := ⟨4, ![4, 8192, 8, 64]⟩
abbrev S4x8x8192x64 : Shape := ⟨4, ![4, 8, 8192, 64]⟩
abbrev S4x8192x2048 : Shape := ⟨3, ![4, 8192, 2048]⟩
abbrev S32768x2048 : Shape := ⟨2, ![32768, 2048]⟩

abbrev nBuf : Space → Nat
  | .hbm => 46
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x4096, .f32⟩
  | .hbm, ⟨3, _⟩ => ⟨S1024, .f32⟩
  | .hbm, ⟨4, _⟩ => ⟨S4x8192x1024, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x1024, .f32⟩
  | .hbm, ⟨16, _⟩ => ⟨S4x8192x1024, .f32⟩
  | .hbm, ⟨17, _⟩ => ⟨S1x1x1024, .f32⟩
  | .hbm, ⟨18, _⟩ => ⟨S4x8192x1024, .f32⟩
  | .hbm, ⟨19, _⟩ => ⟨S4x8192x1024, .f32⟩
  | .hbm, ⟨20, _⟩ => ⟨S1024x4096, .f32⟩
  | .hbm, ⟨21, _⟩ => ⟨S4x8192x4096, .f32⟩
  | .hbm, ⟨22, _⟩ => ⟨S4x8192x512, .f32⟩
  | .hbm, ⟨23, _⟩ => ⟨S4x8192x512, .f32⟩
  | .hbm, ⟨24, _⟩ => ⟨S4x8192x512, .f32⟩
  | .hbm, ⟨25, _⟩ => ⟨S4x8192x512, .f32⟩
  | .hbm, ⟨26, _⟩ => ⟨S4x8192x1024, .f32⟩
  | .hbm, ⟨27, _⟩ => ⟨S4x8192x1024, .f32⟩
  | .hbm, ⟨28, _⟩ => ⟨S_, .f32⟩
  | .hbm, ⟨29, _⟩ => ⟨S4x8192x512, .f32⟩
  | .hbm, ⟨30, _⟩ => ⟨S4x8192x512, .f32⟩
  | .hbm, ⟨31, _⟩ => ⟨S_, .f32⟩
  | .hbm, ⟨32, _⟩ => ⟨S_, .f32⟩
  | .hbm, ⟨33, _⟩ => ⟨S4x8192x512, .f32⟩
  | .hbm, ⟨34, _⟩ => ⟨S4x8192x512, .f32⟩
  | .hbm, ⟨35, _⟩ => ⟨S32768x512, .f32⟩
  | .hbm, ⟨36, _⟩ => ⟨S4x8192x1536, .f32⟩
  | .hbm, ⟨37, _⟩ => ⟨S32768x1536, .f32⟩
  | .hbm, ⟨38, _⟩ => ⟨S32768x1536, .bf16⟩
  | .hbm, ⟨39, _⟩ => ⟨S4x8192x8x64, .f32⟩
  | .hbm, ⟨40, _⟩ => ⟨S4x8x8192x64, .f32⟩
  | .hbm, ⟨41, _⟩ => ⟨S4x8192x8x64, .f32⟩
  | .hbm, ⟨42, _⟩ => ⟨S4x8x8192x64, .f32⟩
  | .hbm, ⟨43, _⟩ => ⟨S4x8192x2048, .f32⟩
  | .hbm, ⟨44, _⟩ => ⟨S32768x2048, .f32⟩
  | .hbm, ⟨45, _⟩ => ⟨S32768x2048, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]
-- ==== ProjSample.lean ====
abbrev S8x32x1024 : Shape := ⟨3, ![8, 32, 1024]⟩
abbrev S1x1024 : Shape := ⟨2, ![1, 1024]⟩
abbrev S1x1024x4096 : Shape := ⟨3, ![1, 1024, 4096]⟩
abbrev S256x1024 : Shape := ⟨2, ![256, 1024]⟩
abbrev S1024x4096 : Shape := ⟨2, ![1024, 4096]⟩
abbrev S256x512 : Shape := ⟨2, ![256, 512]⟩
abbrev S256x1536 : Shape := ⟨2, ![256, 1536]⟩
abbrev S8x8x32x64 : Shape := ⟨4, ![8, 8, 32, 64]⟩
abbrev S256x2048 : Shape := ⟨2, ![256, 2048]⟩
abbrev S256 : Shape := ⟨1, ![256]⟩
abbrev S256x1 : Shape := ⟨2, ![256, 1]⟩
abbrev S1024x512 : Shape := ⟨2, ![1024, 512]⟩
abbrev S32x64 : Shape := ⟨2, ![32, 64]⟩
abbrev S1x1x32x64 : Shape := ⟨4, ![1, 1, 32, 64]⟩
abbrev S1024x1024 : Shape := ⟨2, ![1024, 1024]⟩

abbrev nBuf : Space → Nat
  | .hbm => 11
  | .vmem => 9
  | .smem => 0
  | _ => 0

abbrev bufTy : (tb : Table) → Fin (tcTables nBuf tb) → BufTy
  | .hbm, ⟨0, _⟩ => ⟨S8x32x1024, .f32⟩
  | .hbm, ⟨1, _⟩ => ⟨S1x1024, .f32⟩
  | .hbm, ⟨2, _⟩ => ⟨S1x1024x4096, .f32⟩
  | .hbm, ⟨3, _⟩ => ⟨S256x1024, .f32⟩
  | .hbm, ⟨4, _⟩ => ⟨S1024x4096, .f32⟩
  | .hbm, ⟨5, _⟩ => ⟨S256x512, .f32⟩
  | .hbm, ⟨6, _⟩ => ⟨S256x1536, .bf16⟩
  | .hbm, ⟨7, _⟩ => ⟨S8x8x32x64, .f32⟩
  | .hbm, ⟨8, _⟩ => ⟨S8x8x32x64, .f32⟩
  | .hbm, ⟨9, _⟩ => ⟨S256x2048, .bf16⟩
  | .hbm, ⟨10, _⟩ => ⟨S1024x4096, .bf16⟩
  | .local _ .vmem, ⟨0, _⟩ => ⟨S256x1024, .f32⟩
  | .local _ .vmem, ⟨1, _⟩ => ⟨S1x1024, .f32⟩
  | .local _ .vmem, ⟨2, _⟩ => ⟨S1024x4096, .f32⟩
  | .local _ .vmem, ⟨3, _⟩ => ⟨S256x512, .f32⟩
  | .local _ .vmem, ⟨4, _⟩ => ⟨S256x1536, .bf16⟩
  | .local _ .vmem, ⟨5, _⟩ => ⟨S8x8x32x64, .f32⟩
  | .local _ .vmem, ⟨6, _⟩ => ⟨S8x8x32x64, .f32⟩
  | .local _ .vmem, ⟨7, _⟩ => ⟨S256x2048, .bf16⟩
  | .local _ .vmem, ⟨8, _⟩ => ⟨S1024x4096, .bf16⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x8x32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x8x32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ProjSampleIdeal.lean ====
variable {F : FTy → Type} [FloatOps F] [Named F]
def κ : String → Option EReal := fun
  | "qscale" => some (((Real.log 2)⁻¹ * (1 / 8) : ℝ) : EReal)
  | _ => none
-- ==== ProjSampleRefIdeal.lean ====
abbrev S8x32x1024 : Shape := ⟨3, ![8, 32, 1024]⟩
abbrev S1x1024 : Shape := ⟨2, ![1, 1024]⟩
abbrev S1x1024x4096 : Shape := ⟨3, ![1, 1024, 4096]⟩
abbrev S1024 : Shape := ⟨1, ![1024]⟩
abbrev S_ : Shape := ⟨0, ![]⟩
abbrev S8x32 : Shape := ⟨2, ![8, 32]⟩
abbrev S8x32x1 : Shape := ⟨3, ![8, 32, 1]⟩
abbrev S1x1x1024 : Shape := ⟨3, ![1, 1, 1024]⟩
abbrev S1024x4096 : Shape := ⟨2, ![1024, 4096]⟩
abbrev S8x32x4096 : Shape := ⟨3, ![8, 32, 4096]⟩
abbrev S8x32x512 : Shape := ⟨3, ![8, 32, 512]⟩
abbrev S256x512 : Shape := ⟨2, ![256, 512]⟩
abbrev S8x32x1536 : Shape := ⟨3, ![8, 32, 1536]⟩
abbrev S256x1536 : Shape := ⟨2, ![256, 1536]⟩
abbrev S8x32x8x64 : Shape := ⟨4, ![8, 32, 8, 64]⟩
abbrev S8x8x32x64 : Shape := ⟨4, ![8, 8, 32, 64]⟩
abbrev S8x32x2048 : Shape := ⟨3, ![8, 32, 2048]⟩
abbrev S256x2048 : Shape := ⟨2, ![256, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S1x1024, .f32⟩
  | .hbm, ⟨2, _⟩ => ⟨S1x1024x4096, .f32⟩
  | .hbm, ⟨3, _⟩ => ⟨S1024, .f32⟩
  | .hbm, ⟨4, _⟩ => ⟨S8x32x1024, .f32⟩
  | .hbm, ⟨5, _⟩ => ⟨S_, .f32⟩
  | .hbm, ⟨6, _⟩ => ⟨S8x32, .f32⟩
  | .hbm, ⟨7, _⟩ => ⟨S8x32x1, .f32⟩
  | .hbm, ⟨8, _⟩ => ⟨S_, .f32⟩
  | .hbm, ⟨9, _⟩ => ⟨S8x32x1, .f32⟩
  | .hbm, ⟨10, _⟩ => ⟨S8x32x1, .f32⟩
  | .hbm, ⟨11, _⟩ => ⟨S_, .f32⟩
  | .hbm, ⟨12, _⟩ => ⟨S8x32x1, .f32⟩
  | .hbm, ⟨13, _⟩ => ⟨S8x32x1, .f32⟩
  | .hbm, ⟨14, _⟩ => ⟨S8x32x1, .f32⟩
  | .hbm, ⟨15, _⟩ => ⟨S8x32x1024, .f32⟩
  | .hbm, ⟨16, _⟩ => ⟨S8x32x1024, .f32⟩
  | .hbm, ⟨17, _⟩ => ⟨S1x1x1024, .f32⟩
  | .hbm, ⟨18, _⟩ => ⟨S8x32x1024, .f32⟩
  | .hbm, ⟨19, _⟩ => ⟨S8x32x1024, .f32⟩
  | .hbm, ⟨20, _⟩ => ⟨S1024x4096, .f32⟩
  | .hbm, ⟨21, _⟩ => ⟨S8x32x4096, .f32⟩
  | .hbm, ⟨22, _⟩ => ⟨S8x32x512, .f32⟩
  | .hbm, ⟨23, _⟩ => ⟨S8x32x512, .f32⟩
  | .hbm, ⟨24, _⟩ => ⟨S8x32x512, .f32⟩
  | .hbm, ⟨25, _⟩ => ⟨S8x32x512, .f32⟩
  | .hbm, ⟨26, _⟩ => ⟨S8x32x1024, .f32⟩
  | .hbm, ⟨27, _⟩ => ⟨S8x32x1024, .f32⟩
  | .hbm, ⟨28, _⟩ => ⟨S_, .f32⟩
  | .hbm, ⟨29, _⟩ => ⟨S8x32x512, .f32⟩
  | .hbm, ⟨30, _⟩ => ⟨S8x32x512, .f32⟩
  | .hbm, ⟨31, _⟩ => ⟨S_, .f32⟩
  | .hbm, ⟨32, _⟩ => ⟨S_, .f32⟩
  | .hbm, ⟨33, _⟩ => ⟨S8x32x512, .f32⟩
  | .hbm, ⟨34, _⟩ => ⟨S8x32x512, .f32⟩
  | .hbm, ⟨35, _⟩ => ⟨S256x512, .f32⟩
  | .hbm, ⟨36, _⟩ => ⟨S8x32x1536, .f32⟩
  | .hbm, ⟨37, _⟩ => ⟨S256x1536, .f32⟩
  | .hbm, ⟨38, _⟩ => ⟨S256x1536, .bf16⟩
  | .hbm, ⟨39, _⟩ => ⟨S8x32x8x64, .f32⟩
  | .hbm, ⟨40, _⟩ => ⟨S8x8x32x64, .f32⟩
  | .hbm, ⟨41, _⟩ => ⟨S8x32x8x64, .f32⟩
  | .hbm, ⟨42, _⟩ => ⟨S8x8x32x64, .f32⟩
  | .hbm, ⟨43, _⟩ => ⟨S8x32x2048, .f32⟩
  | .hbm, ⟨44, _⟩ => ⟨S256x2048, .f32⟩
  | .hbm, ⟨45, _⟩ => ⟨S256x2048, .bf16⟩
  | .hbm, ⟨46, _⟩ => ⟨S1024x4096, .f32⟩
  | .hbm, ⟨47, _⟩ => ⟨S1024x4096, .bf16⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== Merge.lean ====
abbrev S4x8192x1024 : Shape := ⟨3, ![4, 8192, 1024]⟩
abbrev S4x8192x512 : Shape := ⟨3, ![4, 8192, 512]⟩
abbrev S1x4x128x128 : Shape := ⟨4, ![1, 4, 128, 128]⟩
abbrev S1x512 : Shape := ⟨2, ![1, 512]⟩
abbrev S1x512x1024 : Shape := ⟨3, ![1, 512, 1024]⟩
abbrev S1x1024x1024 : Shape := ⟨3, ![1, 1024, 1024]⟩
abbrev S4x8x1024x512 : Shape := ⟨4, ![4, 8, 1024, 512]⟩
abbrev S_ : Shape := ⟨0, ![]⟩
abbrev S4x15x512 : Shape := ⟨3, ![4, 15, 512]⟩
abbrev S4x16x512 : Shape := ⟨3, ![4, 16, 512]⟩
abbrev S4x1x16x512 : Shape := ⟨4, ![4, 1, 16, 512]⟩
abbrev S4x7x16x512 : Shape := ⟨4, ![4, 7, 16, 512]⟩
abbrev S4x8x16x512 : Shape := ⟨4, ![4, 8, 16, 512]⟩
abbrev S32x16x512 : Shape := ⟨3, ![32, 16, 512]⟩
abbrev S4x8192x2048 : Shape := ⟨3, ![4, 8192, 2048]⟩
abbrev S32768x2048 : Shape := ⟨2, ![32768, 2048]⟩
abbrev S32768x1024 : Shape := ⟨2, ![32768, 1024]⟩
abbrev S32768x512 : Shape := ⟨2, ![32768, 512]⟩
abbrev S4x128x128 : Shape := ⟨3, ![4, 128, 128]⟩
abbrev S512x1024 : Shape := ⟨2, ![512, 1024]⟩
abbrev S1024x1024 : Shape := ⟨2, ![1024, 1024]⟩
abbrev S1024x512 : Shape := ⟨2, ![1024, 512]⟩
abbrev S1x16x512 : Shape := ⟨3, ![1, 16, 512]⟩
abbrev S1024x2048 : Shape := ⟨2, ![1024, 2048]⟩
abbrev S1024x1 : Shape := ⟨2, ![1024, 1]⟩
abbrev S16x512 : Shape := ⟨2, ![16, 512]⟩
abbrev S1040x512 : Shape := ⟨2, ![1040, 512]⟩
abbrev S1024x128 : Shape := ⟨2, ![1024, 128]⟩
abbrev S1x128x128 : Shape := ⟨3, ![1, 128, 128]⟩
abbrev S128x128 : Shape := ⟨2, ![128, 128]⟩
abbrev S1x128 : Shape := ⟨2, ![1, 128]⟩
abbrev S1040x384 : Shape := ⟨2, ![1040, 384]⟩
abbrev S256x512 : Shape := ⟨2, ![256, 512]⟩
abbrev S256x1024 : Shape := ⟨2, ![256, 1024]⟩
abbrev S1040x256 : Shape := ⟨2, ![1040, 256]⟩
abbrev S1040x128 : Shape := ⟨2, ![1040, 128]⟩

abbrev nBuf : Space → Nat
  | .hbm => 36
  | .vmem => 17
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x8192x1024, .f32⟩
  | .hbm, ⟨4, _⟩ => ⟨S4x8192x1024, .f32⟩
  | .hbm, ⟨5, _⟩ => ⟨S1x4x128x128, .f32⟩
  | .hbm, ⟨6, _⟩ => ⟨S1x512, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S4x8x1024x512, .f32⟩
  | .hbm, ⟨11, _⟩ => ⟨S_, .f32⟩
  | .hbm, ⟨12, _⟩ => ⟨S4x15x512, .f32⟩
  | .hbm, ⟨13, _⟩ => ⟨S_, .i32⟩
  | .hbm, ⟨14, _⟩ => ⟨S_, .f32⟩
  | .hbm, ⟨15, _⟩ => ⟨S4x16x512, .f32⟩
  | .hbm, ⟨16, _⟩ => ⟨S4x1x16x512, .f32⟩
  | .hbm, ⟨17, _⟩ => ⟨S4x7x16x512, .f32⟩
  | .hbm, ⟨18, _⟩ => ⟨S4x8x16x512, .f32⟩
  | .hbm, ⟨19, _⟩ => ⟨S32x16x512, .f32⟩
  | .hbm, ⟨20, _⟩ => ⟨S4x8192x2048, .f32⟩
  | .hbm, ⟨21, _⟩ => ⟨S32768x2048, .f32⟩
  | .hbm, ⟨22, _⟩ => ⟨S32768x2048, .bf16⟩
  | .hbm, ⟨23, _⟩ => ⟨S32768x1024, .f32⟩
  | .hbm, ⟨24, _⟩ => ⟨S32768x512, .f32⟩
  | .hbm, ⟨25, _⟩ => ⟨S32768x512, .f32⟩
  | .hbm, ⟨26, _⟩ => ⟨S32768x512, .bf16⟩
  | .hbm, ⟨27, _⟩ => ⟨S4x128x128, .f32⟩
  | .hbm, ⟨28, _⟩ => ⟨S4x128x128, .bf16⟩
  | .hbm, ⟨29, _⟩ => ⟨S512x1024, .f32⟩
  | .hbm, ⟨30, _⟩ => ⟨S512x1024, .bf16⟩
  | .hbm, ⟨31, _⟩ => ⟨S512x1024, .f32⟩
  | .hbm, ⟨32, _⟩ => ⟨S512x1024, .bf16⟩
  | .hbm, ⟨33, _⟩ => ⟨S1024x1024, .f32⟩
  | .hbm, ⟨34, _⟩ => ⟨S1024x1024, .bf16⟩
  | .hbm, ⟨35, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1x16x512, .f32⟩
  | .local _ .vmem, ⟨5, _⟩ => ⟨S1x16x512, .f32⟩
  | .local _ .vmem, ⟨6, _⟩ => ⟨S1024x512, .bf16⟩
  | .local _ .vmem, ⟨7, _⟩ => ⟨S1024x512, .bf16⟩
  | .local _ .vmem, ⟨8, _⟩ => ⟨S1024x2048, .bf16⟩
  | .local _ .vmem, ⟨9, _⟩ => ⟨S1024x2048, .bf16⟩
  | .local _ .vmem, ⟨10, _⟩ => ⟨S4x128x128, .bf16⟩
  | .local _ .vmem, ⟨11, _⟩ => ⟨S1x512, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1024x1024, .f32⟩
  | .local _ .vmem, ⟨16, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S4x8192x1024 : Shape := ⟨3, ![4, 8192, 1024]⟩
abbrev S4x8192x512 : Shape := ⟨3, ![4, 8192, 512]⟩
abbrev S1x4x128x128 : Shape := ⟨4, ![1, 4, 128, 128]⟩
abbrev S1x512 : Shape := ⟨2, ![1, 512]⟩
abbrev S1x512x1024 : Shape := ⟨3, ![1, 512, 1024]⟩
abbrev S1x1024x1024 : Shape := ⟨3, ![1, 1024, 1024]⟩
abbrev S_ : Shape := ⟨0, ![]⟩
abbrev S4x15x512 : Shape := ⟨3, ![4, 15, 512]⟩
abbrev S8192 : Shape := ⟨1, ![8192]⟩
abbrev S4x128x128 : Shape := ⟨3, ![4, 128, 128]⟩
abbrev S512 : Shape := ⟨1, ![512]⟩
abbrev S4x8207x512 : Shape := ⟨3, ![4, 8207, 512]⟩
abbrev S4x1x512 : Shape := ⟨3, ![4, 1, 512]⟩
abbrev S4x8208x512 : Shape := ⟨3, ![4, 8208, 512]⟩
abbrev S4x8192x128 : Shape := ⟨3, ![4, 8192, 128]⟩
abbrev S1x8192x1 : Shape := ⟨3, ![1, 8192, 1]⟩
abbrev S4x8192x4x128 : Shape := ⟨4, ![4, 8192, 4, 128]⟩
abbrev S4x128x4x8192 : Shape := ⟨4, ![4, 128, 4, 8192]⟩
abbrev S1x1x512 : Shape := ⟨3, ![1, 1, 512]⟩
abbrev S512x1024 : Shape := ⟨2, ![512, 1024]⟩
abbrev S1024x1024 : Shape := ⟨2, ![1024, 1024]⟩
abbrev S32768x1024 : Shape := ⟨2, ![32768, 1024]⟩

abbrev nBuf : Space → Nat
  | .hbm => 111
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x8192x1024, .f32⟩
  | .hbm, ⟨4, _⟩ => ⟨S4x8192x1024, .f32⟩
  | .hbm, ⟨5, _⟩ => ⟨S1x4x128x128, .f32⟩
  | .hbm, ⟨6, _⟩ => ⟨S1x512, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S_, .f32⟩
  | .hbm, ⟨11, _⟩ => ⟨S4x15x512, .f32⟩
  | .hbm, ⟨12, _⟩ => ⟨S8192, .i32⟩
  | .hbm, ⟨13, _⟩ => ⟨S4x128x128, .f32⟩
  | .hbm, ⟨14, _⟩ => ⟨S512, .f32⟩
  | .hbm, ⟨15, _⟩ => ⟨S4x8207x512, .f32⟩
  | .hbm, ⟨16, _⟩ => ⟨S_, .f32⟩
  | .hbm, ⟨17, _⟩ => ⟨S4x1x512, .f32⟩
  | .hbm, ⟨18, _⟩ => ⟨S_, .f32⟩
  | .hbm, ⟨19, _⟩ => ⟨S_, .f32⟩
  | .hbm, ⟨20, _⟩ => ⟨S4x8207x512, .f32⟩
  | .hbm, ⟨21, _⟩ => ⟨S4x8208x512, .f32⟩
  | .hbm, ⟨22, _⟩ => ⟨S4x8192x512, .f32⟩
  | .hbm, ⟨23, _⟩ => ⟨S4x8192x128, .f32⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S8192, .f32⟩
  | .hbm, ⟨31, _⟩ => ⟨S1x8192x1, .f32⟩
  | .hbm, ⟨32, _⟩ => ⟨S4x8192x128, .f32⟩
  | .hbm, ⟨33, _⟩ => ⟨S4x8192x128, .f32⟩
  | .hbm, ⟨34, _⟩ => ⟨S4x8192x128, .f32⟩
  | .hbm, ⟨35, _⟩ => ⟨S4x8192x128, .f32⟩
  | .hbm, ⟨36, _⟩ => ⟨S4x8192x128, .f32⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S_, .i32⟩
  | .hbm, ⟨41, _⟩ => ⟨S8192, .i32⟩
  | .hbm, ⟨42, _⟩ => ⟨S8192, .i32⟩
  | .hbm, ⟨43, _⟩ => ⟨S8192, .f32⟩
  | .hbm, ⟨44, _⟩ => ⟨S1x8192x1, .f32⟩
  | .hbm, ⟨45, _⟩ => ⟨S4x8192x128, .f32⟩
  | .hbm, ⟨46, _⟩ => ⟨S4x8192x128, .f32⟩
  | .hbm, ⟨47, _⟩ => ⟨S4x8192x128, .f32⟩
  | .hbm, ⟨48, _⟩ => ⟨S4x8192x128, .f32⟩
  | .hbm, ⟨49, _⟩ => ⟨S4x8192x128, .f32⟩
  | .hbm, ⟨50, _⟩ => ⟨S_, .i32⟩
  | .hbm, ⟨51, _⟩ => ⟨S8192, .i32⟩
  | .hbm, ⟨52, _⟩ => ⟨S8192, .i32⟩
  | .hbm, ⟨53, _⟩ => ⟨S_, .i32⟩
  | .hbm, ⟨54, _⟩ => ⟨S8192, .i32⟩
  | .hbm, ⟨55, _⟩ => ⟨S8192, .i32⟩
  | .hbm, ⟨56, _⟩ => ⟨S8192, .f32⟩
  | .hbm, ⟨57, _⟩ => ⟨S1x8192x1, .f32⟩
  | .hbm, ⟨58, _⟩ => ⟨S4x8192x128, .f32⟩
  | .hbm, ⟨59, _⟩ => ⟨S4x8192x128, .f32⟩
  | .hbm, ⟨60, _⟩ => ⟨S4x8192x128, .f32⟩
  | .hbm, ⟨61, _⟩ => ⟨S4x8192x128, .f32⟩
  | .hbm, ⟨62, _⟩ => ⟨S4x8192x128, .f32⟩
  | .hbm, ⟨63, _⟩ => ⟨S_, .i32⟩
  | .hbm, ⟨64, _⟩ => ⟨S8192, .i32⟩
  | .hbm, ⟨65, _⟩ => ⟨S8192, .i32⟩
  | .hbm, ⟨66, _⟩ => ⟨S_, .i32⟩
  | .hbm, ⟨67, _⟩ => ⟨S8192, .i32⟩
  | .hbm, ⟨68, _⟩ => ⟨S8192, .i32⟩
  | .hbm, ⟨69, _⟩ => ⟨S8192, .f32⟩
  | .hbm, ⟨70, _⟩ => ⟨S1x8192x1, .f32⟩
  | .hbm, ⟨71, _⟩ => ⟨S4x8192x128, .f32⟩
  | .hbm, ⟨72, _⟩ => ⟨S4x8192x128, .f32⟩
  | .hbm, ⟨73, _⟩ => ⟨S4x8192x128, .f32⟩
  | .hbm, ⟨74, _⟩ => ⟨S4x8192x128, .f32⟩
  | .hbm, ⟨75, _⟩ => ⟨S4x8192x512, .f32⟩
  | .hbm, ⟨76, _⟩ => ⟨S4x8192x512, .f32⟩
  | .hbm, ⟨77, _⟩ => ⟨S4x8192x4x128, .f32⟩
  | .hbm, ⟨78, _⟩ => ⟨S4x128x4x8192, .f32⟩
  | .hbm, ⟨79, _⟩ => ⟨S4x8192x4x128, .f32⟩
  | .hbm, ⟨80, _⟩ => ⟨S4x8192x512, .f32⟩
  | .hbm, ⟨81, _⟩ => ⟨S1x1x512, .f32⟩
  | .hbm, ⟨82, _⟩ => ⟨S4x8192x512, .f32⟩
  | .hbm, ⟨83, _⟩ => ⟨S4x8192x512, .f32⟩
  | .hbm, ⟨84, _⟩ => ⟨S4x8192x1024, .f32⟩
  | .hbm, ⟨85, _⟩ => ⟨S4x8192x1024, .f32⟩
  | .hbm, ⟨86, _⟩ => ⟨S_, .f32⟩
  | .hbm, ⟨87, _⟩ => ⟨S4x8192x1024, .f32⟩
  | .hbm, ⟨88, _⟩ => ⟨S4x8192x1024, .f32⟩
  | .hbm, ⟨89, _⟩ => ⟨S_, .f32⟩
  | .hbm, ⟨90, _⟩ => ⟨S4x8192x1024, .f32⟩
  | .hbm, ⟨91, _⟩ => ⟨S4x8192x1024, .f32⟩
  | .hbm, ⟨92, _⟩ => ⟨S512x1024, .f32⟩
  | .hbm, ⟨93, _⟩ => ⟨S4x8192x1024, .f32⟩
  | .hbm, ⟨94, _⟩ => ⟨S4x8192x1024, .f32⟩
  | .hbm, ⟨95, _⟩ => ⟨S4x8192x1024, .f32⟩
  | .hbm, ⟨96, _⟩ => ⟨S4x8192x1024, .f32⟩
  | .hbm, ⟨97, _⟩ => ⟨S_, .f32⟩
  | .hbm, ⟨98, _⟩ => ⟨S4x8192x1024, .f32⟩
  | .hbm, ⟨99, _⟩ => ⟨S4x8192x1024, .f32⟩
  | .hbm, ⟨100, _⟩ => ⟨S_, .f32⟩
  | .hbm, ⟨101, _⟩ => ⟨S4x8192x1024, .f32⟩
  | .hbm, ⟨102, _⟩ => ⟨S4x8192x1024, .f32⟩
  | .hbm, ⟨103, _⟩ => ⟨S512x1024, .f32⟩
  | .hbm, ⟨104, _⟩ => ⟨S4x8192x1024, .f32⟩
  | .hbm, ⟨105, _⟩ => ⟨S4x8192x1024, .f32⟩
  | .hbm, ⟨106, _⟩ => ⟨S4x8192x1024, .f32⟩
  | .hbm, ⟨107, _⟩ => ⟨S1024x1024, .f32⟩
  | .hbm, ⟨108, _⟩ => ⟨S4x8192x1024, .f32⟩
  | .hbm, ⟨109, _⟩ => ⟨S4x8192x1024, .f32⟩
  | .hbm, ⟨110, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_call0_call0_cst : Ref sig .tc := ⟨.hbm, 18, rfl⟩
abbrev main_call0_call0_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_6 : Ref sig .tc := ⟨.hbm, 63, rfl⟩
abbrev main_v43 : Ref sig .tc := ⟨.hbm, 64, rfl⟩
abbrev main_v44 : Ref sig .tc := ⟨.hbm, 65, rfl⟩
abbrev main_c_7 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_8 : Ref sig .tc := ⟨.hbm, 86, rfl⟩
abbrev main_v64 : Ref sig .tc := ⟨.hbm, 87, rfl⟩
abbrev main_v65 : Ref sig .tc := ⟨.hbm, 88, rfl⟩
abbrev main_cst_9 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_10 : Ref sig .tc := ⟨.hbm, 97, rfl⟩
abbrev main_v73 : Ref sig .tc := ⟨.hbm, 98, rfl⟩
abbrev main_v74 : Ref sig .tc := ⟨.hbm, 99, rfl⟩
abbrev main_cst_11 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩

abbrev nD : Nat := 1
abbrev τ : Topo := Topo.v7x

variable {F : FTy → Type} [FloatOps F]
-- ==== MergeSample.lean ====
abbrev S8x32x1024 : Shape := ⟨3, ![8, 32, 1024]⟩
abbrev S8x32x512 : Shape := ⟨3, ![8, 32, 512]⟩
abbrev S1x8x15x512 : Shape := ⟨4, ![1, 8, 15, 512]⟩
abbrev S1x4x128x128 : Shape := ⟨4, ![1, 4, 128, 128]⟩
abbrev S1x512 : Shape := ⟨2, ![1, 512]⟩
abbrev S1x512x1024 : Shape := ⟨3, ![1, 512, 1024]⟩
abbrev S1x1024x1024 : Shape := ⟨3, ![1, 1024, 1024]⟩
abbrev S8x1x32x512 : Shape := ⟨4, ![8, 1, 32, 512]⟩
abbrev S8x15x512 : Shape := ⟨3, ![8, 15, 512]⟩
abbrev S_ : Shape := ⟨0, ![]⟩
abbrev S8x16x512 : Shape := ⟨3, ![8, 16, 512]⟩
abbrev S8x1x16x512 : Shape := ⟨4, ![8, 1, 16, 512]⟩
abbrev S8x0x16x512 : Shape := ⟨4, ![8, 0, 16, 512]⟩
abbrev S8x32x2048 : Shape := ⟨3, ![8, 32, 2048]⟩
abbrev S256x2048 : Shape := ⟨2, ![256, 2048]⟩
abbrev S256x1024 : Shape := ⟨2, ![256, 1024]⟩
abbrev S256x512 : Shape := ⟨2, ![256, 512]⟩
abbrev S4x128x128 : Shape := ⟨3, ![4, 128, 128]⟩
abbrev S512x1024 : Shape := ⟨2, ![512, 1024]⟩
abbrev S1024x1024 : Shape := ⟨2, ![1024, 1024]⟩
abbrev S32x1 : Shape := ⟨2, ![32, 1]⟩
abbrev S256x1 : Shape := ⟨2, ![256, 1]⟩
abbrev S1x16x512 : Shape := ⟨3, ![1, 16, 512]⟩
abbrev S16x512 : Shape := ⟨2, ![16, 512]⟩
abbrev S32x512 : Shape := ⟨2, ![32, 512]⟩
abbrev S384x512 : Shape := ⟨2, ![384, 512]⟩
abbrev S32x128 : Shape := ⟨2, ![32, 128]⟩
abbrev S256x128 : Shape := ⟨2, ![256, 128]⟩
abbrev S1x128x128 : Shape := ⟨3, ![1, 128, 128]⟩
abbrev S128x128 : Shape := ⟨2, ![128, 128]⟩
abbrev S1x128 : Shape := ⟨2, ![1, 128]⟩
abbrev S384x384 : Shape := ⟨2, ![384, 384]⟩
abbrev S64x512 : Shape := ⟨2, ![64, 512]⟩
abbrev S64x1024 : Shape := ⟨2, ![64, 1024]⟩
abbrev S384x256 : Shape := ⟨2, ![384, 256]⟩
abbrev S384x128 : Shape := ⟨2, ![384, 128]⟩

abbrev nBuf : Space → Nat
  | .hbm => 36
  | .vmem => 15
  | .smem => 0
  | _ => 0

abbrev bufTy : (tb : Table) → Fin (tcTables nBuf tb) → BufTy
  | .hbm, ⟨0, _⟩ => ⟨S8x32x1024, .f32⟩
  | .hbm, ⟨1, _⟩ => ⟨S8x32x512, .f32⟩
  | .hbm, ⟨2, _⟩ => ⟨S8x32x512, .f32⟩
  | .hbm, ⟨3, _⟩ => ⟨S8x32x1024, .f32⟩
  | .hbm, ⟨4, _⟩ => ⟨S8x32x1024, .f32⟩
  | .hbm, ⟨5, _⟩ => ⟨S1x8x15x512, .f32⟩
  | .hbm, ⟨6, _⟩ => ⟨S1x4x128x128, .f32⟩
  | .hbm, ⟨7, _⟩ => ⟨S1x512, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S8x1x32x512, .f32⟩
  | .hbm, ⟨12, _⟩ => ⟨S8x15x512, .f32⟩
  | .hbm, ⟨13, _⟩ => ⟨S_, .i32⟩
  | .hbm, ⟨14, _⟩ => ⟨S_, .f32⟩
  | .hbm, ⟨15, _⟩ => ⟨S8x16x512, .f32⟩
  | .hbm, ⟨16, _⟩ => ⟨S8x1x16x512, .f32⟩
  | .hbm, ⟨17, _⟩ => ⟨S8x0x16x512, .f32⟩
  | .hbm, ⟨18, _⟩ => ⟨S8x1x16x512, .f32⟩
  | .hbm, ⟨19, _⟩ => ⟨S8x16x512, .f32⟩
  | .hbm, ⟨20, _⟩ => ⟨S8x32x2048, .f32⟩
  | .hbm, ⟨21, _⟩ => ⟨S256x2048, .f32⟩
  | .hbm, ⟨22, _⟩ => ⟨S256x2048, .bf16⟩
  | .hbm, ⟨23, _⟩ => ⟨S256x1024, .f32⟩
  | .hbm, ⟨24, _⟩ => ⟨S256x512, .f32⟩
  | .hbm, ⟨25, _⟩ => ⟨S256x512, .f32⟩
  | .hbm, ⟨26, _⟩ => ⟨S256x512, .bf16⟩
  | .hbm, ⟨27, _⟩ => ⟨S4x128x128, .f32⟩
  | .hbm, ⟨28, _⟩ => ⟨S512x1024, .f32⟩
  | .hbm, ⟨29, _⟩ => ⟨S512x1024, .f32⟩
  | .hbm, ⟨30, _⟩ => ⟨S1024x1024, .f32⟩
  | .hbm, ⟨31, _⟩ => ⟨S256x1024, .f32⟩
  | .hbm, ⟨32, _⟩ => ⟨S4x128x128, .bf16⟩
  | .hbm, ⟨33, _⟩ => ⟨S512x1024, .bf16⟩
  | .hbm, ⟨34, _⟩ => ⟨S512x1024, .bf16⟩
  | .hbm, ⟨35, _⟩ => ⟨S1024x1024, .bf16⟩
  | .local _ .vmem, ⟨0, _⟩ => ⟨S256x1024, .f32⟩
  | .local _ .vmem, ⟨1, _⟩ => ⟨S256x512, .f32⟩
  | .local _ .vmem, ⟨2, _⟩ => ⟨S8x16x512, .f32⟩
  | .local _ .vmem, ⟨3, _⟩ => ⟨S256x512, .bf16⟩
  | .local _ .vmem, ⟨4, _⟩ => ⟨S256x2048, .bf16⟩
  | .local _ .vmem, ⟨5, _⟩ => ⟨S4x128x128, .f32⟩
  | .local _ .vmem, ⟨6, _⟩ => ⟨S1x512, .f32⟩
  | .local _ .vmem, ⟨7, _⟩ => ⟨S512x1024, .f32⟩
  | .local _ .vmem, ⟨8, _⟩ => ⟨S512x1024, .f32⟩
  | .local _ .vmem, ⟨9, _⟩ => ⟨S1024x1024, .f32⟩
  | .local _ .vmem, ⟨10, _⟩ => ⟨S256x1024, .f32⟩
  | .local _ .vmem, ⟨11, _⟩ => ⟨S4x128x128, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v18_3 : Ref sig .tc := ⟨.hbm, 34, rfl⟩
abbrev main_v18_4 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S4x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MergeSampleRefIdeal.lean ====
abbrev S8x32x1024 : Shape := ⟨3, ![8, 32, 1024]⟩
abbrev S8x32x512 : Shape := ⟨3, ![8, 32, 512]⟩
abbrev S1x8x15x512 : Shape := ⟨4, ![1, 8, 15, 512]⟩
abbrev S1x4x128x128 : Shape := ⟨4, ![1, 4, 128, 128]⟩
abbrev S1x512 : Shape := ⟨2, ![1, 512]⟩
abbrev S1x512x1024 : Shape := ⟨3, ![1, 512, 1024]⟩
abbrev S1x1024x1024 : Shape := ⟨3, ![1, 1024, 1024]⟩
abbrev S8x15x512 : Shape := ⟨3, ![8, 15, 512]⟩
abbrev S32 : Shape := ⟨1, ![32]⟩
abbrev S_ : Shape := ⟨0, ![]⟩
abbrev S4x128x128 : Shape := ⟨3, ![4, 128, 128]⟩
abbrev S512 : Shape := ⟨1, ![512]⟩
abbrev S8x47x512 : Shape := ⟨3, ![8, 47, 512]⟩
abbrev S8x1x512 : Shape := ⟨3, ![8, 1, 512]⟩
abbrev S8x48x512 : Shape := ⟨3, ![8, 48, 512]⟩
abbrev S8x32x128 : Shape := ⟨3, ![8, 32, 128]⟩
abbrev S1x32x1 : Shape := ⟨3, ![1, 32, 1]⟩
abbrev S8x32x4x128 : Shape := ⟨4, ![8, 32, 4, 128]⟩
abbrev S4x128x8x32 : Shape := ⟨4, ![4, 128, 8, 32]⟩
abbrev S1x1x512 : Shape := ⟨3, ![1, 1, 512]⟩
abbrev S512x1024 : Shape := ⟨2, ![512, 1024]⟩
abbrev S1024x1024 : Shape := ⟨2, ![1024, 1024]⟩
abbrev S256x1024 : Shape := ⟨2, ![256, 1024]⟩

abbrev nBuf : Space → Nat
  | .hbm => 122
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S8x32x512, .f32⟩
  | .hbm, ⟨2, _⟩ => ⟨S8x32x512, .f32⟩
  | .hbm, ⟨3, _⟩ => ⟨S8x32x1024, .f32⟩
  | .hbm, ⟨4, _⟩ => ⟨S8x32x1024, .f32⟩
  | .hbm, ⟨5, _⟩ => ⟨S1x8x15x512, .f32⟩
  | .hbm, ⟨6, _⟩ => ⟨S1x4x128x128, .f32⟩
  | .hbm, ⟨7, _⟩ => ⟨S1x512, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S8x15x512, .f32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S4x128x128, .f32⟩
  | .hbm, ⟨17, _⟩ => ⟨S512, .f32⟩
  | .hbm, ⟨18, _⟩ => ⟨S8x47x512, .f32⟩
  | .hbm, ⟨19, _⟩ => ⟨S_, .f32⟩
  | .hbm, ⟨20, _⟩ => ⟨S8x1x512, .f32⟩
  | .hbm, ⟨21, _⟩ => ⟨S_, .f32⟩
  | .hbm, ⟨22, _⟩ => ⟨S_, .f32⟩
  | .hbm, ⟨23, _⟩ => ⟨S8x47x512, .f32⟩
  | .hbm, ⟨24, _⟩ => ⟨S8x48x512, .f32⟩
  | .hbm, ⟨25, _⟩ => ⟨S8x32x512, .f32⟩
  | .hbm, ⟨26, _⟩ => ⟨S8x32x128, .f32⟩
  | .hbm, ⟨27, _⟩ => ⟨S_, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S32, .f32⟩
  | .hbm, ⟨34, _⟩ => ⟨S1x32x1, .f32⟩
  | .hbm, ⟨35, _⟩ => ⟨S8x32x128, .f32⟩
  | .hbm, ⟨36, _⟩ => ⟨S8x32x128, .f32⟩
  | .hbm, ⟨37, _⟩ => ⟨S8x32x128, .f32⟩
  | .hbm, ⟨38, _⟩ => ⟨S8x32x128, .f32⟩
  | .hbm, ⟨39, _⟩ => ⟨S8x32x128, .f32⟩
  | .hbm, ⟨40, _⟩ => ⟨S_, .i32⟩
  | .hbm, ⟨41, _⟩ => ⟨S32, .i32⟩
  | .hbm, ⟨42, _⟩ => ⟨S32, .i32⟩
  | .hbm, ⟨43, _⟩ => ⟨S_, .i32⟩
  | .hbm, ⟨44, _⟩ => ⟨S32, .i32⟩
  | .hbm, ⟨45, _⟩ => ⟨S32, .i32⟩
  | .hbm, ⟨46, _⟩ => ⟨S32, .f32⟩
  | .hbm, ⟨47, _⟩ => ⟨S1x32x1, .f32⟩
  | .hbm, ⟨48, _⟩ => ⟨S8x32x128, .f32⟩
  | .hbm, ⟨49, _⟩ => ⟨S8x32x128, .f32⟩
  | .hbm, ⟨50, _⟩ => ⟨S8x32x128, .f32⟩
  | .hbm, ⟨51, _⟩ => ⟨S8x32x128, .f32⟩
  | .hbm, ⟨52, _⟩ => ⟨S8x32x128, .f32⟩
  | .hbm, ⟨53, _⟩ => ⟨S_, .i32⟩
  | .hbm, ⟨54, _⟩ => ⟨S32, .i32⟩
  | .hbm, ⟨55, _⟩ => ⟨S32, .i32⟩
  | .hbm, ⟨56, _⟩ => ⟨S_, .i32⟩
  | .hbm, ⟨57, _⟩ => ⟨S32, .i32⟩
  | .hbm, ⟨58, _⟩ => ⟨S32, .i32⟩
  | .hbm, ⟨59, _⟩ => ⟨S32, .f32⟩
  | .hbm, ⟨60, _⟩ => ⟨S1x32x1, .f32⟩
  | .hbm, ⟨61, _⟩ => ⟨S8x32x128, .f32⟩
  | .hbm, ⟨62, _⟩ => ⟨S8x32x128, .f32⟩
  | .hbm, ⟨63, _⟩ => ⟨S8x32x128, .f32⟩
  | .hbm, ⟨64, _⟩ => ⟨S8x32x128, .f32⟩
  | .hbm, ⟨65, _⟩ => ⟨S8x32x128, .f32⟩
  | .hbm, ⟨66, _⟩ => ⟨S_, .i32⟩
  | .hbm, ⟨67, _⟩ => ⟨S32, .i32⟩
  | .hbm, ⟨68, _⟩ => ⟨S32, .i32⟩
  | .hbm, ⟨69, _⟩ => ⟨S_, .i32⟩
  | .hbm, ⟨70, _⟩ => ⟨S32, .i32⟩
  | .hbm, ⟨71, _⟩ => ⟨S32, .i32⟩
  | .hbm, ⟨72, _⟩ => ⟨S32, .f32⟩
  | .hbm, ⟨73, _⟩ => ⟨S1x32x1, .f32⟩
  | .hbm, ⟨74, _⟩ => ⟨S8x32x128, .f32⟩
  | .hbm, ⟨75, _⟩ => ⟨S8x32x128, .f32⟩
  | .hbm, ⟨76, _⟩ => ⟨S8x32x128, .f32⟩
  | .hbm, ⟨77, _⟩ => ⟨S8x32x128, .f32⟩
  | .hbm, ⟨78, _⟩ => ⟨S8x32x512, .f32⟩
  | .hbm, ⟨79, _⟩ => ⟨S8x32x512, .f32⟩
  | .hbm, ⟨80, _⟩ => ⟨S8x32x4x128, .f32⟩
  | .hbm, ⟨81, _⟩ => ⟨S4x128x8x32, .f32⟩
  | .hbm, ⟨82, _⟩ => ⟨S8x32x4x128, .f32⟩
  | .hbm, ⟨83, _⟩ => ⟨S8x32x512, .f32⟩
  | .hbm, ⟨84, _⟩ => ⟨S1x1x512, .f32⟩
  | .hbm, ⟨85, _⟩ => ⟨S8x32x512, .f32⟩
  | .hbm, ⟨86, _⟩ => ⟨S8x32x512, .f32⟩
  | .hbm, ⟨87, _⟩ => ⟨S8x32x1024, .f32⟩
  | .hbm, ⟨88, _⟩ => ⟨S8x32x1024, .f32⟩
  | .hbm, ⟨89, _⟩ => ⟨S_, .f32⟩
  | .hbm, ⟨90, _⟩ => ⟨S8x32x1024, .f32⟩
  | .hbm, ⟨91, _⟩ => ⟨S8x32x1024, .f32⟩
  | .hbm, ⟨92, _⟩ => ⟨S_, .f32⟩
  | .hbm, ⟨93, _⟩ => ⟨S8x32x1024, .f32⟩
  | .hbm, ⟨94, _⟩ => ⟨S8x32x1024, .f32⟩
  | .hbm, ⟨95, _⟩ => ⟨S512x1024, .f32⟩
  | .hbm, ⟨96, _⟩ => ⟨S8x32x1024, .f32⟩
  | .hbm, ⟨97, _⟩ => ⟨S8x32x1024, .f32⟩
  | .hbm, ⟨98, _⟩ => ⟨S8x32x1024, .f32⟩
  | .hbm, ⟨99, _⟩ => ⟨S8x32x1024, .f32⟩
  | .hbm, ⟨100, _⟩ => ⟨S_, .f32⟩
  | .hbm, ⟨101, _⟩ => ⟨S8x32x1024, .f32⟩
  | .hbm, ⟨102, _⟩ => ⟨S8x32x1024, .f32⟩
  | .hbm, ⟨103, _⟩ => ⟨S_, .f32⟩
  | .hbm, ⟨104, _⟩ => ⟨S8x32x1024, .f32⟩
  | .hbm, ⟨105, _⟩ => ⟨S8x32x1024, .f32⟩
  | .hbm, ⟨106, _⟩ => ⟨S512x1024, .f32⟩
  | .hbm, ⟨107, _⟩ => ⟨S8x32x1024, .f32⟩
  | .hbm, ⟨108, _⟩ => ⟨S8x32x1024, .f32⟩
  | .hbm, ⟨109, _⟩ => ⟨S8x32x1024, .f32⟩
  | .hbm, ⟨110, _⟩ => ⟨S1024x1024, .f32⟩
  | .hbm, ⟨111, _⟩ => ⟨S8x32x1024, .f32⟩
  | .hbm, ⟨112, _⟩ => ⟨S8x32x1024, .f32⟩
  | .hbm, ⟨113, _⟩ => ⟨S256x1024, .f32⟩
  | .hbm, ⟨114, _⟩ => ⟨S4x128x128, .f32⟩
  | .hbm, ⟨115, _⟩ => ⟨S4x128x128, .bf16⟩
  | .hbm, ⟨116, _⟩ => ⟨S512x1024, .f32⟩
  | .hbm, ⟨117, _⟩ => ⟨S512x1024, .bf16⟩
  | .hbm, ⟨118, _⟩ => ⟨S512x1024, .f32⟩
  | .hbm, ⟨119, _⟩ => ⟨S512x1024, .bf16⟩
  | .hbm, ⟨120, _⟩ => ⟨S1024x1024, .f32⟩
  | .hbm, ⟨121, _⟩ => ⟨S1024x1024, .bf16⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_call0_call0_cst : Ref sig .tc := ⟨.hbm, 21, rfl⟩
abbrev main_call0_call0_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_0 : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_4 : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_6 : Ref sig .tc := ⟨.hbm, 66, rfl⟩
abbrev main_v45 : Ref sig .tc := ⟨.hbm, 67, rfl⟩
abbrev main_v46 : Ref sig .tc := ⟨.hbm, 68, rfl⟩
abbrev main_c_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_8 : Ref sig .tc := ⟨.hbm, 89, rfl⟩
abbrev main_v66 : Ref sig .tc := ⟨.hbm, 90, rfl⟩
abbrev main_v67 : Ref sig .tc := ⟨.hbm, 91, rfl⟩
abbrev main_cst_9 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_10 : Ref sig .tc := ⟨.hbm, 100, rfl⟩
abbrev main_v75 : Ref sig .tc := ⟨.hbm, 101, rfl⟩
abbrev main_v76 : Ref sig .tc := ⟨.hbm, 102, rfl⟩
abbrev main_cst_11 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩

abbrev nD : Nat := 1
abbrev τ : Topo := Topo.v7x

variable {F : FTy → Type} [FloatOps F]
-- ==== FfnSample.lean ====
abbrev S8x32x1024 : Shape := ⟨3, ![8, 32, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S256x1024 : Shape := ⟨2, ![256, 1024]⟩
abbrev S1024x4096 : Shape := ⟨2, ![1024, 4096]⟩
abbrev S4096x1024 : Shape := ⟨2, ![4096, 1024]⟩
abbrev S1024x1024 : Shape := ⟨2, ![1024, 1024]⟩
abbrev S2x256x1024 : Shape := ⟨3, ![2, 256, 1024]⟩
abbrev S256 : Shape := ⟨1, ![256]⟩
abbrev S256x1 : Shape := ⟨2, ![256, 1]⟩
abbrev S1x256x1024 : Shape := ⟨3, ![1, 256, 1024]⟩
abbrev S64x1024 : Shape := ⟨2, ![64, 1024]⟩
abbrev S64 : Shape := ⟨1, ![64]⟩
abbrev S64x1 : Shape := ⟨2, ![64, 1]⟩
abbrev S1x64x1024 : Shape := ⟨3, ![1, 64, 1024]⟩

abbrev nBuf : Space → Nat
  | .hbm => 15
  | .vmem => 19
  | .smem => 0
  | _ => 0

abbrev bufTy : (tb : Table) → Fin (tcTables nBuf tb) → BufTy
  | .hbm, ⟨0, _⟩ => ⟨S8x32x1024, .f32⟩
  | .hbm, ⟨1, _⟩ => ⟨S1x1024, .f32⟩
  | .hbm, ⟨2, _⟩ => ⟨S1x1024x4096, .f32⟩
  | .hbm, ⟨3, _⟩ => ⟨S1x1024x4096, .f32⟩
  | .hbm, ⟨4, _⟩ => ⟨S1x4096x1024, .f32⟩
  | .hbm, ⟨5, _⟩ => ⟨S1024, .f32⟩
  | .hbm, ⟨6, _⟩ => ⟨S256x1024, .f32⟩
  | .hbm, ⟨7, _⟩ => ⟨S1024x4096, .f32⟩
  | .hbm, ⟨8, _⟩ => ⟨S1024x4096, .f32⟩
  | .hbm, ⟨9, _⟩ => ⟨S4096x1024, .f32⟩
  | .hbm, ⟨10, _⟩ => ⟨S1x1024, .f32⟩
  | .hbm, ⟨11, _⟩ => ⟨S256x1024, .f32⟩
  | .hbm, ⟨12, _⟩ => ⟨S1024x4096, .bf16⟩
  | .hbm, ⟨13, _⟩ => ⟨S1024x4096, .bf16⟩
  | .hbm, ⟨14, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S256x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S2x256x1024, .bf16⟩
  | .local _ .vmem, ⟨18, _⟩ => ⟨S256x1024, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c0_i32_6 : BitVec 32 := 0#32
  let v15 : BitVec 1 := Scalar.cmpi .eq arg1 c0_i32_6
  let c0_i32_9 : BitVec 32 := 0#32
  let c3_i32 : BitVec 32 := 3#32
  let v16 : BitVec 1 := Scalar.cmpi .eq arg1 c3_i32
  let c2_i32_7 : BitVec 32 := 2#32
  let c1_i32_8 : BitVec 32 := 1#32
  let v17 : BitVec 32 := Scalar.select v16 c2_i32_7 c1_i32_8
  let v18 : BitVec 32 := Scalar.select v15 c0_i32_9 v17
  let c0_i32_10 : BitVec 32 := 0#32
  let v19 : BitVec 32 := Scalar.maxsi v18 c0_i32_10
  let c2_i32_11 : BitVec 32 := 2#32
  let v20 : BitVec 32 := Scalar.minsi v19 c2_i32_11
  let c0_i32_12 : BitVec 32 := 0#32
  let v21 : BitVec 1 := Scalar.cmpi .ne v20 c0_i32_12
  v21

def k0_cond3 (i : grid0.Coords) : BitVec 1 :=
  let arg1 : BitVec 32 := BitVec.ofNat 32 (i 1).val
  let c0_i32_6 : BitVec 32 := 0#32
  let v15 : BitVec 1 := Scalar.cmpi .eq arg1 c0_i32_6
  let c0_i32_9 : BitVec 32 := 0#32
  let c3_i32 : BitVec 32 := 3#32
  let v16 : BitVec 1 := Scalar.cmpi .eq arg1 c3_i32
  let c2_i32_7 : BitVec 32 := 2#32
  let c1_i32_8 : BitVec 32 := 1#32
  let v17 : BitVec 32 := Scalar.select v16 c2_i32_7 c1_i32_8
  let v18 : BitVec 32 := Scalar.select v15 c0_i32_9 v17
  let c0_i32_10 : BitVec 32 := 0#32
  let v19 : BitVec 32 := Scalar.maxsi v18 c0_i32_10
  let c2_i32_11 : BitVec 32 := 2#32
  let v20 : BitVec 32 := Scalar.minsi v19 c2_i32_11
  let c1_i32_13 : BitVec 32 := 1#32
  let v22 : BitVec 32 := Scalar.subi v20 c1_i32_13
  let c0_i32_14 : BitVec 32 := 0#32
  let v23 : BitVec 1 := Scalar.cmpi .ne v22 c0_i32_14
  v23

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v39 : Index := Scalar.indexCast v9
  let c0_30 : Index := 0#32
  let c0_31 : Index := 0#32
  ![v39.toNat, 0, 0]
def k0_off2 (i : grid0.Coords) : Fin 3 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v90 : BitVec 32 := Scalar.subi c1_i32_51 v9
  let v91 : Index := Scalar.indexCast v90
  let c192_52 : Index := 192#32
  let c0_53 : Index := 0#32
  ![v91.toNat, 192, 0]
def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v37 : Index := Scalar.indexCast v9
  let c0_28 : Index := 0#32
  let c0_29 : Index := 0#32
  ![v37.toNat, 0, 0]
def k0_mult1 (i : grid0.Coords) : BitVec 32 :=
  let arg1 : BitVec 32 := BitVec.ofNat 32 (i 1).val
  let c64_i32 : BitVec 32 := 64#32
  let v57 : BitVec 32 := Scalar.muli arg1 c64_i32
  v57
def k0_off4 (i : grid0.Coords) : Fin 2 → Nat :=
  let arg1 : BitVec 32 := BitVec.ofNat 32 (i 1).val
  let c64_i32 : BitVec 32 := 64#32
  let v57 : BitVec 32 := Scalar.muli arg1 c64_i32
  let v58 : BitVec 32 := v57
  let v59 : Index := Scalar.indexCast v58
  let c0_37 : Index := 0#32
  ![v59.toNat, 0]
def k0_off5 (i : grid0.Coords) : Fin 3 → Nat :=
  let c1_i32_43 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v76 : BitVec 32 := Scalar.subi c1_i32_43 v9
  let v77 : Index := Scalar.indexCast v76
  let arg1 : BitVec 32 := BitVec.ofNat 32 (i 1).val
  let c64_i32 : BitVec 32 := 64#32
  let v57 : BitVec 32 := Scalar.muli arg1 c64_i32
  let v58 : BitVec 32 := v57
  let v78 : Index := Scalar.indexCast v58
  let c0_44 : Index := 0#32
  ![v77.toNat, v78.toNat, 0]
def k0_off6 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v34 : Index := Scalar.indexCast v9
  let c0_24 : Index := 0#32
  let c0_25 : Index := 0#32
  ![v34.toNat, 0, 0]
def k0_off7 (i : grid0.Coords) : Fin 3 → Nat :=
  let c1_i32_40 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v69 : BitVec 32 := Scalar.subi c1_i32_40 v9
  let v70 : Index := Scalar.indexCast v69
  let c0_41 : Index := 0#32
  let c0_42 : Index := 0#32
  ![v70.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let v1 : BitVec 32 := Scalar.minsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]
-- ==== FfnSampleRefIdeal.lean ====
abbrev S8x32x1024 : Shape := ⟨3, ![8, 32, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S8x32 : Shape := ⟨2, ![8, 32]⟩
abbrev S8x32x1 : Shape := ⟨3, ![8, 32, 1]⟩
abbrev S1x1x1024 : Shape := ⟨3, ![1, 1, 1024]⟩
abbrev S1024x4096 : Shape := ⟨2, ![1024, 4096]⟩
abbrev S4096x1024 : Shape := ⟨2, ![4096, 1024]⟩
abbrev S8x32x4096 : Shape := ⟨3, ![8, 32, 4096]⟩
abbrev S256x1024 : Shape := ⟨2, ![256, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S1x1024, .f32⟩
  | .hbm, ⟨2, _⟩ => ⟨S1x1024x4096, .f32⟩
  | .hbm, ⟨3, _⟩ => ⟨S1x1024x4096, .f32⟩
  | .hbm, ⟨4, _⟩ => ⟨S1x4096x1024, .f32⟩
  | .hbm, ⟨5, _⟩ => ⟨S1024, .f32⟩
  | .hbm, ⟨6, _⟩ => ⟨S1024, .f32⟩
  | .hbm, ⟨7, _⟩ => ⟨S8x32x1024, .f32⟩
  | .hbm, ⟨8, _⟩ => ⟨S_, .f32⟩
  | .hbm, ⟨9, _⟩ => ⟨S8x32, .f32⟩
  | .hbm, ⟨10, _⟩ => ⟨S8x32x1, .f32⟩
  | .hbm, ⟨11, _⟩ => ⟨S_, .f32⟩
  | .hbm, ⟨12, _⟩ => ⟨S8x32x1, .f32⟩
  | .hbm, ⟨13, _⟩ => ⟨S8x32x1, .f32⟩
  | .hbm, ⟨14, _⟩ => ⟨S_, .f32⟩
  | .hbm, ⟨15, _⟩ => ⟨S8x32x1, .f32⟩
  | .hbm, ⟨16, _⟩ => ⟨S8x32x1, .f32⟩
  | .hbm, ⟨17, _⟩ => ⟨S8x32x1, .f32⟩
  | .hbm, ⟨18, _⟩ => ⟨S8x32x1024, .f32⟩
  | .hbm, ⟨19, _⟩ => ⟨S8x32x1024, .f32⟩
  | .hbm, ⟨20, _⟩ => ⟨S1x1x1024, .f32⟩
  | .hbm, ⟨21, _⟩ => ⟨S8x32x1024, .f32⟩
  | .hbm, ⟨22, _⟩ => ⟨S8x32x1024, .f32⟩
  | .hbm, ⟨23, _⟩ => ⟨S1024x4096, .f32⟩
  | .hbm, ⟨24, _⟩ => ⟨S1024x4096, .f32⟩
  | .hbm, ⟨25, _⟩ => ⟨S4096x1024, .f32⟩
  | .hbm, ⟨26, _⟩ => ⟨S8x32x4096, .f32⟩
  | .hbm, ⟨27, _⟩ => ⟨S8x32x4096, .f32⟩
  | .hbm, ⟨28, _⟩ => ⟨S8x32x4096, .f32⟩
  | .hbm, ⟨29, _⟩ => ⟨S_, .f32⟩
  | .hbm, ⟨30, _⟩ => ⟨S8x32x4096, .f32⟩
  | .hbm, ⟨31, _⟩ => ⟨S8x32x4096, .f32⟩
  | .hbm, ⟨32, _⟩ => ⟨S_, .f32⟩
  | .hbm, ⟨33, _⟩ => ⟨S8x32x4096, .f32⟩
  | .hbm, ⟨34, _⟩ => ⟨S8x32x4096, .f32⟩
  | .hbm, ⟨35, _⟩ => ⟨S8x32x4096, .f32⟩
  | .hbm, ⟨36, _⟩ => ⟨S8x32x4096, .f32⟩
  | .hbm, ⟨37, _⟩ => ⟨S8x32x4096, .f32⟩
  | .hbm, ⟨38, _⟩ => ⟨S8x32x1024, .f32⟩
  | .hbm, ⟨39, _⟩ => ⟨S_, .f32⟩
  | .hbm, ⟨40, _⟩ => ⟨S8x32x1024, .f32⟩
  | .hbm, ⟨41, _⟩ => ⟨S8x32x1024, .f32⟩
  | .hbm, ⟨42, _⟩ => ⟨S8x32x1024, .f32⟩
  | .hbm, ⟨43, _⟩ => ⟨S8x32x1024, .f32⟩
  | .hbm, ⟨44, _⟩ => ⟨S_, .f32⟩
  | .hbm, ⟨45, _⟩ => ⟨S8x32, .f32⟩
  | .hbm, ⟨46, _⟩ => ⟨S8x32x1, .f32⟩
  | .hbm, ⟨47, _⟩ => ⟨S_, .f32⟩
  | .hbm, ⟨48, _⟩ => ⟨S8x32x1, .f32⟩
  | .hbm, ⟨49, _⟩ => ⟨S8x32x1, .f32⟩
  | .hbm, ⟨50, _⟩ => ⟨S_, .f32⟩
  | .hbm, ⟨51, _⟩ => ⟨S8x32x1, .f32⟩
  | .hbm, ⟨52, _⟩ => ⟨S8x32x1, .f32⟩
  | .hbm, ⟨53, _⟩ => ⟨S8x32x1, .f32⟩
  | .hbm, ⟨54, _⟩ => ⟨S8x32x1024, .f32⟩
  | .hbm, ⟨55, _⟩ => ⟨S8x32x1024, .f32⟩
  | .hbm, ⟨56, _⟩ => ⟨S1x1x1024, .f32⟩
  | .hbm, ⟨57, _⟩ => ⟨S8x32x1024, .f32⟩
  | .hbm, ⟨58, _⟩ => ⟨S8x32x1024, .f32⟩
  | .hbm, ⟨59, _⟩ => ⟨S256x1024, .f32⟩
  | .hbm, ⟨60, _⟩ => ⟨S1024x4096, .f32⟩
  | .hbm, ⟨61, _⟩ => ⟨S1024x4096, .bf16⟩
  | .hbm, ⟨62, _⟩ => ⟨S1024x4096, .f32⟩
  | .hbm, ⟨63, _⟩ => ⟨S1024x4096, .bf16⟩
  | .hbm, ⟨64, _⟩ => ⟨S4096x1024, .f32⟩
  | .hbm, ⟨65, _⟩ => ⟨S4096x1024, .bf16⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== FfnInnerSample.lean ====
abbrev S8x32x1024 : Shape := ⟨3, ![8, 32, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S256x1024 : Shape := ⟨2, ![256, 1024]⟩
abbrev S1024x4096 : Shape := ⟨2, ![1024, 4096]⟩
abbrev S4096x1024 : Shape := ⟨2, ![4096, 1024]⟩
abbrev S1024x1024 : Shape := ⟨2, ![1024, 1024]⟩
abbrev S2x256x1024 : Shape := ⟨3, ![2, 256, 1024]⟩
abbrev S256 : Shape := ⟨1, ![256]⟩
abbrev S256x1 : Shape := ⟨2, ![256, 1]⟩
abbrev S1x256x1024 : Shape := ⟨3, ![1, 256, 1024]⟩
abbrev S64x1024 : Shape := ⟨2, ![64, 1024]⟩
abbrev S64 : Shape := ⟨1, ![64]⟩
abbrev S64x1 : Shape := ⟨2, ![64, 1]⟩
abbrev S1x64x1024 : Shape := ⟨3, ![1, 64, 1024]⟩

abbrev nBuf : Space → Nat
  | .hbm => 13
  | .vmem => 18
  | .smem => 0
  | _ => 0

abbrev bufTy : (tb : Table) → Fin (tcTables nBuf tb) → BufTy
  | .hbm, ⟨0, _⟩ => ⟨S8x32x1024, .f32⟩
  | .hbm, ⟨1, _⟩ => ⟨S1x1024, .f32⟩
  | .hbm, ⟨2, _⟩ => ⟨S1x1024x4096, .f32⟩
  | .hbm, ⟨3, _⟩ => ⟨S1x1024x4096, .f32⟩
  | .hbm, ⟨4, _⟩ => ⟨S1x4096x1024, .f32⟩
  | .hbm, ⟨5, _⟩ => ⟨S256x1024, .f32⟩
  | .hbm, ⟨6, _⟩ => ⟨S1024x4096, .f32⟩
  | .hbm, ⟨7, _⟩ => ⟨S1024x4096, .f32⟩
  | .hbm, ⟨8, _⟩ => ⟨S4096x1024, .f32⟩
  | .hbm, ⟨9, _⟩ => ⟨S256x1024, .f32⟩
  | .hbm, ⟨10, _⟩ => ⟨S1024x4096, .bf16⟩
  | .hbm, ⟨11, _⟩ => ⟨S1024x4096, .bf16⟩
  | .hbm, ⟨12, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S256x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S2x256x1024, .bf16⟩
  | .local _ .vmem, ⟨17, _⟩ => ⟨S256x1024, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c0_i32_6 : BitVec 32 := 0#32
  let v15 : BitVec 1 := Scalar.cmpi .eq arg1 c0_i32_6
  let c0_i32_9 : BitVec 32 := 0#32
  let c3_i32 : BitVec 32 := 3#32
  let v16 : BitVec 1 := Scalar.cmpi .eq arg1 c3_i32
  let c2_i32_7 : BitVec 32 := 2#32
  let c1_i32_8 : BitVec 32 := 1#32
  let v17 : BitVec 32 := Scalar.select v16 c2_i32_7 c1_i32_8
  let v18 : BitVec 32 := Scalar.select v15 c0_i32_9 v17
  let c0_i32_10 : BitVec 32 := 0#32
  let v19 : BitVec 32 := Scalar.maxsi v18 c0_i32_10
  let c2_i32_11 : BitVec 32 := 2#32
  let v20 : BitVec 32 := Scalar.minsi v19 c2_i32_11
  let c0_i32_12 : BitVec 32 := 0#32
  let v21 : BitVec 1 := Scalar.cmpi .ne v20 c0_i32_12
  v21

def k0_cond3 (i : grid0.Coords) : BitVec 1 :=
  let arg1 : BitVec 32 := BitVec.ofNat 32 (i 1).val
  let c0_i32_6 : BitVec 32 := 0#32
  let v15 : BitVec 1 := Scalar.cmpi .eq arg1 c0_i32_6
  let c0_i32_9 : BitVec 32 := 0#32
  let c3_i32 : BitVec 32 := 3#32
  let v16 : BitVec 1 := Scalar.cmpi .eq arg1 c3_i32
  let c2_i32_7 : BitVec 32 := 2#32
  let c1_i32_8 : BitVec 32 := 1#32
  let v17 : BitVec 32 := Scalar.select v16 c2_i32_7 c1_i32_8
  let v18 : BitVec 32 := Scalar.select v15 c0_i32_9 v17
  let c0_i32_10 : BitVec 32 := 0#32
  let v19 : BitVec 32 := Scalar.maxsi v18 c0_i32_10
  let c2_i32_11 : BitVec 32 := 2#32
  let v20 : BitVec 32 := Scalar.minsi v19 c2_i32_11
  let c1_i32_13 : BitVec 32 := 1#32
  let v22 : BitVec 32 := Scalar.subi v20 c1_i32_13
  let c0_i32_14 : BitVec 32 := 0#32
  let v23 : BitVec 1 := Scalar.cmpi .ne v22 c0_i32_14
  v23

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v39 : Index := Scalar.indexCast v9
  let c0_30 : Index := 0#32
  let c0_31 : Index := 0#32
  ![v39.toNat, 0, 0]
def k0_off2 (i : grid0.Coords) : Fin 3 → Nat :=
  let c1_i32_46 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v76 : BitVec 32 := Scalar.subi c1_i32_46 v9
  let v77 : Index := Scalar.indexCast v76
  let c192_47 : Index := 192#32
  let c0_48 : Index := 0#32
  ![v77.toNat, 192, 0]
def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v37 : Index := Scalar.indexCast v9
  let c0_28 : Index := 0#32
  let c0_29 : Index := 0#32
  ![v37.toNat, 0, 0]
def k0_mult1 (i : grid0.Coords) : BitVec 32 :=
  let arg1 : BitVec 32 := BitVec.ofNat 32 (i 1).val
  let c64_i32 : BitVec 32 := 64#32
  let v57 : BitVec 32 := Scalar.muli arg1 c64_i32
  v57
def k0_off4 (i : grid0.Coords) : Fin 2 → Nat :=
  let arg1 : BitVec 32 := BitVec.ofNat 32 (i 1).val
  let c64_i32 : BitVec 32 := 64#32
  let v57 : BitVec 32 := Scalar.muli arg1 c64_i32
  let v58 : BitVec 32 := v57
  let v59 : Index := Scalar.indexCast v58
  let c0_37 : Index := 0#32
  ![v59.toNat, 0]
def k0_off5 (i : grid0.Coords) : Fin 3 → Nat :=
  let c1_i32_43 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v76 : BitVec 32 := Scalar.subi c1_i32_43 v9
  let v77 : Index := Scalar.indexCast v76
  let arg1 : BitVec 32 := BitVec.ofNat 32 (i 1).val
  let c64_i32 : BitVec 32 := 64#32
  let v57 : BitVec 32 := Scalar.muli arg1 c64_i32
  let v58 : BitVec 32 := v57
  let v78 : Index := Scalar.indexCast v58
  let c0_44 : Index := 0#32
  ![v77.toNat, v78.toNat, 0]
def k0_off6 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v34 : Index := Scalar.indexCast v9
  let c0_24 : Index := 0#32
  let c0_25 : Index := 0#32
  ![v34.toNat, 0, 0]
def k0_off7 (i : grid0.Coords) : Fin 3 → Nat :=
  let c1_i32_40 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v69 : BitVec 32 := Scalar.subi c1_i32_40 v9
  let v70 : Index := Scalar.indexCast v69
  let c0_41 : Index := 0#32
  let c0_42 : Index := 0#32
  ![v70.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let v1 : BitVec 32 := Scalar.minsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]
-- ==== FfnInnerSampleRefIdeal.lean ====
abbrev S8x32x1024 : Shape := ⟨3, ![8, 32, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S8x32 : Shape := ⟨2, ![8, 32]⟩
abbrev S8x32x1 : Shape := ⟨3, ![8, 32, 1]⟩
abbrev S1x1x1024 : Shape := ⟨3, ![1, 1, 1024]⟩
abbrev S1024x4096 : Shape := ⟨2, ![1024, 4096]⟩
abbrev S4096x1024 : Shape := ⟨2, ![4096, 1024]⟩
abbrev S8x32x4096 : Shape := ⟨3, ![8, 32, 4096]⟩
abbrev S256x1024 : Shape := ⟨2, ![256, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S1x1024, .f32⟩
  | .hbm, ⟨2, _⟩ => ⟨S1x1024x4096, .f32⟩
  | .hbm, ⟨3, _⟩ => ⟨S1x1024x4096, .f32⟩
  | .hbm, ⟨4, _⟩ => ⟨S1x4096x1024, .f32⟩
  | .hbm, ⟨5, _⟩ => ⟨S1024, .f32⟩
  | .hbm, ⟨6, _⟩ => ⟨S8x32x1024, .f32⟩
  | .hbm, ⟨7, _⟩ => ⟨S_, .f32⟩
  | .hbm, ⟨8, _⟩ => ⟨S8x32, .f32⟩
  | .hbm, ⟨9, _⟩ => ⟨S8x32x1, .f32⟩
  | .hbm, ⟨10, _⟩ => ⟨S_, .f32⟩
  | .hbm, ⟨11, _⟩ => ⟨S8x32x1, .f32⟩
  | .hbm, ⟨12, _⟩ => ⟨S8x32x1, .f32⟩
  | .hbm, ⟨13, _⟩ => ⟨S_, .f32⟩
  | .hbm, ⟨14, _⟩ => ⟨S8x32x1, .f32⟩
  | .hbm, ⟨15, _⟩ => ⟨S8x32x1, .f32⟩
  | .hbm, ⟨16, _⟩ => ⟨S8x32x1, .f32⟩
  | .hbm, ⟨17, _⟩ => ⟨S8x32x1024, .f32⟩
  | .hbm, ⟨18, _⟩ => ⟨S8x32x1024, .f32⟩
  | .hbm, ⟨19, _⟩ => ⟨S1x1x1024, .f32⟩
  | .hbm, ⟨20, _⟩ => ⟨S8x32x1024, .f32⟩
  | .hbm, ⟨21, _⟩ => ⟨S8x32x1024, .f32⟩
  | .hbm, ⟨22, _⟩ => ⟨S1024x4096, .f32⟩
  | .hbm, ⟨23, _⟩ => ⟨S1024x4096, .f32⟩
  | .hbm, ⟨24, _⟩ => ⟨S4096x1024, .f32⟩
  | .hbm, ⟨25, _⟩ => ⟨S8x32x4096, .f32⟩
  | .hbm, ⟨26, _⟩ => ⟨S8x32x4096, .f32⟩
  | .hbm, ⟨27, _⟩ => ⟨S8x32x4096, .f32⟩
  | .hbm, ⟨28, _⟩ => ⟨S_, .f32⟩
  | .hbm, ⟨29, _⟩ => ⟨S8x32x4096, .f32⟩
  | .hbm, ⟨30, _⟩ => ⟨S8x32x4096, .f32⟩
  | .hbm, ⟨31, _⟩ => ⟨S_, .f32⟩
  | .hbm, ⟨32, _⟩ => ⟨S8x32x4096, .f32⟩
  | .hbm, ⟨33, _⟩ => ⟨S8x32x4096, .f32⟩
  | .hbm, ⟨34, _⟩ => ⟨S8x32x4096, .f32⟩
  | .hbm, ⟨35, _⟩ => ⟨S8x32x4096, .f32⟩
  | .hbm, ⟨36, _⟩ => ⟨S8x32x4096, .f32⟩
  | .hbm, ⟨37, _⟩ => ⟨S8x32x1024, .f32⟩
  | .hbm, ⟨38, _⟩ => ⟨S_, .f32⟩
  | .hbm, ⟨39, _⟩ => ⟨S8x32x1024, .f32⟩
  | .hbm, ⟨40, _⟩ => ⟨S8x32x1024, .f32⟩
  | .hbm, ⟨41, _⟩ => ⟨S8x32x1024, .f32⟩
  | .hbm, ⟨42, _⟩ => ⟨S256x1024, .f32⟩
  | .hbm, ⟨43, _⟩ => ⟨S1024x4096, .f32⟩
  | .hbm, ⟨44, _⟩ => ⟨S1024x4096, .bf16⟩
  | .hbm, ⟨45, _⟩ => ⟨S1024x4096, .f32⟩
  | .hbm, ⟨46, _⟩ => ⟨S1024x4096, .bf16⟩
  | .hbm, ⟨47, _⟩ => ⟨S4096x1024, .f32⟩
  | .hbm, ⟨48, _⟩ => ⟨S4096x1024, .bf16⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Proof.Attn.State.lean ====
/-
  The attention kernel's state, as plain functions over the blocks it reads: what the newest window leaves in the
  accumulator and in the carried sums (`acc0`, `car0`, `done0`), what one trip of the loop over the older windows makes
  of them (`accT`, `carT`, `doneT`), and the loop as a recursion on the trips it may still run (`loop`).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody

@[expose] public section

set_option maxRecDepth 16384

noncomputable section

namespace Cert.KernelIdeal.Attn

open Cert.KernelIdeal Cert.KernelIdeal.Gen
open Idealize.ShloMosaic Idealize.ShloMosaic.TcCoe

variable {F : FTy → Type} [FloatOps F] [Named F]

/-! ## The words -/

/-- The position word of the point's first query row. -/
abbrev posW (i : grid0.Coords) : BitVec 32 := Scalar.addi 1024#32 (Scalar.muli (BitVec.ofNat 32 (i 1).val) 32#32)

/-- The grid's second axis has one coordinate. -/
theorem coord1 (i : grid0.Coords) : (i 1).val = 0 := Nat.lt_one_iff.mp (i 1).isLt

/-- Every point has a whole newest window. -/
theorem cond1 (i : grid0.Coords) : k0_cond1 i = 1#1 := by
  unfold k0_cond1; rw [coord1 i]; decide

/-- The loop's test on the window's number: windows one to four have keys, -/
theorem more_of_lt (i : grid0.Coords) : ∀ j < 5,
    Scalar.cmpi .sgt (Scalar.subi (Scalar.addi (posW i) 32#32) (Scalar.muli (BitVec.ofNat 32 j) 256#32)) 0#32 = 1#1 := by
  unfold posW; rw [coord1 i]; decide

/-- and the fifth has none. -/
theorem no_more (i : grid0.Coords) :
    Scalar.cmpi .sgt (Scalar.subi (Scalar.addi (posW i) 32#32) (Scalar.muli (BitVec.ofNat 32 5) 256#32)) 0#32 = 0#1 := by
  unfold posW; rw [coord1 i]; decide

/-- The next window's number. -/
theorem addi_succ : ∀ j < 5, Scalar.addi (BitVec.ofNat 32 j) 1#32 = BitVec.ofNat 32 (j + 1) := by decide

/-- The window the loop reads lies inside the keys. -/
theorem chk_of_lt (i : grid0.Coords) : ∀ j < 5, k0_chk1 i (BitVec.ofNat 32 j) := by
  unfold k0_chk1 k0_off3 k0_mult3; rw [coord1 i]; decide

/-! ## The rectangles -/

/-- The four column slabs of the queries and of the accumulator: two heads each. -/
abbrev rq0 : Rect S32x512 := Rect.unit (s := S32x512) ![0, 0] S32x128.size inb_S32x512_S32x128_0_0
abbrev rq1 : Rect S32x512 := Rect.unit (s := S32x512) ![0, 128] S32x128.size inb_S32x512_S32x128_0_128
abbrev rq2 : Rect S32x512 := Rect.unit (s := S32x512) ![0, 256] S32x128.size inb_S32x512_S32x128_0_256
abbrev rq3 : Rect S32x512 := Rect.unit (s := S32x512) ![0, 384] S32x128.size inb_S32x512_S32x128_0_384
/-- The carried sums, the accumulator and the output, whole. -/
abbrev rcar : Rect S256x128 := Rect.unit (s := S256x128) ![0, 0] S256x128.size inb_S256x128_S256x128_0_0
abbrev rall : Rect S32x512 := Rect.unit (s := S32x512) ![0, 0] S32x512.size inb_S32x512_S32x512_0_0
/-- The newest window of the keys, -/
abbrev rwin0 (i : grid0.Coords) : Rect S1056x512 := Rect.unit (s := S1056x512) (k0_off1 i) S256x512.size (k0_off1_inb i (cond1 i))
/-- and window `j`. -/
abbrev rwin (i : grid0.Coords) (j : ℕ) (hj : j < 5) : Rect S1056x512 :=
  Rect.unit (s := S1056x512) (k0_off3 i (BitVec.ofNat 32 j)) S256x512.size (k0_off3_inb i (BitVec.ofNat 32 j) (chk_of_lt i j hj))

/-! ## The newest window -/

section First

variable (i : grid0.Coords) (xq : Vec F S32x512 .bf16) (xk xv : Vec F S1056x512 .bf16)

/-- The values of the newest window that its stores are made of, in the kernel's order. -/
def f38 : FVec F S256x512 .bf16 := k0_pay13 (View.ld xk (rwin0 i))
def f41 : FVec F S256x512 .bf16 := k0_pay14 (View.ld xv (rwin0 i))
def f59 : FVec F S32x256 .f32 := k0_pay16 (posW i) k0_pay1 (View.ld xk (rwin0 i)) (View.ld xq rq0)
def f65 : FVec F S32x256 .f32 := k0_pay17 (posW i) k0_pay1 (View.ld xk (rwin0 i)) (View.ld xq rq0)
def f83 : FVec F S32x256 .f32 := k0_pay19 k0_pay1 (k0_pay12 (posW i)) (f38 i xk) (View.ld xq rq1)
def f89 : FVec F S32x256 .f32 := k0_pay20 k0_pay1 (k0_pay12 (posW i)) (f38 i xk) (View.ld xq rq1)
def f107 : FVec F S32x256 .f32 := k0_pay22 k0_pay1 (k0_pay12 (posW i)) (f38 i xk) (View.ld xq rq2)
def f113 : FVec F S32x256 .f32 := k0_pay23 k0_pay1 (k0_pay12 (posW i)) (f38 i xk) (View.ld xq rq2)
def f157 : FVec F S256x128 .f32 :=
  k0_pay27 k0_pay1 (k0_pay2 (F := F)) (k0_pay12 (posW i)) (f38 i xk) (f59 i xq xk) (f65 i xq xk) (f83 i xq xk) (f89 i xq xk) (f107 i xq xk) (f113 i xq xk) (View.ld xq rq3)
def f157s : FVec F S256x128 .f32 :=
  k0_pay28 k0_pay1 (k0_pay2 (F := F)) (k0_pay12 (posW i)) (f38 i xk) (f59 i xq xk) (f65 i xq xk) (f83 i xq xk) (f89 i xq xk) (f107 i xq xk) (f113 i xq xk) (View.ld xq rq3)
def f161 : FVec F S256x256 .f32 :=
  k0_pay29 k0_pay1 (k0_pay2 (F := F)) (k0_pay12 (posW i)) (f38 i xk) (f59 i xq xk) (f65 i xq xk) (f83 i xq xk) (f89 i xq xk) (f107 i xq xk) (f113 i xq xk) (View.ld xq rq3)

/-- The accumulator after the newest window, -/
def acc0 : Vec F S32x512 .f32 :=
  View.canon [⟨rq3, k0_pay34 k0_pay1 (f41 i xv) (f161 i xq xk)⟩, ⟨rq2, k0_pay33 k0_pay1 (f41 i xv) (f161 i xq xk)⟩,
    ⟨rq1, k0_pay32 k0_pay1 (f41 i xv) (f161 i xq xk)⟩, ⟨rq0, k0_pay31 k0_pay1 (f41 i xv) (f161 i xq xk)⟩]
/-- the carried sums, -/
def car0 : Vec F S256x128 .f32 := View.canon [⟨rcar, f157s i xq xk⟩]
/-- and whether every row is spent. -/
def done0 : BitVec 32 := Scalar.extui (Scalar.cmpf .oge (k0_pay3 (f157 i xq xk)) (Named.named κ "survival" 0x43169600#32))

end First

/-! ## A trip of the loop -/

section Trip

variable (i : grid0.Coords) (xq : Vec F S32x512 .bf16) (xk xv : Vec F S1056x512 .bf16) (j : ℕ) (hj : j < 5)
  (acc : Vec F S32x512 .f32) (car : Vec F S256x128 .f32)

/-- The values of window `j` that its stores are made of, in the kernel's order. -/
def t36 : IVec S1x256 1 := k0_pay63 (BitVec.ofNat 32 j) (posW i)
def t39 : FVec F S256x512 .bf16 := k0_pay64 (View.ld xk (rwin i j hj))
def t42 : FVec F S256x512 .bf16 := k0_pay65 (View.ld xv (rwin i j hj))
def t59 : FVec F S32x256 .f32 := k0_pay67 k0_pay1 (BitVec.ofNat 32 j) (posW i) (View.ld xk (rwin i j hj)) (View.ld xq rq0)
def t64 : FVec F S32x256 .f32 := k0_pay68 k0_pay1 (BitVec.ofNat 32 j) (posW i) (View.ld xk (rwin i j hj)) (View.ld xq rq0)
def t81 : FVec F S32x256 .f32 := k0_pay70 k0_pay1 (t36 i j) (t39 i xk j hj) (View.ld xq rq1)
def t86 : FVec F S32x256 .f32 := k0_pay71 k0_pay1 (t36 i j) (t39 i xk j hj) (View.ld xq rq1)
def t103 : FVec F S32x256 .f32 := k0_pay73 k0_pay1 (t36 i j) (t39 i xk j hj) (View.ld xq rq2)
def t108 : FVec F S32x256 .f32 := k0_pay74 k0_pay1 (t36 i j) (t39 i xk j hj) (View.ld xq rq2)
def t110 : FVec F S32x128 .bf16 := k0_pay75 (View.ld xq rq3)
def t156 : FVec F S256x256 .f32 :=
  k0_pay79 k0_pay1 (k0_pay2 (F := F)) (t36 i j) (t39 i xk j hj) (t59 i xq xk j hj) (t64 i xq xk j hj) (t81 i xq xk j hj) (t86 i xq xk j hj)
    (t103 i xq xk j hj) (t108 i xq xk j hj) (t110 xq) (Scalar.ofBits .bf16 0x0000#16) (View.ld car rcar)
def t157 : FVec F S256x128 .f32 :=
  k0_pay80 k0_pay1 (k0_pay2 (F := F)) (t36 i j) (t39 i xk j hj) (t59 i xq xk j hj) (t64 i xq xk j hj) (t81 i xq xk j hj) (t86 i xq xk j hj)
    (t103 i xq xk j hj) (t108 i xq xk j hj) (t110 xq) (Scalar.ofBits .bf16 0x0000#16) (View.ld car rcar)

/-- The accumulator after window `j`, -/
def accT : Vec F S32x512 .f32 :=
  View.canon [⟨rq3, k0_pay10 k0_pay1 (t42 i xv j hj) (k0_pay82 (t156 i xq xk j hj car)) (View.ld acc rq3)⟩,
    ⟨rq2, k0_pay9 (k0_pay85 k0_pay1 (t42 i xv j hj) (t156 i xq xk j hj car) (View.ld acc rq2))⟩,
    ⟨rq1, k0_pay84 k0_pay1 (t42 i xv j hj) (t156 i xq xk j hj car) (View.ld acc rq1)⟩,
    ⟨rq0, k0_pay83 k0_pay1 (t42 i xv j hj) (t156 i xq xk j hj car) (View.ld acc rq0)⟩]
/-- the carried sums, -/
def carT : Vec F S256x128 .f32 := View.canon [⟨rcar, k0_pay81 (t157 i xq xk j hj car)⟩]
/-- and whether every row is spent. -/
def doneT : BitVec 32 :=
  Scalar.extui (Scalar.cmpf .oge (k0_pay11 (iota .tc S1x128 32 [1] iota_S1x128_d1_w32) (t157 i xq xk j hj car)) (Named.named κ "survival" 0x43169600#32))

end Trip

/-- The loop from window `j` with `k` windows to go: while it is not done it takes window `j` and goes on at the next. -/
def loop (i : grid0.Coords) (xq : Vec F S32x512 .bf16) (xk xv : Vec F S1056x512 .bf16) :
    ℕ → ℕ → BitVec 32 → Vec F S32x512 .f32 → Vec F S256x128 .f32 → Vec F S32x512 .f32 × Vec F S256x128 .f32
  | 0, _, _, acc, car => (acc, car)
  | k + 1, j, done, acc, car =>
    if h : j < 5 ∧ done = 0#32 then
      loop i xq xk xv k (j + 1) (doneT i xq xk j h.1 car) (accT i xq xk xv j h.1 acc car) (carT i xq xk j h.1 car)
    else (acc, car)

/-- What the body leaves in the output's buffer: the accumulator after the loop, in the output's format. -/
def out (i : grid0.Coords) (xq : Vec F S32x512 .bf16) (xk xv : Vec F S1056x512 .bf16) : Vec F S32x512 .bf16 :=
  View.canon [⟨rall, k0_pay8 (View.ld (loop i xq xk xv 4 1 (done0 i xq xk) (acc0 i xq xk xv) (car0 i xq xk)).1 rall)⟩]

/-- The slabs cover the accumulator, -/
theorem cover_acc (p3 p2 p1 p0 : Vec F S32x128 .f32) (y : S32x512.Idx) :
    ∃ pc ∈ ([⟨rq3, p3⟩, ⟨rq2, p2⟩, ⟨rq1, p1⟩, ⟨rq0, p0⟩] : List (View.Piece (Elt F) S32x512 .f32)), y ∈ pc.1.set :=
  View.cover_of_tiled [⟨rq3, p3⟩, ⟨rq2, p2⟩, ⟨rq1, p1⟩, ⟨rq0, p0⟩] S32x128.size (by rfl) y
/-- and the whole rectangles their buffers. -/
theorem cover_car (p0 : Vec F S256x128 .f32) (y : S256x128.Idx) :
    ∃ pc ∈ ([⟨rcar, p0⟩] : List (View.Piece (Elt F) S256x128 .f32)), y ∈ pc.1.set :=
  View.cover_of_tiled [⟨rcar, p0⟩] S256x128.size (by rfl) y
theorem cover_out (p0 : Vec F S32x512 .bf16) (y : S32x512.Idx) :
    ∃ pc ∈ ([⟨rall, p0⟩] : List (View.Piece (Elt F) S32x512 .bf16)), y ∈ pc.1.set :=
  View.cover_of_tiled [⟨rall, p0⟩] S32x512.size (by rfl) y

end Cert.KernelIdeal.Attn

end
-- ==== Proof.Attn.Body.lean ====
/-
  The attention kernel's body, run: the loop's label meets its specification by induction on the windows it may still
  read (`spec_le`), and the whole body leaves `out` of the blocks in the output's buffer (`sound_kernel`).
-/
module

public import proofs.«01_k».proof.Proof.Attn.State
public import Idealize.ShloMosaic.Lib.Claim
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The loop's variants: the windows it may still read. -/
abbrev 𝒱₀ : Variants := Variants.nat

section Label

variable (c : Dev nD) (i : grid0.Coords)
  (arg2 : Memref sig .tc .vmem S32x512 .bf16) (harg2 : arg2.IsWhole) (arg3 : Memref sig .tc .vmem S1056x512 .bf16) (harg3 : arg3.IsWhole)
  (arg4 : Memref sig .tc .vmem S1056x512 .bf16) (harg4 : arg4.IsWhole) (arg6 : Memref sig .tc .vmem S32x512 .f32) (harg6 : arg6.IsWhole)
  (arg7 : Memref sig .tc .vmem S256x128 .f32) (harg7 : arg7.IsWhole)
  (xq : Vec F S32x512 .bf16) (xk xv : Vec F S1056x512 .bf16)

/-- The buffers the loop reads and writes: queries, keys and values at their contents, the accumulator at `acc`, the
    carried sums at `car`. -/
def held (acc : Vec F S32x512 .f32) (car : Vec F S256x128 .f32) : sProp 𝕄 :=
  iprop(owns (c : Thread nD τ) arg2 fullShare xq ∗ owns (c : Thread nD τ) arg3 fullShare xk ∗ owns (c : Thread nD τ) arg4 fullShare xv
    ∗ owns (c : Thread nD τ) arg6 fullShare acc ∗ owns (c : Thread nD τ) arg7 fullShare car)

/-- The label's specification at window `j` with `k` windows to go. -/
def spec (k j : ℕ) (done : BitVec 32) (acc : Vec F S32x512 .f32) (car : Vec F S256x128 .f32) : sWPT 𝕄 (BitVec 32 × BitVec 32) := do
  sWPT.consume (held c arg2 arg3 arg4 arg6 arg7 xq xk xv acc car)
  let r ← sWPT.arbitrary
  sWPT.produce (held c arg2 arg3 arg4 arg6 arg7 xq xk xv (loop i xq xk xv k j done acc car).1 (loop i xq xk xv k j done acc car).2)
  pure r

theorem spec_apply (k j : ℕ) (done : BitVec 32) (acc : Vec F S32x512 .f32) (car : Vec F S256x128 .f32) (K : BitVec 32 × BitVec 32 → sProp 𝕄) :
    spec c i arg2 arg3 arg4 arg6 arg7 xq xk xv k j done acc car K
      = iprop(held c arg2 arg3 arg4 arg6 arg7 xq xk xv acc car ∗ ∀ r : BitVec 32 × BitVec 32,
          (held c arg2 arg3 arg4 arg6 arg7 xq xk xv (loop i xq xk xv k j done acc car).1 (loop i xq xk xv k j done acc car).2 -∗ K r)) := rfl

/-- The test fails once every row is spent. -/
theorem test_done (a : BitVec 1) (d : BitVec 32) (hd : ¬d = 0#32) : ¬Scalar.andi a (Scalar.cmpi .eq d 0#32) = 1#1 := by
  simp only [Scalar.andi, Scalar.cmpi, IntOp.cmpi, IntOp.andi]
  have : (d == 0#32) = false := by simpa using hd
  rw [this]; revert a; decide

set_option maxHeartbeats 4000000 in
/-- The label's body meets the specification, by induction on the windows to go. -/
theorem spec_le (E : Set ℕ) :
    ∀ k j, j + k = 5 → ∀ done acc car K, spec (F := F) c i arg2 arg3 arg4 arg6 arg7 xq xk xv k j done acc car K
      ⊢ wp frame (wpE (defs₀ (F := F)) 𝒱₀ (c : Thread nD τ) (some k)) E
          (defs₀ (F := F) .tc 1 ⟨i, arg3, harg3, arg4, harg4, arg2, harg2, k0_pay1, k0_pay2 (F := F), arg7, harg7, arg6, harg6,
            iota .tc S1x128 32 [1] iota_S1x128_d1_w32, BitVec.ofNat 32 j, done⟩) K := by
  intro k
  induction k with
  | zero =>
    intro j hj done acc car K
    rw [spec_apply]
    show _ ⊢ wp frame (wpE (defs₀ (F := F)) 𝒱₀ (c : Thread nD τ) (some 0)) E
      (cc0_while1 i arg3 harg3 arg4 harg4 arg2 harg2 k0_pay1 (k0_pay2 (F := F)) arg7 harg7 arg6 harg6
        (iota .tc S1x128 32 [1] iota_S1x128_d1_w32) (BitVec.ofNat 32 j) done) K
    simp only [cc0_while1_eq_skeleton]; unfold cc0_while1_skel
    have hjT : j = 5 := by omega
    subst hjT
    have htest : ¬Scalar.andi (Scalar.cmpi .sgt (Scalar.subi (Scalar.addi (posW i) 32#32) (Scalar.muli (BitVec.ofNat 32 5) 256#32)) 0#32)
        (Scalar.cmpi .eq done 0#32) = 1#1 := by
      rw [no_more]; generalize Scalar.cmpi .eq done 0#32 = a; revert a; decide
    simp only [htest, ↓reduceIte, Prog.pure_eq_ret]
    iintro ⟨H, Hk⟩
    rw [wp_ret]; imodintro
    iapply Hk
    simp only [loop]; iexact H
  | succ k ih =>
    intro j hj done acc car K
    have hj5 : j < 5 := by omega
    rw [spec_apply]
    show _ ⊢ wp frame (wpE (defs₀ (F := F)) 𝒱₀ (c : Thread nD τ) (some (k + 1))) E
      (cc0_while1 i arg3 harg3 arg4 harg4 arg2 harg2 k0_pay1 (k0_pay2 (F := F)) arg7 harg7 arg6 harg6
        (iota .tc S1x128 32 [1] iota_S1x128_d1_w32) (BitVec.ofNat 32 j) done) K
    simp only [cc0_while1_eq_skeleton]; unfold cc0_while1_skel
    by_cases hd : done = 0#32
    · have htest : Scalar.andi (Scalar.cmpi .sgt (Scalar.subi (Scalar.addi (posW i) 32#32) (Scalar.muli (BitVec.ofNat 32 j) 256#32)) 0#32)
          (Scalar.cmpi .eq done 0#32) = 1#1 := by
        rw [more_of_lt i j hj5, hd]; decide
      simp only [htest, ↓reduceIte, k0_part8_eq_skeleton, k0_part9_eq_skeleton, k0_part10_eq_skeleton, k0_part11_eq_skeleton]
      have hchk : k0_chk1 i (BitVec.ofNat 32 j) := chk_of_lt i j hj5
      have hloop : loop i xq xk xv (k + 1) j done acc car
          = loop i xq xk xv k (j + 1) (doneT i xq xk j hj5 car) (accT i xq xk xv j hj5 acc car) (carT i xq xk j hj5 car) := by
        rw [loop, dif_pos ⟨hj5, hd⟩]
      rw [hloop]
      unfold held owns
      iintro ⟨⟨⟨%f2, %hf2, H2⟩, ⟨%f3, %hf3, H3⟩, ⟨%f4, %hf4, H4⟩, ⟨%f6, %hf6, H6⟩, ⟨%f7, %hf7, H7⟩⟩, Hk⟩
      subst hf2 hf3 hf4 hf6 hf7
      sl_exec
      rw [show spec_le.sl.v21 j = BitVec.ofNat 32 (j + 1) from addi_succ j hj5]
      iapply (wp_call_spec 𝒱₀ (c : Thread nD τ) (some (k + 1)) E
        (spec c i arg2 arg3 arg4 arg6 arg7 (arg2.view.read (Elt F) f2) (arg3.view.read (Elt F) f3) (arg4.view.read (Elt F) f4) k (j + 1)
          (doneT i (arg2.view.read (Elt F) f2) (arg3.view.read (Elt F) f3) j hj5 (arg7.view.read (Elt F) f7))
          (accT i (arg2.view.read (Elt F) f2) (arg3.view.read (Elt F) f3) (arg4.view.read (Elt F) f4) j hj5 (arg6.view.read (Elt F) f6) (arg7.view.read (Elt F) f7))
          (carT i (arg2.view.read (Elt F) f2) (arg3.view.read (Elt F) f3) j hj5 (arg7.view.read (Elt F) f7))) k
        (fun u hu => by cases hu; exact Nat.lt_succ_self k)
        (ih (j + 1) (by omega) _ _ _))
      rw [spec_apply]; unfold held owns
      isplitl [H2 H3 H4 H6 H7]
      · isplitl [H2]
        · iexists f2; isplitr; · ipureintro; rfl
          iexact H2
        isplitl [H3]
        · iexists f3; isplitr; · ipureintro; rfl
          iexact H3
        isplitl [H4]
        · iexists f4; isplitr; · ipureintro; rfl
          iexact H4
        isplitl [H6]
        · iexists _; isplitr
          swap; · iexact H6
          ipureintro
          exact (View.read_writes_eq_canon _ _ _ (cover_acc _ _ _ _)).trans rfl
        · iexists _; isplitr
          swap; · iexact H7
          ipureintro
          exact (View.read_writes_eq_canon _ _ _ (cover_car _)).trans rfl
      iintro %r H
      rw [wp_ret]; imodintro
      iapply Hk
      iexact H
    · have htest := test_done (Scalar.cmpi .sgt (Scalar.subi (Scalar.addi (posW i) 32#32) (Scalar.muli (BitVec.ofNat 32 j) 256#32)) 0#32) done hd
      simp only [htest, ↓reduceIte, Prog.pure_eq_ret]
      iintro ⟨H, Hk⟩
      rw [wp_ret]; imodintro
      iapply Hk
      have hloop : loop i xq xk xv (k + 1) j done acc car = (acc, car) := by
        rw [loop, dif_neg (fun h => hd h.2)]
      rw [hloop]; iexact H

end Label

/-! ## The whole body -/

set_option maxHeartbeats 4000000 in
/-- The kernel body on whole memrefs, the inputs' at contents `xq`, `xk`, `xv` and the output's and the scratch buffers' at
    anything, runs to the continuation holding the inputs' as they were, the output's at `out` of them and the scratch
    buffers' at something. -/
theorem sound_kernel (c : Dev nD) (E : Set ℕ) (i : grid0.Coords)
    (arg2 : Memref sig .tc .vmem S32x512 .bf16) (harg2 : arg2.IsWhole) (arg3 : Memref sig .tc .vmem S1056x512 .bf16) (harg3 : arg3.IsWhole)
    (arg4 : Memref sig .tc .vmem S1056x512 .bf16) (harg4 : arg4.IsWhole) (arg5 : Memref sig .tc .vmem S32x512 .bf16) (harg5 : arg5.IsWhole)
    (arg6 : Memref sig .tc .vmem S32x512 .f32) (harg6 : arg6.IsWhole) (arg7 : Memref sig .tc .vmem S256x128 .f32) (harg7 : arg7.IsWhole)
    (xq : Vec F S32x512 .bf16) (xk xv : Vec F S1056x512 .bf16) (K : PUnit → sProp 𝕄) :
    iprop(owns (c : Thread nD τ) arg2 fullShare xq ∗ owns (c : Thread nD τ) arg3 fullShare xk ∗ owns (c : Thread nD τ) arg4 fullShare xv
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare xq ∗ owns (c : Thread nD τ) arg3 fullShare xk ∗ owns (c : Thread nD τ) arg4 fullShare xv
            ∗ owns (c : Thread nD τ) arg5 fullShare (out i xq xk xv) ∗ (∃ d, owns (c : Thread nD τ) arg6 fullShare d) ∗ (∃ d, owns (c : Thread nD τ) arg7 fullShare d)) -∗ K ⟨⟩))
      ⊢ wp frame (wpE (defs₀ (F := F)) 𝒱₀ c none) E (cc0_attn i arg2 harg2 arg3 harg3 arg4 harg4 arg5 harg5 arg6 harg6 arg7 harg7) K := by
  simp only [cc0_attn_eq_skeleton]; unfold cc0_attn_skel
  have hc : k0_cond1 i = 1#1 := cond1 i
  simp only [dif_pos hc, k0_part1_eq_skeleton, k0_part2_eq_skeleton, k0_part3_eq_skeleton, k0_part4_eq_skeleton]
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf2 hf3 hf4
  sl_exec
  iapply (wp_call_spec 𝒱₀ (c : Thread nD τ) none E
    (spec c i arg2 arg3 arg4 arg6 arg7 (arg2.view.read (Elt F) f2) (arg3.view.read (Elt F) f3) (arg4.view.read (Elt F) f4) 4 1
      (done0 i (arg2.view.read (Elt F) f2) (arg3.view.read (Elt F) f3))
      (acc0 i (arg2.view.read (Elt F) f2) (arg3.view.read (Elt F) f3) (arg4.view.read (Elt F) f4))
      (car0 i (arg2.view.read (Elt F) f2) (arg3.view.read (Elt F) f3))) 4
    (fun u hu => nomatch hu)
    (spec_le c i arg2 harg2 arg3 harg3 arg4 harg4 arg6 harg6 arg7 harg7 _ _ _ E 4 1 rfl _ _ _))
  rw [spec_apply]; unfold held owns
  isplitl [H2 H3 H4 H6 H7]
  · isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H6]
    · iexists _; isplitr
      swap; · iexact H6
      ipureintro
      exact (View.read_writes_eq_canon _ _ _ (cover_acc _ _ _ _)).trans rfl
    · iexists _; isplitr
      swap; · iexact H7
      ipureintro
      exact (View.read_writes_eq_canon _ _ _ (cover_car _)).trans rfl
  iintro %r ⟨⟨%g2, %hg2, H2⟩, ⟨%g3, %hg3, H3⟩, ⟨%g4, %hg4, H4⟩, ⟨%g6, %hg6, H6⟩, ⟨%g7, -, H7⟩⟩
  sl_exec
  sl_step
  iapply Hk
  isplitl [H2]
  · iexists g2; isplitr; · ipureintro; exact hg2
    iexact H2
  isplitl [H3]
  · iexists g3; isplitr; · ipureintro; exact hg3
    iexact H3
  isplitl [H4]
  · iexists g4; isplitr; · ipureintro; exact hg4
    iexact H4
  isplitl [H5]
  · iexists _; isplitr
    swap; · iexact H5
    ipureintro
    refine (View.read_writes_eq_canon _ _ _ (cover_out _)).trans ?_
    unfold out; rw [← hg6]; rfl
  isplitl [H6]
  · iexists _; iexists g6; isplitr; · ipureintro; rfl
    iexact H6
  · iexists _; iexists g7; isplitr; · ipureintro; rfl
    iexact H7

end Cert.KernelIdeal.Attn

end
-- ==== Proof.Attn.Run.lean ====
/-
  The attention kernel's launch: the arrays as the region finds them (`V`), the windows' blocks (`iblk`), the pipeline's
  proof data (`dats`), the body obligation, the run (`run_main`) and the frame.
-/
module

public import proofs.«01_k».proof.Proof.Attn.Body

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- A core's buffers when the region is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region. -/
theorem hmain : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument: the region finds each as launched. -/
theorem V_arg (c : Dev nD) (b : Ref sig .tc) (hb : b ∈ [main_arg0, main_arg1, main_arg2, main_arg3, main_arg4]) :
    V m c b = m ((c : Thread nD τ).loc b) := by
  refine StableHlo.after_of_forall_not_mem (b := Proc.devRef .tc b) _ _ (List.forall_iff_forall_mem.mp ?_)
  simp only [List.mem_cons, List.not_mem_nil, or_false] at hb
  rcases hb with rfl | rfl | rfl | rfl | rfl
  all_goals
    simp only [hostOps0, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)

/-! ## The windows' blocks -/

/-- Window `w`'s block at point `t`, read off its array as the region finds it. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The pipeline's proof data on core `c`: the arrays as the region finds them; after the body each input's buffer at its
    block and the output's at `out` of the blocks; the scratch buffers and the generator register untouched; nothing owed;
    full shares. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => out (grid0.coords t) (iblk m c 0 t) (iblk m c 1 t) (iblk m c 2 t)
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) :
    (dats m 0 c).after 3 t = out (grid0.coords t) (iblk m c 0 t) (iblk m c 1 t) (iblk m c 2 t) := by dsimp only [dats]; rfl

/-- Each input's staging buffer holds its block when the body starts. -/
theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The scratch buffers and the register, spelt out. -/
theorem Φ_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d))
        ∗ ∃ r, prngReg c r) := by
  unfold Pipeline.ΦA
  rw [scopedRest0_eq]
  simp only [owns_whole]

/-- The body at any point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, Φ_eq]
  iintro ⟨⟨⟨Hs0, Hs1⟩, Hp⟩, Ho, ⟨%d0, H0⟩, ⟨%d1, H1⟩, ⟨%d2, H2⟩, ⟨%d3, H3⟩⟩
  iapply (sound_kernel c Set.univ (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [Hs0]; · iexact Hs0
  isplitl [Hs1]; · iexact Hs1
  iintro ⟨H0, H1, H2, H3, Hs0, Hs1⟩
  isplitl [Hs0 Hs1 Hp]
  · isplitl [Hs0 Hs1]
    · isplitl [Hs0]; · iexact Hs0
      iexact Hs1
    iexact Hp
  isplitl [Ho]; · iexact Ho
  isplitl [H0]; · iexact H0
  isplitl [H1]; · iexact H1
  isplitl [H2]; · iexact H2
  iexact H3

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every run ends, each array of the pipeline at what the proof data says, every other buffer as the region
    found it, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- An argument's array ends as launched: no window stages it and no host operation writes it. -/
theorem arg_kept (r) (h : Pipeline.FramePost cfgs (dats (F := F) m) 0 (V m) r) (c : Dev nD) (b : Ref sig .tc)
    (hb : b ∈ [main_arg0, main_arg1, main_arg2, main_arg3, main_arg4]) :
    r.2.mem ((c.tc : Thread nD τ).loc b) = m ((c.tc : Thread nD τ).loc b) := by
  refine ((h c).2 b ?_).trans (V_arg m c b hb)
  simp only [List.mem_cons, List.not_mem_nil, or_false] at hb
  have hw : ∀ b ∈ [main_arg0, main_arg1, main_arg2, main_arg3, main_arg4], ∀ w : Fin 4, (spec0 w).arr.view.ref ≠ b := by decide
  rcases hb with rfl | rfl | rfl | rfl | rfl <;> exact Pipeline.mem_restRefs_of _ (by decide) (hw _ (by simp))

/-- The frame: every run ends with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨arg_kept m r h.1 c _ (by simp), arg_kept m r h.1 c _ (by simp), arg_kept m r h.1 c _ (by simp),
      arg_kept m r h.1 c _ (by simp), arg_kept m r h.1 c _ (by simp)⟩, h.2⟩) (run_main_quiescent m ρ)

end Cert.KernelIdeal.Attn

end
-- ==== Proof.Attn.Math.lean ====
/- The attention's row, over the extended reals: the weights a row of scores gives (`wgt`), the sums one window of 256 keys
   adds to a row (`win`), and the same weights as the reference writes them. -/
module

public import Idealize.ShloMosaic.PureOps.Ideal

@[expose] public section

set_option maxRecDepth 16384

noncomputable section

namespace Cert.AttnMath

open Idealize.ShloMosaic

/-- The softplus in base two, as the kernel writes it. -/
def sp2 (z : EReal) : EReal :=
  max z 0 + Ideal.log (1 + Ideal.exp2 (0 - max z (-z))) * (((Real.log 2)⁻¹ : ℝ) : EReal)

/-- The weight of key `s` of a row of scores: every newer key's softplus is taken off. -/
def wgt (x : ℕ → EReal) (s : ℕ) : EReal :=
  Ideal.exp2 ((x s - sp2 (x s)) - ∑ u ∈ Finset.Ico (s + 1) 1056, sp2 (x u))

/-- A window's weight of its key `k`, over the window's scores and the sums carried into it. -/
def wloc (y : Fin 256 → EReal) (C : EReal) (k : Fin 256) : EReal :=
  Ideal.exp2 (((y k - sp2 (y k)) - ∑ r : Fin 256, sp2 (y r) * (if (k : ℕ) < r then 1 else 0)) - C)

theorem exp2_bot : Ideal.exp2 ⊥ = 0 := rfl
theorem log_coe (r : ℝ) (h : 0 < r) : Ideal.log (r : EReal) = ((Real.log r : ℝ) : EReal) := by
  show (if r ≤ 0 then (⊥ : EReal) else ((Real.log r : ℝ) : EReal)) = _
  rw [if_neg (not_le.mpr h)]
theorem log_one : Ideal.log 1 = 0 := by
  refine (log_coe 1 one_pos).trans ?_
  rw [Real.log_one]; rfl
theorem coe_max' (a b : ℝ) : ((max a b : ℝ) : EReal) = max (a : EReal) (b : EReal) := EReal.coe_strictMono.monotone.map_max

theorem exp2_coe (r : ℝ) : Ideal.exp2 (r : EReal) = ((Real.rpow 2 r : ℝ) : EReal) := rfl

/-- The softplus of nothing is zero. -/
theorem sp2_bot : sp2 ⊥ = 0 := by
  unfold sp2
  have : (0 : EReal) - max ⊥ (-⊥) = ⊥ := by simp
  rw [this, exp2_bot, add_zero, log_one]; simp

theorem sp2_top : sp2 ⊤ = ⊤ := by
  unfold sp2
  have : (0 : EReal) - max ⊤ (-⊤) = ⊥ := by simp
  rw [this, exp2_bot, add_zero, log_one]; simp

theorem log2_pos : 0 < Real.log 2 := Real.log_pos (by norm_num)

/-- The softplus of a real. -/
theorem sp2_coe (r : ℝ) : sp2 (r : EReal) = ((Real.log (1 + Real.exp (r * Real.log 2)) / Real.log 2 : ℝ) : EReal) := by
  have h2 := log2_pos
  have e1 : (0 : EReal) - max (r : EReal) (-(r : EReal)) = ((-|r| : ℝ) : EReal) := by
    rw [zero_sub, ← EReal.coe_neg, ← coe_max']
    rw [show max r (-r) = |r| from rfl]; rfl
  have e2 : (0 : ℝ) < 1 + Real.rpow 2 (-|r|) := by
    have : (0 : ℝ) < Real.rpow 2 (-|r|) := Real.rpow_pos_of_pos (by norm_num) _
    linarith
  unfold sp2
  rw [e1, exp2_coe, show (1 : EReal) = ((1 : ℝ) : EReal) from rfl, ← EReal.coe_add]
  have e3 : Ideal.log ((1 + Real.rpow 2 (-|r|) : ℝ) : EReal) = ((Real.log (1 + Real.rpow 2 (-|r|)) : ℝ) : EReal) :=
    log_coe _ e2
  rw [e3, ← EReal.coe_mul, show (0 : EReal) = ((0 : ℝ) : EReal) from rfl, ← coe_max', ← EReal.coe_add]
  congr 1
  have e4 : Real.rpow 2 (-|r|) = Real.exp (-(|r| * Real.log 2)) := by
    show (2 : ℝ) ^ (-|r|) = _
    rw [Real.rpow_def_of_pos (by norm_num)]; congr 1; ring
  rw [e4]
  rcases le_total 0 r with h | h
  · rw [abs_of_nonneg h, max_eq_left h]
    have : 1 + Real.exp (r * Real.log 2) = Real.exp (r * Real.log 2) * (1 + Real.exp (-(r * Real.log 2))) := by
      rw [mul_add, ← Real.exp_add]; simp [add_comm]
    rw [this, Real.log_mul (Real.exp_pos _).ne' (by positivity), Real.log_exp]
    field_simp
  · rw [abs_of_nonpos h, max_eq_right h]
    have : -(-r * Real.log 2) = r * Real.log 2 := by ring
    rw [this]; simp [div_eq_mul_inv]

/-- A softplus is never negative. -/
theorem sp2_nonneg (z : EReal) : 0 ≤ sp2 z := by
  induction z with
  | bot => rw [sp2_bot]
  | top => rw [sp2_top]; exact le_top
  | coe r =>
    rw [sp2_coe]
    have : 0 ≤ Real.log (1 + Real.exp (r * Real.log 2)) := Real.log_nonneg (by have := Real.exp_pos (r * Real.log 2); linarith)
    exact_mod_cast div_nonneg this log2_pos.le

theorem sum_sp2_nonneg {ι : Type} (A : Finset ι) (x : ι → EReal) : 0 ≤ ∑ u ∈ A, sp2 (x u) :=
  Finset.sum_nonneg fun _ _ => sp2_nonneg _

/-- Taking off two sums one after the other is taking off both. -/
theorem sub_sub_nonneg (z a b : EReal) (ha : 0 ≤ a) (hb : 0 ≤ b) : z - a - b = z - (b + a) := by
  rw [sub_eq_add_neg, sub_eq_add_neg, sub_eq_add_neg, EReal.neg_add, add_assoc, sub_eq_add_neg, add_comm (-a)]
  · exact .inl (ne_of_gt (lt_of_lt_of_le EReal.bot_lt_zero hb))
  · exact .inr (ne_of_gt (lt_of_lt_of_le EReal.bot_lt_zero ha))

/-- A window of 256 keys that begins at `lo` and whose keys from `E` on were taken already: its weights are the row's. -/
theorem win_wgt (x : ℕ → EReal) (y : Fin 256 → EReal) (C : EReal) (lo E : ℕ) (h1 : E ≤ lo + 256) (h2 : E ≤ 1056)
    (hy : ∀ k : Fin 256, y k = if lo + k < E then x (lo + k) else ⊥)
    (hC : C = ∑ u ∈ Finset.Ico E 1056, sp2 (x u)) (k : Fin 256) (v : EReal) :
    wloc y C k * v = if lo + k < E then wgt x (lo + k) * v else 0 := by
  unfold wloc wgt
  by_cases hk : lo + k < E
  · rw [if_pos hk]
    have hs : ∑ r : Fin 256, sp2 (y r) * (if (k : ℕ) < r then 1 else 0) = ∑ u ∈ Finset.Ico (lo + k + 1) E, sp2 (x u) := by
      have e1 : ∀ r : Fin 256, sp2 (y r) * (if (k : ℕ) < r then 1 else 0)
          = (fun n : ℕ => if k + 1 ≤ n ∧ lo + n < E then sp2 (x (lo + n)) else 0) r := by
        intro r
        dsimp only
        rw [hy r]
        by_cases ha : lo + r < E <;> by_cases hb : (k : ℕ) < r <;> simp [ha, hb, sp2_bot, Nat.succ_le_iff]
      rw [Finset.sum_congr rfl fun r _ => e1 r,
        Fin.sum_univ_eq_sum_range (fun n : ℕ => if k + 1 ≤ n ∧ lo + n < E then sp2 (x (lo + n)) else 0) 256,
        ← Finset.sum_filter]
      refine Finset.sum_nbij' (fun n => lo + n) (fun u => u - lo) ?_ ?_ ?_ ?_ ?_
      · intro n hn; simp only [Finset.mem_filter, Finset.mem_range, Finset.mem_Ico] at hn ⊢; omega
      · intro n hn; simp only [Finset.mem_filter, Finset.mem_range, Finset.mem_Ico] at hn ⊢
        rw [show lo + (n - lo) = n by omega]; omega
      · intro n hn; show _ = _; omega
      · intro n hn; simp only [Finset.mem_Ico] at hn; show _ = _; omega
      · intro n hn; rfl
    rw [hs, hy k, if_pos hk, sub_sub_nonneg _ _ _ (sum_sp2_nonneg _ _) (by rw [hC]; exact sum_sp2_nonneg _ _), hC,
      add_comm (∑ u ∈ Finset.Ico E 1056, sp2 (x u)), Finset.sum_Ico_consecutive _ (by omega) h2]
  · rw [if_neg hk, hy k, if_neg hk]
    simp [exp2_bot]

/-- What the window adds to a row of the result, -/
theorem win_sum (x : ℕ → EReal) (y : Fin 256 → EReal) (C : EReal) (lo E : ℕ) (h0 : lo ≤ E) (h1 : E ≤ lo + 256) (h2 : E ≤ 1056)
    (hy : ∀ k : Fin 256, y k = if lo + k < E then x (lo + k) else ⊥)
    (hC : C = ∑ u ∈ Finset.Ico E 1056, sp2 (x u)) (v : ℕ → EReal) :
    ∑ k : Fin 256, wloc y C k * v (lo + k) = ∑ s ∈ Finset.Ico lo E, wgt x s * v s := by
  rw [Finset.sum_congr rfl fun k _ => win_wgt x y C lo E h1 h2 hy hC k _,
    Fin.sum_univ_eq_sum_range (fun n : ℕ => if lo + n < E then wgt x (lo + n) * v (lo + n) else 0) 256, ← Finset.sum_filter]
  refine Finset.sum_nbij' (fun n => lo + n) (fun u => u - lo) ?_ ?_ ?_ ?_ ?_
  · intro n hn; simp only [Finset.mem_filter, Finset.mem_range, Finset.mem_Ico] at hn ⊢; omega
  · intro n hn; simp only [Finset.mem_filter, Finset.mem_range, Finset.mem_Ico] at hn ⊢
    rw [show lo + (n - lo) = n by omega]; omega
  · intro n hn; show _ = _; omega
  · intro n hn; simp only [Finset.mem_Ico] at hn; show _ = _; omega
  · intro n hn; rfl

/-- and to the carried sums. -/
theorem win_total (x : ℕ → EReal) (y : Fin 256 → EReal) (lo E : ℕ) (h0 : lo ≤ E) (h1 : E ≤ lo + 256)
    (hy : ∀ k : Fin 256, y k = if lo + k < E then x (lo + k) else ⊥) :
    (∑ r : Fin 256, sp2 (y r) * (if 0 < (r : ℕ) then 1 else 0)) + sp2 (y 0) = ∑ s ∈ Finset.Ico lo E, sp2 (x s) := by
  have e0 : (∑ r : Fin 256, sp2 (y r) * (if 0 < (r : ℕ) then 1 else 0)) + sp2 (y 0) = ∑ r : Fin 256, sp2 (y r) := by
    rw [Fin.sum_univ_succ, Fin.sum_univ_succ (fun r => sp2 (y r))]
    simp [add_comm]
  rw [e0, Finset.sum_congr rfl fun r _ => show sp2 (y r) = (fun n : ℕ => if lo + n < E then sp2 (x (lo + n)) else 0) r by
      rw [hy r]; dsimp only; split <;> simp [sp2_bot],
    Fin.sum_univ_eq_sum_range (fun n : ℕ => if lo + n < E then sp2 (x (lo + n)) else 0) 256, ← Finset.sum_filter]
  refine Finset.sum_nbij' (fun n => lo + n) (fun u => u - lo) ?_ ?_ ?_ ?_ ?_
  · intro n hn; simp only [Finset.mem_filter, Finset.mem_range, Finset.mem_Ico] at hn ⊢; omega
  · intro n hn; simp only [Finset.mem_filter, Finset.mem_range, Finset.mem_Ico] at hn ⊢
    rw [show lo + (n - lo) = n by omega]; omega
  · intro n hn; show _ = _; omega
  · intro n hn; simp only [Finset.mem_Ico] at hn; show _ = _; omega
  · intro n hn; rfl

/-- A row whose carried sums are infinite has no weight left: the keys before `E` add nothing. -/
theorem spent (x v : ℕ → EReal) (E : ℕ) (h2 : E ≤ 1056) (h : ∑ u ∈ Finset.Ico E 1056, sp2 (x u) = ⊤) :
    ∑ s ∈ Finset.Ico E 1056, wgt x s * v s = ∑ s ∈ Finset.Ico 0 1056, wgt x s * v s := by
  rw [← Finset.sum_Ico_consecutive _ (Nat.zero_le E) h2]
  refine ((congrArg (· + _) (Finset.sum_eq_zero fun s hs => ?_)).trans (zero_add _)).symm
  rw [Finset.mem_Ico] at hs
  have e : ∑ u ∈ Finset.Ico (s + 1) 1056, sp2 (x u) = ⊤ := by
    rw [← Finset.sum_Ico_consecutive _ (show s + 1 ≤ E by omega) h2, h]
    exact EReal.add_top_of_ne_bot (ne_of_gt (lt_of_lt_of_le EReal.bot_lt_zero (sum_sp2_nonneg _ _)))
  unfold wgt
  rw [e]; simp [exp2_bot]

/-! ## The reference's form -/

/-- The softplus as the reference writes it. -/
def sp (x : EReal) : EReal := max x 0 + Ideal.log1p (Ideal.exp (-(max (x - 0) (-(x - 0)))))

theorem exp_coe (r : ℝ) : Ideal.exp (r : EReal) = ((Real.exp r : ℝ) : EReal) := rfl

theorem sp_bot : sp ⊥ = 0 := by
  unfold sp Ideal.log1p
  have : -max ((⊥ : EReal) - 0) (-(⊥ - 0)) = ⊥ := by simp
  rw [this, show Ideal.exp ⊥ = 0 from rfl, add_zero, log_one]; simp
theorem sp_top : sp ⊤ = ⊤ := by
  unfold sp Ideal.log1p
  have : -max ((⊤ : EReal) - 0) (-(⊤ - 0)) = ⊥ := by simp
  rw [this, show Ideal.exp ⊥ = 0 from rfl, add_zero, log_one]; simp
theorem sp_coe (r : ℝ) : sp (r : EReal) = ((Real.log (1 + Real.exp r) : ℝ) : EReal) := by
  have e1 : -max ((r : EReal) - 0) (-((r : EReal) - 0)) = ((-|r| : ℝ) : EReal) := by
    rw [sub_zero, ← EReal.coe_neg, ← coe_max']; rfl
  unfold sp Ideal.log1p
  rw [e1, exp_coe, show (1 : EReal) = ((1 : ℝ) : EReal) from rfl, ← EReal.coe_add, log_coe _ (by positivity),
    show (0 : EReal) = ((0 : ℝ) : EReal) from rfl, ← coe_max', ← EReal.coe_add]
  congr 1
  rcases le_total 0 r with h | h
  · rw [abs_of_nonneg h, max_eq_left h]
    have : 1 + Real.exp r = Real.exp r * (1 + Real.exp (-r)) := by
      rw [mul_add, ← Real.exp_add]; simp [add_comm]
    rw [this, Real.log_mul (Real.exp_pos _).ne' (by positivity), Real.log_exp]
  · rw [abs_of_nonpos h, max_eq_right h, neg_neg, zero_add]

/-- One over the logarithm of two. -/
abbrev c2 : EReal := (((Real.log 2)⁻¹ : ℝ) : EReal)
theorem c2_pos : (0 : EReal) < c2 := EReal.coe_pos.mpr (inv_pos.mpr log2_pos)
theorem c2_add (a b : EReal) : c2 * (a + b) = c2 * a + c2 * b :=
  EReal.left_distrib_of_nonneg_of_ne_top c2_pos.le (EReal.coe_ne_top _) a b
theorem c2_neg (a : EReal) : c2 * -a = -(c2 * a) := by rw [mul_neg]
theorem c2_bot : c2 * ⊥ = ⊥ := EReal.coe_mul_bot_of_pos (inv_pos.mpr log2_pos)
theorem c2_top : c2 * ⊤ = ⊤ := EReal.coe_mul_top_of_pos (inv_pos.mpr log2_pos)
theorem c2_sum {ι : Type} (A : Finset ι) (f : ι → EReal) : c2 * ∑ u ∈ A, f u = ∑ u ∈ A, c2 * f u := by
  classical
  induction A using Finset.induction_on with
  | empty => simp
  | insert a A ha ih => rw [Finset.sum_insert ha, Finset.sum_insert ha, c2_add, ih]

/-- The kernel's softplus of a score in its units is the reference's in those units. -/
theorem sp2_scaled (z : EReal) : sp2 (c2 * z) = c2 * sp z := by
  induction z with
  | bot => rw [c2_bot, sp2_bot, sp_bot, mul_zero]
  | top => rw [c2_top, sp2_top, sp_top, c2_top]
  | coe r =>
    rw [sp_coe, ← EReal.coe_mul, sp2_coe, ← EReal.coe_mul]
    congr 1
    have := log2_pos.ne'
    rw [show (Real.log 2)⁻¹ * r * Real.log 2 = r by field_simp]
    field_simp

theorem exp2_scaled (z : EReal) : Ideal.exp2 (c2 * z) = Ideal.exp z := by
  induction z with
  | bot => rw [c2_bot]; rfl
  | top => rw [c2_top]; rfl
  | coe r =>
    rw [← EReal.coe_mul, exp2_coe, exp_coe]
    congr 1
    refine (Real.rpow_def_of_pos (by norm_num) _).trans ?_
    congr 1
    have := log2_pos.ne'
    field_simp

/-- A score less its softplus is the logarithm of its sigmoid. -/
theorem sub_sp (z : EReal) (h : z ≠ ⊤) : z - sp z = -sp (-z) := by
  induction z with
  | bot => rw [sp_bot, EReal.neg_bot, sp_top]; simp
  | top => exact absurd rfl h
  | coe r =>
    rw [← EReal.coe_neg, sp_coe, sp_coe, ← EReal.coe_neg, ← EReal.coe_sub]
    congr 1
    have : 1 + Real.exp r = Real.exp r * (1 + Real.exp (-r)) := by
      rw [mul_add, ← Real.exp_add]; simp [add_comm]
    rw [this, Real.log_mul (Real.exp_pos _).ne' (by positivity), Real.log_exp]
    ring

theorem sp_nonneg (z : EReal) : 0 ≤ sp z := by
  induction z with
  | bot => rw [sp_bot]
  | top => rw [sp_top]; exact le_top
  | coe r =>
    rw [sp_coe]
    exact_mod_cast Real.log_nonneg (by have := Real.exp_pos r; linarith)
theorem sp_fin (z : EReal) (h : z ≠ ⊤) : ∃ r : ℝ, sp z = r := by
  induction z with
  | bot => exact ⟨0, sp_bot⟩
  | top => exact absurd rfl h
  | coe r => exact ⟨_, sp_coe r⟩

/-- The logarithm of one less the sigmoid, zero off the mask. -/
def surv (z : ℕ → EReal) (n u : ℕ) : EReal := if u < n then -sp (-(-(z u))) else 0
/-- The weight as the reference writes it. -/
def rwgt (z : ℕ → EReal) (n s : ℕ) : EReal :=
  if s < n then Ideal.exp (-sp (-(z s)) + ((∑ u ∈ Finset.Ico s 1056, surv z n u) - surv z n s)) else 0

/-- A sum of negated values that are never negative. -/
theorem sum_neg {ι : Type} (A : Finset ι) (f : ι → EReal) (h : ∀ u, 0 ≤ f u) : ∑ u ∈ A, -f u = -∑ u ∈ A, f u := by
  classical
  induction A using Finset.induction_on with
  | empty => simp
  | insert a A ha ih =>
    have hA : 0 ≤ ∑ u ∈ A, f u := Finset.sum_nonneg fun u _ => h u
    rw [Finset.sum_insert ha, Finset.sum_insert ha, ih, EReal.neg_add, sub_eq_add_neg]
    · exact .inl (ne_of_gt (lt_of_lt_of_le EReal.bot_lt_zero (h a)))
    · exact .inr (ne_of_gt (lt_of_lt_of_le EReal.bot_lt_zero hA))

/-- The reference's weight of a row of scores is the kernel's of the row in the kernel's units, masked. -/
theorem rwgt_eq (z : ℕ → EReal) (n s : ℕ) (hs : s < 1056) :
    rwgt z n s = wgt (fun u => if u < n then c2 * z u else ⊥) s := by
  unfold rwgt wgt
  beta_reduce
  by_cases h : s < n
  · rw [if_pos h, if_pos h]
    have e1 : ∀ u, surv z n u = -(fun u => if u < n then sp (z u) else 0) u := fun u => by
      unfold surv; dsimp only; split
      · rw [neg_neg]
      · simp
    have e2 : ∀ u, sp2 (if u < n then c2 * z u else ⊥) = c2 * (fun u => if u < n then sp (z u) else 0) u := fun u => by
      dsimp only; split
      · exact sp2_scaled _
      · rw [sp2_bot, mul_zero]
    have hn : ∀ u, 0 ≤ (fun u => if u < n then sp (z u) else 0) u := fun u => by
      dsimp only; split
      · exact sp_nonneg _
      · exact le_rfl
    simp only [e1, e2]
    rw [sum_neg _ _ hn, ← c2_sum, Finset.sum_eq_sum_Ico_succ_bot hs, sp2_scaled]
    simp only [if_pos h]
    have hG : 0 ≤ ∑ u ∈ Finset.Ico (s + 1) 1056, (fun u => if u < n then sp (z u) else 0) u :=
      Finset.sum_nonneg fun u _ => hn u
    beta_reduce at hG
    generalize (∑ u ∈ Finset.Ico (s + 1) 1056, if u < n then sp (z u) else 0) = G at hG ⊢
    have e3 : c2 * z s - c2 * sp (z s) - c2 * G = c2 * (z s - sp (z s) - G) := by
      rw [sub_eq_add_neg, sub_eq_add_neg, sub_eq_add_neg, sub_eq_add_neg, c2_add, c2_add, c2_neg, c2_neg]
    rw [e3, exp2_scaled]
    by_cases ht : z s = ⊤
    · rw [ht, sp_top]
      have : -(⊤ + G) = ⊥ := by
        rw [EReal.top_add_of_ne_bot (ne_of_gt (lt_of_lt_of_le EReal.bot_lt_zero hG))]; rfl
      rw [this]; simp
    · obtain ⟨g, e⟩ := sp_fin _ ht
      rw [← sub_sp _ ht, e]
      congr 1
      have : -((g : EReal) + G) - -(g : EReal) = -G := by
        induction G with
        | bot => exact absurd hG (by simp)
        | top => simp
        | coe r => rw [← EReal.coe_add, ← EReal.coe_neg, ← EReal.coe_neg, ← EReal.coe_neg, ← EReal.coe_sub]; congr 1; ring
      rw [this]; rfl
  · rw [if_neg h, if_neg h]; simp [exp2_bot]

end Cert.AttnMath

end
-- ==== Proof.Attn.Pays.lean ====
/- The attention kernel's payloads read at an index. -/
module

public import proofs.«01_k».proof.Proof.Gen.KernelIdeal.Skeleton
public import proofs.«01_k».proof.Proof.Attn.Math
public import Idealize.ShloMosaic.Lib.Pipeline.ValueKit
public import Idealize.ShloMosaic.Lib.WordCmp

@[expose] public section

set_option maxRecDepth 16384

noncomputable section

namespace Cert.KernelIdeal.Attn

open Cert.KernelIdeal Cert.KernelIdeal.Gen Cert.AttnMath
open Idealize.ShloMosaic Idealize.ShloMosaic.TcCoe

/-- The product of a query row's first head with a key row, and of its second, of the 128 lanes that hold both. -/
def dot0 (q k : Fin 128 → EReal) : EReal := ∑ l : Fin 128, if (l : ℕ) < 64 then q l * k l else 0
def dot1 (q k : Fin 128 → EReal) : EReal := ∑ l : Fin 128, if (l : ℕ) < 64 then 0 else q l * k l

theorem select_ite {α : Type} (p : Prop) [Decidable p] (a b : α) : Scalar.select (if p then 1#1 else 0#1) a b = if p then a else b := by
  split <;> rfl

theorem ofBool_ite (p : Prop) [Decidable p] : BitVec.ofBool (decide p) = if p then 1#1 else 0#1 := by
  by_cases h : p <;> simp [h]

/-- The mask of the first head's lanes. -/
theorem pay1_at (l : Fin 128) : k0_pay1 (ix2 (0 : Fin 1) l) = if (l : ℕ) < 64 then 1#1 else 0#1 := by
  pointwise [k0_pay1]
  rw [WordCmp.cmpi_slt_ofNat (by omega) (by omega), ofBool_ite]

/-- The matrix that sums the newer keys. -/
theorem pay2_at (r c : Fin 256) : k0_pay2 (F := Ideal) (ix2 r c) = if (c : ℕ) < r then 1 else 0 := by
  pointwise [k0_pay2]
  rw [WordCmp.cmpi_sgt_ofNat (by omega) (by omega), ofBool_ite, select_ite]

/-- The newest window's mask on its last 128 keys. -/
theorem pay12_at (t : Fin 32) (l : Fin 128) : k0_pay12 1024#32 (ix2 t l) = if (l : ℕ) < 96 + t then 1#1 else 0#1 := by
  pointwise [k0_pay12]
  revert t l
  decide +kernel

theorem masked_eq : Named.named (F := Ideal) (φ := .f32) κ "masked" 0xF149F2CA#32 = ⊥ := by simp [Named.named, κ]

/-- The newest window's mask over its two halves. -/
theorem two_halves (t : Fin 32) (r : Fin 256) (f : Fin 256 → EReal) :
    (if h : (r : ℕ) < 128 then f ⟨(r : ℕ), by omega⟩
      else if (r : ℕ) - 128 < 96 + t then f ⟨128 + ((r : ℕ) - 128), by omega⟩ else ⊥)
      = if (r : ℕ) < 224 + t then f r else ⊥ := by
  have := t.isLt
  by_cases h : (r : ℕ) < 128
  · rw [dif_pos h, if_pos (by omega)]
  · rw [dif_neg h]
    by_cases h' : (r : ℕ) < 224 + t
    · rw [if_pos h', if_pos (by omega)]; congr 1; exact Fin.ext (by dsimp only; omega)
    · rw [if_neg h', if_neg (by omega)]

/-! The newest window's scores of each head but the last pair's. -/

theorem pay16_at (k : Vec Ideal S256x512 .bf16) (q : Vec Ideal S32x128 .bf16) (t : Fin 32) (r : Fin 256) :
    k0_pay16 1024#32 k0_pay1 k q (ix2 t r)
      = if (r : ℕ) < 224 + t then dot0 (fun l => q (ix2 t l)) (fun l => k (ix2 r ⟨0 + l, by omega⟩)) else ⊥ := by
  pointwise [k0_pay16, k0_pay15]
  simp only [pay1_at, pay12_at, select_ite, masked_eq]
  refine Eq.trans ?_ (two_halves t r fun r => dot0 (fun l => q (ix2 t l)) (fun l => k (ix2 r ⟨0 + l, by omega⟩)))
  pointwise [dot0, k0_pay13]

theorem pay17_at (k : Vec Ideal S256x512 .bf16) (q : Vec Ideal S32x128 .bf16) (t : Fin 32) (r : Fin 256) :
    k0_pay17 1024#32 k0_pay1 k q (ix2 t r)
      = if (r : ℕ) < 224 + t then dot1 (fun l => q (ix2 t l)) (fun l => k (ix2 r ⟨0 + l, by omega⟩)) else ⊥ := by
  pointwise [k0_pay17, k0_pay15]
  simp only [pay1_at, pay12_at, select_ite, masked_eq]
  refine Eq.trans ?_ (two_halves t r fun r => dot1 (fun l => q (ix2 t l)) (fun l => k (ix2 r ⟨0 + l, by omega⟩)))
  pointwise [dot1, k0_pay13]

theorem pay19_at (k : FVec Ideal S256x512 .bf16) (q : Vec Ideal S32x128 .bf16) (t : Fin 32) (r : Fin 256) :
    k0_pay19 k0_pay1 (k0_pay12 1024#32) k q (ix2 t r)
      = if (r : ℕ) < 224 + t then dot0 (fun l => q (ix2 t l)) (fun l => k (ix2 r ⟨128 + l, by omega⟩)) else ⊥ := by
  pointwise [k0_pay19, k0_pay18]
  simp only [pay1_at, pay12_at, select_ite, masked_eq]
  refine Eq.trans ?_ (two_halves t r fun r => dot0 (fun l => q (ix2 t l)) (fun l => k (ix2 r ⟨128 + l, by omega⟩)))
  pointwise [dot0]

theorem pay20_at (k : FVec Ideal S256x512 .bf16) (q : Vec Ideal S32x128 .bf16) (t : Fin 32) (r : Fin 256) :
    k0_pay20 k0_pay1 (k0_pay12 1024#32) k q (ix2 t r)
      = if (r : ℕ) < 224 + t then dot1 (fun l => q (ix2 t l)) (fun l => k (ix2 r ⟨128 + l, by omega⟩)) else ⊥ := by
  pointwise [k0_pay20, k0_pay18]
  simp only [pay1_at, pay12_at, select_ite, masked_eq]
  refine Eq.trans ?_ (two_halves t r fun r => dot1 (fun l => q (ix2 t l)) (fun l => k (ix2 r ⟨128 + l, by omega⟩)))
  pointwise [dot1]

theorem pay22_at (k : FVec Ideal S256x512 .bf16) (q : Vec Ideal S32x128 .bf16) (t : Fin 32) (r : Fin 256) :
    k0_pay22 k0_pay1 (k0_pay12 1024#32) k q (ix2 t r)
      = if (r : ℕ) < 224 + t then dot0 (fun l => q (ix2 t l)) (fun l => k (ix2 r ⟨256 + l, by omega⟩)) else ⊥ := by
  pointwise [k0_pay22, k0_pay21]
  simp only [pay1_at, pay12_at, select_ite, masked_eq]
  refine Eq.trans ?_ (two_halves t r fun r => dot0 (fun l => q (ix2 t l)) (fun l => k (ix2 r ⟨256 + l, by omega⟩)))
  pointwise [dot0]

theorem pay23_at (k : FVec Ideal S256x512 .bf16) (q : Vec Ideal S32x128 .bf16) (t : Fin 32) (r : Fin 256) :
    k0_pay23 k0_pay1 (k0_pay12 1024#32) k q (ix2 t r)
      = if (r : ℕ) < 224 + t then dot1 (fun l => q (ix2 t l)) (fun l => k (ix2 r ⟨256 + l, by omega⟩)) else ⊥ := by
  pointwise [k0_pay23, k0_pay21]
  simp only [pay1_at, pay12_at, select_ite, masked_eq]
  refine Eq.trans ?_ (two_halves t r fun r => dot1 (fun l => q (ix2 t l)) (fun l => k (ix2 r ⟨256 + l, by omega⟩)))
  pointwise [dot1]

/-- A stack of eight pieces of 32 rows, read in piece `h` at its row `t`. -/
theorem cat8 (f0 f1 f2 f3 f4 f5 f6 f7 : FVec Ideal S32x256 .f32) (R : Fin 256) (h : Fin 8) (t : Fin 32) (hR : (R : ℕ) = 32 * h + t)
    (r : Fin 256) (hc : Shape.Concatenates [S32x256, S32x256, S32x256, S32x256, S32x256, S32x256, S32x256, S32x256] S256x256 0)
    (g : Fin 8 → EReal) (e0 : f0 (ix2 t r) = g 0) (e1 : f1 (ix2 t r) = g 1) (e2 : f2 (ix2 t r) = g 2) (e3 : f3 (ix2 t r) = g 3)
    (e4 : f4 (ix2 t r) = g 4) (e5 : f5 (ix2 t r) = g 5) (e6 : f6 (ix2 t r) = g 6) (e7 : f7 (ix2 t r) = g 7) :
    concatenate S256x256 0 [⟨S32x256, f0⟩, ⟨S32x256, f1⟩, ⟨S32x256, f2⟩, ⟨S32x256, f3⟩, ⟨S32x256, f4⟩, ⟨S32x256, f5⟩,
      ⟨S32x256, f6⟩, ⟨S32x256, f7⟩] hc (ix2 R r) = g h := by
  have ht := t.isLt
  refine (concatenate_ofFn_apply (t := S256x256) (s₁ := S32x256) 0 ![f0, f1, f2, f3, f4, f5, f6, f7] hc rfl 32 rfl (ix2 R r) h
    (by show (R : ℕ) / 32 = h; omega) (ix2 t r) (by show (t : ℕ) = (R : ℕ) % 32; omega) (fun b hb => ?_)).trans ?_
  · fin_cases b
    · exact absurd rfl hb
    · rfl
  · fin_cases h
    · exact e0
    · exact e1
    · exact e2
    · exact e3
    · exact e4
    · exact e5
    · exact e6
    · exact e7

/-- The newest window's scores, stacked: row `t` of head `h`, the last pair's made here. -/
theorem pay24_at (k : FVec Ideal S256x512 .bf16) (q : Vec Ideal S32x128 .bf16) (f0 f1 f2 f3 f4 f5 : FVec Ideal S32x256 .f32) (R : Fin 256) (h : Fin 8) (t : Fin 32) (hR : (R : ℕ) = 32 * h + t) (r : Fin 256)
    (g : Fin 8 → EReal) (e0 : f0 (ix2 t r) = g 0) (e1 : f1 (ix2 t r) = g 1) (e2 : f2 (ix2 t r) = g 2) (e3 : f3 (ix2 t r) = g 3)
    (e4 : f4 (ix2 t r) = g 4) (e5 : f5 (ix2 t r) = g 5)
    (e6 : g 6 = if (r : ℕ) < 224 + t then dot0 (fun l => q (ix2 t l)) (fun l => k (ix2 r ⟨384 + l, by omega⟩)) else ⊥)
    (e7 : g 7 = if (r : ℕ) < 224 + t then dot1 (fun l => q (ix2 t l)) (fun l => k (ix2 r ⟨384 + l, by omega⟩)) else ⊥) :
    k0_pay24 k0_pay1 (k0_pay12 1024#32) k f0 f1 f2 f3 f4 f5 q (ix2 R r) = g h := by
  unfold k0_pay24
  refine cat8 _ _ _ _ _ _ _ _ R h t hR r _ g e0 e1 e2 e3 e4 e5 (Eq.trans ?_ e6.symm) (Eq.trans ?_ e7.symm)
  · pointwise
    simp only [pay1_at, pay12_at, select_ite, masked_eq]
    refine Eq.trans ?_ (two_halves t r fun r => dot0 (fun l => q (ix2 t l)) (fun l => k (ix2 r ⟨384 + l, by omega⟩)))
    pointwise [dot0]
  · pointwise
    simp only [pay1_at, pay12_at, select_ite, masked_eq]
    refine Eq.trans ?_ (two_halves t r fun r => dot1 (fun l => q (ix2 t l)) (fun l => k (ix2 r ⟨384 + l, by omega⟩)))
    pointwise [dot1]

theorem log2e_eq : Named.named (F := Ideal) (φ := .f32) κ "log2e" 0x3FB8AA3B#32 = (((Real.log 2)⁻¹ : ℝ) : EReal) := by simp [Named.named, κ]

section

variable (v4 : IVec S1x128 1) (v11 : FVec Ideal S256x256 .bf16) (v35 : IVec S32x128 1) (k : FVec Ideal S256x512 .bf16)
  (f0 f1 f2 f3 f4 f5 : FVec Ideal S32x256 .f32) (q : Vec Ideal S32x128 .bf16) (R c : Fin 256)

/-- The softplus of the stack, -/
theorem pay25_at : k0_pay25 v4 v35 k f0 f1 f2 f3 f4 f5 q (ix2 R c) = sp2 (k0_pay24 v4 v35 k f0 f1 f2 f3 f4 f5 q (ix2 R c)) := by
  pointwise [k0_pay25]
  unfold sp2
  rw [log2e_eq]
  rfl
/-- the sums of the newer keys', -/
theorem pay26_at : k0_pay26 v4 (k0_pay2 (F := Ideal)) v35 k f0 f1 f2 f3 f4 f5 q (ix2 R c)
    = ∑ r : Fin 256, sp2 (k0_pay24 v4 v35 k f0 f1 f2 f3 f4 f5 q (ix2 R r)) * (if (c : ℕ) < r then 1 else 0) := by
  pointwise [k0_pay26]
  simp only [pay2_at, pay25_at, zero_add]
/-- the sum of them all, in column zero, -/
theorem pay27_at : k0_pay27 v4 (k0_pay2 (F := Ideal)) v35 k f0 f1 f2 f3 f4 f5 q (ix2 R 0)
    = (∑ r : Fin 256, sp2 (k0_pay24 v4 v35 k f0 f1 f2 f3 f4 f5 q (ix2 R r)) * (if 0 < (r : ℕ) then 1 else 0))
      + sp2 (k0_pay24 v4 v35 k f0 f1 f2 f3 f4 f5 q (ix2 R 0)) := by
  pointwise [k0_pay27]
  exact congrArg₂ (· + ·) (pay26_at v4 v35 k f0 f1 f2 f3 f4 f5 q R 0) (pay25_at v4 v35 k f0 f1 f2 f3 f4 f5 q R 0)
theorem pay28_at (l : Fin 128) : k0_pay28 v4 v11 v35 k f0 f1 f2 f3 f4 f5 q (ix2 R l) = k0_pay27 v4 v11 v35 k f0 f1 f2 f3 f4 f5 q (ix2 R l) := by
  pointwise [k0_pay28]
/-- and the weights. -/
theorem pay29_at : k0_pay29 v4 (k0_pay2 (F := Ideal)) v35 k f0 f1 f2 f3 f4 f5 q (ix2 R c)
    = wloc (fun r => k0_pay24 v4 v35 k f0 f1 f2 f3 f4 f5 q (ix2 R r)) 0 c := by
  pointwise [k0_pay29]
  unfold wloc
  rw [pay25_at, pay26_at, sub_zero]
  rfl

end

section

variable (w : FVec Ideal S256x256 .f32) (w' : FVec Ideal S256x256 .bf16) (v : FVec Ideal S256x512 .bf16) (a : Vec Ideal S32x128 .f32) (t : Fin 32) (l : Fin 128)

/-- What a pair's slab of a window adds: each head's weights with its lanes of the values. -/
def slab (w : Fin 256 → Fin 256 → EReal) (v : Fin 256 → Fin 512 → EReal) (p : ℕ) (hp : p < 4) (t : Fin 32) (l : Fin 128) : EReal :=
  if (l : ℕ) < 64 then ∑ k : Fin 256, w ⟨64 * p + t, by omega⟩ k * v k ⟨128 * p + l, by omega⟩
  else ∑ k : Fin 256, w ⟨64 * p + (32 + t), by omega⟩ k * v k ⟨128 * p + l, by omega⟩

theorem pay31_at : k0_pay31 k0_pay1 v w (ix2 t l) = slab (fun R k => w (ix2 R k)) (fun k c => v (ix2 k c)) 0 (by decide) t l := by
  pointwise [k0_pay31, k0_pay30]
  simp only [pay1_at, select_ite, slab, Nat.reduceMul, zero_add]
  try rfl
theorem pay32_at : k0_pay32 k0_pay1 v w (ix2 t l) = slab (fun R k => w (ix2 R k)) (fun k c => v (ix2 k c)) 1 (by decide) t l := by
  pointwise [k0_pay32, k0_pay30]
  simp only [pay1_at, select_ite, slab, Nat.reduceMul, zero_add]
  try rfl
theorem pay33_at : k0_pay33 k0_pay1 v w (ix2 t l) = slab (fun R k => w (ix2 R k)) (fun k c => v (ix2 k c)) 2 (by decide) t l := by
  pointwise [k0_pay33, k0_pay30]
  simp only [pay1_at, select_ite, slab, Nat.reduceMul, zero_add]
  try rfl
theorem pay34_at : k0_pay34 k0_pay1 v w (ix2 t l) = slab (fun R k => w (ix2 R k)) (fun k c => v (ix2 k c)) 3 (by decide) t l := by
  pointwise [k0_pay34, k0_pay30]
  simp only [pay1_at, select_ite, slab, Nat.reduceMul, zero_add]
  try rfl
theorem pay83_at : k0_pay83 k0_pay1 v w a (ix2 t l)
    = a (ix2 t l) + slab (fun R k => Ideal.exp2 (w (ix2 R k))) (fun k c => v (ix2 k c)) 0 (by decide) t l := by
  pointwise [k0_pay83, k0_pay82]
  simp only [pay1_at, select_ite, slab, Nat.reduceMul, zero_add]
  try rfl
theorem pay84_at : k0_pay84 k0_pay1 v w a (ix2 t l)
    = a (ix2 t l) + slab (fun R k => Ideal.exp2 (w (ix2 R k))) (fun k c => v (ix2 k c)) 1 (by decide) t l := by
  pointwise [k0_pay84, k0_pay82]
  simp only [pay1_at, select_ite, slab, Nat.reduceMul, zero_add]
  try rfl
theorem pay85_at : k0_pay85 k0_pay1 v w a (ix2 t l)
    = a (ix2 t l) + slab (fun R k => Ideal.exp2 (w (ix2 R k))) (fun k c => v (ix2 k c)) 2 (by decide) t l := by
  pointwise [k0_pay85, k0_pay82]
  simp only [pay1_at, select_ite, slab, Nat.reduceMul, zero_add]
  try rfl
theorem pay9_at (x : FVec Ideal S32x128 .f32) : k0_pay9 x (ix2 t l) = x (ix2 t l) := by pointwise [k0_pay9]
theorem pay10_at : k0_pay10 k0_pay1 v (k0_pay82 w) a (ix2 t l)
    = a (ix2 t l) + slab (fun R k => Ideal.exp2 (w (ix2 R k))) (fun k c => v (ix2 k c)) 3 (by decide) t l := by
  pointwise [k0_pay10, k0_pay82]
  simp only [pay1_at, select_ite, slab, Nat.reduceMul, zero_add]
  try rfl

end

end Cert.KernelIdeal.Attn

end
-- ==== Proof.Attn.Pays2.lean ====
/-
  The older windows' payloads read at an index on the ideal reals: their scores, the weights `wloc` against the carried
  sum, the new carried sum, and what the test for spent rows means.
-/
module

public import proofs.«01_k».proof.Proof.Attn.Pays

@[expose] public section

set_option maxRecDepth 16384

noncomputable section

namespace Cert.KernelIdeal.Attn

open Cert.KernelIdeal Cert.KernelIdeal.Gen Cert.AttnMath
open Idealize.ShloMosaic Idealize.ShloMosaic.TcCoe

/-- Window `j`'s mask: its keys start at `800 - 256 * j`, and end at `1056 - 256 * j`. -/
theorem pay63_at (j : ℕ) (hj : j < 5) (k : Fin 256) :
    k0_pay63 (BitVec.ofNat 32 j) 1024#32 (ix2 (0 : Fin 1) k) = if (800 - 256 * j) + (k : ℕ) < 1056 - 256 * j then 1#1 else 0#1 := by
  pointwise [k0_pay63]
  revert k
  interval_cases j <;> decide +kernel

section

variable (m : IVec S1x256 1) (E : ℕ → Prop) [DecidablePred E] (hm : ∀ k : Fin 256, m (ix2 (0 : Fin 1) k) = if E k then 1#1 else 0#1)

/-! A window's scores of each head but the last pair's. -/

include hm in
theorem pay70_at (k : FVec Ideal S256x512 .bf16) (q : Vec Ideal S32x128 .bf16) (t : Fin 32) (r : Fin 256) :
    k0_pay70 k0_pay1 m k q (ix2 t r)
      = if E r then dot0 (fun l => q (ix2 t l)) (fun l => k (ix2 r ⟨128 + l, by omega⟩)) else ⊥ := by
  pointwise [k0_pay70, k0_pay69]
  simp only [pay1_at, hm, select_ite, masked_eq, dot0]

include hm in
theorem pay71_at (k : FVec Ideal S256x512 .bf16) (q : Vec Ideal S32x128 .bf16) (t : Fin 32) (r : Fin 256) :
    k0_pay71 k0_pay1 m k q (ix2 t r)
      = if E r then dot1 (fun l => q (ix2 t l)) (fun l => k (ix2 r ⟨128 + l, by omega⟩)) else ⊥ := by
  pointwise [k0_pay71, k0_pay69]
  simp only [pay1_at, hm, select_ite, masked_eq, dot1]

include hm in
theorem pay73_at (k : FVec Ideal S256x512 .bf16) (q : Vec Ideal S32x128 .bf16) (t : Fin 32) (r : Fin 256) :
    k0_pay73 k0_pay1 m k q (ix2 t r)
      = if E r then dot0 (fun l => q (ix2 t l)) (fun l => k (ix2 r ⟨256 + l, by omega⟩)) else ⊥ := by
  pointwise [k0_pay73, k0_pay72]
  simp only [pay1_at, hm, select_ite, masked_eq, dot0]

include hm in
theorem pay74_at (k : FVec Ideal S256x512 .bf16) (q : Vec Ideal S32x128 .bf16) (t : Fin 32) (r : Fin 256) :
    k0_pay74 k0_pay1 m k q (ix2 t r)
      = if E r then dot1 (fun l => q (ix2 t l)) (fun l => k (ix2 r ⟨256 + l, by omega⟩)) else ⊥ := by
  pointwise [k0_pay74, k0_pay72]
  simp only [pay1_at, hm, select_ite, masked_eq, dot1]

include hm in
/-- A window's scores, stacked: row `t` of head `h`, the last pair's made here. -/
theorem pay76_at (k : FVec Ideal S256x512 .bf16) (q : FVec Ideal S32x128 .bf16) (f0 f1 f2 f3 f4 f5 : FVec Ideal S32x256 .f32) (R : Fin 256) (h : Fin 8) (t : Fin 32) (hR : (R : ℕ) = 32 * h + t) (r : Fin 256)
    (g : Fin 8 → EReal) (e0 : f0 (ix2 t r) = g 0) (e1 : f1 (ix2 t r) = g 1) (e2 : f2 (ix2 t r) = g 2) (e3 : f3 (ix2 t r) = g 3)
    (e4 : f4 (ix2 t r) = g 4) (e5 : f5 (ix2 t r) = g 5)
    (e6 : g 6 = if E r then dot0 (fun l => q (ix2 t l)) (fun l => k (ix2 r ⟨384 + l, by omega⟩)) else ⊥)
    (e7 : g 7 = if E r then dot1 (fun l => q (ix2 t l)) (fun l => k (ix2 r ⟨384 + l, by omega⟩)) else ⊥) :
    k0_pay76 k0_pay1 m k f0 f1 f2 f3 f4 f5 q (Scalar.ofBits .bf16 0x0000#16) (ix2 R r) = g h := by
  unfold k0_pay76
  refine cat8 _ _ _ _ _ _ _ _ R h t hR r _ g e0 e1 e2 e3 e4 e5 (Eq.trans ?_ e6.symm) (Eq.trans ?_ e7.symm)
  · pointwise
    simp only [pay1_at, hm, select_ite, masked_eq, dot0]
  · pointwise
    simp only [pay1_at, hm, select_ite, masked_eq, dot1]

end

theorem pay67_at (j : ℕ) (hj : j < 5) (k : Vec Ideal S256x512 .bf16) (q : Vec Ideal S32x128 .bf16) (t : Fin 32) (r : Fin 256) :
    k0_pay67 k0_pay1 (BitVec.ofNat 32 j) 1024#32 k q (ix2 t r)
      = if (800 - 256 * j) + (r : ℕ) < 1056 - 256 * j then dot0 (fun l => q (ix2 t l)) (fun l => k (ix2 r ⟨0 + l, by omega⟩)) else ⊥ := by
  pointwise [k0_pay67, k0_pay66, k0_pay64]
  simp only [pay1_at, pay63_at j hj, select_ite, masked_eq]
  pointwise [dot0]

theorem pay68_at (j : ℕ) (hj : j < 5) (k : Vec Ideal S256x512 .bf16) (q : Vec Ideal S32x128 .bf16) (t : Fin 32) (r : Fin 256) :
    k0_pay68 k0_pay1 (BitVec.ofNat 32 j) 1024#32 k q (ix2 t r)
      = if (800 - 256 * j) + (r : ℕ) < 1056 - 256 * j then dot1 (fun l => q (ix2 t l)) (fun l => k (ix2 r ⟨0 + l, by omega⟩)) else ⊥ := by
  pointwise [k0_pay68, k0_pay66, k0_pay64]
  simp only [pay1_at, pay63_at j hj, select_ite, masked_eq]
  pointwise [dot1]

section

variable (v4 : IVec S1x128 1) (m : IVec S1x256 1) (k : FVec Ideal S256x512 .bf16)
  (f0 f1 f2 f3 f4 f5 : FVec Ideal S32x256 .f32) (q : FVec Ideal S32x128 .bf16) (z : Ideal .bf16) (car : Vec Ideal S256x128 .f32) (R c : Fin 256)

/-- The softplus of the stack, -/
theorem pay77_at : k0_pay77 v4 m k f0 f1 f2 f3 f4 f5 q z (ix2 R c) = sp2 (k0_pay76 v4 m k f0 f1 f2 f3 f4 f5 q z (ix2 R c)) := by
  pointwise [k0_pay77]
  unfold sp2
  rw [log2e_eq]
  rfl
/-- the sums of the newer keys', -/
theorem pay78_at : k0_pay78 v4 (k0_pay2 (F := Ideal)) m k f0 f1 f2 f3 f4 f5 q z (ix2 R c)
    = ∑ r : Fin 256, sp2 (k0_pay76 v4 m k f0 f1 f2 f3 f4 f5 q z (ix2 R r)) * (if (c : ℕ) < r then 1 else 0) := by
  pointwise [k0_pay78]
  simp only [pay2_at, pay77_at, zero_add]
/-- the weights' exponents, -/
theorem pay79_at : Ideal.exp2 (k0_pay79 v4 (k0_pay2 (F := Ideal)) m k f0 f1 f2 f3 f4 f5 q z car (ix2 R c))
    = wloc (fun r => k0_pay76 v4 m k f0 f1 f2 f3 f4 f5 q z (ix2 R r)) (car (ix2 R 0)) c := by
  unfold wloc
  congr 1
  pointwise [k0_pay79]
  rw [pay77_at, pay78_at]
  simp only [dite_eq_ite, ite_self]
/-- and the new carried sum, in column zero. -/
theorem pay80_at : k0_pay80 v4 (k0_pay2 (F := Ideal)) m k f0 f1 f2 f3 f4 f5 q z car (ix2 R 0)
    = car (ix2 R 0) + ((∑ r : Fin 256, sp2 (k0_pay76 v4 m k f0 f1 f2 f3 f4 f5 q z (ix2 R r)) * (if 0 < (r : ℕ) then 1 else 0))
      + sp2 (k0_pay76 v4 m k f0 f1 f2 f3 f4 f5 q z (ix2 R 0))) := by
  pointwise [k0_pay80]
  exact congrArg (car (ix2 R 0) + ·) (congrArg₂ (· + ·) (pay78_at v4 m k f0 f1 f2 f3 f4 f5 q z R 0) (pay77_at v4 m k f0 f1 f2 f3 f4 f5 q z R 0))

end

theorem survival_eq : Named.named (F := Ideal) (φ := .f32) κ "survival" 0x43169600#32 = ⊤ := by simp [Named.named, κ]

/-- A row is spent when its carried sum is infinite: the test passes only if every row is. -/
theorem spent_of_min (x : FVec Ideal S256x128 .f32) (c : IVec S1x128 32) (hc : ∀ l : Fin 128, c (ix2 (0 : Fin 1) l) = BitVec.ofNat 32 l)
    (h : (Scalar.extui (Scalar.cmpf .oge (k0_pay11 c x) (Named.named (F := Ideal) (φ := .f32) κ "survival" 0x43169600#32)) : BitVec 32) ≠ 0#32)
    (R : Fin 256) : x (ix2 R 0) = ⊤ := by
  rw [survival_eq] at h
  have h' : (⊤ : EReal) ≤ k0_pay11 c x := by
    by_contra hn
    apply h
    have : Scalar.cmpf .oge (k0_pay11 c x) (⊤ : Ideal .f32) = 0#1 := by
      show BitVec.ofBool (decide ((⊤ : EReal) ≤ k0_pay11 c x)) = 0#1
      rw [decide_eq_false hn]; rfl
    rw [this]; rfl
  have e : k0_pay11 c x = Finset.fold min (Ideal.ofBits FTy.f32 2139095040#32)
      (fun y : Fin 1 × Fin 128 => Scalar.select (IntOp.cmpi CmpIPredicate.eq (c (ix2 0 y.2)) 0#32)
          (Finset.fold min (Ideal.ofBits FTy.f32 2139095040#32) (fun R => x (ix2 R y.2)) Finset.univ)
          (Named.named κ "survival" 1125553664#32)) Finset.univ := by
    pointwise [k0_pay11]

  rw [e, Finset.le_fold_min] at h'
  have h2 := h'.2 (0, 0) (Finset.mem_univ _)
  rw [hc] at h2
  have h3 := (Finset.le_fold_min _).mp (show (⊤ : EReal) ≤ Finset.fold min (Ideal.ofBits FTy.f32 2139095040#32) (fun R => x (ix2 R 0)) Finset.univ from h2)
  exact top_le_iff.mp (h3.2 R (Finset.mem_univ _))

end Cert.KernelIdeal.Attn

end
-- ==== Proof.Attn.Model.lean ====
/-
  The attention kernel's loop on the ideal reals: after the windows down to key `E` the accumulator holds the weighted
  values of the keys from `E`, the carried sum their softpluses, and so the block it leaves holds every key's.
-/
module

public import proofs.«01_k».proof.Proof.Attn.State
public import proofs.«01_k».proof.Proof.Attn.Pays2

@[expose] public section

set_option maxRecDepth 16384

noncomputable section

namespace Cert.KernelIdeal.Attn

open Cert.KernelIdeal Cert.KernelIdeal.Gen Cert.AttnMath
open Idealize.ShloMosaic Idealize.ShloMosaic.TcCoe

theorem posW_eq (i : grid0.Coords) : posW i = 1024#32 := by
  unfold posW; rw [coord1 i]; decide

theorem off3_eq (i : grid0.Coords) (j : ℕ) (hj : j < 5) : k0_off3 i (BitVec.ofNat 32 j) = ![800 - 256 * j, 0] := by
  unfold k0_off3; rw [coord1 i]
  interval_cases j <;> decide

theorem off1_eq (i : grid0.Coords) : k0_off1 i = ![800, 0] := by
  unfold k0_off1; rw [coord1 i]; decide

theorem pay13_at (x : Vec Ideal S256x512 .bf16) (r : Fin 256) (c : Fin 512) : k0_pay13 x (ix2 r c) = x (ix2 r c) := by pointwise [k0_pay13]
theorem pay14_at (x : Vec Ideal S256x512 .bf16) (r : Fin 256) (c : Fin 512) : k0_pay14 x (ix2 r c) = x (ix2 r c) := by pointwise [k0_pay14]
theorem pay64_at (x : Vec Ideal S256x512 .bf16) (r : Fin 256) (c : Fin 512) : k0_pay64 x (ix2 r c) = x (ix2 r c) := by pointwise [k0_pay64]
theorem pay65_at (x : Vec Ideal S256x512 .bf16) (r : Fin 256) (c : Fin 512) : k0_pay65 x (ix2 r c) = x (ix2 r c) := by pointwise [k0_pay65]
theorem pay75_at (x : Vec Ideal S32x128 .bf16) (t : Fin 32) (l : Fin 128) : k0_pay75 x (ix2 t l) = x (ix2 t l) := by pointwise [k0_pay75]

section

variable (i : grid0.Coords) (xq : Vec Ideal S32x512 .bf16) (xk xv : Vec Ideal S1056x512 .bf16)

/-- A window's row `r` is the keys' row `800 - 256 * j + r`. -/
theorem ld_win (j : ℕ) (hj : j < 5) (x : Vec Ideal S1056x512 .bf16) (r : Fin 256) (c : Fin 512) :
    View.ld x (rwin i j hj) (ix2 r c) = x (ix2 ⟨800 - 256 * j + r, by omega⟩ c) := by
  refine View.ld_unit_apply_of _ _ _ _ _ _ fun a => ?_
  have e := off3_eq i j hj
  fin_cases a
  · exact (congrArg (· + (r : ℕ)) (congrFun e 0)).symm
  · exact ((congrArg (· + (c : ℕ)) (congrFun e 1)).trans (Nat.zero_add _)).symm
theorem ld_win0 (x : Vec Ideal S1056x512 .bf16) (r : Fin 256) (c : Fin 512) :
    View.ld x (rwin0 i) (ix2 r c) = x (ix2 ⟨800 + r, by omega⟩ c) := by
  refine View.ld_unit_apply_of _ _ _ _ _ _ fun a => ?_
  have e := off1_eq i
  fin_cases a
  · exact (congrArg (· + (r : ℕ)) (congrFun e 0)).symm
  · exact ((congrArg (· + (c : ℕ)) (congrFun e 1)).trans (Nat.zero_add _)).symm

/-- Head `h`'s score of row `t` on key `s`, in the kernel's units. -/
def scr (h : Fin 8) (t : Fin 32) (s : ℕ) : EReal :=
  if hs : s < 1056 then
    (if (h : ℕ) % 2 = 0 then dot0 else dot1) (fun l => xq (ix2 t ⟨128 * ((h : ℕ) / 2) + l, by omega⟩))
      (fun l => xk (ix2 ⟨s, hs⟩ ⟨128 * ((h : ℕ) / 2) + l, by omega⟩))
  else ⊥
/-- The row's scores, those after its own position masked. -/
def row (h : Fin 8) (t : Fin 32) (s : ℕ) : EReal := if s < 1024 + t then scr xq xk h t s else ⊥
/-- Column `c` of the values. -/
def col (c : Fin 512) (s : ℕ) : EReal := if hs : s < 1056 then xv (ix2 ⟨s, hs⟩ c) else 0

variable {xq xk}
theorem scr_even {h : Fin 8} {t : Fin 32} {s : ℕ} {q k : Fin 128 → EReal} (hs : s < 1056) (o : ℕ) (ho : o + 128 ≤ 512)
    (hh : (h : ℕ) = 2 * (o / 128)) (ho' : o % 128 = 0)
    (hq : ∀ l, q l = xq (ix2 t ⟨o + l, by omega⟩)) (hk : ∀ l, k l = xk (ix2 ⟨s, hs⟩ ⟨o + l, by omega⟩)) :
    dot0 q k = scr xq xk h t s := by
  have e : 128 * ((h : ℕ) / 2) = o := by omega
  unfold scr
  rw [dif_pos hs, if_pos (by omega)]
  simp only [e]
  rw [← funext hq, ← funext hk]
theorem scr_odd {h : Fin 8} {t : Fin 32} {s : ℕ} {q k : Fin 128 → EReal} (hs : s < 1056) (o : ℕ) (ho : o + 128 ≤ 512)
    (hh : (h : ℕ) = 2 * (o / 128) + 1) (ho' : o % 128 = 0)
    (hq : ∀ l, q l = xq (ix2 t ⟨o + l, by omega⟩)) (hk : ∀ l, k l = xk (ix2 ⟨s, hs⟩ ⟨o + l, by omega⟩)) :
    dot1 q k = scr xq xk h t s := by
  have e : 128 * ((h : ℕ) / 2) = o := by omega
  unfold scr
  rw [dif_pos hs, if_neg (by omega)]
  simp only [e]
  rw [← funext hq, ← funext hk]
variable (xq xk)

theorem ld_q0 (x : Vec Ideal S32x512 .bf16) (t : Fin 32) (l : Fin 128) : View.ld x rq0 (ix2 t l) = x (ix2 t ⟨0 + l, by omega⟩) :=
  View.ld_unit_apply_of _ _ _ _ _ _ fun a => by fin_cases a; exacts [(Nat.zero_add _).symm, rfl]
theorem ld_a0 (x : Vec Ideal S32x512 .f32) (t : Fin 32) (l : Fin 128) : View.ld x rq0 (ix2 t l) = x (ix2 t ⟨0 + l, by omega⟩) :=
  View.ld_unit_apply_of _ _ _ _ _ _ fun a => by fin_cases a; exacts [(Nat.zero_add _).symm, rfl]
theorem ld_q1 (x : Vec Ideal S32x512 .bf16) (t : Fin 32) (l : Fin 128) : View.ld x rq1 (ix2 t l) = x (ix2 t ⟨128 + l, by omega⟩) :=
  View.ld_unit_apply_of _ _ _ _ _ _ fun a => by fin_cases a; exacts [(Nat.zero_add _).symm, rfl]
theorem ld_a1 (x : Vec Ideal S32x512 .f32) (t : Fin 32) (l : Fin 128) : View.ld x rq1 (ix2 t l) = x (ix2 t ⟨128 + l, by omega⟩) :=
  View.ld_unit_apply_of _ _ _ _ _ _ fun a => by fin_cases a; exacts [(Nat.zero_add _).symm, rfl]
theorem ld_q2 (x : Vec Ideal S32x512 .bf16) (t : Fin 32) (l : Fin 128) : View.ld x rq2 (ix2 t l) = x (ix2 t ⟨256 + l, by omega⟩) :=
  View.ld_unit_apply_of _ _ _ _ _ _ fun a => by fin_cases a; exacts [(Nat.zero_add _).symm, rfl]
theorem ld_a2 (x : Vec Ideal S32x512 .f32) (t : Fin 32) (l : Fin 128) : View.ld x rq2 (ix2 t l) = x (ix2 t ⟨256 + l, by omega⟩) :=
  View.ld_unit_apply_of _ _ _ _ _ _ fun a => by fin_cases a; exacts [(Nat.zero_add _).symm, rfl]
theorem ld_q3 (x : Vec Ideal S32x512 .bf16) (t : Fin 32) (l : Fin 128) : View.ld x rq3 (ix2 t l) = x (ix2 t ⟨384 + l, by omega⟩) :=
  View.ld_unit_apply_of _ _ _ _ _ _ fun a => by fin_cases a; exacts [(Nat.zero_add _).symm, rfl]
theorem ld_a3 (x : Vec Ideal S32x512 .f32) (t : Fin 32) (l : Fin 128) : View.ld x rq3 (ix2 t l) = x (ix2 t ⟨384 + l, by omega⟩) :=
  View.ld_unit_apply_of _ _ _ _ _ _ fun a => by fin_cases a; exacts [(Nat.zero_add _).symm, rfl]
theorem t39_at (j : ℕ) (hj : j < 5) (r : Fin 256) (c : Fin 512) : t39 i xk j hj (ix2 r c) = xk (ix2 ⟨800 - 256 * j + r, by omega⟩ c) := by
  exact (pay64_at _ r c).trans (ld_win i j hj xk r c)
theorem t42_at (j : ℕ) (hj : j < 5) (r : Fin 256) (c : Fin 512) : t42 i xv j hj (ix2 r c) = xv (ix2 ⟨800 - 256 * j + r, by omega⟩ c) := by
  exact (pay65_at _ r c).trans (ld_win i j hj xv r c)
theorem f38_at (r : Fin 256) (c : Fin 512) : f38 i xk (ix2 r c) = xk (ix2 ⟨800 + r, by omega⟩ c) := by
  exact (pay13_at _ r c).trans (ld_win0 i xk r c)
theorem f41_at (r : Fin 256) (c : Fin 512) : f41 i xv (ix2 r c) = xv (ix2 ⟨800 + r, by omega⟩ c) := by
  exact (pay14_at _ r c).trans (ld_win0 i xv r c)
theorem t110_at (t : Fin 32) (l : Fin 128) : t110 xq (ix2 t l) = xq (ix2 t ⟨384 + l, by omega⟩) := by
  exact (pay75_at _ t l).trans (ld_q3 xq t l)
theorem t36_at (j : ℕ) (hj : j < 5) (k : Fin 256) : t36 i j (ix2 (0 : Fin 1) k) = if (800 - 256 * j) + (k : ℕ) < 1056 - 256 * j then 1#1 else 0#1 := by
  unfold t36; rw [posW_eq]; exact pay63_at j hj k

/-- The stack of the newest window's scores, -/
def fz : FVec Ideal S256x256 .f32 :=
  k0_pay24 k0_pay1 (k0_pay12 (posW i)) (f38 i xk) (f59 i xq xk) (f65 i xq xk) (f83 i xq xk) (f89 i xq xk) (f107 i xq xk) (f113 i xq xk) (View.ld xq rq3)
/-- and of window `j`'s. -/
def tz (j : ℕ) (hj : j < 5) : FVec Ideal S256x256 .f32 :=
  k0_pay76 k0_pay1 (t36 i j) (t39 i xk j hj) (t59 i xq xk j hj) (t64 i xq xk j hj) (t81 i xq xk j hj) (t86 i xq xk j hj)
    (t103 i xq xk j hj) (t108 i xq xk j hj) (t110 xq) (Scalar.ofBits .bf16 0x0000#16)

theorem fz_at (R : Fin 256) (h : Fin 8) (t : Fin 32) (hR : (R : ℕ) = 32 * h + t) (r : Fin 256) :
    fz i xq xk (ix2 R r) = if 800 + (r : ℕ) < 1056 then row xq xk h t (800 + r) else ⊥ := by
  have e : ∀ h : Fin 8, (if 800 + (r : ℕ) < 1056 then row xq xk h t (800 + r) else ⊥) = if (r : ℕ) < 224 + t then scr xq xk h t (800 + r) else ⊥ := fun h => by
    unfold row
    rw [if_pos (by omega)]
    exact if_congr (by omega) rfl rfl
  rw [e]
  unfold fz f59 f65 f83 f89 f107 f113
  rw [posW_eq]
  refine pay24_at _ _ _ _ _ _ _ _ R h t hR r (fun h => if (r : ℕ) < 224 + t then scr xq xk h t (800 + r) else ⊥)
    ((pay16_at _ _ t r).trans ?_) ((pay17_at _ _ t r).trans ?_) ((pay19_at _ _ t r).trans ?_) ((pay20_at _ _ t r).trans ?_)
    ((pay22_at _ _ t r).trans ?_) ((pay23_at _ _ t r).trans ?_) ?_ ?_
  · exact if_congr Iff.rfl (scr_even (by omega) 0 (by decide) rfl rfl (fun l => ld_q0 _ t l) (fun l => ld_win0 i xk r _)) rfl
  · exact if_congr Iff.rfl (scr_odd (by omega) 0 (by decide) rfl rfl (fun l => ld_q0 _ t l) (fun l => ld_win0 i xk r _)) rfl
  · exact if_congr Iff.rfl (scr_even (by omega) 128 (by decide) rfl rfl (fun l => ld_q1 _ t l) (fun l => f38_at i xk r _)) rfl
  · exact if_congr Iff.rfl (scr_odd (by omega) 128 (by decide) rfl rfl (fun l => ld_q1 _ t l) (fun l => f38_at i xk r _)) rfl
  · exact if_congr Iff.rfl (scr_even (by omega) 256 (by decide) rfl rfl (fun l => ld_q2 _ t l) (fun l => f38_at i xk r _)) rfl
  · exact if_congr Iff.rfl (scr_odd (by omega) 256 (by decide) rfl rfl (fun l => ld_q2 _ t l) (fun l => f38_at i xk r _)) rfl
  · exact (if_congr Iff.rfl (scr_even (by omega) 384 (by decide) rfl rfl (fun l => ld_q3 _ t l) (fun l => f38_at i xk r _)) rfl).symm
  · exact (if_congr Iff.rfl (scr_odd (by omega) 384 (by decide) rfl rfl (fun l => ld_q3 _ t l) (fun l => f38_at i xk r _)) rfl).symm

theorem tz_at (j : ℕ) (hj : j < 5) (h1 : 1 ≤ j) (R : Fin 256) (h : Fin 8) (t : Fin 32) (hR : (R : ℕ) = 32 * h + t) (r : Fin 256) :
    tz i xq xk j hj (ix2 R r) = if (800 - 256 * j) + (r : ℕ) < 1056 - 256 * j then row xq xk h t (800 - 256 * j + r) else ⊥ := by
  have e : ∀ h : Fin 8, (if (800 - 256 * j) + (r : ℕ) < 1056 - 256 * j then row xq xk h t (800 - 256 * j + r) else ⊥)
      = if (800 - 256 * j) + (r : ℕ) < 1056 - 256 * j then scr xq xk h t (800 - 256 * j + r) else ⊥ := fun h => by
    unfold row
    by_cases hk : (800 - 256 * j) + (r : ℕ) < 1056 - 256 * j
    · rw [if_pos hk, if_pos hk, if_pos (by omega)]
    · rw [if_neg hk, if_neg hk]
  rw [e]
  unfold tz t59 t64 t81 t86 t103 t108
  rw [posW_eq]
  have m := t36_at i j hj
  refine pay76_at _ (fun k => (800 - 256 * j) + k < 1056 - 256 * j) m _ _ _ _ _ _ _ _ R h t hR r
    (fun h => if (800 - 256 * j) + (r : ℕ) < 1056 - 256 * j then scr xq xk h t (800 - 256 * j + r) else ⊥)
    ((pay67_at j hj _ _ t r).trans ?_) ((pay68_at j hj _ _ t r).trans ?_)
    ((pay70_at _ (fun k => (800 - 256 * j) + k < 1056 - 256 * j) m _ _ t r).trans ?_) ((pay71_at _ (fun k => (800 - 256 * j) + k < 1056 - 256 * j) m _ _ t r).trans ?_)
    ((pay73_at _ (fun k => (800 - 256 * j) + k < 1056 - 256 * j) m _ _ t r).trans ?_) ((pay74_at _ (fun k => (800 - 256 * j) + k < 1056 - 256 * j) m _ _ t r).trans ?_) ?_ ?_
  · exact if_congr Iff.rfl (scr_even (by omega) 0 (by decide) rfl rfl (fun l => ld_q0 _ t l) (fun l => ld_win i j hj xk r _)) rfl
  · exact if_congr Iff.rfl (scr_odd (by omega) 0 (by decide) rfl rfl (fun l => ld_q0 _ t l) (fun l => ld_win i j hj xk r _)) rfl
  · exact if_congr Iff.rfl (scr_even (by omega) 128 (by decide) rfl rfl (fun l => ld_q1 _ t l) (fun l => t39_at i xk j hj r _)) rfl
  · exact if_congr Iff.rfl (scr_odd (by omega) 128 (by decide) rfl rfl (fun l => ld_q1 _ t l) (fun l => t39_at i xk j hj r _)) rfl
  · exact if_congr Iff.rfl (scr_even (by omega) 256 (by decide) rfl rfl (fun l => ld_q2 _ t l) (fun l => t39_at i xk j hj r _)) rfl
  · exact if_congr Iff.rfl (scr_odd (by omega) 256 (by decide) rfl rfl (fun l => ld_q2 _ t l) (fun l => t39_at i xk j hj r _)) rfl
  · exact (if_congr Iff.rfl (scr_even (by omega) 384 (by decide) rfl rfl (fun l => t110_at xq t l) (fun l => t39_at i xk j hj r _)) rfl).symm
  · exact (if_congr Iff.rfl (scr_odd (by omega) 384 (by decide) rfl rfl (fun l => t110_at xq t l) (fun l => t39_at i xk j hj r _)) rfl).symm

/-! ## One window's stores -/

/-- A slab's sum is one head's. -/
theorem slab_eq (w : Fin 256 → Fin 256 → EReal) (v : Fin 256 → Fin 512 → EReal) (p : ℕ) (hp : p < 4) (t : Fin 32) (l : Fin 128)
    (t' : Fin 32) (ht : (t' : ℕ) = t) (c : Fin 512) (hc : (c : ℕ) = 128 * p + l) :
    slab w v p hp t l = ∑ k : Fin 256, w ⟨32 * ((c : ℕ) / 64) + t', by omega⟩ k * v k c := by
  obtain rfl : t' = t := Fin.ext ht
  have hc' : (⟨128 * p + l, by omega⟩ : Fin 512) = c := Fin.ext hc.symm
  unfold slab
  by_cases h : (l : ℕ) < 64
  · rw [if_pos h]
    refine Finset.sum_congr rfl fun k _ => ?_
    rw [hc']; congr 2; exact Fin.ext (by dsimp only; omega)
  · rw [if_neg h]
    refine Finset.sum_congr rfl fun k _ => ?_
    rw [hc']; congr 2; exact Fin.ext (by dsimp only; omega)

theorem acc0_at (y : S32x512.Idx) (t : Fin 32) (c : Fin 512) (ht : (t : ℕ) = y 0) (hc : (c : ℕ) = y 1) :
    acc0 i xq xk xv y = ∑ k : Fin 256, f161 i xq xk (ix2 ⟨32 * ((c : ℕ) / 64) + t, by omega⟩ k) * f41 i xv (ix2 k c) := by
  unfold acc0
  canon_tiles x h
  · refine (congrArg _ (eq_ix2 x)).trans ((pay34_at _ _ _ _).trans (slab_eq _ _ 3 _ _ _ t (by omega) c (by omega)))
  · refine (congrArg _ (eq_ix2 x)).trans ((pay33_at _ _ _ _).trans (slab_eq _ _ 2 _ _ _ t (by omega) c (by omega)))
  · refine (congrArg _ (eq_ix2 x)).trans ((pay32_at _ _ _ _).trans (slab_eq _ _ 1 _ _ _ t (by omega) c (by omega)))
  · refine (congrArg _ (eq_ix2 x)).trans ((pay31_at _ _ _ _).trans (slab_eq _ _ 0 _ _ _ t (by omega) c (by omega)))

theorem accT_at (j : ℕ) (hj : j < 5) (acc : Vec Ideal S32x512 .f32) (car : Vec Ideal S256x128 .f32) (y : S32x512.Idx) (t : Fin 32) (c : Fin 512)
    (ht : (t : ℕ) = y 0) (hc : (c : ℕ) = y 1) :
    accT i xq xk xv j hj acc car y = acc (ix2 t c)
      + ∑ k : Fin 256, Ideal.exp2 (t156 i xq xk j hj car (ix2 ⟨32 * ((c : ℕ) / 64) + t, by omega⟩ k)) * t42 i xv j hj (ix2 k c) := by
  have key : ∀ (p : ℕ) (x : S32x128.Idx) (r : Vec Ideal S32x128 .f32) (hp : p < 4) (h0 : (y 0 : ℕ) = x 0) (h1 : (y 1 : ℕ) = 128 * p + x 1)
      (hr : ∀ (t' : Fin 32) (l : Fin 128), r (ix2 t' l) = acc (ix2 t' ⟨128 * p + l, by omega⟩)),
      r (ix2 (x 0) (x 1)) + slab (fun R k => Ideal.exp2 (t156 i xq xk j hj car (ix2 R k))) (fun k c => t42 i xv j hj (ix2 k c)) p hp (x 0) (x 1)
        = acc (ix2 t c) + ∑ k : Fin 256, Ideal.exp2 (t156 i xq xk j hj car (ix2 ⟨32 * ((c : ℕ) / 64) + t, by omega⟩ k)) * t42 i xv j hj (ix2 k c) := by
    intro p x r hp h0 h1 hr
    refine congrArg₂ (· + ·) ((hr _ _).trans ?_) (slab_eq _ _ p hp _ _ t (by omega) c (by omega))
    congr 1
    refine congrArg₂ ix2 (Fin.ext ?_) (Fin.ext ?_)
    · omega
    · dsimp only; omega
  unfold accT
  canon_tiles x h
  · exact (congrArg _ (eq_ix2 x)).trans ((pay10_at _ _ _ _ _).trans (key 3 x _ (by decide) (by omega) (by omega) fun t' l => ld_a3 acc t' l))
  · exact (congrArg _ (eq_ix2 x)).trans ((pay9_at _ _ _).trans ((pay85_at _ _ _ _ _).trans (key 2 x _ (by decide) (by omega) (by omega) fun t' l => ld_a2 acc t' l)))
  · exact (congrArg _ (eq_ix2 x)).trans ((pay84_at _ _ _ _ _).trans (key 1 x _ (by decide) (by omega) (by omega) fun t' l => ld_a1 acc t' l))
  · exact (congrArg _ (eq_ix2 x)).trans ((pay83_at _ _ _ _ _).trans (key 0 x _ (by decide) (by omega) (by omega) fun t' l => ld_a0 acc t' l))

theorem canon_car (p : Vec Ideal S256x128 .f32) (y : S256x128.Idx) : View.canon [⟨rcar, p⟩] y = p y := by
  canon_tiles x h
  exact congrArg p (funext (Fin.forall_fin_two.mpr ⟨Fin.ext (by omega), Fin.ext (by omega)⟩))
theorem canon_out (p : Vec Ideal S32x512 .bf16) (y : S32x512.Idx) : View.canon [⟨rall, p⟩] y = p y := by
  canon_tiles x h
  exact congrArg p (funext (Fin.forall_fin_two.mpr ⟨Fin.ext (by omega), Fin.ext (by omega)⟩))
theorem car0_at (y : S256x128.Idx) : car0 i xq xk y = f157s i xq xk y := canon_car _ y
theorem pay81_at (x : FVec Ideal S256x128 .f32) (R : Fin 256) (l : Fin 128) : k0_pay81 x (ix2 R l) = x (ix2 R l) := by pointwise [k0_pay81]
theorem carT_at (j : ℕ) (hj : j < 5) (car : Vec Ideal S256x128 .f32) (R : Fin 256) (l : Fin 128) :
    carT i xq xk j hj car (ix2 R l) = t157 i xq xk j hj car (ix2 R l) := (canon_car _ _).trans (pay81_at _ _ _)
theorem ld_car (car : Vec Ideal S256x128 .f32) (y : S256x128.Idx) : View.ld car rcar y = car y :=
  congrFun (View.ld_unit_lit _ car (by decide)) y
theorem f161_at (R k : Fin 256) : f161 i xq xk (ix2 R k) = wloc (fun r => fz i xq xk (ix2 R r)) 0 k := pay29_at _ _ _ _ _ _ _ _ _ _ R k
theorem t156_at (j : ℕ) (hj : j < 5) (car : Vec Ideal S256x128 .f32) (R k : Fin 256) :
    Ideal.exp2 (t156 i xq xk j hj car (ix2 R k)) = wloc (fun r => tz i xq xk j hj (ix2 R r)) (car (ix2 R 0)) k := by
  rw [← ld_car car]
  exact pay79_at _ _ _ _ _ _ _ _ _ _ _ _ R k

/-! ## The invariant -/

/-- The accumulator and the carried sums hold the keys from `E` on. -/
def Inv (E : ℕ) (acc : Vec Ideal S32x512 .f32) (car : Vec Ideal S256x128 .f32) : Prop :=
  (∀ (t : Fin 32) (c : Fin 512) (h : Fin 8), (h : ℕ) = (c : ℕ) / 64 →
      acc (ix2 t c) = ∑ s ∈ Finset.Ico E 1056, wgt (row xq xk h t) s * col xv c s)
    ∧ ∀ (R : Fin 256) (h : Fin 8) (t : Fin 32), (R : ℕ) = 32 * h + t → car (ix2 R 0) = ∑ s ∈ Finset.Ico E 1056, sp2 (row xq xk h t s)

/-- It holds after the newest window, -/
theorem inv_first : Inv xq xk xv 800 (acc0 i xq xk xv) (car0 i xq xk) := by
  refine ⟨fun t c h hh => ?_, fun R h t hR => ?_⟩
  · rw [acc0_at i xq xk xv _ t c rfl rfl]
    refine Eq.trans (Finset.sum_congr rfl fun k _ => congrArg₂ (· * ·)
      (f161_at i xq xk _ k)
      (show f41 i xv (ix2 k c) = col xv c (800 + k) from ?_))
      (win_sum (row xq xk h t) _ 0 800 1056 (by decide) (by decide) (by decide)
        (fun k => fz_at i xq xk _ h t (by rw [hh]) k) (by simp) (col xv c))
    rw [f41_at, col, dif_pos (by omega)]
  · rw [car0_at]
    exact (pay28_at _ _ _ _ _ _ _ _ _ _ _ _ _).trans ((pay27_at _ _ _ _ _ _ _ _ _ _ _).trans
      (win_total (row xq xk h t) (fun r => fz i xq xk (ix2 R r)) 800 1056 (by decide) (by decide) (fun k => fz_at i xq xk R h t hR k)))

/-- and each trip takes it to the next window's start. -/
theorem inv_trip (j : ℕ) (hj : j < 5) (h1 : 1 ≤ j) (acc : Vec Ideal S32x512 .f32) (car : Vec Ideal S256x128 .f32)
    (hI : Inv xq xk xv (1056 - 256 * j) acc car) :
    Inv xq xk xv (800 - 256 * j) (accT i xq xk xv j hj acc car) (carT i xq xk j hj car) := by
  obtain ⟨ha, hc⟩ := hI
  refine ⟨fun t c h hh => ?_, fun R h t hR => ?_⟩
  · rw [accT_at i xq xk xv j hj acc car _ t c rfl rfl, ha t c h hh,
      ← Finset.sum_Ico_consecutive _ (show 800 - 256 * j ≤ 1056 - 256 * j by omega) (show 1056 - 256 * j ≤ 1056 by omega), add_comm]
    refine congrArg (· + _) ?_
    refine Eq.trans (Finset.sum_congr rfl fun k _ => congrArg₂ (· * ·)
      (t156_at i xq xk j hj car _ k)
      (show t42 i xv j hj (ix2 k c) = col xv c (800 - 256 * j + k) from ?_))
      (win_sum (row xq xk h t) _ _ (800 - 256 * j) (1056 - 256 * j) (by omega) (by omega) (by omega)
        (fun k => tz_at i xq xk j hj h1 _ h t (by rw [hh]) k) (hc _ h t (by rw [hh])) (col xv c))
    rw [t42_at, col, dif_pos (by omega)]
  · rw [carT_at]
    refine (pay80_at _ _ _ _ _ _ _ _ _ _ _ _ _).trans ?_
    rw [ld_car, hc R h t hR, ← Finset.sum_Ico_consecutive _ (show 800 - 256 * j ≤ 1056 - 256 * j by omega) (show 1056 - 256 * j ≤ 1056 by omega), add_comm]
    exact congrArg (· + _) (win_total (row xq xk h t) (fun r => tz i xq xk j hj (ix2 R r)) (800 - 256 * j) (1056 - 256 * j) (by omega) (by omega)
      (fun k => tz_at i xq xk j hj h1 R h t hR k))

theorem iota_at (l : Fin 128) : (iota .tc S1x128 32 [1] iota_S1x128_d1_w32) (ix2 (0 : Fin 1) l) = BitVec.ofNat 32 l := by pointwise

/-- A loop that stops early has every row spent. -/
theorem loop_at (t : Fin 32) (c : Fin 512) (h : Fin 8) (hh : (h : ℕ) = (c : ℕ) / 64) : ∀ (n j : ℕ) (done : BitVec 32) (acc : Vec Ideal S32x512 .f32) (car : Vec Ideal S256x128 .f32),
    j + n = 5 → 1 ≤ j → Inv xq xk xv (1056 - 256 * j) acc car → (done ≠ 0#32 → ∀ R : Fin 256, car (ix2 R 0) = ⊤) →
    (loop i xq xk xv n j done acc car).1 (ix2 t c) = ∑ s ∈ Finset.Ico 0 1056, wgt (row xq xk h t) s * col xv c s
  | 0, j, _, acc, car, hn, _, hI, _ => by
    obtain rfl : j = 5 := by omega
    exact hI.1 t c h hh
  | n + 1, j, done, acc, car, hn, h1, hI, hd => by
    rw [loop]
    by_cases hs : j < 5 ∧ done = 0#32
    · rw [dif_pos hs]
      have e : 1056 - 256 * (j + 1) = 800 - 256 * j := by omega
      refine loop_at t c h hh n (j + 1) _ _ _ (by omega) (by omega) (e ▸ inv_trip i xq xk xv j hs.1 h1 acc car hI) fun hne R => ?_
      rw [carT_at]
      exact spent_of_min _ _ iota_at hne R
    · rw [dif_neg hs]
      refine (hI.1 t c h hh).trans ?_
      have hne : done ≠ 0#32 := fun he => hs ⟨by omega, he⟩
      have hR : 32 * (h : ℕ) + t < 256 := by omega
      exact spent _ _ _ (by omega) ((hI.2 ⟨32 * (h : ℕ) + t, hR⟩ h t rfl).symm.trans (hd hne _))

theorem f157s_at (R : Fin 256) (l : Fin 128) : f157s i xq xk (ix2 R l) = f157 i xq xk (ix2 R l) := pay28_at _ _ _ _ _ _ _ _ _ _ _ _ _
theorem pay3_eq (x : FVec Ideal S256x128 .f32) : k0_pay3 x = k0_pay11 (iota .tc S1x128 32 [1] iota_S1x128_d1_w32) x := rfl
theorem pay8_at (x : Vec Ideal S32x512 .f32) (t : Fin 32) (c : Fin 512) : k0_pay8 x (ix2 t c) = x (ix2 t c) := by pointwise [k0_pay8]

/-- The block the kernel leaves: every key's value, by its weight. -/
theorem out_at (t : Fin 32) (c : Fin 512) (h : Fin 8) (hh : (h : ℕ) = (c : ℕ) / 64) :
    out i xq xk xv (ix2 t c) = ∑ s ∈ Finset.Ico 0 1056, wgt (row xq xk h t) s * col xv c s := by
  have hd : done0 i xq xk ≠ 0#32 → ∀ R : Fin 256, car0 i xq xk (ix2 R 0) = ⊤ := fun hne R => by
    rw [car0_at, f157s_at]
    unfold done0 at hne
    rw [pay3_eq] at hne
    exact spent_of_min (f157 i xq xk) _ iota_at hne R
  have hI : Inv xq xk xv (1056 - 256 * 1) (acc0 i xq xk xv) (car0 i xq xk) := inv_first i xq xk xv
  have L := loop_at i xq xk xv t c h hh 4 1 (done0 i xq xk) (acc0 i xq xk xv) (car0 i xq xk) rfl (le_refl _) hI hd
  unfold out
  rw [canon_out, pay8_at, View.ld_unit_lit _ _ (by decide)]
  exact L

end

end Cert.KernelIdeal.Attn

end
-- ==== Proof.Attn.Ref.lean ====
/- The attention reference's result read at an index. -/
module

public import proofs.«01_k».proof.Proof.Gen.ReferenceIdeal.Run
public import proofs.«01_k».proof.Proof.Attn.Math
public import Idealize.ShloMosaic.Lib.Pipeline.ValueKit
public import Idealize.ShloMosaic.Lib.WordCmp

@[expose] public section

set_option maxRecDepth 16384

noncomputable section

namespace Cert.ReferenceIdeal.Val

open Cert.ReferenceIdeal Cert.ReferenceIdeal.Gen Idealize.ShloMosaic Idealize.ShloMosaic.TcCoe Idealize.SL.Sem Cert.AttnMath

/-! ## The result, piece by piece -/

/-- The array of zeros the softplus compares with. -/
def B0 : FVec Ideal S8x8x32x1056 .f32 := broadcastInDim S8x8x32x1056 ![] bcast_S_S8x8x32x1056 (constant S_ .f32 0x00000000#32)
/-- The array of zeros the masks choose. -/
def Z0 : FVec Ideal S8x8x32x1056 .f32 := broadcastInDim S8x8x32x1056 ![] bcast_S_S8x8x32x1056 (id (constant S_ .f32 0x00000000#32))
/-- The cached rows followed by the new ones, head by head. -/
def ROWS (p : FVec Ideal S1x8x8x1024x64 .f32) (n : FVec Ideal S256x512 .f32) : FVec Ideal S8x8x1056x64 .f32 :=
  concatenate S8x8x1056x64 2 [⟨S8x8x1024x64, (shapeCast _ p shapeCasts_S1x8x8x1024x64_S8x8x1024x64)⟩, ⟨S8x8x32x64, (transpose S8x8x32x64 [0, 2, 1, 3] (shapeCast _ n shapeCasts_S256x512_S8x32x8x64) transposes_S8x32x8x64_S8x8x32x64_0_2_1_3)⟩] concatenates_S8x8x1024x64_S8x8x32x64_S8x8x1056x64_d2
/-- The scores. -/
def SC (q : FVec Ideal S256x512 .f32) (k : FVec Ideal S8x8x1056x64 .f32) : FVec Ideal S8x8x32x1056 .f32 :=
  mulf (Host.dotGeneral dot_S8x8x32x64_S8x8x1056x64_S8x8x32x1056_3_3_2_2_01_01 none (transpose S8x8x32x64 [0, 2, 1, 3] (shapeCast _ q shapeCasts_S256x512_S8x32x8x64) transposes_S8x32x8x64_S8x8x32x64_0_2_1_3) k) (broadcastInDim S8x8x32x1056 ![] bcast_S_S8x8x32x1056 (constant S_ .f32 0x3E000000#32))
/-- Which keys come before which query. -/
def MSK : IVec S8x8x32x1056 1 :=
  broadcastInDim S8x8x32x1056 ![2, 3] bcast_S32x1056_S8x8x32x1056_2_3 (cmpi .slt (broadcastInDim S32x1056 ![0, 1] bcast_S1x1056_S32x1056_0_1 (broadcastInDim S1x1056 ![1] bcast_S1056_S1x1056_1 (iotaInDim S1056 32 0))) (broadcastInDim S32x1056 ![0, 1] bcast_S32x1_S32x1056_0_1 (broadcastInDim S32x1 ![0] bcast_S32_S32x1_0 (addi (broadcastInDim S32 ![] bcast_S_S32 (constantI S_ 32 1024#32)) (iotaInDim S32 32 0)))))
/-- The softplus. -/
def SPL (x : FVec Ideal S8x8x32x1056 .f32) : FVec Ideal S8x8x32x1056 .f32 :=
  select (cmpf .une (subf x B0) (subf x B0)) (addf x B0) (addf (maximumf x B0) (Host.log1p (Host.exp (Host.negf (Host.absf (subf x B0))))))
/-- The logarithms of what each key leaves over. -/
def LS (z : FVec Ideal S8x8x32x1056 .f32) : FVec Ideal S8x8x32x1056 .f32 :=
  select MSK (Host.negf (SPL (Host.negf (Host.negf z)))) Z0
/-- Their sums from each key on. -/
def RW (x : FVec Ideal S8x8x32x1056 .f32) : FVec Ideal S8x8x32x1056 .f32 :=
  Host.reduceWindowAdd ![1, 1, 1, 1056] ![1, 1, 1, 1] ![0, 0, 0, 0] ![0, 0, 0, 1055] x (broadcastInDim S_ ![] bcast_S_S_ (constant S_ .f32 0x00000000#32)) reduceWindows_S8x8x32x1056_S8x8x32x1056_w1s1p0_0_w1s1p0_0_w1s1p0_0_w1056s1p0_1055 h_S_
/-- The weights. -/
def WT (z : FVec Ideal S8x8x32x1056 .f32) : FVec Ideal S8x8x32x1056 .f32 :=
  select MSK (Host.exp (addf (Host.negf (SPL (Host.negf z))) (subf (RW (LS z)) (LS z)))) Z0
/-- The result. -/
def RES (w : FVec Ideal S8x8x32x1056 .f32) (v : FVec Ideal S8x8x1056x64 .f32) : FVec Ideal S256x512 .bf16 :=
  truncf .bf16 (shapeCast _ (transpose S8x32x8x64 [0, 2, 1, 3] (Host.dotGeneral dot_S8x8x32x1056_S8x8x1056x64_S8x8x32x64_3_2_2_3_01_01 none w v) transposes_S8x8x32x64_S8x32x8x64_0_2_1_3) shapeCasts_S8x32x8x64_S256x512) bitsLt_bf16_f32
/-- The reference's result of its five arguments. -/
def REF (q k v : FVec Ideal S256x512 .f32) (ck cv : FVec Ideal S1x8x8x1024x64 .f32) : FVec Ideal S256x512 .bf16 :=
  RES (WT (SC q (ROWS ck k))) (ROWS cv v)

set_option maxHeartbeats 4000000 in
/-- The generated result is that. -/
theorem res_eq (m : (ℓ : Loc nD τ sig) → Buf (Elt Ideal) ℓ) (c : Dev nD) :
    Value.res_main_v34 m c = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-! ## Each piece at an index -/

/-- A head's row at a key: cached up to the 1024th, new from there. -/
theorem ROWS_at (p : FVec Ideal S1x8x8x1024x64 .f32) (n : FVec Ideal S256x512 .f32) (b h : Fin 8) (s : Fin 1056) (d : Fin 64) :
    ROWS p n (ix4 b h s d) = if hs : (s : ℕ) < 1024 then p (ix5 0 b h ⟨s, hs⟩ d) else n (ix2 ⟨b * 32 + (s - 1024), by omega⟩ ⟨h * 64 + d, by omega⟩) := by
  pointwise [ROWS]

/-- A score. -/
theorem SC_at (q : FVec Ideal S256x512 .f32) (k : FVec Ideal S8x8x1056x64 .f32) (b h : Fin 8) (t : Fin 32) (s : Fin 1056) :
    SC q k (ix4 b h t s) = (∑ d : Fin 64, q (ix2 ⟨b * 32 + t, by omega⟩ ⟨h * 64 + d, by omega⟩) * k (ix4 b h s d)) * Ideal.ofBits .f32 0x3E000000#32 := by
  pointwise [SC]

/-- The mask. -/
theorem MSK_at (b h : Fin 8) (t : Fin 32) (s : Fin 1056) : MSK (ix4 b h t s) = if (s : ℕ) < 1024 + t then 1#1 else 0#1 := by
  pointwise [MSK]
  rw [show IntOp.addi (1024#32) (BitVec.ofNat 32 (t : ℕ)) = BitVec.ofNat 32 (1024 + t) from (BitVec.ofNat_add 1024 (t : ℕ)).symm,
    WordCmp.cmpi_slt_ofNat (by omega) (by omega)]
  by_cases hk : (s : ℕ) < 1024 + t <;> simp [hk]

theorem Z0_at (i : S8x8x32x1056.Idx) : Z0 i = 0 := by
  pointwise [Z0, id]

/-- The softplus. -/
theorem SPL_at (x : FVec Ideal S8x8x32x1056 .f32) (b h : Fin 8) (t : Fin 32) (s : Fin 1056) : SPL x (ix4 b h t s) = sp (x (ix4 b h t s)) := by
  pointwise [SPL, B0, sp]
  rw [if_neg (by simp)]
  rfl

/-- What a key leaves over. -/
theorem LS_at (z : FVec Ideal S8x8x32x1056 .f32) (b h : Fin 8) (t : Fin 32) (s : Fin 1056) :
    LS z (ix4 b h t s) = if (s : ℕ) < 1024 + t then -sp (-(-(z (ix4 b h t s)))) else 0 := by
  pointwise [LS]
  rw [MSK_at, SPL_at, Z0_at]
  by_cases hk : (s : ℕ) < 1024 + t
  · rw [if_pos hk, if_pos hk]; rfl
  · rw [if_neg hk, if_neg hk]; rfl

/-- A left fold that adds is the sum. -/
theorem foldl_sum {ι : Type} (g : ι → EReal) : ∀ (l : List ι) (v : EReal), l.foldl (fun r n => r + g n) v = v + (l.map g).sum
  | [], v => by simp
  | a :: l, v => by rw [List.foldl_cons, foldl_sum g l, List.map_cons, List.sum_cons, add_assoc]

/-- An index of a window along the last axis is its last coordinate. -/
def lastEquiv : (⟨4, ![1, 1, 1, 1056]⟩ : Shape).Idx ≃ Fin 1056 where
  toFun j := j 3
  invFun n := ix4 0 0 0 n
  left_inv j := by
    refine funext fun a => ?_
    fin_cases a
    · exact Fin.ext (Nat.lt_one_iff.mp (j 0).isLt).symm
    · exact Fin.ext (Nat.lt_one_iff.mp (j 1).isLt).symm
    · exact Fin.ext (Nat.lt_one_iff.mp (j 2).isLt).symm
    · rfl
  right_inv n := rfl

/-- A window's index by its position. -/
abbrev winIdx (i : Fin (⟨4, ![1, 1, 1, 1056]⟩ : Shape).numel) : (⟨4, ![1, 1, 1, 1056]⟩ : Shape).Idx := (Shape.rowMajor _).symm i

/-- The windowed sum at a key: the keys from it on. -/
theorem RW_at (x : FVec Ideal S8x8x32x1056 .f32) (b h : Fin 8) (t : Fin 32) (s : Fin 1056) :
    RW x (ix4 b h t s) = ∑ n : Fin 1056, if hn : (s : ℕ) + n < 1056 then x (ix4 b h t ⟨s + n, hn⟩) else 0 := by
  have hv : (broadcastInDim S_ ![] bcast_S_S_ (constant (F := Ideal) S_ .f32 0x00000000#32)) (Shape.Idx.first h_S_) = (0 : EReal) := by
    pointwise
  have e : RW x (ix4 b h t s) = Host.reduceWindow (fun a b : EReal => a + b) ![1, 1, 1, 1056] ![1, 1, 1, 1] ![0, 0, 0, 0] ![0, 0, 0, 1055] x (fun _ : (⟨0, ![]⟩ : Shape).Idx => (0 : EReal))
      reduceWindows_S8x8x32x1056_S8x8x32x1056_w1s1p0_0_w1s1p0_0_w1s1p0_0_w1056s1p0_1055 (by decide) (ix4 b h t s) := by
    rw [← hv]; rfl
  rw [e]
  unfold Host.reduceWindow
  dsimp only
  rw [foldl_sum, zero_add, ← Fin.sum_univ_def]
  refine Fintype.sum_equiv ((Shape.rowMajor ⟨4, ![1, 1, 1, 1056]⟩).symm.trans lastEquiv) _ _ fun i => ?_
  rw [Equiv.trans_apply]
  have e4 : ((lastEquiv (winIdx i) : Fin 1056) : ℕ) = (winIdx i) 3 := rfl
  have j0 : ((winIdx i) 0 : ℕ) = 0 := Nat.lt_one_iff.mp ((winIdx i) 0).isLt
  have j1 : ((winIdx i) 1 : ℕ) = 0 := Nat.lt_one_iff.mp ((winIdx i) 1).isLt
  have j2 : ((winIdx i) 2 : ℕ) = 0 := Nat.lt_one_iff.mp ((winIdx i) 2).isLt
  have e0 : (ix4 b h t s 0 : ℕ) = b := rfl
  have e1 : (ix4 b h t s 1 : ℕ) = h := rfl
  have e2 : (ix4 b h t s 2 : ℕ) = t := rfl
  have e3 : (ix4 b h t s 3 : ℕ) = s := rfl
  by_cases hk : (s : ℕ) + (lastEquiv (winIdx i) : Fin 1056) < 1056
  · rw [dif_pos hk, dif_pos]
    · refine congrArg x (funext fun a => ?_)
      fin_cases a
      · exact Fin.ext (by show (b : ℕ) * 1 + ((winIdx i) 0 : ℕ) - 0 = b; omega)
      · exact Fin.ext (by show (h : ℕ) * 1 + ((winIdx i) 1 : ℕ) - 0 = h; omega)
      · exact Fin.ext (by show (t : ℕ) * 1 + ((winIdx i) 2 : ℕ) - 0 = t; omega)
      · exact Fin.ext (by show (s : ℕ) * 1 + ((winIdx i) 3 : ℕ) - 0 = s + (lastEquiv (winIdx i) : Fin 1056); omega)
    · intro a
      fin_cases a
      · exact ⟨Nat.zero_le _, by show (b : ℕ) * 1 + ((winIdx i) 0 : ℕ) - 0 < 8; omega⟩
      · exact ⟨Nat.zero_le _, by show (h : ℕ) * 1 + ((winIdx i) 1 : ℕ) - 0 < 8; omega⟩
      · exact ⟨Nat.zero_le _, by show (t : ℕ) * 1 + ((winIdx i) 2 : ℕ) - 0 < 32; omega⟩
      · exact ⟨Nat.zero_le _, by show (s : ℕ) * 1 + ((winIdx i) 3 : ℕ) - 0 < 1056; omega⟩
  · rw [dif_neg hk, dif_neg]
    intro ha
    have h3 : (s : ℕ) * 1 + ((winIdx i) 3 : ℕ) - 0 < 1056 := (ha 3).2
    omega

/-- A weight. -/
theorem WT_at (z : FVec Ideal S8x8x32x1056 .f32) (b h : Fin 8) (t : Fin 32) (s : Fin 1056) (zz : ℕ → EReal) (hz : ∀ u : Fin 1056, z (ix4 b h t u) = zz u) :
    WT z (ix4 b h t s) = rwgt zz (1024 + t) s := by
  have hl : ∀ u : Fin 1056, LS z (ix4 b h t u) = surv zz (1024 + t) u := fun u => by
    rw [LS_at, hz]; rfl
  have hr : RW (LS z) (ix4 b h t s) = ∑ u ∈ Finset.Ico (s : ℕ) 1056, surv zz (1024 + t) u := by
    rw [RW_at]
    simp only [hl, dite_eq_ite]
    rw [Finset.sum_Ico_eq_sum_range, Fin.sum_univ_eq_sum_range (fun x : ℕ => if (s : ℕ) + x < 1056 then surv zz (1024 + t) (s + x) else 0) 1056,
      ← Finset.sum_filter]
    exact Finset.sum_congr (by ext x; simp only [Finset.mem_filter, Finset.mem_range]; omega) fun _ _ => rfl
  unfold rwgt
  rw [← hr, ← hl s, ← hz s]
  have hp := SPL_at (Host.negf z) b h t s
  pointwise [WT]
  rw [MSK_at, Z0_at, hp]
  by_cases hk : (s : ℕ) < 1024 + t
  · rw [if_pos hk, if_pos hk]; rfl
  · rw [if_neg hk, if_neg hk]; rfl

/-- The result at a row and a head's lane. -/
theorem RES_at (w : FVec Ideal S8x8x32x1056 .f32) (v : FVec Ideal S8x8x1056x64 .f32) (r : Fin 256) (c : Fin 512) (b h : Fin 8) (t : Fin 32) (d : Fin 64)
    (hr : (r : ℕ) = b * 32 + t) (hc : (c : ℕ) = h * 64 + d) :
    RES w v (ix2 r c) = ∑ s : Fin 1056, w (ix4 b h t s) * v (ix4 b h s d) := by
  pointwise [RES]
  blk_point [] <;> omega

/-- The score of a key, per position. -/
def zat (q k : FVec Ideal S256x512 .f32) (ck : FVec Ideal S1x8x8x1024x64 .f32) (b h : Fin 8) (t : Fin 32) (u : ℕ) : EReal :=
  if hu : u < 1056 then SC q (ROWS ck k) (ix4 b h t ⟨u, hu⟩) else 0

/-- The result at a row and a head's lane, as the weighted sum of the value rows. -/
theorem REF_at (q k v : FVec Ideal S256x512 .f32) (ck cv : FVec Ideal S1x8x8x1024x64 .f32) (r : Fin 256) (c : Fin 512) (b h : Fin 8) (t : Fin 32) (d : Fin 64)
    (hr : (r : ℕ) = b * 32 + t) (hc : (c : ℕ) = h * 64 + d) :
    REF q k v ck cv (ix2 r c) = ∑ s : Fin 1056, wgt (fun u => if u < 1024 + t then c2 * zat q k ck b h t u else ⊥) s * ROWS cv v (ix4 b h s d) := by
  refine (RES_at _ _ r c b h t d hr hc).trans (Finset.sum_congr rfl fun s _ => ?_)
  rw [WT_at _ b h t s (zat q k ck b h t) (fun u => by unfold zat; rw [dif_pos u.isLt]), rwgt_eq _ _ _ s.isLt]

end Cert.ReferenceIdeal.Val

end
-- ==== Proof.Ffn.Rows.lean ====
/- The mathematics of one row of the layer's dense calls: the root-mean-square norm, the gated hidden row, and the two
   ways the logistic function is written. -/
module

public import Idealize.ShloMosaic.Lib.Pointwise
public import Idealize.ShloMosaic.PureOps.Ideal

@[expose] public section

noncomputable section

namespace Cert.Rows

open Idealize.ShloMosaic

/-- A row of 1024 numbers divided by its root mean square (with the printed epsilon) and scaled by a gain. -/
def normed (x g : Fin 1024 → EReal) (k : Fin 1024) : EReal :=
  x k * Ideal.rsqrt (Ideal.div (∑ j : Fin 1024, x j * x j) (Ideal.ofBits .f32 0x44800000#32)
    + Ideal.ofBits .f32 0x358637BD#32) * g k

/-- One number of a normed row's product with a weight of 4096 columns. -/
def proj (x g : Fin 1024 → EReal) (w : Fin 1024 → Fin 4096 → EReal) (f : Fin 4096) : EReal :=
  ∑ k, normed x g k * w k f

/-- One gated hidden number: the gate's product times its logistic, times the other product. -/
def hidden (xn : Fin 1024 → EReal) (wg wu : Fin 1024 → Fin 4096 → EReal) (f : Fin 4096) : EReal :=
  (∑ k, xn k * wg k f) * Ideal.div 1 (1 + Ideal.exp (-(∑ k, xn k * wg k f))) * (∑ k, xn k * wu k f)

/-- The row after the half step: the row plus half the hidden row's product with the last weight. -/
def stepped (x xn : Fin 1024 → EReal) (wg wu : Fin 1024 → Fin 4096 → EReal) (wd : Fin 4096 → Fin 1024 → EReal)
    (j : Fin 1024) : EReal :=
  x j + Ideal.ofBits .f32 0x3F000000#32 * ∑ f : Fin 4096, hidden xn wg wu f * wd f j

/-- The printed pattern of one half is one half. -/
theorem half_eq : Ideal.ofBits .f32 0x3F000000#32 = ((1 / 2 : ℝ) : EReal) := by
  simp [Ideal.ofBits, Ideal.ieee]
  rw [← EReal.coe_mul]
  norm_num

/-- The printed pattern of one eighth is one eighth. -/
theorem eighth_eq : Ideal.ofBits .f32 0x3E000000#32 = ((1 / 8 : ℝ) : EReal) := by
  simp [Ideal.ofBits, Ideal.ieee]
  rw [← EReal.coe_mul]
  norm_num

/-- The printed pattern of two is two. -/
theorem two_eq : Ideal.ofBits .f32 0x40000000#32 = ((2 : ℝ) : EReal) := by
  simp [Ideal.ofBits, Ideal.ieee]
  rw [← EReal.coe_mul]
  norm_num

/-- Half a hyperbolic tangent of half the argument, plus one half, is the logistic function, at every extended real. -/
theorem half_tanh (z : EReal) :
    Ideal.ofBits .f32 0x3F000000#32 * Ideal.tanh (Ideal.ofBits .f32 0x3F000000#32 * z) + Ideal.ofBits .f32 0x3F000000#32
      = Ideal.div 1 (1 + Ideal.exp (-z)) := by
  rw [half_eq]
  induction z using EReal.rec with
  | bot =>
    have e : (1 : EReal) + Ideal.exp (-⊥) = ⊤ := rfl
    rw [EReal.coe_mul_bot_of_pos (by norm_num), e, Ideal.div, if_neg (by simp), EReal.inv_top, mul_zero, Ideal.tanh_bot,
      show (-1 : EReal) = ((-1 : ℝ) : EReal) from rfl, ← EReal.coe_mul, ← EReal.coe_add]
    norm_num
  | top =>
    have e : (1 : EReal) + Ideal.exp (-⊤) = ((1 : ℝ) : EReal) := by
      rw [show Ideal.exp (-⊤) = 0 from rfl, add_zero]; rfl
    rw [EReal.coe_mul_top_of_pos (by norm_num), e, Ideal.div, if_neg (by simp), Ideal.tanh_top,
      show (1 : EReal) = ((1 : ℝ) : EReal) from rfl, ← EReal.coe_inv, ← EReal.coe_mul, ← EReal.coe_mul, ← EReal.coe_add]
    norm_num
  | coe r =>
    have h : (1 : ℝ) + Real.exp (-r) ≠ 0 := by positivity
    have e : (1 : EReal) + Ideal.exp (-(r : EReal)) = ((1 + Real.exp (-r) : ℝ) : EReal) := by
      rw [← EReal.coe_neg]; rfl
    rw [e, Ideal.div, if_neg (by exact_mod_cast h), ← EReal.coe_mul, Ideal.tanh_coe, ← EReal.coe_mul, ← EReal.coe_add,
      ← EReal.coe_inv, one_mul]
    congr 1
    rw [Real.tanh_eq_sinh_div_cosh, Real.sinh_eq, Real.cosh_eq]
    have e1 : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    have p1 := Real.exp_pos (1 / 2 * r)
    have p2 := Real.exp_pos (-(1 / 2 * r))
    rw [e1]
    generalize Real.exp (1 / 2 * r) = a at *
    generalize Real.exp (-(1 / 2 * r)) = b at *
    have ha : a = b⁻¹ := by field_simp; linarith
    subst ha
    field_simp
    ring

end Cert.Rows

end
-- ==== Proof.Attn.Value.lean ====
/- The attention kernel's result array is the reference's. -/
module

public import proofs.«01_k».proof.Proof.Attn.Run
public import proofs.«01_k».proof.Proof.Attn.Model
public import proofs.«01_k».proof.Proof.Attn.Ref
public import proofs.«01_k».proof.Proof.Ffn.Rows
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)
open Cert.AttnMath

/-! ## Sums over a head's lanes -/

/-- Summing the first half of a pair of heads' lanes. -/
theorem dot0_eq (q k : Fin 128 → EReal) : dot0 q k = ∑ d : Fin 64, q ⟨d, by omega⟩ * k ⟨d, by omega⟩ := by
  unfold dot0
  rw [show (∑ l : Fin 128, if (l : ℕ) < 64 then q l * k l else 0) = ∑ l : Fin (64 + 64), (fun l : Fin 128 => if (l : ℕ) < 64 then q l * k l else 0) l from rfl,
    Fin.sum_univ_add]
  rw [show (∑ i : Fin 64, (fun l : Fin 128 => if (l : ℕ) < 64 then q l * k l else 0) (Fin.natAdd 64 i)) = 0 from
    Finset.sum_eq_zero fun i _ => if_neg (by simp), add_zero]
  exact Finset.sum_congr rfl fun i _ => if_pos (by simp)

/-- Summing the second half. -/
theorem dot1_eq (q k : Fin 128 → EReal) : dot1 q k = ∑ d : Fin 64, q ⟨64 + d, by omega⟩ * k ⟨64 + d, by omega⟩ := by
  unfold dot1
  rw [show (∑ l : Fin 128, if (l : ℕ) < 64 then 0 else q l * k l) = ∑ l : Fin (64 + 64), (fun l : Fin 128 => if (l : ℕ) < 64 then 0 else q l * k l) l from rfl,
    Fin.sum_univ_add]
  rw [show (∑ i : Fin 64, (fun l : Fin 128 => if (l : ℕ) < 64 then 0 else q l * k l) (Fin.castAdd 64 i)) = 0 from
    Finset.sum_eq_zero fun i _ => if_pos (by simp), zero_add]
  exact Finset.sum_congr rfl fun i _ => if_neg (by simp)

/-- A query divided by eight and by the logarithm of two, as a product. -/
theorem host_scale (x : EReal) : Ideal.div (x * Ideal.ofBits .f32 0x3E000000#32) (Ideal.log (Ideal.ofBits .f32 0x40000000#32))
    = c2 * (x * Ideal.ofBits .f32 0x3E000000#32) := by
  have p : (0 : ℝ) < Real.log 2 := Real.log_pos (by norm_num)
  have l : Ideal.log ((2 : ℝ) : EReal) = ((Real.log 2 : ℝ) : EReal) := if_neg (by norm_num)
  rw [Rows.two_eq, l, Ideal.div, if_neg (by exact_mod_cast p.ne'), ← EReal.coe_inv, mul_comm]

/-- The eighth goes out of a sum. -/
theorem eighth_sum {ι : Type} (A : Finset ι) (f : ι → EReal) :
    (∑ u ∈ A, f u) * Ideal.ofBits .f32 0x3E000000#32 = ∑ u ∈ A, f u * Ideal.ofBits .f32 0x3E000000#32 := by
  rw [Rows.eighth_eq]
  classical
  induction A using Finset.induction_on with
  | empty => simp
  | insert a A ha ih =>
    rw [Finset.sum_insert ha, Finset.sum_insert ha, ← ih]
    exact EReal.right_distrib_of_nonneg_of_ne_top (by exact_mod_cast (by norm_num : (0 : ℝ) ≤ 1 / 8)) (EReal.coe_ne_top _) _ _

/-! ## A row of scores -/

section
variable {xq : FVec Ideal S32x512 .bf16} {xk xv : FVec Ideal S1056x512 .bf16} (q k v : FVec Ideal S256x512 .f32) (ck cv : FVec Ideal S1x8x8x1024x64 .f32) (b : Fin 8)

/-- The kernel's scores of a row are the reference's over the logarithm of two. -/
theorem scr_eq (hq : ∀ (t : Fin 32) (c : Fin 512), xq (ix2 t c) = c2 * (q (ix2 ⟨(b : ℕ) * 32 + t, by omega⟩ c) * Ideal.ofBits .f32 0x3E000000#32))
    (hk : ∀ (s : Fin 1056) (h : Fin 8) (d : Fin 64), xk (ix2 s ⟨(h : ℕ) * 64 + d, by omega⟩) = ReferenceIdeal.Val.ROWS ck k (ix4 b h s d))
    (h : Fin 8) (t : Fin 32) (s : ℕ) (hs : s < 1056) : scr xq xk h t s = c2 * ReferenceIdeal.Val.zat q k ck b h t s := by
  have e : ∀ d : Fin 64, xq (ix2 t ⟨(h : ℕ) * 64 + d, by omega⟩) * xk (ix2 ⟨s, hs⟩ ⟨(h : ℕ) * 64 + d, by omega⟩)
      = c2 * (q (ix2 ⟨(b : ℕ) * 32 + t, by omega⟩ ⟨(h : ℕ) * 64 + d, by omega⟩) * ReferenceIdeal.Val.ROWS ck k (ix4 b h ⟨s, hs⟩ d) * Ideal.ofBits .f32 0x3E000000#32) := fun d => by
    rw [hq, hk, mul_assoc, mul_assoc, mul_assoc, mul_comm (Ideal.ofBits .f32 0x3E000000#32)]
  have g : ∀ f : Fin 64 → Fin 512, (∀ d, (f d : ℕ) = (h : ℕ) * 64 + d) → ∑ d : Fin 64, xq (ix2 t (f d)) * xk (ix2 ⟨s, hs⟩ (f d)) = c2 * ReferenceIdeal.Val.zat q k ck b h t s := fun f hf => by
    unfold ReferenceIdeal.Val.zat
    rw [dif_pos hs, ReferenceIdeal.Val.SC_at, eighth_sum, c2_sum]
    refine Finset.sum_congr rfl fun d _ => ?_
    rw [← e d, show f d = ⟨(h : ℕ) * 64 + d, by omega⟩ from Fin.ext (hf d)]
  unfold scr
  rw [dif_pos hs]
  by_cases hp : (h : ℕ) % 2 = 0
  · rw [if_pos hp, dot0_eq]
    exact g (fun d => ⟨128 * ((h : ℕ) / 2) + d, by omega⟩) fun d => by show 128 * ((h : ℕ) / 2) + (d : ℕ) = _; omega
  · rw [if_neg hp, dot1_eq]
    exact g (fun d => ⟨128 * ((h : ℕ) / 2) + (64 + d), by omega⟩) fun d => by show 128 * ((h : ℕ) / 2) + (64 + (d : ℕ)) = _; omega

/-- A block's result at a row and a head's lane is the reference's. -/
theorem out_eq (i : grid0.Coords) (hq : ∀ (t : Fin 32) (c : Fin 512), xq (ix2 t c) = c2 * (q (ix2 ⟨(b : ℕ) * 32 + t, by omega⟩ c) * Ideal.ofBits .f32 0x3E000000#32))
    (hk : ∀ (s : Fin 1056) (h : Fin 8) (d : Fin 64), xk (ix2 s ⟨(h : ℕ) * 64 + d, by omega⟩) = ReferenceIdeal.Val.ROWS ck k (ix4 b h s d))
    (hv : ∀ (s : Fin 1056) (h : Fin 8) (d : Fin 64), xv (ix2 s ⟨(h : ℕ) * 64 + d, by omega⟩) = ReferenceIdeal.Val.ROWS cv v (ix4 b h s d))
    (t : Fin 32) (c : Fin 512) (r : Fin 256) (hr : (r : ℕ) = b * 32 + t) :
    out (F := Ideal) i xq xk xv (ix2 t c) = ReferenceIdeal.Val.REF q k v ck cv (ix2 r c) := by
  rw [out_at i xq xk xv t c ⟨(c : ℕ) / 64, by omega⟩ rfl,
    ReferenceIdeal.Val.REF_at q k v ck cv r c b ⟨(c : ℕ) / 64, by omega⟩ t ⟨(c : ℕ) % 64, by omega⟩ hr (by show (c : ℕ) = (c : ℕ) / 64 * 64 + (c : ℕ) % 64; omega)]
  have hrow : row xq xk ⟨(c : ℕ) / 64, by omega⟩ t = fun u => if u < 1024 + (t : ℕ) then c2 * ReferenceIdeal.Val.zat q k ck b ⟨(c : ℕ) / 64, by omega⟩ t u else ⊥ := by
    funext u
    unfold row
    by_cases hu : u < 1024 + (t : ℕ)
    · rw [if_pos hu, if_pos hu, scr_eq q k ck b hq hk _ t u (by omega)]
    · rw [if_neg hu, if_neg hu]
  rw [hrow, ← Finset.range_eq_Ico, ← Fin.sum_univ_eq_sum_range (fun s => wgt (fun u => if u < 1024 + (t : ℕ) then c2 * ReferenceIdeal.Val.zat q k ck b ⟨(c : ℕ) / 64, by omega⟩ t u else ⊥) s * col xv c s) 1056]
  refine Finset.sum_congr rfl fun s _ => ?_
  refine congrArg (fun y : EReal => wgt (fun u => if u < 1024 + (t : ℕ) then c2 * ReferenceIdeal.Val.zat q k ck b ⟨(c : ℕ) / 64, by omega⟩ t u else ⊥) s * y) ?_
  unfold col
  rw [dif_pos s.isLt, ← hv]
  exact congrArg (fun c => xv (ix2 s c)) (Fin.ext (by show (c : ℕ) = (c : ℕ) / 64 * 64 + (c : ℕ) % 64; omega))

end

variable (m : (ℓ : Loc nD τ sig) → Buf (Elt Ideal) ℓ)

/-- Every window's block index at every grid point. -/
theorem idx_val : ∀ t : Fin (cfg0 (F := Ideal)).N, win0_0.index t = ![t.val, 0]
    ∧ win0_1.index t = ![t.val, 0]
    ∧ win0_2.index t = ![t.val, 0]
    ∧ win0_3.index t = ![t.val, 0] ∧ t.val < 8 :=
  (by decide +kernel : ∀ t : Fin grid0.N, _)

/-- The five arguments. -/
abbrev argq (c : Dev nD) : FVec Ideal S256x512 .f32 := m ((c : Thread nD τ).loc main_arg0)
abbrev argk (c : Dev nD) : FVec Ideal S256x512 .f32 := m ((c : Thread nD τ).loc main_arg1)
abbrev argv (c : Dev nD) : FVec Ideal S256x512 .f32 := m ((c : Thread nD τ).loc main_arg2)
abbrev argck (c : Dev nD) : FVec Ideal S1x8x8x1024x64 .f32 := m ((c : Thread nD τ).loc main_arg3)
abbrev argcv (c : Dev nD) : FVec Ideal S1x8x8x1024x64 .f32 := m ((c : Thread nD τ).loc main_arg4)

/-! ## The arrays the host operations leave -/

/-- The scaled queries, the keys and the values side by side. -/
def QKV (q k v : FVec Ideal S256x512 .f32) : FVec Ideal S256x1536 .bf16 :=
  concatenate S256x1536 1 [⟨S256x512, truncf .bf16 (Host.divf (mulf q (broadcastInDim S256x512 ![] bcast_S_S256x512 (constant S_ .f32 0x3E000000#32)))
      (broadcastInDim S256x512 ![] bcast_S_S256x512 (Host.log (constant S_ .f32 0x40000000#32)))) bitsLt_bf16_f32⟩,
    ⟨S256x512, truncf .bf16 k bitsLt_bf16_f32⟩, ⟨S256x512, truncf .bf16 v bitsLt_bf16_f32⟩] concatenates_S256x512_S256x512_S256x512_S256x1536_d1
/-- The cached rows, token-major, then the new ones. -/
def PAST (p : FVec Ideal S1x8x8x1024x64 .f32) (n : FVec Ideal S256x512 .bf16) : FVec Ideal S8448x512 .bf16 :=
  shapeCast _ (concatenate S8x1056x512 1 [⟨S8x1024x512, truncf .bf16 (shapeCast S8x1024x512 (transpose S8x1024x8x64 [0, 2, 1, 3]
      (shapeCast S8x8x1024x64 p shapeCasts_S1x8x8x1024x64_S8x8x1024x64) transposes_S8x8x1024x64_S8x1024x8x64_0_2_1_3) shapeCasts_S8x1024x8x64_S8x1024x512) bitsLt_bf16_f32⟩,
    ⟨S8x32x512, shapeCast S8x32x512 n shapeCasts_S256x512_S8x32x512⟩] concatenates_S8x1024x512_S8x32x512_S8x1056x512_d1) shapeCasts_S8x1056x512_S8448x512

theorem V_v8 (c : Dev nD) : V m c main_v8 = QKV (argq m c) (argk m c) (argv m c) := by
  unfold V; after_results; try rfl
theorem V_v16 (c : Dev nD) : V m c main_v16 = PAST (argck m c) (extractStridedSlice S256x512 ![0, 512] (QKV (argq m c) (argk m c) (argv m c)) slices_S256x1536_S256x512_0_512) := by
  unfold V; after_results; try rfl
theorem V_v24 (c : Dev nD) : V m c main_v24 = PAST (argcv m c) (extractStridedSlice S256x512 ![0, 1024] (QKV (argq m c) (argk m c) (argv m c)) slices_S256x1536_S256x512_0_1024) := by
  unfold V; after_results; try rfl

section
variable (q k v : FVec Ideal S256x512 .f32) (p : FVec Ideal S1x8x8x1024x64 .f32) (n : FVec Ideal S256x512 .bf16)

theorem QKV_q (R : Fin 256) (f : Fin 512) : QKV q k v (ix2 R ⟨f, by omega⟩) = c2 * (q (ix2 R f) * Ideal.ofBits .f32 0x3E000000#32) := by
  rw [← host_scale]
  pointwise [QKV]
theorem QKV_k (R : Fin 256) (f : Fin 512) : (extractStridedSlice S256x512 ![0, 512] (QKV q k v) slices_S256x1536_S256x512_0_512) (ix2 R f) = k (ix2 R f) := by
  pointwise [QKV]
theorem QKV_v (R : Fin 256) (f : Fin 512) : (extractStridedSlice S256x512 ![0, 1024] (QKV q k v) slices_S256x1536_S256x512_0_1024) (ix2 R f) = v (ix2 R f) := by
  pointwise [QKV]
  rw [dif_neg (by omega), dif_neg (by omega)]
  exact congrArg (fun f => v (ix2 R f)) (Fin.ext (by show 1024 + (f : ℕ) - 512 - 512 = f; omega))
theorem PAST_at (R : Fin 8448) (b : Fin 8) (s : Fin 1056) (h : Fin 8) (d : Fin 64) (hR : (R : ℕ) = b * 1056 + s) :
    PAST p n (ix2 R ⟨(h : ℕ) * 64 + d, by omega⟩) = if hs : (s : ℕ) < 1024 then p (ix5 0 b h ⟨s, hs⟩ d) else n (ix2 ⟨b * 32 + (s - 1024), by omega⟩ ⟨h * 64 + d, by omega⟩) := by
  pointwise [PAST]
  have e1 : (R : ℕ) / 1056 = b := by omega
  have e2 : (R : ℕ) % 1056 = s := by omega
  simp only [e1, e2]
end

/-- A block of queries: the argument's rows, scaled. -/
theorem blk0 (c : Dev nD) (t : Fin (cfg0 (F := Ideal)).N) (r : Fin 32) (f : Fin 512) (R : Fin 256) (hR : (R : ℕ) = t.val * 32 + r) :
    iblk m c 0 t (ix2 r f) = c2 * (argq m c (ix2 R f) * Ideal.ofBits .f32 0x3E000000#32) := by
  rw [← QKV_q (argq m c) (argk m c) (argv m c), ← V_v8]
  blk_simp [iblk, idx_val t]
  blk_ext [idx_val t]

/-- A block of keys: the cached rows and the new ones. -/
theorem blk1 (c : Dev nD) (t : Fin (cfg0 (F := Ideal)).N) (b : Fin 8) (hb : (b : ℕ) = t.val) (s : Fin 1056) (h : Fin 8) (d : Fin 64) :
    iblk m c 1 t (ix2 s ⟨(h : ℕ) * 64 + d, by omega⟩) = ReferenceIdeal.Val.ROWS (argck m c) (argk m c) (ix4 b h s d) := by
  rw [ReferenceIdeal.Val.ROWS_at]
  simp only [← QKV_k (argq m c) (argk m c) (argv m c)]
  rw [← PAST_at _ _ ⟨(b : ℕ) * 1056 + s, by omega⟩ b s h d rfl, ← V_v16]
  blk_simp [iblk, idx_val t]
  blk_ext [idx_val t]

/-- A block of values: the cached rows and the new ones. -/
theorem blk2 (c : Dev nD) (t : Fin (cfg0 (F := Ideal)).N) (b : Fin 8) (hb : (b : ℕ) = t.val) (s : Fin 1056) (h : Fin 8) (d : Fin 64) :
    iblk m c 2 t (ix2 s ⟨(h : ℕ) * 64 + d, by omega⟩) = ReferenceIdeal.Val.ROWS (argcv m c) (argv m c) (ix4 b h s d) := by
  rw [ReferenceIdeal.Val.ROWS_at]
  simp only [← QKV_v (argq m c) (argk m c) (argv m c)]
  rw [← PAST_at _ _ ⟨(b : ℕ) * 1056 + s, by omega⟩ b s h d rfl, ← V_v24]
  blk_simp [iblk, idx_val t]
  blk_ext [idx_val t]

/-- The result after the run is the reference's. -/
theorem final (c : Dev nD) : (dats m 0 c).arrAt 3 (cfgs (F := Ideal) 0).N = ReferenceIdeal.Val.REF (argq m c) (argk m c) (argv m c) (argck m c) (argcv m c) := by
  have key : ∀ (t : Fin (cfg0 (F := Ideal)).N) (y : S32x512.Idx) (i : S256x512.Idx), (i 0 : ℕ) = t.val * 32 + y 0 → (i 1 : ℕ) = y 1 →
      out (F := Ideal) (grid0.coords t) (iblk m c 0 t) (iblk m c 1 t) (iblk m c 2 t) y
        = ReferenceIdeal.Val.REF (argq m c) (argk m c) (argv m c) (argck m c) (argcv m c) i := by
    intro t y i h0 h1
    have ht := (idx_val t).2.2.2.2
    idx_vars i
    idx_vars y
    replace h0 : (i0 : ℕ) = t.val * 32 + y0 := h0
    replace h1 : (i1 : ℕ) = y1 := h1
    obtain rfl : i1 = y1 := Fin.ext h1
    exact out_eq (argq m c) (argk m c) (argv m c) (argck m c) (argcv m c) ⟨t.val, ht⟩ (grid0.coords t) (fun r f => blk0 m c t r f _ rfl)
      (blk1 m c t ⟨t.val, ht⟩ rfl) (blk2 m c t ⟨t.val, ht⟩ rfl) y0 i1 i0 h0
  refine (dats m 0 c).arrAt_eq_of_covers 3 _ (by decide +kernel) fun t hf y => ?_
  blk_simp
  rw [after0_3]
  refine key t y _ ?_ ?_
  all_goals (blk_simp [idx_val t] <;> try omega)

/-- The launch, at the values: the result array holds what the pipeline's data says and the arguments are kept. -/
theorem run_values (ρ : Dev nD → PrngReg) : θ_run defs (onTc (τ := τ) (main (F := Ideal))) ⟨m, fun _ => 0, ρ⟩ (fun r => ∀ c : Dev nD,
    r.2.mem ((c.tc : Thread nD τ).loc main_v25) = (dats m 0 c).arrAt 3 (cfgs (F := Ideal) 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1 3, arg_kept m r h c _ (by simp), arg_kept m r h c _ (by simp),
    arg_kept m r h c _ (by simp), arg_kept m r h c _ (by simp), arg_kept m r h c _ (by simp)⟩) (run_main m ρ)

end Cert.KernelIdeal.Attn

end
-- ==== Proof.Ffn.Ref.lean ====
/- The feed-forward reference's result read at an index. -/
module

public import proofs.«01_k».proof.Proof.Gen.FfnRefIdeal.Run
public import proofs.«01_k».proof.Proof.Ffn.Rows
public import Idealize.ShloMosaic.Lib.Pointwise

@[expose] public section

set_option maxRecDepth 16384

noncomputable section

namespace Cert.FfnRefIdeal.Val

open Cert.FfnRefIdeal Cert.FfnRefIdeal.Gen Idealize.ShloMosaic Idealize.ShloMosaic.TcCoe Idealize.SL.Sem

/-- The reference's norm of its input. -/
def XN (a0 : FVec Ideal S4x8192x1024 .f32) (a1 : FVec Ideal S1024 .f32) : FVec Ideal S4x8192x1024 .f32 :=
  (mulf (mulf a0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf a0 a0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 a1)))

/-- A product of the normed input with a weight of 4096 columns. -/
def Z (xn : FVec Ideal S4x8192x1024 .f32) (w : FVec Ideal S1x1024x4096 .f32) : FVec Ideal S4x8192x4096 .f32 :=
  (Host.dotGeneral dot_S4x8192x1024_S1024x4096_S4x8192x4096_2_0_01_1_n_n none xn (shapeCast _ w shapeCasts_S1x1024x4096_S1024x4096))

/-- The input after the half step. -/
def Y (a0 : FVec Ideal S4x8192x1024 .f32) (z u : FVec Ideal S4x8192x4096 .f32) (a4 : FVec Ideal S1x4096x1024 .f32) : FVec Ideal S4x8192x1024 .f32 :=
  (addf a0 (mulf (broadcastInDim S4x8192x1024 ![] bcast_S_S4x8192x1024 (constant S_ .f32 0x3F000000#32)) (Host.dotGeneral dot_S4x8192x4096_S4096x1024_S4x8192x1024_2_0_01_1_n_n none (mulf (mulf z (Host.divf (broadcastInDim S4x8192x4096 ![] bcast_S_S4x8192x4096 (constant S_ .f32 0x3F800000#32)) (addf (broadcastInDim S4x8192x4096 ![] bcast_S_S4x8192x4096 (constant S_ .f32 0x3F800000#32)) (Host.exp (Host.negf z))))) u) (shapeCast _ a4 shapeCasts_S1x4096x1024_S4096x1024))))

/-- The reference's result over its six arguments. -/
def REF (a0 : FVec Ideal S4x8192x1024 .f32) (a1 : FVec Ideal S1x1024 .f32) (a2 a3 : FVec Ideal S1x1024x4096 .f32)
    (a4 : FVec Ideal S1x4096x1024 .f32) (a5 : FVec Ideal S1024 .f32) : FVec Ideal S32768x1024 .f32 :=
  shapeCast _ (XN (Y a0 (Z (XN a0 (shapeCast _ a1 shapeCasts_S1x1024_S1024)) a2) (Z (XN a0 (shapeCast _ a1 shapeCasts_S1x1024_S1024)) a3) a4) a5)
    shapeCasts_S4x8192x1024_S32768x1024

/-- The generated run's result is `REF` of the arguments. -/
theorem res_eq (m : (ℓ : Loc nD τ sig) → Buf (Elt Ideal) ℓ) (c : Dev nD) :
    Value.res_main_v38 m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := rfl

/-- The norm at an index is the norm of that row. -/
theorem XN_at (a0 : FVec Ideal S4x8192x1024 .f32) (a1 : FVec Ideal S1024 .f32) (b : Fin 4) (t : Fin 8192) (k : Fin 1024) :
    XN a0 a1 (ix3 b t k) = Rows.normed (fun j => a0 (ix3 b t j)) (fun j => a1 (ix1 j)) k := by
  pointwise [XN, Rows.normed, zero_add]

/-- The product at an index. -/
theorem Z_at (xn : FVec Ideal S4x8192x1024 .f32) (w : FVec Ideal S1x1024x4096 .f32) (b : Fin 4) (t : Fin 8192) (f : Fin 4096) :
    Z xn w (ix3 b t f) = ∑ k : Fin 1024, xn (ix3 b t k) * w (ix3 0 k f) := by
  pointwise [Z]

/-- The stepped input at an index. -/
theorem Y_at (a0 : FVec Ideal S4x8192x1024 .f32) (z u : FVec Ideal S4x8192x4096 .f32) (a4 : FVec Ideal S1x4096x1024 .f32)
    (b : Fin 4) (t : Fin 8192) (j : Fin 1024) :
    Y a0 z u a4 (ix3 b t j) = a0 (ix3 b t j) + Ideal.ofBits .f32 0x3F000000#32
      * ∑ f : Fin 4096, z (ix3 b t f) * Ideal.div 1 (1 + Ideal.exp (-(z (ix3 b t f)))) * u (ix3 b t f) * a4 (ix3 0 f j) := by
  pointwise [Y]

/-- The reference's result at a row and a column: the norm of the stepped row. -/
theorem REF_at (a0 : FVec Ideal S4x8192x1024 .f32) (a1 : FVec Ideal S1x1024 .f32) (a2 a3 : FVec Ideal S1x1024x4096 .f32)
    (a4 : FVec Ideal S1x4096x1024 .f32) (a5 : FVec Ideal S1024 .f32) (r : Fin 32768) (j : Fin 1024) (b : Fin 4) (t : Fin 8192)
    (h : (r : ℕ) = b * 8192 + t) :
    REF a0 a1 a2 a3 a4 a5 (ix2 r j) = Rows.normed (Rows.stepped (fun k => a0 (ix3 b t k))
      (Rows.normed (fun k => a0 (ix3 b t k)) (fun k => a1 (ix2 0 k))) (fun k f => a2 (ix3 0 k f)) (fun k f => a3 (ix3 0 k f))
      (fun f j => a4 (ix3 0 f j))) (fun k => a5 (ix1 k)) j := by
  have hb : (⟨(r : ℕ) / 8192, by omega⟩ : Fin 4) = b := Fin.ext (by simp; omega)
  have ht : (⟨(r : ℕ) % 8192, by omega⟩ : Fin 8192) = t := Fin.ext (by simp; omega)
  have hg : ∀ k : Fin 1024, shapeCast S1024 a1 shapeCasts_S1x1024_S1024 (ix1 k) = a1 (ix2 0 k) := fun k => by pointwise
  pointwise [REF]
  rw [hb, ht, XN_at]
  congr 1
  funext j
  rw [Y_at]
  simp only [Z_at, XN_at, hg]
  rfl

end Cert.FfnRefIdeal.Val

end
-- ==== Proof.Ffn.Value.lean ====
/- The feed-forward kernel's result array is the reference's: what one grid point stores, read at an index, is the norm of
   the stepped row, the hidden row taken in four chunks. -/
module

public import proofs.«01_k».proof.Proof.Gen.FfnIdeal.Value
public import proofs.«01_k».proof.Proof.Ffn.Ref
public import Idealize.ShloMosaic.Lib.Pipeline.ValueKit

@[expose] public section

set_option maxRecDepth 16384

noncomputable section

namespace Cert.FfnIdeal.Val

open Cert.FfnIdeal Cert.FfnIdeal.Gen Idealize.ShloMosaic Idealize.ShloMosaic.TcCoe Idealize.SL.Sem
open Idealize.ShloMosaic.Pipeline (Dat)

/-- One chunk of the hidden row, gated and multiplied by its rows of the last weight. -/
def part (xn wg wu wd : FVec Ideal S1024x1024 .bf16) (r j : Fin 1024) : EReal :=
  ∑ f : Fin 1024, (∑ k : Fin 1024, xn (ix2 r k) * wg (ix2 k f))
    * Ideal.div 1 (1 + Ideal.exp (-(∑ k : Fin 1024, xn (ix2 r k) * wg (ix2 k f))))
    * (∑ k : Fin 1024, xn (ix2 r k) * wu (ix2 k f)) * wd (ix2 f j)

/-- The normed block at an index. -/
theorem pay1_at (x : FVec Ideal S1024x1024 .f32) (g : FVec Ideal S1x1024 .f32) (r k : Fin 1024) :
    k0_pay1 (F := Ideal) x g (ix2 r k) = Rows.normed (fun j => x (ix2 r j)) (fun j => g (ix2 0 j)) k := by
  pointwise [k0_pay1, Rows.normed]

/-- The first chunk at an index. -/
theorem pay2_at (x : FVec Ideal S1024x1024 .f32) (g : FVec Ideal S1x1024 .f32) (wg wu wd : FVec Ideal S1024x1024 .bf16)
    (r j : Fin 1024) : k0_pay2 (F := Ideal) x g wg wu wd (ix2 r j) = part (k0_pay1 x g) wg wu wd r j := by
  pointwise [k0_pay2, part]
  simp only [zero_add, Rows.half_tanh]

/-- The next two chunks added to the first, at an index. -/
theorem pay4_at (xn : FVec Ideal S1024x1024 .bf16) (a : FVec Ideal S1024x1024 .f32)
    (wg wu wd wg' wu' wd' : FVec Ideal S1024x1024 .bf16) (r j : Fin 1024) :
    k0_pay4 (F := Ideal) xn a (k0_pay3 wg) (constant S1024x1024 .f32 0x00000000#32) wu wd wg' wu' wd' (ix2 r j)
      = a (ix2 r j) + part xn wg wu wd r j + part xn wg' wu' wd' r j := by
  pointwise [k0_pay4, k0_pay3, part]
  simp only [zero_add, Rows.half_tanh]

/-- The last chunk added, the half step taken, and the row normed, at an index. -/
theorem pay5_at (xn : FVec Ideal S1024x1024 .bf16) (a : FVec Ideal S1024x1024 .f32)
    (wg wu wd : FVec Ideal S1024x1024 .bf16) (x : FVec Ideal S1024x1024 .f32) (g : FVec Ideal S1x1024 .f32) (r j : Fin 1024) :
    k0_pay5 (F := Ideal) xn a wg wu wd x g (ix2 r j)
      = Rows.normed (fun j => x (ix2 r j) + Ideal.ofBits .f32 0x3F000000#32 * (a (ix2 r j) + part xn wg wu wd r j))
        (fun j => g (ix2 0 j)) j := by
  pointwise [k0_pay5, part, Rows.normed]
  simp only [zero_add, Rows.half_tanh]

/-- The body's stored block at an index, over whole input blocks: the norm of the stepped row. -/
theorem block_at (x0 : FVec Ideal S1024x1024 .f32) (x1 : FVec Ideal S1x1024 .f32) (x2 x3 : FVec Ideal S1024x4096 .bf16)
    (x4 : FVec Ideal S4096x1024 .bf16) (x5 : FVec Ideal S1x1024 .f32) (r j : Fin 1024) :
    out0_6 (F := Ideal) x0 x1 x2 x3 x4 x5 (ix2 r j)
      = Rows.normed (Rows.stepped (fun k => x0 (ix2 r k)) (Rows.normed (fun k => x0 (ix2 r k)) (fun k => x1 (ix2 0 k)))
          (fun k f => x2 (ix2 k f)) (fun k f => x3 (ix2 k f)) (fun f j => x4 (ix2 f j))) (fun k => x5 (ix2 0 k)) j := by
  have e6 : k0_pay6 (F := Ideal) x0 x1 x2 x3 x4 x5 = k0_pay1 x0 x1 := by
    unfold k0_pay6
    frame_out
  frame_out
  rw [pay5_at, e6]
  unfold Rows.stepped
  congr 1
  funext l
  congr 2
  rw [pay4_at, pay2_at, Fin.sum_univ_tiles 4 1024 rfl, Fin.sum_univ_four]
  unfold part Rows.hidden
  simp only [pay1_at]
  generalize Rows.normed (fun k => x0 (ix2 r k)) (fun k => x1 (ix2 0 k)) = xn
  pointwise

variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val, 0] ∧ t.val < 32 :=
  (by decide +kernel : ∀ t : Fin grid0.N, _)

/-- What a grid point stores is the reference's result at the array index its block index sits at. -/
theorem point (c : Dev nD) (t : Fin cfg0.N) (r j : Fin 1024) (i : S32768x1024.Idx) (h0 : (i 0 : ℕ) = t.val * 1024 + r)
    (h1 : (i 1 : ℕ) = j) :
    out0_6 (F := Ideal) (iblk m c 0 t) (iblk m c 1 t) (iblk m c 2 t) (iblk m c 3 t) (iblk m c 4 t) (iblk m c 5 t) (ix2 r j)
      = FfnRefIdeal.Val.REF (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) i := by
  have ht := (idx_val t).2.2.2.2.2.2.2
  idx_vars i
  have e1 : i1 = j := Fin.ext h1
  have e0 : (i0 : ℕ) = (⟨(i0 : ℕ) / 8192, by omega⟩ : Fin 4) * 8192 + (⟨(i0 : ℕ) % 8192, by omega⟩ : Fin 8192) := by
    simp; omega
  rw [block_at]
  refine Eq.trans ?_ (FfnRefIdeal.Val.REF_at _ _ _ _ _ _ i0 i1 _ _ e0).symm
  rw [e1]
  have q0 : ∀ k : Fin 1024, iblk m c 0 t (ix2 r k) = m ((c : Thread nD τ).loc main_arg0)
      (ix3 (⟨(i0 : ℕ) / 8192, by omega⟩ : Fin 4) (⟨(i0 : ℕ) % 8192, by omega⟩ : Fin 8192) k) := fun k => by
    blk_point [iblk, V, idx_val t]
  have q1 : ∀ k : Fin 1024, iblk m c 1 t (ix2 0 k) = m ((c : Thread nD τ).loc main_arg1) (ix2 0 k) := fun k => by
    blk_point [iblk, V, idx_val t]
  have q2 : ∀ (k : Fin 1024) (f : Fin 4096), iblk m c 2 t (ix2 k f) = m ((c : Thread nD τ).loc main_arg2) (ix3 0 k f) := fun k f => by
    blk_point [iblk, V, idx_val t]
  have q3 : ∀ (k : Fin 1024) (f : Fin 4096), iblk m c 3 t (ix2 k f) = m ((c : Thread nD τ).loc main_arg3) (ix3 0 k f) := fun k f => by
    blk_point [iblk, V, idx_val t]
  have q4 : ∀ (f : Fin 4096) (k : Fin 1024), iblk m c 4 t (ix2 f k) = m ((c : Thread nD τ).loc main_arg4) (ix3 0 f k) := fun k f => by
    blk_point [iblk, V, idx_val t]
  have q5 : ∀ k : Fin 1024, iblk m c 5 t (ix2 0 k) = m ((c : Thread nD τ).loc main_arg5) (ix1 k) := fun k => by
    blk_point [iblk, V, idx_val t]
  simp only [q0, q1, q2, q3, q4, q5]

/-- The result array after the run is the reference's result over the arguments. -/
theorem final (c : Dev nD) : (dats m 0 c).arrAt 6 (cfgs 0).N
    = FfnRefIdeal.Val.REF (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  refine (dats m 0 c).arrAt_eq_of_covers 6 _ (by decide +kernel) fun t hf y => ?_
  blk_simp
  rw [after0_6]
  refine Eq.trans (congrArg _ (eq_ix2 y)) (point m c t (y 0) (y 1) _ ?_ ?_)
  all_goals (blk_simp [idx_val t] <;> try omega)

end Cert.FfnIdeal.Val

end
-- ==== Proof.Ffn.Inner.lean ====
/- The feed-forward call without a last norm: its result array is its reference's. -/
module

public import proofs.«01_k».proof.Proof.Gen.FfnInnerIdeal.Value
public import proofs.«01_k».proof.Proof.Gen.FfnInnerRefIdeal.Run
public import proofs.«01_k».proof.Proof.Ffn.Value
public import Idealize.ShloMosaic.Lib.Pipeline.ValueKit

@[expose] public section

set_option maxRecDepth 16384

noncomputable section

namespace Cert.FfnInnerRefIdeal.Val

open Cert.FfnInnerRefIdeal Cert.FfnInnerRefIdeal.Gen Idealize.ShloMosaic Idealize.ShloMosaic.TcCoe Idealize.SL.Sem

/-- The reference's norm of its input. -/
def XN (a0 : FVec Ideal S4x8192x1024 .f32) (a1 : FVec Ideal S1024 .f32) : FVec Ideal S4x8192x1024 .f32 :=
  (mulf (mulf a0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf a0 a0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 a1)))

/-- A product of the normed input with a weight of 4096 columns. -/
def Z (xn : FVec Ideal S4x8192x1024 .f32) (w : FVec Ideal S1x1024x4096 .f32) : FVec Ideal S4x8192x4096 .f32 :=
  (Host.dotGeneral dot_S4x8192x1024_S1024x4096_S4x8192x4096_2_0_01_1_n_n none xn (shapeCast _ w shapeCasts_S1x1024x4096_S1024x4096))

/-- The input after the half step. -/
def Y (a0 : FVec Ideal S4x8192x1024 .f32) (z u : FVec Ideal S4x8192x4096 .f32) (a4 : FVec Ideal S1x4096x1024 .f32) : FVec Ideal S4x8192x1024 .f32 :=
  (addf a0 (mulf (broadcastInDim S4x8192x1024 ![] bcast_S_S4x8192x1024 (constant S_ .f32 0x3F000000#32)) (Host.dotGeneral dot_S4x8192x4096_S4096x1024_S4x8192x1024_2_0_01_1_n_n none (mulf (mulf z (Host.divf (broadcastInDim S4x8192x4096 ![] bcast_S_S4x8192x4096 (constant S_ .f32 0x3F800000#32)) (addf (broadcastInDim S4x8192x4096 ![] bcast_S_S4x8192x4096 (constant S_ .f32 0x3F800000#32)) (Host.exp (Host.negf z))))) u) (shapeCast _ a4 shapeCasts_S1x4096x1024_S4096x1024))))

/-- The reference's result over its five arguments. -/
def REF (a0 : FVec Ideal S4x8192x1024 .f32) (a1 : FVec Ideal S1x1024 .f32) (a2 a3 : FVec Ideal S1x1024x4096 .f32)
    (a4 : FVec Ideal S1x4096x1024 .f32) : FVec Ideal S32768x1024 .f32 :=
  shapeCast _ (Y a0 (Z (XN a0 (shapeCast _ a1 shapeCasts_S1x1024_S1024)) a2) (Z (XN a0 (shapeCast _ a1 shapeCasts_S1x1024_S1024)) a3) a4)
    shapeCasts_S4x8192x1024_S32768x1024

/-- The norm at an index is the norm of that row. -/
theorem XN_at (a0 : FVec Ideal S4x8192x1024 .f32) (a1 : FVec Ideal S1024 .f32) (b : Fin 4) (t : Fin 8192) (k : Fin 1024) :
    XN a0 a1 (ix3 b t k) = Rows.normed (fun j => a0 (ix3 b t j)) (fun j => a1 (ix1 j)) k := by
  pointwise [XN, Rows.normed, zero_add]

/-- The product at an index. -/
theorem Z_at (xn : FVec Ideal S4x8192x1024 .f32) (w : FVec Ideal S1x1024x4096 .f32) (b : Fin 4) (t : Fin 8192) (f : Fin 4096) :
    Z xn w (ix3 b t f) = ∑ k : Fin 1024, xn (ix3 b t k) * w (ix3 0 k f) := by
  pointwise [Z]

/-- The stepped input at an index. -/
theorem Y_at (a0 : FVec Ideal S4x8192x1024 .f32) (z u : FVec Ideal S4x8192x4096 .f32) (a4 : FVec Ideal S1x4096x1024 .f32)
    (b : Fin 4) (t : Fin 8192) (j : Fin 1024) :
    Y a0 z u a4 (ix3 b t j) = a0 (ix3 b t j) + Ideal.ofBits .f32 0x3F000000#32
      * ∑ f : Fin 4096, z (ix3 b t f) * Ideal.div 1 (1 + Ideal.exp (-(z (ix3 b t f)))) * u (ix3 b t f) * a4 (ix3 0 f j) := by
  pointwise [Y]

/-- The reference's result at a row and a column: the stepped row. -/
theorem REF_at (a0 : FVec Ideal S4x8192x1024 .f32) (a1 : FVec Ideal S1x1024 .f32) (a2 a3 : FVec Ideal S1x1024x4096 .f32)
    (a4 : FVec Ideal S1x4096x1024 .f32) (r : Fin 32768) (j : Fin 1024) (b : Fin 4) (t : Fin 8192) (h : (r : ℕ) = b * 8192 + t) :
    REF a0 a1 a2 a3 a4 (ix2 r j) = Rows.stepped (fun k => a0 (ix3 b t k))
      (Rows.normed (fun k => a0 (ix3 b t k)) (fun k => a1 (ix2 0 k))) (fun k f => a2 (ix3 0 k f)) (fun k f => a3 (ix3 0 k f))
      (fun f j => a4 (ix3 0 f j)) j := by
  have hb : (⟨(r : ℕ) / 8192, by omega⟩ : Fin 4) = b := Fin.ext (by simp; omega)
  have ht : (⟨(r : ℕ) % 8192, by omega⟩ : Fin 8192) = t := Fin.ext (by simp; omega)
  have hg : ∀ k : Fin 1024, shapeCast S1024 a1 shapeCasts_S1x1024_S1024 (ix1 k) = a1 (ix2 0 k) := fun k => by pointwise
  pointwise [REF]
  rw [hb, ht, Y_at]
  simp only [Z_at, XN_at, hg]
  rfl

end Cert.FfnInnerRefIdeal.Val

namespace Cert.FfnInnerIdeal.Val

open Cert.FfnInnerIdeal Cert.FfnInnerIdeal.Gen Idealize.ShloMosaic Idealize.ShloMosaic.TcCoe Idealize.SL.Sem
open Idealize.ShloMosaic.Pipeline (Dat)
open Cert.FfnIdeal.Val (part)

/-- The normed block at an index. -/
theorem pay2_at (x : FVec Ideal S1024x1024 .f32) (g : FVec Ideal S1x1024 .f32) (r k : Fin 1024) :
    k0_pay2 (F := Ideal) x g (ix2 r k) = Rows.normed (fun j => x (ix2 r j)) (fun j => g (ix2 0 j)) k := by
  pointwise [k0_pay2, Rows.normed]

/-- The first chunk at an index. -/
theorem pay3_at (x : FVec Ideal S1024x1024 .f32) (g : FVec Ideal S1x1024 .f32) (wg wu wd : FVec Ideal S1024x1024 .bf16)
    (r j : Fin 1024) : k0_pay3 (F := Ideal) x g wg wu wd (ix2 r j) = part (k0_pay2 x g) wg wu wd r j := by
  pointwise [k0_pay3, part]
  simp only [zero_add, Rows.half_tanh]

/-- The next two chunks added to the first, at an index. -/
theorem pay5_at (xn : FVec Ideal S1024x1024 .bf16) (a : FVec Ideal S1024x1024 .f32)
    (wg wu wd wg' wu' wd' : FVec Ideal S1024x1024 .bf16) (r j : Fin 1024) :
    k0_pay5 (F := Ideal) xn a (k0_pay4 wg) (constant S1024x1024 .f32 0x00000000#32) wu wd wg' wu' wd' (ix2 r j)
      = a (ix2 r j) + part xn wg wu wd r j + part xn wg' wu' wd' r j := by
  pointwise [k0_pay5, k0_pay4, part]
  simp only [zero_add, Rows.half_tanh]

/-- The last chunk added and the half step taken, at an index. -/
theorem pay1_at (xn : FVec Ideal S1024x1024 .bf16) (a : FVec Ideal S1024x1024 .f32)
    (wg wu wd : FVec Ideal S1024x1024 .bf16) (x : FVec Ideal S1024x1024 .f32) (r j : Fin 1024) :
    k0_pay1 (F := Ideal) xn a wg wu wd x (ix2 r j) = x (ix2 r j) + Ideal.ofBits .f32 0x3F000000#32 * (a (ix2 r j) + part xn wg wu wd r j) := by
  pointwise [k0_pay1, part]
  simp only [zero_add, Rows.half_tanh]

/-- The body's stored block at an index, over whole input blocks: the stepped row. -/
theorem block_at (x0 : FVec Ideal S1024x1024 .f32) (x1 : FVec Ideal S1x1024 .f32) (x2 x3 : FVec Ideal S1024x4096 .bf16)
    (x4 : FVec Ideal S4096x1024 .bf16) (r j : Fin 1024) :
    out0_5 (F := Ideal) x0 x1 x2 x3 x4 (ix2 r j)
      = Rows.stepped (fun k => x0 (ix2 r k)) (Rows.normed (fun k => x0 (ix2 r k)) (fun k => x1 (ix2 0 k)))
          (fun k f => x2 (ix2 k f)) (fun k f => x3 (ix2 k f)) (fun f j => x4 (ix2 f j)) j := by
  have e6 : k0_pay6 (F := Ideal) x0 x1 x2 x3 x4 = k0_pay2 x0 x1 := by
    unfold k0_pay6
    frame_out
  frame_out
  rw [pay1_at, e6]
  unfold Rows.stepped
  congr 2
  rw [pay5_at, pay3_at, Fin.sum_univ_tiles 4 1024 rfl, Fin.sum_univ_four]
  unfold part Rows.hidden
  simp only [pay2_at]
  generalize Rows.normed (fun k => x0 (ix2 r k)) (fun k => x1 (ix2 0 k)) = xn
  pointwise

variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0] ∧ t.val < 32 :=
  (by decide +kernel : ∀ t : Fin grid0.N, _)

/-- What a grid point stores is the reference's result at the array index its block index sits at. -/
theorem point (c : Dev nD) (t : Fin cfg0.N) (r j : Fin 1024) (i : S32768x1024.Idx) (h0 : (i 0 : ℕ) = t.val * 1024 + r)
    (h1 : (i 1 : ℕ) = j) :
    out0_5 (F := Ideal) (iblk m c 0 t) (iblk m c 1 t) (iblk m c 2 t) (iblk m c 3 t) (iblk m c 4 t) (ix2 r j)
      = FfnInnerRefIdeal.Val.REF (m ((c : Thread nD τ).loc main_arg0)) (m ((c : Thread nD τ).loc main_arg1))
          (m ((c : Thread nD τ).loc main_arg2)) (m ((c : Thread nD τ).loc main_arg3)) (m ((c : Thread nD τ).loc main_arg4)) i := by
  have ht := (idx_val t).2.2.2.2.2.2
  idx_vars i
  have e1 : i1 = j := Fin.ext h1
  have e0 : (i0 : ℕ) = (⟨(i0 : ℕ) / 8192, by omega⟩ : Fin 4) * 8192 + (⟨(i0 : ℕ) % 8192, by omega⟩ : Fin 8192) := by
    simp; omega
  rw [block_at]
  refine Eq.trans ?_ (FfnInnerRefIdeal.Val.REF_at _ _ _ _ _ i0 i1 _ _ e0).symm
  rw [e1]
  have q0 : ∀ k : Fin 1024, iblk m c 0 t (ix2 r k) = m ((c : Thread nD τ).loc main_arg0)
      (ix3 (⟨(i0 : ℕ) / 8192, by omega⟩ : Fin 4) (⟨(i0 : ℕ) % 8192, by omega⟩ : Fin 8192) k) := fun k => by
    blk_point [iblk, V, idx_val t]
  have q1 : ∀ k : Fin 1024, iblk m c 1 t (ix2 0 k) = m ((c : Thread nD τ).loc main_arg1) (ix2 0 k) := fun k => by
    blk_point [iblk, V, idx_val t]
  have q2 : ∀ (k : Fin 1024) (f : Fin 4096), iblk m c 2 t (ix2 k f) = m ((c : Thread nD τ).loc main_arg2) (ix3 0 k f) := fun k f => by
    blk_point [iblk, V, idx_val t]
  have q3 : ∀ (k : Fin 1024) (f : Fin 4096), iblk m c 3 t (ix2 k f) = m ((c : Thread nD τ).loc main_arg3) (ix3 0 k f) := fun k f => by
    blk_point [iblk, V, idx_val t]
  have q4 : ∀ (f : Fin 4096) (k : Fin 1024), iblk m c 4 t (ix2 f k) = m ((c : Thread nD τ).loc main_arg4) (ix3 0 f k) := fun k f => by
    blk_point [iblk, V, idx_val t]
  simp only [q0, q1, q2, q3, q4]

/-- The result array after the run is the reference's result over the arguments. -/
theorem final (c : Dev nD) : (dats m 0 c).arrAt 5 (cfgs 0).N
    = FfnInnerRefIdeal.Val.REF (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  refine Eq.trans (congrArg _ (eq_ix2 y)) (point m c t (y 0) (y 1) _ ?_ ?_)
  all_goals (blk_simp [idx_val t] <;> try omega)

end Cert.FfnInnerIdeal.Val

end
-- ==== Proof.Merge.Pool.lean ====
/- The mathematics of one row of the pool mixer and the gated merge: sums over a trailing window built by doubling, and
   the same sums as differences of running totals. -/
module

public import proofs.«01_k».proof.Proof.Ffn.Rows

@[expose] public section

noncomputable section

namespace Cert.Pool

open Idealize.ShloMosaic

/-- The sum of the last `2 ^ k` entries up to a position, by doubling. -/
def run : ℕ → (ℕ → EReal) → ℕ → EReal
  | 0, f, n => f n
  | k + 1, f, n => run k f n + run k f (n - 2 ^ k)

/-- Over real entries, the difference of two running totals is the sum by doubling. -/
theorem run_eq (g : ℕ → ℝ) : ∀ k n : ℕ, run k (fun i => (g i : EReal)) (n + 2 ^ k)
    = ((∑ i ∈ Finset.range (n + 2 ^ k), g (i + 1) - ∑ i ∈ Finset.range n, g (i + 1) : ℝ) : EReal)
  | 0, n => by
    rw [pow_zero, Finset.sum_range_succ, add_sub_cancel_left]
    rfl
  | k + 1, n => by
    have e : n + 2 ^ (k + 1) = (n + 2 ^ k) + 2 ^ k := by ring
    have e' : n + 2 ^ (k + 1) - 2 ^ k = n + 2 ^ k := by rw [e]; exact Nat.add_sub_cancel _ _
    unfold run
    rw [e', e, run_eq g k, run_eq g k, ← EReal.coe_add]
    congr 1
    ring

/-- The same over extended reals that are real. -/
theorem run_eq_sub (f : ℕ → EReal) (hf : ∀ i, f i ≠ ⊤ ∧ f i ≠ ⊥) (k n : ℕ) :
    (∑ i ∈ Finset.range (n + 2 ^ k), f (i + 1)) - (∑ i ∈ Finset.range n, f (i + 1)) = run k f (n + 2 ^ k) := by
  have e : f = fun i => ((f i).toReal : EReal) := funext fun i => (EReal.coe_toReal (hf i).1 (hf i).2).symm
  have s : ∀ l : ℕ, (∑ i ∈ Finset.range l, f (i + 1)) = ((∑ i ∈ Finset.range l, (f (i + 1)).toReal : ℝ) : EReal) := fun l => by
    induction l with
    | zero => simp
    | succ l ih => rw [Finset.sum_range_succ, Finset.sum_range_succ, ih, EReal.coe_add, EReal.coe_toReal (hf _).1 (hf _).2]
  rw [s, s, ← EReal.coe_sub]
  conv_rhs => rw [e]
  exact (run_eq (fun i => (f i).toReal) k n).symm

/-- Two sequences that agree over a window have the same sum over it. -/
theorem run_congr (f g : ℕ → EReal) : ∀ k n l : ℕ, (∀ i < 2 ^ k, f (n - i) = g (l - i)) → run k f n = run k g l
  | 0, n, l, h => h 0 (by simp)
  | k + 1, n, l, h => by
    have e : 2 ^ (k + 1) = 2 ^ k + 2 ^ k := by ring
    unfold run
    rw [run_congr f g k n l fun i hi => h i (by omega), run_congr f g k (n - 2 ^ k) (l - 2 ^ k) fun i hi => by
      rw [Nat.sub_sub, Nat.sub_sub]
      exact h _ (by omega)]

/-- How many positions a window of width `w` holds at a position. -/
def cnt (w p : ℕ) : EReal := FloatOps.sitofp (F := Ideal) .f32 (IntOp.minsi (BitVec.ofNat 32 w) (IntOp.addi (BitVec.ofNat 32 p) 1#32))

/-- A channel's mean over its window, less the entry itself. -/
def centred (U : Fin 512 → ℕ → EReal) (p : ℕ) (c : Fin 512) : EReal :=
  Ideal.div (run (c / 128 + 1) (U c) (p + 16)) (cnt (2 ^ ((c : ℕ) / 128 + 1)) p) - U c (p + 16)

/-- A channel of the pool mixer: its group's centred channels mixed by the group's weight, and scaled. -/
def mixed (U : Fin 512 → ℕ → EReal) (p : ℕ) (w : Fin 4 → Fin 128 → Fin 128 → EReal) (s : Fin 512 → EReal) (c : Fin 512) : EReal :=
  (∑ k : Fin 128, centred U p ⟨(c : ℕ) / 128 * 128 + k, by omega⟩
    * w ⟨(c : ℕ) / 128, by omega⟩ k ⟨(c : ℕ) % 128, by omega⟩) * s c

/-- One group's mixed channel, from the group's centred channels. -/
theorem mixed_of (U : Fin 512 → ℕ → EReal) (p : ℕ) (w : Fin 4 → Fin 128 → Fin 128 → EReal) (s : Fin 512 → EReal) (g : Fin 4) (e : Fin 128) (c : Fin 512)
    (hc : (c : ℕ) = g * 128 + e) (D W : Fin 128 → EReal) (S : EReal)
    (hD : ∀ (k : Fin 128) (l : Fin 512), (l : ℕ) = g * 128 + k → D k = Ideal.div (run (g + 1) (U l) (p + 16)) (cnt (2 ^ ((g : ℕ) + 1)) p) - U l (p + 16))
    (hW : ∀ k, W k = w g k e) (hS : S = s c) : (∑ k : Fin 128, D k * W k) * S = mixed U p w s c := by
  have eg : (c : ℕ) / 128 = g := by omega
  have eg' : (⟨(c : ℕ) / 128, by omega⟩ : Fin 4) = g := Fin.ext eg
  have ee : (⟨(c : ℕ) % 128, by omega⟩ : Fin 128) = e := Fin.ext (by show (c : ℕ) % 128 = e; omega)
  unfold mixed
  rw [eg', ee, hS]
  refine congrArg (· * s c) (Finset.sum_congr rfl fun k _ => ?_)
  rw [hW, hD k ⟨(c : ℕ) / 128 * 128 + k, by omega⟩ (by show (c : ℕ) / 128 * 128 + (k : ℕ) = _; omega)]
  unfold centred
  have ek : ((⟨(c : ℕ) / 128 * 128 + k, by omega⟩ : Fin 512) : ℕ) / 128 = g := by show ((c : ℕ) / 128 * 128 + (k : ℕ)) / 128 = _; omega
  rw [ek]

/-- The logistic function. -/
def logistic (z : EReal) : EReal := Ideal.div 1 (1 + Ideal.exp (-z))

/-- The merged row: both branches' products, each under its gate. -/
def merged (a o : Fin 512 → EReal) (ga gb : Fin 1024 → EReal) (wp ws : Fin 512 → Fin 1024 → EReal) (j : Fin 1024) : EReal :=
  logistic (ga j) * (∑ c, a c * wp c j) + logistic (gb j) * (∑ c, o c * ws c j)

end Cert.Pool

end
-- ==== Proof.Merge.Pays.lean ====
/- The pool mixer's and the gated merge's stored values, read at an index of a block. -/
module

public import proofs.«01_k».proof.Proof.Gen.MergeIdeal.Value
public import proofs.«01_k».proof.Proof.Merge.Pool
public import Idealize.ShloMosaic.Lib.Pipeline.ValueKit

@[expose] public section

set_option maxRecDepth 16384

noncomputable section

namespace Cert.MergeIdeal.Val

open Cert.MergeIdeal Cert.MergeIdeal.Gen Idealize.ShloMosaic Idealize.ShloMosaic.TcCoe Idealize.SL.Sem

/-- A block's channel by position: the sixteen rows before it, then its own. -/
def Ub (h : FVec Ideal S1x16x512 .f32) (x : FVec Ideal S1024x512 .f32) (c : Fin 512) (n : ℕ) : EReal :=
  if p : n < 16 then h (ix3 0 ⟨n, p⟩ c) else if p : n < 1040 then x (ix2 ⟨n - 16, by omega⟩ c) else 0

/-- The sums of two at a position that has one before it. -/
theorem pay4_at (h : FVec Ideal S1x16x512 .f32) (x : FVec Ideal S1024x512 .f32) (q : Fin 1040) (c : Fin 512) (hq : 1 ≤ (q : ℕ)) :
    k0_pay4 (F := Ideal) h x (ix2 q c) = Pool.run 1 (Ub h x c) q := by
  have key : ∀ (n : ℕ) (hn : n < 1040), (if p : n < 16 then h (ix3 0 ⟨n, p⟩ c) else x (ix2 ⟨n - 16, by omega⟩ c)) = Ub h x c n := fun n hn => by
    unfold Ub
    by_cases p : n < 16
    · rw [dif_pos p, dif_pos p]
    · rw [dif_neg p, dif_neg p, dif_pos hn]
  unfold Pool.run Pool.run
  generalize Ub h x c = f at key
  pointwise [k0_pay4]
  rw [key q q.isLt, key _ (Nat.mod_lt _ (by omega)), show ((q : ℕ) + 1040 - 1) % 1040 = q - 2 ^ 0 by omega]

/-- The sums of four. -/
theorem pay8_at (v : FVec Ideal S1040x512 .f32) (q : Fin 1040) (k : Fin 384) (c : Fin 512) (f : ℕ → EReal) (hc : (c : ℕ) = 128 + k) (hq : 3 ≤ (q : ℕ))
    (hv : ∀ q : Fin 1040, 1 ≤ (q : ℕ) → v (ix2 q c) = Pool.run 1 f q) :
    k0_pay8 (F := Ideal) v (ix2 q k) = Pool.run 2 f q := by
  unfold Pool.run
  pointwise [k0_pay8]
  have ec : (⟨128 + (k : ℕ), by omega⟩ : Fin 512) = c := Fin.ext hc.symm
  have eq : (⟨((q : ℕ) + 1040 - 2) % 1040, by omega⟩ : Fin 1040) = ⟨q - 2 ^ 1, by omega⟩ := Fin.ext (by show ((q : ℕ) + 1040 - 2) % 1040 = q - 2 ^ 1; omega)
  rw [ec, eq, hv q (by omega), hv _ (by show 1 ≤ (q : ℕ) - 2 ^ 1; omega)]

/-- A row's position in its stream. -/
theorem pay3_at (i : grid0.Coords) (r : Fin 1024) (s : ℕ) (hs : s = (i 0).val % 8) (h : (i 0).val < 32) :
    k0_pay3 i (ix2 r 0) = BitVec.ofNat 32 (s * 1024 + r) := by
  pointwise [k0_pay3]
  generalize (i 0).val = n at hs h
  subst hs
  have e : ∀ a : ℕ, IntOp.addi (BitVec.ofNat 32 a) (BitVec.ofNat 32 r) = BitVec.ofNat 32 (a + r) := fun a => (BitVec.ofNat_add _ _).symm
  refine Eq.trans ?_ (e (n % 8 * 1024))
  refine congrArg (fun a => IntOp.addi a (BitVec.ofNat 32 r)) ?_
  interval_cases n <;> rfl

/-- The first group's centred channels. -/
theorem pay5_at (i : grid0.Coords) (h : FVec Ideal S1x16x512 .f32) (x : FVec Ideal S1024x512 .f32) (y : FVec Ideal S1024x128 .f32) (r : Fin 1024) (k : Fin 128)
    (p : ℕ) (hp : k0_pay3 i (ix2 r 0) = BitVec.ofNat 32 p) :
    k0_pay5 (F := Ideal) i h x y (ix2 r k) = Ideal.div (k0_pay4 (F := Ideal) h x (ix2 ⟨16 + r, by omega⟩ ⟨k, by omega⟩)) (Pool.cnt 2 p) - y (ix2 r k) := by
  unfold Pool.cnt
  rw [← hp]
  generalize hw : k0_pay3 i = w
  generalize hv : k0_pay4 (F := Ideal) h x = v
  unfold k0_pay5
  rw [hv, hw]
  pointwise

/-- The first group's mixed channels. -/
theorem pay6_at (d : FVec Ideal S1024x128 .bf16) (w : FVec Ideal S1x128x128 .bf16) (s : FVec Ideal S1x128 .f32) (r : Fin 1024) (e : Fin 128) :
    k0_pay6 (F := Ideal) d w s (ix2 r e) = (∑ k : Fin 128, d (ix2 r k) * w (ix3 0 k e)) * s (ix2 0 e) := by
  pointwise [k0_pay6, zero_add]

/-- The second group's. -/
theorem pay9_at (w16 : IVec S1024x1 32) (v : FVec Ideal S1040x512 .f32) (y : FVec Ideal S1024x128 .f32) (w : FVec Ideal S1x128x128 .bf16) (r : Fin 1024) (e : Fin 128)
    (p : ℕ) (hp : w16 (ix2 r 0) = BitVec.ofNat 32 p) :
    k0_pay9 (F := Ideal) w16 v y w (ix2 r e)
      = ∑ k : Fin 128, (Ideal.div (k0_pay8 (F := Ideal) v (ix2 ⟨16 + r, by omega⟩ ⟨k, by omega⟩)) (Pool.cnt 4 p) - y (ix2 r k)) * w (ix3 0 k e) := by
  unfold Pool.cnt
  rw [← hp]
  generalize hv : k0_pay8 (F := Ideal) v = v'
  unfold k0_pay9
  rw [hv]
  pointwise [zero_add]

/-- The second group's, scaled. -/
theorem pay10_at (v : FVec Ideal S1024x128 .f32) (s : FVec Ideal S1x128 .f32) (r : Fin 1024) (e : Fin 128) :
    k0_pay10 (F := Ideal) v s (ix2 r e) = v (ix2 r e) * s (ix2 0 e) := by
  pointwise [k0_pay10]

/-- The sums of eight. -/
theorem pay12_at (v : FVec Ideal S1040x384 .f32) (q : Fin 1040) (k : Fin 256) (l : Fin 384) (f : ℕ → EReal) (hl : (l : ℕ) = 128 + k) (hq : 7 ≤ (q : ℕ))
    (hv : ∀ q : Fin 1040, 3 ≤ (q : ℕ) → v (ix2 q l) = Pool.run 2 f q) :
    k0_pay12 (F := Ideal) v (ix2 q k) = Pool.run 3 f q := by
  unfold Pool.run
  pointwise [k0_pay12]
  have el : (⟨128 + (k : ℕ), by omega⟩ : Fin 384) = l := Fin.ext hl.symm
  have eq : (⟨((q : ℕ) + 1040 - 4) % 1040, by omega⟩ : Fin 1040) = ⟨q - 2 ^ 2, by omega⟩ := Fin.ext (by show ((q : ℕ) + 1040 - 4) % 1040 = q - 2 ^ 2; omega)
  rw [el, eq, hv q (by omega), hv _ (by show 3 ≤ (q : ℕ) - 2 ^ 2; omega)]

/-- The third group's mixed channels. -/
theorem pay13_at (w16 : IVec S1024x1 32) (v : FVec Ideal S1040x384 .f32) (y : FVec Ideal S1024x128 .f32) (w : FVec Ideal S1x128x128 .bf16) (s : FVec Ideal S1x128 .f32)
    (r : Fin 1024) (e : Fin 128) (p : ℕ) (hp : w16 (ix2 r 0) = BitVec.ofNat 32 p) :
    k0_pay13 (F := Ideal) w16 v y w s (ix2 r e)
      = (∑ k : Fin 128, (Ideal.div (k0_pay12 (F := Ideal) v (ix2 ⟨16 + r, by omega⟩ ⟨k, by omega⟩)) (Pool.cnt 8 p) - y (ix2 r k)) * w (ix3 0 k e)) * s (ix2 0 e) := by
  unfold Pool.cnt
  rw [← hp]
  generalize hv : k0_pay12 (F := Ideal) v = v'
  unfold k0_pay13
  rw [hv]
  pointwise [zero_add]

/-- The last group's columns of the sums of eight. -/
theorem pay14_at (v : FVec Ideal S1040x384 .f32) (q : Fin 1040) (k : Fin 128) :
    k0_pay14 (F := Ideal) v (ix2 q k) = k0_pay12 (F := Ideal) v (ix2 q ⟨128 + k, by omega⟩) := by
  unfold k0_pay14
  generalize k0_pay12 (F := Ideal) v = v'
  pointwise

/-- The last group's mixed channels. -/
theorem pay16_at (w16 : IVec S1024x1 32) (v : FVec Ideal S1040x128 .f32) (y : FVec Ideal S1024x128 .f32) (w : FVec Ideal S1x128x128 .bf16) (s : FVec Ideal S1x128 .f32)
    (r : Fin 1024) (e : Fin 128) (p : ℕ) (hp : w16 (ix2 r 0) = BitVec.ofNat 32 p) (f : Fin 128 → ℕ → EReal)
    (hv : ∀ (k : Fin 128) (q : Fin 1040), 7 ≤ (q : ℕ) → v (ix2 q k) = Pool.run 3 (f k) q) :
    k0_pay16 (F := Ideal) w16 v y w s (ix2 r e)
      = (∑ k : Fin 128, (Ideal.div (Pool.run 4 (f k) (r + 16)) (Pool.cnt 16 p) - y (ix2 r k)) * w (ix3 0 k e)) * s (ix2 0 e) := by
  have h4 : ∀ k : Fin 128, Pool.run 4 (f k) (r + 16) = v (ix2 ⟨16 + r, by omega⟩ k) + v (ix2 ⟨((16 + (r : ℕ)) + 1040 - 8) % 1040, by omega⟩ k) := fun k => by
    rw [hv _ _ (by show 7 ≤ 16 + (r : ℕ); omega), hv _ _ (by show 7 ≤ ((16 + (r : ℕ)) + 1040 - 8) % 1040; omega)]
    show Pool.run 3 (f k) (r + 16) + Pool.run 3 (f k) (r + 16 - 2 ^ 3) = Pool.run 3 (f k) (16 + r) + Pool.run 3 (f k) (((16 + (r : ℕ)) + 1040 - 8) % 1040)
    rw [show (r : ℕ) + 16 - 2 ^ 3 = ((16 + (r : ℕ)) + 1040 - 8) % 1040 by omega, Nat.add_comm 16]
  simp only [h4]
  unfold Pool.cnt
  rw [← hp]
  pointwise [k0_pay16, zero_add]

/-- A quarter of the second branch's rows, under their gate. -/
theorem pay7_at (v1 : FVec Ideal S512x1024 .bf16) (o : FVec Ideal S256x512 .bf16) (g : FVec Ideal S256x1024 .bf16) (r : Fin 256) (j : Fin 1024) :
    k0_pay7 (F := Ideal) v1 o g (ix2 r j) = Pool.logistic (g (ix2 r j)) * ∑ c : Fin 512, o (ix2 r c) * v1 (ix2 c j) := by
  unfold Pool.logistic
  rw [← Rows.half_tanh]
  pointwise [k0_pay7, zero_add]

/-- The second quarter. -/
theorem pay11_at (v1 : FVec Ideal S512x1024 .bf16) (o : FVec Ideal S256x512 .bf16) (g : FVec Ideal S256x1024 .bf16) (r : Fin 256) (j : Fin 1024) :
    k0_pay11 (F := Ideal) v1 o g (ix2 r j) = Pool.logistic (g (ix2 r j)) * ∑ c : Fin 512, o (ix2 r c) * v1 (ix2 c j) := by
  unfold Pool.logistic
  rw [← Rows.half_tanh]
  pointwise [k0_pay11, zero_add]

/-- The third quarter. -/
theorem pay15_at (v1 : FVec Ideal S512x1024 .bf16) (o : FVec Ideal S256x512 .bf16) (g : FVec Ideal S256x1024 .bf16) (r : Fin 256) (j : Fin 1024) :
    k0_pay15 (F := Ideal) v1 o g (ix2 r j) = Pool.logistic (g (ix2 r j)) * ∑ c : Fin 512, o (ix2 r c) * v1 (ix2 c j) := by
  unfold Pool.logistic
  rw [← Rows.half_tanh]
  pointwise [k0_pay15, zero_add]

/-- The last quarter's product. -/
theorem pay17_at (v1 : FVec Ideal S512x1024 .bf16) (o : FVec Ideal S256x512 .bf16) (r : Fin 256) (j : Fin 1024) :
    k0_pay17 (F := Ideal) v1 o (ix2 r j) = ∑ c : Fin 512, o (ix2 r c) * v1 (ix2 c j) := by
  pointwise [k0_pay17, zero_add]

/-- The stored row: the stream plus the merged row's product, over the four groups and the four quarters. -/
theorem pay1_at (a0 a1 a2 a3 : FVec Ideal S1024x128 .f32) (b0 b1 b2 b3 : FVec Ideal S256x1024 .f32) (g3 : FVec Ideal S256x1024 .bf16)
    (wp : FVec Ideal S512x1024 .bf16) (ga : FVec Ideal S1024x1024 .bf16) (x : FVec Ideal S1024x1024 .f32) (wo : FVec Ideal S1024x1024 .bf16)
    (r l : Fin 1024) (A : Fin 512 → EReal) (B : Fin 1024 → EReal)
    (h0 : ∀ (c : Fin 512) (k : Fin 128), (c : ℕ) = k → a0 (ix2 r k) = A c)
    (h1 : ∀ (c : Fin 512) (k : Fin 128), (c : ℕ) = 128 + k → a1 (ix2 r k) = A c)
    (h2 : ∀ (c : Fin 512) (k : Fin 128), (c : ℕ) = 256 + k → a2 (ix2 r k) = A c)
    (h3 : ∀ (c : Fin 512) (k : Fin 128), (c : ℕ) = 384 + k → a3 (ix2 r k) = A c)
    (q0 : ∀ (s : Fin 256) (j : Fin 1024), (r : ℕ) = s → b0 (ix2 s j) = B j)
    (q1 : ∀ (s : Fin 256) (j : Fin 1024), (r : ℕ) = 256 + s → b1 (ix2 s j) = B j)
    (q2 : ∀ (s : Fin 256) (j : Fin 1024), (r : ℕ) = 512 + s → b2 (ix2 s j) = B j)
    (q3 : ∀ (s : Fin 256) (j : Fin 1024), (r : ℕ) = 768 + s → Pool.logistic (g3 (ix2 s j)) * b3 (ix2 s j) = B j) :
    k0_pay1 (F := Ideal) a0 b0 a1 b1 a2 b2 a3 b3 g3 wp ga x wo (ix2 r l)
      = x (ix2 r l) + ∑ j : Fin 1024, (Pool.logistic (ga (ix2 r j)) * (∑ c : Fin 512, A c * wp (ix2 c j)) + B j) * wo (ix2 j l) := by
  unfold Pool.logistic at *
  simp only [← Rows.half_tanh] at *
  pointwise [k0_pay1, zero_add]
  refine congrArg (x (ix2 r l) + ·) (Finset.sum_congr rfl fun j _ => congrArg (· * wo (ix2 j l)) ?_)
  refine congrArg₂ (· + ·) (congrArg (_ * ·) (Finset.sum_congr rfl fun c _ => congrArg (· * wp (ix2 c j)) ?_)) ?_
  · by_cases u : (c : ℕ) < 128
    · rw [dif_pos u]
      exact h0 c _ rfl
    rw [dif_neg u]
    by_cases v : (c : ℕ) - 128 < 128
    · rw [dif_pos v]
      exact h1 c ⟨c - 128, v⟩ (by show (c : ℕ) = 128 + (c - 128); omega)
    rw [dif_neg v]
    by_cases w : (c : ℕ) - 128 - 128 < 128
    · rw [dif_pos w]
      exact h2 c ⟨c - 128 - 128, w⟩ (by show (c : ℕ) = 256 + (c - 128 - 128); omega)
    rw [dif_neg w]
    exact h3 c ⟨c - 128 - 128 - 128, by omega⟩ (by show (c : ℕ) = 384 + (c - 128 - 128 - 128); omega)
  · by_cases u : (r : ℕ) < 256
    · rw [dif_pos u]
      exact q0 _ j rfl
    rw [dif_neg u]
    by_cases v : (r : ℕ) - 256 < 256
    · rw [dif_pos v]
      exact q1 ⟨r - 256, v⟩ j (by show (r : ℕ) = 256 + (r - 256); omega)
    rw [dif_neg v]
    by_cases w : (r : ℕ) - 256 - 256 < 256
    · rw [dif_pos w]
      exact q2 ⟨r - 256 - 256, w⟩ j (by show (r : ℕ) = 512 + (r - 256 - 256); omega)
    rw [dif_neg w]
    exact q3 ⟨r - 256 - 256 - 256, by omega⟩ j (by show (r : ℕ) = 768 + (r - 256 - 256 - 256); omega)

end Cert.MergeIdeal.Val

end
-- ==== Proof.Merge.Block.lean ====
/- What one grid point of the pool mixer and the gated merge stores, read at an index. -/
module

public import proofs.«01_k».proof.Proof.Merge.Pays

@[expose] public section

set_option maxRecDepth 16384

noncomputable section

namespace Cert.MergeIdeal.Val

open Cert.MergeIdeal Cert.MergeIdeal.Gen Idealize.ShloMosaic Idealize.ShloMosaic.TcCoe Idealize.SL.Sem

/-- The second branch's weight is loaded whole. -/
theorem pay2_at (w : FVec Ideal S512x1024 .bf16) (c : Fin 512) (j : Fin 1024) : k0_pay2 (F := Ideal) w (ix2 c j) = w (ix2 c j) := by
  pointwise [k0_pay2]

/-- The first group's loads and the first quarter's. -/
theorem u0_at (x : Vec Ideal S1024x512 .f32) (r : Fin 1024) (k : Fin 128) (l : Fin 512) (h : (l : ℕ) = 0 + k) : View.ld x r0_3 (ix2 r k) = x (ix2 r l) := by
  rw [show l = ⟨k, by omega⟩ from Fin.ext (h.trans (Nat.zero_add _))]
  pointwise
theorem w0_at (x : Vec Ideal S4x128x128 .bf16) (k e : Fin 128) : View.ld x r0_4 (ix3 0 k e) = x (ix3 0 k e) := by
  pointwise
theorem s0_at (x : Vec Ideal S1x512 .f32) (k : Fin 128) (l : Fin 512) (h : (l : ℕ) = 0 + k) : View.ld x r0_5 (ix2 0 k) = x (ix2 0 l) := by
  rw [show l = ⟨k, by omega⟩ from Fin.ext (h.trans (Nat.zero_add _))]
  pointwise
theorem o0_at (x : Vec Ideal S1024x512 .bf16) (s : Fin 256) (r : Fin 1024) (h : (r : ℕ) = 0 + s) (c : Fin 512) : View.ld x r0_6 (ix2 s c) = x (ix2 r c) := by
  rw [show r = ⟨s, by omega⟩ from Fin.ext (h.trans (Nat.zero_add _))]
  pointwise
theorem g0_at (x : Vec Ideal S1024x2048 .bf16) (s : Fin 256) (r : Fin 1024) (h : (r : ℕ) = 0 + s) (j : Fin 1024) :
    View.ld x r0_7 (ix2 s j) = x (ix2 r ⟨1024 + j, by omega⟩) := by
  rw [show r = ⟨s, by omega⟩ from Fin.ext (h.trans (Nat.zero_add _))]
  pointwise

/-- The second group's loads and the second quarter's. -/
theorem u1_at (x : Vec Ideal S1024x512 .f32) (r : Fin 1024) (k : Fin 128) (l : Fin 512) (h : (l : ℕ) = 128 + k) : View.ld x r0_8 (ix2 r k) = x (ix2 r l) := by
  rw [show l = ⟨128 + k, by omega⟩ from Fin.ext h]
  pointwise
theorem w1_at (x : Vec Ideal S4x128x128 .bf16) (k e : Fin 128) : View.ld x r0_9 (ix3 0 k e) = x (ix3 1 k e) := by
  pointwise
theorem s1_at (x : Vec Ideal S1x512 .f32) (k : Fin 128) (l : Fin 512) (h : (l : ℕ) = 128 + k) : View.ld x r0_10 (ix2 0 k) = x (ix2 0 l) := by
  rw [show l = ⟨128 + k, by omega⟩ from Fin.ext h]
  pointwise
theorem o1_at (x : Vec Ideal S1024x512 .bf16) (s : Fin 256) (r : Fin 1024) (h : (r : ℕ) = 256 + s) (c : Fin 512) : View.ld x r0_11 (ix2 s c) = x (ix2 r c) := by
  rw [show r = ⟨256 + s, by omega⟩ from Fin.ext h]
  pointwise
theorem g1_at (x : Vec Ideal S1024x2048 .bf16) (s : Fin 256) (r : Fin 1024) (h : (r : ℕ) = 256 + s) (j : Fin 1024) :
    View.ld x r0_12 (ix2 s j) = x (ix2 r ⟨1024 + j, by omega⟩) := by
  rw [show r = ⟨256 + s, by omega⟩ from Fin.ext h]
  pointwise

/-- The third group's loads and the third quarter's. -/
theorem u2_at (x : Vec Ideal S1024x512 .f32) (r : Fin 1024) (k : Fin 128) (l : Fin 512) (h : (l : ℕ) = 256 + k) : View.ld x r0_13 (ix2 r k) = x (ix2 r l) := by
  rw [show l = ⟨256 + k, by omega⟩ from Fin.ext h]
  pointwise
theorem w2_at (x : Vec Ideal S4x128x128 .bf16) (k e : Fin 128) : View.ld x r0_14 (ix3 0 k e) = x (ix3 2 k e) := by
  pointwise
theorem s2_at (x : Vec Ideal S1x512 .f32) (k : Fin 128) (l : Fin 512) (h : (l : ℕ) = 256 + k) : View.ld x r0_15 (ix2 0 k) = x (ix2 0 l) := by
  rw [show l = ⟨256 + k, by omega⟩ from Fin.ext h]
  pointwise
theorem o2_at (x : Vec Ideal S1024x512 .bf16) (s : Fin 256) (r : Fin 1024) (h : (r : ℕ) = 512 + s) (c : Fin 512) : View.ld x r0_16 (ix2 s c) = x (ix2 r c) := by
  rw [show r = ⟨512 + s, by omega⟩ from Fin.ext h]
  pointwise
theorem g2_at (x : Vec Ideal S1024x2048 .bf16) (s : Fin 256) (r : Fin 1024) (h : (r : ℕ) = 512 + s) (j : Fin 1024) :
    View.ld x r0_17 (ix2 s j) = x (ix2 r ⟨1024 + j, by omega⟩) := by
  rw [show r = ⟨512 + s, by omega⟩ from Fin.ext h]
  pointwise

/-- The last group's loads and the last quarter's. -/
theorem u3_at (x : Vec Ideal S1024x512 .f32) (r : Fin 1024) (k : Fin 128) (l : Fin 512) (h : (l : ℕ) = 384 + k) : View.ld x r0_18 (ix2 r k) = x (ix2 r l) := by
  rw [show l = ⟨384 + k, by omega⟩ from Fin.ext h]
  pointwise
theorem w3_at (x : Vec Ideal S4x128x128 .bf16) (k e : Fin 128) : View.ld x r0_19 (ix3 0 k e) = x (ix3 3 k e) := by
  pointwise
theorem s3_at (x : Vec Ideal S1x512 .f32) (k : Fin 128) (l : Fin 512) (h : (l : ℕ) = 384 + k) : View.ld x r0_20 (ix2 0 k) = x (ix2 0 l) := by
  rw [show l = ⟨384 + k, by omega⟩ from Fin.ext h]
  pointwise
theorem o3_at (x : Vec Ideal S1024x512 .bf16) (s : Fin 256) (r : Fin 1024) (h : (r : ℕ) = 768 + s) (c : Fin 512) : View.ld x r0_21 (ix2 s c) = x (ix2 r c) := by
  rw [show r = ⟨768 + s, by omega⟩ from Fin.ext h]
  pointwise
theorem g3_at (x : Vec Ideal S1024x2048 .bf16) (s : Fin 256) (r : Fin 1024) (h : (r : ℕ) = 768 + s) (j : Fin 1024) :
    View.ld x r0_22 (ix2 s j) = x (ix2 r ⟨1024 + j, by omega⟩) := by
  rw [show r = ⟨768 + s, by omega⟩ from Fin.ext h]
  pointwise

/-- The first branch's gate's load. -/
theorem ga_at (x : Vec Ideal S1024x2048 .bf16) (r j : Fin 1024) : View.ld x r0_23 (ix2 r j) = x (ix2 r ⟨j, by omega⟩) := by
  pointwise

/-- The body's stored block at an index, over whole input blocks: the stream plus the merged row's product. -/
theorem block_at (i : grid0.Coords) (x0 : FVec Ideal S1024x1024 .f32) (x1 : FVec Ideal S1024x512 .f32) (x2 : FVec Ideal S1x16x512 .f32) (x3 : FVec Ideal S1024x512 .bf16)
    (x4 : FVec Ideal S1024x2048 .bf16) (x5 : FVec Ideal S4x128x128 .bf16) (x6 : FVec Ideal S1x512 .f32) (x7 x8 : FVec Ideal S512x1024 .bf16)
    (x9 : FVec Ideal S1024x1024 .bf16) (r l : Fin 1024) (U : Fin 512 → ℕ → EReal) (s p : ℕ) (hs : s = (i 0).val % 8) (hi : (i 0).val < 32) (hp : p = s * 1024 + r)
    (hU : ∀ c n, n < 1040 → Ub x2 x1 c n = U c (s * 1024 + n)) :
    out0_10 (F := Ideal) i x0 x1 x2 x3 x4 x5 x6 x7 x8 x9 (ix2 r l) = x0 (ix2 r l)
      + ∑ j : Fin 1024, Pool.merged (Pool.mixed U p (fun g k e => x5 (ix3 g k e)) (fun c => x6 (ix2 0 c))) (fun c => x3 (ix2 r c))
          (fun j => x4 (ix2 r ⟨j, by omega⟩)) (fun j => x4 (ix2 r ⟨1024 + j, by omega⟩)) (fun c j => x7 (ix2 c j)) (fun c j => x8 (ix2 c j)) j * x9 (ix2 j l) := by
  have h3 : k0_pay3 i (ix2 r 0) = BitVec.ofNat 32 p := by rw [hp, pay3_at i r s hs hi]
  have hrun : ∀ (k : ℕ) (q : ℕ) (c : Fin 512), q = 16 + r → k ≤ 4 → Pool.run k (Ub x2 x1 c) q = Pool.run k (U c) (p + 16) := fun k q c hq hk => by
    refine Pool.run_congr _ _ k q (p + 16) fun n hn => ?_
    have : 2 ^ k ≤ 2 ^ 4 := Nat.pow_le_pow_right (by omega) hk
    rw [hU c _ (by omega)]
    exact congrArg (U c) (by omega)
  have hown : ∀ c : Fin 512, x1 (ix2 r c) = U c (p + 16) := fun c => by
    refine Eq.trans ?_ (hrun 0 (16 + r) c rfl (by omega))
    unfold Pool.run Ub
    rw [dif_neg (by omega), dif_pos (by omega)]
    exact congrArg (fun r => x1 (ix2 r c)) (Fin.ext (by show (r : ℕ) = 16 + r - 16; omega))
  have h8 : ∀ (q : Fin 1040) (k : Fin 384) (n : Fin 512), 3 ≤ (q : ℕ) → (n : ℕ) = 128 + k →
      k0_pay8 (F := Ideal) (k0_pay4 x2 x1) (ix2 q k) = Pool.run 2 (Ub x2 x1 n) q := fun q k n hq hn =>
    pay8_at _ q k n _ hn hq fun q hq => pay4_at x2 x1 q n hq
  have h12 : ∀ (q : Fin 1040) (k : Fin 256) (n : Fin 512), 7 ≤ (q : ℕ) → (n : ℕ) = 256 + k →
      k0_pay12 (F := Ideal) (k0_pay8 (k0_pay4 x2 x1)) (ix2 q k) = Pool.run 3 (Ub x2 x1 n) q := fun q k n hq hn =>
    pay12_at _ q k ⟨128 + k, by omega⟩ _ rfl hq fun q hq => h8 q ⟨128 + k, by omega⟩ n hq (by show (n : ℕ) = 128 + (128 + k); omega)
  unfold_out out0_10
  frame_out
  refine (pay1_at _ _ _ _ _ _ _ _ _ _ _ _ _ r l (Pool.mixed U p (fun g k e => x5 (ix3 g k e)) (fun c => x6 (ix2 0 c)))
    (fun j => Pool.logistic (x4 (ix2 r ⟨1024 + j, by omega⟩)) * ∑ c, x3 (ix2 r c) * x8 (ix2 c j)) ?_ ?_ ?_ ?_ ?_ ?_ ?_ ?_).trans ?_
  · intro c e hc
    rw [pay6_at]
    refine Pool.mixed_of U p _ _ 0 e c (by show (c : ℕ) = 0 * 128 + e; omega) _ _ _ (fun k n hn => ?_) (fun k => w0_at x5 k e) (s0_at x6 e c (by omega))
    have hk : (n : ℕ) = 0 + k := by rw [hn]; show 0 * 128 + (k : ℕ) = _; omega
    rw [pay5_at i x2 x1 _ r k p h3, u0_at x1 r k n hk, hown, show (⟨k, by omega⟩ : Fin 512) = n from Fin.ext (by show (k : ℕ) = n; omega), pay4_at _ _ _ _ (by show 1 ≤ 16 + (r : ℕ); omega), hrun 1 _ n rfl (by omega)]
    rfl
  · intro c e hc
    rw [pay10_at, pay9_at _ _ _ _ _ _ p h3]
    refine Pool.mixed_of U p _ _ 1 e c (by show (c : ℕ) = 1 * 128 + e; omega) _ _ _ (fun k n hn => ?_) (fun k => w1_at x5 k e) (s1_at x6 e c (by omega))
    have hk : (n : ℕ) = 128 + k := by rw [hn]; show 1 * 128 + (k : ℕ) = _; omega
    rw [u1_at x1 r k n hk, hown, h8 _ _ n (by show 3 ≤ 16 + (r : ℕ); omega) hk, hrun 2 _ n rfl (by omega)]
    rfl
  · intro c e hc
    rw [pay13_at _ _ _ _ _ _ _ p h3]
    refine Pool.mixed_of U p _ _ 2 e c (by show (c : ℕ) = 2 * 128 + e; omega) _ _ _ (fun k n hn => ?_) (fun k => w2_at x5 k e) (s2_at x6 e c (by omega))
    have hk : (n : ℕ) = 256 + k := by rw [hn]; show 2 * 128 + (k : ℕ) = _; omega
    rw [u2_at x1 r k n hk, hown, h12 _ _ n (by show 7 ≤ 16 + (r : ℕ); omega) (by show (n : ℕ) = 256 + k; omega), hrun 3 _ n rfl (by omega)]
    rfl
  · intro c e hc
    rw [pay16_at _ _ _ _ _ _ _ p h3 (fun k => Ub x2 x1 ⟨384 + k, by omega⟩) (fun k q hq => by
      rw [pay14_at]
      exact h12 _ _ _ hq (by show 384 + (k : ℕ) = 256 + (128 + k); omega))]
    refine Pool.mixed_of U p _ _ 3 e c (by show (c : ℕ) = 3 * 128 + e; omega) _ _ _ (fun k n hn => ?_) (fun k => w3_at x5 k e) (s3_at x6 e c (by omega))
    have hk : (n : ℕ) = 384 + k := by rw [hn]; show 3 * 128 + (k : ℕ) = _; omega
    rw [u3_at x1 r k n hk, hown, show (⟨384 + k, by omega⟩ : Fin 512) = n from Fin.ext hk.symm, hrun 4 _ n (by omega) (by omega)]
    rfl
  · intro s j h
    rw [pay7_at, g0_at x4 s r (by omega)]
    simp only [o0_at x3 s r (by omega), pay2_at]
  · intro s j h
    rw [pay11_at, g1_at x4 s r h]
    simp only [o1_at x3 s r h, pay2_at]
  · intro s j h
    rw [pay15_at, g2_at x4 s r h]
    simp only [o2_at x3 s r h, pay2_at]
  · intro s j h
    rw [pay17_at, g3_at x4 s r h]
    simp only [o3_at x3 s r h, pay2_at]
  · exact congrArg (x0 (ix2 r l) + ·) (Finset.sum_congr rfl fun j _ => congrArg (· * x9 (ix2 j l))
      (congrArg (· + _) (congrArg (fun z => Pool.logistic z * _) (ga_at x4 r j))))

end Cert.MergeIdeal.Val

end
-- ==== Proof.Merge.Ref.lean ====
/- The reference of the pool mixer and the gated merge, read at an index. -/
module

public import proofs.«01_k».proof.Proof.Gen.MergeRefIdeal.Run
public import proofs.«01_k».proof.Proof.Merge.Pool
public import Idealize.ShloMosaic.Lib.Pipeline.ValueKit

@[expose] public section

set_option maxRecDepth 16384

noncomputable section

namespace Cert.MergeRefIdeal.Val

open Cert.MergeRefIdeal Cert.MergeRefIdeal.Gen Idealize.ShloMosaic Idealize.ShloMosaic.TcCoe Idealize.SL.Sem

/-- The pooled columns after fifteen zero rows. -/
def PAD (u : FVec Ideal S4x8192x512 .f32) : FVec Ideal S4x8207x512 .f32 :=
  concatenate S4x8207x512 1 [⟨S4x15x512, (broadcastInDim S4x15x512 ![] bcast_S_S4x15x512 (constant S_ .f32 0x00000000#32))⟩, ⟨S4x8192x512, u⟩] concatenates_S4x15x512_S4x8192x512_S4x8207x512_d1

/-- The running totals down the rows. -/
def RW (x : FVec Ideal S4x8207x512 .f32) : FVec Ideal S4x8207x512 .f32 :=
  Host.reduceWindowAdd ![1, 8207, 1] ![1, 1, 1] ![0, 8206, 0] ![0, 0, 0] x (broadcastInDim S_ ![] bcast_S_S_ (constant S_ .f32 0x00000000#32)) reduceWindows_S4x8207x512_S4x8207x512_w1s1p0_0_w8207s1p8206_0_w1s1p0_0 h_S_

/-- The running totals after a zero row. -/
def CS (x : FVec Ideal S4x8207x512 .f32) : FVec Ideal S4x8208x512 .f32 :=
  concatenate S4x8208x512 1 [⟨S4x1x512, (broadcastInDim S4x1x512 ![] bcast_S_S4x1x512 (constant S_ .f32 0x00000000#32))⟩, ⟨S4x8207x512, x⟩] concatenates_S4x1x512_S4x8207x512_S4x8208x512_d1

/-- The counts of a window's positions, along a group's columns. -/
def CNT (w : BitVec 32) : FVec Ideal S4x8192x128 .f32 :=
  broadcastInDim S4x8192x128 ![0, 1, 2] bcast_S1x8192x1_S4x8192x128_0_1_2 (broadcastInDim S1x8192x1 ![1] bcast_S8192_S1x8192x1_1 (sitofp .f32 (minsi (broadcastInDim S8192 ![] bcast_S_S8192 (constantI S_ 32 w)) (addi (iotaInDim S8192 32 0) (broadcastInDim S8192 ![] bcast_S_S8192 (constantI S_ 32 1#32))))))

/-- The means over windows of 2, the channels of group 0. -/
def M0 (cs : FVec Ideal S4x8208x512 .f32) : FVec Ideal S4x8192x128 .f32 :=
  Host.divf (subf (extractStridedSlice S4x8192x128 ![0, 0, 0] (extractStridedSlice S4x8192x512 ![0, 16, 0] cs slices_S4x8208x512_S4x8192x512_0_16_0) slices_S4x8192x512_S4x8192x128_0_0_0) (extractStridedSlice S4x8192x128 ![0, 14, 0] cs slices_S4x8208x512_S4x8192x128_0_14_0)) (CNT 2#32)

/-- The means over windows of 4, the channels of group 1. -/
def M1 (cs : FVec Ideal S4x8208x512 .f32) : FVec Ideal S4x8192x128 .f32 :=
  Host.divf (subf (extractStridedSlice S4x8192x128 ![0, 0, 128] (extractStridedSlice S4x8192x512 ![0, 16, 0] cs slices_S4x8208x512_S4x8192x512_0_16_0) slices_S4x8192x512_S4x8192x128_0_0_128) (extractStridedSlice S4x8192x128 ![0, 12, 128] cs slices_S4x8208x512_S4x8192x128_0_12_128)) (CNT 4#32)

/-- The means over windows of 8, the channels of group 2. -/
def M2 (cs : FVec Ideal S4x8208x512 .f32) : FVec Ideal S4x8192x128 .f32 :=
  Host.divf (subf (extractStridedSlice S4x8192x128 ![0, 0, 256] (extractStridedSlice S4x8192x512 ![0, 16, 0] cs slices_S4x8208x512_S4x8192x512_0_16_0) slices_S4x8192x512_S4x8192x128_0_0_256) (extractStridedSlice S4x8192x128 ![0, 8, 256] cs slices_S4x8208x512_S4x8192x128_0_8_256)) (CNT 8#32)

/-- The means over windows of 16, the channels of group 3. -/
def M3 (cs : FVec Ideal S4x8208x512 .f32) : FVec Ideal S4x8192x128 .f32 :=
  Host.divf (subf (extractStridedSlice S4x8192x128 ![0, 0, 384] (extractStridedSlice S4x8192x512 ![0, 16, 0] cs slices_S4x8208x512_S4x8192x512_0_16_0) slices_S4x8192x512_S4x8192x128_0_0_384) (extractStridedSlice S4x8192x128 ![0, 0, 384] cs slices_S4x8208x512_S4x8192x128_0_0_384)) (CNT 16#32)

/-- The means side by side, less the columns themselves. -/
def DD (m0 m1 m2 m3 : FVec Ideal S4x8192x128 .f32) (u : FVec Ideal S4x8192x512 .f32) : FVec Ideal S4x8192x512 .f32 :=
  subf (concatenate S4x8192x512 2 [⟨S4x8192x128, m0⟩, ⟨S4x8192x128, m1⟩, ⟨S4x8192x128, m2⟩, ⟨S4x8192x128, m3⟩] concatenates_S4x8192x128_S4x8192x128_S4x8192x128_S4x8192x128_S4x8192x512_d2) u

/-- The mixed channels, scaled. -/
def MIX (d : FVec Ideal S4x8192x512 .f32) (a5 : FVec Ideal S1x4x128x128 .f32) (a6 : FVec Ideal S1x512 .f32) : FVec Ideal S4x8192x512 .f32 :=
  mulf (shapeCast _ (transpose S4x8192x4x128 [2, 3, 0, 1] (Host.dotGeneral dot_S4x128x128_S4x8192x4x128_S4x128x4x8192_1_3_2_01_0_2 none (shapeCast _ a5 shapeCasts_S1x4x128x128_S4x128x128) (shapeCast _ d shapeCasts_S4x8192x512_S4x8192x4x128)) transposes_S4x128x4x8192_S4x8192x4x128_2_3_0_1) shapeCasts_S4x8192x4x128_S4x8192x512) (broadcastInDim S4x8192x512 ![0, 1, 2] bcast_S1x1x512_S4x8192x512_0_1_2 (broadcastInDim S1x1x512 ![2] bcast_S512_S1x1x512_2 (shapeCast _ a6 shapeCasts_S1x512_S512)))

/-- A gate over a branch's product. -/
def SIDE (z : FVec Ideal S4x8192x1024 .f32) (x : FVec Ideal S4x8192x512 .f32) (w : FVec Ideal S1x512x1024 .f32) : FVec Ideal S4x8192x1024 .f32 :=
  mulf (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf z)))) (Host.dotGeneral dot_S4x8192x512_S512x1024_S4x8192x1024_2_0_01_1_n_n none x (shapeCast _ w shapeCasts_S1x512x1024_S512x1024))

/-- The stream plus the merged row's product with the last weight, as rows. -/
def FIN (a0 mg : FVec Ideal S4x8192x1024 .f32) (a9 : FVec Ideal S1x1024x1024 .f32) : FVec Ideal S32768x1024 .f32 :=
  shapeCast _ (addf a0 (Host.dotGeneral dot_S4x8192x1024_S1024x1024_S4x8192x1024_2_0_01_1_n_n none mg (shapeCast _ a9 shapeCasts_S1x1024x1024_S1024x1024))) shapeCasts_S4x8192x1024_S32768x1024

/-- The centred channels. -/
def CEN (u : FVec Ideal S4x8192x512 .f32) : FVec Ideal S4x8192x512 .f32 :=
  DD (M0 (CS (RW (PAD u)))) (M1 (CS (RW (PAD u)))) (M2 (CS (RW (PAD u)))) (M3 (CS (RW (PAD u)))) u

/-- The reference's result over its ten arguments. -/
def REF (a0 : FVec Ideal S4x8192x1024 .f32) (a1 a2 : FVec Ideal S4x8192x512 .f32) (a3 a4 : FVec Ideal S4x8192x1024 .f32)
    (a5 : FVec Ideal S1x4x128x128 .f32) (a6 : FVec Ideal S1x512 .f32) (a7 a8 : FVec Ideal S1x512x1024 .f32)
    (a9 : FVec Ideal S1x1024x1024 .f32) : FVec Ideal S32768x1024 .f32 :=
  FIN a0 (addf (SIDE a3 (MIX (CEN a1) a5 a6) a7) (SIDE a4 a2 a8)) a9

/-- The generated run's result is `REF` of the arguments. -/
theorem res_eq (m : (ℓ : Loc nD τ sig) → Buf (Elt Ideal) ℓ) (c : Dev nD) :
    Value.res_main_v84 m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := rfl

/-- The entry at a position of a channel counted from sixteen rows before the first; zero before the first row. -/
def Uat (u : FVec Ideal S4x8192x512 .f32) (b : Fin 4) (c : Fin 512) (n : ℕ) : EReal :=
  if h : 16 ≤ n ∧ n < 8208 then u (ix3 b ⟨n - 16, by omega⟩ c) else 0

/-- The padded columns at an index. -/
theorem PAD_at (u : FVec Ideal S4x8192x512 .f32) (b : Fin 4) (n : Fin 8207) (c : Fin 512) :
    PAD u (ix3 b n c) = Uat u b c (n + 1) := by
  unfold Uat
  pointwise [PAD]
  by_cases h : (n : ℕ) < 15
  · rw [dif_pos h, dif_neg (by omega)]
  · rw [dif_neg h, dif_pos (by omega)]
    exact congrArg u (funext fun a => by fin_cases a <;> first | rfl | exact Fin.ext (by simp))

/-- A left fold that adds is the sum. -/
theorem foldl_sum {ι : Type} (g : ι → EReal) : ∀ (l : List ι) (v : EReal), l.foldl (fun r n => r + g n) v = v + (l.map g).sum
  | [], v => by simp
  | a :: l, v => by rw [List.foldl_cons, foldl_sum g l, List.map_cons, List.sum_cons, add_assoc]

/-- An index of a window along the rows is its row. -/
def rowEquiv : (⟨3, ![1, 8207, 1]⟩ : Shape).Idx ≃ Fin 8207 where
  toFun j := j 1
  invFun n := ix3 0 n 0
  left_inv j := by
    refine funext fun a => ?_
    fin_cases a
    · exact Fin.ext (Nat.lt_one_iff.mp (j 0).isLt).symm
    · rfl
    · exact Fin.ext (Nat.lt_one_iff.mp (j 2).isLt).symm
  right_inv n := rfl

/-- A window's index by its position. -/
abbrev winIdx (i : Fin (⟨3, ![1, 8207, 1]⟩ : Shape).numel) : (⟨3, ![1, 8207, 1]⟩ : Shape).Idx := (Shape.rowMajor _).symm i

/-- A windowed sum from zero is the windowed fold of addition. -/
theorem windowed {s t u : Shape} (w st lo hi : Fin s.rank → Nat) (x : FVec Ideal s .f32) (z : FVec Ideal u .f32)
    (h : s.ReduceWindows w st lo hi t) (hu : 0 < u.numel) (hz : z (Shape.Idx.first hu) = (0 : EReal)) (j : t.Idx) :
    Host.reduceWindowAdd w st lo hi x z h hu j
      = Host.reduceWindow (fun a b : EReal => a + b) w st lo hi x (fun _ : u.Idx => (0 : EReal)) h hu j := by
  have e : Host.reduceWindowAdd w st lo hi x z h hu j = Host.reduceWindow (fun a b : EReal => a + b) w st lo hi x (fun _ : u.Idx => z (Shape.Idx.first hu)) h hu j := rfl
  rw [e, hz]

/-- The windowed sum at a row: the rows up to it. -/
theorem RW_at (x : FVec Ideal S4x8207x512 .f32) (b : Fin 4) (t : Fin 8207) (c : Fin 512) :
    RW x (ix3 b t c) = ∑ n : Fin 8207, if hn : 8206 ≤ (t : ℕ) + n then x (ix3 b ⟨t + n - 8206, by omega⟩ c) else 0 := by
  have hv : (broadcastInDim S_ ![] bcast_S_S_ (constant (F := Ideal) S_ .f32 0x00000000#32)) (Shape.Idx.first h_S_) = (0 : EReal) := by
    pointwise
  unfold RW
  rw [windowed _ _ _ _ _ _ _ _ hv]
  unfold Host.reduceWindow
  dsimp only
  rw [foldl_sum, zero_add, ← Fin.sum_univ_def]
  refine Fintype.sum_equiv ((Shape.rowMajor ⟨3, ![1, 8207, 1]⟩).symm.trans rowEquiv) _ _ fun i => ?_
  rw [Equiv.trans_apply]
  have e4 : ((rowEquiv (winIdx i) : Fin 8207) : ℕ) = (winIdx i) 1 := rfl
  have j0 : ((winIdx i) 0 : ℕ) = 0 := Nat.lt_one_iff.mp ((winIdx i) 0).isLt
  have j1 : ((winIdx i) 1 : ℕ) < 8207 := ((winIdx i) 1).isLt
  have j2 : ((winIdx i) 2 : ℕ) = 0 := Nat.lt_one_iff.mp ((winIdx i) 2).isLt
  have e0 : (ix3 b t c 0 : ℕ) = b := rfl
  have e1 : (ix3 b t c 1 : ℕ) = t := rfl
  have e2 : (ix3 b t c 2 : ℕ) = c := rfl
  by_cases hk : 8206 ≤ (t : ℕ) + (rowEquiv (winIdx i) : Fin 8207)
  · rw [dif_pos hk, dif_pos]
    · refine congrArg x (funext fun a => ?_)
      fin_cases a
      · exact Fin.ext (by show (b : ℕ) * 1 + ((winIdx i) 0 : ℕ) - 0 = b; omega)
      · exact Fin.ext (by show (t : ℕ) * 1 + ((winIdx i) 1 : ℕ) - 8206 = t + (rowEquiv (winIdx i) : Fin 8207) - 8206; omega)
      · exact Fin.ext (by show (c : ℕ) * 1 + ((winIdx i) 2 : ℕ) - 0 = c; omega)
    · intro a
      fin_cases a
      · exact ⟨Nat.zero_le _, by show (b : ℕ) * 1 + ((winIdx i) 0 : ℕ) - 0 < 4; omega⟩
      · exact ⟨by show 8206 ≤ (t : ℕ) * 1 + ((winIdx i) 1 : ℕ); omega, by show (t : ℕ) * 1 + ((winIdx i) 1 : ℕ) - 8206 < 8207; omega⟩
      · exact ⟨Nat.zero_le _, by show (c : ℕ) * 1 + ((winIdx i) 2 : ℕ) - 0 < 512; omega⟩
  · rw [dif_neg hk, dif_neg]
    intro ha
    have h3 : 8206 ≤ (t : ℕ) * 1 + ((winIdx i) 1 : ℕ) := (ha 1).1
    omega

/-- The running total at a row, over entries given by position. -/
theorem RW_sum (x : FVec Ideal S4x8207x512 .f32) (b : Fin 4) (t : Fin 8207) (c : Fin 512) (f : ℕ → EReal)
    (hf : ∀ n : Fin 8207, x (ix3 b n c) = f n) : RW x (ix3 b t c) = ∑ i ∈ Finset.range (t + 1), f i := by
  rw [RW_at]
  simp only [hf, dite_eq_ite]
  rw [Fin.sum_univ_eq_sum_range (fun n : ℕ => if 8206 ≤ (t : ℕ) + n then f (t + n - 8206) else 0) 8207, ← Finset.sum_filter]
  refine Finset.sum_nbij' (fun n => t + n - 8206) (fun i => i + 8206 - t) ?_ ?_ ?_ ?_ ?_
  all_goals (intro a ha; simp only [Finset.mem_filter, Finset.mem_range] at *; try omega)

/-- The running totals at an index. -/
theorem CS_at (u : FVec Ideal S4x8192x512 .f32) (b : Fin 4) (n : Fin 8208) (c : Fin 512) :
    CS (RW (PAD u)) (ix3 b n c) = ∑ i ∈ Finset.range n, Uat u b c (i + 1) := by
  have hr : ∀ t : Fin 8207, RW (PAD u) (ix3 b t c) = ∑ i ∈ Finset.range (t + 1), Uat u b c (i + 1) := fun t =>
    RW_sum _ b t c (fun i => Uat u b c (i + 1)) fun n => PAD_at u b n c
  generalize RW (PAD u) = x at hr
  pointwise [CS]
  by_cases h : (n : ℕ) < 1
  · rw [dif_pos h, Nat.lt_one_iff.mp h, Finset.sum_range_zero]
  · rw [dif_neg h, hr]
    exact congrArg (fun l => ∑ i ∈ Finset.range l, Uat u b c (i + 1)) (by show (n : ℕ) - 1 + 1 = n; omega)

/-- Group 0's means at an index. -/
theorem M0_at (u : FVec Ideal S4x8192x512 .f32) (b : Fin 4) (p : Fin 8192) (k : Fin 128) (c : Fin 512) (hc : (c : ℕ) = 0 + k)
    (hf : ∀ i, Uat u b c i ≠ ⊤ ∧ Uat u b c i ≠ ⊥) :
    M0 (CS (RW (PAD u))) (ix3 b p k) = Ideal.div (Pool.run 1 (Uat u b c) (p + 16)) (Pool.cnt 2 p) := by
  have e := Pool.run_eq_sub (Uat u b c) hf 1 (p + 14)
  have h0 := CS_at u b ⟨p + 16, by omega⟩ c
  have h1 := CS_at u b ⟨p + 14, by omega⟩ c
  generalize CS (RW (PAD u)) = x at h0 h1
  rw [show (p : ℕ) + 14 + 2 ^ 1 = p + 16 by omega] at e
  rw [← e, ← h0, ← h1]
  have hC : FloatOps.sitofp (F := Ideal) .f32 (IntOp.minsi (2#32) (IntOp.addi (BitVec.ofNat 32 p) 1#32)) = Pool.cnt 2 p := rfl
  generalize Pool.cnt 2 p = C at hC
  pointwise [M0, CNT]
  have e0 : (⟨16 + (p : ℕ), by omega⟩ : Fin 8208) = ⟨p + 16, by omega⟩ := Fin.ext (Nat.add_comm _ _)
  have ek : (⟨k, by omega⟩ : Fin 512) = c := Fin.ext (by show (k : ℕ) = c; omega)
  rw [hC, ek, e0]
  rw [show (⟨14 + (p : ℕ), by omega⟩ : Fin 8208) = ⟨p + 14, by omega⟩ from Fin.ext (Nat.add_comm _ _)]

/-- Group 1's means at an index. -/
theorem M1_at (u : FVec Ideal S4x8192x512 .f32) (b : Fin 4) (p : Fin 8192) (k : Fin 128) (c : Fin 512) (hc : (c : ℕ) = 128 + k)
    (hf : ∀ i, Uat u b c i ≠ ⊤ ∧ Uat u b c i ≠ ⊥) :
    M1 (CS (RW (PAD u))) (ix3 b p k) = Ideal.div (Pool.run 2 (Uat u b c) (p + 16)) (Pool.cnt 4 p) := by
  have e := Pool.run_eq_sub (Uat u b c) hf 2 (p + 12)
  have h0 := CS_at u b ⟨p + 16, by omega⟩ c
  have h1 := CS_at u b ⟨p + 12, by omega⟩ c
  generalize CS (RW (PAD u)) = x at h0 h1
  rw [show (p : ℕ) + 12 + 2 ^ 2 = p + 16 by omega] at e
  rw [← e, ← h0, ← h1]
  have hC : FloatOps.sitofp (F := Ideal) .f32 (IntOp.minsi (4#32) (IntOp.addi (BitVec.ofNat 32 p) 1#32)) = Pool.cnt 4 p := rfl
  generalize Pool.cnt 4 p = C at hC
  pointwise [M1, CNT]
  have e0 : (⟨16 + (p : ℕ), by omega⟩ : Fin 8208) = ⟨p + 16, by omega⟩ := Fin.ext (Nat.add_comm _ _)
  have ek : (⟨128 + k, by omega⟩ : Fin 512) = c := Fin.ext (by show 128 + (k : ℕ) = c; omega)
  rw [hC, ek, e0]
  rw [show (⟨12 + (p : ℕ), by omega⟩ : Fin 8208) = ⟨p + 12, by omega⟩ from Fin.ext (Nat.add_comm _ _)]

/-- Group 2's means at an index. -/
theorem M2_at (u : FVec Ideal S4x8192x512 .f32) (b : Fin 4) (p : Fin 8192) (k : Fin 128) (c : Fin 512) (hc : (c : ℕ) = 256 + k)
    (hf : ∀ i, Uat u b c i ≠ ⊤ ∧ Uat u b c i ≠ ⊥) :
    M2 (CS (RW (PAD u))) (ix3 b p k) = Ideal.div (Pool.run 3 (Uat u b c) (p + 16)) (Pool.cnt 8 p) := by
  have e := Pool.run_eq_sub (Uat u b c) hf 3 (p + 8)
  have h0 := CS_at u b ⟨p + 16, by omega⟩ c
  have h1 := CS_at u b ⟨p + 8, by omega⟩ c
  generalize CS (RW (PAD u)) = x at h0 h1
  rw [show (p : ℕ) + 8 + 2 ^ 3 = p + 16 by omega] at e
  rw [← e, ← h0, ← h1]
  have hC : FloatOps.sitofp (F := Ideal) .f32 (IntOp.minsi (8#32) (IntOp.addi (BitVec.ofNat 32 p) 1#32)) = Pool.cnt 8 p := rfl
  generalize Pool.cnt 8 p = C at hC
  pointwise [M2, CNT]
  have e0 : (⟨16 + (p : ℕ), by omega⟩ : Fin 8208) = ⟨p + 16, by omega⟩ := Fin.ext (Nat.add_comm _ _)
  have ek : (⟨256 + k, by omega⟩ : Fin 512) = c := Fin.ext (by show 256 + (k : ℕ) = c; omega)
  rw [hC, ek, e0]
  rw [show (⟨8 + (p : ℕ), by omega⟩ : Fin 8208) = ⟨p + 8, by omega⟩ from Fin.ext (Nat.add_comm _ _)]

/-- Group 3's means at an index. -/
theorem M3_at (u : FVec Ideal S4x8192x512 .f32) (b : Fin 4) (p : Fin 8192) (k : Fin 128) (c : Fin 512) (hc : (c : ℕ) = 384 + k)
    (hf : ∀ i, Uat u b c i ≠ ⊤ ∧ Uat u b c i ≠ ⊥) :
    M3 (CS (RW (PAD u))) (ix3 b p k) = Ideal.div (Pool.run 4 (Uat u b c) (p + 16)) (Pool.cnt 16 p) := by
  have e := Pool.run_eq_sub (Uat u b c) hf 4 (p + 0)
  have h0 := CS_at u b ⟨p + 16, by omega⟩ c
  have h1 := CS_at u b ⟨p + 0, by omega⟩ c
  generalize CS (RW (PAD u)) = x at h0 h1
  rw [show (p : ℕ) + 0 + 2 ^ 4 = p + 16 by omega] at e
  rw [← e, ← h0, ← h1]
  have hC : FloatOps.sitofp (F := Ideal) .f32 (IntOp.minsi (16#32) (IntOp.addi (BitVec.ofNat 32 p) 1#32)) = Pool.cnt 16 p := rfl
  generalize Pool.cnt 16 p = C at hC
  pointwise [M3, CNT]
  have e0 : (⟨16 + (p : ℕ), by omega⟩ : Fin 8208) = ⟨p + 16, by omega⟩ := Fin.ext (Nat.add_comm _ _)
  have ek : (⟨384 + k, by omega⟩ : Fin 512) = c := Fin.ext (by show 384 + (k : ℕ) = c; omega)
  rw [hC, ek, e0]

/-- The centred channels at an index. -/
theorem CEN_at (u : FVec Ideal S4x8192x512 .f32) (b : Fin 4) (p : Fin 8192) (c : Fin 512)
    (hf : ∀ c i, Uat u b c i ≠ ⊤ ∧ Uat u b c i ≠ ⊥) :
    CEN u (ix3 b p c) = Pool.centred (Uat u b) p c := by
  have hu : Uat u b c (p + 16) = u (ix3 b p c) := by
    unfold Uat
    rw [dif_pos (by omega)]
    exact congrArg (fun q => u (ix3 b q c)) (Fin.ext (Nat.add_sub_cancel _ _))
  unfold Pool.centred
  rw [hu]
  have h0 : ∀ k : Fin 128, (c : ℕ) = 0 + k → _ := fun k h => M0_at u b p k c h (hf c)
  have h1 : ∀ k : Fin 128, (c : ℕ) = 128 + k → _ := fun k h => M1_at u b p k c h (hf c)
  have h2 : ∀ k : Fin 128, (c : ℕ) = 256 + k → _ := fun k h => M2_at u b p k c h (hf c)
  have h3 : ∀ k : Fin 128, (c : ℕ) = 384 + k → _ := fun k h => M3_at u b p k c h (hf c)
  unfold CEN
  generalize M0 (CS (RW (PAD u))) = m0 at *
  generalize M1 (CS (RW (PAD u))) = m1 at *
  generalize M2 (CS (RW (PAD u))) = m2 at *
  generalize M3 (CS (RW (PAD u))) = m3 at *
  generalize Uat u b c = f at *
  pointwise [DD]
  refine congrArg (fun y : EReal => y - u (ix3 b p c)) ?_
  by_cases q0 : (c : ℕ) < 128
  · rw [dif_pos q0, show (c : ℕ) / 128 = 0 by omega]
    exact h0 _ (by show (c : ℕ) = 0 + c; omega)
  rw [dif_neg q0]
  by_cases q1 : (c : ℕ) - 128 < 128
  · rw [dif_pos q1, show (c : ℕ) / 128 = 1 by omega]
    exact h1 _ (by show (c : ℕ) = 128 + (c - 128); omega)
  rw [dif_neg q1]
  by_cases q2 : (c : ℕ) - 128 - 128 < 128
  · rw [dif_pos q2, show (c : ℕ) / 128 = 2 by omega]
    exact h2 _ (by show (c : ℕ) = 256 + (c - 128 - 128); omega)
  rw [dif_neg q2, show (c : ℕ) / 128 = 3 by omega]
  exact h3 _ (by show (c : ℕ) = 384 + (c - 128 - 128 - 128); omega)

/-- The mixed channels at an index. -/
theorem MIX_at (d : FVec Ideal S4x8192x512 .f32) (a5 : FVec Ideal S1x4x128x128 .f32) (a6 : FVec Ideal S1x512 .f32)
    (b : Fin 4) (p : Fin 8192) (c : Fin 512) :
    MIX d a5 a6 (ix3 b p c) = (∑ k : Fin 128, d (ix3 b p ⟨(c : ℕ) / 128 * 128 + k, by omega⟩)
      * a5 (ix4 0 ⟨(c : ℕ) / 128, by omega⟩ k ⟨(c : ℕ) % 128, by omega⟩)) * a6 (ix2 0 c) := by
  pointwise [MIX]
  exact congrArg (fun y : EReal => y * a6 (ix2 0 c)) (Finset.sum_congr rfl fun k _ => mul_comm _ _)

/-- A gated branch at an index. -/
theorem SIDE_at (z : FVec Ideal S4x8192x1024 .f32) (x : FVec Ideal S4x8192x512 .f32) (w : FVec Ideal S1x512x1024 .f32)
    (b : Fin 4) (p : Fin 8192) (j : Fin 1024) :
    SIDE z x w (ix3 b p j) = Pool.logistic (z (ix3 b p j)) * ∑ c : Fin 512, x (ix3 b p c) * w (ix3 0 c j) := by
  unfold Pool.logistic
  pointwise [SIDE]

/-- The stream's last step at a row. -/
theorem FIN_at (a0 mg : FVec Ideal S4x8192x1024 .f32) (a9 : FVec Ideal S1x1024x1024 .f32) (r : Fin 32768) (f : Fin 1024)
    (b : Fin 4) (p : Fin 8192) (h : (r : ℕ) = b * 8192 + p) :
    FIN a0 mg a9 (ix2 r f) = a0 (ix3 b p f) + ∑ j : Fin 1024, mg (ix3 b p j) * a9 (ix3 0 j f) := by
  have hb : (⟨(r : ℕ) / 8192, by omega⟩ : Fin 4) = b := Fin.ext (by show (r : ℕ) / 8192 = b; omega)
  have hp : (⟨(r : ℕ) % 8192, by omega⟩ : Fin 8192) = p := Fin.ext (by show (r : ℕ) % 8192 = p; omega)
  pointwise [FIN]
  rw [hb, hp]

/-- The reference's result at a row and a column. -/
theorem REF_at (a0 : FVec Ideal S4x8192x1024 .f32) (a1 a2 : FVec Ideal S4x8192x512 .f32) (a3 a4 : FVec Ideal S4x8192x1024 .f32)
    (a5 : FVec Ideal S1x4x128x128 .f32) (a6 : FVec Ideal S1x512 .f32) (a7 a8 : FVec Ideal S1x512x1024 .f32)
    (a9 : FVec Ideal S1x1024x1024 .f32) (r : Fin 32768) (f : Fin 1024) (b : Fin 4) (p : Fin 8192) (h : (r : ℕ) = b * 8192 + p)
    (hf : ∀ c i, Uat a1 b c i ≠ ⊤ ∧ Uat a1 b c i ≠ ⊥) :
    REF a0 a1 a2 a3 a4 a5 a6 a7 a8 a9 (ix2 r f) = a0 (ix3 b p f)
      + ∑ j : Fin 1024, Pool.merged (Pool.mixed (Uat a1 b) p (fun g k e => a5 (ix4 0 g k e)) (fun c => a6 (ix2 0 c)))
          (fun c => a2 (ix3 b p c)) (fun j => a3 (ix3 b p j)) (fun j => a4 (ix3 b p j)) (fun c j => a7 (ix3 0 c j))
          (fun c j => a8 (ix3 0 c j)) j * a9 (ix3 0 j f) := by
  unfold REF
  rw [FIN_at _ _ _ r f b p h]
  refine congrArg (fun y : EReal => a0 (ix3 b p f) + y) (Finset.sum_congr rfl fun j _ => congrArg (fun y : EReal => y * a9 (ix3 0 j f)) ?_)
  have hm : ∀ c, MIX (CEN a1) a5 a6 (ix3 b p c) = Pool.mixed (Uat a1 b) p (fun g k e => a5 (ix4 0 g k e)) (fun c => a6 (ix2 0 c)) c := fun c => by
    rw [MIX_at]
    unfold Pool.mixed
    simp only [CEN_at _ _ _ _ hf]
  show SIDE a3 (MIX (CEN a1) a5 a6) a7 (ix3 b p j) + SIDE a4 a2 a8 (ix3 b p j) = _
  rw [SIDE_at, SIDE_at]
  simp only [hm]
  rfl

end Cert.MergeRefIdeal.Val

end
-- ==== Proof.Merge.Value.lean ====
/- The result array of the pool mixer and the gated merge is the reference's, over finite pooled columns. -/
module

public import proofs.«01_k».proof.Proof.Merge.Block
public import proofs.«01_k».proof.Proof.Merge.Ref
public import proofs.«01_k».proof.Pre_pooled_finite

@[expose] public section

set_option maxRecDepth 16384

noncomputable section

namespace Cert.MergeIdeal.Val

open Cert.MergeIdeal Cert.MergeIdeal.Gen Idealize.ShloMosaic Idealize.ShloMosaic.TcCoe Idealize.SL.Sem
open Idealize.ShloMosaic.Pipeline (Dat)
open Cert.MergeRefIdeal.Val (REF REF_at Uat)

/-- The rows before every block: the last sixteen of the block before it, zeros before a stream's first. -/
def HAL (u : FVec Ideal S4x8192x512 .f32) : FVec Ideal S32x16x512 .f32 :=
  shapeCast _ (concatenate S4x8x16x512 1 [⟨S4x1x16x512, broadcastInDim S4x1x16x512 ![0, 2, 3] bcast_S4x16x512_S4x1x16x512_0_2_3
      (pad S4x16x512 ![0, 1, 0] ![0, 0, 0] ![0, 0, 0] (broadcastInDim S4x15x512 ![] bcast_S_S4x15x512 (constant (F := Ideal) S_ .f32 0x00000000#32))
        (sitofp .f32 (constantI S_ 32 0#32)) pads_S4x15x512_S4x16x512_000_100_000 h_S_)⟩,
    ⟨S4x7x16x512, extractStridedSlice S4x7x16x512 ![0, 0, 1008, 0] (shapeCast S4x8x1024x512 u shapeCasts_S4x8192x512_S4x8x1024x512) slices_S4x8x1024x512_S4x7x16x512_0_0_1008_0⟩]
    concatenates_S4x1x16x512_S4x7x16x512_S4x8x16x512_d1) shapeCasts_S4x8x16x512_S32x16x512

/-- Both gates side by side. -/
def GATE (a b : FVec Ideal S4x8192x1024 .f32) : FVec Ideal S32768x2048 .bf16 :=
  truncf .bf16 (shapeCast S32768x2048 (concatenate S4x8192x2048 2 [⟨S4x8192x1024, a⟩, ⟨S4x8192x1024, b⟩] concatenates_S4x8192x1024_S4x8192x1024_S4x8192x2048_d2) shapeCasts_S4x8192x2048_S32768x2048) bitsLt_bf16_f32

theorem HAL_at (u : FVec Ideal S4x8192x512 .f32) (t : Fin 32) (n : Fin 16) (c : Fin 512) :
    HAL u (ix3 t n c) = Uat u ⟨(t : ℕ) / 8, by omega⟩ c ((t : ℕ) % 8 * 1024 + n) := by
  unfold Uat
  pointwise [HAL]
  by_cases h : (t : ℕ) % 8 < 1
  · rw [dif_pos h]
    refine Eq.trans ?_ (dif_neg (by omega)).symm
    have z : (FloatOps.sitofp .f32 (0#32) : Ideal .f32) = 0 :=
      (congrArg (fun z : ℤ => ((z : ℝ) : EReal)) (by decide : (0#32).toInt = 0)).trans (by simp)
    split
    · rfl
    · exact z
  · rw [dif_neg h, dif_pos (by omega)]
    exact congrArg (fun p => u (ix3 _ p c)) (Fin.ext (by show ((t : ℕ) % 8 - 1) * 1024 + (1008 + (n : ℕ)) = (t : ℕ) % 8 * 1024 + n - 16; omega))

theorem GATE_a (a b : FVec Ideal S4x8192x1024 .f32) (r : Fin 32768) (j : Fin 1024) :
    GATE a b (ix2 r ⟨j, by omega⟩) = a (ix3 (⟨(r : ℕ) / 8192, by omega⟩ : Fin 4) (⟨(r : ℕ) % 8192, by omega⟩ : Fin 8192) j) := by
  pointwise [GATE]
theorem GATE_b (a b : FVec Ideal S4x8192x1024 .f32) (r : Fin 32768) (j : Fin 1024) :
    GATE a b (ix2 r ⟨1024 + j, by omega⟩) = b (ix3 (⟨(r : ℕ) / 8192, by omega⟩ : Fin 4) (⟨(r : ℕ) % 8192, by omega⟩ : Fin 8192) j) := by
  pointwise [GATE]

/-- Streams and rows read as one axis. -/
theorem rows1024 (x : FVec Ideal S4x8192x1024 .f32) (R : Fin 32768) (k : Fin 1024) :
    shapeCast S32768x1024 x shapeCasts_S4x8192x1024_S32768x1024 (ix2 R k)
      = x (ix3 (⟨(R : ℕ) / 8192, by omega⟩ : Fin 4) (⟨(R : ℕ) % 8192, by omega⟩ : Fin 8192) k) := by
  pointwise
theorem rows512 (x : FVec Ideal S4x8192x512 .f32) (R : Fin 32768) (k : Fin 512) :
    shapeCast S32768x512 x shapeCasts_S4x8192x512_S32768x512 (ix2 R k)
      = x (ix3 (⟨(R : ℕ) / 8192, by omega⟩ : Fin 4) (⟨(R : ℕ) % 8192, by omega⟩ : Fin 8192) k) := by
  pointwise

/-- The one layer's weights without their leading axis. -/
theorem groups (x : FVec Ideal S1x4x128x128 .f32) (g : Fin 4) (k e : Fin 128) :
    shapeCast S4x128x128 x shapeCasts_S1x4x128x128_S4x128x128 (ix3 g k e) = x (ix4 0 g k e) := by
  pointwise
theorem mat512 (x : FVec Ideal S1x512x1024 .f32) (k : Fin 512) (j : Fin 1024) :
    shapeCast S512x1024 x shapeCasts_S1x512x1024_S512x1024 (ix2 k j) = x (ix3 0 k j) := by
  pointwise
theorem mat1024 (x : FVec Ideal S1x1024x1024 .f32) (k j : Fin 1024) :
    shapeCast S1024x1024 x shapeCasts_S1x1024x1024_S1024x1024 (ix2 k j) = x (ix3 0 k j) := by
  pointwise

variable (m : (ℓ : Loc nD τ sig) → Buf (Elt Ideal) ℓ)

theorem V_v6 (c : Dev nD) : V m c main_v6 = HAL (m ((c : Thread nD τ).loc main_arg1)) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results; try rfl
theorem V_v9 (c : Dev nD) : V m c main_v9 = GATE (m ((c : Thread nD τ).loc main_arg3)) (m ((c : Thread nD τ).loc main_arg4)) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results; try rfl
theorem V_v10 (c : Dev nD) : V m c main_v10 = (shapeCast S32768x1024 (m ((c : Thread nD τ).loc main_arg0) : FVec Ideal S4x8192x1024 .f32) shapeCasts_S4x8192x1024_S32768x1024 : FVec Ideal S32768x1024 .f32) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results; try rfl
theorem V_v11 (c : Dev nD) : V m c main_v11 = (shapeCast S32768x512 (m ((c : Thread nD τ).loc main_arg1) : FVec Ideal S4x8192x512 .f32) shapeCasts_S4x8192x512_S32768x512 : FVec Ideal S32768x512 .f32) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results; try rfl
theorem V_v13 (c : Dev nD) : V m c main_v13 = (truncf .bf16 (shapeCast S32768x512 (m ((c : Thread nD τ).loc main_arg2) : FVec Ideal S4x8192x512 .f32) shapeCasts_S4x8192x512_S32768x512) bitsLt_bf16_f32 : FVec Ideal S32768x512 .bf16) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results; try rfl
theorem V_v15 (c : Dev nD) : V m c main_v15 = (truncf .bf16 (shapeCast S4x128x128 (m ((c : Thread nD τ).loc main_arg5) : FVec Ideal S1x4x128x128 .f32) shapeCasts_S1x4x128x128_S4x128x128) bitsLt_bf16_f32 : FVec Ideal S4x128x128 .bf16) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results; try rfl
theorem V_v17 (c : Dev nD) : V m c main_v17 = (truncf .bf16 (shapeCast S512x1024 (m ((c : Thread nD τ).loc main_arg7) : FVec Ideal S1x512x1024 .f32) shapeCasts_S1x512x1024_S512x1024) bitsLt_bf16_f32 : FVec Ideal S512x1024 .bf16) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results; try rfl
theorem V_v19 (c : Dev nD) : V m c main_v19 = (truncf .bf16 (shapeCast S512x1024 (m ((c : Thread nD τ).loc main_arg8) : FVec Ideal S1x512x1024 .f32) shapeCasts_S1x512x1024_S512x1024) bitsLt_bf16_f32 : FVec Ideal S512x1024 .bf16) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results; try rfl
theorem V_v21 (c : Dev nD) : V m c main_v21 = (truncf .bf16 (shapeCast S1024x1024 (m ((c : Thread nD τ).loc main_arg9) : FVec Ideal S1x1024x1024 .f32) shapeCasts_S1x1024x1024_S1024x1024) bitsLt_bf16_f32 : FVec Ideal S1024x1024 .bf16) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results; try rfl

/-- Every window's block index at every grid point. -/
theorem idx_val : ∀ t : Fin cfg0.N, win0_0.index t = ![t.val, 0]
    ∧ win0_1.index t = ![t.val, 0]
    ∧ win0_2.index t = ![t.val, 0, 0]
    ∧ win0_3.index t = ![t.val, 0]
    ∧ win0_4.index t = ![t.val, 0]
    ∧ win0_5.index t = ![0, 0, 0]
    ∧ win0_6.index t = ![0, 0]
    ∧ win0_7.index t = ![0, 0]
    ∧ win0_8.index t = ![0, 0]
    ∧ win0_9.index t = ![0, 0]
    ∧ win0_10.index t = ![t.val, 0] ∧ t.val < 32 ∧ (grid0.coords t 0).val = t.val :=
  (by decide +kernel : ∀ t : Fin grid0.N, _)

section
variable (c : Dev nD) (t : Fin cfg0.N) (r : Fin 1024) (R : Fin 32768) (h : (R : ℕ) = t.val * 1024 + r)
include h

theorem b0 (k : Fin 1024) : iblk m c 0 t (ix2 r k) = m ((c : Thread nD τ).loc main_arg0)
    (ix3 (⟨(R : ℕ) / 8192, by omega⟩ : Fin 4) (⟨(R : ℕ) % 8192, by omega⟩ : Fin 8192) k) := by
  have e : iblk m c 0 t (ix2 r k) = V m c main_v10 (ix2 R k) := by
    blk_simp [iblk, idx_val t]
    blk_ext [idx_val t]
  exact e.trans ((congrFun (V_v10 m c) _).trans (rows1024 _ R k))
theorem b1 (k : Fin 512) : iblk m c 1 t (ix2 r k) = m ((c : Thread nD τ).loc main_arg1)
    (ix3 (⟨(R : ℕ) / 8192, by omega⟩ : Fin 4) (⟨(R : ℕ) % 8192, by omega⟩ : Fin 8192) k) := by
  have e : iblk m c 1 t (ix2 r k) = V m c main_v11 (ix2 R k) := by
    blk_simp [iblk, idx_val t]
    blk_ext [idx_val t]
  exact e.trans ((congrFun (V_v11 m c) _).trans (rows512 _ R k))
theorem b3 (k : Fin 512) : iblk m c 3 t (ix2 r k) = m ((c : Thread nD τ).loc main_arg2)
    (ix3 (⟨(R : ℕ) / 8192, by omega⟩ : Fin 4) (⟨(R : ℕ) % 8192, by omega⟩ : Fin 8192) k) := by
  have e : iblk m c 3 t (ix2 r k) = V m c main_v13 (ix2 R k) := by
    blk_simp [iblk, idx_val t]
    blk_ext [idx_val t]
  exact e.trans ((congrFun (V_v13 m c) _).trans (rows512 _ R k))
theorem b4 (k : Fin 2048) : iblk m c 4 t (ix2 r k) = GATE (m ((c : Thread nD τ).loc main_arg3)) (m ((c : Thread nD τ).loc main_arg4)) (ix2 R k) := by
  rw [← V_v9]
  blk_simp [iblk, idx_val t]
  blk_ext [idx_val t]
end

section
variable (c : Dev nD) (t : Fin cfg0.N)

theorem b2 (T : Fin 32) (h : (T : ℕ) = t.val) (n : Fin 16) (k : Fin 512) : iblk m c 2 t (ix3 0 n k) = HAL (m ((c : Thread nD τ).loc main_arg1)) (ix3 T n k) := by
  rw [← V_v6]
  blk_simp [iblk, idx_val t]
  blk_ext [idx_val t]
theorem b5 (g : Fin 4) (k e : Fin 128) : iblk m c 5 t (ix3 g k e) = m ((c : Thread nD τ).loc main_arg5) (ix4 0 g k e) := by
  have e : iblk m c 5 t (ix3 g k e) = V m c main_v15 (ix3 g k e) := by
    blk_simp [iblk, idx_val t]
    blk_ext [idx_val t]
  exact e.trans ((congrFun (V_v15 m c) _).trans (groups _ _ _ _))
theorem b6 (k : Fin 512) : iblk m c 6 t (ix2 0 k) = m ((c : Thread nD τ).loc main_arg6) (ix2 0 k) := by
  rw [← V_main_arg6 m c]
  blk_simp [iblk, idx_val t]
  blk_ext [idx_val t]
theorem b7 (k : Fin 512) (j : Fin 1024) : iblk m c 7 t (ix2 k j) = m ((c : Thread nD τ).loc main_arg7) (ix3 0 k j) := by
  have e : iblk m c 7 t (ix2 k j) = V m c main_v17 (ix2 k j) := by
    blk_simp [iblk, idx_val t]
    blk_ext [idx_val t]
  exact e.trans ((congrFun (V_v17 m c) _).trans (mat512 _ k j))
theorem b8 (k : Fin 512) (j : Fin 1024) : iblk m c 8 t (ix2 k j) = m ((c : Thread nD τ).loc main_arg8) (ix3 0 k j) := by
  have e : iblk m c 8 t (ix2 k j) = V m c main_v19 (ix2 k j) := by
    blk_simp [iblk, idx_val t]
    blk_ext [idx_val t]
  exact e.trans ((congrFun (V_v19 m c) _).trans (mat512 _ k j))
theorem b9 (k j : Fin 1024) : iblk m c 9 t (ix2 k j) = m ((c : Thread nD τ).loc main_arg9) (ix3 0 k j) := by
  have e : iblk m c 9 t (ix2 k j) = V m c main_v21 (ix2 k j) := by
    blk_simp [iblk, idx_val t]
    blk_ext [idx_val t]
  exact e.trans ((congrFun (V_v21 m c) _).trans (mat1024 _ k j))
end

/-- A block's channel by position is its stream's. -/
theorem own (c : Dev nD) (t : Fin cfg0.N) (b : Fin 4) (hb : (b : ℕ) = t.val / 8) (k : Fin 512) (n : ℕ) (hn : n < 1040) :
    Ub (iblk m c 2 t) (iblk m c 1 t) k n = Uat (m ((c : Thread nD τ).loc main_arg1)) b k (t.val % 8 * 1024 + n) := by
  have ht := (idx_val t).2.2.2.2.2.2.2.2.2.2.2.1
  have eb : (⟨t.val / 8, by omega⟩ : Fin 4) = b := Fin.ext hb.symm
  unfold Ub
  by_cases p : n < 16
  · rw [dif_pos p]
    refine (b2 m c t ⟨t.val, ht⟩ rfl ⟨n, p⟩ k).trans ((HAL_at _ _ _ _).trans ?_)
    exact congrArg (fun b => Uat (m ((c : Thread nD τ).loc main_arg1)) b k (t.val % 8 * 1024 + n)) eb
  · rw [dif_neg p, dif_pos hn]
    refine (b1 m c t ⟨n - 16, by omega⟩ ⟨t.val * 1024 + (n - 16), by omega⟩ rfl k).trans ?_
    unfold Uat
    rw [dif_pos (by omega)]
    have e0 : (⟨(t.val * 1024 + (n - 16)) / 8192, by omega⟩ : Fin 4) = b := Fin.ext (by show (t.val * 1024 + (n - 16)) / 8192 = b; omega)
    have e1 : (⟨(t.val * 1024 + (n - 16)) % 8192, by omega⟩ : Fin 8192) = ⟨t.val % 8 * 1024 + n - 16, by omega⟩ :=
      Fin.ext (by show (t.val * 1024 + (n - 16)) % 8192 = t.val % 8 * 1024 + n - 16; omega)
    exact congrArg₂ (fun x y => m ((c : Thread nD τ).loc main_arg1) (ix3 x y k)) e0 e1

/-- What a grid point stores is the reference's result at the array index its block index sits at. -/
theorem point (c : Dev nD) (hf : ∀ b k n, Uat (m ((c : Thread nD τ).loc main_arg1)) b k n ≠ ⊤ ∧ Uat (m ((c : Thread nD τ).loc main_arg1)) b k n ≠ ⊥)
    (t : Fin cfg0.N) (r j : Fin 1024) (i : S32768x1024.Idx) (h0 : (i 0 : ℕ) = t.val * 1024 + r) (h1 : (i 1 : ℕ) = j) :
    out0_10 (F := Ideal) (grid0.coords t) (iblk m c 0 t) (iblk m c 1 t) (iblk m c 2 t) (iblk m c 3 t) (iblk m c 4 t) (iblk m c 5 t) (iblk m c 6 t) (iblk m c 7 t)
        (iblk m c 8 t) (iblk m c 9 t) (ix2 r j)
      = REF (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) i := by
  have ht := (idx_val t).2.2.2.2.2.2.2.2.2.2.2.1
  have hg := (idx_val t).2.2.2.2.2.2.2.2.2.2.2.2
  idx_vars i
  have e1 : i1 = j := Fin.ext h1
  replace h0 : (i0 : ℕ) = t.val * 1024 + r := h0
  have e0 : (i0 : ℕ) = (⟨(i0 : ℕ) / 8192, by omega⟩ : Fin 4) * 8192 + (⟨(i0 : ℕ) % 8192, by omega⟩ : Fin 8192) := by
    simp; omega
  rw [block_at (grid0.coords t) _ _ _ _ _ _ _ _ _ _ r j (Uat (m ((c : Thread nD τ).loc main_arg1)) ⟨(i0 : ℕ) / 8192, by omega⟩) (t.val % 8) ((i0 : ℕ) % 8192)
    (by rw [hg]) (by omega) (by omega) (fun k n hn => own m c t _ (by show (i0 : ℕ) / 8192 = _; omega) k n hn)]
  refine Eq.trans ?_ (REF_at _ _ _ _ _ _ _ _ _ _ i0 i1 _ _ e0 (hf _)).symm
  rw [e1]
  simp only [b0 m c t r i0 h0, b3 m c t r i0 h0, b4 m c t r i0 h0, GATE_a, GATE_b, b5 m c t, b6 m c t, b7 m c t, b8 m c t, b9 m c t]

/-- The result array after the run is the reference's result over the arguments. -/
theorem final (c : Dev nD) (hf : ∀ b k n, Uat (m ((c : Thread nD τ).loc main_arg1)) b k n ≠ ⊤ ∧ Uat (m ((c : Thread nD τ).loc main_arg1)) b k n ≠ ⊥) :
    (dats m 0 c).arrAt 10 (cfgs 0).N
      = REF (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) := by
  refine (dats m 0 c).arrAt_eq_of_covers 10 _ (by decide +kernel) fun t hfl y => ?_
  blk_simp
  rw [after0_10]
  refine Eq.trans (congrArg _ (eq_ix2 y)) (point m c hf t (y 0) (y 1) _ ?_ ?_)
  all_goals (blk_simp [idx_val t] <;> try omega)

/-- Under the precondition the pooled columns hold no infinity. -/
theorem finite [Cert.Pre_pooled_finite.Facts] (a0 : FVec Ideal S4x8192x1024 .f32) (a1 a2 : FVec Ideal S4x8192x512 .f32) (a3 a4 : FVec Ideal S4x8192x1024 .f32)
    (a5 : FVec Ideal S1x4x128x128 .f32) (a6 : FVec Ideal S1x512 .f32) (a7 a8 : FVec Ideal S1x512x1024 .f32) (a9 : FVec Ideal S1x1024x1024 .f32)
    (h : Cert.Pre_pooled_finite.fn (F := Ideal) a0 a1 a2 a3 a4 a5 a6 a7 a8 a9 = fun _ => 1#1) (b : Fin 4) (k : Fin 512) (n : ℕ) :
    Uat a1 b k n ≠ ⊤ ∧ Uat a1 b k n ≠ ⊥ := by
  unfold Uat
  by_cases p : 16 ≤ n ∧ n < 8208
  · rw [dif_pos p]
    have e := congrFun h (ix3 b ⟨n - 16, by omega⟩ k)
    generalize (⟨n - 16, by omega⟩ : Fin 8192) = q at e ⊢
    have e' : Cert.Pre_pooled_finite.fn (F := Ideal) a0 a1 a2 a3 a4 a5 a6 a7 a8 a9 (ix3 b q k) = FloatOps.cmpf (F := Ideal) .olt (FloatOps.absf (F := Ideal) (a1 (ix3 b q k))) (Ideal.ofBits .f32 0x7F800000#32) := by
      pointwise [Cert.Pre_pooled_finite.fn]
    rw [e'] at e
    have ne : max (a1 (ix3 b q k) : EReal) (-a1 (ix3 b q k)) ≠ ⊤ := fun z => by
      have z' : Ideal.cmp .olt (max (a1 (ix3 b q k) : EReal) (-a1 (ix3 b q k))) (Ideal.ofBits .f32 0x7F800000#32) = 1#1 := e
      rw [z] at z'
      unfold Ideal.cmp at z'
      simp at z'
    constructor
    · intro z
      exact ne (by rw [z]; simp)
    · intro z
      exact ne (by rw [z]; simp)
  · rw [dif_neg p]
    exact ⟨EReal.zero_ne_top, EReal.zero_ne_bot⟩

end Cert.MergeIdeal.Val

end
-- ==== Proof.MergeSample.Pays.lean ====
/- The sample batch's pool mixer and gated merge: the stored values, read at an index of the one block. -/
module

public import proofs.«01_k».proof.Proof.Gen.MergeSampleIdeal.Value
public import proofs.«01_k».proof.Proof.Merge.Pool
public import Idealize.ShloMosaic.Lib.Pipeline.ValueKit

@[expose] public section

set_option maxRecDepth 16384

noncomputable section

namespace Cert.MergeSampleIdeal.Val

open Cert.MergeSampleIdeal Cert.MergeSampleIdeal.Gen Idealize.ShloMosaic Idealize.ShloMosaic.TcCoe Idealize.SL.Sem

/-- Where a row of the block sits among the rows with every stream's sixteen earlier ones in front of it. -/
def Q (r : ℕ) : ℕ := r / 32 * 48 + 16 + r % 32

/-- The pieces from a row on read a sequence at the row they start at. -/
def Reads (n : Fin 384) (c : Fin 512) (f : ℕ → EReal) (xs : List ((s : Shape) × (s.Idx → EReal))) (o : ℕ) : Prop :=
  ∀ hs m hc, concatenateAt S384x512 0 (ix2 n c) xs hs m hc = f (o + m)

theorem Reads.last {n : Fin 384} {c : Fin 512} {f : ℕ → EReal} (o s : ℕ) (x : FVec Ideal ⟨2, ![s, 512]⟩ .f32) (h : ∀ t : Fin s, x (ix2 t c) = f (o + t)) :
    Reads n c f [⟨⟨2, ![s, 512]⟩, x⟩] o := by
  intro hs m hc
  rw [concatenateAt_singleton, Shape.Idx.norm_def]
  have hm : m < s := by simpa [axisSizes] using hc
  refine Eq.trans (congrArg x (funext fun b => ?_)) (h ⟨m, hm⟩)
  fin_cases b <;> exact Fin.ext rfl

theorem Reads.cons {n : Fin 384} {c : Fin 512} {f : ℕ → EReal} (o s : ℕ) (x : FVec Ideal ⟨2, ![s, 512]⟩ .f32) (q : (s : Shape) × (s.Idx → EReal))
    (xs : List ((s : Shape) × (s.Idx → EReal))) (h : ∀ t : Fin s, x (ix2 t c) = f (o + t)) (hx : Reads n c f (q :: xs) (o + s)) :
    Reads n c f (⟨⟨2, ![s, 512]⟩, x⟩ :: q :: xs) o := by
  intro hs m hc
  rw [concatenateAt_cons]
  by_cases hm : m < s
  · rw [dif_pos (by exact hm), Shape.Idx.norm_def]
    refine Eq.trans (congrArg x (funext fun b => ?_)) (h ⟨m, hm⟩)
    fin_cases b <;> exact Fin.ext rfl
  · rw [dif_neg (by exact hm)]
    refine (hx _ _ _).trans (congrArg f ?_)
    show o + s + (m - s) = o + m
    omega

/-- The eight streams one after the other, each after its sixteen earlier rows. -/
def CAT (P0 : FVec Ideal S16x512 .f32) (Q0 : FVec Ideal S32x512 .f32) (P1 : FVec Ideal S16x512 .f32) (Q1 : FVec Ideal S32x512 .f32) (P2 : FVec Ideal S16x512 .f32) (Q2 : FVec Ideal S32x512 .f32) (P3 : FVec Ideal S16x512 .f32) (Q3 : FVec Ideal S32x512 .f32) (P4 : FVec Ideal S16x512 .f32) (Q4 : FVec Ideal S32x512 .f32) (P5 : FVec Ideal S16x512 .f32) (Q5 : FVec Ideal S32x512 .f32) (P6 : FVec Ideal S16x512 .f32) (Q6 : FVec Ideal S32x512 .f32) (P7 : FVec Ideal S16x512 .f32) (Q7 : FVec Ideal S32x512 .f32) : FVec Ideal S384x512 .f32 :=
  concatenate S384x512 0 [⟨S16x512, P0⟩, ⟨S32x512, Q0⟩, ⟨S16x512, P1⟩, ⟨S32x512, Q1⟩, ⟨S16x512, P2⟩, ⟨S32x512, Q2⟩, ⟨S16x512, P3⟩, ⟨S32x512, Q3⟩, ⟨S16x512, P4⟩, ⟨S32x512, Q4⟩, ⟨S16x512, P5⟩, ⟨S32x512, Q5⟩, ⟨S16x512, P6⟩, ⟨S32x512, Q6⟩, ⟨S16x512, P7⟩, ⟨S32x512, Q7⟩]
    concatenates_S16x512_S32x512_S16x512_S32x512_S16x512_S32x512_S16x512_S32x512_S16x512_S32x512_S16x512_S32x512_S16x512_S32x512_S16x512_S32x512_S384x512_d0

theorem CAT_at (P0 : FVec Ideal S16x512 .f32) (Q0 : FVec Ideal S32x512 .f32) (P1 : FVec Ideal S16x512 .f32) (Q1 : FVec Ideal S32x512 .f32) (P2 : FVec Ideal S16x512 .f32) (Q2 : FVec Ideal S32x512 .f32) (P3 : FVec Ideal S16x512 .f32) (Q3 : FVec Ideal S32x512 .f32) (P4 : FVec Ideal S16x512 .f32) (Q4 : FVec Ideal S32x512 .f32) (P5 : FVec Ideal S16x512 .f32) (Q5 : FVec Ideal S32x512 .f32) (P6 : FVec Ideal S16x512 .f32) (Q6 : FVec Ideal S32x512 .f32) (P7 : FVec Ideal S16x512 .f32) (Q7 : FVec Ideal S32x512 .f32) (c : Fin 512) (f : ℕ → EReal)
    (p0 : ∀ t : Fin 16, P0 (ix2 t c) = f (0 + t)) (q0 : ∀ t : Fin 32, Q0 (ix2 t c) = f (16 + t))
    (p1 : ∀ t : Fin 16, P1 (ix2 t c) = f (48 + t)) (q1 : ∀ t : Fin 32, Q1 (ix2 t c) = f (64 + t))
    (p2 : ∀ t : Fin 16, P2 (ix2 t c) = f (96 + t)) (q2 : ∀ t : Fin 32, Q2 (ix2 t c) = f (112 + t))
    (p3 : ∀ t : Fin 16, P3 (ix2 t c) = f (144 + t)) (q3 : ∀ t : Fin 32, Q3 (ix2 t c) = f (160 + t))
    (p4 : ∀ t : Fin 16, P4 (ix2 t c) = f (192 + t)) (q4 : ∀ t : Fin 32, Q4 (ix2 t c) = f (208 + t))
    (p5 : ∀ t : Fin 16, P5 (ix2 t c) = f (240 + t)) (q5 : ∀ t : Fin 32, Q5 (ix2 t c) = f (256 + t))
    (p6 : ∀ t : Fin 16, P6 (ix2 t c) = f (288 + t)) (q6 : ∀ t : Fin 32, Q6 (ix2 t c) = f (304 + t))
    (p7 : ∀ t : Fin 16, P7 (ix2 t c) = f (336 + t)) (q7 : ∀ t : Fin 32, Q7 (ix2 t c) = f (352 + t)) (n : Fin 384) :
    CAT P0 Q0 P1 Q1 P2 Q2 P3 Q3 P4 Q4 P5 Q5 P6 Q6 P7 Q7 (ix2 n c) = f n := by
  have e : Reads n c f _ 0 :=
    Reads.cons 0 16 P0 _ _ p0 (Reads.cons 16 32 Q0 _ _ q0 (
    Reads.cons 48 16 P1 _ _ p1 (Reads.cons 64 32 Q1 _ _ q1 (
    Reads.cons 96 16 P2 _ _ p2 (Reads.cons 112 32 Q2 _ _ q2 (
    Reads.cons 144 16 P3 _ _ p3 (Reads.cons 160 32 Q3 _ _ q3 (
    Reads.cons 192 16 P4 _ _ p4 (Reads.cons 208 32 Q4 _ _ q4 (
    Reads.cons 240 16 P5 _ _ p5 (Reads.cons 256 32 Q5 _ _ q5 (
    Reads.cons 288 16 P6 _ _ p6 (Reads.cons 304 32 Q6 _ _ q6 (
    Reads.cons 336 16 P7 _ _ p7 (Reads.last 352 32 Q7 q7)))))))))))))))
  exact (concatenate_cons_apply _ _ _ _ _ _ _).trans ((e _ _ _).trans (congrArg f (Nat.zero_add _)))

/-- Eight streams' rows one after the other. -/
def STACK (T0 T1 T2 T3 T4 T5 T6 T7 : FVec Ideal S32x128 .f32) : FVec Ideal S256x128 .f32 :=
  concatenate S256x128 0 [⟨S32x128, T0⟩, ⟨S32x128, T1⟩, ⟨S32x128, T2⟩, ⟨S32x128, T3⟩, ⟨S32x128, T4⟩, ⟨S32x128, T5⟩, ⟨S32x128, T6⟩, ⟨S32x128, T7⟩]
    concatenates_S32x128_S32x128_S32x128_S32x128_S32x128_S32x128_S32x128_S32x128_S256x128_d0

theorem STACK_at (T0 T1 T2 T3 T4 T5 T6 T7 : FVec Ideal S32x128 .f32) (k : Fin 128) (f : ℕ → EReal)
    (h0 : ∀ t : Fin 32, T0 (ix2 t k) = f (16 + t))
    (h1 : ∀ t : Fin 32, T1 (ix2 t k) = f (64 + t))
    (h2 : ∀ t : Fin 32, T2 (ix2 t k) = f (112 + t))
    (h3 : ∀ t : Fin 32, T3 (ix2 t k) = f (160 + t))
    (h4 : ∀ t : Fin 32, T4 (ix2 t k) = f (208 + t))
    (h5 : ∀ t : Fin 32, T5 (ix2 t k) = f (256 + t))
    (h6 : ∀ t : Fin 32, T6 (ix2 t k) = f (304 + t))
    (h7 : ∀ t : Fin 32, T7 (ix2 t k) = f (352 + t)) (r : Fin 256) :
    STACK T0 T1 T2 T3 T4 T5 T6 T7 (ix2 r k) = f (Q r) := by
  unfold Q
  pointwise [STACK]
  by_cases u0 : (r : ℕ) < 32
  · rw [dif_pos u0]
    exact (h0 _).trans (congrArg f (by dsimp only; omega))
  rw [dif_neg u0]
  by_cases u1 : (r : ℕ) - 32 < 32
  · rw [dif_pos u1]
    exact (h1 _).trans (congrArg f (by dsimp only; omega))
  rw [dif_neg u1]
  by_cases u2 : (r : ℕ) - 32 - 32 < 32
  · rw [dif_pos u2]
    exact (h2 _).trans (congrArg f (by dsimp only; omega))
  rw [dif_neg u2]
  by_cases u3 : (r : ℕ) - 32 - 32 - 32 < 32
  · rw [dif_pos u3]
    exact (h3 _).trans (congrArg f (by dsimp only; omega))
  rw [dif_neg u3]
  by_cases u4 : (r : ℕ) - 32 - 32 - 32 - 32 < 32
  · rw [dif_pos u4]
    exact (h4 _).trans (congrArg f (by dsimp only; omega))
  rw [dif_neg u4]
  by_cases u5 : (r : ℕ) - 32 - 32 - 32 - 32 - 32 < 32
  · rw [dif_pos u5]
    exact (h5 _).trans (congrArg f (by dsimp only; omega))
  rw [dif_neg u5]
  by_cases u6 : (r : ℕ) - 32 - 32 - 32 - 32 - 32 - 32 < 32
  · rw [dif_pos u6]
    exact (h6 _).trans (congrArg f (by dsimp only; omega))
  rw [dif_neg u6]
  exact (h7 _).trans (congrArg f (by dsimp only; omega))

/-- The streams' own rows of sums over all rows, for each width of the columns. -/
def ROWS512 (v : FVec Ideal S384x512 .f32) : FVec Ideal S256x128 .f32 := STACK
    (extractStridedSlice S32x128 ![16, 0] v slices_S384x512_o16_0_S32x128) (extractStridedSlice S32x128 ![64, 0] v slices_S384x512_o64_0_S32x128) (extractStridedSlice S32x128 ![112, 0] v slices_S384x512_o112_0_S32x128) (extractStridedSlice S32x128 ![160, 0] v slices_S384x512_o160_0_S32x128) (extractStridedSlice S32x128 ![208, 0] v slices_S384x512_o208_0_S32x128) (extractStridedSlice S32x128 ![256, 0] v slices_S384x512_o256_0_S32x128) (extractStridedSlice S32x128 ![304, 0] v slices_S384x512_o304_0_S32x128) (extractStridedSlice S32x128 ![352, 0] v slices_S384x512_o352_0_S32x128)
theorem ROWS512_at (v : FVec Ideal S384x512 .f32) (k : Fin 128) (f : ℕ → EReal) (l : Fin 512) (hl : (l : ℕ) = k) (hv : ∀ q : Fin 384, 16 ≤ (q : ℕ) → v (ix2 q l) = f q) (r : Fin 256) :
    ROWS512 v (ix2 r k) = f (Q r) := by
  have el : l = ⟨k, by omega⟩ := Fin.ext hl
  rw [el] at hv
  refine STACK_at _ _ _ _ _ _ _ _ k f ?_ ?_ ?_ ?_ ?_ ?_ ?_ ?_ r
  all_goals
    intro t
    pointwise
    exact hv _ (by dsimp only; omega)
def ROWS384 (v : FVec Ideal S384x384 .f32) : FVec Ideal S256x128 .f32 := STACK
    (extractStridedSlice S32x128 ![16, 0] v slices_S384x384_o16_0_S32x128) (extractStridedSlice S32x128 ![64, 0] v slices_S384x384_o64_0_S32x128) (extractStridedSlice S32x128 ![112, 0] v slices_S384x384_o112_0_S32x128) (extractStridedSlice S32x128 ![160, 0] v slices_S384x384_o160_0_S32x128) (extractStridedSlice S32x128 ![208, 0] v slices_S384x384_o208_0_S32x128) (extractStridedSlice S32x128 ![256, 0] v slices_S384x384_o256_0_S32x128) (extractStridedSlice S32x128 ![304, 0] v slices_S384x384_o304_0_S32x128) (extractStridedSlice S32x128 ![352, 0] v slices_S384x384_o352_0_S32x128)
theorem ROWS384_at (v : FVec Ideal S384x384 .f32) (k : Fin 128) (f : ℕ → EReal) (l : Fin 384) (hl : (l : ℕ) = k) (hv : ∀ q : Fin 384, 16 ≤ (q : ℕ) → v (ix2 q l) = f q) (r : Fin 256) :
    ROWS384 v (ix2 r k) = f (Q r) := by
  have el : l = ⟨k, by omega⟩ := Fin.ext hl
  rw [el] at hv
  refine STACK_at _ _ _ _ _ _ _ _ k f ?_ ?_ ?_ ?_ ?_ ?_ ?_ ?_ r
  all_goals
    intro t
    pointwise
    exact hv _ (by dsimp only; omega)
def ROWS256 (v : FVec Ideal S384x256 .f32) : FVec Ideal S256x128 .f32 := STACK
    (extractStridedSlice S32x128 ![16, 0] v slices_S384x256_o16_0_S32x128) (extractStridedSlice S32x128 ![64, 0] v slices_S384x256_o64_0_S32x128) (extractStridedSlice S32x128 ![112, 0] v slices_S384x256_o112_0_S32x128) (extractStridedSlice S32x128 ![160, 0] v slices_S384x256_o160_0_S32x128) (extractStridedSlice S32x128 ![208, 0] v slices_S384x256_o208_0_S32x128) (extractStridedSlice S32x128 ![256, 0] v slices_S384x256_o256_0_S32x128) (extractStridedSlice S32x128 ![304, 0] v slices_S384x256_o304_0_S32x128) (extractStridedSlice S32x128 ![352, 0] v slices_S384x256_o352_0_S32x128)
theorem ROWS256_at (v : FVec Ideal S384x256 .f32) (k : Fin 128) (f : ℕ → EReal) (l : Fin 256) (hl : (l : ℕ) = k) (hv : ∀ q : Fin 384, 16 ≤ (q : ℕ) → v (ix2 q l) = f q) (r : Fin 256) :
    ROWS256 v (ix2 r k) = f (Q r) := by
  have el : l = ⟨k, by omega⟩ := Fin.ext hl
  rw [el] at hv
  refine STACK_at _ _ _ _ _ _ _ _ k f ?_ ?_ ?_ ?_ ?_ ?_ ?_ ?_ r
  all_goals
    intro t
    pointwise
    exact hv _ (by dsimp only; omega)
def ROWS128 (v : FVec Ideal S384x128 .f32) : FVec Ideal S256x128 .f32 := STACK
    (extractStridedSlice S32x128 ![16, 0] v slices_S384x128_o16_0_S32x128) (extractStridedSlice S32x128 ![64, 0] v slices_S384x128_o64_0_S32x128) (extractStridedSlice S32x128 ![112, 0] v slices_S384x128_o112_0_S32x128) (extractStridedSlice S32x128 ![160, 0] v slices_S384x128_o160_0_S32x128) (extractStridedSlice S32x128 ![208, 0] v slices_S384x128_o208_0_S32x128) (extractStridedSlice S32x128 ![256, 0] v slices_S384x128_o256_0_S32x128) (extractStridedSlice S32x128 ![304, 0] v slices_S384x128_o304_0_S32x128) (extractStridedSlice S32x128 ![352, 0] v slices_S384x128_o352_0_S32x128)
theorem ROWS128_at (v : FVec Ideal S384x128 .f32) (k : Fin 128) (f : ℕ → EReal) (l : Fin 128) (hl : (l : ℕ) = k) (hv : ∀ q : Fin 384, 16 ≤ (q : ℕ) → v (ix2 q l) = f q) (r : Fin 256) :
    ROWS128 v (ix2 r k) = f (Q r) := by
  have el : l = ⟨k, by omega⟩ := Fin.ext hl
  rw [el] at hv
  refine STACK_at _ _ _ _ _ _ _ _ k f ?_ ?_ ?_ ?_ ?_ ?_ ?_ ?_ r
  all_goals
    intro t
    pointwise
    exact hv _ (by dsimp only; omega)

/-- The sums of two at a position that has one before it. -/
theorem pay14_at (P0 : FVec Ideal S16x512 .f32) (Q0 : FVec Ideal S32x512 .f32) (P1 : FVec Ideal S16x512 .f32) (Q1 : FVec Ideal S32x512 .f32) (P2 : FVec Ideal S16x512 .f32) (Q2 : FVec Ideal S32x512 .f32) (P3 : FVec Ideal S16x512 .f32) (Q3 : FVec Ideal S32x512 .f32) (P4 : FVec Ideal S16x512 .f32) (Q4 : FVec Ideal S32x512 .f32) (p5 : FVec Ideal S1x16x512 .f32) (q5 : FVec Ideal S32x512 .f32) (p6 : FVec Ideal S1x16x512 .f32) (q6 : FVec Ideal S32x512 .f32) (p7 : FVec Ideal S1x16x512 .f32) (q7 : FVec Ideal S32x512 .f32)
    (c : Fin 512) (f : ℕ → EReal) (hv : ∀ q : Fin 384, (CAT P0 Q0 P1 Q1 P2 Q2 P3 Q3 P4 Q4 (shapeCast S16x512 p5 shapeCasts_S1x16x512_S16x512) (shapeCast S32x512 q5 shapeCasts_S32x512_S32x512) (shapeCast S16x512 p6 shapeCasts_S1x16x512_S16x512) (shapeCast S32x512 q6 shapeCasts_S32x512_S32x512) (shapeCast S16x512 p7 shapeCasts_S1x16x512_S16x512) (shapeCast S32x512 q7 shapeCasts_S32x512_S32x512)) (ix2 q c) = f q) (q : Fin 384) (hq : 1 ≤ (q : ℕ)) :
    k0_pay14 (F := Ideal) P0 Q0 P1 Q1 P2 Q2 P3 Q3 P4 Q4 p5 q5 p6 q6 p7 q7 (ix2 q c) = Pool.run 1 f q := by
  have e : k0_pay14 (F := Ideal) P0 Q0 P1 Q1 P2 Q2 P3 Q3 P4 Q4 p5 q5 p6 q6 p7 q7 = addf (CAT P0 Q0 P1 Q1 P2 Q2 P3 Q3 P4 Q4 (shapeCast S16x512 p5 shapeCasts_S1x16x512_S16x512) (shapeCast S32x512 q5 shapeCasts_S32x512_S32x512) (shapeCast S16x512 p6 shapeCasts_S1x16x512_S16x512) (shapeCast S32x512 q6 shapeCasts_S32x512_S32x512) (shapeCast S16x512 p7 shapeCasts_S1x16x512_S16x512) (shapeCast S32x512 q7 shapeCasts_S32x512_S32x512)) (dynamicRotate 0 1#32 none (CAT P0 Q0 P1 Q1 P2 Q2 P3 Q3 P4 Q4 (shapeCast S16x512 p5 shapeCasts_S1x16x512_S16x512) (shapeCast S32x512 q5 shapeCasts_S32x512_S32x512) (shapeCast S16x512 p6 shapeCasts_S1x16x512_S16x512) (shapeCast S32x512 q6 shapeCasts_S32x512_S32x512) (shapeCast S16x512 p7 shapeCasts_S1x16x512_S16x512) (shapeCast S32x512 q7 shapeCasts_S32x512_S32x512)) rotates_S384x512_d0) := rfl
  rw [e]
  generalize (CAT P0 Q0 P1 Q1 P2 Q2 P3 Q3 P4 Q4 (shapeCast S16x512 p5 shapeCasts_S1x16x512_S16x512) (shapeCast S32x512 q5 shapeCasts_S32x512_S32x512) (shapeCast S16x512 p6 shapeCasts_S1x16x512_S16x512) (shapeCast S32x512 q6 shapeCasts_S32x512_S32x512) (shapeCast S16x512 p7 shapeCasts_S1x16x512_S16x512) (shapeCast S32x512 q7 shapeCasts_S32x512_S32x512)) = v at hv
  unfold Pool.run Pool.run
  pointwise
  rw [hv, hv]
  exact congrArg (fun z => f q + f z) (by show ((q : ℕ) + 384 - 1) % 384 = q - 2 ^ 0; omega)

/-- The sums of four. -/
theorem pay21_at (v : FVec Ideal S384x512 .f32) (q : Fin 384) (k : Fin 384) (c : Fin 512) (f : ℕ → EReal) (hc : (c : ℕ) = 128 + k) (hq : 3 ≤ (q : ℕ))
    (hv : ∀ q : Fin 384, 1 ≤ (q : ℕ) → v (ix2 q c) = Pool.run 1 f q) :
    k0_pay21 (F := Ideal) v (ix2 q k) = Pool.run 2 f q := by
  unfold Pool.run
  pointwise [k0_pay21]
  have ec : (⟨128 + (k : ℕ), by omega⟩ : Fin 512) = c := Fin.ext hc.symm
  have eq : (⟨((q : ℕ) + 384 - 2) % 384, by omega⟩ : Fin 384) = ⟨q - 2 ^ 1, by omega⟩ := Fin.ext (by show ((q : ℕ) + 384 - 2) % 384 = q - 2 ^ 1; omega)
  rw [ec, eq, hv q (by omega), hv _ (by show 1 ≤ (q : ℕ) - 2 ^ 1; omega)]

/-- The sums of eight. -/
theorem pay27_at (v : FVec Ideal S384x384 .f32) (q : Fin 384) (k : Fin 256) (l : Fin 384) (f : ℕ → EReal) (hl : (l : ℕ) = 128 + k) (hq : 7 ≤ (q : ℕ))
    (hv : ∀ q : Fin 384, 3 ≤ (q : ℕ) → v (ix2 q l) = Pool.run 2 f q) :
    k0_pay27 (F := Ideal) v (ix2 q k) = Pool.run 3 f q := by
  unfold Pool.run
  pointwise [k0_pay27]
  have el : (⟨128 + (k : ℕ), by omega⟩ : Fin 384) = l := Fin.ext hl.symm
  have eq : (⟨((q : ℕ) + 384 - 4) % 384, by omega⟩ : Fin 384) = ⟨q - 2 ^ 2, by omega⟩ := Fin.ext (by show ((q : ℕ) + 384 - 4) % 384 = q - 2 ^ 2; omega)
  rw [el, eq, hv q (by omega), hv _ (by show 3 ≤ (q : ℕ) - 2 ^ 2; omega)]

/-- The sums of sixteen, the last group's columns. -/
theorem pay36_at (v : FVec Ideal S384x256 .f32) (q : Fin 384) (k : Fin 128) (l : Fin 256) (f : ℕ → EReal) (hl : (l : ℕ) = 128 + k) (hq : 15 ≤ (q : ℕ))
    (hv : ∀ q : Fin 384, 7 ≤ (q : ℕ) → v (ix2 q l) = Pool.run 3 f q) :
    addf (F := Ideal) (k0_pay34 v) (k0_pay36 v) (ix2 q k) = Pool.run 4 f q := by
  unfold Pool.run
  pointwise [k0_pay34, k0_pay36]
  have el : (⟨128 + (k : ℕ), by omega⟩ : Fin 256) = l := Fin.ext hl.symm
  have eq : (⟨((q : ℕ) + 384 - 8) % 384, by omega⟩ : Fin 384) = ⟨q - 2 ^ 3, by omega⟩ := Fin.ext (by show ((q : ℕ) + 384 - 8) % 384 = q - 2 ^ 3; omega)
  rw [el, eq, hv q (by omega), hv _ (by show 7 ≤ (q : ℕ) - 2 ^ 3; omega)]

/-- A row's position in its stream. -/
theorem pay3_at (r : Fin 256) : k0_pay3 (ix2 r 0) = BitVec.ofNat 32 (1024 + (r : ℕ) % 32) := by
  have e : ∀ a : ℕ, a = (r : ℕ) % 32 → IntOp.addi (1024#32) (BitVec.ofNat 32 a) = BitVec.ofNat 32 (1024 + (r : ℕ) % 32) := fun a h => by
    rw [← h]
    exact (BitVec.ofNat_add (n := 32) 1024 a).symm
  pointwise [k0_pay3]
  by_cases u0 : (r : ℕ) < 32
  · rw [dif_pos u0]
    exact e _ (by omega)
  rw [dif_neg u0]
  by_cases u1 : (r : ℕ) - 32 < 32
  · rw [dif_pos u1]
    exact e _ (by omega)
  rw [dif_neg u1]
  by_cases u2 : (r : ℕ) - 32 - 32 < 32
  · rw [dif_pos u2]
    exact e _ (by omega)
  rw [dif_neg u2]
  by_cases u3 : (r : ℕ) - 32 - 32 - 32 < 32
  · rw [dif_pos u3]
    exact e _ (by omega)
  rw [dif_neg u3]
  by_cases u4 : (r : ℕ) - 32 - 32 - 32 - 32 < 32
  · rw [dif_pos u4]
    exact e _ (by omega)
  rw [dif_neg u4]
  by_cases u5 : (r : ℕ) - 32 - 32 - 32 - 32 - 32 < 32
  · rw [dif_pos u5]
    exact e _ (by omega)
  rw [dif_neg u5]
  by_cases u6 : (r : ℕ) - 32 - 32 - 32 - 32 - 32 - 32 < 32
  · rw [dif_pos u6]
    exact e _ (by omega)
  rw [dif_neg u6]
  exact e _ (by omega)

/-- The first group's centred channels. -/
theorem pay15_at (w16 : IVec S256x1 32) (P0 : FVec Ideal S16x512 .f32) (Q0 : FVec Ideal S32x512 .f32) (P1 : FVec Ideal S16x512 .f32) (Q1 : FVec Ideal S32x512 .f32) (P2 : FVec Ideal S16x512 .f32) (Q2 : FVec Ideal S32x512 .f32) (P3 : FVec Ideal S16x512 .f32) (Q3 : FVec Ideal S32x512 .f32) (P4 : FVec Ideal S16x512 .f32) (Q4 : FVec Ideal S32x512 .f32) (p5 : FVec Ideal S1x16x512 .f32) (q5 : FVec Ideal S32x512 .f32) (p6 : FVec Ideal S1x16x512 .f32) (q6 : FVec Ideal S32x512 .f32) (p7 : FVec Ideal S1x16x512 .f32) (q7 : FVec Ideal S32x512 .f32) (y : FVec Ideal S256x128 .f32)
    (r : Fin 256) (k : Fin 128) (p : ℕ) (hp : w16 (ix2 r 0) = BitVec.ofNat 32 p) (f : ℕ → EReal) (l : Fin 512) (hl : (l : ℕ) = k)
    (hv : ∀ q : Fin 384, 1 ≤ (q : ℕ) → k0_pay14 (F := Ideal) P0 Q0 P1 Q1 P2 Q2 P3 Q3 P4 Q4 p5 q5 p6 q6 p7 q7 (ix2 q l) = Pool.run 1 f q) :
    k0_pay15 (F := Ideal) w16 P0 Q0 P1 Q1 P2 Q2 P3 Q3 P4 Q4 p5 q5 p6 q6 p7 q7 y (ix2 r k) = Ideal.div (Pool.run 1 f (Q r)) (Pool.cnt 2 p) - y (ix2 r k) := by
  have h := ROWS512_at _ k (Pool.run 1 f) l hl (fun q hq => hv q (by omega)) r
  rw [← h]
  have e : k0_pay15 (F := Ideal) w16 P0 Q0 P1 Q1 P2 Q2 P3 Q3 P4 Q4 p5 q5 p6 q6 p7 q7 y
      = truncf .bf16 (subf (divf (ROWS512 (k0_pay14 (F := Ideal) P0 Q0 P1 Q1 P2 Q2 P3 Q3 P4 Q4 p5 q5 p6 q6 p7 q7)) (broadcastTo S256x128 (sitofp .f32 (minsi (broadcast S256x1 2#32) (addi w16 (broadcast S256x1 1#32)))) broadcasts_S256x1_S256x128))
          (shapeCast S256x128 y shapeCasts_S256x128_S256x128)) bitsLt_bf16_f32 := rfl
  rw [e]
  generalize ROWS512 (k0_pay14 (F := Ideal) P0 Q0 P1 Q1 P2 Q2 P3 Q3 P4 Q4 p5 q5 p6 q6 p7 q7) = v
  unfold Pool.cnt
  rw [← hp]
  pointwise

/-- A group's weight without its leading axis. -/
theorem pay16_at (w : FVec Ideal S1x128x128 .f32) (k e : Fin 128) : k0_pay16 (F := Ideal) w (ix2 k e) = w (ix3 0 k e) := by
  pointwise [k0_pay16]

/-- The first group's mixed channels. -/
theorem pay19_at (d : FVec Ideal S256x128 .bf16) (w : FVec Ideal S128x128 .f32) (s : FVec Ideal S1x128 .f32) (r : Fin 256) (e : Fin 128) :
    k0_pay19 (F := Ideal) d w s (ix2 r e) = (∑ k : Fin 128, d (ix2 r k) * w (ix2 k e)) * s (ix2 0 e) := by
  pointwise [k0_pay19, k0_pay17, zero_add]

/-- The second group's means. -/
theorem pay22_at (w16 : IVec S256x1 32) (v : FVec Ideal S384x512 .f32) (r : Fin 256) (k : Fin 128) (p : ℕ) (hp : w16 (ix2 r 0) = BitVec.ofNat 32 p)
    (f : ℕ → EReal) (l : Fin 384) (hl : (l : ℕ) = k) (hv : ∀ q : Fin 384, 3 ≤ (q : ℕ) → k0_pay21 (F := Ideal) v (ix2 q l) = Pool.run 2 f q) :
    k0_pay22 (F := Ideal) w16 v (ix2 r k) = Ideal.div (Pool.run 2 f (Q r)) (Pool.cnt 4 p) := by
  have h := ROWS384_at _ k (Pool.run 2 f) l hl (fun q hq => hv q (by omega)) r
  rw [← h]
  have e : k0_pay22 (F := Ideal) w16 v
      = divf (ROWS384 (k0_pay21 (F := Ideal) v)) (broadcastTo S256x128 (sitofp .f32 (minsi (broadcast S256x1 4#32) (addi w16 (broadcast S256x1 1#32)))) broadcasts_S256x1_S256x128) := rfl
  rw [e]
  generalize ROWS384 (k0_pay21 (F := Ideal) v) = v'
  unfold Pool.cnt
  rw [← hp]
  pointwise

/-- The second group's mixed channels. -/
theorem pay25_at (v y : FVec Ideal S256x128 .f32) (w : FVec Ideal S1x128x128 .f32) (s : FVec Ideal S1x128 .f32) (r : Fin 256) (e : Fin 128) :
    k0_pay25 (F := Ideal) v y w s (ix2 r e) = (∑ k : Fin 128, (v (ix2 r k) - y (ix2 r k)) * w (ix3 0 k e)) * s (ix2 0 e) := by
  pointwise [k0_pay25, k0_pay23, zero_add]

/-- The third group's. -/
theorem pay33_at (w16 : IVec S256x1 32) (v : FVec Ideal S384x384 .f32) (y : FVec Ideal S256x128 .f32) (w : FVec Ideal S1x128x128 .f32) (s : FVec Ideal S1x128 .f32)
    (r : Fin 256) (e : Fin 128) (p : ℕ) (hp : w16 (ix2 r 0) = BitVec.ofNat 32 p) (f : Fin 128 → ℕ → EReal)
    (hv : ∀ (k : Fin 128) (q : Fin 384), 7 ≤ (q : ℕ) → k0_pay27 (F := Ideal) v (ix2 q ⟨k, by omega⟩) = Pool.run 3 (f k) q) :
    k0_pay33 (F := Ideal) (k0_pay27 v) (k0_pay28 w16) (k0_pay29 v) (k0_pay30 v) y w s (ix2 r e)
      = (∑ k : Fin 128, (Ideal.div (Pool.run 3 (f k) (Q r)) (Pool.cnt 8 p) - y (ix2 r k)) * w (ix3 0 k e)) * s (ix2 0 e) := by
  have h : ∀ k, ROWS256 (k0_pay27 (F := Ideal) v) (ix2 r k) = Pool.run 3 (f k) (Q r) := fun k =>
    ROWS256_at _ k (Pool.run 3 (f k)) ⟨k, by omega⟩ rfl (fun q hq => hv k q (by omega)) r
  simp only [← h]
  have e : k0_pay33 (F := Ideal) (k0_pay27 v) (k0_pay28 w16) (k0_pay29 v) (k0_pay30 v) y w s
      = k0_pay25 (F := Ideal) (divf (ROWS256 (k0_pay27 (F := Ideal) v)) (broadcastTo S256x128 (sitofp .f32 (minsi (broadcast S256x1 8#32) (addi w16 (broadcast S256x1 1#32)))) broadcasts_S256x1_S256x128)) y w s := rfl
  rw [e, pay25_at]
  generalize ROWS256 (k0_pay27 (F := Ideal) v) = v'
  unfold Pool.cnt
  rw [← hp]
  refine congrArg (· * _) (Finset.sum_congr rfl fun k _ => congrArg (fun z => (z - _) * _) ?_)
  pointwise

/-- The last group's. -/
theorem pay39_at (w16 : IVec S256x1 32) (v : FVec Ideal S384x256 .f32) (y : FVec Ideal S256x128 .f32) (w : FVec Ideal S1x128x128 .f32) (s : FVec Ideal S1x128 .f32)
    (r : Fin 256) (e : Fin 128) (p : ℕ) (hp : w16 (ix2 r 0) = BitVec.ofNat 32 p) (f : Fin 128 → ℕ → EReal)
    (hv : ∀ (k : Fin 128) (q : Fin 384), 15 ≤ (q : ℕ) → addf (F := Ideal) (k0_pay34 v) (k0_pay36 v) (ix2 q k) = Pool.run 4 (f k) q) :
    k0_pay39 (F := Ideal) w16 (k0_pay34 v) (k0_pay36 v) y w s (ix2 r e)
      = (∑ k : Fin 128, (Ideal.div (Pool.run 4 (f k) (Q r)) (Pool.cnt 16 p) - y (ix2 r k)) * w (ix3 0 k e)) * s (ix2 0 e) := by
  have h : ∀ k, ROWS128 (addf (F := Ideal) (k0_pay34 v) (k0_pay36 v)) (ix2 r k) = Pool.run 4 (f k) (Q r) := fun k =>
    ROWS128_at _ k (Pool.run 4 (f k)) k rfl (fun q hq => hv k q (by omega)) r
  simp only [← h]
  have e : k0_pay39 (F := Ideal) w16 (k0_pay34 v) (k0_pay36 v) y w s
      = k0_pay25 (F := Ideal) (divf (ROWS128 (addf (F := Ideal) (k0_pay34 v) (k0_pay36 v))) (broadcastTo S256x128 (sitofp .f32 (minsi (broadcast S256x1 16#32) (addi w16 (broadcast S256x1 1#32)))) broadcasts_S256x1_S256x128)) y w s := rfl
  rw [e, pay25_at]
  generalize ROWS128 (addf (F := Ideal) (k0_pay34 v) (k0_pay36 v)) = v'
  unfold Pool.cnt
  rw [← hp]
  refine congrArg (· * _) (Finset.sum_congr rfl fun k _ => congrArg (fun z => (z - _) * _) ?_)
  pointwise

/-- A quarter of the second branch's rows, under their gate. -/
theorem pay20_at (v1 : FVec Ideal S512x1024 .bf16) (o : FVec Ideal S64x512 .bf16) (g : FVec Ideal S64x1024 .bf16) (r : Fin 64) (j : Fin 1024) :
    k0_pay20 (F := Ideal) v1 o g (ix2 r j) = Pool.logistic (g (ix2 r j)) * ∑ c : Fin 512, o (ix2 r c) * v1 (ix2 c j) := by
  unfold Pool.logistic
  rw [← Rows.half_tanh]
  pointwise [k0_pay20, zero_add]

/-- The second quarter. -/
theorem pay26_at (v1 : FVec Ideal S512x1024 .bf16) (o : FVec Ideal S64x512 .bf16) (g : FVec Ideal S64x1024 .bf16) (r : Fin 64) (j : Fin 1024) :
    k0_pay26 (F := Ideal) v1 o g (ix2 r j) = Pool.logistic (g (ix2 r j)) * ∑ c : Fin 512, o (ix2 r c) * v1 (ix2 c j) := by
  unfold Pool.logistic
  rw [← Rows.half_tanh]
  pointwise [k0_pay26, zero_add]

/-- The third quarter. -/
theorem pay35_at (v1 : FVec Ideal S512x1024 .bf16) (o : FVec Ideal S64x512 .bf16) (g : FVec Ideal S64x1024 .bf16) (r : Fin 64) (j : Fin 1024) :
    k0_pay35 (F := Ideal) v1 o g (ix2 r j) = Pool.logistic (g (ix2 r j)) * ∑ c : Fin 512, o (ix2 r c) * v1 (ix2 c j) := by
  unfold Pool.logistic
  rw [← Rows.half_tanh]
  pointwise [k0_pay35, zero_add]

/-- The last quarter's product. -/
theorem pay40_at (v1 : FVec Ideal S512x1024 .bf16) (o : FVec Ideal S64x512 .bf16) (r : Fin 64) (j : Fin 1024) :
    k0_pay40 (F := Ideal) v1 o (ix2 r j) = ∑ c : Fin 512, o (ix2 r c) * v1 (ix2 c j) := by
  pointwise [k0_pay40, zero_add]

/-- The stored row: the stream plus the merged row's product, over the four groups and the four quarters. -/
theorem pay45_at (a0 a1 a2 a3 : FVec Ideal S256x128 .f32) (b0 b1 b2 b3 : FVec Ideal S64x1024 .f32) (g3 : FVec Ideal S64x1024 .bf16)
    (wp : FVec Ideal S512x1024 .f32) (ga : FVec Ideal S256x1024 .bf16) (x : FVec Ideal S256x1024 .f32) (wo : FVec Ideal S1024x1024 .f32)
    (r : Fin 256) (l : Fin 1024) (A : Fin 512 → EReal) (B : Fin 1024 → EReal)
    (h0 : ∀ (c : Fin 512) (k : Fin 128), (c : ℕ) = k → a0 (ix2 r k) = A c)
    (h1 : ∀ (c : Fin 512) (k : Fin 128), (c : ℕ) = 128 + k → a1 (ix2 r k) = A c)
    (h2 : ∀ (c : Fin 512) (k : Fin 128), (c : ℕ) = 256 + k → a2 (ix2 r k) = A c)
    (h3 : ∀ (c : Fin 512) (k : Fin 128), (c : ℕ) = 384 + k → a3 (ix2 r k) = A c)
    (q0 : ∀ (s : Fin 64) (j : Fin 1024), (r : ℕ) = s → b0 (ix2 s j) = B j)
    (q1 : ∀ (s : Fin 64) (j : Fin 1024), (r : ℕ) = 64 + s → b1 (ix2 s j) = B j)
    (q2 : ∀ (s : Fin 64) (j : Fin 1024), (r : ℕ) = 128 + s → b2 (ix2 s j) = B j)
    (q3 : ∀ (s : Fin 64) (j : Fin 1024), (r : ℕ) = 192 + s → Pool.logistic (g3 (ix2 s j)) * b3 (ix2 s j) = B j) :
    k0_pay1 (F := Ideal) (k0_pay43 x) (k0_pay45 a0 b0 a1 b1 a2 b2 a3 b3 (k0_pay41 g3) wp ga wo) (ix2 r l)
      = x (ix2 r l) + ∑ j : Fin 1024, (Pool.logistic (ga (ix2 r j)) * (∑ c : Fin 512, A c * wp (ix2 c j)) + B j) * wo (ix2 j l) := by
  unfold Pool.logistic at *
  simp only [← Rows.half_tanh] at *
  pointwise [k0_pay1, k0_pay43, k0_pay45, k0_pay41, k0_pay42, k0_pay44, zero_add]
  refine congrArg (x (ix2 r l) + ·) (Finset.sum_congr rfl fun j _ => congrArg (· * wo (ix2 j l)) ?_)
  refine congrArg₂ (· + ·) (congrArg (_ * ·) (Finset.sum_congr rfl fun c _ => congrArg (· * wp (ix2 c j)) ?_)) ?_
  · by_cases u : (c : ℕ) < 128
    · rw [dif_pos u]
      exact h0 c _ rfl
    rw [dif_neg u]
    by_cases v : (c : ℕ) - 128 < 128
    · rw [dif_pos v]
      exact h1 c ⟨c - 128, v⟩ (by show (c : ℕ) = 128 + (c - 128); omega)
    rw [dif_neg v]
    by_cases w : (c : ℕ) - 128 - 128 < 128
    · rw [dif_pos w]
      exact h2 c ⟨c - 128 - 128, w⟩ (by show (c : ℕ) = 256 + (c - 128 - 128); omega)
    rw [dif_neg w]
    exact h3 c ⟨c - 128 - 128 - 128, by omega⟩ (by show (c : ℕ) = 384 + (c - 128 - 128 - 128); omega)
  · by_cases u : (r : ℕ) < 64
    · rw [dif_pos u]
      exact q0 _ j rfl
    rw [dif_neg u]
    by_cases v : (r : ℕ) - 64 < 64
    · rw [dif_pos v]
      exact q1 ⟨r - 64, v⟩ j (by show (r : ℕ) = 64 + (r - 64); omega)
    rw [dif_neg v]
    by_cases w : (r : ℕ) - 64 - 64 < 64
    · rw [dif_pos w]
      exact q2 ⟨r - 64 - 64, w⟩ j (by show (r : ℕ) = 128 + (r - 64 - 64); omega)
    rw [dif_neg w]
    exact q3 ⟨r - 64 - 64 - 64, by omega⟩ j (by show (r : ℕ) = 192 + (r - 64 - 64 - 64); omega)

end Cert.MergeSampleIdeal.Val

end
-- ==== Proof.MergeSample.Block.lean ====
/- What the sample batch's pool mixer and gated merge stores, read at an index. -/
module

public import proofs.«01_k».proof.Proof.MergeSample.Pays

@[expose] public section

set_option maxRecDepth 16384

noncomputable section

namespace Cert.MergeSampleIdeal.Val

open Cert.MergeSampleIdeal Cert.MergeSampleIdeal.Gen Idealize.ShloMosaic Idealize.ShloMosaic.TcCoe Idealize.SL.Sem

/-- A channel by position: every stream's sixteen earlier rows, then its own. -/
def Ub (h : FVec Ideal S8x16x512 .f32) (x : FVec Ideal S256x512 .f32) (c : Fin 512) (n : ℕ) : EReal :=
  if p : n < 384 then
    if q : n % 48 < 16 then h (ix3 (⟨n / 48, by omega⟩ : Fin 8) (⟨n % 48, q⟩ : Fin 16) c)
    else x (ix2 (⟨n / 48 * 32 + (n % 48 - 16), by omega⟩ : Fin 256) c)
  else 0

theorem Ub_h (h : FVec Ideal S8x16x512 .f32) (x : FVec Ideal S256x512 .f32) (c : Fin 512) (b : Fin 8) (t : Fin 16) (n : ℕ) (hn : n = 48 * b + t) :
    Ub h x c n = h (ix3 b t c) := by
  unfold Ub
  rw [dif_pos (by omega), dif_pos (by omega)]
  have e0 : (⟨n / 48, by omega⟩ : Fin 8) = b := Fin.ext (by show n / 48 = b; omega)
  have e1 : (⟨n % 48, by omega⟩ : Fin 16) = t := Fin.ext (by show n % 48 = t; omega)
  exact congrArg₂ (fun b t => h (ix3 b t c)) e0 e1
theorem Ub_x (h : FVec Ideal S8x16x512 .f32) (x : FVec Ideal S256x512 .f32) (c : Fin 512) (b : Fin 8) (t : Fin 32) (R : Fin 256) (n : ℕ) (hn : n = 48 * b + 16 + t)
    (hR : (R : ℕ) = 32 * b + t) : Ub h x c n = x (ix2 R c) := by
  unfold Ub
  rw [dif_pos (by omega), dif_neg (by omega)]
  exact congrArg (fun r => x (ix2 r c)) (Fin.ext (by show n / 48 * 32 + (n % 48 - 16) = R; omega))

/-- The second branch's weight is loaded whole and copied. -/
theorem pay2_at (w : FVec Ideal S512x1024 .f32) (c : Fin 512) (j : Fin 1024) : k0_pay2 (F := Ideal) w (ix2 c j) = w (ix2 c j) := by
  pointwise [k0_pay2]

/-- The streams' parts as they are concatenated. -/
theorem h0_at (h : Vec Ideal S8x16x512 .f32) (x : Vec Ideal S256x512 .f32) (t : Fin 16) (c : Fin 512) : (k0_pay4 (F := Ideal) (View.ld h r0_1)) (ix2 t c) = Ub h x c (0 + t) := by
  rw [Ub_h h x c 0 t _ (by show 0 + (t : ℕ) = 48 * 0 + t; omega)]
  pointwise [k0_pay4]
theorem x0_at (h : Vec Ideal S8x16x512 .f32) (x : Vec Ideal S256x512 .f32) (t : Fin 32) (c : Fin 512) : (k0_pay5 (F := Ideal) (View.ld x r0_2)) (ix2 t c) = Ub h x c (16 + t) := by
  rw [Ub_x h x c 0 t ⟨0 + t, by omega⟩ _ (by show 16 + (t : ℕ) = 48 * 0 + 16 + t; omega) (by show 0 + (t : ℕ) = 32 * 0 + t; omega)]
  pointwise [k0_pay5]
theorem h1_at (h : Vec Ideal S8x16x512 .f32) (x : Vec Ideal S256x512 .f32) (t : Fin 16) (c : Fin 512) : (k0_pay6 (F := Ideal) (View.ld h r0_3)) (ix2 t c) = Ub h x c (48 + t) := by
  rw [Ub_h h x c 1 t _ (by show 48 + (t : ℕ) = 48 * 1 + t; omega)]
  pointwise [k0_pay6]
theorem x1_at (h : Vec Ideal S8x16x512 .f32) (x : Vec Ideal S256x512 .f32) (t : Fin 32) (c : Fin 512) : (k0_pay7 (F := Ideal) (View.ld x r0_4)) (ix2 t c) = Ub h x c (64 + t) := by
  rw [Ub_x h x c 1 t ⟨32 + t, by omega⟩ _ (by show 64 + (t : ℕ) = 48 * 1 + 16 + t; omega) (by show 32 + (t : ℕ) = 32 * 1 + t; omega)]
  pointwise [k0_pay7]
theorem h2_at (h : Vec Ideal S8x16x512 .f32) (x : Vec Ideal S256x512 .f32) (t : Fin 16) (c : Fin 512) : (k0_pay8 (F := Ideal) (View.ld h r0_5)) (ix2 t c) = Ub h x c (96 + t) := by
  rw [Ub_h h x c 2 t _ (by show 96 + (t : ℕ) = 48 * 2 + t; omega)]
  pointwise [k0_pay8]
theorem x2_at (h : Vec Ideal S8x16x512 .f32) (x : Vec Ideal S256x512 .f32) (t : Fin 32) (c : Fin 512) : (k0_pay9 (F := Ideal) (View.ld x r0_6)) (ix2 t c) = Ub h x c (112 + t) := by
  rw [Ub_x h x c 2 t ⟨64 + t, by omega⟩ _ (by show 112 + (t : ℕ) = 48 * 2 + 16 + t; omega) (by show 64 + (t : ℕ) = 32 * 2 + t; omega)]
  pointwise [k0_pay9]
theorem h3_at (h : Vec Ideal S8x16x512 .f32) (x : Vec Ideal S256x512 .f32) (t : Fin 16) (c : Fin 512) : (k0_pay10 (F := Ideal) (View.ld h r0_7)) (ix2 t c) = Ub h x c (144 + t) := by
  rw [Ub_h h x c 3 t _ (by show 144 + (t : ℕ) = 48 * 3 + t; omega)]
  pointwise [k0_pay10]
theorem x3_at (h : Vec Ideal S8x16x512 .f32) (x : Vec Ideal S256x512 .f32) (t : Fin 32) (c : Fin 512) : (k0_pay11 (F := Ideal) (View.ld x r0_8)) (ix2 t c) = Ub h x c (160 + t) := by
  rw [Ub_x h x c 3 t ⟨96 + t, by omega⟩ _ (by show 160 + (t : ℕ) = 48 * 3 + 16 + t; omega) (by show 96 + (t : ℕ) = 32 * 3 + t; omega)]
  pointwise [k0_pay11]
theorem h4_at (h : Vec Ideal S8x16x512 .f32) (x : Vec Ideal S256x512 .f32) (t : Fin 16) (c : Fin 512) : (k0_pay12 (F := Ideal) (View.ld h r0_9)) (ix2 t c) = Ub h x c (192 + t) := by
  rw [Ub_h h x c 4 t _ (by show 192 + (t : ℕ) = 48 * 4 + t; omega)]
  pointwise [k0_pay12]
theorem x4_at (h : Vec Ideal S8x16x512 .f32) (x : Vec Ideal S256x512 .f32) (t : Fin 32) (c : Fin 512) : (k0_pay13 (F := Ideal) (View.ld x r0_10)) (ix2 t c) = Ub h x c (208 + t) := by
  rw [Ub_x h x c 4 t ⟨128 + t, by omega⟩ _ (by show 208 + (t : ℕ) = 48 * 4 + 16 + t; omega) (by show 128 + (t : ℕ) = 32 * 4 + t; omega)]
  pointwise [k0_pay13]
theorem h5_at (h : Vec Ideal S8x16x512 .f32) (x : Vec Ideal S256x512 .f32) (t : Fin 16) (c : Fin 512) : (shapeCast S16x512 (View.ld h r0_11 : FVec Ideal S1x16x512 .f32) shapeCasts_S1x16x512_S16x512) (ix2 t c) = Ub h x c (240 + t) := by
  rw [Ub_h h x c 5 t _ (by show 240 + (t : ℕ) = 48 * 5 + t; omega)]
  pointwise [k0_pay4]
theorem x5_at (h : Vec Ideal S8x16x512 .f32) (x : Vec Ideal S256x512 .f32) (t : Fin 32) (c : Fin 512) : (shapeCast S32x512 (View.ld x r0_12 : FVec Ideal S32x512 .f32) shapeCasts_S32x512_S32x512) (ix2 t c) = Ub h x c (256 + t) := by
  rw [Ub_x h x c 5 t ⟨160 + t, by omega⟩ _ (by show 256 + (t : ℕ) = 48 * 5 + 16 + t; omega) (by show 160 + (t : ℕ) = 32 * 5 + t; omega)]
  pointwise [k0_pay5]
theorem h6_at (h : Vec Ideal S8x16x512 .f32) (x : Vec Ideal S256x512 .f32) (t : Fin 16) (c : Fin 512) : (shapeCast S16x512 (View.ld h r0_13 : FVec Ideal S1x16x512 .f32) shapeCasts_S1x16x512_S16x512) (ix2 t c) = Ub h x c (288 + t) := by
  rw [Ub_h h x c 6 t _ (by show 288 + (t : ℕ) = 48 * 6 + t; omega)]
  pointwise [k0_pay4]
theorem x6_at (h : Vec Ideal S8x16x512 .f32) (x : Vec Ideal S256x512 .f32) (t : Fin 32) (c : Fin 512) : (shapeCast S32x512 (View.ld x r0_14 : FVec Ideal S32x512 .f32) shapeCasts_S32x512_S32x512) (ix2 t c) = Ub h x c (304 + t) := by
  rw [Ub_x h x c 6 t ⟨192 + t, by omega⟩ _ (by show 304 + (t : ℕ) = 48 * 6 + 16 + t; omega) (by show 192 + (t : ℕ) = 32 * 6 + t; omega)]
  pointwise [k0_pay5]
theorem h7_at (h : Vec Ideal S8x16x512 .f32) (x : Vec Ideal S256x512 .f32) (t : Fin 16) (c : Fin 512) : (shapeCast S16x512 (View.ld h r0_15 : FVec Ideal S1x16x512 .f32) shapeCasts_S1x16x512_S16x512) (ix2 t c) = Ub h x c (336 + t) := by
  rw [Ub_h h x c 7 t _ (by show 336 + (t : ℕ) = 48 * 7 + t; omega)]
  pointwise [k0_pay4]
theorem x7_at (h : Vec Ideal S8x16x512 .f32) (x : Vec Ideal S256x512 .f32) (t : Fin 32) (c : Fin 512) : (shapeCast S32x512 (View.ld x r0_16 : FVec Ideal S32x512 .f32) shapeCasts_S32x512_S32x512) (ix2 t c) = Ub h x c (352 + t) := by
  rw [Ub_x h x c 7 t ⟨224 + t, by omega⟩ _ (by show 352 + (t : ℕ) = 48 * 7 + 16 + t; omega) (by show 224 + (t : ℕ) = 32 * 7 + t; omega)]
  pointwise [k0_pay5]

/-- The sums of two over the loaded parts. -/
theorem pair_at (h : Vec Ideal S8x16x512 .f32) (x : Vec Ideal S256x512 .f32) (c : Fin 512) (q : Fin 384) (hq : 1 ≤ (q : ℕ)) :
    k0_pay14 (F := Ideal) (k0_pay4 (View.ld h r0_1)) (k0_pay5 (View.ld x r0_2)) (k0_pay6 (View.ld h r0_3)) (k0_pay7 (View.ld x r0_4)) (k0_pay8 (View.ld h r0_5)) (k0_pay9 (View.ld x r0_6)) (k0_pay10 (View.ld h r0_7)) (k0_pay11 (View.ld x r0_8)) (k0_pay12 (View.ld h r0_9)) (k0_pay13 (View.ld x r0_10)) (View.ld h r0_11) (View.ld x r0_12) (View.ld h r0_13) (View.ld x r0_14) (View.ld h r0_15) (View.ld x r0_16) (ix2 q c) = Pool.run 1 (Ub h x c) q :=
  pay14_at _ _ _ _ _ _ _ _ _ _ _ _ _ _ _ _ c (Ub h x c) (fun q => CAT_at _ _ _ _ _ _ _ _ _ _ _ _ _ _ _ _ c (Ub h x c)
    (fun t => h0_at h x t c) (fun t => x0_at h x t c) (fun t => h1_at h x t c) (fun t => x1_at h x t c) (fun t => h2_at h x t c) (fun t => x2_at h x t c) (fun t => h3_at h x t c) (fun t => x3_at h x t c) (fun t => h4_at h x t c) (fun t => x4_at h x t c) (fun t => h5_at h x t c) (fun t => x5_at h x t c) (fun t => h6_at h x t c) (fun t => x6_at h x t c) (fun t => h7_at h x t c) (fun t => x7_at h x t c) q) q hq

/-- The first group's loads and the first quarter's. -/
theorem u0_at (x : Vec Ideal S256x512 .f32) (r : Fin 256) (k : Fin 128) (l : Fin 512) (h : (l : ℕ) = 0 + k) : View.ld x r0_17 (ix2 r k) = x (ix2 r l) := by
  rw [show l = ⟨k, by omega⟩ from Fin.ext (h.trans (Nat.zero_add _))]
  pointwise
theorem w0_at (x : Vec Ideal S4x128x128 .f32) (k e : Fin 128) : View.ld x r0_18 (ix3 0 k e) = x (ix3 0 k e) := by
  pointwise
theorem s0_at (x : Vec Ideal S1x512 .f32) (k : Fin 128) (l : Fin 512) (h : (l : ℕ) = 0 + k) : View.ld x r0_19 (ix2 0 k) = x (ix2 0 l) := by
  rw [show l = ⟨k, by omega⟩ from Fin.ext (h.trans (Nat.zero_add _))]
  pointwise
theorem o0_at (x : Vec Ideal S256x512 .bf16) (s : Fin 64) (r : Fin 256) (h : (r : ℕ) = 0 + s) (c : Fin 512) : View.ld x r0_20 (ix2 s c) = x (ix2 r c) := by
  rw [show r = ⟨s, by omega⟩ from Fin.ext (h.trans (Nat.zero_add _))]
  pointwise
theorem g0_at (x : Vec Ideal S256x2048 .bf16) (s : Fin 64) (r : Fin 256) (h : (r : ℕ) = 0 + s) (j : Fin 1024) :
    View.ld x r0_21 (ix2 s j) = x (ix2 r ⟨1024 + j, by omega⟩) := by
  rw [show r = ⟨s, by omega⟩ from Fin.ext (h.trans (Nat.zero_add _))]
  pointwise

/-- The second group's loads and the second quarter's. -/
theorem u1_at (x : Vec Ideal S256x512 .f32) (r : Fin 256) (k : Fin 128) (l : Fin 512) (h : (l : ℕ) = 128 + k) : View.ld x r0_22 (ix2 r k) = x (ix2 r l) := by
  rw [show l = ⟨128 + k, by omega⟩ from Fin.ext h]
  pointwise
theorem w1_at (x : Vec Ideal S4x128x128 .f32) (k e : Fin 128) : View.ld x r0_23 (ix3 0 k e) = x (ix3 1 k e) := by
  pointwise
theorem s1_at (x : Vec Ideal S1x512 .f32) (k : Fin 128) (l : Fin 512) (h : (l : ℕ) = 128 + k) : View.ld x r0_24 (ix2 0 k) = x (ix2 0 l) := by
  rw [show l = ⟨128 + k, by omega⟩ from Fin.ext h]
  pointwise
theorem o1_at (x : Vec Ideal S256x512 .bf16) (s : Fin 64) (r : Fin 256) (h : (r : ℕ) = 64 + s) (c : Fin 512) : View.ld x r0_25 (ix2 s c) = x (ix2 r c) := by
  rw [show r = ⟨64 + s, by omega⟩ from Fin.ext h]
  pointwise
theorem g1_at (x : Vec Ideal S256x2048 .bf16) (s : Fin 64) (r : Fin 256) (h : (r : ℕ) = 64 + s) (j : Fin 1024) :
    View.ld x r0_26 (ix2 s j) = x (ix2 r ⟨1024 + j, by omega⟩) := by
  rw [show r = ⟨64 + s, by omega⟩ from Fin.ext h]
  pointwise

/-- The third group's loads and the third quarter's. -/
theorem u2_at (x : Vec Ideal S256x512 .f32) (r : Fin 256) (k : Fin 128) (l : Fin 512) (h : (l : ℕ) = 256 + k) : View.ld x r0_27 (ix2 r k) = x (ix2 r l) := by
  rw [show l = ⟨256 + k, by omega⟩ from Fin.ext h]
  pointwise
theorem w2_at (x : Vec Ideal S4x128x128 .f32) (k e : Fin 128) : View.ld x r0_28 (ix3 0 k e) = x (ix3 2 k e) := by
  pointwise
theorem s2_at (x : Vec Ideal S1x512 .f32) (k : Fin 128) (l : Fin 512) (h : (l : ℕ) = 256 + k) : View.ld x r0_29 (ix2 0 k) = x (ix2 0 l) := by
  rw [show l = ⟨256 + k, by omega⟩ from Fin.ext h]
  pointwise
theorem o2_at (x : Vec Ideal S256x512 .bf16) (s : Fin 64) (r : Fin 256) (h : (r : ℕ) = 128 + s) (c : Fin 512) : View.ld x r0_30 (ix2 s c) = x (ix2 r c) := by
  rw [show r = ⟨128 + s, by omega⟩ from Fin.ext h]
  pointwise
theorem g2_at (x : Vec Ideal S256x2048 .bf16) (s : Fin 64) (r : Fin 256) (h : (r : ℕ) = 128 + s) (j : Fin 1024) :
    View.ld x r0_31 (ix2 s j) = x (ix2 r ⟨1024 + j, by omega⟩) := by
  rw [show r = ⟨128 + s, by omega⟩ from Fin.ext h]
  pointwise

/-- The last group's loads and the last quarter's. -/
theorem u3_at (x : Vec Ideal S256x512 .f32) (r : Fin 256) (k : Fin 128) (l : Fin 512) (h : (l : ℕ) = 384 + k) : View.ld x r0_32 (ix2 r k) = x (ix2 r l) := by
  rw [show l = ⟨384 + k, by omega⟩ from Fin.ext h]
  pointwise
theorem w3_at (x : Vec Ideal S4x128x128 .f32) (k e : Fin 128) : View.ld x r0_33 (ix3 0 k e) = x (ix3 3 k e) := by
  pointwise
theorem s3_at (x : Vec Ideal S1x512 .f32) (k : Fin 128) (l : Fin 512) (h : (l : ℕ) = 384 + k) : View.ld x r0_34 (ix2 0 k) = x (ix2 0 l) := by
  rw [show l = ⟨384 + k, by omega⟩ from Fin.ext h]
  pointwise
theorem o3_at (x : Vec Ideal S256x512 .bf16) (s : Fin 64) (r : Fin 256) (h : (r : ℕ) = 192 + s) (c : Fin 512) : View.ld x r0_35 (ix2 s c) = x (ix2 r c) := by
  rw [show r = ⟨192 + s, by omega⟩ from Fin.ext h]
  pointwise
theorem g3_at (x : Vec Ideal S256x2048 .bf16) (s : Fin 64) (r : Fin 256) (h : (r : ℕ) = 192 + s) (j : Fin 1024) :
    View.ld x r0_36 (ix2 s j) = x (ix2 r ⟨1024 + j, by omega⟩) := by
  rw [show r = ⟨192 + s, by omega⟩ from Fin.ext h]
  pointwise

/-- The first branch's gate's load. -/
theorem ga_at (x : Vec Ideal S256x2048 .bf16) (r : Fin 256) (j : Fin 1024) : View.ld x r0_37 (ix2 r j) = x (ix2 r ⟨j, by omega⟩) := by
  pointwise

/-- The body's stored block at an index, over whole input blocks: the stream plus the merged row's product. -/
theorem block_at (x0 : FVec Ideal S256x1024 .f32) (x1 : FVec Ideal S256x512 .f32) (x2 : FVec Ideal S8x16x512 .f32) (x3 : FVec Ideal S256x512 .bf16)
    (x4 : FVec Ideal S256x2048 .bf16) (x5 : FVec Ideal S4x128x128 .f32) (x6 : FVec Ideal S1x512 .f32) (x7 x8 : FVec Ideal S512x1024 .f32)
    (x9 : FVec Ideal S1024x1024 .f32) (r : Fin 256) (l : Fin 1024) (U : Fin 512 → ℕ → EReal) (p : ℕ) (hp : p = 1024 + (r : ℕ) % 32)
    (hU : ∀ c n, n < 48 → Ub x2 x1 c ((r : ℕ) / 32 * 48 + n) = U c (1024 + n)) :
    out0_10 (F := Ideal) x0 x1 x2 x3 x4 x5 x6 x7 x8 x9 (ix2 r l) = x0 (ix2 r l)
      + ∑ j : Fin 1024, Pool.merged (Pool.mixed U p (fun g k e => x5 (ix3 g k e)) (fun c => x6 (ix2 0 c))) (fun c => x3 (ix2 r c))
          (fun j => x4 (ix2 r ⟨j, by omega⟩)) (fun j => x4 (ix2 r ⟨1024 + j, by omega⟩)) (fun c j => x7 (ix2 c j)) (fun c j => x8 (ix2 c j)) j * x9 (ix2 j l) := by
  have h3 : k0_pay3 (ix2 r 0) = BitVec.ofNat 32 p := by rw [hp, pay3_at]
  have hrun : ∀ (k : ℕ) (c : Fin 512), k ≤ 4 → Pool.run k (Ub x2 x1 c) (Q r) = Pool.run k (U c) (p + 16) := fun k c hk => by
    refine Pool.run_congr _ _ k (Q r) (p + 16) fun n hn => ?_
    unfold Q
    have : 2 ^ k ≤ 2 ^ 4 := Nat.pow_le_pow_right (by omega) hk
    have e := hU c (16 + (r : ℕ) % 32 - n) (by omega)
    refine Eq.trans (congrArg (Ub x2 x1 c) ?_) (e.trans (congrArg (U c) ?_))
    · omega
    · omega
  have hown : ∀ c : Fin 512, x1 (ix2 r c) = U c (p + 16) := fun c => by
    refine Eq.trans ?_ (hrun 0 c (by omega))
    unfold Pool.run
    exact (Ub_x x2 x1 c ⟨(r : ℕ) / 32, by omega⟩ ⟨(r : ℕ) % 32, by omega⟩ r (Q r) (by unfold Q; dsimp only; omega) (by dsimp only; omega)).symm
  have h14 : ∀ (n : Fin 512) (q : Fin 384), 1 ≤ (q : ℕ) → k0_pay14 (F := Ideal) (k0_pay4 (View.ld x2 r0_1)) (k0_pay5 (View.ld x1 r0_2)) (k0_pay6 (View.ld x2 r0_3)) (k0_pay7 (View.ld x1 r0_4)) (k0_pay8 (View.ld x2 r0_5)) (k0_pay9 (View.ld x1 r0_6)) (k0_pay10 (View.ld x2 r0_7)) (k0_pay11 (View.ld x1 r0_8)) (k0_pay12 (View.ld x2 r0_9)) (k0_pay13 (View.ld x1 r0_10)) (View.ld x2 r0_11) (View.ld x1 r0_12) (View.ld x2 r0_13) (View.ld x1 r0_14) (View.ld x2 r0_15) (View.ld x1 r0_16) (ix2 q n) = Pool.run 1 (Ub x2 x1 n) q := fun n q hq => pair_at x2 x1 n q hq
  unfold_out out0_10
  frame_out
  have h21 : ∀ (q : Fin 384) (k : Fin 384) (n : Fin 512), 3 ≤ (q : ℕ) → (n : ℕ) = 128 + k → _ := fun q k n hq hn =>
    pay21_at _ q k n _ hn hq (h14 n)
  have h27 : ∀ (q : Fin 384) (k : Fin 256) (n : Fin 512), 7 ≤ (q : ℕ) → (n : ℕ) = 256 + k → _ := fun q k n hq hn =>
    pay27_at _ q k ⟨128 + k, by omega⟩ _ rfl hq fun q hq => h21 q ⟨128 + k, by omega⟩ n hq (by show (n : ℕ) = 128 + (128 + k); omega)
  have h36 : ∀ (q : Fin 384) (k : Fin 128) (n : Fin 512), 15 ≤ (q : ℕ) → (n : ℕ) = 384 + k → _ := fun q k n hq hn =>
    pay36_at _ q k ⟨128 + k, by omega⟩ _ rfl hq fun q hq => h27 q ⟨128 + k, by omega⟩ n hq (by show (n : ℕ) = 256 + (128 + k); omega)
  refine (pay45_at _ _ _ _ _ _ _ _ _ _ _ _ _ r l (Pool.mixed U p (fun g k e => x5 (ix3 g k e)) (fun c => x6 (ix2 0 c)))
    (fun j => Pool.logistic (x4 (ix2 r ⟨1024 + j, by omega⟩)) * ∑ c, x3 (ix2 r c) * x8 (ix2 c j)) ?_ ?_ ?_ ?_ ?_ ?_ ?_ ?_).trans ?_
  · intro c e hc
    rw [pay19_at]
    refine Pool.mixed_of U p _ _ 0 e c (by show (c : ℕ) = 0 * 128 + e; omega) _ _ _ (fun k n hn => ?_) (fun k => (pay16_at _ k e).trans (w0_at x5 k e)) (s0_at x6 e c (by omega))
    have hk : (n : ℕ) = 0 + k := by rw [hn]; show 0 * 128 + (k : ℕ) = _; omega
    rw [pay15_at _ _ _ _ _ _ _ _ _ _ _ _ _ _ _ _ _ _ r k p h3 _ n (by omega) (h14 n), u0_at x1 r k n hk, hown, hrun 1 n (by omega)]
    rfl
  · intro c e hc
    rw [pay25_at]
    refine Pool.mixed_of U p _ _ 1 e c (by show (c : ℕ) = 1 * 128 + e; omega) _ _ _ (fun k n hn => ?_) (fun k => w1_at x5 k e) (s1_at x6 e c (by omega))
    have hk : (n : ℕ) = 128 + k := by rw [hn]; show 1 * 128 + (k : ℕ) = _; omega
    rw [pay22_at _ _ r k p h3 _ ⟨k, by omega⟩ rfl (fun q hq => h21 q ⟨k, by omega⟩ n hq (by exact hk)), u1_at x1 r k n hk, hown, hrun 2 n (by omega)]
    rfl
  · intro c e hc
    rw [pay33_at _ _ _ _ _ r e p h3 (fun k => Ub x2 x1 ⟨256 + k, by omega⟩) (fun k q hq => h27 q ⟨k, by omega⟩ ⟨256 + k, by omega⟩ hq rfl)]
    refine Pool.mixed_of U p _ _ 2 e c (by show (c : ℕ) = 2 * 128 + e; omega) _ _ _ (fun k n hn => ?_) (fun k => w2_at x5 k e) (s2_at x6 e c (by omega))
    have hk : (n : ℕ) = 256 + k := by rw [hn]; show 2 * 128 + (k : ℕ) = _; omega
    rw [u2_at x1 r k n hk, hown, show (⟨256 + k, by omega⟩ : Fin 512) = n from Fin.ext hk.symm, hrun 3 n (by omega)]
    rfl
  · intro c e hc
    rw [pay39_at _ _ _ _ _ r e p h3 (fun k => Ub x2 x1 ⟨384 + k, by omega⟩) (fun k q hq => h36 q k ⟨384 + k, by omega⟩ hq rfl)]
    refine Pool.mixed_of U p _ _ 3 e c (by show (c : ℕ) = 3 * 128 + e; omega) _ _ _ (fun k n hn => ?_) (fun k => w3_at x5 k e) (s3_at x6 e c (by omega))
    have hk : (n : ℕ) = 384 + k := by rw [hn]; show 3 * 128 + (k : ℕ) = _; omega
    rw [u3_at x1 r k n hk, hown, show (⟨384 + k, by omega⟩ : Fin 512) = n from Fin.ext hk.symm, hrun 4 n (by omega)]
    rfl
  · intro s j h
    rw [pay20_at, g0_at x4 s r (by omega)]
    simp only [o0_at x3 s r (by omega), pay2_at]
  · intro s j h
    rw [pay26_at, g1_at x4 s r h]
    simp only [o1_at x3 s r h, pay2_at]
  · intro s j h
    rw [pay35_at, g2_at x4 s r h]
    simp only [o2_at x3 s r h, pay2_at]
  · intro s j h
    rw [pay40_at, g3_at x4 s r h]
    simp only [o3_at x3 s r h, pay2_at]
  · exact congrArg (x0 (ix2 r l) + ·) (Finset.sum_congr rfl fun j _ => congrArg (· * x9 (ix2 j l))
      (congrArg (· + _) (congrArg (fun z => Pool.logistic z * _) (ga_at x4 r j))))

end Cert.MergeSampleIdeal.Val

end
-- ==== Proof.MergeSample.Ref.lean ====
/- The sample batch's pool mixer and gated merge: the reference, read at an index. -/
module

public import proofs.«01_k».proof.Proof.Gen.MergeSampleRefIdeal.Run
public import proofs.«01_k».proof.Proof.Merge.Ref
public import Idealize.ShloMosaic.Lib.Pipeline.ValueKit

@[expose] public section

set_option maxRecDepth 16384

noncomputable section

namespace Cert.MergeSampleRefIdeal.Val

open Cert.MergeSampleRefIdeal Cert.MergeSampleRefIdeal.Gen Idealize.ShloMosaic Idealize.ShloMosaic.TcCoe Idealize.SL.Sem
open Cert.MergeRefIdeal.Val (foldl_sum windowed)

/-- The pooled columns after the fifteen rows kept from before. -/
def PAD (z : FVec Ideal S1x8x15x512 .f32) (u : FVec Ideal S8x32x512 .f32) : FVec Ideal S8x47x512 .f32 :=
  concatenate S8x47x512 1 [⟨S8x15x512, shapeCast _ z shapeCasts_S1x8x15x512_S8x15x512⟩, ⟨S8x32x512, u⟩] concatenates_S8x15x512_S8x32x512_S8x47x512_d1

/-- The running totals down the rows. -/
def RW (x : FVec Ideal S8x47x512 .f32) : FVec Ideal S8x47x512 .f32 :=
  Host.reduceWindowAdd ![1, 47, 1] ![1, 1, 1] ![0, 46, 0] ![0, 0, 0] x (broadcastInDim S_ ![] bcast_S_S_ (constant S_ .f32 0x00000000#32)) reduceWindows_S8x47x512_S8x47x512_w1s1p0_0_w47s1p46_0_w1s1p0_0 h_S_

/-- The running totals after a zero row. -/
def CS (x : FVec Ideal S8x47x512 .f32) : FVec Ideal S8x48x512 .f32 :=
  concatenate S8x48x512 1 [⟨S8x1x512, (broadcastInDim S8x1x512 ![] bcast_S_S8x1x512 (constant S_ .f32 0x00000000#32))⟩, ⟨S8x47x512, x⟩] concatenates_S8x1x512_S8x47x512_S8x48x512_d1

/-- The counts of a window's positions, along a group's columns. -/
def CNT (w : BitVec 32) : FVec Ideal S8x32x128 .f32 :=
  broadcastInDim S8x32x128 ![0, 1, 2] bcast_S1x32x1_S8x32x128_0_1_2 (broadcastInDim S1x32x1 ![1] bcast_S32_S1x32x1_1 (sitofp .f32 (minsi (broadcastInDim S32 ![] bcast_S_S32 (constantI S_ 32 w)) (addi (addi (broadcastInDim S32 ![] bcast_S_S32 (constantI S_ 32 1024#32)) (iotaInDim S32 32 0)) (broadcastInDim S32 ![] bcast_S_S32 (constantI S_ 32 1#32))))))

/-- The means over windows of 2, the channels of group 0. -/
def M0 (cs : FVec Ideal S8x48x512 .f32) : FVec Ideal S8x32x128 .f32 :=
  Host.divf (subf (extractStridedSlice S8x32x128 ![0, 0, 0] (extractStridedSlice S8x32x512 ![0, 16, 0] cs slices_S8x48x512_S8x32x512_0_16_0) slices_S8x32x512_S8x32x128_0_0_0) (extractStridedSlice S8x32x128 ![0, 14, 0] cs slices_S8x48x512_S8x32x128_0_14_0)) (CNT 2#32)

/-- The means over windows of 4, the channels of group 1. -/
def M1 (cs : FVec Ideal S8x48x512 .f32) : FVec Ideal S8x32x128 .f32 :=
  Host.divf (subf (extractStridedSlice S8x32x128 ![0, 0, 128] (extractStridedSlice S8x32x512 ![0, 16, 0] cs slices_S8x48x512_S8x32x512_0_16_0) slices_S8x32x512_S8x32x128_0_0_128) (extractStridedSlice S8x32x128 ![0, 12, 128] cs slices_S8x48x512_S8x32x128_0_12_128)) (CNT 4#32)

/-- The means over windows of 8, the channels of group 2. -/
def M2 (cs : FVec Ideal S8x48x512 .f32) : FVec Ideal S8x32x128 .f32 :=
  Host.divf (subf (extractStridedSlice S8x32x128 ![0, 0, 256] (extractStridedSlice S8x32x512 ![0, 16, 0] cs slices_S8x48x512_S8x32x512_0_16_0) slices_S8x32x512_S8x32x128_0_0_256) (extractStridedSlice S8x32x128 ![0, 8, 256] cs slices_S8x48x512_S8x32x128_0_8_256)) (CNT 8#32)

/-- The means over windows of 16, the channels of group 3. -/
def M3 (cs : FVec Ideal S8x48x512 .f32) : FVec Ideal S8x32x128 .f32 :=
  Host.divf (subf (extractStridedSlice S8x32x128 ![0, 0, 384] (extractStridedSlice S8x32x512 ![0, 16, 0] cs slices_S8x48x512_S8x32x512_0_16_0) slices_S8x32x512_S8x32x128_0_0_384) (extractStridedSlice S8x32x128 ![0, 0, 384] cs slices_S8x48x512_S8x32x128_0_0_384)) (CNT 16#32)

/-- The means side by side, less the columns themselves. -/
def DD (m0 m1 m2 m3 : FVec Ideal S8x32x128 .f32) (u : FVec Ideal S8x32x512 .f32) : FVec Ideal S8x32x512 .f32 :=
  subf (concatenate S8x32x512 2 [⟨S8x32x128, m0⟩, ⟨S8x32x128, m1⟩, ⟨S8x32x128, m2⟩, ⟨S8x32x128, m3⟩] concatenates_S8x32x128_S8x32x128_S8x32x128_S8x32x128_S8x32x512_d2) u

/-- The mixed channels, scaled. -/
def MIX (d : FVec Ideal S8x32x512 .f32) (a5 : FVec Ideal S1x4x128x128 .f32) (a6 : FVec Ideal S1x512 .f32) : FVec Ideal S8x32x512 .f32 :=
  mulf (shapeCast _ (transpose S8x32x4x128 [2, 3, 0, 1] (Host.dotGeneral dot_S4x128x128_S8x32x4x128_S4x128x8x32_1_3_2_01_0_2 none (shapeCast _ a5 shapeCasts_S1x4x128x128_S4x128x128) (shapeCast _ d shapeCasts_S8x32x512_S8x32x4x128)) transposes_S4x128x8x32_S8x32x4x128_2_3_0_1) shapeCasts_S8x32x4x128_S8x32x512) (broadcastInDim S8x32x512 ![0, 1, 2] bcast_S1x1x512_S8x32x512_0_1_2 (broadcastInDim S1x1x512 ![2] bcast_S512_S1x1x512_2 (shapeCast _ a6 shapeCasts_S1x512_S512)))

/-- A gate over a branch's product. -/
def SIDE (z : FVec Ideal S8x32x1024 .f32) (x : FVec Ideal S8x32x512 .f32) (w : FVec Ideal S1x512x1024 .f32) : FVec Ideal S8x32x1024 .f32 :=
  mulf (Host.divf (broadcastInDim S8x32x1024 ![] bcast_S_S8x32x1024 (constant S_ .f32 0x3F800000#32)) (addf (broadcastInDim S8x32x1024 ![] bcast_S_S8x32x1024 (constant S_ .f32 0x3F800000#32)) (Host.exp (Host.negf z)))) (Host.dotGeneral dot_S8x32x512_S512x1024_S8x32x1024_2_0_01_1_n_n none x (shapeCast _ w shapeCasts_S1x512x1024_S512x1024))

/-- The stream plus the merged row's product with the last weight, as rows. -/
def FIN (a0 mg : FVec Ideal S8x32x1024 .f32) (a9 : FVec Ideal S1x1024x1024 .f32) : FVec Ideal S256x1024 .f32 :=
  shapeCast _ (addf a0 (Host.dotGeneral dot_S8x32x1024_S1024x1024_S8x32x1024_2_0_01_1_n_n none mg (shapeCast _ a9 shapeCasts_S1x1024x1024_S1024x1024))) shapeCasts_S8x32x1024_S256x1024

/-- The centred channels. -/
def CEN (z : FVec Ideal S1x8x15x512 .f32) (u : FVec Ideal S8x32x512 .f32) : FVec Ideal S8x32x512 .f32 :=
  DD (M0 (CS (RW (PAD z u)))) (M1 (CS (RW (PAD z u)))) (M2 (CS (RW (PAD z u)))) (M3 (CS (RW (PAD z u)))) u

/-- The reference's first result over its eleven arguments. -/
def REF (a0 : FVec Ideal S8x32x1024 .f32) (a1 a2 : FVec Ideal S8x32x512 .f32) (a3 a4 : FVec Ideal S8x32x1024 .f32)
    (a5 : FVec Ideal S1x8x15x512 .f32) (a6 : FVec Ideal S1x4x128x128 .f32) (a7 : FVec Ideal S1x512 .f32) (a8 a9 : FVec Ideal S1x512x1024 .f32)
    (a10 : FVec Ideal S1x1024x1024 .f32) : FVec Ideal S256x1024 .f32 :=
  FIN a0 (addf (SIDE a3 (MIX (CEN a5 a1) a6 a7) a8) (SIDE a4 a2 a9)) a10

/-- The generated run's first result is `REF` of the arguments. -/
theorem res_eq (m : (ℓ : Loc nD τ sig) → Buf (Elt Ideal) ℓ) (c : Dev nD) :
    Value.res_main_v86 m c = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10)) := rfl

/-- The entry at a position of a channel counted from sixteen rows before the first new one: the fifteen rows kept, then the new rows; zero
    elsewhere. -/
def Uat (z : FVec Ideal S1x8x15x512 .f32) (u : FVec Ideal S8x32x512 .f32) (b : Fin 8) (c : Fin 512) (n : ℕ) : EReal :=
  if h : 16 ≤ n ∧ n < 48 then u (ix3 b ⟨n - 16, by omega⟩ c)
  else if h : 1 ≤ n ∧ n < 16 then z (ix4 0 b ⟨n - 1, by omega⟩ c) else 0

/-- The same by the position in the stream, whose first new row is at 1024. -/
def Upos (z : FVec Ideal S1x8x15x512 .f32) (u : FVec Ideal S8x32x512 .f32) (b : Fin 8) (c : Fin 512) (n : ℕ) : EReal := Uat z u b c (n - 1024)

/-- A window's sum at a row is the one at its position. -/
theorem run_pos (z : FVec Ideal S1x8x15x512 .f32) (u : FVec Ideal S8x32x512 .f32) (b : Fin 8) (c : Fin 512) (k p : ℕ) (hk : k ≤ 4) :
    Pool.run k (Upos z u b c) (1024 + p + 16) = Pool.run k (Uat z u b c) (p + 16) := by
  refine Pool.run_congr _ _ k _ _ fun n hn => ?_
  have : 2 ^ k ≤ 2 ^ 4 := Nat.pow_le_pow_right (by omega) hk
  exact congrArg (Uat z u b c) (by omega)

/-- The count at a row of the stream. -/
theorem cnt_pos (w p : ℕ) : FloatOps.sitofp (F := Ideal) .f32 (IntOp.minsi (BitVec.ofNat 32 w) (IntOp.addi (IntOp.addi (1024#32) (BitVec.ofNat 32 p)) 1#32)) = Pool.cnt w (1024 + p) := by
  unfold Pool.cnt
  exact congrArg (fun a => FloatOps.sitofp (F := Ideal) .f32 (IntOp.minsi (BitVec.ofNat 32 w) (IntOp.addi a 1#32))) (BitVec.ofNat_add (n := 32) 1024 p).symm

/-- The padded columns at an index. -/
theorem PAD_at (z : FVec Ideal S1x8x15x512 .f32) (u : FVec Ideal S8x32x512 .f32) (b : Fin 8) (n : Fin 47) (c : Fin 512) :
    PAD z u (ix3 b n c) = Uat z u b c (n + 1) := by
  unfold Uat
  pointwise [PAD]
  by_cases h : (n : ℕ) < 15
  · rw [dif_pos h, dif_neg (by omega), dif_pos (by omega)]
    rfl
  · rw [dif_neg h, dif_pos (by omega)]
    exact congrArg u (funext fun a => by fin_cases a <;> first | rfl | exact Fin.ext (by simp))

/-- An index of a window along the rows is its row. -/
def rowEquiv : (⟨3, ![1, 47, 1]⟩ : Shape).Idx ≃ Fin 47 where
  toFun j := j 1
  invFun n := ix3 0 n 0
  left_inv j := by
    refine funext fun a => ?_
    fin_cases a
    · exact Fin.ext (Nat.lt_one_iff.mp (j 0).isLt).symm
    · rfl
    · exact Fin.ext (Nat.lt_one_iff.mp (j 2).isLt).symm
  right_inv n := rfl

/-- A window's index by its position. -/
abbrev winIdx (i : Fin (⟨3, ![1, 47, 1]⟩ : Shape).numel) : (⟨3, ![1, 47, 1]⟩ : Shape).Idx := (Shape.rowMajor _).symm i

/-- The windowed sum at a row: the rows up to it. -/
theorem RW_at (x : FVec Ideal S8x47x512 .f32) (b : Fin 8) (t : Fin 47) (c : Fin 512) :
    RW x (ix3 b t c) = ∑ n : Fin 47, if hn : 46 ≤ (t : ℕ) + n then x (ix3 b ⟨t + n - 46, by omega⟩ c) else 0 := by
  have hv : (broadcastInDim S_ ![] bcast_S_S_ (constant (F := Ideal) S_ .f32 0x00000000#32)) (Shape.Idx.first h_S_) = (0 : EReal) := by
    pointwise
  unfold RW
  rw [windowed _ _ _ _ _ _ _ _ hv]
  unfold Host.reduceWindow
  dsimp only
  rw [foldl_sum, zero_add, ← Fin.sum_univ_def]
  refine Fintype.sum_equiv ((Shape.rowMajor ⟨3, ![1, 47, 1]⟩).symm.trans rowEquiv) _ _ fun i => ?_
  rw [Equiv.trans_apply]
  have e4 : ((rowEquiv (winIdx i) : Fin 47) : ℕ) = (winIdx i) 1 := rfl
  have j0 : ((winIdx i) 0 : ℕ) = 0 := Nat.lt_one_iff.mp ((winIdx i) 0).isLt
  have j1 : ((winIdx i) 1 : ℕ) < 47 := ((winIdx i) 1).isLt
  have j2 : ((winIdx i) 2 : ℕ) = 0 := Nat.lt_one_iff.mp ((winIdx i) 2).isLt
  have e0 : (ix3 b t c 0 : ℕ) = b := rfl
  have e1 : (ix3 b t c 1 : ℕ) = t := rfl
  have e2 : (ix3 b t c 2 : ℕ) = c := rfl
  by_cases hk : 46 ≤ (t : ℕ) + (rowEquiv (winIdx i) : Fin 47)
  · rw [dif_pos hk, dif_pos]
    · refine congrArg x (funext fun a => ?_)
      fin_cases a
      · exact Fin.ext (by show (b : ℕ) * 1 + ((winIdx i) 0 : ℕ) - 0 = b; omega)
      · exact Fin.ext (by show (t : ℕ) * 1 + ((winIdx i) 1 : ℕ) - 46 = t + (rowEquiv (winIdx i) : Fin 47) - 46; omega)
      · exact Fin.ext (by show (c : ℕ) * 1 + ((winIdx i) 2 : ℕ) - 0 = c; omega)
    · intro a
      fin_cases a
      · exact ⟨Nat.zero_le _, by show (b : ℕ) * 1 + ((winIdx i) 0 : ℕ) - 0 < 8; omega⟩
      · exact ⟨by show 46 ≤ (t : ℕ) * 1 + ((winIdx i) 1 : ℕ); omega, by show (t : ℕ) * 1 + ((winIdx i) 1 : ℕ) - 46 < 47; omega⟩
      · exact ⟨Nat.zero_le _, by show (c : ℕ) * 1 + ((winIdx i) 2 : ℕ) - 0 < 512; omega⟩
  · rw [dif_neg hk, dif_neg]
    intro ha
    have h3 : 46 ≤ (t : ℕ) * 1 + ((winIdx i) 1 : ℕ) := (ha 1).1
    omega

/-- The running total at a row, over entries given by position. -/
theorem RW_sum (x : FVec Ideal S8x47x512 .f32) (b : Fin 8) (t : Fin 47) (c : Fin 512) (f : ℕ → EReal)
    (hf : ∀ n : Fin 47, x (ix3 b n c) = f n) : RW x (ix3 b t c) = ∑ i ∈ Finset.range (t + 1), f i := by
  rw [RW_at]
  simp only [hf, dite_eq_ite]
  rw [Fin.sum_univ_eq_sum_range (fun n : ℕ => if 46 ≤ (t : ℕ) + n then f (t + n - 46) else 0) 47, ← Finset.sum_filter]
  refine Finset.sum_nbij' (fun n => t + n - 46) (fun i => i + 46 - t) ?_ ?_ ?_ ?_ ?_
  all_goals (intro a ha; simp only [Finset.mem_filter, Finset.mem_range] at *; try omega)

/-- The running totals at an index. -/
theorem CS_at (z : FVec Ideal S1x8x15x512 .f32) (u : FVec Ideal S8x32x512 .f32) (b : Fin 8) (n : Fin 48) (c : Fin 512) :
    CS (RW (PAD z u)) (ix3 b n c) = ∑ i ∈ Finset.range n, Uat z u b c (i + 1) := by
  have hr : ∀ t : Fin 47, RW (PAD z u) (ix3 b t c) = ∑ i ∈ Finset.range (t + 1), Uat z u b c (i + 1) := fun t =>
    RW_sum _ b t c (fun i => Uat z u b c (i + 1)) fun n => PAD_at z u b n c
  generalize RW (PAD z u) = x at hr
  pointwise [CS]
  by_cases h : (n : ℕ) < 1
  · rw [dif_pos h, Nat.lt_one_iff.mp h, Finset.sum_range_zero]
  · rw [dif_neg h, hr]
    exact congrArg (fun l => ∑ i ∈ Finset.range l, Uat z u b c (i + 1)) (by show (n : ℕ) - 1 + 1 = n; omega)

/-- Group 0's means at an index. -/
theorem M0_at (z : FVec Ideal S1x8x15x512 .f32) (u : FVec Ideal S8x32x512 .f32) (b : Fin 8) (p : Fin 32) (k : Fin 128) (c : Fin 512) (hc : (c : ℕ) = 0 + k)
    (hf : ∀ i, Uat z u b c i ≠ ⊤ ∧ Uat z u b c i ≠ ⊥) :
    M0 (CS (RW (PAD z u))) (ix3 b p k) = Ideal.div (Pool.run 1 (Uat z u b c) (p + 16)) (Pool.cnt 2 (1024 + p)) := by
  have e := Pool.run_eq_sub (Uat z u b c) hf 1 (p + 14)
  have h0 := CS_at z u b ⟨p + 16, by omega⟩ c
  have h1 := CS_at z u b ⟨p + 14, by omega⟩ c
  generalize CS (RW (PAD z u)) = x at h0 h1
  rw [show (p : ℕ) + 14 + 2 ^ 1 = p + 16 by omega] at e
  rw [← e, ← h0, ← h1]
  have hC := cnt_pos 2 p
  generalize Pool.cnt 2 (1024 + p) = C at hC
  pointwise [M0, CNT]
  have e0 : (⟨16 + (p : ℕ), by omega⟩ : Fin 48) = ⟨p + 16, by omega⟩ := Fin.ext (Nat.add_comm _ _)
  have ek : (⟨k, by omega⟩ : Fin 512) = c := Fin.ext (by show (k : ℕ) = c; omega)
  rw [hC, ek, e0]
  rw [show (⟨14 + (p : ℕ), by omega⟩ : Fin 48) = ⟨p + 14, by omega⟩ from Fin.ext (Nat.add_comm _ _)]

/-- Group 1's means at an index. -/
theorem M1_at (z : FVec Ideal S1x8x15x512 .f32) (u : FVec Ideal S8x32x512 .f32) (b : Fin 8) (p : Fin 32) (k : Fin 128) (c : Fin 512) (hc : (c : ℕ) = 128 + k)
    (hf : ∀ i, Uat z u b c i ≠ ⊤ ∧ Uat z u b c i ≠ ⊥) :
    M1 (CS (RW (PAD z u))) (ix3 b p k) = Ideal.div (Pool.run 2 (Uat z u b c) (p + 16)) (Pool.cnt 4 (1024 + p)) := by
  have e := Pool.run_eq_sub (Uat z u b c) hf 2 (p + 12)
  have h0 := CS_at z u b ⟨p + 16, by omega⟩ c
  have h1 := CS_at z u b ⟨p + 12, by omega⟩ c
  generalize CS (RW (PAD z u)) = x at h0 h1
  rw [show (p : ℕ) + 12 + 2 ^ 2 = p + 16 by omega] at e
  rw [← e, ← h0, ← h1]
  have hC := cnt_pos 4 p
  generalize Pool.cnt 4 (1024 + p) = C at hC
  pointwise [M1, CNT]
  have e0 : (⟨16 + (p : ℕ), by omega⟩ : Fin 48) = ⟨p + 16, by omega⟩ := Fin.ext (Nat.add_comm _ _)
  have ek : (⟨128 + k, by omega⟩ : Fin 512) = c := Fin.ext (by show 128 + (k : ℕ) = c; omega)
  rw [hC, ek, e0]
  rw [show (⟨12 + (p : ℕ), by omega⟩ : Fin 48) = ⟨p + 12, by omega⟩ from Fin.ext (Nat.add_comm _ _)]

/-- Group 2's means at an index. -/
theorem M2_at (z : FVec Ideal S1x8x15x512 .f32) (u : FVec Ideal S8x32x512 .f32) (b : Fin 8) (p : Fin 32) (k : Fin 128) (c : Fin 512) (hc : (c : ℕ) = 256 + k)
    (hf : ∀ i, Uat z u b c i ≠ ⊤ ∧ Uat z u b c i ≠ ⊥) :
    M2 (CS (RW (PAD z u))) (ix3 b p k) = Ideal.div (Pool.run 3 (Uat z u b c) (p + 16)) (Pool.cnt 8 (1024 + p)) := by
  have e := Pool.run_eq_sub (Uat z u b c) hf 3 (p + 8)
  have h0 := CS_at z u b ⟨p + 16, by omega⟩ c
  have h1 := CS_at z u b ⟨p + 8, by omega⟩ c
  generalize CS (RW (PAD z u)) = x at h0 h1
  rw [show (p : ℕ) + 8 + 2 ^ 3 = p + 16 by omega] at e
  rw [← e, ← h0, ← h1]
  have hC := cnt_pos 8 p
  generalize Pool.cnt 8 (1024 + p) = C at hC
  pointwise [M2, CNT]
  have e0 : (⟨16 + (p : ℕ), by omega⟩ : Fin 48) = ⟨p + 16, by omega⟩ := Fin.ext (Nat.add_comm _ _)
  have ek : (⟨256 + k, by omega⟩ : Fin 512) = c := Fin.ext (by show 256 + (k : ℕ) = c; omega)
  rw [hC, ek, e0]
  rw [show (⟨8 + (p : ℕ), by omega⟩ : Fin 48) = ⟨p + 8, by omega⟩ from Fin.ext (Nat.add_comm _ _)]

/-- Group 3's means at an index. -/
theorem M3_at (z : FVec Ideal S1x8x15x512 .f32) (u : FVec Ideal S8x32x512 .f32) (b : Fin 8) (p : Fin 32) (k : Fin 128) (c : Fin 512) (hc : (c : ℕ) = 384 + k)
    (hf : ∀ i, Uat z u b c i ≠ ⊤ ∧ Uat z u b c i ≠ ⊥) :
    M3 (CS (RW (PAD z u))) (ix3 b p k) = Ideal.div (Pool.run 4 (Uat z u b c) (p + 16)) (Pool.cnt 16 (1024 + p)) := by
  have e := Pool.run_eq_sub (Uat z u b c) hf 4 (p + 0)
  have h0 := CS_at z u b ⟨p + 16, by omega⟩ c
  have h1 := CS_at z u b ⟨p + 0, by omega⟩ c
  generalize CS (RW (PAD z u)) = x at h0 h1
  rw [show (p : ℕ) + 0 + 2 ^ 4 = p + 16 by omega] at e
  rw [← e, ← h0, ← h1]
  have hC := cnt_pos 16 p
  generalize Pool.cnt 16 (1024 + p) = C at hC
  pointwise [M3, CNT]
  have e0 : (⟨16 + (p : ℕ), by omega⟩ : Fin 48) = ⟨p + 16, by omega⟩ := Fin.ext (Nat.add_comm _ _)
  have ek : (⟨384 + k, by omega⟩ : Fin 512) = c := Fin.ext (by show 384 + (k : ℕ) = c; omega)
  rw [hC, ek, e0]

/-- The centred channels at an index. -/
theorem CEN_at (z : FVec Ideal S1x8x15x512 .f32) (u : FVec Ideal S8x32x512 .f32) (b : Fin 8) (p : Fin 32) (c : Fin 512)
    (hf : ∀ c i, Uat z u b c i ≠ ⊤ ∧ Uat z u b c i ≠ ⊥) :
    CEN z u (ix3 b p c) = Pool.centred (Upos z u b) (1024 + p) c := by
  have hu : Uat z u b c (p + 16) = u (ix3 b p c) := by
    unfold Uat
    rw [dif_pos (by omega)]
    exact congrArg (fun q => u (ix3 b q c)) (Fin.ext (Nat.add_sub_cancel _ _))
  have hg : (c : ℕ) / 128 + 1 ≤ 4 := by omega
  unfold Pool.centred
  rw [run_pos z u b c _ p hg, show Upos z u b c (1024 + p + 16) = u (ix3 b p c) from (run_pos z u b c 0 p (by omega)).trans hu]
  have h0 : ∀ k : Fin 128, (c : ℕ) = 0 + k → _ := fun k h => M0_at z u b p k c h (hf c)
  have h1 : ∀ k : Fin 128, (c : ℕ) = 128 + k → _ := fun k h => M1_at z u b p k c h (hf c)
  have h2 : ∀ k : Fin 128, (c : ℕ) = 256 + k → _ := fun k h => M2_at z u b p k c h (hf c)
  have h3 : ∀ k : Fin 128, (c : ℕ) = 384 + k → _ := fun k h => M3_at z u b p k c h (hf c)
  unfold CEN
  generalize M0 (CS (RW (PAD z u))) = m0 at *
  generalize M1 (CS (RW (PAD z u))) = m1 at *
  generalize M2 (CS (RW (PAD z u))) = m2 at *
  generalize M3 (CS (RW (PAD z u))) = m3 at *
  generalize Uat z u b c = f at *
  pointwise [DD]
  refine congrArg (fun y : EReal => y - u (ix3 b p c)) ?_
  by_cases q0 : (c : ℕ) < 128
  · rw [dif_pos q0, show (c : ℕ) / 128 = 0 by omega]
    exact h0 _ (by show (c : ℕ) = 0 + c; omega)
  rw [dif_neg q0]
  by_cases q1 : (c : ℕ) - 128 < 128
  · rw [dif_pos q1, show (c : ℕ) / 128 = 1 by omega]
    exact h1 _ (by show (c : ℕ) = 128 + (c - 128); omega)
  rw [dif_neg q1]
  by_cases q2 : (c : ℕ) - 128 - 128 < 128
  · rw [dif_pos q2, show (c : ℕ) / 128 = 2 by omega]
    exact h2 _ (by show (c : ℕ) = 256 + (c - 128 - 128); omega)
  rw [dif_neg q2, show (c : ℕ) / 128 = 3 by omega]
  exact h3 _ (by show (c : ℕ) = 384 + (c - 128 - 128 - 128); omega)

/-- The mixed channels at an index. -/
theorem MIX_at (d : FVec Ideal S8x32x512 .f32) (a5 : FVec Ideal S1x4x128x128 .f32) (a6 : FVec Ideal S1x512 .f32)
    (b : Fin 8) (p : Fin 32) (c : Fin 512) :
    MIX d a5 a6 (ix3 b p c) = (∑ k : Fin 128, d (ix3 b p ⟨(c : ℕ) / 128 * 128 + k, by omega⟩)
      * a5 (ix4 0 ⟨(c : ℕ) / 128, by omega⟩ k ⟨(c : ℕ) % 128, by omega⟩)) * a6 (ix2 0 c) := by
  pointwise [MIX]
  exact congrArg (fun y : EReal => y * a6 (ix2 0 c)) (Finset.sum_congr rfl fun k _ => mul_comm _ _)

/-- A gated branch at an index. -/
theorem SIDE_at (z : FVec Ideal S8x32x1024 .f32) (x : FVec Ideal S8x32x512 .f32) (w : FVec Ideal S1x512x1024 .f32)
    (b : Fin 8) (p : Fin 32) (j : Fin 1024) :
    SIDE z x w (ix3 b p j) = Pool.logistic (z (ix3 b p j)) * ∑ c : Fin 512, x (ix3 b p c) * w (ix3 0 c j) := by
  unfold Pool.logistic
  pointwise [SIDE]

/-- The stream's last step at a row. -/
theorem FIN_at (a0 mg : FVec Ideal S8x32x1024 .f32) (a9 : FVec Ideal S1x1024x1024 .f32) (r : Fin 256) (f : Fin 1024)
    (b : Fin 8) (p : Fin 32) (h : (r : ℕ) = b * 32 + p) :
    FIN a0 mg a9 (ix2 r f) = a0 (ix3 b p f) + ∑ j : Fin 1024, mg (ix3 b p j) * a9 (ix3 0 j f) := by
  have hb : (⟨(r : ℕ) / 32, by omega⟩ : Fin 8) = b := Fin.ext (by show (r : ℕ) / 32 = b; omega)
  have hp : (⟨(r : ℕ) % 32, by omega⟩ : Fin 32) = p := Fin.ext (by show (r : ℕ) % 32 = p; omega)
  pointwise [FIN]
  rw [hb, hp]

/-- The reference's first result at a row and a column. -/
theorem REF_at (a0 : FVec Ideal S8x32x1024 .f32) (a1 a2 : FVec Ideal S8x32x512 .f32) (a3 a4 : FVec Ideal S8x32x1024 .f32)
    (a5 : FVec Ideal S1x8x15x512 .f32) (a6 : FVec Ideal S1x4x128x128 .f32) (a7 : FVec Ideal S1x512 .f32) (a8 a9 : FVec Ideal S1x512x1024 .f32)
    (a10 : FVec Ideal S1x1024x1024 .f32) (r : Fin 256) (f : Fin 1024) (b : Fin 8) (p : Fin 32) (h : (r : ℕ) = b * 32 + p)
    (hf : ∀ c i, Uat a5 a1 b c i ≠ ⊤ ∧ Uat a5 a1 b c i ≠ ⊥) :
    REF a0 a1 a2 a3 a4 a5 a6 a7 a8 a9 a10 (ix2 r f) = a0 (ix3 b p f)
      + ∑ j : Fin 1024, Pool.merged (Pool.mixed (Upos a5 a1 b) (1024 + p) (fun g k e => a6 (ix4 0 g k e)) (fun c => a7 (ix2 0 c)))
          (fun c => a2 (ix3 b p c)) (fun j => a3 (ix3 b p j)) (fun j => a4 (ix3 b p j)) (fun c j => a8 (ix3 0 c j))
          (fun c j => a9 (ix3 0 c j)) j * a10 (ix3 0 j f) := by
  unfold REF
  rw [FIN_at _ _ _ r f b p h]
  refine congrArg (fun y : EReal => a0 (ix3 b p f) + y) (Finset.sum_congr rfl fun j _ => congrArg (fun y : EReal => y * a10 (ix3 0 j f)) ?_)
  have hm : ∀ c, MIX (CEN a5 a1) a6 a7 (ix3 b p c) = Pool.mixed (Upos a5 a1 b) (1024 + p) (fun g k e => a6 (ix4 0 g k e)) (fun c => a7 (ix2 0 c)) c := fun c => by
    rw [MIX_at]
    unfold Pool.mixed
    simp only [CEN_at _ _ _ _ _ hf]
  show SIDE a3 (MIX (CEN a5 a1) a6 a7) a8 (ix3 b p j) + SIDE a4 a2 a9 (ix3 b p j) = _
  rw [SIDE_at, SIDE_at]
  simp only [hm]
  rfl

end Cert.MergeSampleRefIdeal.Val

end
-- ==== Proof.MergeSample.Value.lean ====
/- The result arrays of the sample batch's pool mixer and gated merge are the reference's, over finite pooled columns. -/
module

public import proofs.«01_k».proof.Proof.MergeSample.Block
public import proofs.«01_k».proof.Proof.MergeSample.Ref
public import proofs.«01_k».proof.Pre_pooled_finite_sample

@[expose] public section

set_option maxRecDepth 16384

noncomputable section

namespace Cert.MergeSampleIdeal.Val

open Cert.MergeSampleIdeal Cert.MergeSampleIdeal.Gen Idealize.ShloMosaic Idealize.ShloMosaic.TcCoe Idealize.SL.Sem
open Idealize.ShloMosaic.Pipeline (Dat)
open Cert.MergeSampleRefIdeal.Val (REF REF_at Uat Upos)

/-- The sixteen rows before every stream: a zero row, then the fifteen kept. -/
def HAL (z : FVec Ideal S1x8x15x512 .f32) (u : FVec Ideal S8x32x512 .f32) : FVec Ideal S8x16x512 .f32 :=
  shapeCast _ (concatenate S8x1x16x512 1 [⟨S8x1x16x512, broadcastInDim S8x1x16x512 ![0, 2, 3] bcast_S8x16x512_S8x1x16x512_0_2_3
      (pad S8x16x512 ![0, 1, 0] ![0, 0, 0] ![0, 0, 0] (shapeCast S8x15x512 z shapeCasts_S1x8x15x512_S8x15x512)
        (sitofp .f32 (constantI S_ 32 0#32)) pads_S8x15x512_S8x16x512_000_100_000 h_S_)⟩,
    ⟨S8x0x16x512, extractStridedSlice S8x0x16x512 ![0, 0, 16, 0] (shapeCast S8x1x32x512 u shapeCasts_S8x32x512_S8x1x32x512) slices_S8x1x32x512_S8x0x16x512_0_0_16_0⟩]
    concatenates_S8x1x16x512_S8x0x16x512_S8x1x16x512_d1) shapeCasts_S8x1x16x512_S8x16x512

/-- Both gates side by side. -/
def GATE (a b : FVec Ideal S8x32x1024 .f32) : FVec Ideal S256x2048 .bf16 :=
  truncf .bf16 (shapeCast S256x2048 (concatenate S8x32x2048 2 [⟨S8x32x1024, a⟩, ⟨S8x32x1024, b⟩] concatenates_S8x32x1024_S8x32x1024_S8x32x2048_d2) shapeCasts_S8x32x2048_S256x2048) bitsLt_bf16_f32

theorem HAL_at (z : FVec Ideal S1x8x15x512 .f32) (u : FVec Ideal S8x32x512 .f32) (b : Fin 8) (n : Fin 16) (c : Fin 512) :
    HAL z u (ix3 b n c) = Uat z u b c n := by
  unfold Uat
  rw [dif_neg (by omega)]
  have z0 : (FloatOps.sitofp .f32 (0#32) : Ideal .f32) = 0 :=
    (congrArg (fun z : ℤ => ((z : ℝ) : EReal)) (by decide : (0#32).toInt = 0)).trans (by simp)
  pointwise [HAL]
  by_cases h : 1 ≤ (n : ℕ)
  · rw [dif_pos h, dif_pos (by omega)]
  · rw [dif_neg h, dif_neg (by omega)]
    exact z0

theorem GATE_a (a b : FVec Ideal S8x32x1024 .f32) (r : Fin 256) (j : Fin 1024) :
    GATE a b (ix2 r ⟨j, by omega⟩) = a (ix3 (⟨(r : ℕ) / 32, by omega⟩ : Fin 8) (⟨(r : ℕ) % 32, by omega⟩ : Fin 32) j) := by
  pointwise [GATE]
theorem GATE_b (a b : FVec Ideal S8x32x1024 .f32) (r : Fin 256) (j : Fin 1024) :
    GATE a b (ix2 r ⟨1024 + j, by omega⟩) = b (ix3 (⟨(r : ℕ) / 32, by omega⟩ : Fin 8) (⟨(r : ℕ) % 32, by omega⟩ : Fin 32) j) := by
  pointwise [GATE]

/-- Streams and rows read as one axis. -/
theorem rows1024 (x : FVec Ideal S8x32x1024 .f32) (R : Fin 256) (k : Fin 1024) :
    shapeCast S256x1024 x shapeCasts_S8x32x1024_S256x1024 (ix2 R k)
      = x (ix3 (⟨(R : ℕ) / 32, by omega⟩ : Fin 8) (⟨(R : ℕ) % 32, by omega⟩ : Fin 32) k) := by
  pointwise
theorem rows512 (x : FVec Ideal S8x32x512 .f32) (R : Fin 256) (k : Fin 512) :
    shapeCast S256x512 x shapeCasts_S8x32x512_S256x512 (ix2 R k)
      = x (ix3 (⟨(R : ℕ) / 32, by omega⟩ : Fin 8) (⟨(R : ℕ) % 32, by omega⟩ : Fin 32) k) := by
  pointwise

/-- The one layer's weights without their leading axis. -/
theorem groups (x : FVec Ideal S1x4x128x128 .f32) (g : Fin 4) (k e : Fin 128) :
    shapeCast S4x128x128 x shapeCasts_S1x4x128x128_S4x128x128 (ix3 g k e) = x (ix4 0 g k e) := by
  pointwise
theorem mat512 (x : FVec Ideal S1x512x1024 .f32) (k : Fin 512) (j : Fin 1024) :
    shapeCast S512x1024 x shapeCasts_S1x512x1024_S512x1024 (ix2 k j) = x (ix3 0 k j) := by
  pointwise
theorem mat1024 (x : FVec Ideal S1x1024x1024 .f32) (k j : Fin 1024) :
    shapeCast S1024x1024 x shapeCasts_S1x1024x1024_S1024x1024 (ix2 k j) = x (ix3 0 k j) := by
  pointwise

section
variable (x0 : FVec Ideal S256x1024 .f32) (x1 : FVec Ideal S256x512 .f32) (x2 : FVec Ideal S8x16x512 .f32) (x3 : FVec Ideal S256x512 .bf16)
    (x4 : FVec Ideal S256x2048 .bf16) (x5 : FVec Ideal S4x128x128 .f32) (x6 : FVec Ideal S1x512 .f32) (x7 x8 : FVec Ideal S512x1024 .f32)
    (x9 : FVec Ideal S1024x1024 .f32)

/-- The four weights are copied in the smaller format. -/
theorem out11_at (y : S4x128x128.Idx) : out0_11 (F := Ideal) x0 x1 x2 x3 x4 x5 x6 x7 x8 x9 y = x5 y := by
  unfold_out out0_11
  canon_tiles x h
  all_goals (open_payloads; pointwise []; blk_point [])
theorem out12_at (y : S512x1024.Idx) : out0_12 (F := Ideal) x0 x1 x2 x3 x4 x5 x6 x7 x8 x9 y = x7 y := by
  unfold_out out0_12
  canon_tiles x h
  all_goals (open_payloads; pointwise []; blk_point [])
theorem out13_at (y : S512x1024.Idx) : out0_13 (F := Ideal) x0 x1 x2 x3 x4 x5 x6 x7 x8 x9 y = x8 y := by
  unfold_out out0_13
  canon_tiles x h
  all_goals (open_payloads; pointwise []; blk_point [])
theorem out14_at (y : S1024x1024.Idx) : out0_14 (F := Ideal) x0 x1 x2 x3 x4 x5 x6 x7 x8 x9 y = x9 y := by
  unfold_out out0_14
  canon_tiles x h
  all_goals (open_payloads; pointwise []; blk_point [])
end

variable (m : (ℓ : Loc nD τ sig) → Buf (Elt Ideal) ℓ)

theorem V_v6 (c : Dev nD) : V m c main_v6 = HAL (m ((c : Thread nD τ).loc main_arg5)) (m ((c : Thread nD τ).loc main_arg1)) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results; try rfl
theorem V_v9 (c : Dev nD) : V m c main_v9 = GATE (m ((c : Thread nD τ).loc main_arg3)) (m ((c : Thread nD τ).loc main_arg4)) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results; try rfl
theorem V_v10 (c : Dev nD) : V m c main_v10 = (shapeCast S256x1024 (m ((c : Thread nD τ).loc main_arg0) : FVec Ideal S8x32x1024 .f32) shapeCasts_S8x32x1024_S256x1024 : FVec Ideal S256x1024 .f32) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results; try rfl
theorem V_v11 (c : Dev nD) : V m c main_v11 = (shapeCast S256x512 (m ((c : Thread nD τ).loc main_arg1) : FVec Ideal S8x32x512 .f32) shapeCasts_S8x32x512_S256x512 : FVec Ideal S256x512 .f32) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results; try rfl
theorem V_v13 (c : Dev nD) : V m c main_v13 = (truncf .bf16 (shapeCast S256x512 (m ((c : Thread nD τ).loc main_arg2) : FVec Ideal S8x32x512 .f32) shapeCasts_S8x32x512_S256x512 : FVec Ideal S256x512 .f32) bitsLt_bf16_f32 : FVec Ideal S256x512 .bf16) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results; try rfl
theorem V_v14 (c : Dev nD) : V m c main_v14 = (shapeCast S4x128x128 (m ((c : Thread nD τ).loc main_arg6) : FVec Ideal S1x4x128x128 .f32) shapeCasts_S1x4x128x128_S4x128x128 : FVec Ideal S4x128x128 .f32) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results; try rfl
theorem V_v15 (c : Dev nD) : V m c main_v15 = (shapeCast S512x1024 (m ((c : Thread nD τ).loc main_arg8) : FVec Ideal S1x512x1024 .f32) shapeCasts_S1x512x1024_S512x1024 : FVec Ideal S512x1024 .f32) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results; try rfl
theorem V_v16 (c : Dev nD) : V m c main_v16 = (shapeCast S512x1024 (m ((c : Thread nD τ).loc main_arg9) : FVec Ideal S1x512x1024 .f32) shapeCasts_S1x512x1024_S512x1024 : FVec Ideal S512x1024 .f32) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results; try rfl
theorem V_v17 (c : Dev nD) : V m c main_v17 = (shapeCast S1024x1024 (m ((c : Thread nD τ).loc main_arg10) : FVec Ideal S1x1024x1024 .f32) shapeCasts_S1x1024x1024_S1024x1024 : FVec Ideal S1024x1024 .f32) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results; try rfl

/-- Every window's block index at the one grid point. -/
theorem idx_val : ∀ t : Fin cfg0.N, win0_0.index t = ![0, 0]
    ∧ win0_1.index t = ![0, 0]
    ∧ win0_2.index t = ![0, 0, 0]
    ∧ win0_3.index t = ![0, 0]
    ∧ win0_4.index t = ![0, 0]
    ∧ win0_5.index t = ![0, 0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0, 0]
    ∧ win0_12.index t = ![0, 0]
    ∧ win0_13.index t = ![0, 0]
    ∧ win0_14.index t = ![0, 0] :=
  (by decide +kernel : ∀ t : Fin grid0.N, _)

section
variable (c : Dev nD) (t : Fin cfg0.N)

theorem b0 (R : Fin 256) (k : Fin 1024) : iblk m c 0 t (ix2 R k) = m ((c : Thread nD τ).loc main_arg0) (ix3 (⟨(R : ℕ) / 32, by omega⟩ : Fin 8) (⟨(R : ℕ) % 32, by omega⟩ : Fin 32) k) := by
  have e : iblk m c 0 t (ix2 R k) = V m c main_v10 (ix2 R k) := by
    blk_simp [iblk, idx_val t]
    blk_ext [idx_val t]
  exact e.trans ((congrFun (V_v10 m c) _).trans (rows1024 _ R k))
theorem b1 (R : Fin 256) (k : Fin 512) : iblk m c 1 t (ix2 R k) = m ((c : Thread nD τ).loc main_arg1) (ix3 (⟨(R : ℕ) / 32, by omega⟩ : Fin 8) (⟨(R : ℕ) % 32, by omega⟩ : Fin 32) k) := by
  have e : iblk m c 1 t (ix2 R k) = V m c main_v11 (ix2 R k) := by
    blk_simp [iblk, idx_val t]
    blk_ext [idx_val t]
  exact e.trans ((congrFun (V_v11 m c) _).trans (rows512 _ R k))
theorem b2 (b : Fin 8) (n : Fin 16) (k : Fin 512) : iblk m c 2 t (ix3 b n k) = HAL (m ((c : Thread nD τ).loc main_arg5)) (m ((c : Thread nD τ).loc main_arg1)) (ix3 b n k) := by
  have e : iblk m c 2 t (ix3 b n k) = V m c main_v6 (ix3 b n k) := by
    blk_simp [iblk, idx_val t]
    blk_ext [idx_val t]
  exact e.trans (congrFun (V_v6 m c) _)
theorem b3 (R : Fin 256) (k : Fin 512) : iblk m c 3 t (ix2 R k) = m ((c : Thread nD τ).loc main_arg2) (ix3 (⟨(R : ℕ) / 32, by omega⟩ : Fin 8) (⟨(R : ℕ) % 32, by omega⟩ : Fin 32) k) := by
  have e : iblk m c 3 t (ix2 R k) = V m c main_v13 (ix2 R k) := by
    blk_simp [iblk, idx_val t]
    blk_ext [idx_val t]
  exact e.trans ((congrFun (V_v13 m c) _).trans (rows512 _ R k))
theorem b4 (R : Fin 256) (k : Fin 2048) : iblk m c 4 t (ix2 R k) = GATE (m ((c : Thread nD τ).loc main_arg3)) (m ((c : Thread nD τ).loc main_arg4)) (ix2 R k) := by
  have e : iblk m c 4 t (ix2 R k) = V m c main_v9 (ix2 R k) := by
    blk_simp [iblk, idx_val t]
    blk_ext [idx_val t]
  exact e.trans (congrFun (V_v9 m c) _)
theorem b5 (g : Fin 4) (k e : Fin 128) : iblk m c 5 t (ix3 g k e) = m ((c : Thread nD τ).loc main_arg6) (ix4 0 g k e) := by
  have h : iblk m c 5 t (ix3 g k e) = V m c main_v14 (ix3 g k e) := by
    blk_simp [iblk, idx_val t]
    blk_ext [idx_val t]
  exact h.trans ((congrFun (V_v14 m c) _).trans (groups _ _ _ _))
theorem b6 (k : Fin 512) : iblk m c 6 t (ix2 0 k) = m ((c : Thread nD τ).loc main_arg7) (ix2 0 k) := by
  rw [← V_main_arg7 m c]
  blk_simp [iblk, idx_val t]
  blk_ext [idx_val t]
theorem b7 (k : Fin 512) (j : Fin 1024) : iblk m c 7 t (ix2 k j) = m ((c : Thread nD τ).loc main_arg8) (ix3 0 k j) := by
  have e : iblk m c 7 t (ix2 k j) = V m c main_v15 (ix2 k j) := by
    blk_simp [iblk, idx_val t]
    blk_ext [idx_val t]
  exact e.trans ((congrFun (V_v15 m c) _).trans (mat512 _ k j))
theorem b8 (k : Fin 512) (j : Fin 1024) : iblk m c 8 t (ix2 k j) = m ((c : Thread nD τ).loc main_arg9) (ix3 0 k j) := by
  have e : iblk m c 8 t (ix2 k j) = V m c main_v16 (ix2 k j) := by
    blk_simp [iblk, idx_val t]
    blk_ext [idx_val t]
  exact e.trans ((congrFun (V_v16 m c) _).trans (mat512 _ k j))
theorem b9 (k j : Fin 1024) : iblk m c 9 t (ix2 k j) = m ((c : Thread nD τ).loc main_arg10) (ix3 0 k j) := by
  have e : iblk m c 9 t (ix2 k j) = V m c main_v17 (ix2 k j) := by
    blk_simp [iblk, idx_val t]
    blk_ext [idx_val t]
  exact e.trans ((congrFun (V_v17 m c) _).trans (mat1024 _ k j))
end

/-- The block's channel by position is its stream's. -/
theorem own (c : Dev nD) (t : Fin cfg0.N) (b : Fin 8) (k : Fin 512) (n : ℕ) (hn : n < 48) :
    Ub (iblk m c 2 t) (iblk m c 1 t) k ((b : ℕ) * 48 + n) = Upos (m ((c : Thread nD τ).loc main_arg5)) (m ((c : Thread nD τ).loc main_arg1)) b k (1024 + n) := by
  unfold Upos
  rw [Nat.add_sub_cancel_left]
  by_cases p : n < 16
  · exact (Ub_h _ _ k b ⟨n, p⟩ _ (by dsimp only; omega)).trans ((b2 m c t b ⟨n, p⟩ k).trans (HAL_at _ _ _ _ _))
  · refine (Ub_x _ _ k b ⟨n - 16, by omega⟩ ⟨(b : ℕ) * 32 + (n - 16), by omega⟩ _ (by dsimp only; omega) (by dsimp only; omega)).trans
      ((b1 m c t _ k).trans ?_)
    unfold Uat
    rw [dif_pos (by omega)]
    have e0 : (⟨((b : ℕ) * 32 + (n - 16)) / 32, by omega⟩ : Fin 8) = b := Fin.ext (by dsimp only; omega)
    have e1 : (⟨((b : ℕ) * 32 + (n - 16)) % 32, by omega⟩ : Fin 32) = ⟨n - 16, by omega⟩ := Fin.ext (by dsimp only; omega)
    exact congrArg₂ (fun x y => m ((c : Thread nD τ).loc main_arg1) (ix3 x y k)) e0 e1

/-- What the grid point stores is the reference's first result. -/
theorem point (c : Dev nD) (hf : ∀ b k n, Uat (m ((c : Thread nD τ).loc main_arg5)) (m ((c : Thread nD τ).loc main_arg1)) b k n ≠ ⊤ ∧ Uat (m ((c : Thread nD τ).loc main_arg5)) (m ((c : Thread nD τ).loc main_arg1)) b k n ≠ ⊥) (t : Fin cfg0.N) (i : Fin 256) (j : Fin 1024) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 i j)
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 i j) := by
  have e0 : (i : ℕ) = (⟨(i : ℕ) / 32, by omega⟩ : Fin 8) * 32 + (⟨(i : ℕ) % 32, by omega⟩ : Fin 32) := by
    dsimp only; omega
  have er := REF_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) i j ⟨(i : ℕ) / 32, by omega⟩ ⟨(i : ℕ) % 32, by omega⟩ e0 (hf _)
  have eb := block_at (iblk m c 0 t) (iblk m c 1 t) (iblk m c 2 t) (iblk m c 3 t) (iblk m c 4 t) (iblk m c 5 t) (iblk m c 6 t) (iblk m c 7 t) (iblk m c 8 t) (iblk m c 9 t) i j (Upos (m ((c : Thread nD τ).loc main_arg5)) (m ((c : Thread nD τ).loc main_arg1)) ⟨(i : ℕ) / 32, by omega⟩) (1024 + (i : ℕ) % 32)
    rfl (fun k n hn => own m c t ⟨(i : ℕ) / 32, by omega⟩ k n hn)
  refine eb.trans (Eq.trans ?_ er.symm)
  simp only [b0 m c t, b3 m c t, b4 m c t, GATE_a, GATE_b, b5 m c t, b6 m c t, b7 m c t, b8 m c t, b9 m c t]

/-- The first result array after the run is the reference's first result over the arguments. -/
theorem final10 (c : Dev nD) (hf : ∀ b k n, Uat (m ((c : Thread nD τ).loc main_arg5)) (m ((c : Thread nD τ).loc main_arg1)) b k n ≠ ⊤ ∧ Uat (m ((c : Thread nD τ).loc main_arg5)) (m ((c : Thread nD τ).loc main_arg1)) b k n ≠ ⊥) :
    (dats m 0 c).arrAt 10 (cfgs 0).N
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have key : ∀ (t : Fin cfg0.N) (y i : S256x1024.Idx), (i 0 : ℕ) = y 0 → (i 1 : ℕ) = y 1 →
      out0_10 (F := Ideal) (iblk m c 0 t) (iblk m c 1 t) (iblk m c 2 t) (iblk m c 3 t) (iblk m c 4 t) (iblk m c 5 t) (iblk m c 6 t) (iblk m c 7 t) (iblk m c 8 t) (iblk m c 9 t) y = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) i := by
    intro t y i h0 h1
    idx_vars i
    idx_vars y
    obtain rfl : i0 = y0 := Fin.ext h0
    obtain rfl : i1 = y1 := Fin.ext h1
    exact point m c hf t i0 i1
  refine (dats m 0 c).arrAt_eq_of_covers 10 _ (by decide +kernel) fun t hfl y => ?_
  blk_simp
  rw [after0_10]
  refine key t y _ ?_ ?_
  all_goals (blk_simp [idx_val t] <;> try omega)

/-- The copied weights after the run are the reference's other results. -/
theorem final11 (c : Dev nD) : (dats m 0 c).arrAt 11 (cfgs 0).N = (truncf .bf16 (shapeCast S4x128x128 (m ((c : Thread nD τ).loc main_arg6) : FVec Ideal S1x4x128x128 .f32) shapeCasts_S1x4x128x128_S4x128x128) bitsLt_bf16_f32 : FVec Ideal S4x128x128 .bf16) := by
  have key : ∀ (t : Fin cfg0.N) (y i : S4x128x128.Idx), (i 0 : ℕ) = y 0 → (i 1 : ℕ) = y 1 → (i 2 : ℕ) = y 2 →
      out0_11 (F := Ideal) (iblk m c 0 t) (iblk m c 1 t) (iblk m c 2 t) (iblk m c 3 t) (iblk m c 4 t) (iblk m c 5 t) (iblk m c 6 t) (iblk m c 7 t) (iblk m c 8 t) (iblk m c 9 t) y = (truncf .bf16 (shapeCast S4x128x128 (m ((c : Thread nD τ).loc main_arg6) : FVec Ideal S1x4x128x128 .f32) shapeCasts_S1x4x128x128_S4x128x128) bitsLt_bf16_f32 : FVec Ideal S4x128x128 .bf16) i := by
    intro t y i h0 h1 h2
    rw [out11_at]
    idx_vars i
    idx_vars y
    obtain rfl : i0 = y0 := Fin.ext h0
    obtain rfl : i1 = y1 := Fin.ext h1
    obtain rfl : i2 = y2 := Fin.ext h2
    exact (b5 m c t i0 i1 i2).trans (groups _ i0 i1 i2).symm
  refine (dats m 0 c).arrAt_eq_of_covers 11 _ (by decide +kernel) fun t hfl y => ?_
  blk_simp
  rw [after0_11]
  refine key t y _ ?_ ?_ ?_
  all_goals (blk_simp [idx_val t] <;> try omega)
theorem final12 (c : Dev nD) : (dats m 0 c).arrAt 12 (cfgs 0).N = (truncf .bf16 (shapeCast S512x1024 (m ((c : Thread nD τ).loc main_arg8) : FVec Ideal S1x512x1024 .f32) shapeCasts_S1x512x1024_S512x1024) bitsLt_bf16_f32 : FVec Ideal S512x1024 .bf16) := by
  have key : ∀ (t : Fin cfg0.N) (y i : S512x1024.Idx), (i 0 : ℕ) = y 0 → (i 1 : ℕ) = y 1 →
      out0_12 (F := Ideal) (iblk m c 0 t) (iblk m c 1 t) (iblk m c 2 t) (iblk m c 3 t) (iblk m c 4 t) (iblk m c 5 t) (iblk m c 6 t) (iblk m c 7 t) (iblk m c 8 t) (iblk m c 9 t) y = (truncf .bf16 (shapeCast S512x1024 (m ((c : Thread nD τ).loc main_arg8) : FVec Ideal S1x512x1024 .f32) shapeCasts_S1x512x1024_S512x1024) bitsLt_bf16_f32 : FVec Ideal S512x1024 .bf16) i := by
    intro t y i h0 h1
    rw [out12_at]
    idx_vars i
    idx_vars y
    obtain rfl : i0 = y0 := Fin.ext h0
    obtain rfl : i1 = y1 := Fin.ext h1
    exact (b7 m c t i0 i1).trans (mat512 _ i0 i1).symm
  refine (dats m 0 c).arrAt_eq_of_covers 12 _ (by decide +kernel) fun t hfl y => ?_
  blk_simp
  rw [after0_12]
  refine key t y _ ?_ ?_
  all_goals (blk_simp [idx_val t] <;> try omega)
theorem final13 (c : Dev nD) : (dats m 0 c).arrAt 13 (cfgs 0).N = (truncf .bf16 (shapeCast S512x1024 (m ((c : Thread nD τ).loc main_arg9) : FVec Ideal S1x512x1024 .f32) shapeCasts_S1x512x1024_S512x1024) bitsLt_bf16_f32 : FVec Ideal S512x1024 .bf16) := by
  have key : ∀ (t : Fin cfg0.N) (y i : S512x1024.Idx), (i 0 : ℕ) = y 0 → (i 1 : ℕ) = y 1 →
      out0_13 (F := Ideal) (iblk m c 0 t) (iblk m c 1 t) (iblk m c 2 t) (iblk m c 3 t) (iblk m c 4 t) (iblk m c 5 t) (iblk m c 6 t) (iblk m c 7 t) (iblk m c 8 t) (iblk m c 9 t) y = (truncf .bf16 (shapeCast S512x1024 (m ((c : Thread nD τ).loc main_arg9) : FVec Ideal S1x512x1024 .f32) shapeCasts_S1x512x1024_S512x1024) bitsLt_bf16_f32 : FVec Ideal S512x1024 .bf16) i := by
    intro t y i h0 h1
    rw [out13_at]
    idx_vars i
    idx_vars y
    obtain rfl : i0 = y0 := Fin.ext h0
    obtain rfl : i1 = y1 := Fin.ext h1
    exact (b8 m c t i0 i1).trans (mat512 _ i0 i1).symm
  refine (dats m 0 c).arrAt_eq_of_covers 13 _ (by decide +kernel) fun t hfl y => ?_
  blk_simp
  rw [after0_13]
  refine key t y _ ?_ ?_
  all_goals (blk_simp [idx_val t] <;> try omega)
theorem final14 (c : Dev nD) : (dats m 0 c).arrAt 14 (cfgs 0).N = (truncf .bf16 (shapeCast S1024x1024 (m ((c : Thread nD τ).loc main_arg10) : FVec Ideal S1x1024x1024 .f32) shapeCasts_S1x1024x1024_S1024x1024) bitsLt_bf16_f32 : FVec Ideal S1024x1024 .bf16) := by
  have key : ∀ (t : Fin cfg0.N) (y i : S1024x1024.Idx), (i 0 : ℕ) = y 0 → (i 1 : ℕ) = y 1 →
      out0_14 (F := Ideal) (iblk m c 0 t) (iblk m c 1 t) (iblk m c 2 t) (iblk m c 3 t) (iblk m c 4 t) (iblk m c 5 t) (iblk m c 6 t) (iblk m c 7 t) (iblk m c 8 t) (iblk m c 9 t) y = (truncf .bf16 (shapeCast S1024x1024 (m ((c : Thread nD τ).loc main_arg10) : FVec Ideal S1x1024x1024 .f32) shapeCasts_S1x1024x1024_S1024x1024) bitsLt_bf16_f32 : FVec Ideal S1024x1024 .bf16) i := by
    intro t y i h0 h1
    rw [out14_at]
    idx_vars i
    idx_vars y
    obtain rfl : i0 = y0 := Fin.ext h0
    obtain rfl : i1 = y1 := Fin.ext h1
    exact (b9 m c t i0 i1).trans (mat1024 _ i0 i1).symm
  refine (dats m 0 c).arrAt_eq_of_covers 14 _ (by decide +kernel) fun t hfl y => ?_
  blk_simp
  rw [after0_14]
  refine key t y _ ?_ ?_
  all_goals (blk_simp [idx_val t] <;> try omega)

/-- Under the precondition the kept rows and the pooled columns hold no infinity. -/
theorem finite [Cert.Pre_pooled_finite_sample.Facts] (a0 : FVec Ideal S8x32x1024 .f32) (a1 a2 : FVec Ideal S8x32x512 .f32) (a3 a4 : FVec Ideal S8x32x1024 .f32)
    (a5 : FVec Ideal S1x8x15x512 .f32) (a6 : FVec Ideal S1x4x128x128 .f32) (a7 : FVec Ideal S1x512 .f32) (a8 a9 : FVec Ideal S1x512x1024 .f32) (a10 : FVec Ideal S1x1024x1024 .f32)
    (h : Cert.Pre_pooled_finite_sample.fn (F := Ideal) a0 a1 a2 a3 a4 a5 a6 a7 a8 a9 a10 = fun _ => 1#1) (b : Fin 8) (k : Fin 512) (n : ℕ) :
    Uat a5 a1 b k n ≠ ⊤ ∧ Uat a5 a1 b k n ≠ ⊥ := by
  have bound : ∀ v : EReal, Ideal.cmp .olt (max v (-v)) (Ideal.ofBits .f32 0x7F800000#32) = 1#1 → v ≠ ⊤ ∧ v ≠ ⊥ := fun v hv => by
    have ne : max v (-v) ≠ ⊤ := fun z => by
      rw [z] at hv
      unfold Ideal.cmp at hv
      simp at hv
    constructor
    · intro z
      exact ne (by rw [z]; simp)
    · intro z
      exact ne (by rw [z]; simp)
  have key : ∀ q : Fin 47, Cert.Pre_pooled_finite_sample.fn (F := Ideal) a0 a1 a2 a3 a4 a5 a6 a7 a8 a9 a10 (ix3 b q k)
      = Ideal.cmp .olt (max (Uat a5 a1 b k (q + 1)) (-Uat a5 a1 b k (q + 1))) (Ideal.ofBits .f32 0x7F800000#32) := fun q => by
    have e : Cert.Pre_pooled_finite_sample.fn (F := Ideal) a0 a1 a2 a3 a4 a5 a6 a7 a8 a9 a10 (ix3 b q k)
        = FloatOps.cmpf (F := Ideal) .olt (FloatOps.absf (F := Ideal) (Cert.MergeSampleRefIdeal.Val.PAD a5 a1 (ix3 b q k))) (Ideal.ofBits .f32 0x7F800000#32) := by
      pointwise [Cert.Pre_pooled_finite_sample.fn, Cert.MergeSampleRefIdeal.Val.PAD]
    rw [e, Cert.MergeSampleRefIdeal.Val.PAD_at]
    rfl
  by_cases p : 1 ≤ n ∧ n < 48
  · have e := (key ⟨n - 1, by omega⟩).symm.trans (congrFun h _)
    rw [show ((⟨n - 1, by omega⟩ : Fin 47) : ℕ) + 1 = n by dsimp only; omega] at e
    exact bound _ e
  · unfold Uat
    rw [dif_neg (by omega), dif_neg (by omega)]
    exact ⟨EReal.zero_ne_top, EReal.zero_ne_bot⟩

end Cert.MergeSampleIdeal.Val

end
-- ==== Proof.FfnSample.Body.lean ====
/- The sample batch's feed-forward body at each kind of grid point: what it leaves in its buffers. -/
module

public import proofs.«01_k».proof.Proof.Gen.FfnSampleIdeal.Skeleton
public import proofs.«01_k».proof.Proof.Gen.FfnSampleIdeal.Frame
public import Idealize.ShloMosaic.Lib.Claim
public import Idealize.ShloMosaic.Lib.Tactic
public import Idealize.ShloMosaic.Lib.VecWindow
public import Idealize.ShloMosaic.Lib.WritesUnit

@[expose] public section

set_option maxRecDepth 16384

noncomputable section

namespace Cert.FfnSampleIdeal.Step

open Cert.FfnSampleIdeal Cert.FfnSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No loop, no variant. -/
abbrev 𝒱₀ : Variants := Variants.nat

theorem off1_eq : ∀ i : grid0.Coords, k0_off1 i = ![0, 0, 0] := by decide +kernel
theorem off2_eq : ∀ i : grid0.Coords, k0_off2 i = ![1, 192, 0] := by decide +kernel
theorem off3_eq : ∀ i : grid0.Coords, k0_off3 i = ![0, 0, 0] := by decide +kernel
theorem off5_eq : ∀ i : grid0.Coords, k0_off5 i = ![1, 64 * (i 1).val, 0] := by decide +kernel
theorem off6_eq : ∀ i : grid0.Coords, k0_off6 i = ![0, 0, 0] := by decide +kernel
theorem off7_eq : ∀ i : grid0.Coords, k0_off7 i = ![1, 0, 0] := by decide +kernel

instance (i : grid0.Coords) : ClosedOff (k0_off6 i) := ⟨![0, 0, 0], off6_eq i⟩
instance (i : grid0.Coords) : ClosedOff (k0_off7 i) := ⟨![1, 0, 0], off7_eq i⟩

/-- The first half of the normed rows' buffer. -/
def half (d : Vec F S2x256x1024 .bf16) : Vec F S1x256x1024 .bf16 :=
  fun y => d ((Rect.unit (s := S2x256x1024) ![0, 0, 0] S1x256x1024.size inb_S2x256x1024_S1x256x1024_0_0_0).emb y)

section Half

variable {κ : Kind} {sp : Space} (v : View sig κ sp S2x256x1024 .bf16) (f : v.ty.Contents (Elt F))

/-- A load at the first half reads it; -/
theorem load_half {off : Fin 3 → ℕ} (h : off = ![0, 0, 0]) (inb : ∀ a, off a + (![1, 256, 1024] : Fin 3 → ℕ) a ≤ S2x256x1024.size a) :
    v.readAt (Elt F) (Rect.unit (s := S2x256x1024) off ![1, 256, 1024] inb).toLoadRect f = half (v.read (Elt F) f) := by
  subst h; rfl

/-- a store there leaves its payload there; -/
theorem half_store (w : Vec F S1x256x1024 .bf16) (L : List (View.Piece (Elt F) S2x256x1024 .bf16)) :
    half (v.read (Elt F) (v.writes (Elt F) f
      (⟨Rect.unit (s := S2x256x1024) ![0, 0, 0] S1x256x1024.size inb_S2x256x1024_S1x256x1024_0_0_0, w⟩ :: L))) = w := by
  funext y
  refine View.read_writes_cons_unit_of_mem v f inb_S2x256x1024_S1x256x1024_0_0_0 w L _ y rfl fun a => ?_
  show (![0, 0, 0] : Fin 3 → ℕ) a + 1 * (y a).val = _
  rw [Nat.one_mul]

/-- and a store into the other half leaves it as it was. -/
theorem half_other {off size : Fin 3 → ℕ} {o : ℕ} (h : off = ![1, o, 0]) (inb : ∀ a, off a + size a ≤ S2x256x1024.size a)
    (w : (Rect.unit (s := S2x256x1024) off size inb).shape.Idx → Elt F .bf16) (L : List (View.Piece (Elt F) S2x256x1024 .bf16)) :
    half (v.read (Elt F) (v.writes (Elt F) f (⟨Rect.unit (s := S2x256x1024) off size inb, w⟩ :: L)))
      = half (v.read (Elt F) (v.writes (Elt F) f L)) := by
  funext y
  refine View.read_writes_cons_unit_of_not_mem v f inb w L _ h (0 : Fin 3) (Or.inl ?_)
  show 0 + 1 * (y 0).val < 1
  have := (y 0).isLt
  have e : S1x256x1024.size 0 = 1 := rfl
  omega

end Half

/-- Loads of the whole buffer read it. -/
theorem load_w {κ : Kind} {sp : Space} {e : EltTy} (v : View sig κ sp S1024x1024 e) (f : v.ty.Contents (Elt F))
    (inb : ∀ a, (![0, 0] : Fin 2 → ℕ) a + (![1024, 1024] : Fin 2 → ℕ) a ≤ S1024x1024.size a) :
    v.readAt (Elt F) (Rect.unit (s := S1024x1024) ![0, 0] ![1024, 1024] inb).toLoadRect f = v.read (Elt F) f := View.readAt_full v f inb
theorem load_x {κ : Kind} {sp : Space} {e : EltTy} (v : View sig κ sp S256x1024 e) (f : v.ty.Contents (Elt F))
    (inb : ∀ a, (![0, 0] : Fin 2 → ℕ) a + (![256, 1024] : Fin 2 → ℕ) a ≤ S256x1024.size a) :
    v.readAt (Elt F) (Rect.unit (s := S256x1024) ![0, 0] ![256, 1024] inb).toLoadRect f = v.read (Elt F) f := View.readAt_full v f inb
theorem load_g {κ : Kind} {sp : Space} {e : EltTy} (v : View sig κ sp S1x1024 e) (f : v.ty.Contents (Elt F))
    (inb : ∀ a, (![0, 0] : Fin 2 → ℕ) a + (![1, 1024] : Fin 2 → ℕ) a ≤ S1x1024.size a) :
    v.readAt (Elt F) (Rect.unit (s := S1x1024) ![0, 0] ![1, 1024] inb).toLoadRect f = v.read (Elt F) f := View.readAt_full v f inb

set_option maxHeartbeats 4000000 in
/-- The first point. -/
theorem sound_first (c : Dev nD) (E : Set ℕ) (i : grid0.Coords) (hi : (i 1).val = 0)
    (arg2 : Memref sig .tc .vmem S256x1024 .f32) (harg2 : arg2.IsWhole)
    (arg3 : Memref sig .tc .vmem S256x1024 .f32) (harg3 : arg3.IsWhole)
    (arg4 : Memref sig .tc .vmem S1x1024 .f32) (harg4 : arg4.IsWhole)
    (arg5 : Memref sig .tc .vmem S1024x1024 .f32) (harg5 : arg5.IsWhole)
    (arg6 : Memref sig .tc .vmem S1024x1024 .f32) (harg6 : arg6.IsWhole)
    (arg7 : Memref sig .tc .vmem S1024x1024 .f32) (harg7 : arg7.IsWhole)
    (arg8 : Memref sig .tc .vmem S1x1024 .f32) (harg8 : arg8.IsWhole)
    (arg9 : Memref sig .tc .vmem S256x1024 .f32) (harg9 : arg9.IsWhole)
    (arg10 : Memref sig .tc .vmem S1024x1024 .bf16) (harg10 : arg10.IsWhole)
    (arg11 : Memref sig .tc .vmem S1024x1024 .bf16) (harg11 : arg11.IsWhole)
    (arg12 : Memref sig .tc .vmem S1024x1024 .bf16) (harg12 : arg12.IsWhole)
    (arg13 : Memref sig .tc .vmem S2x256x1024 .bf16) (harg13 : arg13.IsWhole)
    (arg14 : Memref sig .tc .vmem S256x1024 .f32) (harg14 : arg14.IsWhole)
    (x0 x1 : Vec F S256x1024 .f32) (g : Vec F S1x1024 .f32) (wg wu wd : Vec F S1024x1024 .f32)
    (K : PUnit → sProp 𝕄) :
    iprop(owns (c : Thread nD τ) arg2 fullShare x0 ∗ owns (c : Thread nD τ) arg3 fullShare x1 ∗ owns (c : Thread nD τ) arg4 fullShare g ∗ owns (c : Thread nD τ) arg5 fullShare wg ∗ owns (c : Thread nD τ) arg6 fullShare wu ∗ owns (c : Thread nD τ) arg7 fullShare wd ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare g ∗ owns (c : Thread nD τ) arg5 fullShare wg ∗ owns (c : Thread nD τ) arg6 fullShare wu ∗ owns (c : Thread nD τ) arg7 fullShare wd ∗ owns (c : Thread nD τ) arg10 fullShare (k0_pay15 wg) ∗ owns (c : Thread nD τ) arg11 fullShare (k0_pay16 wu) ∗ owns (c : Thread nD τ) arg12 fullShare (k0_pay17 wd) ∗ (∃ d, ⌜half d = k0_pay1 x0 g⌝ ∗ owns (c : Thread nD τ) arg13 fullShare d) ∗ owns (c : Thread nD τ) arg14 fullShare (k0_pay18 wg wu wd (k0_pay1 x0 g))) -∗ K ⟨⟩))
      ⊢ wp frame (wpE (defs₀ (F := F)) 𝒱₀ c none) E (cc0_ffn_final_cast i arg2 harg2 arg3 harg3 arg4 harg4 arg5 harg5 arg6 harg6 arg7 harg7 arg8 harg8 arg9 harg9 arg10 harg10 arg11 harg11 arg12 harg12 arg13 harg13 arg14 harg14) K := by
  simp only [cc0_ffn_final_cast_eq_skeleton]; unfold cc0_ffn_final_cast_skel
  have h1 : Scalar.cmpi .ne (Scalar.extui (Scalar.andi (Scalar.cmpi .eq (BitVec.ofNat 32 (i 0).val) 0#32) (Scalar.cmpi .eq (BitVec.ofNat 32 (i 1).val) 0#32)) : BitVec 32) 0#32 = 1#1 := by
    revert hi; revert i; decide +kernel
  have h2 : ¬ k0_cond2 i = 1#1 := by revert hi; revert i; decide +kernel
  simp only [dif_pos h1, dif_neg h2, k0_part3_eq_skeleton]
  unfold k0_part3_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d10, %f10, -, H10⟩, ⟨%d11, %f11, -, H11⟩, ⟨%d12, %f12, -, H12⟩, ⟨%d13, %f13, -, H13⟩, ⟨%d14, %f14, -, H14⟩, Hk⟩
  subst hf2 hf3 hf4 hf5 hf6 hf7
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H10]
  · iexists _; isplitr
    swap; · iexact H10
    ipureintro
    exact (View.read_writes_full _ _ _ _ _).trans (by
    simp only [load_w, load_x, load_g, load_half _ _ (off6_eq i), half_store])
  isplitl [H11]
  · iexists _; isplitr
    swap; · iexact H11
    ipureintro
    exact (View.read_writes_full _ _ _ _ _).trans (by
    simp only [load_w, load_x, load_g, load_half _ _ (off6_eq i), half_store])
  isplitl [H12]
  · iexists _; isplitr
    swap; · iexact H12
    ipureintro
    exact (View.read_writes_full _ _ _ _ _).trans (by
    simp only [load_w, load_x, load_g, load_half _ _ (off6_eq i), half_store])
  isplitl [H13]
  · iexists _; isplitr
    swap
    · iexists _; isplitr
      swap; · iexact H13
      ipureintro; rfl
    ipureintro
    exact (half_other _ _ (off7_eq i) _ _ _).trans (half_store _ _ _ _) |>.trans (by simp only [load_w, load_x, load_g])
  iexists _; isplitr
  swap; · iexact H14
  ipureintro
  exact (View.read_writes_full _ _ _ _ _).trans (by
    simp only [load_w, load_x, load_g, load_half _ _ (off6_eq i), half_store]
    refine congrArg (k0_pay18 _ _ _) ?_
    unfold sound_first.sl.v35
    unfold sound_first.sl.H13_1
    exact (load_half _ _ (off6_eq i) _).trans ((half_store _ _ _ _).trans (by simp only [load_x, load_g])))

set_option maxHeartbeats 4000000 in
/-- A point between the first and the last. -/
theorem sound_middle (c : Dev nD) (E : Set ℕ) (i : grid0.Coords) (hi : (i 1).val = 1 ∨ (i 1).val = 2)
    (arg2 : Memref sig .tc .vmem S256x1024 .f32) (harg2 : arg2.IsWhole)
    (arg3 : Memref sig .tc .vmem S256x1024 .f32) (harg3 : arg3.IsWhole)
    (arg4 : Memref sig .tc .vmem S1x1024 .f32) (harg4 : arg4.IsWhole)
    (arg5 : Memref sig .tc .vmem S1024x1024 .f32) (harg5 : arg5.IsWhole)
    (arg6 : Memref sig .tc .vmem S1024x1024 .f32) (harg6 : arg6.IsWhole)
    (arg7 : Memref sig .tc .vmem S1024x1024 .f32) (harg7 : arg7.IsWhole)
    (arg8 : Memref sig .tc .vmem S1x1024 .f32) (harg8 : arg8.IsWhole)
    (arg9 : Memref sig .tc .vmem S256x1024 .f32) (harg9 : arg9.IsWhole)
    (arg10 : Memref sig .tc .vmem S1024x1024 .bf16) (harg10 : arg10.IsWhole)
    (arg11 : Memref sig .tc .vmem S1024x1024 .bf16) (harg11 : arg11.IsWhole)
    (arg12 : Memref sig .tc .vmem S1024x1024 .bf16) (harg12 : arg12.IsWhole)
    (arg13 : Memref sig .tc .vmem S2x256x1024 .bf16) (harg13 : arg13.IsWhole)
    (arg14 : Memref sig .tc .vmem S256x1024 .f32) (harg14 : arg14.IsWhole)
    (x1 : Vec F S256x1024 .f32) (g : Vec F S1x1024 .f32) (wg wu wd : Vec F S1024x1024 .f32) (n : Vec F S1x256x1024 .bf16) (a : Vec F S256x1024 .f32)
    (K : PUnit → sProp 𝕄) :
    iprop(owns (c : Thread nD τ) arg3 fullShare x1 ∗ owns (c : Thread nD τ) arg4 fullShare g ∗ owns (c : Thread nD τ) arg5 fullShare wg ∗ owns (c : Thread nD τ) arg6 fullShare wu ∗ owns (c : Thread nD τ) arg7 fullShare wd ∗ (∃ d, owns (c : Thread nD τ) arg10 fullShare d) ∗ (∃ d, owns (c : Thread nD τ) arg11 fullShare d) ∗ (∃ d, owns (c : Thread nD τ) arg12 fullShare d) ∗ (∃ d, ⌜half d = n⌝ ∗ owns (c : Thread nD τ) arg13 fullShare d) ∗ owns (c : Thread nD τ) arg14 fullShare a
        ∗ (iprop(owns (c : Thread nD τ) arg3 fullShare x1 ∗ owns (c : Thread nD τ) arg4 fullShare g ∗ owns (c : Thread nD τ) arg5 fullShare wg ∗ owns (c : Thread nD τ) arg6 fullShare wu ∗ owns (c : Thread nD τ) arg7 fullShare wd ∗ owns (c : Thread nD τ) arg10 fullShare (k0_pay11 wg) ∗ owns (c : Thread nD τ) arg11 fullShare (k0_pay12 wu) ∗ owns (c : Thread nD τ) arg12 fullShare (k0_pay13 wd) ∗ (∃ d, ⌜half d = n⌝ ∗ owns (c : Thread nD τ) arg13 fullShare d) ∗ owns (c : Thread nD τ) arg14 fullShare (k0_pay14 a wg wu wd n)) -∗ K ⟨⟩))
      ⊢ wp frame (wpE (defs₀ (F := F)) 𝒱₀ c none) E (cc0_ffn_final_cast i arg2 harg2 arg3 harg3 arg4 harg4 arg5 harg5 arg6 harg6 arg7 harg7 arg8 harg8 arg9 harg9 arg10 harg10 arg11 harg11 arg12 harg12 arg13 harg13 arg14 harg14) K := by
  simp only [cc0_ffn_final_cast_eq_skeleton]; unfold cc0_ffn_final_cast_skel
  have h1 : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1 := by
    revert hi; revert i; decide +kernel
  have h2 : k0_cond2 i = 1#1 := by revert hi; revert i; decide +kernel
  have h3 : ¬ k0_cond3 i = 1#1 := by revert hi; revert i; decide +kernel
  simp only [dif_neg h1, dif_pos h2, dif_neg h3, k0_part2_eq_skeleton]
  unfold k0_part2_skel owns
  iintro ⟨⟨%f3, %hf3, H3⟩, ⟨%f4, %hf4, H4⟩, ⟨%f5, %hf5, H5⟩, ⟨%f6, %hf6, H6⟩, ⟨%f7, %hf7, H7⟩, ⟨%d10, %f10, -, H10⟩, ⟨%d11, %f11, -, H11⟩, ⟨%d12, %f12, -, H12⟩, ⟨%d13, %hd, %f13, %hf13, H13⟩, ⟨%f14, %hf14, H14⟩, Hk⟩
  subst hf3 hf4 hf5 hf6 hf7 hf13 hf14 hd
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H10]
  · iexists _; isplitr
    swap; · iexact H10
    ipureintro
    exact (View.read_writes_full _ _ _ _ _).trans (by
    simp only [load_w, load_x, load_g, load_half _ _ (off3_eq i)])
  isplitl [H11]
  · iexists _; isplitr
    swap; · iexact H11
    ipureintro
    exact (View.read_writes_full _ _ _ _ _).trans (by
    simp only [load_w, load_x, load_g, load_half _ _ (off3_eq i)])
  isplitl [H12]
  · iexists _; isplitr
    swap; · iexact H12
    ipureintro
    exact (View.read_writes_full _ _ _ _ _).trans (by
    simp only [load_w, load_x, load_g, load_half _ _ (off3_eq i)])
  isplitl [H13]
  · iexists _; isplitr
    swap
    · iexists _; isplitr
      swap; · iexact H13
      ipureintro; rfl
    ipureintro
    exact half_other _ _ (off5_eq i) _ _ _
  iexists _; isplitr
  swap; · iexact H14
  ipureintro
  exact (View.read_writes_full _ _ _ _ _).trans (by
    simp only [load_w, load_x, load_g, load_half _ _ (off3_eq i)])

set_option maxHeartbeats 4000000 in
/-- The last point. -/
theorem sound_last (c : Dev nD) (E : Set ℕ) (i : grid0.Coords) (hi : (i 1).val = 3)
    (arg2 : Memref sig .tc .vmem S256x1024 .f32) (harg2 : arg2.IsWhole)
    (arg3 : Memref sig .tc .vmem S256x1024 .f32) (harg3 : arg3.IsWhole)
    (arg4 : Memref sig .tc .vmem S1x1024 .f32) (harg4 : arg4.IsWhole)
    (arg5 : Memref sig .tc .vmem S1024x1024 .f32) (harg5 : arg5.IsWhole)
    (arg6 : Memref sig .tc .vmem S1024x1024 .f32) (harg6 : arg6.IsWhole)
    (arg7 : Memref sig .tc .vmem S1024x1024 .f32) (harg7 : arg7.IsWhole)
    (arg8 : Memref sig .tc .vmem S1x1024 .f32) (harg8 : arg8.IsWhole)
    (arg9 : Memref sig .tc .vmem S256x1024 .f32) (harg9 : arg9.IsWhole)
    (arg10 : Memref sig .tc .vmem S1024x1024 .bf16) (harg10 : arg10.IsWhole)
    (arg11 : Memref sig .tc .vmem S1024x1024 .bf16) (harg11 : arg11.IsWhole)
    (arg12 : Memref sig .tc .vmem S1024x1024 .bf16) (harg12 : arg12.IsWhole)
    (arg13 : Memref sig .tc .vmem S2x256x1024 .bf16) (harg13 : arg13.IsWhole)
    (arg14 : Memref sig .tc .vmem S256x1024 .f32) (harg14 : arg14.IsWhole)
    (x0 x1 : Vec F S256x1024 .f32) (g fg : Vec F S1x1024 .f32) (wg wu wd : Vec F S1024x1024 .f32) (n : Vec F S1x256x1024 .bf16) (a : Vec F S256x1024 .f32)
    (K : PUnit → sProp 𝕄) :
    iprop(owns (c : Thread nD τ) arg2 fullShare x0 ∗ owns (c : Thread nD τ) arg3 fullShare x1 ∗ owns (c : Thread nD τ) arg4 fullShare g ∗ owns (c : Thread nD τ) arg5 fullShare wg ∗ owns (c : Thread nD τ) arg6 fullShare wu ∗ owns (c : Thread nD τ) arg7 fullShare wd ∗ owns (c : Thread nD τ) arg8 fullShare fg ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, ⌜half d = n⌝ ∗ owns (c : Thread nD τ) arg13 fullShare d) ∗ owns (c : Thread nD τ) arg14 fullShare a
        ∗ (iprop(owns (c : Thread nD τ) arg2 fullShare x0 ∗ owns (c : Thread nD τ) arg3 fullShare x1 ∗ owns (c : Thread nD τ) arg4 fullShare g ∗ owns (c : Thread nD τ) arg5 fullShare wg ∗ owns (c : Thread nD τ) arg6 fullShare wu ∗ owns (c : Thread nD τ) arg7 fullShare wd ∗ owns (c : Thread nD τ) arg8 fullShare fg ∗ owns (c : Thread nD τ) arg9 fullShare (k0_pay2 (k0_pay6 x0) (k0_pay10 a wg wu wd n) (Scalar.ofBits .f32 0x3F000000#32) fg) ∗ owns (c : Thread nD τ) arg10 fullShare (k0_pay7 wg) ∗ owns (c : Thread nD τ) arg11 fullShare (k0_pay8 wu) ∗ owns (c : Thread nD τ) arg12 fullShare (k0_pay9 wd) ∗ (∃ d, ⌜half d = n⌝ ∗ owns (c : Thread nD τ) arg13 fullShare d) ∗ owns (c : Thread nD τ) arg14 fullShare a) -∗ K ⟨⟩))
      ⊢ wp frame (wpE (defs₀ (F := F)) 𝒱₀ c none) E (cc0_ffn_final_cast i arg2 harg2 arg3 harg3 arg4 harg4 arg5 harg5 arg6 harg6 arg7 harg7 arg8 harg8 arg9 harg9 arg10 harg10 arg11 harg11 arg12 harg12 arg13 harg13 arg14 harg14) K := by
  simp only [cc0_ffn_final_cast_eq_skeleton]; unfold cc0_ffn_final_cast_skel
  have h1 : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1 := by
    revert hi; revert i; decide +kernel
  have h2 : k0_cond2 i = 1#1 := by revert hi; revert i; decide +kernel
  have h3 : k0_cond3 i = 1#1 := by revert hi; revert i; decide +kernel
  simp only [dif_neg h1, dif_pos h2, dif_pos h3, k0_part1_eq_skeleton]
  unfold k0_part1_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %hd, %f13, %hf13, H13⟩, ⟨%f14, %hf14, H14⟩, Hk⟩
  subst hf2 hf3 hf4 hf5 hf6 hf7 hf8 hf13 hf14 hd
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact (View.read_writes_full _ _ _ _ _).trans (by
    simp only [load_w, load_x, load_g, load_half _ _ (off1_eq i)]; rfl)
  isplitl [H10]
  · iexists _; isplitr
    swap; · iexact H10
    ipureintro
    exact (View.read_writes_full _ _ _ _ _).trans (by
    simp only [load_w, load_x, load_g, load_half _ _ (off1_eq i)])
  isplitl [H11]
  · iexists _; isplitr
    swap; · iexact H11
    ipureintro
    exact (View.read_writes_full _ _ _ _ _).trans (by
    simp only [load_w, load_x, load_g, load_half _ _ (off1_eq i)])
  isplitl [H12]
  · iexists _; isplitr
    swap; · iexact H12
    ipureintro
    exact (View.read_writes_full _ _ _ _ _).trans (by
    simp only [load_w, load_x, load_g, load_half _ _ (off1_eq i)])
  isplitl [H13]
  · iexists _; isplitr
    swap
    · iexists _; isplitr
      swap; · iexact H13
      ipureintro; rfl
    ipureintro
    exact half_other _ _ (off2_eq i) _ _ _
  iexists f14; isplitr; · ipureintro; rfl
  iexact H14

end Cert.FfnSampleIdeal.Step

end
-- ==== Proof.FfnSample.Run.lean ====
/- The sample batch's feed-forward launch: the pipeline's proof data, the body obligation at each of the four points, the run and the frame. -/
module

public import proofs.«01_k».proof.Proof.FfnSample.Body

@[expose] public section

set_option maxRecDepth 16384

noncomputable section

namespace Cert.FfnSampleIdeal.Step

open Cert.FfnSampleIdeal Cert.FfnSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The normed rows, -/
def xn (c : Dev nD) : Vec F S1x256x1024 .bf16 := k0_pay1 (iblk m c 0 t0_0) (iblk m c 2 t0_0)
/-- the accumulator after the first three points, -/
def acc0 (c : Dev nD) : Vec F S256x1024 .f32 := k0_pay18 (iblk m c 3 t0_0) (iblk m c 4 t0_0) (iblk m c 5 t0_0) (xn m c)
def acc1 (c : Dev nD) : Vec F S256x1024 .f32 := k0_pay14 (acc0 m c) (iblk m c 3 t0_1) (iblk m c 4 t0_1) (iblk m c 5 t0_1) (xn m c)
def acc2 (c : Dev nD) : Vec F S256x1024 .f32 := k0_pay14 (acc1 m c) (iblk m c 3 t0_2) (iblk m c 4 t0_2) (iblk m c 5 t0_2) (xn m c)
/-- and the layer's output. -/
def out (c : Dev nD) : Vec F S256x1024 .f32 :=
  k0_pay2 (k0_pay6 (iblk m c 0 t0_3)) (k0_pay10 (acc2 m c) (iblk m c 3 t0_3) (iblk m c 4 t0_3) (iblk m c 5 t0_3) (xn m c))
    (Scalar.ofBits .f32 0x3F000000#32) (iblk m c 6 t0_3)

/-- What the scratch buffers hold between two points: the normed rows and the accumulator `a`. -/
def kept (c : Dev nD) (a : Vec F S256x1024 .f32) : sProp 𝕄 :=
  iprop(((∃ d, ⌜half d = xn m c⌝ ∗ owns (c : Thread nD τ) (Memref.whole cc0_scratch0) fullShare d)
      ∗ owns (c : Thread nD τ) (Memref.whole cc0_scratch1) fullShare a) ∗ ∃ r, prngReg c r)

/-- The scratch buffers after `n` points. -/
def scr (c : Dev nD) : ℕ → sProp 𝕄
  | 1 => kept m c (acc0 m c)
  | 2 => kept m c (acc1 m c)
  | 3 => kept m c (acc2 m c)
  | _ => Pipeline.ΦA spec0 c

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out m c
    | ⟨8, _⟩ => k0_pay7 (iblk m c 3 t)
    | ⟨9, _⟩ => k0_pay8 (iblk m c 4 t)
    | ⟨10, _⟩ => k0_pay9 (iblk m c 5 t)
  Φ n := scr m c n.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out m c := by dsimp only [dats]
theorem after0_8 (c : Dev nD) (t : Fin cfg0.N) : (dats m 0 c).after 8 t = k0_pay7 (iblk m c 3 t) := by dsimp only [dats]
theorem after0_9 (c : Dev nD) (t : Fin cfg0.N) : (dats m 0 c).after 9 t = k0_pay8 (iblk m c 4 t) := by dsimp only [dats]
theorem after0_10 (c : Dev nD) (t : Fin cfg0.N) : (dats m 0 c).after 10 t = k0_pay9 (iblk m c 5 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The scratch buffers and the register, spelt out. -/
theorem Φ_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d))
        ∗ ∃ r, prngReg c r) := by
  unfold Pipeline.ΦA
  rw [scopedRest0_eq]
  simp only [owns_whole]

/-- The kept scratch is scratch. -/
theorem kept_out (c : Dev nD) (a : Vec F S256x1024 .f32) : kept m c a ⊢ (Pipeline.ΦA spec0 c : sProp 𝕄) := by
  rw [Φ_eq]
  unfold kept
  iintro ⟨⟨⟨%d, -, H⟩, H1⟩, Hp⟩
  isplitl [H H1]
  · isplitl [H]; · iexists _; iexact H
    iexists _; iexact H1
  iexact Hp

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns, the output's buffer aside, -/
def bodyPost (c : Dev nD) (t : Fin cfg0.N) (Y : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ Y
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at the first point, -/
theorem sound_0 (c : Dev nD) :
    bodyPre m c t0_0 ⊢ wp frame (wpE (defs₀ (F := F)) 𝒱₀ c none) Set.univ (bodyAt0 t0_0) (fun _ => bodyPost m c t0_0 iprop(∃ d, owns (c : Thread nD τ) (st0_7 t0_0) fullShare ((dats m 0 c).before 7 t0_0 d))) := by
  unfold bodyPre bodyPost bodyAt0
  simp only [before0_0, before0_1, before0_2, before0_3, before0_4, before0_5, before0_6]
  rw [show (dats m 0 c).Φ (t0_0 : Fin cfg0.N).castSucc = Pipeline.ΦA spec0 c from rfl, show (dats m 0 c).Φ (t0_0 : Fin cfg0.N).succ = kept m c (acc0 m c) from rfl,
    show (dats m 0 c).owesAt () (t0_0 : Fin cfg0.N).succ = (dats m 0 c).owesAt () (t0_0 : Fin cfg0.N).castSucc from rfl,
    after0_0, after0_1, after0_2, after0_3, after0_4, after0_5, after0_6, after0_8, after0_9, after0_10]
  rw [Φ_eq]
  unfold kept
  iintro ⟨⟨⟨Hs0, Hs1⟩, Hp⟩, Ho, ⟨%d0, H0⟩, ⟨%d1, H1⟩, ⟨%d2, H2⟩, ⟨%d3, H3⟩, ⟨%d4, H4⟩, ⟨%d5, H5⟩, ⟨%d6, H6⟩, H7, ⟨%d8, H8⟩, ⟨%d9, H9⟩, ⟨%d10, H10⟩⟩
  iapply (sound_first c Set.univ (grid0.coords t0_0) (by decide +kernel) _ _ _ _ _ _ _ _ _ _ _ _ _ _ _ _ _ _ _ _ _ _ _ _ _ _ (iblk m c 0 t0_0) (iblk m c 1 t0_0) (iblk m c 2 t0_0) (iblk m c 3 t0_0) (iblk m c 4 t0_0) (iblk m c 5 t0_0) _)
  isplitl [H0]; · iexact H0
  isplitl [H1]; · iexact H1
  isplitl [H2]; · iexact H2
  isplitl [H3]; · iexact H3
  isplitl [H4]; · iexact H4
  isplitl [H5]; · iexact H5
  isplitl [H8]; · iexists _; iexact H8
  isplitl [H9]; · iexists _; iexact H9
  isplitl [H10]; · iexists _; iexact H10
  isplitl [Hs0]; · iexact Hs0
  isplitl [Hs1]; · iexact Hs1
  iintro ⟨H0, H1, H2, H3, H4, H5, H8, H9, H10, Hs0, Hs1⟩
  isplitl [Hs0 Hs1 Hp]
  · isplitl [Hs0 Hs1]
    · isplitl [Hs0]; · iexact Hs0
      iexact Hs1
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- at the second, -/
theorem sound_1 (c : Dev nD) :
    bodyPre m c t0_1 ⊢ wp frame (wpE (defs₀ (F := F)) 𝒱₀ c none) Set.univ (bodyAt0 t0_1) (fun _ => bodyPost m c t0_1 iprop(∃ d, owns (c : Thread nD τ) (st0_7 t0_1) fullShare ((dats m 0 c).before 7 t0_1 d))) := by
  unfold bodyPre bodyPost bodyAt0
  simp only [before0_0, before0_1, before0_2, before0_3, before0_4, before0_5, before0_6]
  rw [show (dats m 0 c).Φ (t0_1 : Fin cfg0.N).castSucc = kept m c (acc0 m c) from rfl, show (dats m 0 c).Φ (t0_1 : Fin cfg0.N).succ = kept m c (acc1 m c) from rfl,
    show (dats m 0 c).owesAt () (t0_1 : Fin cfg0.N).succ = (dats m 0 c).owesAt () (t0_1 : Fin cfg0.N).castSucc from rfl,
    after0_0, after0_1, after0_2, after0_3, after0_4, after0_5, after0_6, after0_8, after0_9, after0_10]
  unfold kept
  iintro ⟨⟨⟨Hs0, Hs1⟩, Hp⟩, Ho, ⟨%d0, H0⟩, ⟨%d1, H1⟩, ⟨%d2, H2⟩, ⟨%d3, H3⟩, ⟨%d4, H4⟩, ⟨%d5, H5⟩, ⟨%d6, H6⟩, H7, ⟨%d8, H8⟩, ⟨%d9, H9⟩, ⟨%d10, H10⟩⟩
  iapply (sound_middle c Set.univ (grid0.coords t0_1) (by decide +kernel) _ _ _ _ _ _ _ _ _ _ _ _ _ _ _ _ _ _ _ _ _ _ _ _ _ _ (iblk m c 1 t0_1) (iblk m c 2 t0_1) (iblk m c 3 t0_1) (iblk m c 4 t0_1) (iblk m c 5 t0_1) (xn m c) (acc0 m c) _)
  isplitl [H1]; · iexact H1
  isplitl [H2]; · iexact H2
  isplitl [H3]; · iexact H3
  isplitl [H4]; · iexact H4
  isplitl [H5]; · iexact H5
  isplitl [H8]; · iexists _; iexact H8
  isplitl [H9]; · iexists _; iexact H9
  isplitl [H10]; · iexists _; iexact H10
  isplitl [Hs0]; · iexact Hs0
  isplitl [Hs1]; · iexact Hs1
  iintro ⟨H1, H2, H3, H4, H5, H8, H9, H10, Hs0, Hs1⟩
  isplitl [Hs0 Hs1 Hp]
  · isplitl [Hs0 Hs1]
    · isplitl [Hs0]; · iexact Hs0
      iexact Hs1
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- at the third -/
theorem sound_2 (c : Dev nD) :
    bodyPre m c t0_2 ⊢ wp frame (wpE (defs₀ (F := F)) 𝒱₀ c none) Set.univ (bodyAt0 t0_2) (fun _ => bodyPost m c t0_2 iprop(∃ d, owns (c : Thread nD τ) (st0_7 t0_2) fullShare ((dats m 0 c).before 7 t0_2 d))) := by
  unfold bodyPre bodyPost bodyAt0
  simp only [before0_0, before0_1, before0_2, before0_3, before0_4, before0_5, before0_6]
  rw [show (dats m 0 c).Φ (t0_2 : Fin cfg0.N).castSucc = kept m c (acc1 m c) from rfl, show (dats m 0 c).Φ (t0_2 : Fin cfg0.N).succ = kept m c (acc2 m c) from rfl,
    show (dats m 0 c).owesAt () (t0_2 : Fin cfg0.N).succ = (dats m 0 c).owesAt () (t0_2 : Fin cfg0.N).castSucc from rfl,
    after0_0, after0_1, after0_2, after0_3, after0_4, after0_5, after0_6, after0_8, after0_9, after0_10]
  unfold kept
  iintro ⟨⟨⟨Hs0, Hs1⟩, Hp⟩, Ho, ⟨%d0, H0⟩, ⟨%d1, H1⟩, ⟨%d2, H2⟩, ⟨%d3, H3⟩, ⟨%d4, H4⟩, ⟨%d5, H5⟩, ⟨%d6, H6⟩, H7, ⟨%d8, H8⟩, ⟨%d9, H9⟩, ⟨%d10, H10⟩⟩
  iapply (sound_middle c Set.univ (grid0.coords t0_2) (by decide +kernel) _ _ _ _ _ _ _ _ _ _ _ _ _ _ _ _ _ _ _ _ _ _ _ _ _ _ (iblk m c 1 t0_2) (iblk m c 2 t0_2) (iblk m c 3 t0_2) (iblk m c 4 t0_2) (iblk m c 5 t0_2) (xn m c) (acc1 m c) _)
  isplitl [H1]; · iexact H1
  isplitl [H2]; · iexact H2
  isplitl [H3]; · iexact H3
  isplitl [H4]; · iexact H4
  isplitl [H5]; · iexact H5
  isplitl [H8]; · iexists _; iexact H8
  isplitl [H9]; · iexists _; iexact H9
  isplitl [H10]; · iexists _; iexact H10
  isplitl [Hs0]; · iexact Hs0
  isplitl [Hs1]; · iexact Hs1
  iintro ⟨H1, H2, H3, H4, H5, H8, H9, H10, Hs0, Hs1⟩
  isplitl [Hs0 Hs1 Hp]
  · isplitl [Hs0 Hs1]
    · isplitl [Hs0]; · iexact Hs0
      iexact Hs1
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- and at the last. -/
theorem sound_3 (c : Dev nD) :
    bodyPre m c t0_3 ⊢ wp frame (wpE (defs₀ (F := F)) 𝒱₀ c none) Set.univ (bodyAt0 t0_3) (fun _ => bodyPost m c t0_3 iprop(owns (c : Thread nD τ) (st0_7 t0_3) fullShare ((dats m 0 c).after 7 t0_3))) := by
  unfold bodyPre bodyPost bodyAt0
  simp only [before0_0, before0_1, before0_2, before0_3, before0_4, before0_5, before0_6]
  rw [show (dats m 0 c).Φ (t0_3 : Fin cfg0.N).castSucc = kept m c (acc2 m c) from rfl, show (dats m 0 c).Φ (t0_3 : Fin cfg0.N).succ = Pipeline.ΦA spec0 c from rfl,
    show (dats m 0 c).owesAt () (t0_3 : Fin cfg0.N).succ = (dats m 0 c).owesAt () (t0_3 : Fin cfg0.N).castSucc from rfl,
    after0_0, after0_1, after0_2, after0_3, after0_4, after0_5, after0_6, after0_7, after0_8, after0_9, after0_10]
  unfold kept
  iintro ⟨⟨⟨Hs0, Hs1⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_last c Set.univ (grid0.coords t0_3) (by decide +kernel) _ _ _ _ _ _ _ _ _ _ _ _ _ _ _ _ _ _ _ _ _ _ _ _ _ _ (iblk m c 0 t0_3) (iblk m c 1 t0_3) (iblk m c 2 t0_3) (iblk m c 6 t0_3) (iblk m c 3 t0_3) (iblk m c 4 t0_3) (iblk m c 5 t0_3) (xn m c) (acc2 m c) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [Hs0]; · iexact Hs0
  isplitl [Hs1]; · iexact Hs1
  iintro ⟨H0, H1, H2, H3, H4, H5, H6, H7, H8, H9, H10, Hs0, Hs1⟩
  isplitl [Hs0 Hs1 Hp]
  · iapply (kept_out m c (acc2 m c))
    unfold kept
    isplitl [Hs0 Hs1]
    · isplitl [Hs0]; · iexact Hs0
      iexact Hs1
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

/-- The output's window rests at every point but the last; -/
theorem idle7_0 : idle0 7 (grid0.coords t0_0) = true := by decide +kernel
theorem flush7_0 : (win0 7).flush t0_0 = false := by decide +kernel
theorem idle7_1 : idle0 7 (grid0.coords t0_1) = true := by decide +kernel
theorem flush7_1 : (win0 7).flush t0_1 = false := by decide +kernel
theorem idle7_2 : idle0 7 (grid0.coords t0_2) = true := by decide +kernel
theorem flush7_2 : (win0 7).flush t0_2 = false := by decide +kernel
theorem idle7_3 : idle0 7 (grid0.coords t0_3) = false := by decide +kernel
/-- the windows of the copies rest at none. -/
theorem idle8 : ∀ t : Fin grid0.N, idle0 8 (grid0.coords t) = false := by decide +kernel
theorem idle9 : ∀ t : Fin grid0.N, idle0 9 (grid0.coords t) = false := by decide +kernel
theorem idle10 : ∀ t : Fin grid0.N, idle0 10 (grid0.coords t) = false := by decide +kernel

set_option maxHeartbeats 4000000 in
/-- The library's body obligation, at every point. -/
theorem body_obligation (c : Dev nD) : BodyObligation (dats (F := F) m 0 c) (defs₀ (F := F)) 𝒱₀ () Set.univ := fun t => by
  rw [bigSep_W0, bigSep_W0, defs₀_row]
  rcases fin_N0 t with rfl | rfl | rfl | rfl
  · simp only [idle7_0, flush7_0, idle8, idle9, idle10]
    exact triple_restated (sound_0 m c) rfl .rfl fun _ => .rfl
  · simp only [idle7_1, flush7_1, idle8, idle9, idle10]
    exact triple_restated (sound_1 m c) rfl .rfl fun _ => .rfl
  · simp only [idle7_2, flush7_2, idle8, idle9, idle10]
    exact triple_restated (sound_2 m c) rfl .rfl fun _ => .rfl
  · simp only [idle7_3, idle8, idle9, idle10]
    exact triple_restated (sound_3 m c) rfl .rfl fun _ => .rfl

theorem hq (c : Dev nD) (w : Fin (cfgs 0).W) (_ : ((cfgs 0).spec w).isOut = false) : (dats m 0 c).q w = Pipeline.shareOf (cfgs 0).spec w := rfl
theorem hin (c : Dev nD) : Pipeline.ΦA (cfgs 0).spec c ⊢ (dats m 0 c).Φ 0 := .rfl
theorem hout (c : Dev nD) : (dats m 0 c).Φ (Fin.last (cfgs 0).N) ⊢ Pipeline.ΦA (cfgs 0).spec c := .rfl

set_option backward.isDefEq.respectTransparency.types false in
set_option maxHeartbeats 800000 in
/-- The launch: every run ends, each array of the pipeline at what the proof data says, every other buffer as the region found
    it, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ 𝒱₀ m ρ main
    (hbody := fun c => (body_obligation m c).loose) (hq := hq m)
    (howed := fun _ _ => rfl) (V := V m) (hmain := hmain m 𝒱₀) (hA := A_eq m) (hin := hin m) (hout := hout m)

/-- The frame: every run ends with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨((h.1 c).2 main_arg0 (Pipeline.mem_restRefs_of main_arg0 (by decide) (by decide))).trans (V_main_arg0 m c),
      ((h.1 c).1 2).trans (((dats m 0 c).arrAt_in 2 rfl _).trans ((A_eq m c 2).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main_quiescent m ρ)

/-- The run, ending at the result arrays the value proofs speak of. -/
theorem run_values : θ_run defs (onTc (τ := τ) (main (F := F))) ⟨m, fun _ => 0, ρ⟩ (fun r => ∀ c : Dev nD,
      r.2.mem ((c.tc : Thread nD τ).loc main_v5_0) = (dats m 0 c).arrAt 7 (cfgs 0).N
      ∧ r.2.mem ((c.tc : Thread nD τ).loc main_v5_1) = (dats m 0 c).arrAt 8 (cfgs 0).N
      ∧ r.2.mem ((c.tc : Thread nD τ).loc main_v5_2) = (dats m 0 c).arrAt 9 (cfgs 0).N
      ∧ r.2.mem ((c.tc : Thread nD τ).loc main_v5_3) = (dats m 0 c).arrAt 10 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 7, (h.1 c).1 8, (h.1 c).1 9, (h.1 c).1 10,
      ((h.1 c).2 main_arg0 (Pipeline.mem_restRefs_of main_arg0 (by decide) (by decide))).trans (V_main_arg0 m c),
      ((h.1 c).1 2).trans (((dats m 0 c).arrAt_in 2 rfl _).trans ((A_eq m c 2).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩) (run_main_quiescent m ρ)

end Cert.FfnSampleIdeal.Step

end
-- ==== Proof.FfnSample.Ref.lean ====
/- The sample batch's feed-forward reference's result read at an index. -/
module

public import proofs.«01_k».proof.Proof.Gen.FfnSampleRefIdeal.Run
public import proofs.«01_k».proof.Proof.Ffn.Rows
public import Idealize.ShloMosaic.Lib.Pointwise

@[expose] public section

set_option maxRecDepth 16384

noncomputable section

namespace Cert.FfnSampleRefIdeal.Val

open Cert.FfnSampleRefIdeal Cert.FfnSampleRefIdeal.Gen Idealize.ShloMosaic Idealize.ShloMosaic.TcCoe Idealize.SL.Sem

/-- The reference's norm of its input. -/
def XN (a0 : FVec Ideal S8x32x1024 .f32) (a1 : FVec Ideal S1024 .f32) : FVec Ideal S8x32x1024 .f32 :=
  (mulf (mulf a0 (broadcastInDim S8x32x1024 ![0, 1, 2] bcast_S8x32x1_S8x32x1024_0_1_2 (Host.rsqrt (addf (Host.divf (broadcastInDim S8x32x1 ![0, 1] bcast_S8x32_S8x32x1_0_1 (Host.reduceAdd (mulf a0 a0) (constant S_ .f32 0x00000000#32) reducesTo_S8x32x1024_S8x32_d2 h_S_)) (broadcastInDim S8x32x1 ![] bcast_S_S8x32x1 (constant S_ .f32 0x44800000#32))) (broadcastInDim S8x32x1 ![] bcast_S_S8x32x1 (constant S_ .f32 0x358637BD#32)))))) (broadcastInDim S8x32x1024 ![0, 1, 2] bcast_S1x1x1024_S8x32x1024_0_1_2 (broadcastInDim S1x1x1024 ![2] bcast_S1024_S1x1x1024_2 a1)))

/-- A product of the normed input with a weight of 4096 columns. -/
def Z (xn : FVec Ideal S8x32x1024 .f32) (w : FVec Ideal S1x1024x4096 .f32) : FVec Ideal S8x32x4096 .f32 :=
  (Host.dotGeneral dot_S8x32x1024_S1024x4096_S8x32x4096_2_0_01_1_n_n none xn (shapeCast _ w shapeCasts_S1x1024x4096_S1024x4096))

/-- The input after the half step. -/
def Y (a0 : FVec Ideal S8x32x1024 .f32) (z u : FVec Ideal S8x32x4096 .f32) (a4 : FVec Ideal S1x4096x1024 .f32) : FVec Ideal S8x32x1024 .f32 :=
  (addf a0 (mulf (broadcastInDim S8x32x1024 ![] bcast_S_S8x32x1024 (constant S_ .f32 0x3F000000#32)) (Host.dotGeneral dot_S8x32x4096_S4096x1024_S8x32x1024_2_0_01_1_n_n none (mulf (mulf z (Host.divf (broadcastInDim S8x32x4096 ![] bcast_S_S8x32x4096 (constant S_ .f32 0x3F800000#32)) (addf (broadcastInDim S8x32x4096 ![] bcast_S_S8x32x4096 (constant S_ .f32 0x3F800000#32)) (Host.exp (Host.negf z))))) u) (shapeCast _ a4 shapeCasts_S1x4096x1024_S4096x1024))))

/-- The reference's result over its six arguments. -/
def REF (a0 : FVec Ideal S8x32x1024 .f32) (a1 : FVec Ideal S1x1024 .f32) (a2 a3 : FVec Ideal S1x1024x4096 .f32)
    (a4 : FVec Ideal S1x4096x1024 .f32) (a5 : FVec Ideal S1024 .f32) : FVec Ideal S256x1024 .f32 :=
  shapeCast _ (XN (Y a0 (Z (XN a0 (shapeCast _ a1 shapeCasts_S1x1024_S1024)) a2) (Z (XN a0 (shapeCast _ a1 shapeCasts_S1x1024_S1024)) a3) a4) a5)
    shapeCasts_S8x32x1024_S256x1024

/-- The generated run's result is `REF` of the arguments. -/
theorem res_eq (m : (ℓ : Loc nD τ sig) → Buf (Elt Ideal) ℓ) (c : Dev nD) :
    Value.res_main_v38 m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := rfl

/-- The weights in the smaller format. -/
def COLS (w : FVec Ideal S1x1024x4096 .f32) : FVec Ideal S1024x4096 .bf16 :=
  truncf .bf16 (shapeCast S1024x4096 w shapeCasts_S1x1024x4096_S1024x4096) bitsLt_bf16_f32
def ROWS (w : FVec Ideal S1x4096x1024 .f32) : FVec Ideal S4096x1024 .bf16 :=
  truncf .bf16 (shapeCast S4096x1024 w shapeCasts_S1x4096x1024_S4096x1024) bitsLt_bf16_f32
/-- and at an index. -/
theorem COLS_at (w : FVec Ideal S1x1024x4096 .f32) (k : Fin 1024) (f : Fin 4096) : COLS w (ix2 k f) = w (ix3 0 k f) := by
  pointwise [COLS]
theorem ROWS_at (w : FVec Ideal S1x4096x1024 .f32) (f : Fin 4096) (k : Fin 1024) : ROWS w (ix2 f k) = w (ix3 0 f k) := by
  pointwise [ROWS]

/-- The norm at an index is the norm of that row. -/
theorem XN_at (a0 : FVec Ideal S8x32x1024 .f32) (a1 : FVec Ideal S1024 .f32) (b : Fin 8) (t : Fin 32) (k : Fin 1024) :
    XN a0 a1 (ix3 b t k) = Rows.normed (fun j => a0 (ix3 b t j)) (fun j => a1 (ix1 j)) k := by
  pointwise [XN, Rows.normed, zero_add]

/-- The product at an index. -/
theorem Z_at (xn : FVec Ideal S8x32x1024 .f32) (w : FVec Ideal S1x1024x4096 .f32) (b : Fin 8) (t : Fin 32) (f : Fin 4096) :
    Z xn w (ix3 b t f) = ∑ k : Fin 1024, xn (ix3 b t k) * w (ix3 0 k f) := by
  pointwise [Z]

/-- The stepped input at an index. -/
theorem Y_at (a0 : FVec Ideal S8x32x1024 .f32) (z u : FVec Ideal S8x32x4096 .f32) (a4 : FVec Ideal S1x4096x1024 .f32)
    (b : Fin 8) (t : Fin 32) (j : Fin 1024) :
    Y a0 z u a4 (ix3 b t j) = a0 (ix3 b t j) + Ideal.ofBits .f32 0x3F000000#32
      * ∑ f : Fin 4096, z (ix3 b t f) * Ideal.div 1 (1 + Ideal.exp (-(z (ix3 b t f)))) * u (ix3 b t f) * a4 (ix3 0 f j) := by
  pointwise [Y]

/-- The reference's result at a row and a column: the norm of the stepped row. -/
theorem REF_at (a0 : FVec Ideal S8x32x1024 .f32) (a1 : FVec Ideal S1x1024 .f32) (a2 a3 : FVec Ideal S1x1024x4096 .f32)
    (a4 : FVec Ideal S1x4096x1024 .f32) (a5 : FVec Ideal S1024 .f32) (r : Fin 256) (j : Fin 1024) (b : Fin 8) (t : Fin 32)
    (h : (r : ℕ) = b * 32 + t) :
    REF a0 a1 a2 a3 a4 a5 (ix2 r j) = Rows.normed (Rows.stepped (fun k => a0 (ix3 b t k))
      (Rows.normed (fun k => a0 (ix3 b t k)) (fun k => a1 (ix2 0 k))) (fun k f => a2 (ix3 0 k f)) (fun k f => a3 (ix3 0 k f))
      (fun f j => a4 (ix3 0 f j))) (fun k => a5 (ix1 k)) j := by
  have hb : (⟨(r : ℕ) / 32, by omega⟩ : Fin 8) = b := Fin.ext (by simp; omega)
  have ht : (⟨(r : ℕ) % 32, by omega⟩ : Fin 32) = t := Fin.ext (by simp; omega)
  have hg : ∀ k : Fin 1024, shapeCast S1024 a1 shapeCasts_S1x1024_S1024 (ix1 k) = a1 (ix2 0 k) := fun k => by pointwise
  pointwise [REF]
  rw [hb, ht, XN_at]
  congr 1
  funext j
  rw [Y_at]
  simp only [Z_at, XN_at, hg]
  rfl

end Cert.FfnSampleRefIdeal.Val

end
-- ==== Proof.FfnSample.Value.lean ====
/- The sample batch's feed-forward result arrays are the reference's: the layer's output after the four chunks of the hidden
   row, and the three weights in the smaller format. -/
module

public import proofs.«01_k».proof.Proof.FfnSample.Run
public import proofs.«01_k».proof.Proof.FfnSample.Ref
public import Idealize.ShloMosaic.Lib.Pipeline.ValueKit

@[expose] public section

set_option maxRecDepth 16384

noncomputable section

namespace Cert.FfnSampleIdeal.Val

open Cert.FfnSampleIdeal Cert.FfnSampleIdeal.Gen Cert.FfnSampleIdeal.Step Idealize.ShloMosaic Idealize.ShloMosaic.TcCoe Idealize.SL.Sem
open Idealize.ShloMosaic.Pipeline (Dat)

/-- One chunk of the hidden row, gated and multiplied by its rows of the last weight. -/
def part (xn : FVec Ideal S1x256x1024 .bf16) (wg wu wd : FVec Ideal S1024x1024 .f32) (r : Fin 256) (j : Fin 1024) : EReal :=
  ∑ f : Fin 1024, (∑ k : Fin 1024, xn (ix3 0 r k) * wg (ix2 k f))
    * Ideal.div 1 (1 + Ideal.exp (-(∑ k : Fin 1024, xn (ix3 0 r k) * wg (ix2 k f))))
    * (∑ k : Fin 1024, xn (ix3 0 r k) * wu (ix2 k f)) * wd (ix2 f j)

/-- The normed block at an index. -/
theorem pay1_at (x : FVec Ideal S256x1024 .f32) (g : FVec Ideal S1x1024 .f32) (r : Fin 256) (k : Fin 1024) :
    k0_pay1 (F := Ideal) x g (ix3 0 r k) = Rows.normed (fun j => x (ix2 r j)) (fun j => g (ix2 0 j)) k := by
  pointwise [k0_pay1, Rows.normed]

/-- The first chunk at an index, -/
theorem pay18_at (wg wu wd : FVec Ideal S1024x1024 .f32) (xn : FVec Ideal S1x256x1024 .bf16) (r : Fin 256) (j : Fin 1024) :
    k0_pay18 (F := Ideal) wg wu wd xn (ix2 r j) = part xn wg wu wd r j := by
  pointwise [k0_pay18, k0_pay15, k0_pay16, k0_pay17, part]
  simp only [zero_add, Rows.half_tanh]

/-- a middle chunk added, -/
theorem pay14_at (a : FVec Ideal S256x1024 .f32) (wg wu wd : FVec Ideal S1024x1024 .f32) (xn : FVec Ideal S1x256x1024 .bf16)
    (r : Fin 256) (j : Fin 1024) :
    k0_pay14 (F := Ideal) a wg wu wd xn (ix2 r j) = a (ix2 r j) + part xn wg wu wd r j := by
  pointwise [k0_pay14, k0_pay11, k0_pay12, k0_pay13, part]
  simp only [zero_add, Rows.half_tanh]

/-- and the last. -/
theorem pay10_at (a : FVec Ideal S256x1024 .f32) (wg wu wd : FVec Ideal S1024x1024 .f32) (xn : FVec Ideal S1x256x1024 .bf16)
    (r : Fin 256) (j : Fin 1024) :
    k0_pay10 (F := Ideal) a wg wu wd xn (ix2 r j) = a (ix2 r j) + part xn wg wu wd r j := by
  pointwise [k0_pay10, k0_pay7, k0_pay8, k0_pay9, part]
  simp only [zero_add, Rows.half_tanh]

/-- The half step taken and the row normed, at an index. -/
theorem pay2_at (x a : FVec Ideal S256x1024 .f32) (g : FVec Ideal S1x1024 .f32) (r : Fin 256) (j : Fin 1024) :
    k0_pay2 (F := Ideal) (k0_pay6 x) a (Scalar.ofBits .f32 0x3F000000#32) g (ix2 r j)
      = Rows.normed (fun j => x (ix2 r j) + Ideal.ofBits .f32 0x3F000000#32 * a (ix2 r j)) (fun j => g (ix2 0 j)) j := by
  pointwise [k0_pay2, k0_pay6, Rows.normed]

/-- The copies at an index. -/
theorem pay7_at (w : FVec Ideal S1024x1024 .f32) (y : S1024x1024.Idx) : k0_pay7 (F := Ideal) w y = w y := by
  idx_vars y
  pointwise [k0_pay7]
theorem pay8_at (w : FVec Ideal S1024x1024 .f32) (y : S1024x1024.Idx) : k0_pay8 (F := Ideal) w y = w y := by
  idx_vars y
  pointwise [k0_pay8]
theorem pay9_at (w : FVec Ideal S1024x1024 .f32) (y : S1024x1024.Idx) : k0_pay9 (F := Ideal) w y = w y := by
  idx_vars y
  pointwise [k0_pay9]

variable (m : (ℓ : Loc nD τ sig) → Buf (Elt Ideal) ℓ)

/-- Every window's block index at every grid point. -/
theorem idx_val : ∀ t : Fin cfg0.N, win0_0.index t = ![0, 0]
    ∧ win0_2.index t = ![0, 0]
    ∧ win0_3.index t = ![0, t.val]
    ∧ win0_4.index t = ![0, t.val]
    ∧ win0_5.index t = ![t.val, 0]
    ∧ win0_6.index t = ![0, 0]
    ∧ win0_7.index t = ![0, 0]
    ∧ win0_8.index t = ![0, t.val]
    ∧ win0_9.index t = ![0, t.val]
    ∧ win0_10.index t = ![t.val, 0] ∧ t.val < 4 :=
  (by decide +kernel : ∀ t : Fin grid0.N, _)

section Blocks
variable (c : Dev nD) (t : Fin cfg0.N)

/-- The blocks the body reads, at an index. -/
theorem blk0 (r : Fin 256) (k : Fin 1024) : iblk m c 0 t (ix2 r k) = m ((c : Thread nD τ).loc main_arg0)
    (ix3 (⟨(r : ℕ) / 32, by omega⟩ : Fin 8) (⟨(r : ℕ) % 32, by omega⟩ : Fin 32) k) := by
  blk_point [iblk, V, idx_val t]
theorem blk2 (k : Fin 1024) : iblk m c 2 t (ix2 0 k) = m ((c : Thread nD τ).loc main_arg1) (ix2 0 k) := by
  blk_point [iblk, V, idx_val t]
theorem blk3 (h : t.val < 4) (k f : Fin 1024) : iblk m c 3 t (ix2 k f)
    = m ((c : Thread nD τ).loc main_arg2) (ix3 (0 : Fin 1) k (⟨t.val * 1024 + f, by omega⟩ : Fin 4096)) := by
  blk_point [iblk, V, idx_val t]
theorem blk4 (h : t.val < 4) (k f : Fin 1024) : iblk m c 4 t (ix2 k f)
    = m ((c : Thread nD τ).loc main_arg3) (ix3 (0 : Fin 1) k (⟨t.val * 1024 + f, by omega⟩ : Fin 4096)) := by
  blk_point [iblk, V, idx_val t]
theorem blk5 (h : t.val < 4) (f k : Fin 1024) : iblk m c 5 t (ix2 f k)
    = m ((c : Thread nD τ).loc main_arg4) (ix3 (0 : Fin 1) (⟨t.val * 1024 + f, by omega⟩ : Fin 4096) k) := by
  blk_point [iblk, V, idx_val t]
theorem blk6 (k : Fin 1024) : iblk m c 6 t (ix2 0 k) = m ((c : Thread nD τ).loc main_arg5) (ix1 k) := by
  blk_point [iblk, V, idx_val t]

end Blocks

/-- The layer's output is the reference's. -/
theorem out_eq (c : Dev nD) : out m c
    = FfnSampleRefIdeal.Val.REF (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  funext i
  idx_vars i
  refine Eq.trans ?_ (FfnSampleRefIdeal.Val.REF_at _ _ _ _ _ _ i0 i1 (⟨(i0 : ℕ) / 32, by omega⟩ : Fin 8)
    (⟨(i0 : ℕ) % 32, by omega⟩ : Fin 32) (by simp; omega)).symm
  unfold out
  rw [pay2_at]
  simp only [blk0, blk6]
  congr 1
  funext j
  unfold Rows.stepped
  congr 2
  unfold acc2 acc1 acc0
  rw [pay10_at, pay14_at, pay14_at, pay18_at, Fin.sum_univ_tiles 4 1024 rfl, Fin.sum_univ_four]
  unfold part Rows.hidden xn
  simp only [pay1_at, blk0, blk2, blk3 m c t0_0 (by decide), blk3 m c t0_1 (by decide), blk3 m c t0_2 (by decide), blk3 m c t0_3 (by decide),
    blk4 m c t0_0 (by decide), blk4 m c t0_1 (by decide), blk4 m c t0_2 (by decide), blk4 m c t0_3 (by decide),
    blk5 m c t0_0 (by decide), blk5 m c t0_1 (by decide), blk5 m c t0_2 (by decide), blk5 m c t0_3 (by decide)]
  generalize Rows.normed _ _ = xn
  rfl

/-- The result arrays after the run are the reference's results over the arguments. -/
theorem final (c : Dev nD) : (dats m 0 c).arrAt 7 (cfgs 0).N
    = FfnSampleRefIdeal.Val.REF (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  refine (dats m 0 c).arrAt_eq_of_covers 7 _ (by decide +kernel) fun t hf y => ?_
  blk_simp
  rw [after0_7, out_eq]
  refine congrArg _ ?_
  blk_ext [idx_val t]
theorem final1 (c : Dev nD) : (dats m 0 c).arrAt 8 (cfgs 0).N = FfnSampleRefIdeal.Val.COLS (m ((c : Thread nD τ).loc main_arg2)) := by
  refine (dats m 0 c).arrAt_eq_of_covers 8 _ (by decide +kernel) fun t hf y => ?_
  have ht := (idx_val t).2.2.2.2.2.2.2.2.2.2
  blk_simp
  rw [after0_8, pay7_at]
  refine Eq.trans ((congrArg _ (eq_ix2 y)).trans (blk3 m c t ht (y 0) (y 1))) ((FfnSampleRefIdeal.Val.COLS_at _ _ _).symm.trans (congrArg _ ?_))
  blk_ext [idx_val t]
theorem final2 (c : Dev nD) : (dats m 0 c).arrAt 9 (cfgs 0).N = FfnSampleRefIdeal.Val.COLS (m ((c : Thread nD τ).loc main_arg3)) := by
  refine (dats m 0 c).arrAt_eq_of_covers 9 _ (by decide +kernel) fun t hf y => ?_
  have ht := (idx_val t).2.2.2.2.2.2.2.2.2.2
  blk_simp
  rw [after0_9, pay8_at]
  refine Eq.trans ((congrArg _ (eq_ix2 y)).trans (blk4 m c t ht (y 0) (y 1))) ((FfnSampleRefIdeal.Val.COLS_at _ _ _).symm.trans (congrArg _ ?_))
  blk_ext [idx_val t]
theorem final3 (c : Dev nD) : (dats m 0 c).arrAt 10 (cfgs 0).N = FfnSampleRefIdeal.Val.ROWS (m ((c : Thread nD τ).loc main_arg4)) := by
  refine (dats m 0 c).arrAt_eq_of_covers 10 _ (by decide +kernel) fun t hf y => ?_
  have ht := (idx_val t).2.2.2.2.2.2.2.2.2.2
  blk_simp
  rw [after0_10, pay9_at]
  refine Eq.trans ((congrArg _ (eq_ix2 y)).trans (blk5 m c t ht (y 0) (y 1))) ((FfnSampleRefIdeal.Val.ROWS_at _ _ _).symm.trans (congrArg _ ?_))
  blk_ext [idx_val t]

end Cert.FfnSampleIdeal.Val

end
-- ==== Proof.FfnSample.Bits.lean ====
/- The run was shown over any float values, so the feed-forward kernel's frame over bit patterns follows: the two programs have the same text. -/
module

public import Idealize.ShloMosaic.PureOps.BitExact
public import proofs.«01_k».proof.Proof.FfnSample.Run
public import proofs.«01_k».proof.Proof.Gen.FfnSample.Frame

@[expose] public section

set_option maxRecDepth 16384

noncomputable section

namespace Cert.FfnSample.Step

open Cert.FfnSample Cert.FfnSample.Gen Idealize.ShloMosaic Idealize.SL.Sem Idealize.ShloMosaic.TcCoe

/-- The two programs' bodies are one, -/
theorem defs₀_eq : Cert.FfnSample.defs₀ (F := Bits) = Cert.FfnSampleIdeal.defs₀ (F := Bits) := by
  unfold Cert.FfnSample.defs₀ Cert.FfnSampleIdeal.defs₀
  refine congrArg Defs.onTc ?_
  funext l a
  match l, a with
  | ⟨0, _⟩, (t, s) => rfl
  | ⟨n + 1, h⟩, _ => exact absurd h (Nat.not_lt.2 (Nat.le_add_left _ _))

/-- and so are their calls. -/
theorem defs_eq : Cert.FfnSample.defs (F := Bits) = Cert.FfnSampleIdeal.defs (F := Bits) :=
  congrArg (Pipeline.defs Cert.FfnSample.pcfgs) defs₀_eq

/-- The frame: every run ends with the arguments unchanged and every semaphore counter at zero. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [defs_eq]
  exact Cert.FfnSampleIdeal.Step.frame (F := Bits) m ρ

end Cert.FfnSample.Step

end
-- ==== Proof.FfnInnerSample.Body.lean ====
/- The sample batch's feed-forward body without the last norm at each kind of grid point: what it leaves in its buffers. -/
module

public import proofs.«01_k».proof.Proof.Gen.FfnInnerSampleIdeal.Skeleton
public import proofs.«01_k».proof.Proof.Gen.FfnInnerSampleIdeal.Frame
public import Idealize.ShloMosaic.Lib.Claim
public import Idealize.ShloMosaic.Lib.Tactic
public import Idealize.ShloMosaic.Lib.VecWindow
public import Idealize.ShloMosaic.Lib.WritesUnit

@[expose] public section

set_option maxRecDepth 16384

noncomputable section

namespace Cert.FfnInnerSampleIdeal.Step

open Cert.FfnInnerSampleIdeal Cert.FfnInnerSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No loop, no variant. -/
abbrev 𝒱₀ : Variants := Variants.nat

theorem off1_eq : ∀ i : grid0.Coords, k0_off1 i = ![0, 0, 0] := by decide +kernel
theorem off2_eq : ∀ i : grid0.Coords, k0_off2 i = ![1, 192, 0] := by decide +kernel
theorem off3_eq : ∀ i : grid0.Coords, k0_off3 i = ![0, 0, 0] := by decide +kernel
theorem off5_eq : ∀ i : grid0.Coords, k0_off5 i = ![1, 64 * (i 1).val, 0] := by decide +kernel
theorem off6_eq : ∀ i : grid0.Coords, k0_off6 i = ![0, 0, 0] := by decide +kernel
theorem off7_eq : ∀ i : grid0.Coords, k0_off7 i = ![1, 0, 0] := by decide +kernel

instance (i : grid0.Coords) : ClosedOff (k0_off6 i) := ⟨![0, 0, 0], off6_eq i⟩
instance (i : grid0.Coords) : ClosedOff (k0_off7 i) := ⟨![1, 0, 0], off7_eq i⟩

/-- The first half of the normed rows' buffer. -/
def half (d : Vec F S2x256x1024 .bf16) : Vec F S1x256x1024 .bf16 :=
  fun y => d ((Rect.unit (s := S2x256x1024) ![0, 0, 0] S1x256x1024.size inb_S2x256x1024_S1x256x1024_0_0_0).emb y)

section Half

variable {κ : Kind} {sp : Space} (v : View sig κ sp S2x256x1024 .bf16) (f : v.ty.Contents (Elt F))

/-- A load at the first half reads it; -/
theorem load_half {off : Fin 3 → ℕ} (h : off = ![0, 0, 0]) (inb : ∀ a, off a + (![1, 256, 1024] : Fin 3 → ℕ) a ≤ S2x256x1024.size a) :
    v.readAt (Elt F) (Rect.unit (s := S2x256x1024) off ![1, 256, 1024] inb).toLoadRect f = half (v.read (Elt F) f) := by
  subst h; rfl

/-- a store there leaves its payload there; -/
theorem half_store (w : Vec F S1x256x1024 .bf16) (L : List (View.Piece (Elt F) S2x256x1024 .bf16)) :
    half (v.read (Elt F) (v.writes (Elt F) f
      (⟨Rect.unit (s := S2x256x1024) ![0, 0, 0] S1x256x1024.size inb_S2x256x1024_S1x256x1024_0_0_0, w⟩ :: L))) = w := by
  funext y
  refine View.read_writes_cons_unit_of_mem v f inb_S2x256x1024_S1x256x1024_0_0_0 w L _ y rfl fun a => ?_
  show (![0, 0, 0] : Fin 3 → ℕ) a + 1 * (y a).val = _
  rw [Nat.one_mul]

/-- and a store into the other half leaves it as it was. -/
theorem half_other {off size : Fin 3 → ℕ} {o : ℕ} (h : off = ![1, o, 0]) (inb : ∀ a, off a + size a ≤ S2x256x1024.size a)
    (w : (Rect.unit (s := S2x256x1024) off size inb).shape.Idx → Elt F .bf16) (L : List (View.Piece (Elt F) S2x256x1024 .bf16)) :
    half (v.read (Elt F) (v.writes (Elt F) f (⟨Rect.unit (s := S2x256x1024) off size inb, w⟩ :: L)))
      = half (v.read (Elt F) (v.writes (Elt F) f L)) := by
  funext y
  refine View.read_writes_cons_unit_of_not_mem v f inb w L _ h (0 : Fin 3) (Or.inl ?_)
  show 0 + 1 * (y 0).val < 1
  have := (y 0).isLt
  have e : S1x256x1024.size 0 = 1 := rfl
  omega

end Half

/-- Loads of the whole buffer read it. -/
theorem load_w {κ : Kind} {sp : Space} {e : EltTy} (v : View sig κ sp S1024x1024 e) (f : v.ty.Contents (Elt F))
    (inb : ∀ a, (![0, 0] : Fin 2 → ℕ) a + (![1024, 1024] : Fin 2 → ℕ) a ≤ S1024x1024.size a) :
    v.readAt (Elt F) (Rect.unit (s := S1024x1024) ![0, 0] ![1024, 1024] inb).toLoadRect f = v.read (Elt F) f := View.readAt_full v f inb
theorem load_x {κ : Kind} {sp : Space} {e : EltTy} (v : View sig κ sp S256x1024 e) (f : v.ty.Contents (Elt F))
    (inb : ∀ a, (![0, 0] : Fin 2 → ℕ) a + (![256, 1024] : Fin 2 → ℕ) a ≤ S256x1024.size a) :
    v.readAt (Elt F) (Rect.unit (s := S256x1024) ![0, 0] ![256, 1024] inb).toLoadRect f = v.read (Elt F) f := View.readAt_full v f inb
theorem load_g {κ : Kind} {sp : Space} {e : EltTy} (v : View sig κ sp S1x1024 e) (f : v.ty.Contents (Elt F))
    (inb : ∀ a, (![0, 0] : Fin 2 → ℕ) a + (![1, 1024] : Fin 2 → ℕ) a ≤ S1x1024.size a) :
    v.readAt (Elt F) (Rect.unit (s := S1x1024) ![0, 0] ![1, 1024] inb).toLoadRect f = v.read (Elt F) f := View.readAt_full v f inb

set_option maxHeartbeats 4000000 in
/-- The first point. -/
theorem sound_first (c : Dev nD) (E : Set ℕ) (i : grid0.Coords) (hi : (i 1).val = 0)
    (arg2 : Memref sig .tc .vmem S256x1024 .f32) (harg2 : arg2.IsWhole)
    (arg3 : Memref sig .tc .vmem S256x1024 .f32) (harg3 : arg3.IsWhole)
    (arg4 : Memref sig .tc .vmem S1x1024 .f32) (harg4 : arg4.IsWhole)
    (arg5 : Memref sig .tc .vmem S1024x1024 .f32) (harg5 : arg5.IsWhole)
    (arg6 : Memref sig .tc .vmem S1024x1024 .f32) (harg6 : arg6.IsWhole)
    (arg7 : Memref sig .tc .vmem S1024x1024 .f32) (harg7 : arg7.IsWhole)
    (arg8 : Memref sig .tc .vmem S256x1024 .f32) (harg8 : arg8.IsWhole)
    (arg9 : Memref sig .tc .vmem S1024x1024 .bf16) (harg9 : arg9.IsWhole)
    (arg10 : Memref sig .tc .vmem S1024x1024 .bf16) (harg10 : arg10.IsWhole)
    (arg11 : Memref sig .tc .vmem S1024x1024 .bf16) (harg11 : arg11.IsWhole)
    (arg12 : Memref sig .tc .vmem S2x256x1024 .bf16) (harg12 : arg12.IsWhole)
    (arg13 : Memref sig .tc .vmem S256x1024 .f32) (harg13 : arg13.IsWhole)
    (x0 x1 : Vec F S256x1024 .f32) (g : Vec F S1x1024 .f32) (wg wu wd : Vec F S1024x1024 .f32)
    (K : PUnit → sProp 𝕄) :
    iprop(owns (c : Thread nD τ) arg2 fullShare x0 ∗ owns (c : Thread nD τ) arg3 fullShare x1 ∗ owns (c : Thread nD τ) arg4 fullShare g ∗ owns (c : Thread nD τ) arg5 fullShare wg ∗ owns (c : Thread nD τ) arg6 fullShare wu ∗ owns (c : Thread nD τ) arg7 fullShare wd ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare g ∗ owns (c : Thread nD τ) arg5 fullShare wg ∗ owns (c : Thread nD τ) arg6 fullShare wu ∗ owns (c : Thread nD τ) arg7 fullShare wd ∗ owns (c : Thread nD τ) arg9 fullShare (k0_pay15 wg) ∗ owns (c : Thread nD τ) arg10 fullShare (k0_pay16 wu) ∗ owns (c : Thread nD τ) arg11 fullShare (k0_pay17 wd) ∗ (∃ d, ⌜half d = k0_pay1 x0 g⌝ ∗ owns (c : Thread nD τ) arg12 fullShare d) ∗ owns (c : Thread nD τ) arg13 fullShare (k0_pay18 wg wu wd (k0_pay1 x0 g))) -∗ K ⟨⟩))
      ⊢ wp frame (wpE (defs₀ (F := F)) 𝒱₀ c none) E (cc0_ffn_cast i arg2 harg2 arg3 harg3 arg4 harg4 arg5 harg5 arg6 harg6 arg7 harg7 arg8 harg8 arg9 harg9 arg10 harg10 arg11 harg11 arg12 harg12 arg13 harg13) K := by
  simp only [cc0_ffn_cast_eq_skeleton]; unfold cc0_ffn_cast_skel
  have h1 : Scalar.cmpi .ne (Scalar.extui (Scalar.andi (Scalar.cmpi .eq (BitVec.ofNat 32 (i 0).val) 0#32) (Scalar.cmpi .eq (BitVec.ofNat 32 (i 1).val) 0#32)) : BitVec 32) 0#32 = 1#1 := by
    revert hi; revert i; decide +kernel
  have h2 : ¬ k0_cond2 i = 1#1 := by revert hi; revert i; decide +kernel
  simp only [dif_pos h1, dif_neg h2, k0_part3_eq_skeleton]
  unfold k0_part3_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%d10, %f10, -, H10⟩, ⟨%d11, %f11, -, H11⟩, ⟨%d12, %f12, -, H12⟩, ⟨%d13, %f13, -, H13⟩, Hk⟩
  subst hf2 hf3 hf4 hf5 hf6 hf7
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H9]
  · iexists _; isplitr
    swap; · iexact H9
    ipureintro
    exact (View.read_writes_full _ _ _ _ _).trans (by
    simp only [load_w, load_x, load_g, load_half _ _ (off6_eq i), half_store])
  isplitl [H10]
  · iexists _; isplitr
    swap; · iexact H10
    ipureintro
    exact (View.read_writes_full _ _ _ _ _).trans (by
    simp only [load_w, load_x, load_g, load_half _ _ (off6_eq i), half_store])
  isplitl [H11]
  · iexists _; isplitr
    swap; · iexact H11
    ipureintro
    exact (View.read_writes_full _ _ _ _ _).trans (by
    simp only [load_w, load_x, load_g, load_half _ _ (off6_eq i), half_store])
  isplitl [H12]
  · iexists _; isplitr
    swap
    · iexists _; isplitr
      swap; · iexact H12
      ipureintro; rfl
    ipureintro
    exact (half_other _ _ (off7_eq i) _ _ _).trans (half_store _ _ _ _) |>.trans (by simp only [load_w, load_x, load_g])
  iexists _; isplitr
  swap; · iexact H13
  ipureintro
  exact (View.read_writes_full _ _ _ _ _).trans (by
    simp only [load_w, load_x, load_g, load_half _ _ (off6_eq i), half_store]
    refine congrArg (k0_pay18 _ _ _) ?_
    unfold sound_first.sl.v35
    unfold sound_first.sl.H12_1
    exact (load_half _ _ (off6_eq i) _).trans ((half_store _ _ _ _).trans (by simp only [load_x, load_g])))

set_option maxHeartbeats 4000000 in
/-- A point between the first and the last. -/
theorem sound_middle (c : Dev nD) (E : Set ℕ) (i : grid0.Coords) (hi : (i 1).val = 1 ∨ (i 1).val = 2)
    (arg2 : Memref sig .tc .vmem S256x1024 .f32) (harg2 : arg2.IsWhole)
    (arg3 : Memref sig .tc .vmem S256x1024 .f32) (harg3 : arg3.IsWhole)
    (arg4 : Memref sig .tc .vmem S1x1024 .f32) (harg4 : arg4.IsWhole)
    (arg5 : Memref sig .tc .vmem S1024x1024 .f32) (harg5 : arg5.IsWhole)
    (arg6 : Memref sig .tc .vmem S1024x1024 .f32) (harg6 : arg6.IsWhole)
    (arg7 : Memref sig .tc .vmem S1024x1024 .f32) (harg7 : arg7.IsWhole)
    (arg8 : Memref sig .tc .vmem S256x1024 .f32) (harg8 : arg8.IsWhole)
    (arg9 : Memref sig .tc .vmem S1024x1024 .bf16) (harg9 : arg9.IsWhole)
    (arg10 : Memref sig .tc .vmem S1024x1024 .bf16) (harg10 : arg10.IsWhole)
    (arg11 : Memref sig .tc .vmem S1024x1024 .bf16) (harg11 : arg11.IsWhole)
    (arg12 : Memref sig .tc .vmem S2x256x1024 .bf16) (harg12 : arg12.IsWhole)
    (arg13 : Memref sig .tc .vmem S256x1024 .f32) (harg13 : arg13.IsWhole)
    (x1 : Vec F S256x1024 .f32) (g : Vec F S1x1024 .f32) (wg wu wd : Vec F S1024x1024 .f32) (n : Vec F S1x256x1024 .bf16) (a : Vec F S256x1024 .f32)
    (K : PUnit → sProp 𝕄) :
    iprop(owns (c : Thread nD τ) arg3 fullShare x1 ∗ owns (c : Thread nD τ) arg4 fullShare g ∗ owns (c : Thread nD τ) arg5 fullShare wg ∗ owns (c : Thread nD τ) arg6 fullShare wu ∗ owns (c : Thread nD τ) arg7 fullShare wd ∗ (∃ d, owns (c : Thread nD τ) arg9 fullShare d) ∗ (∃ d, owns (c : Thread nD τ) arg10 fullShare d) ∗ (∃ d, owns (c : Thread nD τ) arg11 fullShare d) ∗ (∃ d, ⌜half d = n⌝ ∗ owns (c : Thread nD τ) arg12 fullShare d) ∗ owns (c : Thread nD τ) arg13 fullShare a
        ∗ (iprop(owns (c : Thread nD τ) arg3 fullShare x1 ∗ owns (c : Thread nD τ) arg4 fullShare g ∗ owns (c : Thread nD τ) arg5 fullShare wg ∗ owns (c : Thread nD τ) arg6 fullShare wu ∗ owns (c : Thread nD τ) arg7 fullShare wd ∗ owns (c : Thread nD τ) arg9 fullShare (k0_pay11 wg) ∗ owns (c : Thread nD τ) arg10 fullShare (k0_pay12 wu) ∗ owns (c : Thread nD τ) arg11 fullShare (k0_pay13 wd) ∗ (∃ d, ⌜half d = n⌝ ∗ owns (c : Thread nD τ) arg12 fullShare d) ∗ owns (c : Thread nD τ) arg13 fullShare (k0_pay14 a wg wu wd n)) -∗ K ⟨⟩))
      ⊢ wp frame (wpE (defs₀ (F := F)) 𝒱₀ c none) E (cc0_ffn_cast i arg2 harg2 arg3 harg3 arg4 harg4 arg5 harg5 arg6 harg6 arg7 harg7 arg8 harg8 arg9 harg9 arg10 harg10 arg11 harg11 arg12 harg12 arg13 harg13) K := by
  simp only [cc0_ffn_cast_eq_skeleton]; unfold cc0_ffn_cast_skel
  have h1 : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1 := by
    revert hi; revert i; decide +kernel
  have h2 : k0_cond2 i = 1#1 := by revert hi; revert i; decide +kernel
  have h3 : ¬ k0_cond3 i = 1#1 := by revert hi; revert i; decide +kernel
  simp only [dif_neg h1, dif_pos h2, dif_neg h3, k0_part2_eq_skeleton]
  unfold k0_part2_skel owns
  iintro ⟨⟨%f3, %hf3, H3⟩, ⟨%f4, %hf4, H4⟩, ⟨%f5, %hf5, H5⟩, ⟨%f6, %hf6, H6⟩, ⟨%f7, %hf7, H7⟩, ⟨%d9, %f9, -, H9⟩, ⟨%d10, %f10, -, H10⟩, ⟨%d11, %f11, -, H11⟩, ⟨%d12, %hd, %f12, %hf12, H12⟩, ⟨%f13, %hf13, H13⟩, Hk⟩
  subst hf3 hf4 hf5 hf6 hf7 hf12 hf13 hd
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H9]
  · iexists _; isplitr
    swap; · iexact H9
    ipureintro
    exact (View.read_writes_full _ _ _ _ _).trans (by
    simp only [load_w, load_x, load_g, load_half _ _ (off3_eq i)])
  isplitl [H10]
  · iexists _; isplitr
    swap; · iexact H10
    ipureintro
    exact (View.read_writes_full _ _ _ _ _).trans (by
    simp only [load_w, load_x, load_g, load_half _ _ (off3_eq i)])
  isplitl [H11]
  · iexists _; isplitr
    swap; · iexact H11
    ipureintro
    exact (View.read_writes_full _ _ _ _ _).trans (by
    simp only [load_w, load_x, load_g, load_half _ _ (off3_eq i)])
  isplitl [H12]
  · iexists _; isplitr
    swap
    · iexists _; isplitr
      swap; · iexact H12
      ipureintro; rfl
    ipureintro
    exact half_other _ _ (off5_eq i) _ _ _
  iexists _; isplitr
  swap; · iexact H13
  ipureintro
  exact (View.read_writes_full _ _ _ _ _).trans (by
    simp only [load_w, load_x, load_g, load_half _ _ (off3_eq i)])

set_option maxHeartbeats 4000000 in
/-- The last point. -/
theorem sound_last (c : Dev nD) (E : Set ℕ) (i : grid0.Coords) (hi : (i 1).val = 3)
    (arg2 : Memref sig .tc .vmem S256x1024 .f32) (harg2 : arg2.IsWhole)
    (arg3 : Memref sig .tc .vmem S256x1024 .f32) (harg3 : arg3.IsWhole)
    (arg4 : Memref sig .tc .vmem S1x1024 .f32) (harg4 : arg4.IsWhole)
    (arg5 : Memref sig .tc .vmem S1024x1024 .f32) (harg5 : arg5.IsWhole)
    (arg6 : Memref sig .tc .vmem S1024x1024 .f32) (harg6 : arg6.IsWhole)
    (arg7 : Memref sig .tc .vmem S1024x1024 .f32) (harg7 : arg7.IsWhole)
    (arg8 : Memref sig .tc .vmem S256x1024 .f32) (harg8 : arg8.IsWhole)
    (arg9 : Memref sig .tc .vmem S1024x1024 .bf16) (harg9 : arg9.IsWhole)
    (arg10 : Memref sig .tc .vmem S1024x1024 .bf16) (harg10 : arg10.IsWhole)
    (arg11 : Memref sig .tc .vmem S1024x1024 .bf16) (harg11 : arg11.IsWhole)
    (arg12 : Memref sig .tc .vmem S2x256x1024 .bf16) (harg12 : arg12.IsWhole)
    (arg13 : Memref sig .tc .vmem S256x1024 .f32) (harg13 : arg13.IsWhole)
    (x0 x1 : Vec F S256x1024 .f32) (g : Vec F S1x1024 .f32) (wg wu wd : Vec F S1024x1024 .f32) (n : Vec F S1x256x1024 .bf16) (a : Vec F S256x1024 .f32)
    (K : PUnit → sProp 𝕄) :
    iprop(owns (c : Thread nD τ) arg2 fullShare x0 ∗ owns (c : Thread nD τ) arg3 fullShare x1 ∗ owns (c : Thread nD τ) arg4 fullShare g ∗ owns (c : Thread nD τ) arg5 fullShare wg ∗ owns (c : Thread nD τ) arg6 fullShare wu ∗ owns (c : Thread nD τ) arg7 fullShare wd ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, ⌜half d = n⌝ ∗ owns (c : Thread nD τ) arg12 fullShare d) ∗ owns (c : Thread nD τ) arg13 fullShare a
        ∗ (iprop(owns (c : Thread nD τ) arg2 fullShare x0 ∗ owns (c : Thread nD τ) arg3 fullShare x1 ∗ owns (c : Thread nD τ) arg4 fullShare g ∗ owns (c : Thread nD τ) arg5 fullShare wg ∗ owns (c : Thread nD τ) arg6 fullShare wu ∗ owns (c : Thread nD τ) arg7 fullShare wd ∗ owns (c : Thread nD τ) arg8 fullShare (k0_pay2 (k0_pay6 x0) (k0_pay10 a wg wu wd n) (Scalar.ofBits .f32 0x3F000000#32)) ∗ owns (c : Thread nD τ) arg9 fullShare (k0_pay7 wg) ∗ owns (c : Thread nD τ) arg10 fullShare (k0_pay8 wu) ∗ owns (c : Thread nD τ) arg11 fullShare (k0_pay9 wd) ∗ (∃ d, ⌜half d = n⌝ ∗ owns (c : Thread nD τ) arg12 fullShare d) ∗ owns (c : Thread nD τ) arg13 fullShare a) -∗ K ⟨⟩))
      ⊢ wp frame (wpE (defs₀ (F := F)) 𝒱₀ c none) E (cc0_ffn_cast i arg2 harg2 arg3 harg3 arg4 harg4 arg5 harg5 arg6 harg6 arg7 harg7 arg8 harg8 arg9 harg9 arg10 harg10 arg11 harg11 arg12 harg12 arg13 harg13) K := by
  simp only [cc0_ffn_cast_eq_skeleton]; unfold cc0_ffn_cast_skel
  have h1 : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1 := by
    revert hi; revert i; decide +kernel
  have h2 : k0_cond2 i = 1#1 := by revert hi; revert i; decide +kernel
  have h3 : k0_cond3 i = 1#1 := by revert hi; revert i; decide +kernel
  simp only [dif_neg h1, dif_pos h2, dif_pos h3, k0_part1_eq_skeleton]
  unfold k0_part1_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %hd, %f12, %hf12, H12⟩, ⟨%f13, %hf13, H13⟩, Hk⟩
  subst hf2 hf3 hf4 hf5 hf6 hf7 hf12 hf13 hd
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact (View.read_writes_full _ _ _ _ _).trans (by
    simp only [load_w, load_x, load_g, load_half _ _ (off1_eq i)]; rfl)
  isplitl [H9]
  · iexists _; isplitr
    swap; · iexact H9
    ipureintro
    exact (View.read_writes_full _ _ _ _ _).trans (by
    simp only [load_w, load_x, load_g, load_half _ _ (off1_eq i)])
  isplitl [H10]
  · iexists _; isplitr
    swap; · iexact H10
    ipureintro
    exact (View.read_writes_full _ _ _ _ _).trans (by
    simp only [load_w, load_x, load_g, load_half _ _ (off1_eq i)])
  isplitl [H11]
  · iexists _; isplitr
    swap; · iexact H11
    ipureintro
    exact (View.read_writes_full _ _ _ _ _).trans (by
    simp only [load_w, load_x, load_g, load_half _ _ (off1_eq i)])
  isplitl [H12]
  · iexists _; isplitr
    swap
    · iexists _; isplitr
      swap; · iexact H12
      ipureintro; rfl
    ipureintro
    exact half_other _ _ (off2_eq i) _ _ _
  iexists f13; isplitr; · ipureintro; rfl
  iexact H13

end Cert.FfnInnerSampleIdeal.Step

end
-- ==== Proof.FfnInnerSample.Run.lean ====
/- The sample batch's feed-forward launch without the last norm: the pipeline's proof data, the body obligation at each of the four points, the run and the frame. -/
module

public import proofs.«01_k».proof.Proof.FfnInnerSample.Body

@[expose] public section

set_option maxRecDepth 16384

noncomputable section

namespace Cert.FfnInnerSampleIdeal.Step

open Cert.FfnInnerSampleIdeal Cert.FfnInnerSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The normed rows, -/
def xn (c : Dev nD) : Vec F S1x256x1024 .bf16 := k0_pay1 (iblk m c 0 t0_0) (iblk m c 2 t0_0)
/-- the accumulator after the first three points, -/
def acc0 (c : Dev nD) : Vec F S256x1024 .f32 := k0_pay18 (iblk m c 3 t0_0) (iblk m c 4 t0_0) (iblk m c 5 t0_0) (xn m c)
def acc1 (c : Dev nD) : Vec F S256x1024 .f32 := k0_pay14 (acc0 m c) (iblk m c 3 t0_1) (iblk m c 4 t0_1) (iblk m c 5 t0_1) (xn m c)
def acc2 (c : Dev nD) : Vec F S256x1024 .f32 := k0_pay14 (acc1 m c) (iblk m c 3 t0_2) (iblk m c 4 t0_2) (iblk m c 5 t0_2) (xn m c)
/-- and the layer's output. -/
def out (c : Dev nD) : Vec F S256x1024 .f32 :=
  k0_pay2 (k0_pay6 (iblk m c 0 t0_3)) (k0_pay10 (acc2 m c) (iblk m c 3 t0_3) (iblk m c 4 t0_3) (iblk m c 5 t0_3) (xn m c))
    (Scalar.ofBits .f32 0x3F000000#32)

/-- What the scratch buffers hold between two points: the normed rows and the accumulator `a`. -/
def kept (c : Dev nD) (a : Vec F S256x1024 .f32) : sProp 𝕄 :=
  iprop(((∃ d, ⌜half d = xn m c⌝ ∗ owns (c : Thread nD τ) (Memref.whole cc0_scratch0) fullShare d)
      ∗ owns (c : Thread nD τ) (Memref.whole cc0_scratch1) fullShare a) ∗ ∃ r, prngReg c r)

/-- The scratch buffers after `n` points. -/
def scr (c : Dev nD) : ℕ → sProp 𝕄
  | 1 => kept m c (acc0 m c)
  | 2 => kept m c (acc1 m c)
  | 3 => kept m c (acc2 m c)
  | _ => Pipeline.ΦA spec0 c

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out m c
    | ⟨7, _⟩ => k0_pay7 (iblk m c 3 t)
    | ⟨8, _⟩ => k0_pay8 (iblk m c 4 t)
    | ⟨9, _⟩ => k0_pay9 (iblk m c 5 t)
  Φ n := scr m c n.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out m c := by dsimp only [dats]
theorem after0_7 (c : Dev nD) (t : Fin cfg0.N) : (dats m 0 c).after 7 t = k0_pay7 (iblk m c 3 t) := by dsimp only [dats]
theorem after0_8 (c : Dev nD) (t : Fin cfg0.N) : (dats m 0 c).after 8 t = k0_pay8 (iblk m c 4 t) := by dsimp only [dats]
theorem after0_9 (c : Dev nD) (t : Fin cfg0.N) : (dats m 0 c).after 9 t = k0_pay9 (iblk m c 5 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The scratch buffers and the register, spelt out. -/
theorem Φ_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d))
        ∗ ∃ r, prngReg c r) := by
  unfold Pipeline.ΦA
  rw [scopedRest0_eq]
  simp only [owns_whole]

/-- The kept scratch is scratch. -/
theorem kept_out (c : Dev nD) (a : Vec F S256x1024 .f32) : kept m c a ⊢ (Pipeline.ΦA spec0 c : sProp 𝕄) := by
  rw [Φ_eq]
  unfold kept
  iintro ⟨⟨⟨%d, -, H⟩, H1⟩, Hp⟩
  isplitl [H H1]
  · isplitl [H]; · iexists _; iexact H
    iexists _; iexact H1
  iexact Hp

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns, the output's buffer aside, -/
def bodyPost (c : Dev nD) (t : Fin cfg0.N) (Y : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ Y
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at the first point, -/
theorem sound_0 (c : Dev nD) :
    bodyPre m c t0_0 ⊢ wp frame (wpE (defs₀ (F := F)) 𝒱₀ c none) Set.univ (bodyAt0 t0_0) (fun _ => bodyPost m c t0_0 iprop(∃ d, owns (c : Thread nD τ) (st0_6 t0_0) fullShare ((dats m 0 c).before 6 t0_0 d))) := by
  unfold bodyPre bodyPost bodyAt0
  simp only [before0_0, before0_1, before0_2, before0_3, before0_4, before0_5]
  rw [show (dats m 0 c).Φ (t0_0 : Fin cfg0.N).castSucc = Pipeline.ΦA spec0 c from rfl, show (dats m 0 c).Φ (t0_0 : Fin cfg0.N).succ = kept m c (acc0 m c) from rfl,
    show (dats m 0 c).owesAt () (t0_0 : Fin cfg0.N).succ = (dats m 0 c).owesAt () (t0_0 : Fin cfg0.N).castSucc from rfl,
    after0_0, after0_1, after0_2, after0_3, after0_4, after0_5, after0_7, after0_8, after0_9]
  rw [Φ_eq]
  unfold kept
  iintro ⟨⟨⟨Hs0, Hs1⟩, Hp⟩, Ho, ⟨%d0, H0⟩, ⟨%d1, H1⟩, ⟨%d2, H2⟩, ⟨%d3, H3⟩, ⟨%d4, H4⟩, ⟨%d5, H5⟩, H6, ⟨%d7, H7⟩, ⟨%d8, H8⟩, ⟨%d9, H9⟩⟩
  iapply (sound_first c Set.univ (grid0.coords t0_0) (by decide +kernel) _ _ _ _ _ _ _ _ _ _ _ _ _ _ _ _ _ _ _ _ _ _ _ _ (iblk m c 0 t0_0) (iblk m c 1 t0_0) (iblk m c 2 t0_0) (iblk m c 3 t0_0) (iblk m c 4 t0_0) (iblk m c 5 t0_0) _)
  isplitl [H0]; · iexact H0
  isplitl [H1]; · iexact H1
  isplitl [H2]; · iexact H2
  isplitl [H3]; · iexact H3
  isplitl [H4]; · iexact H4
  isplitl [H5]; · iexact H5
  isplitl [H7]; · iexists _; iexact H7
  isplitl [H8]; · iexists _; iexact H8
  isplitl [H9]; · iexists _; iexact H9
  isplitl [Hs0]; · iexact Hs0
  isplitl [Hs1]; · iexact Hs1
  iintro ⟨H0, H1, H2, H3, H4, H5, H7, H8, H9, Hs0, Hs1⟩
  isplitl [Hs0 Hs1 Hp]
  · isplitl [Hs0 Hs1]
    · isplitl [Hs0]; · iexact Hs0
      iexact Hs1
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- at the second, -/
theorem sound_1 (c : Dev nD) :
    bodyPre m c t0_1 ⊢ wp frame (wpE (defs₀ (F := F)) 𝒱₀ c none) Set.univ (bodyAt0 t0_1) (fun _ => bodyPost m c t0_1 iprop(∃ d, owns (c : Thread nD τ) (st0_6 t0_1) fullShare ((dats m 0 c).before 6 t0_1 d))) := by
  unfold bodyPre bodyPost bodyAt0
  simp only [before0_0, before0_1, before0_2, before0_3, before0_4, before0_5]
  rw [show (dats m 0 c).Φ (t0_1 : Fin cfg0.N).castSucc = kept m c (acc0 m c) from rfl, show (dats m 0 c).Φ (t0_1 : Fin cfg0.N).succ = kept m c (acc1 m c) from rfl,
    show (dats m 0 c).owesAt () (t0_1 : Fin cfg0.N).succ = (dats m 0 c).owesAt () (t0_1 : Fin cfg0.N).castSucc from rfl,
    after0_0, after0_1, after0_2, after0_3, after0_4, after0_5, after0_7, after0_8, after0_9]
  unfold kept
  iintro ⟨⟨⟨Hs0, Hs1⟩, Hp⟩, Ho, ⟨%d0, H0⟩, ⟨%d1, H1⟩, ⟨%d2, H2⟩, ⟨%d3, H3⟩, ⟨%d4, H4⟩, ⟨%d5, H5⟩, H6, ⟨%d7, H7⟩, ⟨%d8, H8⟩, ⟨%d9, H9⟩⟩
  iapply (sound_middle c Set.univ (grid0.coords t0_1) (by decide +kernel) _ _ _ _ _ _ _ _ _ _ _ _ _ _ _ _ _ _ _ _ _ _ _ _ (iblk m c 1 t0_1) (iblk m c 2 t0_1) (iblk m c 3 t0_1) (iblk m c 4 t0_1) (iblk m c 5 t0_1) (xn m c) (acc0 m c) _)
  isplitl [H1]; · iexact H1
  isplitl [H2]; · iexact H2
  isplitl [H3]; · iexact H3
  isplitl [H4]; · iexact H4
  isplitl [H5]; · iexact H5
  isplitl [H7]; · iexists _; iexact H7
  isplitl [H8]; · iexists _; iexact H8
  isplitl [H9]; · iexists _; iexact H9
  isplitl [Hs0]; · iexact Hs0
  isplitl [Hs1]; · iexact Hs1
  iintro ⟨H1, H2, H3, H4, H5, H7, H8, H9, Hs0, Hs1⟩
  isplitl [Hs0 Hs1 Hp]
  · isplitl [Hs0 Hs1]
    · isplitl [Hs0]; · iexact Hs0
      iexact Hs1
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- at the third -/
theorem sound_2 (c : Dev nD) :
    bodyPre m c t0_2 ⊢ wp frame (wpE (defs₀ (F := F)) 𝒱₀ c none) Set.univ (bodyAt0 t0_2) (fun _ => bodyPost m c t0_2 iprop(∃ d, owns (c : Thread nD τ) (st0_6 t0_2) fullShare ((dats m 0 c).before 6 t0_2 d))) := by
  unfold bodyPre bodyPost bodyAt0
  simp only [before0_0, before0_1, before0_2, before0_3, before0_4, before0_5]
  rw [show (dats m 0 c).Φ (t0_2 : Fin cfg0.N).castSucc = kept m c (acc1 m c) from rfl, show (dats m 0 c).Φ (t0_2 : Fin cfg0.N).succ = kept m c (acc2 m c) from rfl,
    show (dats m 0 c).owesAt () (t0_2 : Fin cfg0.N).succ = (dats m 0 c).owesAt () (t0_2 : Fin cfg0.N).castSucc from rfl,
    after0_0, after0_1, after0_2, after0_3, after0_4, after0_5, after0_7, after0_8, after0_9]
  unfold kept
  iintro ⟨⟨⟨Hs0, Hs1⟩, Hp⟩, Ho, ⟨%d0, H0⟩, ⟨%d1, H1⟩, ⟨%d2, H2⟩, ⟨%d3, H3⟩, ⟨%d4, H4⟩, ⟨%d5, H5⟩, H6, ⟨%d7, H7⟩, ⟨%d8, H8⟩, ⟨%d9, H9⟩⟩
  iapply (sound_middle c Set.univ (grid0.coords t0_2) (by decide +kernel) _ _ _ _ _ _ _ _ _ _ _ _ _ _ _ _ _ _ _ _ _ _ _ _ (iblk m c 1 t0_2) (iblk m c 2 t0_2) (iblk m c 3 t0_2) (iblk m c 4 t0_2) (iblk m c 5 t0_2) (xn m c) (acc1 m c) _)
  isplitl [H1]; · iexact H1
  isplitl [H2]; · iexact H2
  isplitl [H3]; · iexact H3
  isplitl [H4]; · iexact H4
  isplitl [H5]; · iexact H5
  isplitl [H7]; · iexists _; iexact H7
  isplitl [H8]; · iexists _; iexact H8
  isplitl [H9]; · iexists _; iexact H9
  isplitl [Hs0]; · iexact Hs0
  isplitl [Hs1]; · iexact Hs1
  iintro ⟨H1, H2, H3, H4, H5, H7, H8, H9, Hs0, Hs1⟩
  isplitl [Hs0 Hs1 Hp]
  · isplitl [Hs0 Hs1]
    · isplitl [Hs0]; · iexact Hs0
      iexact Hs1
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- and at the last. -/
theorem sound_3 (c : Dev nD) :
    bodyPre m c t0_3 ⊢ wp frame (wpE (defs₀ (F := F)) 𝒱₀ c none) Set.univ (bodyAt0 t0_3) (fun _ => bodyPost m c t0_3 iprop(owns (c : Thread nD τ) (st0_6 t0_3) fullShare ((dats m 0 c).after 6 t0_3))) := by
  unfold bodyPre bodyPost bodyAt0
  simp only [before0_0, before0_1, before0_2, before0_3, before0_4, before0_5]
  rw [show (dats m 0 c).Φ (t0_3 : Fin cfg0.N).castSucc = kept m c (acc2 m c) from rfl, show (dats m 0 c).Φ (t0_3 : Fin cfg0.N).succ = Pipeline.ΦA spec0 c from rfl,
    show (dats m 0 c).owesAt () (t0_3 : Fin cfg0.N).succ = (dats m 0 c).owesAt () (t0_3 : Fin cfg0.N).castSucc from rfl,
    after0_0, after0_1, after0_2, after0_3, after0_4, after0_5, after0_6, after0_7, after0_8, after0_9]
  unfold kept
  iintro ⟨⟨⟨Hs0, Hs1⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_last c Set.univ (grid0.coords t0_3) (by decide +kernel) _ _ _ _ _ _ _ _ _ _ _ _ _ _ _ _ _ _ _ _ _ _ _ _ (iblk m c 0 t0_3) (iblk m c 1 t0_3) (iblk m c 2 t0_3) (iblk m c 3 t0_3) (iblk m c 4 t0_3) (iblk m c 5 t0_3) (xn m c) (acc2 m c) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [Hs0]; · iexact Hs0
  isplitl [Hs1]; · iexact Hs1
  iintro ⟨H0, H1, H2, H3, H4, H5, H6, H7, H8, H9, Hs0, Hs1⟩
  isplitl [Hs0 Hs1 Hp]
  · iapply (kept_out m c (acc2 m c))
    unfold kept
    isplitl [Hs0 Hs1]
    · isplitl [Hs0]; · iexact Hs0
      iexact Hs1
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

/-- The output's window rests at every point but the last; -/
theorem idle6_0 : idle0 6 (grid0.coords t0_0) = true := by decide +kernel
theorem flush6_0 : (win0 6).flush t0_0 = false := by decide +kernel
theorem idle6_1 : idle0 6 (grid0.coords t0_1) = true := by decide +kernel
theorem flush6_1 : (win0 6).flush t0_1 = false := by decide +kernel
theorem idle6_2 : idle0 6 (grid0.coords t0_2) = true := by decide +kernel
theorem flush6_2 : (win0 6).flush t0_2 = false := by decide +kernel
theorem idle6_3 : idle0 6 (grid0.coords t0_3) = false := by decide +kernel
/-- the windows of the copies rest at none. -/
theorem idle7 : ∀ t : Fin grid0.N, idle0 7 (grid0.coords t) = false := by decide +kernel
theorem idle8 : ∀ t : Fin grid0.N, idle0 8 (grid0.coords t) = false := by decide +kernel
theorem idle9 : ∀ t : Fin grid0.N, idle0 9 (grid0.coords t) = false := by decide +kernel

set_option maxHeartbeats 4000000 in
/-- The library's body obligation, at every point. -/
theorem body_obligation (c : Dev nD) : BodyObligation (dats (F := F) m 0 c) (defs₀ (F := F)) 𝒱₀ () Set.univ := fun t => by
  rw [bigSep_W0, bigSep_W0, defs₀_row]
  rcases fin_N0 t with rfl | rfl | rfl | rfl
  · simp only [idle6_0, flush6_0, idle7, idle8, idle9]
    exact triple_restated (sound_0 m c) rfl .rfl fun _ => .rfl
  · simp only [idle6_1, flush6_1, idle7, idle8, idle9]
    exact triple_restated (sound_1 m c) rfl .rfl fun _ => .rfl
  · simp only [idle6_2, flush6_2, idle7, idle8, idle9]
    exact triple_restated (sound_2 m c) rfl .rfl fun _ => .rfl
  · simp only [idle6_3, idle7, idle8, idle9]
    exact triple_restated (sound_3 m c) rfl .rfl fun _ => .rfl

theorem hq (c : Dev nD) (w : Fin (cfgs 0).W) (_ : ((cfgs 0).spec w).isOut = false) : (dats m 0 c).q w = Pipeline.shareOf (cfgs 0).spec w := rfl
theorem hin (c : Dev nD) : Pipeline.ΦA (cfgs 0).spec c ⊢ (dats m 0 c).Φ 0 := .rfl
theorem hout (c : Dev nD) : (dats m 0 c).Φ (Fin.last (cfgs 0).N) ⊢ Pipeline.ΦA (cfgs 0).spec c := .rfl

set_option backward.isDefEq.respectTransparency.types false in
set_option maxHeartbeats 800000 in
/-- The launch: every run ends, each array of the pipeline at what the proof data says, every other buffer as the region found
    it, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ 𝒱₀ m ρ main
    (hbody := fun c => (body_obligation m c).loose) (hq := hq m)
    (howed := fun _ _ => rfl) (V := V m) (hmain := hmain m 𝒱₀) (hA := A_eq m) (hin := hin m) (hout := hout m)

/-- The frame: every run ends with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).2 main_arg0 (Pipeline.mem_restRefs_of main_arg0 (by decide) (by decide))).trans (V_main_arg0 m c),
      ((h.1 c).1 2).trans (((dats m 0 c).arrAt_in 2 rfl _).trans ((A_eq m c 2).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main_quiescent m ρ)

/-- The run, ending at the result arrays the value proofs speak of. -/
theorem run_values : θ_run defs (onTc (τ := τ) (main (F := F))) ⟨m, fun _ => 0, ρ⟩ (fun r => ∀ c : Dev nD,
      r.2.mem ((c.tc : Thread nD τ).loc main_v4_0) = (dats m 0 c).arrAt 6 (cfgs 0).N
      ∧ r.2.mem ((c.tc : Thread nD τ).loc main_v4_1) = (dats m 0 c).arrAt 7 (cfgs 0).N
      ∧ r.2.mem ((c.tc : Thread nD τ).loc main_v4_2) = (dats m 0 c).arrAt 8 (cfgs 0).N
      ∧ r.2.mem ((c.tc : Thread nD τ).loc main_v4_3) = (dats m 0 c).arrAt 9 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 6, (h.1 c).1 7, (h.1 c).1 8, (h.1 c).1 9,
      ((h.1 c).2 main_arg0 (Pipeline.mem_restRefs_of main_arg0 (by decide) (by decide))).trans (V_main_arg0 m c),
      ((h.1 c).1 2).trans (((dats m 0 c).arrAt_in 2 rfl _).trans ((A_eq m c 2).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩) (run_main_quiescent m ρ)

end Cert.FfnInnerSampleIdeal.Step

end
-- ==== Proof.FfnInnerSample.Ref.lean ====
/- The reference of the sample batch's feed-forward without the last norm, at an index. -/
module

public import proofs.«01_k».proof.Proof.Gen.FfnInnerSampleRefIdeal.Run
public import proofs.«01_k».proof.Proof.Ffn.Rows
public import Idealize.ShloMosaic.Lib.Pointwise

@[expose] public section

set_option maxRecDepth 16384

noncomputable section

namespace Cert.FfnInnerSampleRefIdeal.Val

open Cert.FfnInnerSampleRefIdeal Cert.FfnInnerSampleRefIdeal.Gen Idealize.ShloMosaic Idealize.ShloMosaic.TcCoe Idealize.SL.Sem

/-- The reference's norm of its input. -/
def XN (a0 : FVec Ideal S8x32x1024 .f32) (a1 : FVec Ideal S1024 .f32) : FVec Ideal S8x32x1024 .f32 :=
  (mulf (mulf a0 (broadcastInDim S8x32x1024 ![0, 1, 2] bcast_S8x32x1_S8x32x1024_0_1_2 (Host.rsqrt (addf (Host.divf (broadcastInDim S8x32x1 ![0, 1] bcast_S8x32_S8x32x1_0_1 (Host.reduceAdd (mulf a0 a0) (constant S_ .f32 0x00000000#32) reducesTo_S8x32x1024_S8x32_d2 h_S_)) (broadcastInDim S8x32x1 ![] bcast_S_S8x32x1 (constant S_ .f32 0x44800000#32))) (broadcastInDim S8x32x1 ![] bcast_S_S8x32x1 (constant S_ .f32 0x358637BD#32)))))) (broadcastInDim S8x32x1024 ![0, 1, 2] bcast_S1x1x1024_S8x32x1024_0_1_2 (broadcastInDim S1x1x1024 ![2] bcast_S1024_S1x1x1024_2 a1)))

/-- A product of the normed input with a weight of 4096 columns. -/
def Z (xn : FVec Ideal S8x32x1024 .f32) (w : FVec Ideal S1x1024x4096 .f32) : FVec Ideal S8x32x4096 .f32 :=
  (Host.dotGeneral dot_S8x32x1024_S1024x4096_S8x32x4096_2_0_01_1_n_n none xn (shapeCast _ w shapeCasts_S1x1024x4096_S1024x4096))

/-- The input after the half step. -/
def Y (a0 : FVec Ideal S8x32x1024 .f32) (z u : FVec Ideal S8x32x4096 .f32) (a4 : FVec Ideal S1x4096x1024 .f32) : FVec Ideal S8x32x1024 .f32 :=
  (addf a0 (mulf (broadcastInDim S8x32x1024 ![] bcast_S_S8x32x1024 (constant S_ .f32 0x3F000000#32)) (Host.dotGeneral dot_S8x32x4096_S4096x1024_S8x32x1024_2_0_01_1_n_n none (mulf (mulf z (Host.divf (broadcastInDim S8x32x4096 ![] bcast_S_S8x32x4096 (constant S_ .f32 0x3F800000#32)) (addf (broadcastInDim S8x32x4096 ![] bcast_S_S8x32x4096 (constant S_ .f32 0x3F800000#32)) (Host.exp (Host.negf z))))) u) (shapeCast _ a4 shapeCasts_S1x4096x1024_S4096x1024))))

/-- The reference's result over its five arguments. -/
def REF (a0 : FVec Ideal S8x32x1024 .f32) (a1 : FVec Ideal S1x1024 .f32) (a2 a3 : FVec Ideal S1x1024x4096 .f32)
    (a4 : FVec Ideal S1x4096x1024 .f32) : FVec Ideal S256x1024 .f32 :=
  shapeCast _ (Y a0 (Z (XN a0 (shapeCast _ a1 shapeCasts_S1x1024_S1024)) a2) (Z (XN a0 (shapeCast _ a1 shapeCasts_S1x1024_S1024)) a3) a4)
    shapeCasts_S8x32x1024_S256x1024

/-- The weights in the smaller format. -/
def COLS (w : FVec Ideal S1x1024x4096 .f32) : FVec Ideal S1024x4096 .bf16 :=
  truncf .bf16 (shapeCast S1024x4096 w shapeCasts_S1x1024x4096_S1024x4096) bitsLt_bf16_f32
def ROWS (w : FVec Ideal S1x4096x1024 .f32) : FVec Ideal S4096x1024 .bf16 :=
  truncf .bf16 (shapeCast S4096x1024 w shapeCasts_S1x4096x1024_S4096x1024) bitsLt_bf16_f32
/-- and at an index. -/
theorem COLS_at (w : FVec Ideal S1x1024x4096 .f32) (k : Fin 1024) (f : Fin 4096) : COLS w (ix2 k f) = w (ix3 0 k f) := by
  pointwise [COLS]
theorem ROWS_at (w : FVec Ideal S1x4096x1024 .f32) (f : Fin 4096) (k : Fin 1024) : ROWS w (ix2 f k) = w (ix3 0 f k) := by
  pointwise [ROWS]

/-- The norm at an index is the norm of that row. -/
theorem XN_at (a0 : FVec Ideal S8x32x1024 .f32) (a1 : FVec Ideal S1024 .f32) (b : Fin 8) (t : Fin 32) (k : Fin 1024) :
    XN a0 a1 (ix3 b t k) = Rows.normed (fun j => a0 (ix3 b t j)) (fun j => a1 (ix1 j)) k := by
  pointwise [XN, Rows.normed, zero_add]

/-- The product at an index. -/
theorem Z_at (xn : FVec Ideal S8x32x1024 .f32) (w : FVec Ideal S1x1024x4096 .f32) (b : Fin 8) (t : Fin 32) (f : Fin 4096) :
    Z xn w (ix3 b t f) = ∑ k : Fin 1024, xn (ix3 b t k) * w (ix3 0 k f) := by
  pointwise [Z]

/-- The stepped input at an index. -/
theorem Y_at (a0 : FVec Ideal S8x32x1024 .f32) (z u : FVec Ideal S8x32x4096 .f32) (a4 : FVec Ideal S1x4096x1024 .f32)
    (b : Fin 8) (t : Fin 32) (j : Fin 1024) :
    Y a0 z u a4 (ix3 b t j) = a0 (ix3 b t j) + Ideal.ofBits .f32 0x3F000000#32
      * ∑ f : Fin 4096, z (ix3 b t f) * Ideal.div 1 (1 + Ideal.exp (-(z (ix3 b t f)))) * u (ix3 b t f) * a4 (ix3 0 f j) := by
  pointwise [Y]

/-- The reference's result at a row and a column: the stepped row. -/
theorem REF_at (a0 : FVec Ideal S8x32x1024 .f32) (a1 : FVec Ideal S1x1024 .f32) (a2 a3 : FVec Ideal S1x1024x4096 .f32)
    (a4 : FVec Ideal S1x4096x1024 .f32) (r : Fin 256) (j : Fin 1024) (b : Fin 8) (t : Fin 32) (h : (r : ℕ) = b * 32 + t) :
    REF a0 a1 a2 a3 a4 (ix2 r j) = Rows.stepped (fun k => a0 (ix3 b t k))
      (Rows.normed (fun k => a0 (ix3 b t k)) (fun k => a1 (ix2 0 k))) (fun k f => a2 (ix3 0 k f)) (fun k f => a3 (ix3 0 k f))
      (fun f j => a4 (ix3 0 f j)) j := by
  have hb : (⟨(r : ℕ) / 32, by omega⟩ : Fin 8) = b := Fin.ext (by simp; omega)
  have ht : (⟨(r : ℕ) % 32, by omega⟩ : Fin 32) = t := Fin.ext (by simp; omega)
  have hg : ∀ k : Fin 1024, shapeCast S1024 a1 shapeCasts_S1x1024_S1024 (ix1 k) = a1 (ix2 0 k) := fun k => by pointwise
  pointwise [REF]
  rw [hb, ht, Y_at]
  simp only [Z_at, XN_at, hg]
  rfl

end Cert.FfnInnerSampleRefIdeal.Val

end
-- ==== Proof.FfnInnerSample.Value.lean ====
/- The result arrays of the sample batch's feed-forward without the last norm are the reference's: the layer's output after the four chunks of the hidden
   row, and the three weights in the smaller format. -/
module

public import proofs.«01_k».proof.Proof.FfnInnerSample.Run
public import proofs.«01_k».proof.Proof.FfnInnerSample.Ref
public import Idealize.ShloMosaic.Lib.Pipeline.ValueKit

@[expose] public section

set_option maxRecDepth 16384

noncomputable section

namespace Cert.FfnInnerSampleIdeal.Val

open Cert.FfnInnerSampleIdeal Cert.FfnInnerSampleIdeal.Gen Cert.FfnInnerSampleIdeal.Step Idealize.ShloMosaic Idealize.ShloMosaic.TcCoe Idealize.SL.Sem
open Idealize.ShloMosaic.Pipeline (Dat)

/-- One chunk of the hidden row, gated and multiplied by its rows of the last weight. -/
def part (xn : FVec Ideal S1x256x1024 .bf16) (wg wu wd : FVec Ideal S1024x1024 .f32) (r : Fin 256) (j : Fin 1024) : EReal :=
  ∑ f : Fin 1024, (∑ k : Fin 1024, xn (ix3 0 r k) * wg (ix2 k f))
    * Ideal.div 1 (1 + Ideal.exp (-(∑ k : Fin 1024, xn (ix3 0 r k) * wg (ix2 k f))))
    * (∑ k : Fin 1024, xn (ix3 0 r k) * wu (ix2 k f)) * wd (ix2 f j)

/-- The normed block at an index. -/
theorem pay1_at (x : FVec Ideal S256x1024 .f32) (g : FVec Ideal S1x1024 .f32) (r : Fin 256) (k : Fin 1024) :
    k0_pay1 (F := Ideal) x g (ix3 0 r k) = Rows.normed (fun j => x (ix2 r j)) (fun j => g (ix2 0 j)) k := by
  pointwise [k0_pay1, Rows.normed]

/-- The first chunk at an index, -/
theorem pay18_at (wg wu wd : FVec Ideal S1024x1024 .f32) (xn : FVec Ideal S1x256x1024 .bf16) (r : Fin 256) (j : Fin 1024) :
    k0_pay18 (F := Ideal) wg wu wd xn (ix2 r j) = part xn wg wu wd r j := by
  pointwise [k0_pay18, k0_pay15, k0_pay16, k0_pay17, part]
  simp only [zero_add, Rows.half_tanh]

/-- a middle chunk added, -/
theorem pay14_at (a : FVec Ideal S256x1024 .f32) (wg wu wd : FVec Ideal S1024x1024 .f32) (xn : FVec Ideal S1x256x1024 .bf16)
    (r : Fin 256) (j : Fin 1024) :
    k0_pay14 (F := Ideal) a wg wu wd xn (ix2 r j) = a (ix2 r j) + part xn wg wu wd r j := by
  pointwise [k0_pay14, k0_pay11, k0_pay12, k0_pay13, part]
  simp only [zero_add, Rows.half_tanh]

/-- and the last. -/
theorem pay10_at (a : FVec Ideal S256x1024 .f32) (wg wu wd : FVec Ideal S1024x1024 .f32) (xn : FVec Ideal S1x256x1024 .bf16)
    (r : Fin 256) (j : Fin 1024) :
    k0_pay10 (F := Ideal) a wg wu wd xn (ix2 r j) = a (ix2 r j) + part xn wg wu wd r j := by
  pointwise [k0_pay10, k0_pay7, k0_pay8, k0_pay9, part]
  simp only [zero_add, Rows.half_tanh]

/-- The half step taken, at an index. -/
theorem pay2_at (x a : FVec Ideal S256x1024 .f32) (r : Fin 256) (j : Fin 1024) :
    k0_pay2 (F := Ideal) (k0_pay6 x) a (Scalar.ofBits .f32 0x3F000000#32) (ix2 r j)
      = x (ix2 r j) + Ideal.ofBits .f32 0x3F000000#32 * a (ix2 r j) := by
  pointwise [k0_pay2, k0_pay6]

/-- The copies at an index. -/
theorem pay7_at (w : FVec Ideal S1024x1024 .f32) (y : S1024x1024.Idx) : k0_pay7 (F := Ideal) w y = w y := by
  idx_vars y
  pointwise [k0_pay7]
theorem pay8_at (w : FVec Ideal S1024x1024 .f32) (y : S1024x1024.Idx) : k0_pay8 (F := Ideal) w y = w y := by
  idx_vars y
  pointwise [k0_pay8]
theorem pay9_at (w : FVec Ideal S1024x1024 .f32) (y : S1024x1024.Idx) : k0_pay9 (F := Ideal) w y = w y := by
  idx_vars y
  pointwise [k0_pay9]

variable (m : (ℓ : Loc nD τ sig) → Buf (Elt Ideal) ℓ)

/-- Every window's block index at every grid point. -/
theorem idx_val : ∀ t : Fin cfg0.N, win0_0.index t = ![0, 0]
    ∧ win0_2.index t = ![0, 0]
    ∧ win0_3.index t = ![0, t.val]
    ∧ win0_4.index t = ![0, t.val]
    ∧ win0_5.index t = ![t.val, 0]
    ∧ win0_6.index t = ![0, 0]
    ∧ win0_7.index t = ![0, t.val]
    ∧ win0_8.index t = ![0, t.val]
    ∧ win0_9.index t = ![t.val, 0] ∧ t.val < 4 :=
  (by decide +kernel : ∀ t : Fin grid0.N, _)

section Blocks
variable (c : Dev nD) (t : Fin cfg0.N)

/-- The blocks the body reads, at an index. -/
theorem blk0 (r : Fin 256) (k : Fin 1024) : iblk m c 0 t (ix2 r k) = m ((c : Thread nD τ).loc main_arg0)
    (ix3 (⟨(r : ℕ) / 32, by omega⟩ : Fin 8) (⟨(r : ℕ) % 32, by omega⟩ : Fin 32) k) := by
  blk_point [iblk, V, idx_val t]
theorem blk2 (k : Fin 1024) : iblk m c 2 t (ix2 0 k) = m ((c : Thread nD τ).loc main_arg1) (ix2 0 k) := by
  blk_point [iblk, V, idx_val t]
theorem blk3 (h : t.val < 4) (k f : Fin 1024) : iblk m c 3 t (ix2 k f)
    = m ((c : Thread nD τ).loc main_arg2) (ix3 (0 : Fin 1) k (⟨t.val * 1024 + f, by omega⟩ : Fin 4096)) := by
  blk_point [iblk, V, idx_val t]
theorem blk4 (h : t.val < 4) (k f : Fin 1024) : iblk m c 4 t (ix2 k f)
    = m ((c : Thread nD τ).loc main_arg3) (ix3 (0 : Fin 1) k (⟨t.val * 1024 + f, by omega⟩ : Fin 4096)) := by
  blk_point [iblk, V, idx_val t]
theorem blk5 (h : t.val < 4) (f k : Fin 1024) : iblk m c 5 t (ix2 f k)
    = m ((c : Thread nD τ).loc main_arg4) (ix3 (0 : Fin 1) (⟨t.val * 1024 + f, by omega⟩ : Fin 4096) k) := by
  blk_point [iblk, V, idx_val t]

end Blocks

/-- The layer's output is the reference's. -/
theorem out_eq (c : Dev nD) : out m c
    = FfnInnerSampleRefIdeal.Val.REF (m ((c : Thread nD τ).loc main_arg0)) (m ((c : Thread nD τ).loc main_arg1))
          (m ((c : Thread nD τ).loc main_arg2)) (m ((c : Thread nD τ).loc main_arg3)) (m ((c : Thread nD τ).loc main_arg4)) := by
  funext i
  idx_vars i
  refine Eq.trans ?_ (FfnInnerSampleRefIdeal.Val.REF_at _ _ _ _ _ i0 i1 (⟨(i0 : ℕ) / 32, by omega⟩ : Fin 8)
    (⟨(i0 : ℕ) % 32, by omega⟩ : Fin 32) (by simp; omega)).symm
  unfold out
  rw [pay2_at]
  simp only [blk0]
  unfold Rows.stepped
  congr 2
  unfold acc2 acc1 acc0
  rw [pay10_at, pay14_at, pay14_at, pay18_at, Fin.sum_univ_tiles 4 1024 rfl, Fin.sum_univ_four]
  unfold part Rows.hidden xn
  simp only [pay1_at, blk0, blk2, blk3 m c t0_0 (by decide), blk3 m c t0_1 (by decide), blk3 m c t0_2 (by decide), blk3 m c t0_3 (by decide),
    blk4 m c t0_0 (by decide), blk4 m c t0_1 (by decide), blk4 m c t0_2 (by decide), blk4 m c t0_3 (by decide),
    blk5 m c t0_0 (by decide), blk5 m c t0_1 (by decide), blk5 m c t0_2 (by decide), blk5 m c t0_3 (by decide)]
  generalize Rows.normed _ _ = xn
  rfl

/-- The result arrays after the run are the reference's results over the arguments. -/
theorem final (c : Dev nD) : (dats m 0 c).arrAt 6 (cfgs 0).N
    = FfnInnerSampleRefIdeal.Val.REF (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, out_eq]
  refine congrArg _ ?_
  blk_ext [idx_val t]
theorem final1 (c : Dev nD) : (dats m 0 c).arrAt 7 (cfgs 0).N = FfnInnerSampleRefIdeal.Val.COLS (m ((c : Thread nD τ).loc main_arg2)) := by
  refine (dats m 0 c).arrAt_eq_of_covers 7 _ (by decide +kernel) fun t hf y => ?_
  have ht := (idx_val t).2.2.2.2.2.2.2.2.2
  blk_simp
  rw [after0_7, pay7_at]
  refine Eq.trans ((congrArg _ (eq_ix2 y)).trans (blk3 m c t ht (y 0) (y 1))) ((FfnInnerSampleRefIdeal.Val.COLS_at _ _ _).symm.trans (congrArg _ ?_))
  blk_ext [idx_val t]
theorem final2 (c : Dev nD) : (dats m 0 c).arrAt 8 (cfgs 0).N = FfnInnerSampleRefIdeal.Val.COLS (m ((c : Thread nD τ).loc main_arg3)) := by
  refine (dats m 0 c).arrAt_eq_of_covers 8 _ (by decide +kernel) fun t hf y => ?_
  have ht := (idx_val t).2.2.2.2.2.2.2.2.2
  blk_simp
  rw [after0_8, pay8_at]
  refine Eq.trans ((congrArg _ (eq_ix2 y)).trans (blk4 m c t ht (y 0) (y 1))) ((FfnInnerSampleRefIdeal.Val.COLS_at _ _ _).symm.trans (congrArg _ ?_))
  blk_ext [idx_val t]
theorem final3 (c : Dev nD) : (dats m 0 c).arrAt 9 (cfgs 0).N = FfnInnerSampleRefIdeal.Val.ROWS (m ((c : Thread nD τ).loc main_arg4)) := by
  refine (dats m 0 c).arrAt_eq_of_covers 9 _ (by decide +kernel) fun t hf y => ?_
  have ht := (idx_val t).2.2.2.2.2.2.2.2.2
  blk_simp
  rw [after0_9, pay9_at]
  refine Eq.trans ((congrArg _ (eq_ix2 y)).trans (blk5 m c t ht (y 0) (y 1))) ((FfnInnerSampleRefIdeal.Val.ROWS_at _ _ _).symm.trans (congrArg _ ?_))
  blk_ext [idx_val t]

end Cert.FfnInnerSampleIdeal.Val

end
-- ==== Proof.FfnInnerSample.Bits.lean ====
/- The run was shown over any float values, so the feed-forward kernel's frame over bit patterns follows: the two programs have the same text. -/
module

public import Idealize.ShloMosaic.PureOps.BitExact
public import proofs.«01_k».proof.Proof.FfnInnerSample.Run
public import proofs.«01_k».proof.Proof.Gen.FfnInnerSample.Frame

@[expose] public section

set_option maxRecDepth 16384

noncomputable section

namespace Cert.FfnInnerSample.Step

open Cert.FfnInnerSample Cert.FfnInnerSample.Gen Idealize.ShloMosaic Idealize.SL.Sem Idealize.ShloMosaic.TcCoe

/-- The two programs' bodies are one, -/
theorem defs₀_eq : Cert.FfnInnerSample.defs₀ (F := Bits) = Cert.FfnInnerSampleIdeal.defs₀ (F := Bits) := by
  unfold Cert.FfnInnerSample.defs₀ Cert.FfnInnerSampleIdeal.defs₀
  refine congrArg Defs.onTc ?_
  funext l a
  match l, a with
  | ⟨0, _⟩, (t, s) => rfl
  | ⟨n + 1, h⟩, _ => exact absurd h (Nat.not_lt.2 (Nat.le_add_left _ _))

/-- and so are their calls. -/
theorem defs_eq : Cert.FfnInnerSample.defs (F := Bits) = Cert.FfnInnerSampleIdeal.defs (F := Bits) :=
  congrArg (Pipeline.defs Cert.FfnInnerSample.pcfgs) defs₀_eq

/-- The frame: every run ends with the arguments unchanged and every semaphore counter at zero. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq]
  exact Cert.FfnInnerSampleIdeal.Step.frame (F := Bits) m ρ

end Cert.FfnInnerSample.Step

end
-- ==== Proof.Proj.Ref.lean ====
/- The projection reference's five results read at an index. -/
module

public import proofs.«01_k».proof.Proof.Gen.ProjRefIdeal.Run
public import proofs.«01_k».proof.Proof.Ffn.Rows
public import Idealize.ShloMosaic.Lib.Pipeline.ValueKit

@[expose] public section

set_option maxRecDepth 16384

noncomputable section

namespace Cert.ProjRefIdeal.Val

open Cert.ProjRefIdeal Cert.ProjRefIdeal.Gen Idealize.ShloMosaic Idealize.ShloMosaic.TcCoe Idealize.SL.Sem

/-- The normed input's product with the whole weight. -/
def DOT (a0 : FVec Ideal S4x8192x1024 .f32) (a1 : FVec Ideal S1x1024 .f32) (a2 : FVec Ideal S1x1024x4096 .f32) : FVec Ideal S4x8192x4096 .f32 :=
  (Host.dotGeneral dot_S4x8192x1024_S1024x4096_S4x8192x4096_2_0_01_1_n_n none (mulf (mulf a0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf a0 a0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ a1 shapeCasts_S1x1024_S1024)))) (shapeCast _ a2 shapeCasts_S1x1024x4096_S1024x4096))

/-- The pooled columns, as rows. -/
def R27 (d : FVec Ideal S4x8192x4096 .f32) : FVec Ideal S32768x512 .f32 :=
  shapeCast _ (extractStridedSlice S4x8192x512 ![0, 0, 0] d slices_S4x8192x4096_S4x8192x512_0_0_0) shapeCasts_S4x8192x512_S32768x512

/-- The scaled queries, keys and values side by side, as rows. -/
def R30 (d : FVec Ideal S4x8192x4096 .f32) : FVec Ideal S32768x1536 .bf16 :=
  truncf .bf16 (shapeCast _ ((concatenate S4x8192x1536 2 [⟨S4x8192x512, ((Host.divf (mulf (extractStridedSlice S4x8192x512 ![0, 0, 512] d slices_S4x8192x4096_S4x8192x512_0_0_512) (broadcastInDim S4x8192x512 ![] bcast_S_S4x8192x512 (constant S_ .f32 0x3E000000#32))) (broadcastInDim S4x8192x512 ![] bcast_S_S4x8192x512 (Host.log (constant S_ .f32 0x40000000#32)))) : (⟨S4x8192x512, .f32⟩ : BufTy).Contents (Elt Ideal))⟩, ⟨S4x8192x512, ((extractStridedSlice S4x8192x512 ![0, 0, 1024] d slices_S4x8192x4096_S4x8192x512_0_0_1024) : (⟨S4x8192x512, .f32⟩ : BufTy).Contents (Elt Ideal))⟩, ⟨S4x8192x512, ((extractStridedSlice S4x8192x512 ![0, 0, 1536] d slices_S4x8192x4096_S4x8192x512_0_0_1536) : (⟨S4x8192x512, .f32⟩ : BufTy).Contents (Elt Ideal))⟩] concatenates_S4x8192x512_S4x8192x512_S4x8192x512_S4x8192x1536_d2 : (⟨S4x8192x1536, .f32⟩ : BufTy).Contents (Elt Ideal))) shapeCasts_S4x8192x1536_S32768x1536) bitsLt_bf16_f32

/-- The keys, head by head. -/
def R32 (d : FVec Ideal S4x8192x4096 .f32) : FVec Ideal S4x8x8192x64 .f32 :=
  transpose S4x8x8192x64 [0, 2, 1, 3] (shapeCast _ (extractStridedSlice S4x8192x512 ![0, 0, 1024] d slices_S4x8192x4096_S4x8192x512_0_0_1024) shapeCasts_S4x8192x512_S4x8192x8x64) transposes_S4x8192x8x64_S4x8x8192x64_0_2_1_3

/-- The values, head by head. -/
def R34 (d : FVec Ideal S4x8192x4096 .f32) : FVec Ideal S4x8x8192x64 .f32 :=
  transpose S4x8x8192x64 [0, 2, 1, 3] (shapeCast _ (extractStridedSlice S4x8192x512 ![0, 0, 1536] d slices_S4x8192x4096_S4x8192x512_0_0_1536) shapeCasts_S4x8192x512_S4x8192x8x64) transposes_S4x8192x8x64_S4x8x8192x64_0_2_1_3

/-- The two gates side by side, as rows. -/
def R37 (d : FVec Ideal S4x8192x4096 .f32) : FVec Ideal S32768x2048 .bf16 :=
  truncf .bf16 (shapeCast _ (concatenate S4x8192x2048 2 [⟨S4x8192x1024, (extractStridedSlice S4x8192x1024 ![0, 0, 2048] d slices_S4x8192x4096_S4x8192x1024_0_0_2048)⟩, ⟨S4x8192x1024, (extractStridedSlice S4x8192x1024 ![0, 0, 3072] d slices_S4x8192x4096_S4x8192x1024_0_0_3072)⟩] concatenates_S4x8192x1024_S4x8192x1024_S4x8192x2048_d2) shapeCasts_S4x8192x2048_S32768x2048) bitsLt_bf16_f32

/-- The product at an index. -/
theorem DOT_at (a0 : FVec Ideal S4x8192x1024 .f32) (a1 : FVec Ideal S1x1024 .f32) (a2 : FVec Ideal S1x1024x4096 .f32)
    (b : Fin 4) (t : Fin 8192) (f : Fin 4096) :
    DOT a0 a1 a2 (ix3 b t f) = Rows.proj (fun k => a0 (ix3 b t k)) (fun k => a1 (ix2 0 k)) (fun k f => a2 (ix3 0 k f)) f := by
  pointwise [DOT, Rows.proj, Rows.normed, zero_add]

variable (d : FVec Ideal S4x8192x4096 .f32)

/-- The pooled columns at a row. -/
theorem R27_at (r : Fin 32768) (j : Fin 512) (b : Fin 4) (t : Fin 8192) (f : Fin 4096) (h : (r : ℕ) = b * 8192 + t)
    (hf : (f : ℕ) = j) : R27 d (ix2 r j) = d (ix3 b t f) := by
  pointwise [R27]
  blk_ext

/-- The queries at a row: divided by eight and by the logarithm of two. -/
theorem R30_q (r : Fin 32768) (j : Fin 1536) (b : Fin 4) (t : Fin 8192) (f : Fin 4096) (h : (r : ℕ) = b * 8192 + t)
    (hj : (j : ℕ) < 512) (hf : (f : ℕ) = 512 + j) :
    R30 d (ix2 r j) = Ideal.div (d (ix3 b t f) * Ideal.ofBits .f32 0x3E000000#32) (Ideal.log (Ideal.ofBits .f32 0x40000000#32)) := by
  pointwise [R30]
  blk_point [] <;> omega

/-- The keys and the values at a row. -/
theorem R30_kv (r : Fin 32768) (j : Fin 1536) (b : Fin 4) (t : Fin 8192) (f : Fin 4096) (h : (r : ℕ) = b * 8192 + t)
    (hj : 512 ≤ (j : ℕ)) (hf : (f : ℕ) = 512 + j) : R30 d (ix2 r j) = d (ix3 b t f) := by
  pointwise [R30]
  blk_point [] <;> omega

/-- A key at a head and a row. -/
theorem R32_at (b : Fin 4) (h : Fin 8) (t : Fin 8192) (k : Fin 64) (f : Fin 4096) (hf : (f : ℕ) = 1024 + h * 64 + k) :
    R32 d (ix4 b h t k) = d (ix3 b t f) := by
  pointwise [R32]
  blk_ext

/-- A value at a head and a row. -/
theorem R34_at (b : Fin 4) (h : Fin 8) (t : Fin 8192) (k : Fin 64) (f : Fin 4096) (hf : (f : ℕ) = 1536 + h * 64 + k) :
    R34 d (ix4 b h t k) = d (ix3 b t f) := by
  pointwise [R34]
  blk_ext

/-- A gate at a row. -/
theorem R37_at (r : Fin 32768) (j : Fin 2048) (b : Fin 4) (t : Fin 8192) (f : Fin 4096) (h : (r : ℕ) = b * 8192 + t)
    (hf : (f : ℕ) = 2048 + j) : R37 d (ix2 r j) = d (ix3 b t f) := by
  pointwise [R37]
  blk_point [] <;> omega

end Cert.ProjRefIdeal.Val

end
-- ==== Proof.Proj.Value.lean ====
/- The projection kernel's five result arrays are the reference's. -/
module

public import proofs.«01_k».proof.Proof.Gen.ProjIdeal.Value
public import proofs.«01_k».proof.Proof.Proj.Ref
public import Idealize.ShloMosaic.Lib.Pipeline.ValueKit

@[expose] public section

set_option maxRecDepth 16384

noncomputable section

namespace Cert.ProjIdeal.Val

open Cert.ProjIdeal Cert.ProjIdeal.Gen Idealize.ShloMosaic Idealize.ShloMosaic.TcCoe Idealize.SL.Sem
open Idealize.ShloMosaic.Pipeline (Dat)

/-- Multiplying by the named scale is dividing by eight and by the logarithm of two. -/
theorem scale_eq (x : EReal) : x * Named.named (F := Ideal) (φ := .f32) κ "qscale" 0x3E38AA3B#32
    = Ideal.div (x * Ideal.ofBits .f32 0x3E000000#32) (Ideal.log (Ideal.ofBits .f32 0x40000000#32)) := by
  have e : Named.named (F := Ideal) (φ := .f32) κ "qscale" 0x3E38AA3B#32 = (((Real.log 2)⁻¹ * (1 / 8) : ℝ) : EReal) := by
    simp [Named.named, κ]
  have p : (0 : ℝ) < Real.log 2 := Real.log_pos (by norm_num)
  have l : Ideal.log ((2 : ℝ) : EReal) = ((Real.log 2 : ℝ) : EReal) := if_neg (by norm_num)
  rw [e, Rows.eighth_eq, Rows.two_eq, l, Ideal.div, if_neg (by exact_mod_cast p.ne'), ← EReal.coe_inv, mul_assoc,
    ← EReal.coe_mul, mul_comm (1 / 8 : ℝ)]

section
variable (x0 : FVec Ideal S1024x1024 .f32) (x1 : FVec Ideal S1x1024 .f32) (x2 : FVec Ideal S1024x4096 .bf16)

/-- A block's row of the product with the whole weight. -/
def row (r : Fin 1024) (f : Fin 4096) : EReal :=
  Rows.proj (fun k => x0 (ix2 r k)) (fun k => x1 (ix2 0 k)) (fun k f => x2 (ix2 k f)) f

/-- The pooled columns' block at an index. -/
theorem out3_at (y : S1024x512.Idx) (r : Fin 1024) (f : Fin 4096) (hr : (r : ℕ) = y 0) (hf : (f : ℕ) = y 1) :
    out0_3 (F := Ideal) x0 x1 x2 y = row x0 x1 x2 r f := by
  unfold row Rows.proj Rows.normed
  frame_out
  pointwise [k0_pay8, k0_pay7, zero_add]
  blk_point []

/-- A key block at a head, a row and a lane. -/
theorem out5_at (y : S1x8x1024x64.Idx) (r : Fin 1024) (f : Fin 4096) (hr : (r : ℕ) = y 2) (hf : (f : ℕ) = 1024 + y 1 * 64 + y 3) :
    out0_5 (F := Ideal) x0 x1 x2 y = row x0 x1 x2 r f := by
  unfold row Rows.proj Rows.normed
  canon_tiles x h
  all_goals (open_payloads; pointwise [zero_add]; blk_point [])

/-- A value block at a head, a row and a lane. -/
theorem out6_at (y : S1x8x1024x64.Idx) (r : Fin 1024) (f : Fin 4096) (hr : (r : ℕ) = y 2) (hf : (f : ℕ) = 1536 + y 1 * 64 + y 3) :
    out0_6 (F := Ideal) x0 x1 x2 y = row x0 x1 x2 r f := by
  unfold row Rows.proj Rows.normed
  canon_tiles x h
  all_goals (open_payloads; pointwise [zero_add]; blk_point [])

/-- The block of scaled queries, keys and values at an index. -/
theorem out4_at (y : S1024x1536.Idx) (r : Fin 1024) (f : Fin 4096) (hr : (r : ℕ) = y 0) (hf : (f : ℕ) = 512 + y 1) :
    out0_4 (F := Ideal) x0 x1 x2 y = if (y 1 : ℕ) < 512
      then Ideal.div (row x0 x1 x2 r f * Ideal.ofBits .f32 0x3E000000#32) (Ideal.log (Ideal.ofBits .f32 0x40000000#32))
      else row x0 x1 x2 r f := by
  canon_tiles x h
  · rw [if_neg (by omega)]
    unfold row Rows.proj Rows.normed
    open_payloads; pointwise [zero_add]; blk_point []
  · rw [if_neg (by omega)]
    unfold row Rows.proj Rows.normed
    open_payloads; pointwise [zero_add]; blk_point []
  · rw [if_pos (by omega), ← scale_eq]
    unfold row Rows.proj Rows.normed
    open_payloads; pointwise [zero_add]; blk_point []

/-- The gates' block at an index. -/
theorem out7_at (y : S1024x2048.Idx) (r : Fin 1024) (f : Fin 4096) (hr : (r : ℕ) = y 0) (hf : (f : ℕ) = 2048 + y 1) :
    out0_7 (F := Ideal) x0 x1 x2 y = row x0 x1 x2 r f := by
  unfold row Rows.proj Rows.normed
  canon_tiles x h
  all_goals (open_payloads; pointwise [zero_add]; blk_point [])

end

variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![t.val / 8, 0, t.val % 8, 0]
    ∧ win0_6.index t = ![t.val / 8, 0, t.val % 8, 0]
    ∧ win0_7.index t = ![t.val, 0] ∧ t.val < 32 :=
  (by decide +kernel : ∀ t : Fin grid0.N, _)

/-- The reference's product over the kernel's arguments. -/
def D (c : Dev nD) : FVec Ideal ProjRefIdeal.S4x8192x4096 .f32 :=
  ProjRefIdeal.Val.DOT (m ((c : Thread nD τ).loc main_arg0)) (m ((c : Thread nD τ).loc main_arg1)) (m ((c : Thread nD τ).loc main_arg2))

/-- A block's row of the product is the reference's product's row at the block's place. -/
theorem row_eq (c : Dev nD) (t : Fin cfg0.N) (r : Fin 1024) (f : Fin 4096) (b : Fin 4) (q : Fin 8192)
    (h : (b : ℕ) * 8192 + q = t.val * 1024 + r) :
    row (iblk m c 0 t) (iblk m c 1 t) (iblk m c 2 t) r f = D m c (ix3 b q f) := by
  have q0 : ∀ k : Fin 1024, iblk m c 0 t (ix2 r k) = m ((c : Thread nD τ).loc main_arg0) (ix3 b q k) := fun k => by
    blk_point [iblk, V, idx_val t]
  have q1 : ∀ k : Fin 1024, iblk m c 1 t (ix2 0 k) = m ((c : Thread nD τ).loc main_arg1) (ix2 0 k) := fun k => by
    blk_point [iblk, V, idx_val t]
  have q2 : ∀ (k : Fin 1024) (f : Fin 4096), iblk m c 2 t (ix2 k f) = m ((c : Thread nD τ).loc main_arg2) (ix3 0 k f) := fun k f => by
    blk_point [iblk, V, idx_val t]
  unfold row D
  rw [ProjRefIdeal.Val.DOT_at]
  simp only [q0, q1, q2]

/-- The pooled columns after the run are the reference's. -/
theorem final3 (c : Dev nD) : (dats m 0 c).arrAt 3 (cfgs 0).N = ProjRefIdeal.Val.R27 (D m c) := by
  have key : ∀ (t : Fin cfg0.N) (y : S1024x512.Idx) (i : S32768x512.Idx), (i 0 : ℕ) = t.val * 1024 + y 0 → (i 1 : ℕ) = y 1 →
      out0_3 (iblk m c 0 t) (iblk m c 1 t) (iblk m c 2 t) y = ProjRefIdeal.Val.R27 (D m c) i := by
    intro t y i h0 h1
    have ht := (idx_val t).2.2.2.2.2.2.2.2
    idx_vars i
    idx_vars y
    have a0 : (i0 : ℕ) < 32768 := i0.isLt
    have b0 : (y0 : ℕ) < 1024 := y0.isLt
    have b1 : (y1 : ℕ) < 512 := y1.isLt
    replace h0 : (i0 : ℕ) = t.val * 1024 + y0 := h0
    replace h1 : (i1 : ℕ) = y1 := h1
    rw [out3_at _ _ _ _ y0 ⟨y1, by omega⟩ rfl rfl]
    rw [ProjRefIdeal.Val.R27_at _ i0 i1 ⟨(i0 : ℕ) / 8192, by omega⟩ ⟨(i0 : ℕ) % 8192, by omega⟩ ⟨y1, by omega⟩ (by simp; omega) (by simp; omega)]
    exact row_eq m c t _ _ _ _ (by simp; omega)
  refine (dats m 0 c).arrAt_eq_of_covers 3 _ (by decide +kernel) fun t hf y => ?_
  blk_simp
  rw [after0_3]
  refine key t y _ ?_ ?_
  all_goals (blk_simp [idx_val t] <;> try omega)

/-- The scaled queries, the keys and the values after the run are the reference's. -/
theorem final4 (c : Dev nD) : (dats m 0 c).arrAt 4 (cfgs 0).N = ProjRefIdeal.Val.R30 (D m c) := by
  have key : ∀ (t : Fin cfg0.N) (y : S1024x1536.Idx) (i : S32768x1536.Idx), (i 0 : ℕ) = t.val * 1024 + y 0 → (i 1 : ℕ) = y 1 →
      out0_4 (iblk m c 0 t) (iblk m c 1 t) (iblk m c 2 t) y = ProjRefIdeal.Val.R30 (D m c) i := by
    intro t y i h0 h1
    have ht := (idx_val t).2.2.2.2.2.2.2.2
    idx_vars i
    idx_vars y
    have a0 : (i0 : ℕ) < 32768 := i0.isLt
    have b0 : (y0 : ℕ) < 1024 := y0.isLt
    have b1 : (y1 : ℕ) < 1536 := y1.isLt
    replace h0 : (i0 : ℕ) = t.val * 1024 + y0 := h0
    replace h1 : (i1 : ℕ) = y1 := h1
    rw [out4_at _ _ _ _ y0 ⟨512 + (y1 : ℕ), by omega⟩ rfl rfl]
    rw [row_eq m c t y0 _ ⟨(i0 : ℕ) / 8192, by omega⟩ ⟨(i0 : ℕ) % 8192, by omega⟩ (by simp; omega)]
    by_cases hj : (y1 : ℕ) < 512
    · rw [if_pos (by exact hj)]
      exact (ProjRefIdeal.Val.R30_q _ i0 i1 _ _ ⟨512 + (y1 : ℕ), by omega⟩ (by simp; omega) (by omega) (by simp; omega)).symm
    · rw [if_neg (by exact hj)]
      exact (ProjRefIdeal.Val.R30_kv _ i0 i1 _ _ ⟨512 + (y1 : ℕ), by omega⟩ (by simp; omega) (by omega) (by simp; omega)).symm
  refine (dats m 0 c).arrAt_eq_of_covers 4 _ (by decide +kernel) fun t hf y => ?_
  blk_simp
  rw [after0_4]
  refine key t y _ ?_ ?_
  all_goals (blk_simp [idx_val t] <;> try omega)

/-- The keys after the run, head by head, are the reference's. -/
theorem final5 (c : Dev nD) : (dats m 0 c).arrAt 5 (cfgs 0).N = ProjRefIdeal.Val.R32 (D m c) := by
  have key : ∀ (t : Fin cfg0.N) (y : S1x8x1024x64.Idx) (i : S4x8x8192x64.Idx), (i 0 : ℕ) = t.val / 8 → (i 1 : ℕ) = y 1 →
      (i 2 : ℕ) = t.val % 8 * 1024 + y 2 → (i 3 : ℕ) = y 3 →
      out0_5 (iblk m c 0 t) (iblk m c 1 t) (iblk m c 2 t) y = ProjRefIdeal.Val.R32 (D m c) i := by
    intro t y i h0 h1 h2 h3
    have ht := (idx_val t).2.2.2.2.2.2.2.2
    idx_vars i
    idx_vars y
    have a1 : (i1 : ℕ) < 8 := i1.isLt
    have a3 : (i3 : ℕ) < 64 := i3.isLt
    have b2 : (y2 : ℕ) < 1024 := y2.isLt
    replace h0 : (i0 : ℕ) = t.val / 8 := h0
    replace h1 : (i1 : ℕ) = y1 := h1
    replace h2 : (i2 : ℕ) = t.val % 8 * 1024 + y2 := h2
    replace h3 : (i3 : ℕ) = y3 := h3
    have hf : 1024 + (i1 : ℕ) * 64 + i3 = 1024 + (y1 : ℕ) * 64 + y3 := by omega
    refine (out5_at _ _ _ (ix4 y0 y1 y2 y3) y2 ⟨1024 + (i1 : ℕ) * 64 + i3, by omega⟩ rfl (by exact hf)).trans ?_
    rw [ProjRefIdeal.Val.R32_at _ i0 i1 i2 i3 ⟨1024 + (i1 : ℕ) * 64 + i3, by omega⟩ rfl]
    exact row_eq m c t _ _ _ _ (by omega)
  refine (dats m 0 c).arrAt_eq_of_covers 5 _ (by decide +kernel) fun t hf y => ?_
  blk_simp
  rw [after0_5]
  refine key t y _ ?_ ?_ ?_ ?_
  all_goals (blk_simp [idx_val t] <;> try omega)

/-- The values after the run, head by head, are the reference's. -/
theorem final6 (c : Dev nD) : (dats m 0 c).arrAt 6 (cfgs 0).N = ProjRefIdeal.Val.R34 (D m c) := by
  have key : ∀ (t : Fin cfg0.N) (y : S1x8x1024x64.Idx) (i : S4x8x8192x64.Idx), (i 0 : ℕ) = t.val / 8 → (i 1 : ℕ) = y 1 →
      (i 2 : ℕ) = t.val % 8 * 1024 + y 2 → (i 3 : ℕ) = y 3 →
      out0_6 (iblk m c 0 t) (iblk m c 1 t) (iblk m c 2 t) y = ProjRefIdeal.Val.R34 (D m c) i := by
    intro t y i h0 h1 h2 h3
    have ht := (idx_val t).2.2.2.2.2.2.2.2
    idx_vars i
    idx_vars y
    have a1 : (i1 : ℕ) < 8 := i1.isLt
    have a3 : (i3 : ℕ) < 64 := i3.isLt
    have b2 : (y2 : ℕ) < 1024 := y2.isLt
    replace h0 : (i0 : ℕ) = t.val / 8 := h0
    replace h1 : (i1 : ℕ) = y1 := h1
    replace h2 : (i2 : ℕ) = t.val % 8 * 1024 + y2 := h2
    replace h3 : (i3 : ℕ) = y3 := h3
    have hf : 1536 + (i1 : ℕ) * 64 + i3 = 1536 + (y1 : ℕ) * 64 + y3 := by omega
    refine (out6_at _ _ _ (ix4 y0 y1 y2 y3) y2 ⟨1536 + (i1 : ℕ) * 64 + i3, by omega⟩ rfl (by exact hf)).trans ?_
    rw [ProjRefIdeal.Val.R34_at _ i0 i1 i2 i3 ⟨1536 + (i1 : ℕ) * 64 + i3, by omega⟩ rfl]
    exact row_eq m c t _ _ _ _ (by omega)
  refine (dats m 0 c).arrAt_eq_of_covers 6 _ (by decide +kernel) fun t hf y => ?_
  blk_simp
  rw [after0_6]
  refine key t y _ ?_ ?_ ?_ ?_
  all_goals (blk_simp [idx_val t] <;> try omega)

/-- The gates after the run are the reference's. -/
theorem final7 (c : Dev nD) : (dats m 0 c).arrAt 7 (cfgs 0).N = ProjRefIdeal.Val.R37 (D m c) := by
  have key : ∀ (t : Fin cfg0.N) (y : S1024x2048.Idx) (i : S32768x2048.Idx), (i 0 : ℕ) = t.val * 1024 + y 0 → (i 1 : ℕ) = y 1 →
      out0_7 (iblk m c 0 t) (iblk m c 1 t) (iblk m c 2 t) y = ProjRefIdeal.Val.R37 (D m c) i := by
    intro t y i h0 h1
    have ht := (idx_val t).2.2.2.2.2.2.2.2
    idx_vars i
    idx_vars y
    have a0 : (i0 : ℕ) < 32768 := i0.isLt
    have b0 : (y0 : ℕ) < 1024 := y0.isLt
    have b1 : (y1 : ℕ) < 2048 := y1.isLt
    replace h0 : (i0 : ℕ) = t.val * 1024 + y0 := h0
    replace h1 : (i1 : ℕ) = y1 := h1
    rw [out7_at _ _ _ _ y0 ⟨2048 + (y1 : ℕ), by omega⟩ rfl rfl]
    rw [ProjRefIdeal.Val.R37_at _ i0 i1 ⟨(i0 : ℕ) / 8192, by omega⟩ ⟨(i0 : ℕ) % 8192, by omega⟩ ⟨2048 + (y1 : ℕ), by omega⟩ (by simp; omega) (by simp; omega)]
    exact row_eq m c t _ _ _ _ (by simp; omega)
  refine (dats m 0 c).arrAt_eq_of_covers 7 _ (by decide +kernel) fun t hf y => ?_
  blk_simp
  rw [after0_7]
  refine key t y _ ?_ ?_
  all_goals (blk_simp [idx_val t] <;> try omega)

end Cert.ProjIdeal.Val

end
-- ==== Proof.ProjSample.Ref.lean ====
/- The sample batch's projection reference's six results read at an index. -/
module

public import proofs.«01_k».proof.Proof.Gen.ProjSampleRefIdeal.Run
public import proofs.«01_k».proof.Proof.Ffn.Rows
public import Idealize.ShloMosaic.Lib.Pipeline.ValueKit

@[expose] public section

set_option maxRecDepth 16384

noncomputable section

namespace Cert.ProjSampleRefIdeal.Val

open Cert.ProjSampleRefIdeal Cert.ProjSampleRefIdeal.Gen Idealize.ShloMosaic Idealize.ShloMosaic.TcCoe Idealize.SL.Sem

/-- The normed input's product with the whole weight. -/
def DOT (a0 : FVec Ideal S8x32x1024 .f32) (a1 : FVec Ideal S1x1024 .f32) (a2 : FVec Ideal S1x1024x4096 .f32) : FVec Ideal S8x32x4096 .f32 :=
  (Host.dotGeneral dot_S8x32x1024_S1024x4096_S8x32x4096_2_0_01_1_n_n none (mulf (mulf a0 (broadcastInDim S8x32x1024 ![0, 1, 2] bcast_S8x32x1_S8x32x1024_0_1_2 (Host.rsqrt (addf (Host.divf (broadcastInDim S8x32x1 ![0, 1] bcast_S8x32_S8x32x1_0_1 (Host.reduceAdd (mulf a0 a0) (constant S_ .f32 0x00000000#32) reducesTo_S8x32x1024_S8x32_d2 h_S_)) (broadcastInDim S8x32x1 ![] bcast_S_S8x32x1 (constant S_ .f32 0x44800000#32))) (broadcastInDim S8x32x1 ![] bcast_S_S8x32x1 (constant S_ .f32 0x358637BD#32)))))) (broadcastInDim S8x32x1024 ![0, 1, 2] bcast_S1x1x1024_S8x32x1024_0_1_2 (broadcastInDim S1x1x1024 ![2] bcast_S1024_S1x1x1024_2 (shapeCast _ a1 shapeCasts_S1x1024_S1024)))) (shapeCast _ a2 shapeCasts_S1x1024x4096_S1024x4096))

/-- The pooled columns, as rows. -/
def R27 (d : FVec Ideal S8x32x4096 .f32) : FVec Ideal S256x512 .f32 :=
  shapeCast _ (extractStridedSlice S8x32x512 ![0, 0, 0] d slices_S8x32x4096_S8x32x512_0_0_0) shapeCasts_S8x32x512_S256x512

/-- The scaled queries, keys and values side by side, as rows. -/
def R30 (d : FVec Ideal S8x32x4096 .f32) : FVec Ideal S256x1536 .bf16 :=
  truncf .bf16 (shapeCast _ ((concatenate S8x32x1536 2 [⟨S8x32x512, ((Host.divf (mulf (extractStridedSlice S8x32x512 ![0, 0, 512] d slices_S8x32x4096_S8x32x512_0_0_512) (broadcastInDim S8x32x512 ![] bcast_S_S8x32x512 (constant S_ .f32 0x3E000000#32))) (broadcastInDim S8x32x512 ![] bcast_S_S8x32x512 (Host.log (constant S_ .f32 0x40000000#32)))) : (⟨S8x32x512, .f32⟩ : BufTy).Contents (Elt Ideal))⟩, ⟨S8x32x512, ((extractStridedSlice S8x32x512 ![0, 0, 1024] d slices_S8x32x4096_S8x32x512_0_0_1024) : (⟨S8x32x512, .f32⟩ : BufTy).Contents (Elt Ideal))⟩, ⟨S8x32x512, ((extractStridedSlice S8x32x512 ![0, 0, 1536] d slices_S8x32x4096_S8x32x512_0_0_1536) : (⟨S8x32x512, .f32⟩ : BufTy).Contents (Elt Ideal))⟩] concatenates_S8x32x512_S8x32x512_S8x32x512_S8x32x1536_d2 : (⟨S8x32x1536, .f32⟩ : BufTy).Contents (Elt Ideal))) shapeCasts_S8x32x1536_S256x1536) bitsLt_bf16_f32

/-- The keys, head by head. -/
def R32 (d : FVec Ideal S8x32x4096 .f32) : FVec Ideal S8x8x32x64 .f32 :=
  transpose S8x8x32x64 [0, 2, 1, 3] (shapeCast _ (extractStridedSlice S8x32x512 ![0, 0, 1024] d slices_S8x32x4096_S8x32x512_0_0_1024) shapeCasts_S8x32x512_S8x32x8x64) transposes_S8x32x8x64_S8x8x32x64_0_2_1_3

/-- The values, head by head. -/
def R34 (d : FVec Ideal S8x32x4096 .f32) : FVec Ideal S8x8x32x64 .f32 :=
  transpose S8x8x32x64 [0, 2, 1, 3] (shapeCast _ (extractStridedSlice S8x32x512 ![0, 0, 1536] d slices_S8x32x4096_S8x32x512_0_0_1536) shapeCasts_S8x32x512_S8x32x8x64) transposes_S8x32x8x64_S8x8x32x64_0_2_1_3

/-- The two gates side by side, as rows. -/
def R37 (d : FVec Ideal S8x32x4096 .f32) : FVec Ideal S256x2048 .bf16 :=
  truncf .bf16 (shapeCast _ (concatenate S8x32x2048 2 [⟨S8x32x1024, (extractStridedSlice S8x32x1024 ![0, 0, 2048] d slices_S8x32x4096_S8x32x1024_0_0_2048)⟩, ⟨S8x32x1024, (extractStridedSlice S8x32x1024 ![0, 0, 3072] d slices_S8x32x4096_S8x32x1024_0_0_3072)⟩] concatenates_S8x32x1024_S8x32x1024_S8x32x2048_d2) shapeCasts_S8x32x2048_S256x2048) bitsLt_bf16_f32

/-- The weight at half the width. -/
def R39 (a2 : FVec Ideal S1x1024x4096 .f32) : FVec Ideal S1024x4096 .bf16 :=
  truncf .bf16 (shapeCast _ a2 shapeCasts_S1x1024x4096_S1024x4096) bitsLt_bf16_f32

/-- The weight's copy at an index. -/
theorem R39_at (a2 : FVec Ideal S1x1024x4096 .f32) (k : Fin 1024) (f : Fin 4096) : R39 a2 (ix2 k f) = a2 (ix3 0 k f) := by
  pointwise [R39]

/-- The product at an index. -/
theorem DOT_at (a0 : FVec Ideal S8x32x1024 .f32) (a1 : FVec Ideal S1x1024 .f32) (a2 : FVec Ideal S1x1024x4096 .f32)
    (b : Fin 8) (t : Fin 32) (f : Fin 4096) :
    DOT a0 a1 a2 (ix3 b t f) = Rows.proj (fun k => a0 (ix3 b t k)) (fun k => a1 (ix2 0 k)) (fun k f => a2 (ix3 0 k f)) f := by
  pointwise [DOT, Rows.proj, Rows.normed, zero_add]

variable (d : FVec Ideal S8x32x4096 .f32)

/-- The pooled columns at a row. -/
theorem R27_at (r : Fin 256) (j : Fin 512) (b : Fin 8) (t : Fin 32) (f : Fin 4096) (h : (r : ℕ) = b * 32 + t)
    (hf : (f : ℕ) = j) : R27 d (ix2 r j) = d (ix3 b t f) := by
  pointwise [R27]
  blk_ext

/-- The queries at a row: divided by eight and by the logarithm of two. -/
theorem R30_q (r : Fin 256) (j : Fin 1536) (b : Fin 8) (t : Fin 32) (f : Fin 4096) (h : (r : ℕ) = b * 32 + t)
    (hj : (j : ℕ) < 512) (hf : (f : ℕ) = 512 + j) :
    R30 d (ix2 r j) = Ideal.div (d (ix3 b t f) * Ideal.ofBits .f32 0x3E000000#32) (Ideal.log (Ideal.ofBits .f32 0x40000000#32)) := by
  pointwise [R30]
  blk_point [] <;> omega

/-- The keys and the values at a row. -/
theorem R30_kv (r : Fin 256) (j : Fin 1536) (b : Fin 8) (t : Fin 32) (f : Fin 4096) (h : (r : ℕ) = b * 32 + t)
    (hj : 512 ≤ (j : ℕ)) (hf : (f : ℕ) = 512 + j) : R30 d (ix2 r j) = d (ix3 b t f) := by
  pointwise [R30]
  blk_point [] <;> omega

/-- A key at a head and a row. -/
theorem R32_at (b : Fin 8) (h : Fin 8) (t : Fin 32) (k : Fin 64) (f : Fin 4096) (hf : (f : ℕ) = 1024 + h * 64 + k) :
    R32 d (ix4 b h t k) = d (ix3 b t f) := by
  pointwise [R32]
  blk_ext

/-- A value at a head and a row. -/
theorem R34_at (b : Fin 8) (h : Fin 8) (t : Fin 32) (k : Fin 64) (f : Fin 4096) (hf : (f : ℕ) = 1536 + h * 64 + k) :
    R34 d (ix4 b h t k) = d (ix3 b t f) := by
  pointwise [R34]
  blk_ext

/-- A gate at a row. -/
theorem R37_at (r : Fin 256) (j : Fin 2048) (b : Fin 8) (t : Fin 32) (f : Fin 4096) (h : (r : ℕ) = b * 32 + t)
    (hf : (f : ℕ) = 2048 + j) : R37 d (ix2 r j) = d (ix3 b t f) := by
  pointwise [R37]
  blk_point [] <;> omega

end Cert.ProjSampleRefIdeal.Val

end
-- ==== Proof.ProjSample.Value.lean ====
/- The sample batch's projection: the kernel's six result arrays are the reference's. One grid point does the whole call. -/
module

public import proofs.«01_k».proof.Proof.Gen.ProjSampleIdeal.Value
public import proofs.«01_k».proof.Proof.ProjSample.Ref
public import Idealize.ShloMosaic.Lib.Pipeline.ValueKit

@[expose] public section

set_option maxRecDepth 16384

noncomputable section

namespace Cert.ProjSampleIdeal.Val

open Cert.ProjSampleIdeal Cert.ProjSampleIdeal.Gen Idealize.ShloMosaic Idealize.ShloMosaic.TcCoe Idealize.SL.Sem
open Idealize.ShloMosaic.Pipeline (Dat)

/-- Multiplying by the named scale is dividing by eight and by the logarithm of two. -/
theorem scale_eq (x : EReal) : x * Named.named (F := Ideal) (φ := .f32) κ "qscale" 0x3E38AA3B#32
    = Ideal.div (x * Ideal.ofBits .f32 0x3E000000#32) (Ideal.log (Ideal.ofBits .f32 0x40000000#32)) := by
  have e : Named.named (F := Ideal) (φ := .f32) κ "qscale" 0x3E38AA3B#32 = (((Real.log 2)⁻¹ * (1 / 8) : ℝ) : EReal) := by
    simp [Named.named, κ]
  have p : (0 : ℝ) < Real.log 2 := Real.log_pos (by norm_num)
  have l : Ideal.log ((2 : ℝ) : EReal) = ((Real.log 2 : ℝ) : EReal) := if_neg (by norm_num)
  rw [e, Rows.eighth_eq, Rows.two_eq, l, Ideal.div, if_neg (by exact_mod_cast p.ne'), ← EReal.coe_inv, mul_assoc,
    ← EReal.coe_mul, mul_comm (1 / 8 : ℝ)]

/-- One head's block of a stream, cut out of a product, at an index. -/
theorem head_at (K : FVec Ideal S256x512 .f32) (off : Fin 2 → ℕ) (hs : S256x512.Slices off S32x64) (sc : S32x64.ShapeCasts S1x1x32x64)
    (x : S1x1x32x64.Idx) (r : Fin 256) (f : Fin 512) (hr : (r : ℕ) = off 0 + x 2) (hf : (f : ℕ) = off 1 + x 3) :
    shapeCast S1x1x32x64 (extractStridedSlice S32x64 off K hs) sc x = K (ix2 r f) := by
  idx_vars x
  have z0 : (x0 : ℕ) < 1 := x0.isLt
  have z1 : (x1 : ℕ) < 1 := x1.isLt
  replace hr : (r : ℕ) = off 0 + x2 := hr
  replace hf : (f : ℕ) = off 1 + x3 := hf
  pointwise []
  blk_ext

section
variable (x0 : Vec Ideal S256x1024 .f32) (x1 : Vec Ideal S1x1024 .f32) (x2 : Vec Ideal S1024x4096 .f32)

/-- A row of the product with the whole weight. -/
def row (r : Fin 256) (f : Fin 4096) : EReal :=
  Rows.proj (fun k => x0 (ix2 r k)) (fun k => x1 (ix2 0 k)) (fun k f => x2 (ix2 k f)) f

variable (c : Dev nD) (i : grid0.Coords) (arg1 : Memref sig .tc .vmem S256x1024 .f32) (w1 : arg1.IsWhole) (arg2 : Memref sig .tc .vmem S1x1024 .f32) (w2 : arg2.IsWhole)
  (arg3 : Memref sig .tc .vmem S1024x4096 .f32) (w3 : arg3.IsWhole) (arg4 : Memref sig .tc .vmem S256x512 .f32) (w4 : arg4.IsWhole)
  (arg5 : Memref sig .tc .vmem S256x1536 .bf16) (w5 : arg5.IsWhole) (arg6 : Memref sig .tc .vmem S8x8x32x64 .f32) (w6 : arg6.IsWhole)
  (arg7 : Memref sig .tc .vmem S8x8x32x64 .f32) (w7 : arg7.IsWhole) (arg8 : Memref sig .tc .vmem S256x2048 .bf16) (w8 : arg8.IsWhole)
  (arg9 : Memref sig .tc .vmem S1024x4096 .bf16) (w9 : arg9.IsWhole)

/-- The keys' product at an index. -/
theorem keys_at (r : Fin 256) (j : Fin 512) (f : Fin 4096) (hf : (f : ℕ) = 1024 + j) :
    kernelRun0_A.sl.r_1 (F := Ideal) c arg1 w1 arg2 w2 arg3 w3 x0 x1 x2 (ix2 r j) = row x0 x1 x2 r f := by
  unfold row Rows.proj Rows.normed
  simp only [kernelRun0_A.sl.r, kernelRun0_A.sl.r_1, kernelRun0_A.sl.r_11, kernelRun0_A.sl.r_12, kernelRun0_A.sl.cst_277, View.readAt_eq_ld, w1.read_unread, w2.read_unread, w3.read_unread]
  pointwise [k0_pay9, k0_pay8, k0_pay3, zero_add]
  blk_point []

/-- The values' product at an index. -/
theorem values_at (r : Fin 256) (j : Fin 512) (f : Fin 4096) (hf : (f : ℕ) = 1536 + j) :
    kernelRun0_A.sl.r_12 (F := Ideal) c arg1 w1 arg2 w2 arg3 w3 x0 x1 x2 (ix2 r j) = row x0 x1 x2 r f := by
  unfold row Rows.proj Rows.normed
  simp only [kernelRun0_A.sl.r, kernelRun0_A.sl.r_1, kernelRun0_A.sl.r_11, kernelRun0_A.sl.r_12, kernelRun0_A.sl.cst_277, View.readAt_eq_ld, w1.read_unread, w2.read_unread, w3.read_unread]
  pointwise [k0_pay85, k0_pay84, k0_pay3, zero_add]
  blk_point []

/-- The pooled columns at an index. -/
theorem out3_at (y : S256x512.Idx) (r : Fin 256) (f : Fin 4096) (hr : (r : ℕ) = y 0) (hf : (f : ℕ) = y 1) :
    out0_A_3 (F := Ideal) c i arg1 w1 arg2 w2 arg3 w3 arg4 w4 arg5 w5 arg6 w6 arg7 w7 arg8 w8 arg9 w9 x0 x1 x2 y = row x0 x1 x2 r f := by
  unfold out0_A_3
  rw [View.read_writes_junk_eq_canon]
  unfold kernelRun0_A
  dsimp only
  simp only [kernelRun0_A.sl.r, kernelRun0_A.sl.r_1, kernelRun0_A.sl.r_11, kernelRun0_A.sl.r_12, kernelRun0_A.sl.cst_277, View.readAt_eq_ld, w1.read_unread, w2.read_unread, w3.read_unread]
  unfold row Rows.proj Rows.normed
  canon_tiles x h
  all_goals (open_payloads; pointwise [zero_add]; blk_point [])

/-- The scaled queries, the keys and the values at an index. -/
theorem out4_at (y : S256x1536.Idx) (r : Fin 256) (f : Fin 4096) (hr : (r : ℕ) = y 0) (hf : (f : ℕ) = 512 + y 1) :
    out0_A_4 (F := Ideal) c i arg1 w1 arg2 w2 arg3 w3 arg4 w4 arg5 w5 arg6 w6 arg7 w7 arg8 w8 arg9 w9 x0 x1 x2 y = if (y 1 : ℕ) < 512
      then Ideal.div (row x0 x1 x2 r f * Ideal.ofBits .f32 0x3E000000#32) (Ideal.log (Ideal.ofBits .f32 0x40000000#32))
      else row x0 x1 x2 r f := by
  unfold out0_A_4
  rw [View.read_writes_junk_eq_canon]
  unfold kernelRun0_A
  dsimp only
  simp only [kernelRun0_A.sl.r, kernelRun0_A.sl.r_1, kernelRun0_A.sl.r_11, kernelRun0_A.sl.r_12, kernelRun0_A.sl.cst_277, View.readAt_eq_ld, w1.read_unread, w2.read_unread, w3.read_unread]
  canon_tiles x h
  · rw [if_neg (by omega)]
    unfold row Rows.proj Rows.normed
    open_payloads; pointwise [zero_add]; blk_point []
  · rw [if_neg (by omega)]
    unfold row Rows.proj Rows.normed
    open_payloads; pointwise [zero_add]; blk_point []
  · rw [if_pos (by omega), ← scale_eq]
    unfold row Rows.proj Rows.normed
    open_payloads; pointwise [zero_add]; blk_point []

/-- A key of a head at a row of a stream and a lane. -/
theorem out5_at (y : S8x8x32x64.Idx) (r : Fin 256) (f : Fin 4096) (hr : (r : ℕ) = y 0 * 32 + y 2) (hf : (f : ℕ) = 1024 + y 1 * 64 + y 3) :
    out0_A_5 (F := Ideal) c i arg1 w1 arg2 w2 arg3 w3 arg4 w4 arg5 w5 arg6 w6 arg7 w7 arg8 w8 arg9 w9 x0 x1 x2 y = row x0 x1 x2 r f := by
  unfold out0_A_5
  rw [View.read_writes_junk_eq_canon]
  unfold kernelRun0_A
  dsimp only
  canon_tiles x h
  all_goals
    refine (head_at _ _ ?_ ?_ x r ⟨(f : ℕ) - 1024, by omega⟩ ?_ ?_).trans (keys_at x0 x1 x2 c arg1 w1 arg2 w2 arg3 w3 r _ f (by simp only []; omega))
    all_goals first | (simp only [Matrix.cons_val_zero, Matrix.cons_val_one]; omega) | decide

/-- A value of a head at a row of a stream and a lane. -/
theorem out6_at (y : S8x8x32x64.Idx) (r : Fin 256) (f : Fin 4096) (hr : (r : ℕ) = y 0 * 32 + y 2) (hf : (f : ℕ) = 1536 + y 1 * 64 + y 3) :
    out0_A_6 (F := Ideal) c i arg1 w1 arg2 w2 arg3 w3 arg4 w4 arg5 w5 arg6 w6 arg7 w7 arg8 w8 arg9 w9 x0 x1 x2 y = row x0 x1 x2 r f := by
  unfold out0_A_6
  rw [View.read_writes_junk_eq_canon]
  unfold kernelRun0_A
  dsimp only
  canon_tiles x h
  all_goals
    refine (head_at _ _ ?_ ?_ x r ⟨(f : ℕ) - 1536, by omega⟩ ?_ ?_).trans (values_at x0 x1 x2 c arg1 w1 arg2 w2 arg3 w3 r _ f (by simp only []; omega))
    all_goals first | (simp only [Matrix.cons_val_zero, Matrix.cons_val_one]; omega) | decide

/-- The gates at an index. -/
theorem out7_at (y : S256x2048.Idx) (r : Fin 256) (f : Fin 4096) (hr : (r : ℕ) = y 0) (hf : (f : ℕ) = 2048 + y 1) :
    out0_A_7 (F := Ideal) c i arg1 w1 arg2 w2 arg3 w3 arg4 w4 arg5 w5 arg6 w6 arg7 w7 arg8 w8 arg9 w9 x0 x1 x2 y = row x0 x1 x2 r f := by
  unfold out0_A_7
  rw [View.read_writes_junk_eq_canon]
  unfold kernelRun0_A
  dsimp only
  simp only [kernelRun0_A.sl.r, kernelRun0_A.sl.r_1, kernelRun0_A.sl.r_11, kernelRun0_A.sl.r_12, kernelRun0_A.sl.cst_277, View.readAt_eq_ld, w1.read_unread, w2.read_unread, w3.read_unread]
  unfold row Rows.proj Rows.normed
  canon_tiles x h
  all_goals (open_payloads; pointwise [zero_add]; blk_point [])

/-- The weight's copy at an index. -/
theorem out8_at (y : S1024x4096.Idx) : out0_A_8 (F := Ideal) c i arg1 w1 arg2 w2 arg3 w3 arg4 w4 arg5 w5 arg6 w6 arg7 w7 arg8 w8 arg9 w9 x0 x1 x2 y = x2 y := by
  have hc := cover0_A_8 (F := Ideal) c i arg1 w1 arg2 w2 arg3 w3 arg4 w4 arg5 w5 arg6 w6 arg7 w7 arg8 w8 arg9 w9 x0 x1 x2 y
  unfold kernelRun0_A at hc
  dsimp only at hc
  unfold out0_A_8
  rw [View.read_writes_junk_eq_canon]
  unfold kernelRun0_A
  dsimp only
  simp only [kernelRun0_A.sl.r, kernelRun0_A.sl.r_1, kernelRun0_A.sl.r_11, kernelRun0_A.sl.r_12, kernelRun0_A.sl.cst_277, View.readAt_eq_ld, w1.read_unread, w2.read_unread, w3.read_unread] at hc ⊢
  canon_tiles x h using hc
  all_goals (open_payloads; pointwise []; blk_point [])

end

variable (m : (ℓ : Loc nD τ sig) → Buf (Elt Ideal) ℓ)

/-- Every window's block index at the one grid point. -/
theorem idx_val : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0, 0, 0]
    ∧ win0_6.index t = ![0, 0, 0, 0]
    ∧ win0_7.index t = ![0, 0]
    ∧ win0_8.index t = ![0, 0] :=
  (by decide +kernel : ∀ t : Fin grid0.N, _)

/-- The reference's product over the kernel's arguments. -/
def D (c : Dev nD) : FVec Ideal ProjSampleRefIdeal.S8x32x4096 .f32 :=
  ProjSampleRefIdeal.Val.DOT (m ((c : Thread nD τ).loc main_arg0)) (m ((c : Thread nD τ).loc main_arg1)) (m ((c : Thread nD τ).loc main_arg2))

/-- A row of the product is the reference's product's row at the row's stream and place. -/
theorem row_eq (c : Dev nD) (t : Fin cfg0.N) (r : Fin 256) (f : Fin 4096) (b : Fin 8) (q : Fin 32) (h : (b : ℕ) * 32 + q = r) :
    row (iblk m c 0 t) (iblk m c 1 t) (iblk m c 2 t) r f = D m c (ix3 b q f) := by
  have q0 : ∀ k : Fin 1024, iblk m c 0 t (ix2 r k) = m ((c : Thread nD τ).loc main_arg0) (ix3 b q k) := fun k => by
    blk_point [iblk, V, idx_val t]
  have q1 : ∀ k : Fin 1024, iblk m c 1 t (ix2 0 k) = m ((c : Thread nD τ).loc main_arg1) (ix2 0 k) := fun k => by
    blk_point [iblk, V, idx_val t]
  have q2 : ∀ (k : Fin 1024) (f : Fin 4096), iblk m c 2 t (ix2 k f) = m ((c : Thread nD τ).loc main_arg2) (ix3 0 k f) := fun k f => by
    blk_point [iblk, V, idx_val t]
  unfold row D
  rw [ProjSampleRefIdeal.Val.DOT_at]
  simp only [q0, q1, q2]

/-- Result 0 of the grid point at an index. -/
theorem outs3_at (c : Dev nD) (t : Fin cfg0.N) (y : S256x512.Idx) (r : Fin 256) (f : Fin 4096) (hr : (r : ℕ) = y 0) (hf : (f : ℕ) = y 1) :
    (outsAt0 (F := Ideal) m c t).1 y = row (iblk m c 0 t) (iblk m c 1 t) (iblk m c 2 t) r f := by
  unfold outsAt0
  dsimp only
  have e := out3_at (iblk m c 0 t) (iblk m c 1 t) (iblk m c 2 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) y r f hr hf
  exact e

/-- Result 1 of the grid point at an index. -/
theorem outs4_at (c : Dev nD) (t : Fin cfg0.N) (y : S256x1536.Idx) (r : Fin 256) (f : Fin 4096) (hr : (r : ℕ) = y 0) (hf : (f : ℕ) = 512 + y 1) :
    (outsAt0 (F := Ideal) m c t).2.1 y = if (y 1 : ℕ) < 512
      then Ideal.div (row (iblk m c 0 t) (iblk m c 1 t) (iblk m c 2 t) r f * Ideal.ofBits .f32 0x3E000000#32) (Ideal.log (Ideal.ofBits .f32 0x40000000#32))
      else row (iblk m c 0 t) (iblk m c 1 t) (iblk m c 2 t) r f := by
  unfold outsAt0
  dsimp only
  have e := out4_at (iblk m c 0 t) (iblk m c 1 t) (iblk m c 2 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) y r f hr hf
  exact e

/-- Result 2 of the grid point at an index. -/
theorem outs5_at (c : Dev nD) (t : Fin cfg0.N) (y : S8x8x32x64.Idx) (r : Fin 256) (f : Fin 4096) (hr : (r : ℕ) = y 0 * 32 + y 2) (hf : (f : ℕ) = 1024 + y 1 * 64 + y 3) :
    (outsAt0 (F := Ideal) m c t).2.2.1 y = row (iblk m c 0 t) (iblk m c 1 t) (iblk m c 2 t) r f := by
  unfold outsAt0
  dsimp only
  have e := out5_at (iblk m c 0 t) (iblk m c 1 t) (iblk m c 2 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) y r f hr hf
  exact e

/-- Result 3 of the grid point at an index. -/
theorem outs6_at (c : Dev nD) (t : Fin cfg0.N) (y : S8x8x32x64.Idx) (r : Fin 256) (f : Fin 4096) (hr : (r : ℕ) = y 0 * 32 + y 2) (hf : (f : ℕ) = 1536 + y 1 * 64 + y 3) :
    (outsAt0 (F := Ideal) m c t).2.2.2.1 y = row (iblk m c 0 t) (iblk m c 1 t) (iblk m c 2 t) r f := by
  unfold outsAt0
  dsimp only
  have e := out6_at (iblk m c 0 t) (iblk m c 1 t) (iblk m c 2 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) y r f hr hf
  exact e

/-- Result 4 of the grid point at an index. -/
theorem outs7_at (c : Dev nD) (t : Fin cfg0.N) (y : S256x2048.Idx) (r : Fin 256) (f : Fin 4096) (hr : (r : ℕ) = y 0) (hf : (f : ℕ) = 2048 + y 1) :
    (outsAt0 (F := Ideal) m c t).2.2.2.2.1 y = row (iblk m c 0 t) (iblk m c 1 t) (iblk m c 2 t) r f := by
  unfold outsAt0
  dsimp only
  have e := out7_at (iblk m c 0 t) (iblk m c 1 t) (iblk m c 2 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) y r f hr hf
  exact e

/-- The last result of the grid point at an index. -/
theorem outs8_at (c : Dev nD) (t : Fin cfg0.N) (y : S1024x4096.Idx) : (outsAt0 (F := Ideal) m c t).2.2.2.2.2 y = iblk m c 2 t y := by
  unfold outsAt0
  dsimp only
  have e := out8_at (iblk m c 0 t) (iblk m c 1 t) (iblk m c 2 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) y
  exact e

/-- The pooled columns after the run are the reference's. -/
theorem final3 (c : Dev nD) : (dats m 0 c).arrAt 3 (cfgs 0).N = ProjSampleRefIdeal.Val.R27 (D m c) := by
  have key : ∀ (t : Fin cfg0.N) (y : S256x512.Idx) (i : S256x512.Idx), (i 0 : ℕ) = y 0 → (i 1 : ℕ) = y 1 →
      (outsAt0 (F := Ideal) m c t).1 y = ProjSampleRefIdeal.Val.R27 (D m c) i := by
    intro t y i h0 h1
    idx_vars i
    idx_vars y
    replace h0 : (i0 : ℕ) = y0 := h0
    replace h1 : (i1 : ℕ) = y1 := h1
    have a0 : (i0 : ℕ) < 256 := i0.isLt
    have b1 : (y1 : ℕ) < 512 := y1.isLt
    rw [outs3_at m c t _ y0 ⟨y1, by omega⟩ rfl rfl]
    rw [ProjSampleRefIdeal.Val.R27_at _ i0 i1 ⟨(i0 : ℕ) / 32, by omega⟩ ⟨(i0 : ℕ) % 32, by omega⟩ ⟨y1, by omega⟩ (by simp; omega) (by simp; omega)]
    exact row_eq m c t _ _ _ _ (by simp; omega)
  refine (dats m 0 c).arrAt_eq_of_covers 3 _ (by decide +kernel) fun t hf y => ?_
  blk_simp
  rw [after0_3]
  refine key t y _ ?_ ?_
  all_goals (blk_simp [idx_val t] <;> try omega)

/-- The scaled queries, the keys and the values after the run are the reference's. -/
theorem final4 (c : Dev nD) : (dats m 0 c).arrAt 4 (cfgs 0).N = ProjSampleRefIdeal.Val.R30 (D m c) := by
  have key : ∀ (t : Fin cfg0.N) (y : S256x1536.Idx) (i : S256x1536.Idx), (i 0 : ℕ) = y 0 → (i 1 : ℕ) = y 1 →
      (outsAt0 (F := Ideal) m c t).2.1 y = ProjSampleRefIdeal.Val.R30 (D m c) i := by
    intro t y i h0 h1
    idx_vars i
    idx_vars y
    replace h0 : (i0 : ℕ) = y0 := h0
    replace h1 : (i1 : ℕ) = y1 := h1
    have a0 : (i0 : ℕ) < 256 := i0.isLt
    have b1 : (y1 : ℕ) < 1536 := y1.isLt
    rw [outs4_at m c t _ y0 ⟨512 + (y1 : ℕ), by omega⟩ rfl rfl]
    rw [row_eq m c t y0 _ ⟨(i0 : ℕ) / 32, by omega⟩ ⟨(i0 : ℕ) % 32, by omega⟩ (by simp; omega)]
    by_cases hj : (y1 : ℕ) < 512
    · rw [if_pos (by exact hj)]
      exact (ProjSampleRefIdeal.Val.R30_q _ i0 i1 _ _ ⟨512 + (y1 : ℕ), by omega⟩ (by simp; omega) (by omega) (by simp; omega)).symm
    · rw [if_neg (by exact hj)]
      exact (ProjSampleRefIdeal.Val.R30_kv _ i0 i1 _ _ ⟨512 + (y1 : ℕ), by omega⟩ (by simp; omega) (by omega) (by simp; omega)).symm
  refine (dats m 0 c).arrAt_eq_of_covers 4 _ (by decide +kernel) fun t hf y => ?_
  blk_simp
  rw [after0_4]
  refine key t y _ ?_ ?_
  all_goals (blk_simp [idx_val t] <;> try omega)

/-- The keys after the run, head by head, are the reference's. -/
theorem final5 (c : Dev nD) : (dats m 0 c).arrAt 5 (cfgs 0).N = ProjSampleRefIdeal.Val.R32 (D m c) := by
  have key : ∀ (t : Fin cfg0.N) (y : S8x8x32x64.Idx) (i : S8x8x32x64.Idx), (i 0 : ℕ) = y 0 → (i 1 : ℕ) = y 1 → (i 2 : ℕ) = y 2 → (i 3 : ℕ) = y 3 →
      (outsAt0 (F := Ideal) m c t).2.2.1 y = ProjSampleRefIdeal.Val.R32 (D m c) i := by
    intro t y i h0 h1 h2 h3
    idx_vars i
    idx_vars y
    replace h0 : (i0 : ℕ) = y0 := h0
    replace h1 : (i1 : ℕ) = y1 := h1
    replace h2 : (i2 : ℕ) = y2 := h2
    replace h3 : (i3 : ℕ) = y3 := h3
    have a0 : (i0 : ℕ) < 8 := i0.isLt
    have a1 : (i1 : ℕ) < 8 := i1.isLt
    have a2 : (i2 : ℕ) < 32 := i2.isLt
    have a3 : (i3 : ℕ) < 64 := i3.isLt
    have hf : 1024 + (i1 : ℕ) * 64 + i3 = 1024 + (y1 : ℕ) * 64 + y3 := by omega
    have hr : (i0 : ℕ) * 32 + i2 = (y0 : ℕ) * 32 + y2 := by omega
    refine (outs5_at m c t (ix4 y0 y1 y2 y3) ⟨(i0 : ℕ) * 32 + i2, by omega⟩ ⟨1024 + (i1 : ℕ) * 64 + i3, by omega⟩ (by exact hr) (by exact hf)).trans ?_
    rw [ProjSampleRefIdeal.Val.R32_at _ i0 i1 i2 i3 ⟨1024 + (i1 : ℕ) * 64 + i3, by omega⟩ rfl]
    exact row_eq m c t _ _ _ _ rfl
  refine (dats m 0 c).arrAt_eq_of_covers 5 _ (by decide +kernel) fun t hf y => ?_
  blk_simp
  rw [after0_5]
  refine key t y _ ?_ ?_ ?_ ?_
  all_goals (blk_simp [idx_val t] <;> try omega)

/-- The values after the run, head by head, are the reference's. -/
theorem final6 (c : Dev nD) : (dats m 0 c).arrAt 6 (cfgs 0).N = ProjSampleRefIdeal.Val.R34 (D m c) := by
  have key : ∀ (t : Fin cfg0.N) (y : S8x8x32x64.Idx) (i : S8x8x32x64.Idx), (i 0 : ℕ) = y 0 → (i 1 : ℕ) = y 1 → (i 2 : ℕ) = y 2 → (i 3 : ℕ) = y 3 →
      (outsAt0 (F := Ideal) m c t).2.2.2.1 y = ProjSampleRefIdeal.Val.R34 (D m c) i := by
    intro t y i h0 h1 h2 h3
    idx_vars i
    idx_vars y
    replace h0 : (i0 : ℕ) = y0 := h0
    replace h1 : (i1 : ℕ) = y1 := h1
    replace h2 : (i2 : ℕ) = y2 := h2
    replace h3 : (i3 : ℕ) = y3 := h3
    have a0 : (i0 : ℕ) < 8 := i0.isLt
    have a1 : (i1 : ℕ) < 8 := i1.isLt
    have a2 : (i2 : ℕ) < 32 := i2.isLt
    have a3 : (i3 : ℕ) < 64 := i3.isLt
    have hf : 1536 + (i1 : ℕ) * 64 + i3 = 1536 + (y1 : ℕ) * 64 + y3 := by omega
    have hr : (i0 : ℕ) * 32 + i2 = (y0 : ℕ) * 32 + y2 := by omega
    refine (outs6_at m c t (ix4 y0 y1 y2 y3) ⟨(i0 : ℕ) * 32 + i2, by omega⟩ ⟨1536 + (i1 : ℕ) * 64 + i3, by omega⟩ (by exact hr) (by exact hf)).trans ?_
    rw [ProjSampleRefIdeal.Val.R34_at _ i0 i1 i2 i3 ⟨1536 + (i1 : ℕ) * 64 + i3, by omega⟩ rfl]
    exact row_eq m c t _ _ _ _ rfl
  refine (dats m 0 c).arrAt_eq_of_covers 6 _ (by decide +kernel) fun t hf y => ?_
  blk_simp
  rw [after0_6]
  refine key t y _ ?_ ?_ ?_ ?_
  all_goals (blk_simp [idx_val t] <;> try omega)

/-- The gates after the run are the reference's. -/
theorem final7 (c : Dev nD) : (dats m 0 c).arrAt 7 (cfgs 0).N = ProjSampleRefIdeal.Val.R37 (D m c) := by
  have key : ∀ (t : Fin cfg0.N) (y : S256x2048.Idx) (i : S256x2048.Idx), (i 0 : ℕ) = y 0 → (i 1 : ℕ) = y 1 →
      (outsAt0 (F := Ideal) m c t).2.2.2.2.1 y = ProjSampleRefIdeal.Val.R37 (D m c) i := by
    intro t y i h0 h1
    idx_vars i
    idx_vars y
    replace h0 : (i0 : ℕ) = y0 := h0
    replace h1 : (i1 : ℕ) = y1 := h1
    have a0 : (i0 : ℕ) < 256 := i0.isLt
    have b1 : (y1 : ℕ) < 2048 := y1.isLt
    rw [outs7_at m c t _ y0 ⟨2048 + (y1 : ℕ), by omega⟩ rfl rfl]
    rw [ProjSampleRefIdeal.Val.R37_at _ i0 i1 ⟨(i0 : ℕ) / 32, by omega⟩ ⟨(i0 : ℕ) % 32, by omega⟩ ⟨2048 + (y1 : ℕ), by omega⟩ (by simp; omega) (by simp; omega)]
    exact row_eq m c t _ _ _ _ (by simp; omega)
  refine (dats m 0 c).arrAt_eq_of_covers 7 _ (by decide +kernel) fun t hf y => ?_
  blk_simp
  rw [after0_7]
  refine key t y _ ?_ ?_
  all_goals (blk_simp [idx_val t] <;> try omega)

/-- The weight's copy after the run is the reference's. -/
theorem final8 (c : Dev nD) : (dats m 0 c).arrAt 8 (cfgs 0).N = ProjSampleRefIdeal.Val.R39 (m ((c : Thread nD τ).loc main_arg2)) := by
  have key : ∀ (t : Fin cfg0.N) (y : S1024x4096.Idx) (i : S1024x4096.Idx), (i 0 : ℕ) = y 0 → (i 1 : ℕ) = y 1 →
      (outsAt0 (F := Ideal) m c t).2.2.2.2.2 y = ProjSampleRefIdeal.Val.R39 (m ((c : Thread nD τ).loc main_arg2)) i := by
    intro t y i h0 h1
    idx_vars i
    idx_vars y
    replace h0 : (i0 : ℕ) = y0 := h0
    replace h1 : (i1 : ℕ) = y1 := h1
    rw [outs8_at, ProjSampleRefIdeal.Val.R39_at]
    obtain rfl : i0 = y0 := Fin.ext h0
    obtain rfl : i1 = y1 := Fin.ext h1
    blk_point [iblk, V, idx_val t]
  refine (dats m 0 c).arrAt_eq_of_covers 8 _ (by decide +kernel) fun t hf y => ?_
  blk_simp
  rw [after0_8]
  refine key t y _ ?_ ?_
  all_goals (blk_simp [idx_val t] <;> try omega)

end Cert.ProjSampleIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.FfnIdeal.Value
public import proofs.«01_k».proof.Proof.Gen.ProjIdeal.Value
public import proofs.«01_k».proof.Proof.Gen.FfnRefIdeal.Run
public import proofs.«01_k».proof.Proof.Gen.ProjRefIdeal.Run
public import proofs.«01_k».proof.Proof.Gen.ReferenceIdeal.Run
public import proofs.«01_k».proof.Proof.Gen.FfnInner
public import proofs.«01_k».proof.Proof.Gen.FfnInner.Skeleton
public import proofs.«01_k».proof.Proof.Gen.FfnInner.Launch
public import proofs.«01_k».proof.Proof.Gen.FfnInner.Points
public import proofs.«01_k».proof.Proof.Gen.FfnInner.Frame
public import proofs.«01_k».proof.Proof.Gen.FfnInnerIdeal
public import proofs.«01_k».proof.Proof.Gen.FfnInnerIdeal.Skeleton
public import proofs.«01_k».proof.Proof.Gen.FfnInnerIdeal.Launch
public import proofs.«01_k».proof.Proof.Gen.FfnInnerIdeal.Points
public import proofs.«01_k».proof.Proof.Gen.FfnInnerIdeal.Frame
public import proofs.«01_k».proof.Proof.Gen.FfnInnerIdeal.Value
public import proofs.«01_k».proof.Proof.Gen.FfnInnerRefIdeal
public import proofs.«01_k».proof.Proof.Gen.FfnInnerRefIdeal.Run
public import proofs.«01_k».proof.Proof.Gen.ProjSample
public import proofs.«01_k».proof.Proof.Gen.ProjSample.Skeleton
public import proofs.«01_k».proof.Proof.Gen.ProjSample.Launch
public import proofs.«01_k».proof.Proof.Gen.ProjSample.Points
public import proofs.«01_k».proof.Proof.Gen.ProjSample.Frame
public import proofs.«01_k».proof.Proof.Gen.ProjSampleIdeal
public import proofs.«01_k».proof.Proof.Gen.ProjSampleIdeal.Skeleton
public import proofs.«01_k».proof.Proof.Gen.ProjSampleIdeal.Launch
public import proofs.«01_k».proof.Proof.Gen.ProjSampleIdeal.Points
public import proofs.«01_k».proof.Proof.Gen.ProjSampleIdeal.Frame
public import proofs.«01_k».proof.Proof.Gen.ProjSampleIdeal.Value
public import proofs.«01_k».proof.Proof.Gen.ProjSampleRefIdeal
public import proofs.«01_k».proof.Proof.Gen.ProjSampleRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeSample
public import proofs.«01_k».proof.Proof.Gen.MergeSample.Skeleton
public import proofs.«01_k».proof.Proof.Gen.MergeSample.Launch
public import proofs.«01_k».proof.Proof.Gen.MergeSample.Points
public import proofs.«01_k».proof.Proof.Gen.MergeSample.Frame
public import proofs.«01_k».proof.Proof.Gen.MergeSampleIdeal
public import proofs.«01_k».proof.Proof.Gen.MergeSampleIdeal.Skeleton
public import proofs.«01_k».proof.Proof.Gen.MergeSampleIdeal.Launch
public import proofs.«01_k».proof.Proof.Gen.MergeSampleIdeal.Points
public import proofs.«01_k».proof.Proof.Gen.MergeSampleIdeal.Frame
public import proofs.«01_k».proof.Proof.Gen.MergeSampleIdeal.Value
public import proofs.«01_k».proof.Proof.Gen.MergeSampleRefIdeal
public import proofs.«01_k».proof.Proof.Gen.MergeSampleRefIdeal.Run
public import proofs.«01_k».proof.Proof.Gen.FfnSample
public import proofs.«01_k».proof.Proof.Gen.FfnSample.Skeleton
public import proofs.«01_k».proof.Proof.Gen.FfnSample.Launch
public import proofs.«01_k».proof.Proof.Gen.FfnSample.Points
public import proofs.«01_k».proof.Proof.Gen.FfnSample.Frame
public import proofs.«01_k».proof.Proof.Gen.FfnSampleIdeal
public import proofs.«01_k».proof.Proof.Gen.FfnSampleIdeal.Skeleton
public import proofs.«01_k».proof.Proof.Gen.FfnSampleIdeal.Launch
public import proofs.«01_k».proof.Proof.Gen.FfnSampleIdeal.Points
public import proofs.«01_k».proof.Proof.Gen.FfnSampleIdeal.Frame
public import proofs.«01_k».proof.Proof.Gen.FfnSampleRefIdeal
public import proofs.«01_k».proof.Proof.Gen.FfnSampleRefIdeal.Run
public import proofs.«01_k».proof.Proof.Gen.FfnInnerSample
public import proofs.«01_k».proof.Proof.Gen.FfnInnerSample.Skeleton
public import proofs.«01_k».proof.Proof.Gen.FfnInnerSample.Launch
public import proofs.«01_k».proof.Proof.Gen.FfnInnerSample.Points
public import proofs.«01_k».proof.Proof.Gen.FfnInnerSample.Frame
public import proofs.«01_k».proof.Proof.Gen.FfnInnerSampleIdeal
public import proofs.«01_k».proof.Proof.Gen.FfnInnerSampleIdeal.Skeleton
public import proofs.«01_k».proof.Proof.Gen.FfnInnerSampleIdeal.Launch
public import proofs.«01_k».proof.Proof.Gen.FfnInnerSampleIdeal.Points
public import proofs.«01_k».proof.Proof.Gen.FfnInnerSampleIdeal.Frame
public import proofs.«01_k».proof.Proof.Gen.FfnInnerSampleRefIdeal
public import proofs.«01_k».proof.Proof.Gen.FfnInnerSampleRefIdeal.Run
public import proofs.«01_k».proof.Proof.Attn.Run
public import proofs.«01_k».proof.Proof.Attn.Value
public import proofs.«01_k».proof.Proof.AttnBits.Run
public import proofs.«01_k».proof.Proof.Ffn.Value
public import proofs.«01_k».proof.Proof.Ffn.Inner
public import proofs.«01_k».proof.Proof.Merge.Value
public import proofs.«01_k».proof.Proof.MergeSample.Value
public import proofs.«01_k».proof.Proof.FfnSample.Run
public import proofs.«01_k».proof.Proof.FfnSample.Value
public import proofs.«01_k».proof.Proof.FfnSample.Bits
public import proofs.«01_k».proof.Proof.FfnInnerSample.Run
public import proofs.«01_k».proof.Proof.FfnInnerSample.Value
public import proofs.«01_k».proof.Proof.FfnInnerSample.Bits
public import proofs.«01_k».proof.Proof.Proj.Value
public import proofs.«01_k».proof.Proof.ProjSample.Value
public import Idealize.ShloMosaic.Adequacy
public import Idealize.ShloMosaic.Init

@[expose] public section

noncomputable section

namespace Cert.Proof

open Idealize.ShloMosaic Idealize.SL.Sem

/-- The attention's reference runs to its end and leaves no signal outstanding. -/
theorem frame_reference : Cert.quiescent_ReferenceIdeal := fun m ρ _ =>
  (θ_run Cert.ReferenceIdeal.defs _ _).mono (fun r h => ⟨fun c => (h c).2,
    Idealize.ShloMosaic.sem_eq_zero_of_no_sems (by decide) r.2⟩) (Cert.ReferenceIdeal.Value.run (F := Ideal) m ρ)

/-- The feed-forward reference runs to its end and leaves no signal outstanding. -/
theorem frame_ffn_reference : Cert.quiescent_FfnRefIdeal := fun m ρ _ =>
  (θ_run Cert.FfnRefIdeal.defs _ _).mono (fun r h => ⟨fun c => (h c).2,
    Idealize.ShloMosaic.sem_eq_zero_of_no_sems (by decide) r.2⟩) (Cert.FfnRefIdeal.Value.run (F := Ideal) m ρ)

/-- The reference of the feed-forward call without a last norm runs to its end and leaves no signal outstanding. -/
theorem frame_ffn_inner_reference : Cert.quiescent_FfnInnerRefIdeal := fun m ρ _ =>
  (θ_run Cert.FfnInnerRefIdeal.defs _ _).mono (fun r h => ⟨fun c => (h c).2,
    Idealize.ShloMosaic.sem_eq_zero_of_no_sems (by decide) r.2⟩) (Cert.FfnInnerRefIdeal.Value.run (F := Ideal) m ρ)

/-- The projection's reference runs to its end and leaves no signal outstanding. -/
theorem frame_proj_reference : Cert.quiescent_ProjRefIdeal := fun m ρ _ =>
  (θ_run Cert.ProjRefIdeal.defs _ _).mono (fun r h => ⟨fun c => (h c).2.2.2.2.2,
    Idealize.ShloMosaic.sem_eq_zero_of_no_sems (by decide) r.2⟩) (Cert.ProjRefIdeal.Value.run (F := Ideal) m ρ)

/-- The reference of the sample batch's projection runs to its end and leaves no signal outstanding. -/
theorem frame_proj_sample_reference : Cert.quiescent_ProjSampleRefIdeal := fun m ρ _ =>
  (θ_run Cert.ProjSampleRefIdeal.defs _ _).mono (fun r h => ⟨fun c => (h c).2.2.2.2.2.2,
    Idealize.ShloMosaic.sem_eq_zero_of_no_sems (by decide) r.2⟩) (Cert.ProjSampleRefIdeal.Value.run (F := Ideal) m ρ)

/-- The merge's reference runs to its end and leaves no signal outstanding. -/
theorem frame_merge_reference : Cert.quiescent_MergeRefIdeal := fun m ρ _ =>
  (θ_run Cert.MergeRefIdeal.defs _ _).mono (fun r h => ⟨fun c => (h c).2,
    Idealize.ShloMosaic.sem_eq_zero_of_no_sems (by decide) r.2⟩) (Cert.MergeRefIdeal.Value.run (F := Ideal) m ρ)

/-- The reference of the sample batch's merge runs to its end and leaves no signal outstanding. -/
theorem frame_merge_sample_reference : Cert.quiescent_MergeSampleRefIdeal := fun m ρ _ =>
  (θ_run Cert.MergeSampleRefIdeal.defs _ _).mono (fun r h => ⟨fun c => (h c).2.2.2.2.2,
    Idealize.ShloMosaic.sem_eq_zero_of_no_sems (by decide) r.2⟩) (Cert.MergeSampleRefIdeal.Value.run (F := Ideal) m ρ)

/-- The reference of the sample batch's feed-forward runs to its end and leaves no signal outstanding. -/
theorem frame_ffn_sample_reference : Cert.quiescent_FfnSampleRefIdeal := fun m ρ _ =>
  (θ_run Cert.FfnSampleRefIdeal.defs _ _).mono (fun r h => ⟨fun c => (h c).2.2.2.2,
    Idealize.ShloMosaic.sem_eq_zero_of_no_sems (by decide) r.2⟩) (Cert.FfnSampleRefIdeal.Value.run (F := Ideal) m ρ)

/-- The reference of the sample batch's feed-forward without a last norm runs to its end and leaves no signal outstanding. -/
theorem frame_ffn_inner_sample_reference : Cert.quiescent_FfnInnerSampleRefIdeal := fun m ρ _ =>
  (θ_run Cert.FfnInnerSampleRefIdeal.defs _ _).mono (fun r h => ⟨fun c => (h c).2.2.2.2,
    Idealize.ShloMosaic.sem_eq_zero_of_no_sems (by decide) r.2⟩) (Cert.FfnInnerSampleRefIdeal.Value.run (F := Ideal) m ρ)

/-- The precondition's only broadcast repeats one number. -/
theorem facts_pooled : Cert.Pre_pooled_finite.Facts := ⟨by decide⟩

/-- The shapes the sample batch's precondition joins and repeats fit. -/
theorem facts_pooled_sample : Cert.Pre_pooled_finite_sample.Facts := ⟨by decide, by decide, by decide⟩

/-- The three constants the idealized attention names have the values its table gives them. -/
theorem preserves_kernel : Cert.preserves_Kernel_KernelIdeal := by
  refine ⟨?_, ?_, ?_⟩ <;> exact IdealRules.named_const.statement _ _ _ _ _ rfl

/-- The scale the idealized projection names has the value its table gives it. -/
theorem preserves_proj : Cert.preserves_Proj_ProjIdeal :=
  IdealRules.named_const.statement _ _ _ _ _ rfl

/-- The scale the idealized projection of the sample batch names has the value its table gives it. -/
theorem preserves_proj_sample : Cert.preserves_ProjSample_ProjSampleIdeal :=
  IdealRules.named_const.statement _ _ _ _ _ rfl

/-- On equal arguments the idealized attention kernel and its reference end with equal results. -/
theorem algebraic_kernel : Cert.algebraic_KernelIdeal_ReferenceIdeal := by
  pair_intro
  · run_from Cert.KernelIdeal.Attn.run_values m g
  · run_from Cert.ReferenceIdeal.Value.run m' g'
    obtain ⟨h0, h1, h2, h3, h4⟩ := hagree c
    rw [Cert.ReferenceIdeal.Val.res_eq, h0, h1, h2, h3, h4]
    exact (Cert.KernelIdeal.Attn.final m c).symm

/-- On equal arguments the idealized feed-forward kernel and its reference end with equal results. -/
theorem algebraic_ffn : Cert.algebraic_FfnIdeal_FfnRefIdeal := by
  pair_intro
  · run_from Cert.FfnIdeal.Value.run_blocks m g
  · run_from Cert.FfnRefIdeal.Value.run m' g'
    obtain ⟨h0, h1, h2, h3, h4, h5⟩ := hagree c
    rw [Cert.FfnRefIdeal.Val.res_eq, h0, h1, h2, h3, h4, h5]
    exact (Cert.FfnIdeal.Val.final m c).symm

/-- On equal arguments the idealized feed-forward kernel without a last norm and its reference end with equal results. -/
theorem algebraic_ffn_inner : Cert.algebraic_FfnInnerIdeal_FfnInnerRefIdeal := by
  pair_intro
  · run_from Cert.FfnInnerIdeal.Value.run_blocks m g
  · run_from Cert.FfnInnerRefIdeal.Value.run m' g'
    exact (Cert.FfnInnerIdeal.Val.final m c).symm

/-- On equal arguments the idealized projection and its reference end with equal results, all five. -/
theorem algebraic_proj : Cert.algebraic_ProjIdeal_ProjRefIdeal := by
  pair_intro
  · run_from Cert.ProjIdeal.Value.run_blocks m g
  · have hD : ∀ c : Dev Cert.ProjIdeal.nD, Cert.ProjRefIdeal.Val.DOT (m ((c.tc : Thread Cert.ProjIdeal.nD Cert.ProjIdeal.τ).loc Cert.ProjIdeal.main_arg0))
        (m ((c.tc : Thread Cert.ProjIdeal.nD Cert.ProjIdeal.τ).loc Cert.ProjIdeal.main_arg1))
        (m' ((c.tc : Thread Cert.ProjRefIdeal.nD Cert.ProjRefIdeal.τ).loc Cert.ProjRefIdeal.main_arg2)) = Cert.ProjIdeal.Val.D m c := fun c => by
      rw [(hagree c).2.2]
      rfl
    run_from Cert.ProjRefIdeal.Value.run m' g'
    · exact (Cert.ProjIdeal.Val.final3 m c).symm
    · exact (congrArg Cert.ProjRefIdeal.Val.R30 (hD c)).trans (Cert.ProjIdeal.Val.final4 m c).symm
    · exact (Cert.ProjIdeal.Val.final5 m c).symm
    · exact (Cert.ProjIdeal.Val.final6 m c).symm
    · exact (congrArg Cert.ProjRefIdeal.Val.R37 (hD c)).trans (Cert.ProjIdeal.Val.final7 m c).symm

/-- On equal arguments the idealized projection of the sample batch and its reference end with equal results, all six. -/
theorem algebraic_proj_sample : Cert.algebraic_ProjSampleIdeal_ProjSampleRefIdeal := by
  pair_intro
  · run_from Cert.ProjSampleIdeal.Value.run_blocks m g
  · have hD : ∀ c : Dev Cert.ProjSampleIdeal.nD, Cert.ProjSampleRefIdeal.Val.DOT (m ((c.tc : Thread Cert.ProjSampleIdeal.nD Cert.ProjSampleIdeal.τ).loc Cert.ProjSampleIdeal.main_arg0))
        (m ((c.tc : Thread Cert.ProjSampleIdeal.nD Cert.ProjSampleIdeal.τ).loc Cert.ProjSampleIdeal.main_arg1))
        (m' ((c.tc : Thread Cert.ProjSampleRefIdeal.nD Cert.ProjSampleRefIdeal.τ).loc Cert.ProjSampleRefIdeal.main_arg2)) = Cert.ProjSampleIdeal.Val.D m c := fun c => by
      rw [(hagree c).2.2]
      rfl
    run_from Cert.ProjSampleRefIdeal.Value.run m' g'
    · exact (Cert.ProjSampleIdeal.Val.final3 m c).symm
    · exact (congrArg Cert.ProjSampleRefIdeal.Val.R30 (hD c)).trans (Cert.ProjSampleIdeal.Val.final4 m c).symm
    · exact (Cert.ProjSampleIdeal.Val.final5 m c).symm
    · exact (Cert.ProjSampleIdeal.Val.final6 m c).symm
    · exact (congrArg Cert.ProjSampleRefIdeal.Val.R37 (hD c)).trans (Cert.ProjSampleIdeal.Val.final7 m c).symm
    · exact (Cert.ProjSampleIdeal.Val.final8 m c).symm

/-- On equal arguments whose pooled columns are finite the idealized merge and its reference end with equal results. -/
theorem algebraic_merge : Cert.algebraic_MergeIdeal_MergeRefIdeal_pre_pooled_finite (hPre_pooled_finite := facts_pooled) := by
  pair_intro
  · run_from Cert.MergeIdeal.Value.run_blocks m g
  · run_from Cert.MergeRefIdeal.Value.run m' g'
    obtain ⟨h0, h1, h2, h3, h4, h5, h6, h7, h8, h9⟩ := hagree c
    rw [Cert.MergeRefIdeal.Val.res_eq, h0, h1, h2, h3, h4, h5, h6, h7, h8, h9]
    exact (Cert.MergeIdeal.Val.final m c fun b k n => @Cert.MergeIdeal.Val.finite facts_pooled _ _ _ _ _ _ _ _ _ _ (hpre c) b k n).symm

/-- On equal arguments whose kept rows and pooled columns are finite the idealized merge of the sample batch and its reference end with equal
    results, all five. -/
theorem algebraic_merge_sample :
    Cert.algebraic_MergeSampleIdeal_MergeSampleRefIdeal_pre_pooled_finite_sample (hPre_pooled_finite_sample := facts_pooled_sample) := by
  pair_intro
  · run_from Cert.MergeSampleIdeal.Value.run_blocks m g
  · run_from Cert.MergeSampleRefIdeal.Value.run m' g'
    · obtain ⟨h0, h1, h2, h3, h4, h5, h6, h7, h8, h9, h10⟩ := hagree c
      rw [Cert.MergeSampleRefIdeal.Val.res_eq, h0, h1, h2, h3, h4, h5, h6, h7, h8, h9, h10]
      exact (Cert.MergeSampleIdeal.Val.final10 m c fun b k n => @Cert.MergeSampleIdeal.Val.finite facts_pooled_sample _ _ _ _ _ _ _ _ _ _ _ (hpre c) b k n).symm
    · exact (Cert.MergeSampleIdeal.Val.final11 m c).symm
    · exact (Cert.MergeSampleIdeal.Val.final12 m c).symm
    · exact (Cert.MergeSampleIdeal.Val.final13 m c).symm
    · exact (Cert.MergeSampleIdeal.Val.final14 m c).symm

/-- On equal arguments the idealized feed-forward of the sample batch and its reference end with equal results, all four. -/
theorem algebraic_ffn_sample : Cert.algebraic_FfnSampleIdeal_FfnSampleRefIdeal := by
  pair_intro
  · run_from Cert.FfnSampleIdeal.Step.run_values m g
  · run_from Cert.FfnSampleRefIdeal.Value.run m' g'
    · obtain ⟨h0, h1, h2, h3, h4, h5⟩ := hagree c
      rw [Cert.FfnSampleRefIdeal.Val.res_eq, h0, h1, h2, h3, h4, h5]
      exact (Cert.FfnSampleIdeal.Val.final m c).symm
    · exact (Cert.FfnSampleIdeal.Val.final1 m c).symm
    · exact (Cert.FfnSampleIdeal.Val.final2 m c).symm
    · exact (Cert.FfnSampleIdeal.Val.final3 m c).symm

/-- On equal arguments the idealized feed-forward of the sample batch without a last norm and its reference end with equal results, all four. -/
theorem algebraic_ffn_inner_sample : Cert.algebraic_FfnInnerSampleIdeal_FfnInnerSampleRefIdeal := by
  pair_intro
  · run_from Cert.FfnInnerSampleIdeal.Step.run_values m g
  · run_from Cert.FfnInnerSampleRefIdeal.Value.run m' g'
    · exact (Cert.FfnInnerSampleIdeal.Val.final m c).symm
    · exact (Cert.FfnInnerSampleIdeal.Val.final1 m c).symm
    · exact (Cert.FfnInnerSampleIdeal.Val.final2 m c).symm
    · exact (Cert.FfnInnerSampleIdeal.Val.final3 m c).symm

theorem claim : Cert.Claim :=
  ⟨Cert.Kernel.Gen.facts, Cert.KernelIdeal.Gen.facts, Cert.ReferenceIdeal.Gen.facts, Cert.Ffn.Gen.facts,
    Cert.FfnIdeal.Gen.facts, Cert.FfnRefIdeal.Gen.facts, Cert.FfnInner.Gen.facts, Cert.FfnInnerIdeal.Gen.facts,
    Cert.FfnInnerRefIdeal.Gen.facts, Cert.Proj.Gen.facts, Cert.ProjIdeal.Gen.facts,
    Cert.ProjRefIdeal.Gen.facts, Cert.ProjSample.Gen.facts, Cert.ProjSampleIdeal.Gen.facts, Cert.ProjSampleRefIdeal.Gen.facts,
    Cert.Merge.Gen.facts, Cert.MergeIdeal.Gen.facts, Cert.MergeRefIdeal.Gen.facts,
    Cert.MergeSample.Gen.facts, Cert.MergeSampleIdeal.Gen.facts, Cert.MergeSampleRefIdeal.Gen.facts,
    Cert.FfnSample.Gen.facts, Cert.FfnSampleIdeal.Gen.facts, Cert.FfnSampleRefIdeal.Gen.facts,
    Cert.FfnInnerSample.Gen.facts, Cert.FfnInnerSampleIdeal.Gen.facts, Cert.FfnInnerSampleRefIdeal.Gen.facts, facts_pooled, facts_pooled_sample,
    fun m ρ _ => Cert.Kernel.Attn.frame m ρ, fun m ρ _ => Cert.KernelIdeal.Attn.frame m ρ, frame_reference,
    fun m ρ _ => Cert.Ffn.Gen.frame m ρ, fun m ρ _ => Cert.FfnIdeal.Gen.frame m ρ, frame_ffn_reference,
    fun m ρ _ => Cert.FfnInner.Gen.frame m ρ, fun m ρ _ => Cert.FfnInnerIdeal.Gen.frame m ρ, frame_ffn_inner_reference,
    fun m ρ _ => Cert.Proj.Gen.frame m ρ, fun m ρ _ => Cert.ProjIdeal.Gen.frame m ρ, frame_proj_reference,
    fun m ρ _ => Cert.ProjSample.Gen.frame m ρ, fun m ρ _ => Cert.ProjSampleIdeal.Gen.frame m ρ, frame_proj_sample_reference,
    fun m ρ _ => Cert.Merge.Gen.frame m ρ, fun m ρ _ => Cert.MergeIdeal.Gen.frame m ρ, fun m ρ _ => Cert.MergeIdeal.Gen.frame m ρ,
    frame_merge_reference, fun m ρ _ => frame_merge_reference m ρ trivial,
    fun m ρ _ => Cert.MergeSample.Gen.frame m ρ, fun m ρ _ => Cert.MergeSampleIdeal.Gen.frame m ρ, fun m ρ _ => Cert.MergeSampleIdeal.Gen.frame m ρ,
    frame_merge_sample_reference, fun m ρ _ => frame_merge_sample_reference m ρ trivial,
    fun m ρ _ => Cert.FfnSample.Step.frame m ρ, fun m ρ _ => Cert.FfnSampleIdeal.Step.frame m ρ, frame_ffn_sample_reference,
    fun m ρ _ => Cert.FfnInnerSample.Step.frame m ρ, fun m ρ _ => Cert.FfnInnerSampleIdeal.Step.frame m ρ, frame_ffn_inner_sample_reference,
    preserves_kernel, algebraic_kernel, trivial, algebraic_ffn, trivial, algebraic_ffn_inner,
    preserves_proj, algebraic_proj, preserves_proj_sample, algebraic_proj_sample, trivial, algebraic_merge, trivial, algebraic_merge_sample,
    trivial, algebraic_ffn_sample, trivial, algebraic_ffn_inner_sample⟩

end Cert.Proof

end
